-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Wide (m : (ℓ : Loc Cert.Wide.nD Cert.Wide.τ Cert.Wide.sig) → Buf (Elt Bits) ℓ) : Prop :=
  True

def Pre_WideIdeal (m : (ℓ : Loc Cert.WideIdeal.nD Cert.WideIdeal.τ Cert.WideIdeal.sig) → Buf (Elt Ideal) ℓ) : Prop :=
  True

def Pre_WideReferenceIdeal (m : (ℓ : Loc Cert.WideReferenceIdeal.nD Cert.WideReferenceIdeal.τ Cert.WideReferenceIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Both (m : (ℓ : Loc Cert.Both.nD Cert.Both.τ Cert.Both.sig) → Buf (Elt Bits) ℓ) : Prop :=
  True

def Pre_BothIdeal (m : (ℓ : Loc Cert.BothIdeal.nD Cert.BothIdeal.τ Cert.BothIdeal.sig) → Buf (Elt Ideal) ℓ) : Prop :=
  True

def Pre_BothReferenceIdeal (m : (ℓ : Loc Cert.BothReferenceIdeal.nD Cert.BothReferenceIdeal.τ Cert.BothReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectBack (m : (ℓ : Loc Cert.ProjectBack.nD Cert.ProjectBack.τ Cert.ProjectBack.sig) → Buf (Elt Bits) ℓ) : Prop :=
  True

def Pre_ProjectBackIdeal (m : (ℓ : Loc Cert.ProjectBackIdeal.nD Cert.ProjectBackIdeal.τ Cert.ProjectBackIdeal.sig) → Buf (Elt Ideal) ℓ) : Prop :=
  True

def Pre_ProjectBackReferenceIdeal (m : (ℓ : Loc Cert.ProjectBackReferenceIdeal.nD Cert.ProjectBackReferenceIdeal.τ Cert.ProjectBackReferenceIdeal.sig) → Buf (Elt Ideal) ℓ) : Prop :=
  True

def Pre_ProjectGrad (m : (ℓ : Loc Cert.ProjectGrad.nD Cert.ProjectGrad.τ Cert.ProjectGrad.sig) → Buf (Elt Bits) ℓ) : Prop :=
  True

def Pre_ProjectGradIdeal (m : (ℓ : Loc Cert.ProjectGradIdeal.nD Cert.ProjectGradIdeal.τ Cert.ProjectGradIdeal.sig) → Buf (Elt Ideal) ℓ) : Prop :=
  True

def Pre_ProjectGradReferenceIdeal (m : (ℓ : Loc Cert.ProjectGradReferenceIdeal.nD Cert.ProjectGradReferenceIdeal.τ Cert.ProjectGradReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_MixBack (m : (ℓ : Loc Cert.MixBack.nD Cert.MixBack.τ Cert.MixBack.sig) → Buf (Elt Bits) ℓ) : Prop :=
  True

def Pre_MixBackIdeal (m : (ℓ : Loc Cert.MixBackIdeal.nD Cert.MixBackIdeal.τ Cert.MixBackIdeal.sig) → Buf (Elt Ideal) ℓ) : Prop :=
  True

def Pre_MixBackReferenceIdeal (m : (ℓ : Loc Cert.MixBackReferenceIdeal.nD Cert.MixBackReferenceIdeal.τ Cert.MixBackReferenceIdeal.sig) → Buf (Elt Ideal) ℓ) : Prop :=
  True

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixGradReferenceIdeal (m : (ℓ : Loc Cert.MixGradReferenceIdeal.nD Cert.MixGradReferenceIdeal.τ Cert.MixGradReferenceIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def Pre_SharedBack (m : (ℓ : Loc Cert.SharedBack.nD Cert.SharedBack.τ Cert.SharedBack.sig) → Buf (Elt Bits) ℓ) : Prop :=
  True

def Pre_SharedBackIdeal (m : (ℓ : Loc Cert.SharedBackIdeal.nD Cert.SharedBackIdeal.τ Cert.SharedBackIdeal.sig) → Buf (Elt Ideal) ℓ) : Prop :=
  True

def Pre_SharedBackReferenceIdeal (m : (ℓ : Loc Cert.SharedBackReferenceIdeal.nD Cert.SharedBackReferenceIdeal.τ Cert.SharedBackReferenceIdeal.sig) → Buf (Elt Ideal) ℓ) : Prop :=
  True

def Pre_SharedGrad (m : (ℓ : Loc Cert.SharedGrad.nD Cert.SharedGrad.τ Cert.SharedGrad.sig) → Buf (Elt Bits) ℓ) : Prop :=
  True

def Pre_SharedGradIdeal (m : (ℓ : Loc Cert.SharedGradIdeal.nD Cert.SharedGradIdeal.τ Cert.SharedGradIdeal.sig) → Buf (Elt Ideal) ℓ) : Prop :=
  True

def Pre_SharedGradReferenceIdeal (m : (ℓ : Loc Cert.SharedGradReferenceIdeal.nD Cert.SharedGradReferenceIdeal.τ Cert.SharedGradReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_QueryBack (m : (ℓ : Loc Cert.QueryBack.nD Cert.QueryBack.τ Cert.QueryBack.sig) → Buf (Elt Bits) ℓ) : Prop :=
  True

def Pre_QueryBackIdeal (m : (ℓ : Loc Cert.QueryBackIdeal.nD Cert.QueryBackIdeal.τ Cert.QueryBackIdeal.sig) → Buf (Elt Ideal) ℓ) : Prop :=
  True

def Pre_QueryBackReferenceIdeal (m : (ℓ : Loc Cert.QueryBackReferenceIdeal.nD Cert.QueryBackReferenceIdeal.τ Cert.QueryBackReferenceIdeal.sig) → Buf (Elt Ideal) ℓ) : Prop :=
  True

def Pre_QueryGrad (m : (ℓ : Loc Cert.QueryGrad.nD Cert.QueryGrad.τ Cert.QueryGrad.sig) → Buf (Elt Bits) ℓ) : Prop :=
  True

def Pre_QueryGradIdeal (m : (ℓ : Loc Cert.QueryGradIdeal.nD Cert.QueryGradIdeal.τ Cert.QueryGradIdeal.sig) → Buf (Elt Ideal) ℓ) : Prop :=
  True

def Pre_QueryGradReferenceIdeal (m : (ℓ : Loc Cert.QueryGradReferenceIdeal.nD Cert.QueryGradReferenceIdeal.τ Cert.QueryGradReferenceIdeal.sig) → Buf (Elt Ideal) ℓ) : Prop :=
  True

def Pre_Sticks (m : (ℓ : Loc Cert.Sticks.nD Cert.Sticks.τ Cert.Sticks.sig) → Buf (Elt Bits) ℓ) : Prop :=
  True

def Pre_SticksIdeal (m : (ℓ : Loc Cert.SticksIdeal.nD Cert.SticksIdeal.τ Cert.SticksIdeal.sig) → Buf (Elt Ideal) ℓ) : Prop :=
  True

def Pre_SticksReferenceIdeal (m : (ℓ : Loc Cert.SticksReferenceIdeal.nD Cert.SticksReferenceIdeal.τ Cert.SticksReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_MemoryBack (m : (ℓ : Loc Cert.MemoryBack.nD Cert.MemoryBack.τ Cert.MemoryBack.sig) → Buf (Elt Bits) ℓ) : Prop :=
  True

def Pre_MemoryBackIdeal (m : (ℓ : Loc Cert.MemoryBackIdeal.nD Cert.MemoryBackIdeal.τ Cert.MemoryBackIdeal.sig) → Buf (Elt Ideal) ℓ) : Prop :=
  True

def Pre_MemoryBackReferenceIdeal (m : (ℓ : Loc Cert.MemoryBackReferenceIdeal.nD Cert.MemoryBackReferenceIdeal.τ Cert.MemoryBackReferenceIdeal.sig) → Buf (Elt Ideal) ℓ) : Prop :=
  True

def Pre_MemoryGrad (m : (ℓ : Loc Cert.MemoryGrad.nD Cert.MemoryGrad.τ Cert.MemoryGrad.sig) → Buf (Elt Bits) ℓ) : Prop :=
  True

def Pre_MemoryGradIdeal (m : (ℓ : Loc Cert.MemoryGradIdeal.nD Cert.MemoryGradIdeal.τ Cert.MemoryGradIdeal.sig) → Buf (Elt Ideal) ℓ) : Prop :=
  True

def Pre_MemoryGradReferenceIdeal (m : (ℓ : Loc Cert.MemoryGradReferenceIdeal.nD Cert.MemoryGradReferenceIdeal.τ Cert.MemoryGradReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_NormTwo (m : (ℓ : Loc Cert.NormTwo.nD Cert.NormTwo.τ Cert.NormTwo.sig) → Buf (Elt Bits) ℓ) : Prop :=
  True

def Pre_NormTwoIdeal (m : (ℓ : Loc Cert.NormTwoIdeal.nD Cert.NormTwoIdeal.τ Cert.NormTwoIdeal.sig) → Buf (Elt Ideal) ℓ) : Prop :=
  True

def Pre_NormTwoReferenceIdeal (m : (ℓ : Loc Cert.NormTwoReferenceIdeal.nD Cert.NormTwoReferenceIdeal.τ Cert.NormTwoReferenceIdeal.sig) → Buf (Elt Ideal) ℓ) : Prop :=
  True

def Pre_NormMemory (m : (ℓ : Loc Cert.NormMemory.nD Cert.NormMemory.τ Cert.NormMemory.sig) → Buf (Elt Bits) ℓ) : Prop :=
  True

def Pre_NormMemoryIdeal (m : (ℓ : Loc Cert.NormMemoryIdeal.nD Cert.NormMemoryIdeal.τ Cert.NormMemoryIdeal.sig) → Buf (Elt Ideal) ℓ) : Prop :=
  True

def Pre_NormMemoryReferenceIdeal (m : (ℓ : Loc Cert.NormMemoryReferenceIdeal.nD Cert.NormMemoryReferenceIdeal.τ Cert.NormMemoryReferenceIdeal.sig) → Buf (Elt Ideal) ℓ) : Prop :=
  True

def Pre_AdamInput (m : (ℓ : Loc Cert.AdamInput.nD Cert.AdamInput.τ Cert.AdamInput.sig) → Buf (Elt Bits) ℓ) : Prop :=
  True

def Pre_AdamInputIdeal (m : (ℓ : Loc Cert.AdamInputIdeal.nD Cert.AdamInputIdeal.τ Cert.AdamInputIdeal.sig) → Buf (Elt Ideal) ℓ) : Prop :=
  True

def Pre_AdamInputReferenceIdeal (m : (ℓ : Loc Cert.AdamInputReferenceIdeal.nD Cert.AdamInputReferenceIdeal.τ Cert.AdamInputReferenceIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareReferenceIdeal (m : (ℓ : Loc Cert.AdamSquareReferenceIdeal.nD Cert.AdamSquareReferenceIdeal.τ Cert.AdamSquareReferenceIdeal.sig) → Buf (Elt Ideal) ℓ) : Prop :=
  True

def Pre_AdamMemory (m : (ℓ : Loc Cert.AdamMemory.nD Cert.AdamMemory.τ Cert.AdamMemory.sig) → Buf (Elt Bits) ℓ) : Prop :=
  True

def Pre_AdamMemoryIdeal (m : (ℓ : Loc Cert.AdamMemoryIdeal.nD Cert.AdamMemoryIdeal.τ Cert.AdamMemoryIdeal.sig) → Buf (Elt Ideal) ℓ) : Prop :=
  True

def Pre_AdamMemoryReferenceIdeal (m : (ℓ : Loc Cert.AdamMemoryReferenceIdeal.nD Cert.AdamMemoryReferenceIdeal.τ Cert.AdamMemoryReferenceIdeal.sig) → Buf (Elt Ideal) ℓ) : Prop :=
  True

def Pre_AdamShared (m : (ℓ : Loc Cert.AdamShared.nD Cert.AdamShared.τ Cert.AdamShared.sig) → Buf (Elt Bits) ℓ) : Prop :=
  True

def Pre_AdamSharedIdeal (m : (ℓ : Loc Cert.AdamSharedIdeal.nD Cert.AdamSharedIdeal.τ Cert.AdamSharedIdeal.sig) → Buf (Elt Ideal) ℓ) : Prop :=
  True

def Pre_AdamSharedReferenceIdeal (m : (ℓ : Loc Cert.AdamSharedReferenceIdeal.nD Cert.AdamSharedReferenceIdeal.τ Cert.AdamSharedReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_Middle (m : (ℓ : Loc Cert.Middle.nD Cert.Middle.τ Cert.Middle.sig) → Buf (Elt Bits) ℓ) : Prop :=
  True

def Pre_MiddleIdeal (m : (ℓ : Loc Cert.MiddleIdeal.nD Cert.MiddleIdeal.τ Cert.MiddleIdeal.sig) → Buf (Elt Ideal) ℓ) : Prop :=
  True

def Pre_MiddleReferenceIdeal (m : (ℓ : Loc Cert.MiddleReferenceIdeal.nD Cert.MiddleReferenceIdeal.τ Cert.MiddleReferenceIdeal.sig) → Buf (Elt Ideal) ℓ) : Prop :=
  True

def Pre_Gain (m : (ℓ : Loc Cert.Gain.nD Cert.Gain.τ Cert.Gain.sig) → Buf (Elt Bits) ℓ) : Prop :=
  True

def Pre_GainIdeal (m : (ℓ : Loc Cert.GainIdeal.nD Cert.GainIdeal.τ Cert.GainIdeal.sig) → Buf (Elt Ideal) ℓ) : Prop :=
  True

def Pre_GainReferenceIdeal (m : (ℓ : Loc Cert.GainReferenceIdeal.nD Cert.GainReferenceIdeal.τ Cert.GainReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Wide [hWide : Cert.Wide.Facts] : Prop :=
  ∀ (m : (ℓ : Loc Cert.Wide.nD Cert.Wide.τ Cert.Wide.sig) → Buf (Elt Bits) ℓ) (g : Dev Cert.Wide.nD → PrngReg), Pre_Wide m →
    θ_run (Cert.Wide.defs (F := Bits)) (onTc (τ := Cert.Wide.τ) (Cert.Wide.main (F := Bits))) ⟨m, fun _ => 0, g⟩ (fun r => (∀ c : Dev Cert.Wide.nD,
      r.2.mem ((c.tc : Thread Cert.Wide.nD Cert.Wide.τ).loc Cert.Wide.main_arg0) = m ((c.tc : Thread Cert.Wide.nD Cert.Wide.τ).loc Cert.Wide.main_arg0)
      ∧ r.2.mem ((c.tc : Thread Cert.Wide.nD Cert.Wide.τ).loc Cert.Wide.main_arg1) = m ((c.tc : Thread Cert.Wide.nD Cert.Wide.τ).loc Cert.Wide.main_arg1))
      ∧ r.2.sem = fun _ => 0)

def quiescent_WideIdeal [hWideIdeal : Cert.WideIdeal.Facts] : Prop :=
  ∀ (m : (ℓ : Loc Cert.WideIdeal.nD Cert.WideIdeal.τ Cert.WideIdeal.sig) → Buf (Elt Ideal) ℓ) (g : Dev Cert.WideIdeal.nD → PrngReg), Pre_WideIdeal m →
    θ_run (Cert.WideIdeal.defs (F := Ideal)) (onTc (τ := Cert.WideIdeal.τ) (Cert.WideIdeal.main (F := Ideal))) ⟨m, fun _ => 0, g⟩ (fun r => (∀ c : Dev Cert.WideIdeal.nD,
      r.2.mem ((c.tc : Thread Cert.WideIdeal.nD Cert.WideIdeal.τ).loc Cert.WideIdeal.main_arg0) = m ((c.tc : Thread Cert.WideIdeal.nD Cert.WideIdeal.τ).loc Cert.WideIdeal.main_arg0)
      ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ r.2.sem = fun _ => 0)

def quiescent_WideReferenceIdeal [hWideReferenceIdeal : Cert.WideReferenceIdeal.Facts] : Prop :=
  ∀ (m : (ℓ : Loc Cert.WideReferenceIdeal.nD Cert.WideReferenceIdeal.τ Cert.WideReferenceIdeal.sig) → Buf (Elt Ideal) ℓ) (g : Dev Cert.WideReferenceIdeal.nD → PrngReg), Pre_WideReferenceIdeal m →
    θ_run (Cert.WideReferenceIdeal.defs (F := Ideal)) (onTc (τ := Cert.WideReferenceIdeal.τ) (Cert.WideReferenceIdeal.main (F := Ideal))) ⟨m, fun _ => 0, g⟩ (fun r => (∀ c : Dev Cert.WideReferenceIdeal.nD,
      r.2.mem ((c.tc : Thread Cert.WideReferenceIdeal.nD Cert.WideReferenceIdeal.τ).loc Cert.WideReferenceIdeal.main_arg0) = m ((c.tc : Thread Cert.WideReferenceIdeal.nD Cert.WideReferenceIdeal.τ).loc Cert.WideReferenceIdeal.main_arg0)
      ∧ r.2.mem ((c.tc : Thread Cert.WideReferenceIdeal.nD Cert.WideReferenceIdeal.τ).loc Cert.WideReferenceIdeal.main_arg1) = m ((c.tc : Thread Cert.WideReferenceIdeal.nD Cert.WideReferenceIdeal.τ).loc Cert.WideReferenceIdeal.main_arg1))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1))
      ∧ r.2.sem = fun _ => 0)

def quiescent_Both [hBoth : Cert.Both.Facts] : Prop :=
  ∀ (m : (ℓ : Loc Cert.Both.nD Cert.Both.τ Cert.Both.sig) → Buf (Elt Bits) ℓ) (g : Dev Cert.Both.nD → PrngReg), Pre_Both m →
    θ_run (Cert.Both.defs (F := Bits)) (onTc (τ := Cert.Both.τ) (Cert.Both.main (F := Bits))) ⟨m, fun _ => 0, g⟩ (fun r => (∀ c : Dev Cert.Both.nD,
      r.2.mem ((c.tc : Thread Cert.Both.nD Cert.Both.τ).loc Cert.Both.main_arg0) = m ((c.tc : Thread Cert.Both.nD Cert.Both.τ).loc Cert.Both.main_arg0)
      ∧ r.2.mem ((c.tc : Thread Cert.Both.nD Cert.Both.τ).loc Cert.Both.main_arg1) = m ((c.tc : Thread Cert.Both.nD Cert.Both.τ).loc Cert.Both.main_arg1)
      ∧ r.2.mem ((c.tc : Thread Cert.Both.nD Cert.Both.τ).loc Cert.Both.main_arg2) = m ((c.tc : Thread Cert.Both.nD Cert.Both.τ).loc Cert.Both.main_arg2))
      ∧ r.2.sem = fun _ => 0)

def quiescent_BothIdeal [hBothIdeal : Cert.BothIdeal.Facts] : Prop :=
  ∀ (m : (ℓ : Loc Cert.BothIdeal.nD Cert.BothIdeal.τ Cert.BothIdeal.sig) → Buf (Elt Ideal) ℓ) (g : Dev Cert.BothIdeal.nD → PrngReg), Pre_BothIdeal m →
    θ_run (Cert.BothIdeal.defs (F := Ideal)) (onTc (τ := Cert.BothIdeal.τ) (Cert.BothIdeal.main (F := Ideal))) ⟨m, fun _ => 0, g⟩ (fun r => (∀ c : Dev Cert.BothIdeal.nD,
      r.2.mem ((c.tc : Thread Cert.BothIdeal.nD Cert.BothIdeal.τ).loc Cert.BothIdeal.main_arg0) = m ((c.tc : Thread Cert.BothIdeal.nD Cert.BothIdeal.τ).loc Cert.BothIdeal.main_arg0)
      ∧ r.2.mem ((c.tc : Thread Cert.BothIdeal.nD Cert.BothIdeal.τ).loc Cert.BothIdeal.main_arg1) = m ((c.tc : Thread Cert.BothIdeal.nD Cert.BothIdeal.τ).loc Cert.BothIdeal.main_arg1)
      ∧ r.2.mem ((c.tc : Thread Cert.BothIdeal.nD Cert.BothIdeal.τ).loc Cert.BothIdeal.main_arg2) = m ((c.tc : Thread Cert.BothIdeal.nD Cert.BothIdeal.τ).loc Cert.BothIdeal.main_arg2))
      ∧ r.2.sem = fun _ => 0)

def quiescent_BothReferenceIdeal [hBothReferenceIdeal : Cert.BothReferenceIdeal.Facts] : Prop :=
  ∀ (m : (ℓ : Loc Cert.BothReferenceIdeal.nD Cert.BothReferenceIdeal.τ Cert.BothReferenceIdeal.sig) → Buf (Elt Ideal) ℓ) (g : Dev Cert.BothReferenceIdeal.nD → PrngReg), Pre_BothReferenceIdeal m →
    θ_run (Cert.BothReferenceIdeal.defs (F := Ideal)) (onTc (τ := Cert.BothReferenceIdeal.τ) (Cert.BothReferenceIdeal.main (F := Ideal))) ⟨m, fun _ => 0, g⟩ (fun r => (∀ c : Dev Cert.BothReferenceIdeal.nD,
      r.2.mem ((c.tc : Thread Cert.BothReferenceIdeal.nD Cert.BothReferenceIdeal.τ).loc Cert.BothReferenceIdeal.main_arg0) = m ((c.tc : Thread Cert.BothReferenceIdeal.nD Cert.BothReferenceIdeal.τ).loc Cert.BothReferenceIdeal.main_arg0)
      ∧ r.2.mem ((c.tc : Thread Cert.BothReferenceIdeal.nD Cert.BothReferenceIdeal.τ).loc Cert.BothReferenceIdeal.main_arg1) = m ((c.tc : Thread Cert.BothReferenceIdeal.nD Cert.BothReferenceIdeal.τ).loc Cert.BothReferenceIdeal.main_arg1)
      ∧ r.2.mem ((c.tc : Thread Cert.BothReferenceIdeal.nD Cert.BothReferenceIdeal.τ).loc Cert.BothReferenceIdeal.main_arg2) = m ((c.tc : Thread Cert.BothReferenceIdeal.nD Cert.BothReferenceIdeal.τ).loc Cert.BothReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_ProjectBack [hProjectBack : Cert.ProjectBack.Facts] : Prop :=
  ∀ (m : (ℓ : Loc Cert.ProjectBack.nD Cert.ProjectBack.τ Cert.ProjectBack.sig) → Buf (Elt Bits) ℓ) (g : Dev Cert.ProjectBack.nD → PrngReg), Pre_ProjectBack m →
    θ_run (Cert.ProjectBack.defs (F := Bits)) (onTc (τ := Cert.ProjectBack.τ) (Cert.ProjectBack.main (F := Bits))) ⟨m, fun _ => 0, g⟩ (fun r => (∀ c : Dev Cert.ProjectBack.nD,
      r.2.mem ((c.tc : Thread Cert.ProjectBack.nD Cert.ProjectBack.τ).loc Cert.ProjectBack.main_arg0) = m ((c.tc : Thread Cert.ProjectBack.nD Cert.ProjectBack.τ).loc Cert.ProjectBack.main_arg0)
      ∧ r.2.mem ((c.tc : Thread Cert.ProjectBack.nD Cert.ProjectBack.τ).loc Cert.ProjectBack.main_arg1) = m ((c.tc : Thread Cert.ProjectBack.nD Cert.ProjectBack.τ).loc Cert.ProjectBack.main_arg1))
      ∧ r.2.sem = fun _ => 0)

def quiescent_ProjectBackIdeal [hProjectBackIdeal : Cert.ProjectBackIdeal.Facts] : Prop :=
  ∀ (m : (ℓ : Loc Cert.ProjectBackIdeal.nD Cert.ProjectBackIdeal.τ Cert.ProjectBackIdeal.sig) → Buf (Elt Ideal) ℓ) (g : Dev Cert.ProjectBackIdeal.nD → PrngReg), Pre_ProjectBackIdeal m →
    θ_run (Cert.ProjectBackIdeal.defs (F := Ideal)) (onTc (τ := Cert.ProjectBackIdeal.τ) (Cert.ProjectBackIdeal.main (F := Ideal))) ⟨m, fun _ => 0, g⟩ (fun r => (∀ c : Dev Cert.ProjectBackIdeal.nD,
      r.2.mem ((c.tc : Thread Cert.ProjectBackIdeal.nD Cert.ProjectBackIdeal.τ).loc Cert.ProjectBackIdeal.main_arg0) = m ((c.tc : Thread Cert.ProjectBackIdeal.nD Cert.ProjectBackIdeal.τ).loc Cert.ProjectBackIdeal.main_arg0)
      ∧ r.2.mem ((c.tc : Thread Cert.ProjectBackIdeal.nD Cert.ProjectBackIdeal.τ).loc Cert.ProjectBackIdeal.main_arg1) = m ((c.tc : Thread Cert.ProjectBackIdeal.nD Cert.ProjectBackIdeal.τ).loc Cert.ProjectBackIdeal.main_arg1))
      ∧ r.2.sem = fun _ => 0)

def quiescent_ProjectBackReferenceIdeal [hProjectBackReferenceIdeal : Cert.ProjectBackReferenceIdeal.Facts] : Prop :=
  ∀ (m : (ℓ : Loc Cert.ProjectBackReferenceIdeal.nD Cert.ProjectBackReferenceIdeal.τ Cert.ProjectBackReferenceIdeal.sig) → Buf (Elt Ideal) ℓ) (g : Dev Cert.ProjectBackReferenceIdeal.nD → PrngReg), Pre_ProjectBackReferenceIdeal m →
    θ_run (Cert.ProjectBackReferenceIdeal.defs (F := Ideal)) (onTc (τ := Cert.ProjectBackReferenceIdeal.τ) (Cert.ProjectBackReferenceIdeal.main (F := Ideal))) ⟨m, fun _ => 0, g⟩ (fun r => (∀ c : Dev Cert.ProjectBackReferenceIdeal.nD,
      r.2.mem ((c.tc : Thread Cert.ProjectBackReferenceIdeal.nD Cert.ProjectBackReferenceIdeal.τ).loc Cert.ProjectBackReferenceIdeal.main_arg0) = m ((c.tc : Thread Cert.ProjectBackReferenceIdeal.nD Cert.ProjectBackReferenceIdeal.τ).loc Cert.ProjectBackReferenceIdeal.main_arg0)
      ∧ r.2.mem ((c.tc : Thread Cert.ProjectBackReferenceIdeal.nD Cert.ProjectBackReferenceIdeal.τ).loc Cert.ProjectBackReferenceIdeal.main_arg1) = m ((c.tc : Thread Cert.ProjectBackReferenceIdeal.nD Cert.ProjectBackReferenceIdeal.τ).loc Cert.ProjectBackReferenceIdeal.main_arg1))
      ∧ r.2.sem = fun _ => 0)

def quiescent_ProjectGrad [hProjectGrad : Cert.ProjectGrad.Facts] : Prop :=
  ∀ (m : (ℓ : Loc Cert.ProjectGrad.nD Cert.ProjectGrad.τ Cert.ProjectGrad.sig) → Buf (Elt Bits) ℓ) (g : Dev Cert.ProjectGrad.nD → PrngReg), Pre_ProjectGrad m →
    θ_run (Cert.ProjectGrad.defs (F := Bits)) (onTc (τ := Cert.ProjectGrad.τ) (Cert.ProjectGrad.main (F := Bits))) ⟨m, fun _ => 0, g⟩ (fun r => (∀ c : Dev Cert.ProjectGrad.nD,
      r.2.mem ((c.tc : Thread Cert.ProjectGrad.nD Cert.ProjectGrad.τ).loc Cert.ProjectGrad.main_arg0) = m ((c.tc : Thread Cert.ProjectGrad.nD Cert.ProjectGrad.τ).loc Cert.ProjectGrad.main_arg0)
      ∧ r.2.mem ((c.tc : Thread Cert.ProjectGrad.nD Cert.ProjectGrad.τ).loc Cert.ProjectGrad.main_arg1) = m ((c.tc : Thread Cert.ProjectGrad.nD Cert.ProjectGrad.τ).loc Cert.ProjectGrad.main_arg1))
      ∧ r.2.sem = fun _ => 0)

def quiescent_ProjectGradIdeal [hProjectGradIdeal : Cert.ProjectGradIdeal.Facts] : Prop :=
  ∀ (m : (ℓ : Loc Cert.ProjectGradIdeal.nD Cert.ProjectGradIdeal.τ Cert.ProjectGradIdeal.sig) → Buf (Elt Ideal) ℓ) (g : Dev Cert.ProjectGradIdeal.nD → PrngReg), Pre_ProjectGradIdeal m →
    θ_run (Cert.ProjectGradIdeal.defs (F := Ideal)) (onTc (τ := Cert.ProjectGradIdeal.τ) (Cert.ProjectGradIdeal.main (F := Ideal))) ⟨m, fun _ => 0, g⟩ (fun r => (∀ c : Dev Cert.ProjectGradIdeal.nD,
      r.2.mem ((c.tc : Thread Cert.ProjectGradIdeal.nD Cert.ProjectGradIdeal.τ).loc Cert.ProjectGradIdeal.main_arg0) = m ((c.tc : Thread Cert.ProjectGradIdeal.nD Cert.ProjectGradIdeal.τ).loc Cert.ProjectGradIdeal.main_arg0)
      ∧ r.2.mem ((c.tc : Thread Cert.ProjectGradIdeal.nD Cert.ProjectGradIdeal.τ).loc Cert.ProjectGradIdeal.main_arg1) = m ((c.tc : Thread Cert.ProjectGradIdeal.nD Cert.ProjectGradIdeal.τ).loc Cert.ProjectGradIdeal.main_arg1))
      ∧ r.2.sem = fun _ => 0)

def quiescent_ProjectGradReferenceIdeal [hProjectGradReferenceIdeal : Cert.ProjectGradReferenceIdeal.Facts] : Prop :=
  ∀ (m : (ℓ : Loc Cert.ProjectGradReferenceIdeal.nD Cert.ProjectGradReferenceIdeal.τ Cert.ProjectGradReferenceIdeal.sig) → Buf (Elt Ideal) ℓ) (g : Dev Cert.ProjectGradReferenceIdeal.nD → PrngReg), Pre_ProjectGradReferenceIdeal m →
    θ_run (Cert.ProjectGradReferenceIdeal.defs (F := Ideal)) (onTc (τ := Cert.ProjectGradReferenceIdeal.τ) (Cert.ProjectGradReferenceIdeal.main (F := Ideal))) ⟨m, fun _ => 0, g⟩ (fun r => (∀ c : Dev Cert.ProjectGradReferenceIdeal.nD,
      r.2.mem ((c.tc : Thread Cert.ProjectGradReferenceIdeal.nD Cert.ProjectGradReferenceIdeal.τ).loc Cert.ProjectGradReferenceIdeal.main_arg0) = m ((c.tc : Thread Cert.ProjectGradReferenceIdeal.nD Cert.ProjectGradReferenceIdeal.τ).loc Cert.ProjectGradReferenceIdeal.main_arg0)
      ∧ r.2.mem ((c.tc : Thread Cert.ProjectGradReferenceIdeal.nD Cert.ProjectGradReferenceIdeal.τ).loc Cert.ProjectGradReferenceIdeal.main_arg1) = m ((c.tc : Thread Cert.ProjectGradReferenceIdeal.nD Cert.ProjectGradReferenceIdeal.τ).loc Cert.ProjectGradReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2))
      ∧ r.2.sem = fun _ => 0)

def quiescent_MixBack [hMixBack : Cert.MixBack.Facts] : Prop :=
  ∀ (m : (ℓ : Loc Cert.MixBack.nD Cert.MixBack.τ Cert.MixBack.sig) → Buf (Elt Bits) ℓ) (g : Dev Cert.MixBack.nD → PrngReg), Pre_MixBack m →
    θ_run (Cert.MixBack.defs (F := Bits)) (onTc (τ := Cert.MixBack.τ) (Cert.MixBack.main (F := Bits))) ⟨m, fun _ => 0, g⟩ (fun r => (∀ c : Dev Cert.MixBack.nD,
      r.2.mem ((c.tc : Thread Cert.MixBack.nD Cert.MixBack.τ).loc Cert.MixBack.main_arg0) = m ((c.tc : Thread Cert.MixBack.nD Cert.MixBack.τ).loc Cert.MixBack.main_arg0)
      ∧ r.2.mem ((c.tc : Thread Cert.MixBack.nD Cert.MixBack.τ).loc Cert.MixBack.main_arg1) = m ((c.tc : Thread Cert.MixBack.nD Cert.MixBack.τ).loc Cert.MixBack.main_arg1))
      ∧ r.2.sem = fun _ => 0)

def quiescent_MixBackIdeal [hMixBackIdeal : Cert.MixBackIdeal.Facts] : Prop :=
  ∀ (m : (ℓ : Loc Cert.MixBackIdeal.nD Cert.MixBackIdeal.τ Cert.MixBackIdeal.sig) → Buf (Elt Ideal) ℓ) (g : Dev Cert.MixBackIdeal.nD → PrngReg), Pre_MixBackIdeal m →
    θ_run (Cert.MixBackIdeal.defs (F := Ideal)) (onTc (τ := Cert.MixBackIdeal.τ) (Cert.MixBackIdeal.main (F := Ideal))) ⟨m, fun _ => 0, g⟩ (fun r => (∀ c : Dev Cert.MixBackIdeal.nD,
      r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
      ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1))
      ∧ r.2.sem = fun _ => 0)

def quiescent_MixBackReferenceIdeal [hMixBackReferenceIdeal : Cert.MixBackReferenceIdeal.Facts] : Prop :=
  ∀ (m : (ℓ : Loc Cert.MixBackReferenceIdeal.nD Cert.MixBackReferenceIdeal.τ Cert.MixBackReferenceIdeal.sig) → Buf (Elt Ideal) ℓ) (g : Dev Cert.MixBackReferenceIdeal.nD → PrngReg), Pre_MixBackReferenceIdeal m →
    θ_run (Cert.MixBackReferenceIdeal.defs (F := Ideal)) (onTc (τ := Cert.MixBackReferenceIdeal.τ) (Cert.MixBackReferenceIdeal.main (F := Ideal))) ⟨m, fun _ => 0, g⟩ (fun r => (∀ c : Dev Cert.MixBackReferenceIdeal.nD,
      r.2.mem ((c.tc : Thread Cert.MixBackReferenceIdeal.nD Cert.MixBackReferenceIdeal.τ).loc Cert.MixBackReferenceIdeal.main_arg0) = m ((c.tc : Thread Cert.MixBackReferenceIdeal.nD Cert.MixBackReferenceIdeal.τ).loc Cert.MixBackReferenceIdeal.main_arg0)
      ∧ r.2.mem ((c.tc : Thread Cert.MixBackReferenceIdeal.nD Cert.MixBackReferenceIdeal.τ).loc Cert.MixBackReferenceIdeal.main_arg1) = m ((c.tc : Thread Cert.MixBackReferenceIdeal.nD Cert.MixBackReferenceIdeal.τ).loc Cert.MixBackReferenceIdeal.main_arg1))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1))
      ∧ r.2.sem = fun _ => 0)

def quiescent_MixGradReferenceIdeal [hMixGradReferenceIdeal : Cert.MixGradReferenceIdeal.Facts] : Prop :=
  ∀ (m : (ℓ : Loc Cert.MixGradReferenceIdeal.nD Cert.MixGradReferenceIdeal.τ Cert.MixGradReferenceIdeal.sig) → Buf (Elt Ideal) ℓ) (g : Dev Cert.MixGradReferenceIdeal.nD → PrngReg), Pre_MixGradReferenceIdeal m →
    θ_run (Cert.MixGradReferenceIdeal.defs (F := Ideal)) (onTc (τ := Cert.MixGradReferenceIdeal.τ) (Cert.MixGradReferenceIdeal.main (F := Ideal))) ⟨m, fun _ => 0, g⟩ (fun r => (∀ c : Dev Cert.MixGradReferenceIdeal.nD,
      r.2.mem ((c.tc : Thread Cert.MixGradReferenceIdeal.nD Cert.MixGradReferenceIdeal.τ).loc Cert.MixGradReferenceIdeal.main_arg0) = m ((c.tc : Thread Cert.MixGradReferenceIdeal.nD Cert.MixGradReferenceIdeal.τ).loc Cert.MixGradReferenceIdeal.main_arg0)
      ∧ r.2.mem ((c.tc : Thread Cert.MixGradReferenceIdeal.nD Cert.MixGradReferenceIdeal.τ).loc Cert.MixGradReferenceIdeal.main_arg1) = m ((c.tc : Thread Cert.MixGradReferenceIdeal.nD Cert.MixGradReferenceIdeal.τ).loc Cert.MixGradReferenceIdeal.main_arg1))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1))
      ∧ r.2.sem = fun _ => 0)

def quiescent_SharedBack [hSharedBack : Cert.SharedBack.Facts] : Prop :=
  ∀ (m : (ℓ : Loc Cert.SharedBack.nD Cert.SharedBack.τ Cert.SharedBack.sig) → Buf (Elt Bits) ℓ) (g : Dev Cert.SharedBack.nD → PrngReg), Pre_SharedBack m →
    θ_run (Cert.SharedBack.defs (F := Bits)) (onTc (τ := Cert.SharedBack.τ) (Cert.SharedBack.main (F := Bits))) ⟨m, fun _ => 0, g⟩ (fun r => (∀ c : Dev Cert.SharedBack.nD,
      r.2.mem ((c.tc : Thread Cert.SharedBack.nD Cert.SharedBack.τ).loc Cert.SharedBack.main_arg0) = m ((c.tc : Thread Cert.SharedBack.nD Cert.SharedBack.τ).loc Cert.SharedBack.main_arg0)
      ∧ r.2.mem ((c.tc : Thread Cert.SharedBack.nD Cert.SharedBack.τ).loc Cert.SharedBack.main_arg1) = m ((c.tc : Thread Cert.SharedBack.nD Cert.SharedBack.τ).loc Cert.SharedBack.main_arg1))
      ∧ r.2.sem = fun _ => 0)

def quiescent_SharedBackIdeal [hSharedBackIdeal : Cert.SharedBackIdeal.Facts] : Prop :=
  ∀ (m : (ℓ : Loc Cert.SharedBackIdeal.nD Cert.SharedBackIdeal.τ Cert.SharedBackIdeal.sig) → Buf (Elt Ideal) ℓ) (g : Dev Cert.SharedBackIdeal.nD → PrngReg), Pre_SharedBackIdeal m →
    θ_run (Cert.SharedBackIdeal.defs (F := Ideal)) (onTc (τ := Cert.SharedBackIdeal.τ) (Cert.SharedBackIdeal.main (F := Ideal))) ⟨m, fun _ => 0, g⟩ (fun r => (∀ c : Dev Cert.SharedBackIdeal.nD,
      r.2.mem ((c.tc : Thread Cert.SharedBackIdeal.nD Cert.SharedBackIdeal.τ).loc Cert.SharedBackIdeal.main_arg0) = m ((c.tc : Thread Cert.SharedBackIdeal.nD Cert.SharedBackIdeal.τ).loc Cert.SharedBackIdeal.main_arg0)
      ∧ r.2.mem ((c.tc : Thread Cert.SharedBackIdeal.nD Cert.SharedBackIdeal.τ).loc Cert.SharedBackIdeal.main_arg1) = m ((c.tc : Thread Cert.SharedBackIdeal.nD Cert.SharedBackIdeal.τ).loc Cert.SharedBackIdeal.main_arg1))
      ∧ r.2.sem = fun _ => 0)

def quiescent_SharedBackReferenceIdeal [hSharedBackReferenceIdeal : Cert.SharedBackReferenceIdeal.Facts] : Prop :=
  ∀ (m : (ℓ : Loc Cert.SharedBackReferenceIdeal.nD Cert.SharedBackReferenceIdeal.τ Cert.SharedBackReferenceIdeal.sig) → Buf (Elt Ideal) ℓ) (g : Dev Cert.SharedBackReferenceIdeal.nD → PrngReg), Pre_SharedBackReferenceIdeal m →
    θ_run (Cert.SharedBackReferenceIdeal.defs (F := Ideal)) (onTc (τ := Cert.SharedBackReferenceIdeal.τ) (Cert.SharedBackReferenceIdeal.main (F := Ideal))) ⟨m, fun _ => 0, g⟩ (fun r => (∀ c : Dev Cert.SharedBackReferenceIdeal.nD,
      r.2.mem ((c.tc : Thread Cert.SharedBackReferenceIdeal.nD Cert.SharedBackReferenceIdeal.τ).loc Cert.SharedBackReferenceIdeal.main_arg0) = m ((c.tc : Thread Cert.SharedBackReferenceIdeal.nD Cert.SharedBackReferenceIdeal.τ).loc Cert.SharedBackReferenceIdeal.main_arg0)
      ∧ r.2.mem ((c.tc : Thread Cert.SharedBackReferenceIdeal.nD Cert.SharedBackReferenceIdeal.τ).loc Cert.SharedBackReferenceIdeal.main_arg1) = m ((c.tc : Thread Cert.SharedBackReferenceIdeal.nD Cert.SharedBackReferenceIdeal.τ).loc Cert.SharedBackReferenceIdeal.main_arg1))
      ∧ r.2.sem = fun _ => 0)

def quiescent_SharedGrad [hSharedGrad : Cert.SharedGrad.Facts] : Prop :=
  ∀ (m : (ℓ : Loc Cert.SharedGrad.nD Cert.SharedGrad.τ Cert.SharedGrad.sig) → Buf (Elt Bits) ℓ) (g : Dev Cert.SharedGrad.nD → PrngReg), Pre_SharedGrad m →
    θ_run (Cert.SharedGrad.defs (F := Bits)) (onTc (τ := Cert.SharedGrad.τ) (Cert.SharedGrad.main (F := Bits))) ⟨m, fun _ => 0, g⟩ (fun r => (∀ c : Dev Cert.SharedGrad.nD,
      r.2.mem ((c.tc : Thread Cert.SharedGrad.nD Cert.SharedGrad.τ).loc Cert.SharedGrad.main_arg0) = m ((c.tc : Thread Cert.SharedGrad.nD Cert.SharedGrad.τ).loc Cert.SharedGrad.main_arg0)
      ∧ r.2.mem ((c.tc : Thread Cert.SharedGrad.nD Cert.SharedGrad.τ).loc Cert.SharedGrad.main_arg1) = m ((c.tc : Thread Cert.SharedGrad.nD Cert.SharedGrad.τ).loc Cert.SharedGrad.main_arg1))
      ∧ r.2.sem = fun _ => 0)

def quiescent_SharedGradIdeal [hSharedGradIdeal : Cert.SharedGradIdeal.Facts] : Prop :=
  ∀ (m : (ℓ : Loc Cert.SharedGradIdeal.nD Cert.SharedGradIdeal.τ Cert.SharedGradIdeal.sig) → Buf (Elt Ideal) ℓ) (g : Dev Cert.SharedGradIdeal.nD → PrngReg), Pre_SharedGradIdeal m →
    θ_run (Cert.SharedGradIdeal.defs (F := Ideal)) (onTc (τ := Cert.SharedGradIdeal.τ) (Cert.SharedGradIdeal.main (F := Ideal))) ⟨m, fun _ => 0, g⟩ (fun r => (∀ c : Dev Cert.SharedGradIdeal.nD,
      r.2.mem ((c.tc : Thread Cert.SharedGradIdeal.nD Cert.SharedGradIdeal.τ).loc Cert.SharedGradIdeal.main_arg0) = m ((c.tc : Thread Cert.SharedGradIdeal.nD Cert.SharedGradIdeal.τ).loc Cert.SharedGradIdeal.main_arg0)
      ∧ r.2.mem ((c.tc : Thread Cert.SharedGradIdeal.nD Cert.SharedGradIdeal.τ).loc Cert.SharedGradIdeal.main_arg1) = m ((c.tc : Thread Cert.SharedGradIdeal.nD Cert.SharedGradIdeal.τ).loc Cert.SharedGradIdeal.main_arg1))
      ∧ r.2.sem = fun _ => 0)

def quiescent_SharedGradReferenceIdeal [hSharedGradReferenceIdeal : Cert.SharedGradReferenceIdeal.Facts] : Prop :=
  ∀ (m : (ℓ : Loc Cert.SharedGradReferenceIdeal.nD Cert.SharedGradReferenceIdeal.τ Cert.SharedGradReferenceIdeal.sig) → Buf (Elt Ideal) ℓ) (g : Dev Cert.SharedGradReferenceIdeal.nD → PrngReg), Pre_SharedGradReferenceIdeal m →
    θ_run (Cert.SharedGradReferenceIdeal.defs (F := Ideal)) (onTc (τ := Cert.SharedGradReferenceIdeal.τ) (Cert.SharedGradReferenceIdeal.main (F := Ideal))) ⟨m, fun _ => 0, g⟩ (fun r => (∀ c : Dev Cert.SharedGradReferenceIdeal.nD,
      r.2.mem ((c.tc : Thread Cert.SharedGradReferenceIdeal.nD Cert.SharedGradReferenceIdeal.τ).loc Cert.SharedGradReferenceIdeal.main_arg0) = m ((c.tc : Thread Cert.SharedGradReferenceIdeal.nD Cert.SharedGradReferenceIdeal.τ).loc Cert.SharedGradReferenceIdeal.main_arg0)
      ∧ r.2.mem ((c.tc : Thread Cert.SharedGradReferenceIdeal.nD Cert.SharedGradReferenceIdeal.τ).loc Cert.SharedGradReferenceIdeal.main_arg1) = m ((c.tc : Thread Cert.SharedGradReferenceIdeal.nD Cert.SharedGradReferenceIdeal.τ).loc Cert.SharedGradReferenceIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_QueryBack [hQueryBack : Cert.QueryBack.Facts] : Prop :=
  ∀ (m : (ℓ : Loc Cert.QueryBack.nD Cert.QueryBack.τ Cert.QueryBack.sig) → Buf (Elt Bits) ℓ) (g : Dev Cert.QueryBack.nD → PrngReg), Pre_QueryBack m →
    θ_run (Cert.QueryBack.defs (F := Bits)) (onTc (τ := Cert.QueryBack.τ) (Cert.QueryBack.main (F := Bits))) ⟨m, fun _ => 0, g⟩ (fun r => (∀ c : Dev Cert.QueryBack.nD,
      r.2.mem ((c.tc : Thread Cert.QueryBack.nD Cert.QueryBack.τ).loc Cert.QueryBack.main_arg0) = m ((c.tc : Thread Cert.QueryBack.nD Cert.QueryBack.τ).loc Cert.QueryBack.main_arg0)
      ∧ r.2.mem ((c.tc : Thread Cert.QueryBack.nD Cert.QueryBack.τ).loc Cert.QueryBack.main_arg1) = m ((c.tc : Thread Cert.QueryBack.nD Cert.QueryBack.τ).loc Cert.QueryBack.main_arg1))
      ∧ r.2.sem = fun _ => 0)

def quiescent_QueryBackIdeal [hQueryBackIdeal : Cert.QueryBackIdeal.Facts] : Prop :=
  ∀ (m : (ℓ : Loc Cert.QueryBackIdeal.nD Cert.QueryBackIdeal.τ Cert.QueryBackIdeal.sig) → Buf (Elt Ideal) ℓ) (g : Dev Cert.QueryBackIdeal.nD → PrngReg), Pre_QueryBackIdeal m →
    θ_run (Cert.QueryBackIdeal.defs (F := Ideal)) (onTc (τ := Cert.QueryBackIdeal.τ) (Cert.QueryBackIdeal.main (F := Ideal))) ⟨m, fun _ => 0, g⟩ (fun r => (∀ c : Dev Cert.QueryBackIdeal.nD,
      r.2.mem ((c.tc : Thread Cert.QueryBackIdeal.nD Cert.QueryBackIdeal.τ).loc Cert.QueryBackIdeal.main_arg0) = m ((c.tc : Thread Cert.QueryBackIdeal.nD Cert.QueryBackIdeal.τ).loc Cert.QueryBackIdeal.main_arg0)
      ∧ r.2.mem ((c.tc : Thread Cert.QueryBackIdeal.nD Cert.QueryBackIdeal.τ).loc Cert.QueryBackIdeal.main_arg1) = m ((c.tc : Thread Cert.QueryBackIdeal.nD Cert.QueryBackIdeal.τ).loc Cert.QueryBackIdeal.main_arg1))
      ∧ r.2.sem = fun _ => 0)

def quiescent_QueryBackReferenceIdeal [hQueryBackReferenceIdeal : Cert.QueryBackReferenceIdeal.Facts] : Prop :=
  ∀ (m : (ℓ : Loc Cert.QueryBackReferenceIdeal.nD Cert.QueryBackReferenceIdeal.τ Cert.QueryBackReferenceIdeal.sig) → Buf (Elt Ideal) ℓ) (g : Dev Cert.QueryBackReferenceIdeal.nD → PrngReg), Pre_QueryBackReferenceIdeal m →
    θ_run (Cert.QueryBackReferenceIdeal.defs (F := Ideal)) (onTc (τ := Cert.QueryBackReferenceIdeal.τ) (Cert.QueryBackReferenceIdeal.main (F := Ideal))) ⟨m, fun _ => 0, g⟩ (fun r => (∀ c : Dev Cert.QueryBackReferenceIdeal.nD,
      r.2.mem ((c.tc : Thread Cert.QueryBackReferenceIdeal.nD Cert.QueryBackReferenceIdeal.τ).loc Cert.QueryBackReferenceIdeal.main_arg0) = m ((c.tc : Thread Cert.QueryBackReferenceIdeal.nD Cert.QueryBackReferenceIdeal.τ).loc Cert.QueryBackReferenceIdeal.main_arg0)
      ∧ r.2.mem ((c.tc : Thread Cert.QueryBackReferenceIdeal.nD Cert.QueryBackReferenceIdeal.τ).loc Cert.QueryBackReferenceIdeal.main_arg1) = m ((c.tc : Thread Cert.QueryBackReferenceIdeal.nD Cert.QueryBackReferenceIdeal.τ).loc Cert.QueryBackReferenceIdeal.main_arg1))
      ∧ r.2.sem = fun _ => 0)

def quiescent_QueryGrad [hQueryGrad : Cert.QueryGrad.Facts] : Prop :=
  ∀ (m : (ℓ : Loc Cert.QueryGrad.nD Cert.QueryGrad.τ Cert.QueryGrad.sig) → Buf (Elt Bits) ℓ) (g : Dev Cert.QueryGrad.nD → PrngReg), Pre_QueryGrad m →
    θ_run (Cert.QueryGrad.defs (F := Bits)) (onTc (τ := Cert.QueryGrad.τ) (Cert.QueryGrad.main (F := Bits))) ⟨m, fun _ => 0, g⟩ (fun r => (∀ c : Dev Cert.QueryGrad.nD,
      r.2.mem ((c.tc : Thread Cert.QueryGrad.nD Cert.QueryGrad.τ).loc Cert.QueryGrad.main_arg0) = m ((c.tc : Thread Cert.QueryGrad.nD Cert.QueryGrad.τ).loc Cert.QueryGrad.main_arg0)
      ∧ r.2.mem ((c.tc : Thread Cert.QueryGrad.nD Cert.QueryGrad.τ).loc Cert.QueryGrad.main_arg1) = m ((c.tc : Thread Cert.QueryGrad.nD Cert.QueryGrad.τ).loc Cert.QueryGrad.main_arg1))
      ∧ r.2.sem = fun _ => 0)

def quiescent_QueryGradIdeal [hQueryGradIdeal : Cert.QueryGradIdeal.Facts] : Prop :=
  ∀ (m : (ℓ : Loc Cert.QueryGradIdeal.nD Cert.QueryGradIdeal.τ Cert.QueryGradIdeal.sig) → Buf (Elt Ideal) ℓ) (g : Dev Cert.QueryGradIdeal.nD → PrngReg), Pre_QueryGradIdeal m →
    θ_run (Cert.QueryGradIdeal.defs (F := Ideal)) (onTc (τ := Cert.QueryGradIdeal.τ) (Cert.QueryGradIdeal.main (F := Ideal))) ⟨m, fun _ => 0, g⟩ (fun r => (∀ c : Dev Cert.QueryGradIdeal.nD,
      r.2.mem ((c.tc : Thread Cert.QueryGradIdeal.nD Cert.QueryGradIdeal.τ).loc Cert.QueryGradIdeal.main_arg0) = m ((c.tc : Thread Cert.QueryGradIdeal.nD Cert.QueryGradIdeal.τ).loc Cert.QueryGradIdeal.main_arg0)
      ∧ r.2.mem ((c.tc : Thread Cert.QueryGradIdeal.nD Cert.QueryGradIdeal.τ).loc Cert.QueryGradIdeal.main_arg1) = m ((c.tc : Thread Cert.QueryGradIdeal.nD Cert.QueryGradIdeal.τ).loc Cert.QueryGradIdeal.main_arg1))
      ∧ r.2.sem = fun _ => 0)

def quiescent_QueryGradReferenceIdeal [hQueryGradReferenceIdeal : Cert.QueryGradReferenceIdeal.Facts] : Prop :=
  ∀ (m : (ℓ : Loc Cert.QueryGradReferenceIdeal.nD Cert.QueryGradReferenceIdeal.τ Cert.QueryGradReferenceIdeal.sig) → Buf (Elt Ideal) ℓ) (g : Dev Cert.QueryGradReferenceIdeal.nD → PrngReg), Pre_QueryGradReferenceIdeal m →
    θ_run (Cert.QueryGradReferenceIdeal.defs (F := Ideal)) (onTc (τ := Cert.QueryGradReferenceIdeal.τ) (Cert.QueryGradReferenceIdeal.main (F := Ideal))) ⟨m, fun _ => 0, g⟩ (fun r => (∀ c : Dev Cert.QueryGradReferenceIdeal.nD,
      r.2.mem ((c.tc : Thread Cert.QueryGradReferenceIdeal.nD Cert.QueryGradReferenceIdeal.τ).loc Cert.QueryGradReferenceIdeal.main_arg0) = m ((c.tc : Thread Cert.QueryGradReferenceIdeal.nD Cert.QueryGradReferenceIdeal.τ).loc Cert.QueryGradReferenceIdeal.main_arg0)
      ∧ r.2.mem ((c.tc : Thread Cert.QueryGradReferenceIdeal.nD Cert.QueryGradReferenceIdeal.τ).loc Cert.QueryGradReferenceIdeal.main_arg1) = m ((c.tc : Thread Cert.QueryGradReferenceIdeal.nD Cert.QueryGradReferenceIdeal.τ).loc Cert.QueryGradReferenceIdeal.main_arg1))
      ∧ r.2.sem = fun _ => 0)

def quiescent_Sticks [hSticks : Cert.Sticks.Facts] : Prop :=
  ∀ (m : (ℓ : Loc Cert.Sticks.nD Cert.Sticks.τ Cert.Sticks.sig) → Buf (Elt Bits) ℓ) (g : Dev Cert.Sticks.nD → PrngReg), Pre_Sticks m →
    θ_run (Cert.Sticks.defs (F := Bits)) (onTc (τ := Cert.Sticks.τ) (Cert.Sticks.main (F := Bits))) ⟨m, fun _ => 0, g⟩ (fun r => (∀ c : Dev Cert.Sticks.nD,
      r.2.mem ((c.tc : Thread Cert.Sticks.nD Cert.Sticks.τ).loc Cert.Sticks.main_arg0) = m ((c.tc : Thread Cert.Sticks.nD Cert.Sticks.τ).loc Cert.Sticks.main_arg0))
      ∧ r.2.sem = fun _ => 0)

def quiescent_SticksIdeal [hSticksIdeal : Cert.SticksIdeal.Facts] : Prop :=
  ∀ (m : (ℓ : Loc Cert.SticksIdeal.nD Cert.SticksIdeal.τ Cert.SticksIdeal.sig) → Buf (Elt Ideal) ℓ) (g : Dev Cert.SticksIdeal.nD → PrngReg), Pre_SticksIdeal m →
    θ_run (Cert.SticksIdeal.defs (F := Ideal)) (onTc (τ := Cert.SticksIdeal.τ) (Cert.SticksIdeal.main (F := Ideal))) ⟨m, fun _ => 0, g⟩ (fun r => (∀ c : Dev Cert.SticksIdeal.nD,
      r.2.mem ((c.tc : Thread Cert.SticksIdeal.nD Cert.SticksIdeal.τ).loc Cert.SticksIdeal.main_arg0) = m ((c.tc : Thread Cert.SticksIdeal.nD Cert.SticksIdeal.τ).loc Cert.SticksIdeal.main_arg0))
      ∧ r.2.sem = fun _ => 0)

def quiescent_SticksReferenceIdeal [hSticksReferenceIdeal : Cert.SticksReferenceIdeal.Facts] : Prop :=
  ∀ (m : (ℓ : Loc Cert.SticksReferenceIdeal.nD Cert.SticksReferenceIdeal.τ Cert.SticksReferenceIdeal.sig) → Buf (Elt Ideal) ℓ) (g : Dev Cert.SticksReferenceIdeal.nD → PrngReg), Pre_SticksReferenceIdeal m →
    θ_run (Cert.SticksReferenceIdeal.defs (F := Ideal)) (onTc (τ := Cert.SticksReferenceIdeal.τ) (Cert.SticksReferenceIdeal.main (F := Ideal))) ⟨m, fun _ => 0, g⟩ (fun r => (∀ c : Dev Cert.SticksReferenceIdeal.nD,
      r.2.mem ((c.tc : Thread Cert.SticksReferenceIdeal.nD Cert.SticksReferenceIdeal.τ).loc Cert.SticksReferenceIdeal.main_arg0) = m ((c.tc : Thread Cert.SticksReferenceIdeal.nD Cert.SticksReferenceIdeal.τ).loc Cert.SticksReferenceIdeal.main_arg0))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1))
      ∧ r.2.sem = fun _ => 0)

def quiescent_MemoryBack [hMemoryBack : Cert.MemoryBack.Facts] : Prop :=
  ∀ (m : (ℓ : Loc Cert.MemoryBack.nD Cert.MemoryBack.τ Cert.MemoryBack.sig) → Buf (Elt Bits) ℓ) (g : Dev Cert.MemoryBack.nD → PrngReg), Pre_MemoryBack m →
    θ_run (Cert.MemoryBack.defs (F := Bits)) (onTc (τ := Cert.MemoryBack.τ) (Cert.MemoryBack.main (F := Bits))) ⟨m, fun _ => 0, g⟩ (fun r => (∀ c : Dev Cert.MemoryBack.nD,
      r.2.mem ((c.tc : Thread Cert.MemoryBack.nD Cert.MemoryBack.τ).loc Cert.MemoryBack.main_arg0) = m ((c.tc : Thread Cert.MemoryBack.nD Cert.MemoryBack.τ).loc Cert.MemoryBack.main_arg0)
      ∧ r.2.mem ((c.tc : Thread Cert.MemoryBack.nD Cert.MemoryBack.τ).loc Cert.MemoryBack.main_arg1) = m ((c.tc : Thread Cert.MemoryBack.nD Cert.MemoryBack.τ).loc Cert.MemoryBack.main_arg1))
      ∧ r.2.sem = fun _ => 0)

def quiescent_MemoryBackIdeal [hMemoryBackIdeal : Cert.MemoryBackIdeal.Facts] : Prop :=
  ∀ (m : (ℓ : Loc Cert.MemoryBackIdeal.nD Cert.MemoryBackIdeal.τ Cert.MemoryBackIdeal.sig) → Buf (Elt Ideal) ℓ) (g : Dev Cert.MemoryBackIdeal.nD → PrngReg), Pre_MemoryBackIdeal m →
    θ_run (Cert.MemoryBackIdeal.defs (F := Ideal)) (onTc (τ := Cert.MemoryBackIdeal.τ) (Cert.MemoryBackIdeal.main (F := Ideal))) ⟨m, fun _ => 0, g⟩ (fun r => (∀ c : Dev Cert.MemoryBackIdeal.nD,
      r.2.mem ((c.tc : Thread Cert.MemoryBackIdeal.nD Cert.MemoryBackIdeal.τ).loc Cert.MemoryBackIdeal.main_arg0) = m ((c.tc : Thread Cert.MemoryBackIdeal.nD Cert.MemoryBackIdeal.τ).loc Cert.MemoryBackIdeal.main_arg0)
      ∧ r.2.mem ((c.tc : Thread Cert.MemoryBackIdeal.nD Cert.MemoryBackIdeal.τ).loc Cert.MemoryBackIdeal.main_arg1) = m ((c.tc : Thread Cert.MemoryBackIdeal.nD Cert.MemoryBackIdeal.τ).loc Cert.MemoryBackIdeal.main_arg1))
      ∧ r.2.sem = fun _ => 0)

def quiescent_MemoryBackReferenceIdeal [hMemoryBackReferenceIdeal : Cert.MemoryBackReferenceIdeal.Facts] : Prop :=
  ∀ (m : (ℓ : Loc Cert.MemoryBackReferenceIdeal.nD Cert.MemoryBackReferenceIdeal.τ Cert.MemoryBackReferenceIdeal.sig) → Buf (Elt Ideal) ℓ) (g : Dev Cert.MemoryBackReferenceIdeal.nD → PrngReg), Pre_MemoryBackReferenceIdeal m →
    θ_run (Cert.MemoryBackReferenceIdeal.defs (F := Ideal)) (onTc (τ := Cert.MemoryBackReferenceIdeal.τ) (Cert.MemoryBackReferenceIdeal.main (F := Ideal))) ⟨m, fun _ => 0, g⟩ (fun r => (∀ c : Dev Cert.MemoryBackReferenceIdeal.nD,
      r.2.mem ((c.tc : Thread Cert.MemoryBackReferenceIdeal.nD Cert.MemoryBackReferenceIdeal.τ).loc Cert.MemoryBackReferenceIdeal.main_arg0) = m ((c.tc : Thread Cert.MemoryBackReferenceIdeal.nD Cert.MemoryBackReferenceIdeal.τ).loc Cert.MemoryBackReferenceIdeal.main_arg0)
      ∧ r.2.mem ((c.tc : Thread Cert.MemoryBackReferenceIdeal.nD Cert.MemoryBackReferenceIdeal.τ).loc Cert.MemoryBackReferenceIdeal.main_arg1) = m ((c.tc : Thread Cert.MemoryBackReferenceIdeal.nD Cert.MemoryBackReferenceIdeal.τ).loc Cert.MemoryBackReferenceIdeal.main_arg1))
      ∧ r.2.sem = fun _ => 0)

def quiescent_MemoryGrad [hMemoryGrad : Cert.MemoryGrad.Facts] : Prop :=
  ∀ (m : (ℓ : Loc Cert.MemoryGrad.nD Cert.MemoryGrad.τ Cert.MemoryGrad.sig) → Buf (Elt Bits) ℓ) (g : Dev Cert.MemoryGrad.nD → PrngReg), Pre_MemoryGrad m →
    θ_run (Cert.MemoryGrad.defs (F := Bits)) (onTc (τ := Cert.MemoryGrad.τ) (Cert.MemoryGrad.main (F := Bits))) ⟨m, fun _ => 0, g⟩ (fun r => (∀ c : Dev Cert.MemoryGrad.nD,
      r.2.mem ((c.tc : Thread Cert.MemoryGrad.nD Cert.MemoryGrad.τ).loc Cert.MemoryGrad.main_arg0) = m ((c.tc : Thread Cert.MemoryGrad.nD Cert.MemoryGrad.τ).loc Cert.MemoryGrad.main_arg0)
      ∧ r.2.mem ((c.tc : Thread Cert.MemoryGrad.nD Cert.MemoryGrad.τ).loc Cert.MemoryGrad.main_arg1) = m ((c.tc : Thread Cert.MemoryGrad.nD Cert.MemoryGrad.τ).loc Cert.MemoryGrad.main_arg1))
      ∧ r.2.sem = fun _ => 0)

def quiescent_MemoryGradIdeal [hMemoryGradIdeal : Cert.MemoryGradIdeal.Facts] : Prop :=
  ∀ (m : (ℓ : Loc Cert.MemoryGradIdeal.nD Cert.MemoryGradIdeal.τ Cert.MemoryGradIdeal.sig) → Buf (Elt Ideal) ℓ) (g : Dev Cert.MemoryGradIdeal.nD → PrngReg), Pre_MemoryGradIdeal m →
    θ_run (Cert.MemoryGradIdeal.defs (F := Ideal)) (onTc (τ := Cert.MemoryGradIdeal.τ) (Cert.MemoryGradIdeal.main (F := Ideal))) ⟨m, fun _ => 0, g⟩ (fun r => (∀ c : Dev Cert.MemoryGradIdeal.nD,
      r.2.mem ((c.tc : Thread Cert.MemoryGradIdeal.nD Cert.MemoryGradIdeal.τ).loc Cert.MemoryGradIdeal.main_arg0) = m ((c.tc : Thread Cert.MemoryGradIdeal.nD Cert.MemoryGradIdeal.τ).loc Cert.MemoryGradIdeal.main_arg0)
      ∧ r.2.mem ((c.tc : Thread Cert.MemoryGradIdeal.nD Cert.MemoryGradIdeal.τ).loc Cert.MemoryGradIdeal.main_arg1) = m ((c.tc : Thread Cert.MemoryGradIdeal.nD Cert.MemoryGradIdeal.τ).loc Cert.MemoryGradIdeal.main_arg1))
      ∧ r.2.sem = fun _ => 0)

def quiescent_MemoryGradReferenceIdeal [hMemoryGradReferenceIdeal : Cert.MemoryGradReferenceIdeal.Facts] : Prop :=
  ∀ (m : (ℓ : Loc Cert.MemoryGradReferenceIdeal.nD Cert.MemoryGradReferenceIdeal.τ Cert.MemoryGradReferenceIdeal.sig) → Buf (Elt Ideal) ℓ) (g : Dev Cert.MemoryGradReferenceIdeal.nD → PrngReg), Pre_MemoryGradReferenceIdeal m →
    θ_run (Cert.MemoryGradReferenceIdeal.defs (F := Ideal)) (onTc (τ := Cert.MemoryGradReferenceIdeal.τ) (Cert.MemoryGradReferenceIdeal.main (F := Ideal))) ⟨m, fun _ => 0, g⟩ (fun r => (∀ c : Dev Cert.MemoryGradReferenceIdeal.nD,
      r.2.mem ((c.tc : Thread Cert.MemoryGradReferenceIdeal.nD Cert.MemoryGradReferenceIdeal.τ).loc Cert.MemoryGradReferenceIdeal.main_arg0) = m ((c.tc : Thread Cert.MemoryGradReferenceIdeal.nD Cert.MemoryGradReferenceIdeal.τ).loc Cert.MemoryGradReferenceIdeal.main_arg0)
      ∧ r.2.mem ((c.tc : Thread Cert.MemoryGradReferenceIdeal.nD Cert.MemoryGradReferenceIdeal.τ).loc Cert.MemoryGradReferenceIdeal.main_arg1) = m ((c.tc : Thread Cert.MemoryGradReferenceIdeal.nD Cert.MemoryGradReferenceIdeal.τ).loc Cert.MemoryGradReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_NormTwo [hNormTwo : Cert.NormTwo.Facts] : Prop :=
  ∀ (m : (ℓ : Loc Cert.NormTwo.nD Cert.NormTwo.τ Cert.NormTwo.sig) → Buf (Elt Bits) ℓ) (g : Dev Cert.NormTwo.nD → PrngReg), Pre_NormTwo m →
    θ_run (Cert.NormTwo.defs (F := Bits)) (onTc (τ := Cert.NormTwo.τ) (Cert.NormTwo.main (F := Bits))) ⟨m, fun _ => 0, g⟩ (fun r => (∀ c : Dev Cert.NormTwo.nD,
      r.2.mem ((c.tc : Thread Cert.NormTwo.nD Cert.NormTwo.τ).loc Cert.NormTwo.main_arg0) = m ((c.tc : Thread Cert.NormTwo.nD Cert.NormTwo.τ).loc Cert.NormTwo.main_arg0)
      ∧ r.2.mem ((c.tc : Thread Cert.NormTwo.nD Cert.NormTwo.τ).loc Cert.NormTwo.main_arg1) = m ((c.tc : Thread Cert.NormTwo.nD Cert.NormTwo.τ).loc Cert.NormTwo.main_arg1)
      ∧ r.2.mem ((c.tc : Thread Cert.NormTwo.nD Cert.NormTwo.τ).loc Cert.NormTwo.main_arg2) = m ((c.tc : Thread Cert.NormTwo.nD Cert.NormTwo.τ).loc Cert.NormTwo.main_arg2))
      ∧ r.2.sem = fun _ => 0)

def quiescent_NormTwoIdeal [hNormTwoIdeal : Cert.NormTwoIdeal.Facts] : Prop :=
  ∀ (m : (ℓ : Loc Cert.NormTwoIdeal.nD Cert.NormTwoIdeal.τ Cert.NormTwoIdeal.sig) → Buf (Elt Ideal) ℓ) (g : Dev Cert.NormTwoIdeal.nD → PrngReg), Pre_NormTwoIdeal m →
    θ_run (Cert.NormTwoIdeal.defs (F := Ideal)) (onTc (τ := Cert.NormTwoIdeal.τ) (Cert.NormTwoIdeal.main (F := Ideal))) ⟨m, fun _ => 0, g⟩ (fun r => (∀ c : Dev Cert.NormTwoIdeal.nD,
      r.2.mem ((c.tc : Thread Cert.NormTwoIdeal.nD Cert.NormTwoIdeal.τ).loc Cert.NormTwoIdeal.main_arg0) = m ((c.tc : Thread Cert.NormTwoIdeal.nD Cert.NormTwoIdeal.τ).loc Cert.NormTwoIdeal.main_arg0)
      ∧ r.2.mem ((c.tc : Thread Cert.NormTwoIdeal.nD Cert.NormTwoIdeal.τ).loc Cert.NormTwoIdeal.main_arg1) = m ((c.tc : Thread Cert.NormTwoIdeal.nD Cert.NormTwoIdeal.τ).loc Cert.NormTwoIdeal.main_arg1)
      ∧ r.2.mem ((c.tc : Thread Cert.NormTwoIdeal.nD Cert.NormTwoIdeal.τ).loc Cert.NormTwoIdeal.main_arg2) = m ((c.tc : Thread Cert.NormTwoIdeal.nD Cert.NormTwoIdeal.τ).loc Cert.NormTwoIdeal.main_arg2))
      ∧ r.2.sem = fun _ => 0)

def quiescent_NormTwoReferenceIdeal [hNormTwoReferenceIdeal : Cert.NormTwoReferenceIdeal.Facts] : Prop :=
  ∀ (m : (ℓ : Loc Cert.NormTwoReferenceIdeal.nD Cert.NormTwoReferenceIdeal.τ Cert.NormTwoReferenceIdeal.sig) → Buf (Elt Ideal) ℓ) (g : Dev Cert.NormTwoReferenceIdeal.nD → PrngReg), Pre_NormTwoReferenceIdeal m →
    θ_run (Cert.NormTwoReferenceIdeal.defs (F := Ideal)) (onTc (τ := Cert.NormTwoReferenceIdeal.τ) (Cert.NormTwoReferenceIdeal.main (F := Ideal))) ⟨m, fun _ => 0, g⟩ (fun r => (∀ c : Dev Cert.NormTwoReferenceIdeal.nD,
      r.2.mem ((c.tc : Thread Cert.NormTwoReferenceIdeal.nD Cert.NormTwoReferenceIdeal.τ).loc Cert.NormTwoReferenceIdeal.main_arg0) = m ((c.tc : Thread Cert.NormTwoReferenceIdeal.nD Cert.NormTwoReferenceIdeal.τ).loc Cert.NormTwoReferenceIdeal.main_arg0)
      ∧ r.2.mem ((c.tc : Thread Cert.NormTwoReferenceIdeal.nD Cert.NormTwoReferenceIdeal.τ).loc Cert.NormTwoReferenceIdeal.main_arg1) = m ((c.tc : Thread Cert.NormTwoReferenceIdeal.nD Cert.NormTwoReferenceIdeal.τ).loc Cert.NormTwoReferenceIdeal.main_arg1)
      ∧ r.2.mem ((c.tc : Thread Cert.NormTwoReferenceIdeal.nD Cert.NormTwoReferenceIdeal.τ).loc Cert.NormTwoReferenceIdeal.main_arg2) = m ((c.tc : Thread Cert.NormTwoReferenceIdeal.nD Cert.NormTwoReferenceIdeal.τ).loc Cert.NormTwoReferenceIdeal.main_arg2))
      ∧ r.2.sem = fun _ => 0)

def quiescent_NormMemory [hNormMemory : Cert.NormMemory.Facts] : Prop :=
  ∀ (m : (ℓ : Loc Cert.NormMemory.nD Cert.NormMemory.τ Cert.NormMemory.sig) → Buf (Elt Bits) ℓ) (g : Dev Cert.NormMemory.nD → PrngReg), Pre_NormMemory m →
    θ_run (Cert.NormMemory.defs (F := Bits)) (onTc (τ := Cert.NormMemory.τ) (Cert.NormMemory.main (F := Bits))) ⟨m, fun _ => 0, g⟩ (fun r => (∀ c : Dev Cert.NormMemory.nD,
      r.2.mem ((c.tc : Thread Cert.NormMemory.nD Cert.NormMemory.τ).loc Cert.NormMemory.main_arg0) = m ((c.tc : Thread Cert.NormMemory.nD Cert.NormMemory.τ).loc Cert.NormMemory.main_arg0)
      ∧ r.2.mem ((c.tc : Thread Cert.NormMemory.nD Cert.NormMemory.τ).loc Cert.NormMemory.main_arg1) = m ((c.tc : Thread Cert.NormMemory.nD Cert.NormMemory.τ).loc Cert.NormMemory.main_arg1))
      ∧ r.2.sem = fun _ => 0)

def quiescent_NormMemoryIdeal [hNormMemoryIdeal : Cert.NormMemoryIdeal.Facts] : Prop :=
  ∀ (m : (ℓ : Loc Cert.NormMemoryIdeal.nD Cert.NormMemoryIdeal.τ Cert.NormMemoryIdeal.sig) → Buf (Elt Ideal) ℓ) (g : Dev Cert.NormMemoryIdeal.nD → PrngReg), Pre_NormMemoryIdeal m →
    θ_run (Cert.NormMemoryIdeal.defs (F := Ideal)) (onTc (τ := Cert.NormMemoryIdeal.τ) (Cert.NormMemoryIdeal.main (F := Ideal))) ⟨m, fun _ => 0, g⟩ (fun r => (∀ c : Dev Cert.NormMemoryIdeal.nD,
      r.2.mem ((c.tc : Thread Cert.NormMemoryIdeal.nD Cert.NormMemoryIdeal.τ).loc Cert.NormMemoryIdeal.main_arg0) = m ((c.tc : Thread Cert.NormMemoryIdeal.nD Cert.NormMemoryIdeal.τ).loc Cert.NormMemoryIdeal.main_arg0)
      ∧ r.2.mem ((c.tc : Thread Cert.NormMemoryIdeal.nD Cert.NormMemoryIdeal.τ).loc Cert.NormMemoryIdeal.main_arg1) = m ((c.tc : Thread Cert.NormMemoryIdeal.nD Cert.NormMemoryIdeal.τ).loc Cert.NormMemoryIdeal.main_arg1))
      ∧ r.2.sem = fun _ => 0)

def quiescent_NormMemoryReferenceIdeal [hNormMemoryReferenceIdeal : Cert.NormMemoryReferenceIdeal.Facts] : Prop :=
  ∀ (m : (ℓ : Loc Cert.NormMemoryReferenceIdeal.nD Cert.NormMemoryReferenceIdeal.τ Cert.NormMemoryReferenceIdeal.sig) → Buf (Elt Ideal) ℓ) (g : Dev Cert.NormMemoryReferenceIdeal.nD → PrngReg), Pre_NormMemoryReferenceIdeal m →
    θ_run (Cert.NormMemoryReferenceIdeal.defs (F := Ideal)) (onTc (τ := Cert.NormMemoryReferenceIdeal.τ) (Cert.NormMemoryReferenceIdeal.main (F := Ideal))) ⟨m, fun _ => 0, g⟩ (fun r => (∀ c : Dev Cert.NormMemoryReferenceIdeal.nD,
      r.2.mem ((c.tc : Thread Cert.NormMemoryReferenceIdeal.nD Cert.NormMemoryReferenceIdeal.τ).loc Cert.NormMemoryReferenceIdeal.main_arg0) = m ((c.tc : Thread Cert.NormMemoryReferenceIdeal.nD Cert.NormMemoryReferenceIdeal.τ).loc Cert.NormMemoryReferenceIdeal.main_arg0)
      ∧ r.2.mem ((c.tc : Thread Cert.NormMemoryReferenceIdeal.nD Cert.NormMemoryReferenceIdeal.τ).loc Cert.NormMemoryReferenceIdeal.main_arg1) = m ((c.tc : Thread Cert.NormMemoryReferenceIdeal.nD Cert.NormMemoryReferenceIdeal.τ).loc Cert.NormMemoryReferenceIdeal.main_arg1))
      ∧ r.2.sem = fun _ => 0)

def quiescent_AdamInput [hAdamInput : Cert.AdamInput.Facts] : Prop :=
  ∀ (m : (ℓ : Loc Cert.AdamInput.nD Cert.AdamInput.τ Cert.AdamInput.sig) → Buf (Elt Bits) ℓ) (g : Dev Cert.AdamInput.nD → PrngReg), Pre_AdamInput m →
    θ_run (Cert.AdamInput.defs (F := Bits)) (onTc (τ := Cert.AdamInput.τ) (Cert.AdamInput.main (F := Bits))) ⟨m, fun _ => 0, g⟩ (fun r => (∀ c : Dev Cert.AdamInput.nD,
      r.2.mem ((c.tc : Thread Cert.AdamInput.nD Cert.AdamInput.τ).loc Cert.AdamInput.main_arg0) = m ((c.tc : Thread Cert.AdamInput.nD Cert.AdamInput.τ).loc Cert.AdamInput.main_arg0)
      ∧ r.2.mem ((c.tc : Thread Cert.AdamInput.nD Cert.AdamInput.τ).loc Cert.AdamInput.main_arg1) = m ((c.tc : Thread Cert.AdamInput.nD Cert.AdamInput.τ).loc Cert.AdamInput.main_arg1)
      ∧ r.2.mem ((c.tc : Thread Cert.AdamInput.nD Cert.AdamInput.τ).loc Cert.AdamInput.main_arg2) = m ((c.tc : Thread Cert.AdamInput.nD Cert.AdamInput.τ).loc Cert.AdamInput.main_arg2)
      ∧ r.2.mem ((c.tc : Thread Cert.AdamInput.nD Cert.AdamInput.τ).loc Cert.AdamInput.main_arg3) = m ((c.tc : Thread Cert.AdamInput.nD Cert.AdamInput.τ).loc Cert.AdamInput.main_arg3))
      ∧ r.2.sem = fun _ => 0)

def quiescent_AdamInputIdeal [hAdamInputIdeal : Cert.AdamInputIdeal.Facts] : Prop :=
  ∀ (m : (ℓ : Loc Cert.AdamInputIdeal.nD Cert.AdamInputIdeal.τ Cert.AdamInputIdeal.sig) → Buf (Elt Ideal) ℓ) (g : Dev Cert.AdamInputIdeal.nD → PrngReg), Pre_AdamInputIdeal m →
    θ_run (Cert.AdamInputIdeal.defs (F := Ideal)) (onTc (τ := Cert.AdamInputIdeal.τ) (Cert.AdamInputIdeal.main (F := Ideal))) ⟨m, fun _ => 0, g⟩ (fun r => (∀ c : Dev Cert.AdamInputIdeal.nD,
      r.2.mem ((c.tc : Thread Cert.AdamInputIdeal.nD Cert.AdamInputIdeal.τ).loc Cert.AdamInputIdeal.main_arg0) = m ((c.tc : Thread Cert.AdamInputIdeal.nD Cert.AdamInputIdeal.τ).loc Cert.AdamInputIdeal.main_arg0)
      ∧ r.2.mem ((c.tc : Thread Cert.AdamInputIdeal.nD Cert.AdamInputIdeal.τ).loc Cert.AdamInputIdeal.main_arg1) = m ((c.tc : Thread Cert.AdamInputIdeal.nD Cert.AdamInputIdeal.τ).loc Cert.AdamInputIdeal.main_arg1)
      ∧ r.2.mem ((c.tc : Thread Cert.AdamInputIdeal.nD Cert.AdamInputIdeal.τ).loc Cert.AdamInputIdeal.main_arg2) = m ((c.tc : Thread Cert.AdamInputIdeal.nD Cert.AdamInputIdeal.τ).loc Cert.AdamInputIdeal.main_arg2)
      ∧ r.2.mem ((c.tc : Thread Cert.AdamInputIdeal.nD Cert.AdamInputIdeal.τ).loc Cert.AdamInputIdeal.main_arg3) = m ((c.tc : Thread Cert.AdamInputIdeal.nD Cert.AdamInputIdeal.τ).loc Cert.AdamInputIdeal.main_arg3))
      ∧ r.2.sem = fun _ => 0)

def quiescent_AdamInputReferenceIdeal [hAdamInputReferenceIdeal : Cert.AdamInputReferenceIdeal.Facts] : Prop :=
  ∀ (m : (ℓ : Loc Cert.AdamInputReferenceIdeal.nD Cert.AdamInputReferenceIdeal.τ Cert.AdamInputReferenceIdeal.sig) → Buf (Elt Ideal) ℓ) (g : Dev Cert.AdamInputReferenceIdeal.nD → PrngReg), Pre_AdamInputReferenceIdeal m →
    θ_run (Cert.AdamInputReferenceIdeal.defs (F := Ideal)) (onTc (τ := Cert.AdamInputReferenceIdeal.τ) (Cert.AdamInputReferenceIdeal.main (F := Ideal))) ⟨m, fun _ => 0, g⟩ (fun r => (∀ c : Dev Cert.AdamInputReferenceIdeal.nD,
      r.2.mem ((c.tc : Thread Cert.AdamInputReferenceIdeal.nD Cert.AdamInputReferenceIdeal.τ).loc Cert.AdamInputReferenceIdeal.main_arg0) = m ((c.tc : Thread Cert.AdamInputReferenceIdeal.nD Cert.AdamInputReferenceIdeal.τ).loc Cert.AdamInputReferenceIdeal.main_arg0)
      ∧ r.2.mem ((c.tc : Thread Cert.AdamInputReferenceIdeal.nD Cert.AdamInputReferenceIdeal.τ).loc Cert.AdamInputReferenceIdeal.main_arg1) = m ((c.tc : Thread Cert.AdamInputReferenceIdeal.nD Cert.AdamInputReferenceIdeal.τ).loc Cert.AdamInputReferenceIdeal.main_arg1)
      ∧ r.2.mem ((c.tc : Thread Cert.AdamInputReferenceIdeal.nD Cert.AdamInputReferenceIdeal.τ).loc Cert.AdamInputReferenceIdeal.main_arg2) = m ((c.tc : Thread Cert.AdamInputReferenceIdeal.nD Cert.AdamInputReferenceIdeal.τ).loc Cert.AdamInputReferenceIdeal.main_arg2)
      ∧ r.2.mem ((c.tc : Thread Cert.AdamInputReferenceIdeal.nD Cert.AdamInputReferenceIdeal.τ).loc Cert.AdamInputReferenceIdeal.main_arg3) = m ((c.tc : Thread Cert.AdamInputReferenceIdeal.nD Cert.AdamInputReferenceIdeal.τ).loc Cert.AdamInputReferenceIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareReferenceIdeal [hAdamSquareReferenceIdeal : Cert.AdamSquareReferenceIdeal.Facts] : Prop :=
  ∀ (m : (ℓ : Loc Cert.AdamSquareReferenceIdeal.nD Cert.AdamSquareReferenceIdeal.τ Cert.AdamSquareReferenceIdeal.sig) → Buf (Elt Ideal) ℓ) (g : Dev Cert.AdamSquareReferenceIdeal.nD → PrngReg), Pre_AdamSquareReferenceIdeal m →
    θ_run (Cert.AdamSquareReferenceIdeal.defs (F := Ideal)) (onTc (τ := Cert.AdamSquareReferenceIdeal.τ) (Cert.AdamSquareReferenceIdeal.main (F := Ideal))) ⟨m, fun _ => 0, g⟩ (fun r => (∀ c : Dev Cert.AdamSquareReferenceIdeal.nD,
      r.2.mem ((c.tc : Thread Cert.AdamSquareReferenceIdeal.nD Cert.AdamSquareReferenceIdeal.τ).loc Cert.AdamSquareReferenceIdeal.main_arg0) = m ((c.tc : Thread Cert.AdamSquareReferenceIdeal.nD Cert.AdamSquareReferenceIdeal.τ).loc Cert.AdamSquareReferenceIdeal.main_arg0)
      ∧ r.2.mem ((c.tc : Thread Cert.AdamSquareReferenceIdeal.nD Cert.AdamSquareReferenceIdeal.τ).loc Cert.AdamSquareReferenceIdeal.main_arg1) = m ((c.tc : Thread Cert.AdamSquareReferenceIdeal.nD Cert.AdamSquareReferenceIdeal.τ).loc Cert.AdamSquareReferenceIdeal.main_arg1)
      ∧ r.2.mem ((c.tc : Thread Cert.AdamSquareReferenceIdeal.nD Cert.AdamSquareReferenceIdeal.τ).loc Cert.AdamSquareReferenceIdeal.main_arg2) = m ((c.tc : Thread Cert.AdamSquareReferenceIdeal.nD Cert.AdamSquareReferenceIdeal.τ).loc Cert.AdamSquareReferenceIdeal.main_arg2)
      ∧ r.2.mem ((c.tc : Thread Cert.AdamSquareReferenceIdeal.nD Cert.AdamSquareReferenceIdeal.τ).loc Cert.AdamSquareReferenceIdeal.main_arg3) = m ((c.tc : Thread Cert.AdamSquareReferenceIdeal.nD Cert.AdamSquareReferenceIdeal.τ).loc Cert.AdamSquareReferenceIdeal.main_arg3))
      ∧ r.2.sem = fun _ => 0)

def quiescent_AdamMemory [hAdamMemory : Cert.AdamMemory.Facts] : Prop :=
  ∀ (m : (ℓ : Loc Cert.AdamMemory.nD Cert.AdamMemory.τ Cert.AdamMemory.sig) → Buf (Elt Bits) ℓ) (g : Dev Cert.AdamMemory.nD → PrngReg), Pre_AdamMemory m →
    θ_run (Cert.AdamMemory.defs (F := Bits)) (onTc (τ := Cert.AdamMemory.τ) (Cert.AdamMemory.main (F := Bits))) ⟨m, fun _ => 0, g⟩ (fun r => (∀ c : Dev Cert.AdamMemory.nD,
      r.2.mem ((c.tc : Thread Cert.AdamMemory.nD Cert.AdamMemory.τ).loc Cert.AdamMemory.main_arg0) = m ((c.tc : Thread Cert.AdamMemory.nD Cert.AdamMemory.τ).loc Cert.AdamMemory.main_arg0)
      ∧ r.2.mem ((c.tc : Thread Cert.AdamMemory.nD Cert.AdamMemory.τ).loc Cert.AdamMemory.main_arg1) = m ((c.tc : Thread Cert.AdamMemory.nD Cert.AdamMemory.τ).loc Cert.AdamMemory.main_arg1)
      ∧ r.2.mem ((c.tc : Thread Cert.AdamMemory.nD Cert.AdamMemory.τ).loc Cert.AdamMemory.main_arg2) = m ((c.tc : Thread Cert.AdamMemory.nD Cert.AdamMemory.τ).loc Cert.AdamMemory.main_arg2)
      ∧ r.2.mem ((c.tc : Thread Cert.AdamMemory.nD Cert.AdamMemory.τ).loc Cert.AdamMemory.main_arg3) = m ((c.tc : Thread Cert.AdamMemory.nD Cert.AdamMemory.τ).loc Cert.AdamMemory.main_arg3))
      ∧ r.2.sem = fun _ => 0)

def quiescent_AdamMemoryIdeal [hAdamMemoryIdeal : Cert.AdamMemoryIdeal.Facts] : Prop :=
  ∀ (m : (ℓ : Loc Cert.AdamMemoryIdeal.nD Cert.AdamMemoryIdeal.τ Cert.AdamMemoryIdeal.sig) → Buf (Elt Ideal) ℓ) (g : Dev Cert.AdamMemoryIdeal.nD → PrngReg), Pre_AdamMemoryIdeal m →
    θ_run (Cert.AdamMemoryIdeal.defs (F := Ideal)) (onTc (τ := Cert.AdamMemoryIdeal.τ) (Cert.AdamMemoryIdeal.main (F := Ideal))) ⟨m, fun _ => 0, g⟩ (fun r => (∀ c : Dev Cert.AdamMemoryIdeal.nD,
      r.2.mem ((c.tc : Thread Cert.AdamMemoryIdeal.nD Cert.AdamMemoryIdeal.τ).loc Cert.AdamMemoryIdeal.main_arg0) = m ((c.tc : Thread Cert.AdamMemoryIdeal.nD Cert.AdamMemoryIdeal.τ).loc Cert.AdamMemoryIdeal.main_arg0)
      ∧ r.2.mem ((c.tc : Thread Cert.AdamMemoryIdeal.nD Cert.AdamMemoryIdeal.τ).loc Cert.AdamMemoryIdeal.main_arg1) = m ((c.tc : Thread Cert.AdamMemoryIdeal.nD Cert.AdamMemoryIdeal.τ).loc Cert.AdamMemoryIdeal.main_arg1)
      ∧ r.2.mem ((c.tc : Thread Cert.AdamMemoryIdeal.nD Cert.AdamMemoryIdeal.τ).loc Cert.AdamMemoryIdeal.main_arg2) = m ((c.tc : Thread Cert.AdamMemoryIdeal.nD Cert.AdamMemoryIdeal.τ).loc Cert.AdamMemoryIdeal.main_arg2)
      ∧ r.2.mem ((c.tc : Thread Cert.AdamMemoryIdeal.nD Cert.AdamMemoryIdeal.τ).loc Cert.AdamMemoryIdeal.main_arg3) = m ((c.tc : Thread Cert.AdamMemoryIdeal.nD Cert.AdamMemoryIdeal.τ).loc Cert.AdamMemoryIdeal.main_arg3))
      ∧ r.2.sem = fun _ => 0)

def quiescent_AdamMemoryReferenceIdeal [hAdamMemoryReferenceIdeal : Cert.AdamMemoryReferenceIdeal.Facts] : Prop :=
  ∀ (m : (ℓ : Loc Cert.AdamMemoryReferenceIdeal.nD Cert.AdamMemoryReferenceIdeal.τ Cert.AdamMemoryReferenceIdeal.sig) → Buf (Elt Ideal) ℓ) (g : Dev Cert.AdamMemoryReferenceIdeal.nD → PrngReg), Pre_AdamMemoryReferenceIdeal m →
    θ_run (Cert.AdamMemoryReferenceIdeal.defs (F := Ideal)) (onTc (τ := Cert.AdamMemoryReferenceIdeal.τ) (Cert.AdamMemoryReferenceIdeal.main (F := Ideal))) ⟨m, fun _ => 0, g⟩ (fun r => (∀ c : Dev Cert.AdamMemoryReferenceIdeal.nD,
      r.2.mem ((c.tc : Thread Cert.AdamMemoryReferenceIdeal.nD Cert.AdamMemoryReferenceIdeal.τ).loc Cert.AdamMemoryReferenceIdeal.main_arg0) = m ((c.tc : Thread Cert.AdamMemoryReferenceIdeal.nD Cert.AdamMemoryReferenceIdeal.τ).loc Cert.AdamMemoryReferenceIdeal.main_arg0)
      ∧ r.2.mem ((c.tc : Thread Cert.AdamMemoryReferenceIdeal.nD Cert.AdamMemoryReferenceIdeal.τ).loc Cert.AdamMemoryReferenceIdeal.main_arg1) = m ((c.tc : Thread Cert.AdamMemoryReferenceIdeal.nD Cert.AdamMemoryReferenceIdeal.τ).loc Cert.AdamMemoryReferenceIdeal.main_arg1)
      ∧ r.2.mem ((c.tc : Thread Cert.AdamMemoryReferenceIdeal.nD Cert.AdamMemoryReferenceIdeal.τ).loc Cert.AdamMemoryReferenceIdeal.main_arg2) = m ((c.tc : Thread Cert.AdamMemoryReferenceIdeal.nD Cert.AdamMemoryReferenceIdeal.τ).loc Cert.AdamMemoryReferenceIdeal.main_arg2)
      ∧ r.2.mem ((c.tc : Thread Cert.AdamMemoryReferenceIdeal.nD Cert.AdamMemoryReferenceIdeal.τ).loc Cert.AdamMemoryReferenceIdeal.main_arg3) = m ((c.tc : Thread Cert.AdamMemoryReferenceIdeal.nD Cert.AdamMemoryReferenceIdeal.τ).loc Cert.AdamMemoryReferenceIdeal.main_arg3))
      ∧ r.2.sem = fun _ => 0)

def quiescent_AdamShared [hAdamShared : Cert.AdamShared.Facts] : Prop :=
  ∀ (m : (ℓ : Loc Cert.AdamShared.nD Cert.AdamShared.τ Cert.AdamShared.sig) → Buf (Elt Bits) ℓ) (g : Dev Cert.AdamShared.nD → PrngReg), Pre_AdamShared m →
    θ_run (Cert.AdamShared.defs (F := Bits)) (onTc (τ := Cert.AdamShared.τ) (Cert.AdamShared.main (F := Bits))) ⟨m, fun _ => 0, g⟩ (fun r => (∀ c : Dev Cert.AdamShared.nD,
      r.2.mem ((c.tc : Thread Cert.AdamShared.nD Cert.AdamShared.τ).loc Cert.AdamShared.main_arg0) = m ((c.tc : Thread Cert.AdamShared.nD Cert.AdamShared.τ).loc Cert.AdamShared.main_arg0)
      ∧ r.2.mem ((c.tc : Thread Cert.AdamShared.nD Cert.AdamShared.τ).loc Cert.AdamShared.main_arg1) = m ((c.tc : Thread Cert.AdamShared.nD Cert.AdamShared.τ).loc Cert.AdamShared.main_arg1)
      ∧ r.2.mem ((c.tc : Thread Cert.AdamShared.nD Cert.AdamShared.τ).loc Cert.AdamShared.main_arg2) = m ((c.tc : Thread Cert.AdamShared.nD Cert.AdamShared.τ).loc Cert.AdamShared.main_arg2)
      ∧ r.2.mem ((c.tc : Thread Cert.AdamShared.nD Cert.AdamShared.τ).loc Cert.AdamShared.main_arg3) = m ((c.tc : Thread Cert.AdamShared.nD Cert.AdamShared.τ).loc Cert.AdamShared.main_arg3))
      ∧ r.2.sem = fun _ => 0)

def quiescent_AdamSharedIdeal [hAdamSharedIdeal : Cert.AdamSharedIdeal.Facts] : Prop :=
  ∀ (m : (ℓ : Loc Cert.AdamSharedIdeal.nD Cert.AdamSharedIdeal.τ Cert.AdamSharedIdeal.sig) → Buf (Elt Ideal) ℓ) (g : Dev Cert.AdamSharedIdeal.nD → PrngReg), Pre_AdamSharedIdeal m →
    θ_run (Cert.AdamSharedIdeal.defs (F := Ideal)) (onTc (τ := Cert.AdamSharedIdeal.τ) (Cert.AdamSharedIdeal.main (F := Ideal))) ⟨m, fun _ => 0, g⟩ (fun r => (∀ c : Dev Cert.AdamSharedIdeal.nD,
      r.2.mem ((c.tc : Thread Cert.AdamSharedIdeal.nD Cert.AdamSharedIdeal.τ).loc Cert.AdamSharedIdeal.main_arg0) = m ((c.tc : Thread Cert.AdamSharedIdeal.nD Cert.AdamSharedIdeal.τ).loc Cert.AdamSharedIdeal.main_arg0)
      ∧ r.2.mem ((c.tc : Thread Cert.AdamSharedIdeal.nD Cert.AdamSharedIdeal.τ).loc Cert.AdamSharedIdeal.main_arg1) = m ((c.tc : Thread Cert.AdamSharedIdeal.nD Cert.AdamSharedIdeal.τ).loc Cert.AdamSharedIdeal.main_arg1)
      ∧ r.2.mem ((c.tc : Thread Cert.AdamSharedIdeal.nD Cert.AdamSharedIdeal.τ).loc Cert.AdamSharedIdeal.main_arg2) = m ((c.tc : Thread Cert.AdamSharedIdeal.nD Cert.AdamSharedIdeal.τ).loc Cert.AdamSharedIdeal.main_arg2)
      ∧ r.2.mem ((c.tc : Thread Cert.AdamSharedIdeal.nD Cert.AdamSharedIdeal.τ).loc Cert.AdamSharedIdeal.main_arg3) = m ((c.tc : Thread Cert.AdamSharedIdeal.nD Cert.AdamSharedIdeal.τ).loc Cert.AdamSharedIdeal.main_arg3))
      ∧ r.2.sem = fun _ => 0)

def quiescent_AdamSharedReferenceIdeal [hAdamSharedReferenceIdeal : Cert.AdamSharedReferenceIdeal.Facts] : Prop :=
  ∀ (m : (ℓ : Loc Cert.AdamSharedReferenceIdeal.nD Cert.AdamSharedReferenceIdeal.τ Cert.AdamSharedReferenceIdeal.sig) → Buf (Elt Ideal) ℓ) (g : Dev Cert.AdamSharedReferenceIdeal.nD → PrngReg), Pre_AdamSharedReferenceIdeal m →
    θ_run (Cert.AdamSharedReferenceIdeal.defs (F := Ideal)) (onTc (τ := Cert.AdamSharedReferenceIdeal.τ) (Cert.AdamSharedReferenceIdeal.main (F := Ideal))) ⟨m, fun _ => 0, g⟩ (fun r => (∀ c : Dev Cert.AdamSharedReferenceIdeal.nD,
      r.2.mem ((c.tc : Thread Cert.AdamSharedReferenceIdeal.nD Cert.AdamSharedReferenceIdeal.τ).loc Cert.AdamSharedReferenceIdeal.main_arg0) = m ((c.tc : Thread Cert.AdamSharedReferenceIdeal.nD Cert.AdamSharedReferenceIdeal.τ).loc Cert.AdamSharedReferenceIdeal.main_arg0)
      ∧ r.2.mem ((c.tc : Thread Cert.AdamSharedReferenceIdeal.nD Cert.AdamSharedReferenceIdeal.τ).loc Cert.AdamSharedReferenceIdeal.main_arg1) = m ((c.tc : Thread Cert.AdamSharedReferenceIdeal.nD Cert.AdamSharedReferenceIdeal.τ).loc Cert.AdamSharedReferenceIdeal.main_arg1)
      ∧ r.2.mem ((c.tc : Thread Cert.AdamSharedReferenceIdeal.nD Cert.AdamSharedReferenceIdeal.τ).loc Cert.AdamSharedReferenceIdeal.main_arg2) = m ((c.tc : Thread Cert.AdamSharedReferenceIdeal.nD Cert.AdamSharedReferenceIdeal.τ).loc Cert.AdamSharedReferenceIdeal.main_arg2)
      ∧ r.2.mem ((c.tc : Thread Cert.AdamSharedReferenceIdeal.nD Cert.AdamSharedReferenceIdeal.τ).loc Cert.AdamSharedReferenceIdeal.main_arg3) = m ((c.tc : Thread Cert.AdamSharedReferenceIdeal.nD Cert.AdamSharedReferenceIdeal.τ).loc Cert.AdamSharedReferenceIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_Middle [hMiddle : Cert.Middle.Facts] : Prop :=
  ∀ (m : (ℓ : Loc Cert.Middle.nD Cert.Middle.τ Cert.Middle.sig) → Buf (Elt Bits) ℓ) (g : Dev Cert.Middle.nD → PrngReg), Pre_Middle m →
    θ_run (Cert.Middle.defs (F := Bits)) (onTc (τ := Cert.Middle.τ) (Cert.Middle.main (F := Bits))) ⟨m, fun _ => 0, g⟩ (fun r => (∀ c : Dev Cert.Middle.nD,
      r.2.mem ((c.tc : Thread Cert.Middle.nD Cert.Middle.τ).loc Cert.Middle.main_arg0) = m ((c.tc : Thread Cert.Middle.nD Cert.Middle.τ).loc Cert.Middle.main_arg0)
      ∧ r.2.mem ((c.tc : Thread Cert.Middle.nD Cert.Middle.τ).loc Cert.Middle.main_arg1) = m ((c.tc : Thread Cert.Middle.nD Cert.Middle.τ).loc Cert.Middle.main_arg1))
      ∧ r.2.sem = fun _ => 0)

def quiescent_MiddleIdeal [hMiddleIdeal : Cert.MiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1))
      ∧ r.2.sem = fun _ => 0)

def quiescent_MiddleReferenceIdeal [hMiddleReferenceIdeal : Cert.MiddleReferenceIdeal.Facts] : Prop :=
  ∀ (m : (ℓ : Loc Cert.MiddleReferenceIdeal.nD Cert.MiddleReferenceIdeal.τ Cert.MiddleReferenceIdeal.sig) → Buf (Elt Ideal) ℓ) (g : Dev Cert.MiddleReferenceIdeal.nD → PrngReg), Pre_MiddleReferenceIdeal m →
    θ_run (Cert.MiddleReferenceIdeal.defs (F := Ideal)) (onTc (τ := Cert.MiddleReferenceIdeal.τ) (Cert.MiddleReferenceIdeal.main (F := Ideal))) ⟨m, fun _ => 0, g⟩ (fun r => (∀ c : Dev Cert.MiddleReferenceIdeal.nD,
      r.2.mem ((c.tc : Thread Cert.MiddleReferenceIdeal.nD Cert.MiddleReferenceIdeal.τ).loc Cert.MiddleReferenceIdeal.main_arg0) = m ((c.tc : Thread Cert.MiddleReferenceIdeal.nD Cert.MiddleReferenceIdeal.τ).loc Cert.MiddleReferenceIdeal.main_arg0)
      ∧ r.2.mem ((c.tc : Thread Cert.MiddleReferenceIdeal.nD Cert.MiddleReferenceIdeal.τ).loc Cert.MiddleReferenceIdeal.main_arg1) = m ((c.tc : Thread Cert.MiddleReferenceIdeal.nD Cert.MiddleReferenceIdeal.τ).loc Cert.MiddleReferenceIdeal.main_arg1))
      ∧ r.2.sem = fun _ => 0)

def quiescent_Gain [hGain : Cert.Gain.Facts] : Prop :=
  ∀ (m : (ℓ : Loc Cert.Gain.nD Cert.Gain.τ Cert.Gain.sig) → Buf (Elt Bits) ℓ) (g : Dev Cert.Gain.nD → PrngReg), Pre_Gain m →
    θ_run (Cert.Gain.defs (F := Bits)) (onTc (τ := Cert.Gain.τ) (Cert.Gain.main (F := Bits))) ⟨m, fun _ => 0, g⟩ (fun r => (∀ c : Dev Cert.Gain.nD,
      r.2.mem ((c.tc : Thread Cert.Gain.nD Cert.Gain.τ).loc Cert.Gain.main_arg0) = m ((c.tc : Thread Cert.Gain.nD Cert.Gain.τ).loc Cert.Gain.main_arg0)
      ∧ r.2.mem ((c.tc : Thread Cert.Gain.nD Cert.Gain.τ).loc Cert.Gain.main_arg1) = m ((c.tc : Thread Cert.Gain.nD Cert.Gain.τ).loc Cert.Gain.main_arg1)
      ∧ r.2.mem ((c.tc : Thread Cert.Gain.nD Cert.Gain.τ).loc Cert.Gain.main_arg2) = m ((c.tc : Thread Cert.Gain.nD Cert.Gain.τ).loc Cert.Gain.main_arg2)
      ∧ r.2.mem ((c.tc : Thread Cert.Gain.nD Cert.Gain.τ).loc Cert.Gain.main_arg3) = m ((c.tc : Thread Cert.Gain.nD Cert.Gain.τ).loc Cert.Gain.main_arg3))
      ∧ r.2.sem = fun _ => 0)

def quiescent_GainIdeal [hGainIdeal : Cert.GainIdeal.Facts] : Prop :=
  ∀ (m : (ℓ : Loc Cert.GainIdeal.nD Cert.GainIdeal.τ Cert.GainIdeal.sig) → Buf (Elt Ideal) ℓ) (g : Dev Cert.GainIdeal.nD → PrngReg), Pre_GainIdeal m →
    θ_run (Cert.GainIdeal.defs (F := Ideal)) (onTc (τ := Cert.GainIdeal.τ) (Cert.GainIdeal.main (F := Ideal))) ⟨m, fun _ => 0, g⟩ (fun r => (∀ c : Dev Cert.GainIdeal.nD,
      r.2.mem ((c.tc : Thread Cert.GainIdeal.nD Cert.GainIdeal.τ).loc Cert.GainIdeal.main_arg0) = m ((c.tc : Thread Cert.GainIdeal.nD Cert.GainIdeal.τ).loc Cert.GainIdeal.main_arg0)
      ∧ r.2.mem ((c.tc : Thread Cert.GainIdeal.nD Cert.GainIdeal.τ).loc Cert.GainIdeal.main_arg1) = m ((c.tc : Thread Cert.GainIdeal.nD Cert.GainIdeal.τ).loc Cert.GainIdeal.main_arg1)
      ∧ r.2.mem ((c.tc : Thread Cert.GainIdeal.nD Cert.GainIdeal.τ).loc Cert.GainIdeal.main_arg2) = m ((c.tc : Thread Cert.GainIdeal.nD Cert.GainIdeal.τ).loc Cert.GainIdeal.main_arg2)
      ∧ r.2.mem ((c.tc : Thread Cert.GainIdeal.nD Cert.GainIdeal.τ).loc Cert.GainIdeal.main_arg3) = m ((c.tc : Thread Cert.GainIdeal.nD Cert.GainIdeal.τ).loc Cert.GainIdeal.main_arg3))
      ∧ r.2.sem = fun _ => 0)

def quiescent_GainReferenceIdeal [hGainReferenceIdeal : Cert.GainReferenceIdeal.Facts] : Prop :=
  ∀ (m : (ℓ : Loc Cert.GainReferenceIdeal.nD Cert.GainReferenceIdeal.τ Cert.GainReferenceIdeal.sig) → Buf (Elt Ideal) ℓ) (g : Dev Cert.GainReferenceIdeal.nD → PrngReg), Pre_GainReferenceIdeal m →
    θ_run (Cert.GainReferenceIdeal.defs (F := Ideal)) (onTc (τ := Cert.GainReferenceIdeal.τ) (Cert.GainReferenceIdeal.main (F := Ideal))) ⟨m, fun _ => 0, g⟩ (fun r => (∀ c : Dev Cert.GainReferenceIdeal.nD,
      r.2.mem ((c.tc : Thread Cert.GainReferenceIdeal.nD Cert.GainReferenceIdeal.τ).loc Cert.GainReferenceIdeal.main_arg0) = m ((c.tc : Thread Cert.GainReferenceIdeal.nD Cert.GainReferenceIdeal.τ).loc Cert.GainReferenceIdeal.main_arg0)
      ∧ r.2.mem ((c.tc : Thread Cert.GainReferenceIdeal.nD Cert.GainReferenceIdeal.τ).loc Cert.GainReferenceIdeal.main_arg1) = m ((c.tc : Thread Cert.GainReferenceIdeal.nD Cert.GainReferenceIdeal.τ).loc Cert.GainReferenceIdeal.main_arg1)
      ∧ r.2.mem ((c.tc : Thread Cert.GainReferenceIdeal.nD Cert.GainReferenceIdeal.τ).loc Cert.GainReferenceIdeal.main_arg2) = m ((c.tc : Thread Cert.GainReferenceIdeal.nD Cert.GainReferenceIdeal.τ).loc Cert.GainReferenceIdeal.main_arg2)
      ∧ r.2.mem ((c.tc : Thread Cert.GainReferenceIdeal.nD Cert.GainReferenceIdeal.τ).loc Cert.GainReferenceIdeal.main_arg3) = m ((c.tc : Thread Cert.GainReferenceIdeal.nD Cert.GainReferenceIdeal.τ).loc Cert.GainReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)) →
    ∃ (v0 : (c : Dev Cert.HiddenIdeal.nD) → Buf (Elt Ideal) ((c.tc : Thread Cert.HiddenIdeal.nD Cert.HiddenIdeal.τ).loc Cert.HiddenIdeal.main_v0)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v0) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v4) = v0 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Wide_WideIdeal : Prop :=
  True

def algebraic_WideIdeal_WideReferenceIdeal [hWideIdeal : Cert.WideIdeal.Facts] [hWideReferenceIdeal : Cert.WideReferenceIdeal.Facts] : Prop :=
  ∀ (m : (ℓ : Loc Cert.WideIdeal.nD Cert.WideIdeal.τ Cert.WideIdeal.sig) → Buf (Elt Ideal) ℓ) (g : Dev Cert.WideIdeal.nD → PrngReg)
    (m' : (ℓ : Loc Cert.WideReferenceIdeal.nD Cert.WideReferenceIdeal.τ Cert.WideReferenceIdeal.sig) → Buf (Elt Ideal) ℓ) (g' : Dev Cert.WideReferenceIdeal.nD → PrngReg), Pre_WideIdeal m →
    (∀ c : Dev Cert.WideIdeal.nD,
      m' ((c.tc : Thread Cert.WideReferenceIdeal.nD Cert.WideReferenceIdeal.τ).loc Cert.WideReferenceIdeal.main_arg0) = m ((c.tc : Thread Cert.WideIdeal.nD Cert.WideIdeal.τ).loc Cert.WideIdeal.main_arg0)
      ∧ m' ((c.tc : Thread Cert.WideReferenceIdeal.nD Cert.WideReferenceIdeal.τ).loc Cert.WideReferenceIdeal.main_arg1) = m ((c.tc : Thread Cert.WideIdeal.nD Cert.WideIdeal.τ).loc Cert.WideIdeal.main_arg1)) →
    ∃ (v0 : (c : Dev Cert.WideIdeal.nD) → Buf (Elt Ideal) ((c.tc : Thread Cert.WideIdeal.nD Cert.WideIdeal.τ).loc Cert.WideIdeal.main_v0)),
      θ_run (Cert.WideIdeal.defs (F := Ideal)) (onTc (τ := Cert.WideIdeal.τ) (Cert.WideIdeal.main (F := Ideal))) ⟨m, fun _ => 0, g⟩ (fun r => ∀ c : Dev Cert.WideIdeal.nD,
          r.2.mem ((c.tc : Thread Cert.WideIdeal.nD Cert.WideIdeal.τ).loc Cert.WideIdeal.main_v0) = v0 c
          ∧ r.2.mem ((c.tc : Thread Cert.WideIdeal.nD Cert.WideIdeal.τ).loc Cert.WideIdeal.main_arg0) = m ((c.tc : Thread Cert.WideIdeal.nD Cert.WideIdeal.τ).loc Cert.WideIdeal.main_arg0)
          ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ θ_run (Cert.WideReferenceIdeal.defs (F := Ideal)) (onTc (τ := Cert.WideReferenceIdeal.τ) (Cert.WideReferenceIdeal.main (F := Ideal))) ⟨m', fun _ => 0, g'⟩ (fun r => ∀ c : Dev Cert.WideReferenceIdeal.nD,
          r.2.mem ((c.tc : Thread Cert.WideReferenceIdeal.nD Cert.WideReferenceIdeal.τ).loc Cert.WideReferenceIdeal.main_v6) = v0 c
          ∧ r.2.mem ((c.tc : Thread Cert.WideReferenceIdeal.nD Cert.WideReferenceIdeal.τ).loc Cert.WideReferenceIdeal.main_arg0) = m' ((c.tc : Thread Cert.WideReferenceIdeal.nD Cert.WideReferenceIdeal.τ).loc Cert.WideReferenceIdeal.main_arg0)
          ∧ r.2.mem ((c.tc : Thread Cert.WideReferenceIdeal.nD Cert.WideReferenceIdeal.τ).loc Cert.WideReferenceIdeal.main_arg1) = m' ((c.tc : Thread Cert.WideReferenceIdeal.nD Cert.WideReferenceIdeal.τ).loc Cert.WideReferenceIdeal.main_arg1))

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)) →
    ∃ (v0 : (c : Dev Cert.BackIdeal.nD) → Buf (Elt Ideal) ((c.tc : Thread Cert.BackIdeal.nD Cert.BackIdeal.τ).loc Cert.BackIdeal.main_v0)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v4) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1))

def preserves_Both_BothIdeal : Prop :=
  True

def algebraic_BothIdeal_BothReferenceIdeal [hBothIdeal : Cert.BothIdeal.Facts] [hBothReferenceIdeal : Cert.BothReferenceIdeal.Facts] : Prop :=
  ∀ (m : (ℓ : Loc Cert.BothIdeal.nD Cert.BothIdeal.τ Cert.BothIdeal.sig) → Buf (Elt Ideal) ℓ) (g : Dev Cert.BothIdeal.nD → PrngReg)
    (m' : (ℓ : Loc Cert.BothReferenceIdeal.nD Cert.BothReferenceIdeal.τ Cert.BothReferenceIdeal.sig) → Buf (Elt Ideal) ℓ) (g' : Dev Cert.BothReferenceIdeal.nD → PrngReg), Pre_BothIdeal m →
    (∀ c : Dev Cert.BothIdeal.nD,
      m' ((c.tc : Thread Cert.BothReferenceIdeal.nD Cert.BothReferenceIdeal.τ).loc Cert.BothReferenceIdeal.main_arg0) = m ((c.tc : Thread Cert.BothIdeal.nD Cert.BothIdeal.τ).loc Cert.BothIdeal.main_arg0)
      ∧ m' ((c.tc : Thread Cert.BothReferenceIdeal.nD Cert.BothReferenceIdeal.τ).loc Cert.BothReferenceIdeal.main_arg1) = m ((c.tc : Thread Cert.BothIdeal.nD Cert.BothIdeal.τ).loc Cert.BothIdeal.main_arg1)
      ∧ m' ((c.tc : Thread Cert.BothReferenceIdeal.nD Cert.BothReferenceIdeal.τ).loc Cert.BothReferenceIdeal.main_arg2) = m ((c.tc : Thread Cert.BothIdeal.nD Cert.BothIdeal.τ).loc Cert.BothIdeal.main_arg2)) →
    ∃ (v0 : (c : Dev Cert.BothIdeal.nD) → Buf (Elt Ideal) ((c.tc : Thread Cert.BothIdeal.nD Cert.BothIdeal.τ).loc Cert.BothIdeal.main_v0)),
      θ_run (Cert.BothIdeal.defs (F := Ideal)) (onTc (τ := Cert.BothIdeal.τ) (Cert.BothIdeal.main (F := Ideal))) ⟨m, fun _ => 0, g⟩ (fun r => ∀ c : Dev Cert.BothIdeal.nD,
          r.2.mem ((c.tc : Thread Cert.BothIdeal.nD Cert.BothIdeal.τ).loc Cert.BothIdeal.main_v0) = v0 c
          ∧ r.2.mem ((c.tc : Thread Cert.BothIdeal.nD Cert.BothIdeal.τ).loc Cert.BothIdeal.main_arg0) = m ((c.tc : Thread Cert.BothIdeal.nD Cert.BothIdeal.τ).loc Cert.BothIdeal.main_arg0)
          ∧ r.2.mem ((c.tc : Thread Cert.BothIdeal.nD Cert.BothIdeal.τ).loc Cert.BothIdeal.main_arg1) = m ((c.tc : Thread Cert.BothIdeal.nD Cert.BothIdeal.τ).loc Cert.BothIdeal.main_arg1)
          ∧ r.2.mem ((c.tc : Thread Cert.BothIdeal.nD Cert.BothIdeal.τ).loc Cert.BothIdeal.main_arg2) = m ((c.tc : Thread Cert.BothIdeal.nD Cert.BothIdeal.τ).loc Cert.BothIdeal.main_arg2))
      ∧ θ_run (Cert.BothReferenceIdeal.defs (F := Ideal)) (onTc (τ := Cert.BothReferenceIdeal.τ) (Cert.BothReferenceIdeal.main (F := Ideal))) ⟨m', fun _ => 0, g'⟩ (fun r => ∀ c : Dev Cert.BothReferenceIdeal.nD,
          r.2.mem ((c.tc : Thread Cert.BothReferenceIdeal.nD Cert.BothReferenceIdeal.τ).loc Cert.BothReferenceIdeal.main_v5) = v0 c
          ∧ r.2.mem ((c.tc : Thread Cert.BothReferenceIdeal.nD Cert.BothReferenceIdeal.τ).loc Cert.BothReferenceIdeal.main_arg0) = m' ((c.tc : Thread Cert.BothReferenceIdeal.nD Cert.BothReferenceIdeal.τ).loc Cert.BothReferenceIdeal.main_arg0)
          ∧ r.2.mem ((c.tc : Thread Cert.BothReferenceIdeal.nD Cert.BothReferenceIdeal.τ).loc Cert.BothReferenceIdeal.main_arg1) = m' ((c.tc : Thread Cert.BothReferenceIdeal.nD Cert.BothReferenceIdeal.τ).loc Cert.BothReferenceIdeal.main_arg1)
          ∧ r.2.mem ((c.tc : Thread Cert.BothReferenceIdeal.nD Cert.BothReferenceIdeal.τ).loc Cert.BothReferenceIdeal.main_arg2) = m' ((c.tc : Thread Cert.BothReferenceIdeal.nD Cert.BothReferenceIdeal.τ).loc Cert.BothReferenceIdeal.main_arg2))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v3) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_ProjectBack_ProjectBackIdeal : Prop :=
  True

def algebraic_ProjectBackIdeal_ProjectBackReferenceIdeal [hProjectBackIdeal : Cert.ProjectBackIdeal.Facts] [hProjectBackReferenceIdeal : Cert.ProjectBackReferenceIdeal.Facts] : Prop :=
  ∀ (m : (ℓ : Loc Cert.ProjectBackIdeal.nD Cert.ProjectBackIdeal.τ Cert.ProjectBackIdeal.sig) → Buf (Elt Ideal) ℓ) (g : Dev Cert.ProjectBackIdeal.nD → PrngReg)
    (m' : (ℓ : Loc Cert.ProjectBackReferenceIdeal.nD Cert.ProjectBackReferenceIdeal.τ Cert.ProjectBackReferenceIdeal.sig) → Buf (Elt Ideal) ℓ) (g' : Dev Cert.ProjectBackReferenceIdeal.nD → PrngReg), Pre_ProjectBackIdeal m →
    (∀ c : Dev Cert.ProjectBackIdeal.nD,
      m' ((c.tc : Thread Cert.ProjectBackReferenceIdeal.nD Cert.ProjectBackReferenceIdeal.τ).loc Cert.ProjectBackReferenceIdeal.main_arg0) = m ((c.tc : Thread Cert.ProjectBackIdeal.nD Cert.ProjectBackIdeal.τ).loc Cert.ProjectBackIdeal.main_arg0)
      ∧ m' ((c.tc : Thread Cert.ProjectBackReferenceIdeal.nD Cert.ProjectBackReferenceIdeal.τ).loc Cert.ProjectBackReferenceIdeal.main_arg1) = m ((c.tc : Thread Cert.ProjectBackIdeal.nD Cert.ProjectBackIdeal.τ).loc Cert.ProjectBackIdeal.main_arg1)) →
    ∃ (v0 : (c : Dev Cert.ProjectBackIdeal.nD) → Buf (Elt Ideal) ((c.tc : Thread Cert.ProjectBackIdeal.nD Cert.ProjectBackIdeal.τ).loc Cert.ProjectBackIdeal.main_v0)),
      θ_run (Cert.ProjectBackIdeal.defs (F := Ideal)) (onTc (τ := Cert.ProjectBackIdeal.τ) (Cert.ProjectBackIdeal.main (F := Ideal))) ⟨m, fun _ => 0, g⟩ (fun r => ∀ c : Dev Cert.ProjectBackIdeal.nD,
          r.2.mem ((c.tc : Thread Cert.ProjectBackIdeal.nD Cert.ProjectBackIdeal.τ).loc Cert.ProjectBackIdeal.main_v0) = v0 c
          ∧ r.2.mem ((c.tc : Thread Cert.ProjectBackIdeal.nD Cert.ProjectBackIdeal.τ).loc Cert.ProjectBackIdeal.main_arg0) = m ((c.tc : Thread Cert.ProjectBackIdeal.nD Cert.ProjectBackIdeal.τ).loc Cert.ProjectBackIdeal.main_arg0)
          ∧ r.2.mem ((c.tc : Thread Cert.ProjectBackIdeal.nD Cert.ProjectBackIdeal.τ).loc Cert.ProjectBackIdeal.main_arg1) = m ((c.tc : Thread Cert.ProjectBackIdeal.nD Cert.ProjectBackIdeal.τ).loc Cert.ProjectBackIdeal.main_arg1))
      ∧ θ_run (Cert.ProjectBackReferenceIdeal.defs (F := Ideal)) (onTc (τ := Cert.ProjectBackReferenceIdeal.τ) (Cert.ProjectBackReferenceIdeal.main (F := Ideal))) ⟨m', fun _ => 0, g'⟩ (fun r => ∀ c : Dev Cert.ProjectBackReferenceIdeal.nD,
          r.2.mem ((c.tc : Thread Cert.ProjectBackReferenceIdeal.nD Cert.ProjectBackReferenceIdeal.τ).loc Cert.ProjectBackReferenceIdeal.main_v4) = v0 c
          ∧ r.2.mem ((c.tc : Thread Cert.ProjectBackReferenceIdeal.nD Cert.ProjectBackReferenceIdeal.τ).loc Cert.ProjectBackReferenceIdeal.main_arg0) = m' ((c.tc : Thread Cert.ProjectBackReferenceIdeal.nD Cert.ProjectBackReferenceIdeal.τ).loc Cert.ProjectBackReferenceIdeal.main_arg0)
          ∧ r.2.mem ((c.tc : Thread Cert.ProjectBackReferenceIdeal.nD Cert.ProjectBackReferenceIdeal.τ).loc Cert.ProjectBackReferenceIdeal.main_arg1) = m' ((c.tc : Thread Cert.ProjectBackReferenceIdeal.nD Cert.ProjectBackReferenceIdeal.τ).loc Cert.ProjectBackReferenceIdeal.main_arg1))

def preserves_ProjectGrad_ProjectGradIdeal : Prop :=
  True

def algebraic_ProjectGradIdeal_ProjectGradReferenceIdeal [hProjectGradIdeal : Cert.ProjectGradIdeal.Facts] [hProjectGradReferenceIdeal : Cert.ProjectGradReferenceIdeal.Facts] : Prop :=
  ∀ (m : (ℓ : Loc Cert.ProjectGradIdeal.nD Cert.ProjectGradIdeal.τ Cert.ProjectGradIdeal.sig) → Buf (Elt Ideal) ℓ) (g : Dev Cert.ProjectGradIdeal.nD → PrngReg)
    (m' : (ℓ : Loc Cert.ProjectGradReferenceIdeal.nD Cert.ProjectGradReferenceIdeal.τ Cert.ProjectGradReferenceIdeal.sig) → Buf (Elt Ideal) ℓ) (g' : Dev Cert.ProjectGradReferenceIdeal.nD → PrngReg), Pre_ProjectGradIdeal m →
    (∀ c : Dev Cert.ProjectGradIdeal.nD,
      m' ((c.tc : Thread Cert.ProjectGradReferenceIdeal.nD Cert.ProjectGradReferenceIdeal.τ).loc Cert.ProjectGradReferenceIdeal.main_arg0) = m ((c.tc : Thread Cert.ProjectGradIdeal.nD Cert.ProjectGradIdeal.τ).loc Cert.ProjectGradIdeal.main_arg0)
      ∧ m' ((c.tc : Thread Cert.ProjectGradReferenceIdeal.nD Cert.ProjectGradReferenceIdeal.τ).loc Cert.ProjectGradReferenceIdeal.main_arg1) = m ((c.tc : Thread Cert.ProjectGradIdeal.nD Cert.ProjectGradIdeal.τ).loc Cert.ProjectGradIdeal.main_arg1)) →
    ∃ (v0 : (c : Dev Cert.ProjectGradIdeal.nD) → Buf (Elt Ideal) ((c.tc : Thread Cert.ProjectGradIdeal.nD Cert.ProjectGradIdeal.τ).loc Cert.ProjectGradIdeal.main_v0)),
      θ_run (Cert.ProjectGradIdeal.defs (F := Ideal)) (onTc (τ := Cert.ProjectGradIdeal.τ) (Cert.ProjectGradIdeal.main (F := Ideal))) ⟨m, fun _ => 0, g⟩ (fun r => ∀ c : Dev Cert.ProjectGradIdeal.nD,
          r.2.mem ((c.tc : Thread Cert.ProjectGradIdeal.nD Cert.ProjectGradIdeal.τ).loc Cert.ProjectGradIdeal.main_v0) = v0 c
          ∧ r.2.mem ((c.tc : Thread Cert.ProjectGradIdeal.nD Cert.ProjectGradIdeal.τ).loc Cert.ProjectGradIdeal.main_arg0) = m ((c.tc : Thread Cert.ProjectGradIdeal.nD Cert.ProjectGradIdeal.τ).loc Cert.ProjectGradIdeal.main_arg0)
          ∧ r.2.mem ((c.tc : Thread Cert.ProjectGradIdeal.nD Cert.ProjectGradIdeal.τ).loc Cert.ProjectGradIdeal.main_arg1) = m ((c.tc : Thread Cert.ProjectGradIdeal.nD Cert.ProjectGradIdeal.τ).loc Cert.ProjectGradIdeal.main_arg1))
      ∧ θ_run (Cert.ProjectGradReferenceIdeal.defs (F := Ideal)) (onTc (τ := Cert.ProjectGradReferenceIdeal.τ) (Cert.ProjectGradReferenceIdeal.main (F := Ideal))) ⟨m', fun _ => 0, g'⟩ (fun r => ∀ c : Dev Cert.ProjectGradReferenceIdeal.nD,
          r.2.mem ((c.tc : Thread Cert.ProjectGradReferenceIdeal.nD Cert.ProjectGradReferenceIdeal.τ).loc Cert.ProjectGradReferenceIdeal.main_v6) = v0 c
          ∧ r.2.mem ((c.tc : Thread Cert.ProjectGradReferenceIdeal.nD Cert.ProjectGradReferenceIdeal.τ).loc Cert.ProjectGradReferenceIdeal.main_arg0) = m' ((c.tc : Thread Cert.ProjectGradReferenceIdeal.nD Cert.ProjectGradReferenceIdeal.τ).loc Cert.ProjectGradReferenceIdeal.main_arg0)
          ∧ r.2.mem ((c.tc : Thread Cert.ProjectGradReferenceIdeal.nD Cert.ProjectGradReferenceIdeal.τ).loc Cert.ProjectGradReferenceIdeal.main_arg1) = m' ((c.tc : Thread Cert.ProjectGradReferenceIdeal.nD Cert.ProjectGradReferenceIdeal.τ).loc Cert.ProjectGradReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v3) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2))

def preserves_MixBack_MixBackIdeal : Prop :=
  True

def algebraic_MixBackIdeal_MixBackReferenceIdeal [hMixBackIdeal : Cert.MixBackIdeal.Facts] [hMixBackReferenceIdeal : Cert.MixBackReferenceIdeal.Facts] : Prop :=
  ∀ (m : (ℓ : Loc Cert.MixBackIdeal.nD Cert.MixBackIdeal.τ Cert.MixBackIdeal.sig) → Buf (Elt Ideal) ℓ) (g : Dev Cert.MixBackIdeal.nD → PrngReg)
    (m' : (ℓ : Loc Cert.MixBackReferenceIdeal.nD Cert.MixBackReferenceIdeal.τ Cert.MixBackReferenceIdeal.sig) → Buf (Elt Ideal) ℓ) (g' : Dev Cert.MixBackReferenceIdeal.nD → PrngReg), Pre_MixBackIdeal m →
    (∀ c : Dev Cert.MixBackIdeal.nD,
      m' ((c.tc : Thread Cert.MixBackReferenceIdeal.nD Cert.MixBackReferenceIdeal.τ).loc Cert.MixBackReferenceIdeal.main_arg0) = m ((c.tc : Thread Cert.MixBackIdeal.nD Cert.MixBackIdeal.τ).loc Cert.MixBackIdeal.main_arg0)
      ∧ m' ((c.tc : Thread Cert.MixBackReferenceIdeal.nD Cert.MixBackReferenceIdeal.τ).loc Cert.MixBackReferenceIdeal.main_arg1) = m ((c.tc : Thread Cert.MixBackIdeal.nD Cert.MixBackIdeal.τ).loc Cert.MixBackIdeal.main_arg1)) →
    ∃ (v0 : (c : Dev Cert.MixBackIdeal.nD) → Buf (Elt Ideal) ((c.tc : Thread Cert.MixBackIdeal.nD Cert.MixBackIdeal.τ).loc Cert.MixBackIdeal.main_v0)),
      θ_run (Cert.MixBackIdeal.defs (F := Ideal)) (onTc (τ := Cert.MixBackIdeal.τ) (Cert.MixBackIdeal.main (F := Ideal))) ⟨m, fun _ => 0, g⟩ (fun r => ∀ c : Dev Cert.MixBackIdeal.nD,
          r.2.mem ((c.tc : Thread Cert.MixBackIdeal.nD Cert.MixBackIdeal.τ).loc Cert.MixBackIdeal.main_v0) = v0 c
          ∧ r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
          ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1))
      ∧ θ_run (Cert.MixBackReferenceIdeal.defs (F := Ideal)) (onTc (τ := Cert.MixBackReferenceIdeal.τ) (Cert.MixBackReferenceIdeal.main (F := Ideal))) ⟨m', fun _ => 0, g'⟩ (fun r => ∀ c : Dev Cert.MixBackReferenceIdeal.nD,
          r.2.mem ((c.tc : Thread Cert.MixBackReferenceIdeal.nD Cert.MixBackReferenceIdeal.τ).loc Cert.MixBackReferenceIdeal.main_v4) = v0 c
          ∧ r.2.mem ((c.tc : Thread Cert.MixBackReferenceIdeal.nD Cert.MixBackReferenceIdeal.τ).loc Cert.MixBackReferenceIdeal.main_arg0) = m' ((c.tc : Thread Cert.MixBackReferenceIdeal.nD Cert.MixBackReferenceIdeal.τ).loc Cert.MixBackReferenceIdeal.main_arg0)
          ∧ r.2.mem ((c.tc : Thread Cert.MixBackReferenceIdeal.nD Cert.MixBackReferenceIdeal.τ).loc Cert.MixBackReferenceIdeal.main_arg1) = m' ((c.tc : Thread Cert.MixBackReferenceIdeal.nD Cert.MixBackReferenceIdeal.τ).loc Cert.MixBackReferenceIdeal.main_arg1))

def preserves_MixGrad_MixGradIdeal : Prop :=
  True

def algebraic_MixGradIdeal_MixGradReferenceIdeal [hMixGradIdeal : Cert.MixGradIdeal.Facts] [hMixGradReferenceIdeal : Cert.MixGradReferenceIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixGradReferenceIdeal.nD Cert.MixGradReferenceIdeal.τ Cert.MixGradReferenceIdeal.sig) → Buf (Elt Ideal) ℓ) (g' : Dev Cert.MixGradReferenceIdeal.nD → PrngReg), Pre_MixGradIdeal m →
    (∀ c : Dev Cert.MixGradIdeal.nD,
      m' ((c.tc : Thread Cert.MixGradReferenceIdeal.nD Cert.MixGradReferenceIdeal.τ).loc Cert.MixGradReferenceIdeal.main_arg0) = m ((c.tc : Thread Cert.MixGradIdeal.nD Cert.MixGradIdeal.τ).loc Cert.MixGradIdeal.main_arg0)
      ∧ m' ((c.tc : Thread Cert.MixGradReferenceIdeal.nD Cert.MixGradReferenceIdeal.τ).loc Cert.MixGradReferenceIdeal.main_arg1) = m ((c.tc : Thread Cert.MixGradIdeal.nD Cert.MixGradIdeal.τ).loc Cert.MixGradIdeal.main_arg1)) →
    ∃ (v0 : (c : Dev Cert.MixGradIdeal.nD) → Buf (Elt Ideal) ((c.tc : Thread Cert.MixGradIdeal.nD Cert.MixGradIdeal.τ).loc Cert.MixGradIdeal.main_v0)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v0) = v0 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1))
      ∧ θ_run (Cert.MixGradReferenceIdeal.defs (F := Ideal)) (onTc (τ := Cert.MixGradReferenceIdeal.τ) (Cert.MixGradReferenceIdeal.main (F := Ideal))) ⟨m', fun _ => 0, g'⟩ (fun r => ∀ c : Dev Cert.MixGradReferenceIdeal.nD,
          r.2.mem ((c.tc : Thread Cert.MixGradReferenceIdeal.nD Cert.MixGradReferenceIdeal.τ).loc Cert.MixGradReferenceIdeal.main_v5) = v0 c
          ∧ r.2.mem ((c.tc : Thread Cert.MixGradReferenceIdeal.nD Cert.MixGradReferenceIdeal.τ).loc Cert.MixGradReferenceIdeal.main_arg0) = m' ((c.tc : Thread Cert.MixGradReferenceIdeal.nD Cert.MixGradReferenceIdeal.τ).loc Cert.MixGradReferenceIdeal.main_arg0)
          ∧ r.2.mem ((c.tc : Thread Cert.MixGradReferenceIdeal.nD Cert.MixGradReferenceIdeal.τ).loc Cert.MixGradReferenceIdeal.main_arg1) = m' ((c.tc : Thread Cert.MixGradReferenceIdeal.nD Cert.MixGradReferenceIdeal.τ).loc Cert.MixGradReferenceIdeal.main_arg1))

def preserves_Shared_SharedIdeal : Prop :=
  True

def algebraic_SharedIdeal_SharedReferenceIdeal [hSharedIdeal : Cert.SharedIdeal.Facts] [hSharedReferenceIdeal : Cert.SharedReferenceIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedIdeal m →
    (∀ c : Dev Cert.SharedIdeal.nD,
      m' ((c.tc : Thread Cert.SharedReferenceIdeal.nD Cert.SharedReferenceIdeal.τ).loc Cert.SharedReferenceIdeal.main_arg0) = m ((c.tc : Thread Cert.SharedIdeal.nD Cert.SharedIdeal.τ).loc Cert.SharedIdeal.main_arg0)
      ∧ m' ((c.tc : Thread Cert.SharedReferenceIdeal.nD Cert.SharedReferenceIdeal.τ).loc Cert.SharedReferenceIdeal.main_arg1) = m ((c.tc : Thread Cert.SharedIdeal.nD Cert.SharedIdeal.τ).loc Cert.SharedIdeal.main_arg1)) →
    ∃ (v0 : (c : Dev Cert.SharedIdeal.nD) → Buf (Elt Ideal) ((c.tc : Thread Cert.SharedIdeal.nD Cert.SharedIdeal.τ).loc Cert.SharedIdeal.main_v0)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v0) = v0 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v3) = v0 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1))

def preserves_SharedBack_SharedBackIdeal : Prop :=
  True

def algebraic_SharedBackIdeal_SharedBackReferenceIdeal [hSharedBackIdeal : Cert.SharedBackIdeal.Facts] [hSharedBackReferenceIdeal : Cert.SharedBackReferenceIdeal.Facts] : Prop :=
  ∀ (m : (ℓ : Loc Cert.SharedBackIdeal.nD Cert.SharedBackIdeal.τ Cert.SharedBackIdeal.sig) → Buf (Elt Ideal) ℓ) (g : Dev Cert.SharedBackIdeal.nD → PrngReg)
    (m' : (ℓ : Loc Cert.SharedBackReferenceIdeal.nD Cert.SharedBackReferenceIdeal.τ Cert.SharedBackReferenceIdeal.sig) → Buf (Elt Ideal) ℓ) (g' : Dev Cert.SharedBackReferenceIdeal.nD → PrngReg), Pre_SharedBackIdeal m →
    (∀ c : Dev Cert.SharedBackIdeal.nD,
      m' ((c.tc : Thread Cert.SharedBackReferenceIdeal.nD Cert.SharedBackReferenceIdeal.τ).loc Cert.SharedBackReferenceIdeal.main_arg0) = m ((c.tc : Thread Cert.SharedBackIdeal.nD Cert.SharedBackIdeal.τ).loc Cert.SharedBackIdeal.main_arg0)
      ∧ m' ((c.tc : Thread Cert.SharedBackReferenceIdeal.nD Cert.SharedBackReferenceIdeal.τ).loc Cert.SharedBackReferenceIdeal.main_arg1) = m ((c.tc : Thread Cert.SharedBackIdeal.nD Cert.SharedBackIdeal.τ).loc Cert.SharedBackIdeal.main_arg1)) →
    ∃ (v0 : (c : Dev Cert.SharedBackIdeal.nD) → Buf (Elt Ideal) ((c.tc : Thread Cert.SharedBackIdeal.nD Cert.SharedBackIdeal.τ).loc Cert.SharedBackIdeal.main_v0)),
      θ_run (Cert.SharedBackIdeal.defs (F := Ideal)) (onTc (τ := Cert.SharedBackIdeal.τ) (Cert.SharedBackIdeal.main (F := Ideal))) ⟨m, fun _ => 0, g⟩ (fun r => ∀ c : Dev Cert.SharedBackIdeal.nD,
          r.2.mem ((c.tc : Thread Cert.SharedBackIdeal.nD Cert.SharedBackIdeal.τ).loc Cert.SharedBackIdeal.main_v0) = v0 c
          ∧ r.2.mem ((c.tc : Thread Cert.SharedBackIdeal.nD Cert.SharedBackIdeal.τ).loc Cert.SharedBackIdeal.main_arg0) = m ((c.tc : Thread Cert.SharedBackIdeal.nD Cert.SharedBackIdeal.τ).loc Cert.SharedBackIdeal.main_arg0)
          ∧ r.2.mem ((c.tc : Thread Cert.SharedBackIdeal.nD Cert.SharedBackIdeal.τ).loc Cert.SharedBackIdeal.main_arg1) = m ((c.tc : Thread Cert.SharedBackIdeal.nD Cert.SharedBackIdeal.τ).loc Cert.SharedBackIdeal.main_arg1))
      ∧ θ_run (Cert.SharedBackReferenceIdeal.defs (F := Ideal)) (onTc (τ := Cert.SharedBackReferenceIdeal.τ) (Cert.SharedBackReferenceIdeal.main (F := Ideal))) ⟨m', fun _ => 0, g'⟩ (fun r => ∀ c : Dev Cert.SharedBackReferenceIdeal.nD,
          r.2.mem ((c.tc : Thread Cert.SharedBackReferenceIdeal.nD Cert.SharedBackReferenceIdeal.τ).loc Cert.SharedBackReferenceIdeal.main_v4) = v0 c
          ∧ r.2.mem ((c.tc : Thread Cert.SharedBackReferenceIdeal.nD Cert.SharedBackReferenceIdeal.τ).loc Cert.SharedBackReferenceIdeal.main_arg0) = m' ((c.tc : Thread Cert.SharedBackReferenceIdeal.nD Cert.SharedBackReferenceIdeal.τ).loc Cert.SharedBackReferenceIdeal.main_arg0)
          ∧ r.2.mem ((c.tc : Thread Cert.SharedBackReferenceIdeal.nD Cert.SharedBackReferenceIdeal.τ).loc Cert.SharedBackReferenceIdeal.main_arg1) = m' ((c.tc : Thread Cert.SharedBackReferenceIdeal.nD Cert.SharedBackReferenceIdeal.τ).loc Cert.SharedBackReferenceIdeal.main_arg1))

def preserves_SharedGrad_SharedGradIdeal : Prop :=
  True

def algebraic_SharedGradIdeal_SharedGradReferenceIdeal [hSharedGradIdeal : Cert.SharedGradIdeal.Facts] [hSharedGradReferenceIdeal : Cert.SharedGradReferenceIdeal.Facts] : Prop :=
  ∀ (m : (ℓ : Loc Cert.SharedGradIdeal.nD Cert.SharedGradIdeal.τ Cert.SharedGradIdeal.sig) → Buf (Elt Ideal) ℓ) (g : Dev Cert.SharedGradIdeal.nD → PrngReg)
    (m' : (ℓ : Loc Cert.SharedGradReferenceIdeal.nD Cert.SharedGradReferenceIdeal.τ Cert.SharedGradReferenceIdeal.sig) → Buf (Elt Ideal) ℓ) (g' : Dev Cert.SharedGradReferenceIdeal.nD → PrngReg), Pre_SharedGradIdeal m →
    (∀ c : Dev Cert.SharedGradIdeal.nD,
      m' ((c.tc : Thread Cert.SharedGradReferenceIdeal.nD Cert.SharedGradReferenceIdeal.τ).loc Cert.SharedGradReferenceIdeal.main_arg0) = m ((c.tc : Thread Cert.SharedGradIdeal.nD Cert.SharedGradIdeal.τ).loc Cert.SharedGradIdeal.main_arg0)
      ∧ m' ((c.tc : Thread Cert.SharedGradReferenceIdeal.nD Cert.SharedGradReferenceIdeal.τ).loc Cert.SharedGradReferenceIdeal.main_arg1) = m ((c.tc : Thread Cert.SharedGradIdeal.nD Cert.SharedGradIdeal.τ).loc Cert.SharedGradIdeal.main_arg1)) →
    ∃ (v0 : (c : Dev Cert.SharedGradIdeal.nD) → Buf (Elt Ideal) ((c.tc : Thread Cert.SharedGradIdeal.nD Cert.SharedGradIdeal.τ).loc Cert.SharedGradIdeal.main_v0)),
      θ_run (Cert.SharedGradIdeal.defs (F := Ideal)) (onTc (τ := Cert.SharedGradIdeal.τ) (Cert.SharedGradIdeal.main (F := Ideal))) ⟨m, fun _ => 0, g⟩ (fun r => ∀ c : Dev Cert.SharedGradIdeal.nD,
          r.2.mem ((c.tc : Thread Cert.SharedGradIdeal.nD Cert.SharedGradIdeal.τ).loc Cert.SharedGradIdeal.main_v0) = v0 c
          ∧ r.2.mem ((c.tc : Thread Cert.SharedGradIdeal.nD Cert.SharedGradIdeal.τ).loc Cert.SharedGradIdeal.main_arg0) = m ((c.tc : Thread Cert.SharedGradIdeal.nD Cert.SharedGradIdeal.τ).loc Cert.SharedGradIdeal.main_arg0)
          ∧ r.2.mem ((c.tc : Thread Cert.SharedGradIdeal.nD Cert.SharedGradIdeal.τ).loc Cert.SharedGradIdeal.main_arg1) = m ((c.tc : Thread Cert.SharedGradIdeal.nD Cert.SharedGradIdeal.τ).loc Cert.SharedGradIdeal.main_arg1))
      ∧ θ_run (Cert.SharedGradReferenceIdeal.defs (F := Ideal)) (onTc (τ := Cert.SharedGradReferenceIdeal.τ) (Cert.SharedGradReferenceIdeal.main (F := Ideal))) ⟨m', fun _ => 0, g'⟩ (fun r => ∀ c : Dev Cert.SharedGradReferenceIdeal.nD,
          r.2.mem ((c.tc : Thread Cert.SharedGradReferenceIdeal.nD Cert.SharedGradReferenceIdeal.τ).loc Cert.SharedGradReferenceIdeal.main_v6) = v0 c
          ∧ r.2.mem ((c.tc : Thread Cert.SharedGradReferenceIdeal.nD Cert.SharedGradReferenceIdeal.τ).loc Cert.SharedGradReferenceIdeal.main_arg0) = m' ((c.tc : Thread Cert.SharedGradReferenceIdeal.nD Cert.SharedGradReferenceIdeal.τ).loc Cert.SharedGradReferenceIdeal.main_arg0)
          ∧ r.2.mem ((c.tc : Thread Cert.SharedGradReferenceIdeal.nD Cert.SharedGradReferenceIdeal.τ).loc Cert.SharedGradReferenceIdeal.main_arg1) = m' ((c.tc : Thread Cert.SharedGradReferenceIdeal.nD Cert.SharedGradReferenceIdeal.τ).loc Cert.SharedGradReferenceIdeal.main_arg1))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v3) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_QueryBack_QueryBackIdeal : Prop :=
  True

def algebraic_QueryBackIdeal_QueryBackReferenceIdeal [hQueryBackIdeal : Cert.QueryBackIdeal.Facts] [hQueryBackReferenceIdeal : Cert.QueryBackReferenceIdeal.Facts] : Prop :=
  ∀ (m : (ℓ : Loc Cert.QueryBackIdeal.nD Cert.QueryBackIdeal.τ Cert.QueryBackIdeal.sig) → Buf (Elt Ideal) ℓ) (g : Dev Cert.QueryBackIdeal.nD → PrngReg)
    (m' : (ℓ : Loc Cert.QueryBackReferenceIdeal.nD Cert.QueryBackReferenceIdeal.τ Cert.QueryBackReferenceIdeal.sig) → Buf (Elt Ideal) ℓ) (g' : Dev Cert.QueryBackReferenceIdeal.nD → PrngReg), Pre_QueryBackIdeal m →
    (∀ c : Dev Cert.QueryBackIdeal.nD,
      m' ((c.tc : Thread Cert.QueryBackReferenceIdeal.nD Cert.QueryBackReferenceIdeal.τ).loc Cert.QueryBackReferenceIdeal.main_arg0) = m ((c.tc : Thread Cert.QueryBackIdeal.nD Cert.QueryBackIdeal.τ).loc Cert.QueryBackIdeal.main_arg0)
      ∧ m' ((c.tc : Thread Cert.QueryBackReferenceIdeal.nD Cert.QueryBackReferenceIdeal.τ).loc Cert.QueryBackReferenceIdeal.main_arg1) = m ((c.tc : Thread Cert.QueryBackIdeal.nD Cert.QueryBackIdeal.τ).loc Cert.QueryBackIdeal.main_arg1)) →
    ∃ (v0 : (c : Dev Cert.QueryBackIdeal.nD) → Buf (Elt Ideal) ((c.tc : Thread Cert.QueryBackIdeal.nD Cert.QueryBackIdeal.τ).loc Cert.QueryBackIdeal.main_v0)),
      θ_run (Cert.QueryBackIdeal.defs (F := Ideal)) (onTc (τ := Cert.QueryBackIdeal.τ) (Cert.QueryBackIdeal.main (F := Ideal))) ⟨m, fun _ => 0, g⟩ (fun r => ∀ c : Dev Cert.QueryBackIdeal.nD,
          r.2.mem ((c.tc : Thread Cert.QueryBackIdeal.nD Cert.QueryBackIdeal.τ).loc Cert.QueryBackIdeal.main_v0) = v0 c
          ∧ r.2.mem ((c.tc : Thread Cert.QueryBackIdeal.nD Cert.QueryBackIdeal.τ).loc Cert.QueryBackIdeal.main_arg0) = m ((c.tc : Thread Cert.QueryBackIdeal.nD Cert.QueryBackIdeal.τ).loc Cert.QueryBackIdeal.main_arg0)
          ∧ r.2.mem ((c.tc : Thread Cert.QueryBackIdeal.nD Cert.QueryBackIdeal.τ).loc Cert.QueryBackIdeal.main_arg1) = m ((c.tc : Thread Cert.QueryBackIdeal.nD Cert.QueryBackIdeal.τ).loc Cert.QueryBackIdeal.main_arg1))
      ∧ θ_run (Cert.QueryBackReferenceIdeal.defs (F := Ideal)) (onTc (τ := Cert.QueryBackReferenceIdeal.τ) (Cert.QueryBackReferenceIdeal.main (F := Ideal))) ⟨m', fun _ => 0, g'⟩ (fun r => ∀ c : Dev Cert.QueryBackReferenceIdeal.nD,
          r.2.mem ((c.tc : Thread Cert.QueryBackReferenceIdeal.nD Cert.QueryBackReferenceIdeal.τ).loc Cert.QueryBackReferenceIdeal.main_v4) = v0 c
          ∧ r.2.mem ((c.tc : Thread Cert.QueryBackReferenceIdeal.nD Cert.QueryBackReferenceIdeal.τ).loc Cert.QueryBackReferenceIdeal.main_arg0) = m' ((c.tc : Thread Cert.QueryBackReferenceIdeal.nD Cert.QueryBackReferenceIdeal.τ).loc Cert.QueryBackReferenceIdeal.main_arg0)
          ∧ r.2.mem ((c.tc : Thread Cert.QueryBackReferenceIdeal.nD Cert.QueryBackReferenceIdeal.τ).loc Cert.QueryBackReferenceIdeal.main_arg1) = m' ((c.tc : Thread Cert.QueryBackReferenceIdeal.nD Cert.QueryBackReferenceIdeal.τ).loc Cert.QueryBackReferenceIdeal.main_arg1))

def preserves_QueryGrad_QueryGradIdeal : Prop :=
  True

def algebraic_QueryGradIdeal_QueryGradReferenceIdeal [hQueryGradIdeal : Cert.QueryGradIdeal.Facts] [hQueryGradReferenceIdeal : Cert.QueryGradReferenceIdeal.Facts] : Prop :=
  ∀ (m : (ℓ : Loc Cert.QueryGradIdeal.nD Cert.QueryGradIdeal.τ Cert.QueryGradIdeal.sig) → Buf (Elt Ideal) ℓ) (g : Dev Cert.QueryGradIdeal.nD → PrngReg)
    (m' : (ℓ : Loc Cert.QueryGradReferenceIdeal.nD Cert.QueryGradReferenceIdeal.τ Cert.QueryGradReferenceIdeal.sig) → Buf (Elt Ideal) ℓ) (g' : Dev Cert.QueryGradReferenceIdeal.nD → PrngReg), Pre_QueryGradIdeal m →
    (∀ c : Dev Cert.QueryGradIdeal.nD,
      m' ((c.tc : Thread Cert.QueryGradReferenceIdeal.nD Cert.QueryGradReferenceIdeal.τ).loc Cert.QueryGradReferenceIdeal.main_arg0) = m ((c.tc : Thread Cert.QueryGradIdeal.nD Cert.QueryGradIdeal.τ).loc Cert.QueryGradIdeal.main_arg0)
      ∧ m' ((c.tc : Thread Cert.QueryGradReferenceIdeal.nD Cert.QueryGradReferenceIdeal.τ).loc Cert.QueryGradReferenceIdeal.main_arg1) = m ((c.tc : Thread Cert.QueryGradIdeal.nD Cert.QueryGradIdeal.τ).loc Cert.QueryGradIdeal.main_arg1)) →
    ∃ (v0 : (c : Dev Cert.QueryGradIdeal.nD) → Buf (Elt Ideal) ((c.tc : Thread Cert.QueryGradIdeal.nD Cert.QueryGradIdeal.τ).loc Cert.QueryGradIdeal.main_v0)),
      θ_run (Cert.QueryGradIdeal.defs (F := Ideal)) (onTc (τ := Cert.QueryGradIdeal.τ) (Cert.QueryGradIdeal.main (F := Ideal))) ⟨m, fun _ => 0, g⟩ (fun r => ∀ c : Dev Cert.QueryGradIdeal.nD,
          r.2.mem ((c.tc : Thread Cert.QueryGradIdeal.nD Cert.QueryGradIdeal.τ).loc Cert.QueryGradIdeal.main_v0) = v0 c
          ∧ r.2.mem ((c.tc : Thread Cert.QueryGradIdeal.nD Cert.QueryGradIdeal.τ).loc Cert.QueryGradIdeal.main_arg0) = m ((c.tc : Thread Cert.QueryGradIdeal.nD Cert.QueryGradIdeal.τ).loc Cert.QueryGradIdeal.main_arg0)
          ∧ r.2.mem ((c.tc : Thread Cert.QueryGradIdeal.nD Cert.QueryGradIdeal.τ).loc Cert.QueryGradIdeal.main_arg1) = m ((c.tc : Thread Cert.QueryGradIdeal.nD Cert.QueryGradIdeal.τ).loc Cert.QueryGradIdeal.main_arg1))
      ∧ θ_run (Cert.QueryGradReferenceIdeal.defs (F := Ideal)) (onTc (τ := Cert.QueryGradReferenceIdeal.τ) (Cert.QueryGradReferenceIdeal.main (F := Ideal))) ⟨m', fun _ => 0, g'⟩ (fun r => ∀ c : Dev Cert.QueryGradReferenceIdeal.nD,
          r.2.mem ((c.tc : Thread Cert.QueryGradReferenceIdeal.nD Cert.QueryGradReferenceIdeal.τ).loc Cert.QueryGradReferenceIdeal.main_v6) = v0 c
          ∧ r.2.mem ((c.tc : Thread Cert.QueryGradReferenceIdeal.nD Cert.QueryGradReferenceIdeal.τ).loc Cert.QueryGradReferenceIdeal.main_arg0) = m' ((c.tc : Thread Cert.QueryGradReferenceIdeal.nD Cert.QueryGradReferenceIdeal.τ).loc Cert.QueryGradReferenceIdeal.main_arg0)
          ∧ r.2.mem ((c.tc : Thread Cert.QueryGradReferenceIdeal.nD Cert.QueryGradReferenceIdeal.τ).loc Cert.QueryGradReferenceIdeal.main_arg1) = m' ((c.tc : Thread Cert.QueryGradReferenceIdeal.nD Cert.QueryGradReferenceIdeal.τ).loc Cert.QueryGradReferenceIdeal.main_arg1))

def preserves_Sticks_SticksIdeal : Prop :=
  True

def algebraic_SticksIdeal_SticksReferenceIdeal [hSticksIdeal : Cert.SticksIdeal.Facts] [hSticksReferenceIdeal : Cert.SticksReferenceIdeal.Facts] : Prop :=
  ∀ (m : (ℓ : Loc Cert.SticksIdeal.nD Cert.SticksIdeal.τ Cert.SticksIdeal.sig) → Buf (Elt Ideal) ℓ) (g : Dev Cert.SticksIdeal.nD → PrngReg)
    (m' : (ℓ : Loc Cert.SticksReferenceIdeal.nD Cert.SticksReferenceIdeal.τ Cert.SticksReferenceIdeal.sig) → Buf (Elt Ideal) ℓ) (g' : Dev Cert.SticksReferenceIdeal.nD → PrngReg), Pre_SticksIdeal m →
    (∀ c : Dev Cert.SticksIdeal.nD,
      m' ((c.tc : Thread Cert.SticksReferenceIdeal.nD Cert.SticksReferenceIdeal.τ).loc Cert.SticksReferenceIdeal.main_arg0) = m ((c.tc : Thread Cert.SticksIdeal.nD Cert.SticksIdeal.τ).loc Cert.SticksIdeal.main_arg0)) →
    ∃ (v0 : (c : Dev Cert.SticksIdeal.nD) → Buf (Elt Ideal) ((c.tc : Thread Cert.SticksIdeal.nD Cert.SticksIdeal.τ).loc Cert.SticksIdeal.main_v1_0)) (v1 : (c : Dev Cert.SticksIdeal.nD) → Buf (Elt Ideal) ((c.tc : Thread Cert.SticksIdeal.nD Cert.SticksIdeal.τ).loc Cert.SticksIdeal.main_v1_1)),
      θ_run (Cert.SticksIdeal.defs (F := Ideal)) (onTc (τ := Cert.SticksIdeal.τ) (Cert.SticksIdeal.main (F := Ideal))) ⟨m, fun _ => 0, g⟩ (fun r => ∀ c : Dev Cert.SticksIdeal.nD,
          r.2.mem ((c.tc : Thread Cert.SticksIdeal.nD Cert.SticksIdeal.τ).loc Cert.SticksIdeal.main_v1_0) = v0 c
          ∧ r.2.mem ((c.tc : Thread Cert.SticksIdeal.nD Cert.SticksIdeal.τ).loc Cert.SticksIdeal.main_v1_1) = v1 c
          ∧ r.2.mem ((c.tc : Thread Cert.SticksIdeal.nD Cert.SticksIdeal.τ).loc Cert.SticksIdeal.main_arg0) = m ((c.tc : Thread Cert.SticksIdeal.nD Cert.SticksIdeal.τ).loc Cert.SticksIdeal.main_arg0))
      ∧ θ_run (Cert.SticksReferenceIdeal.defs (F := Ideal)) (onTc (τ := Cert.SticksReferenceIdeal.τ) (Cert.SticksReferenceIdeal.main (F := Ideal))) ⟨m', fun _ => 0, g'⟩ (fun r => ∀ c : Dev Cert.SticksReferenceIdeal.nD,
          r.2.mem ((c.tc : Thread Cert.SticksReferenceIdeal.nD Cert.SticksReferenceIdeal.τ).loc Cert.SticksReferenceIdeal.main_v36) = v0 c
          ∧ r.2.mem ((c.tc : Thread Cert.SticksReferenceIdeal.nD Cert.SticksReferenceIdeal.τ).loc Cert.SticksReferenceIdeal.main_v61) = v1 c
          ∧ r.2.mem ((c.tc : Thread Cert.SticksReferenceIdeal.nD Cert.SticksReferenceIdeal.τ).loc Cert.SticksReferenceIdeal.main_arg0) = m' ((c.tc : Thread Cert.SticksReferenceIdeal.nD Cert.SticksReferenceIdeal.τ).loc Cert.SticksReferenceIdeal.main_arg0))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v0)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v0) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v3) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1))

def preserves_MemoryBack_MemoryBackIdeal : Prop :=
  True

def algebraic_MemoryBackIdeal_MemoryBackReferenceIdeal [hMemoryBackIdeal : Cert.MemoryBackIdeal.Facts] [hMemoryBackReferenceIdeal : Cert.MemoryBackReferenceIdeal.Facts] : Prop :=
  ∀ (m : (ℓ : Loc Cert.MemoryBackIdeal.nD Cert.MemoryBackIdeal.τ Cert.MemoryBackIdeal.sig) → Buf (Elt Ideal) ℓ) (g : Dev Cert.MemoryBackIdeal.nD → PrngReg)
    (m' : (ℓ : Loc Cert.MemoryBackReferenceIdeal.nD Cert.MemoryBackReferenceIdeal.τ Cert.MemoryBackReferenceIdeal.sig) → Buf (Elt Ideal) ℓ) (g' : Dev Cert.MemoryBackReferenceIdeal.nD → PrngReg), Pre_MemoryBackIdeal m →
    (∀ c : Dev Cert.MemoryBackIdeal.nD,
      m' ((c.tc : Thread Cert.MemoryBackReferenceIdeal.nD Cert.MemoryBackReferenceIdeal.τ).loc Cert.MemoryBackReferenceIdeal.main_arg0) = m ((c.tc : Thread Cert.MemoryBackIdeal.nD Cert.MemoryBackIdeal.τ).loc Cert.MemoryBackIdeal.main_arg0)
      ∧ m' ((c.tc : Thread Cert.MemoryBackReferenceIdeal.nD Cert.MemoryBackReferenceIdeal.τ).loc Cert.MemoryBackReferenceIdeal.main_arg1) = m ((c.tc : Thread Cert.MemoryBackIdeal.nD Cert.MemoryBackIdeal.τ).loc Cert.MemoryBackIdeal.main_arg1)) →
    ∃ (v0 : (c : Dev Cert.MemoryBackIdeal.nD) → Buf (Elt Ideal) ((c.tc : Thread Cert.MemoryBackIdeal.nD Cert.MemoryBackIdeal.τ).loc Cert.MemoryBackIdeal.main_v0)),
      θ_run (Cert.MemoryBackIdeal.defs (F := Ideal)) (onTc (τ := Cert.MemoryBackIdeal.τ) (Cert.MemoryBackIdeal.main (F := Ideal))) ⟨m, fun _ => 0, g⟩ (fun r => ∀ c : Dev Cert.MemoryBackIdeal.nD,
          r.2.mem ((c.tc : Thread Cert.MemoryBackIdeal.nD Cert.MemoryBackIdeal.τ).loc Cert.MemoryBackIdeal.main_v0) = v0 c
          ∧ r.2.mem ((c.tc : Thread Cert.MemoryBackIdeal.nD Cert.MemoryBackIdeal.τ).loc Cert.MemoryBackIdeal.main_arg0) = m ((c.tc : Thread Cert.MemoryBackIdeal.nD Cert.MemoryBackIdeal.τ).loc Cert.MemoryBackIdeal.main_arg0)
          ∧ r.2.mem ((c.tc : Thread Cert.MemoryBackIdeal.nD Cert.MemoryBackIdeal.τ).loc Cert.MemoryBackIdeal.main_arg1) = m ((c.tc : Thread Cert.MemoryBackIdeal.nD Cert.MemoryBackIdeal.τ).loc Cert.MemoryBackIdeal.main_arg1))
      ∧ θ_run (Cert.MemoryBackReferenceIdeal.defs (F := Ideal)) (onTc (τ := Cert.MemoryBackReferenceIdeal.τ) (Cert.MemoryBackReferenceIdeal.main (F := Ideal))) ⟨m', fun _ => 0, g'⟩ (fun r => ∀ c : Dev Cert.MemoryBackReferenceIdeal.nD,
          r.2.mem ((c.tc : Thread Cert.MemoryBackReferenceIdeal.nD Cert.MemoryBackReferenceIdeal.τ).loc Cert.MemoryBackReferenceIdeal.main_v4) = v0 c
          ∧ r.2.mem ((c.tc : Thread Cert.MemoryBackReferenceIdeal.nD Cert.MemoryBackReferenceIdeal.τ).loc Cert.MemoryBackReferenceIdeal.main_arg0) = m' ((c.tc : Thread Cert.MemoryBackReferenceIdeal.nD Cert.MemoryBackReferenceIdeal.τ).loc Cert.MemoryBackReferenceIdeal.main_arg0)
          ∧ r.2.mem ((c.tc : Thread Cert.MemoryBackReferenceIdeal.nD Cert.MemoryBackReferenceIdeal.τ).loc Cert.MemoryBackReferenceIdeal.main_arg1) = m' ((c.tc : Thread Cert.MemoryBackReferenceIdeal.nD Cert.MemoryBackReferenceIdeal.τ).loc Cert.MemoryBackReferenceIdeal.main_arg1))

def preserves_MemoryGrad_MemoryGradIdeal : Prop :=
  True

def algebraic_MemoryGradIdeal_MemoryGradReferenceIdeal [hMemoryGradIdeal : Cert.MemoryGradIdeal.Facts] [hMemoryGradReferenceIdeal : Cert.MemoryGradReferenceIdeal.Facts] : Prop :=
  ∀ (m : (ℓ : Loc Cert.MemoryGradIdeal.nD Cert.MemoryGradIdeal.τ Cert.MemoryGradIdeal.sig) → Buf (Elt Ideal) ℓ) (g : Dev Cert.MemoryGradIdeal.nD → PrngReg)
    (m' : (ℓ : Loc Cert.MemoryGradReferenceIdeal.nD Cert.MemoryGradReferenceIdeal.τ Cert.MemoryGradReferenceIdeal.sig) → Buf (Elt Ideal) ℓ) (g' : Dev Cert.MemoryGradReferenceIdeal.nD → PrngReg), Pre_MemoryGradIdeal m →
    (∀ c : Dev Cert.MemoryGradIdeal.nD,
      m' ((c.tc : Thread Cert.MemoryGradReferenceIdeal.nD Cert.MemoryGradReferenceIdeal.τ).loc Cert.MemoryGradReferenceIdeal.main_arg0) = m ((c.tc : Thread Cert.MemoryGradIdeal.nD Cert.MemoryGradIdeal.τ).loc Cert.MemoryGradIdeal.main_arg0)
      ∧ m' ((c.tc : Thread Cert.MemoryGradReferenceIdeal.nD Cert.MemoryGradReferenceIdeal.τ).loc Cert.MemoryGradReferenceIdeal.main_arg1) = m ((c.tc : Thread Cert.MemoryGradIdeal.nD Cert.MemoryGradIdeal.τ).loc Cert.MemoryGradIdeal.main_arg1)) →
    ∃ (v0 : (c : Dev Cert.MemoryGradIdeal.nD) → Buf (Elt Ideal) ((c.tc : Thread Cert.MemoryGradIdeal.nD Cert.MemoryGradIdeal.τ).loc Cert.MemoryGradIdeal.main_v0)),
      θ_run (Cert.MemoryGradIdeal.defs (F := Ideal)) (onTc (τ := Cert.MemoryGradIdeal.τ) (Cert.MemoryGradIdeal.main (F := Ideal))) ⟨m, fun _ => 0, g⟩ (fun r => ∀ c : Dev Cert.MemoryGradIdeal.nD,
          r.2.mem ((c.tc : Thread Cert.MemoryGradIdeal.nD Cert.MemoryGradIdeal.τ).loc Cert.MemoryGradIdeal.main_v0) = v0 c
          ∧ r.2.mem ((c.tc : Thread Cert.MemoryGradIdeal.nD Cert.MemoryGradIdeal.τ).loc Cert.MemoryGradIdeal.main_arg0) = m ((c.tc : Thread Cert.MemoryGradIdeal.nD Cert.MemoryGradIdeal.τ).loc Cert.MemoryGradIdeal.main_arg0)
          ∧ r.2.mem ((c.tc : Thread Cert.MemoryGradIdeal.nD Cert.MemoryGradIdeal.τ).loc Cert.MemoryGradIdeal.main_arg1) = m ((c.tc : Thread Cert.MemoryGradIdeal.nD Cert.MemoryGradIdeal.τ).loc Cert.MemoryGradIdeal.main_arg1))
      ∧ θ_run (Cert.MemoryGradReferenceIdeal.defs (F := Ideal)) (onTc (τ := Cert.MemoryGradReferenceIdeal.τ) (Cert.MemoryGradReferenceIdeal.main (F := Ideal))) ⟨m', fun _ => 0, g'⟩ (fun r => ∀ c : Dev Cert.MemoryGradReferenceIdeal.nD,
          r.2.mem ((c.tc : Thread Cert.MemoryGradReferenceIdeal.nD Cert.MemoryGradReferenceIdeal.τ).loc Cert.MemoryGradReferenceIdeal.main_v6) = v0 c
          ∧ r.2.mem ((c.tc : Thread Cert.MemoryGradReferenceIdeal.nD Cert.MemoryGradReferenceIdeal.τ).loc Cert.MemoryGradReferenceIdeal.main_arg0) = m' ((c.tc : Thread Cert.MemoryGradReferenceIdeal.nD Cert.MemoryGradReferenceIdeal.τ).loc Cert.MemoryGradReferenceIdeal.main_arg0)
          ∧ r.2.mem ((c.tc : Thread Cert.MemoryGradReferenceIdeal.nD Cert.MemoryGradReferenceIdeal.τ).loc Cert.MemoryGradReferenceIdeal.main_arg1) = m' ((c.tc : Thread Cert.MemoryGradReferenceIdeal.nD Cert.MemoryGradReferenceIdeal.τ).loc Cert.MemoryGradReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_v20) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_NormTwo_NormTwoIdeal : Prop :=
  True

def algebraic_NormTwoIdeal_NormTwoReferenceIdeal [hNormTwoIdeal : Cert.NormTwoIdeal.Facts] [hNormTwoReferenceIdeal : Cert.NormTwoReferenceIdeal.Facts] : Prop :=
  ∀ (m : (ℓ : Loc Cert.NormTwoIdeal.nD Cert.NormTwoIdeal.τ Cert.NormTwoIdeal.sig) → Buf (Elt Ideal) ℓ) (g : Dev Cert.NormTwoIdeal.nD → PrngReg)
    (m' : (ℓ : Loc Cert.NormTwoReferenceIdeal.nD Cert.NormTwoReferenceIdeal.τ Cert.NormTwoReferenceIdeal.sig) → Buf (Elt Ideal) ℓ) (g' : Dev Cert.NormTwoReferenceIdeal.nD → PrngReg), Pre_NormTwoIdeal m →
    (∀ c : Dev Cert.NormTwoIdeal.nD,
      m' ((c.tc : Thread Cert.NormTwoReferenceIdeal.nD Cert.NormTwoReferenceIdeal.τ).loc Cert.NormTwoReferenceIdeal.main_arg0) = m ((c.tc : Thread Cert.NormTwoIdeal.nD Cert.NormTwoIdeal.τ).loc Cert.NormTwoIdeal.main_arg0)
      ∧ m' ((c.tc : Thread Cert.NormTwoReferenceIdeal.nD Cert.NormTwoReferenceIdeal.τ).loc Cert.NormTwoReferenceIdeal.main_arg1) = m ((c.tc : Thread Cert.NormTwoIdeal.nD Cert.NormTwoIdeal.τ).loc Cert.NormTwoIdeal.main_arg1)
      ∧ m' ((c.tc : Thread Cert.NormTwoReferenceIdeal.nD Cert.NormTwoReferenceIdeal.τ).loc Cert.NormTwoReferenceIdeal.main_arg2) = m ((c.tc : Thread Cert.NormTwoIdeal.nD Cert.NormTwoIdeal.τ).loc Cert.NormTwoIdeal.main_arg2)) →
    ∃ (v0 : (c : Dev Cert.NormTwoIdeal.nD) → Buf (Elt Ideal) ((c.tc : Thread Cert.NormTwoIdeal.nD Cert.NormTwoIdeal.τ).loc Cert.NormTwoIdeal.main_v0_0)) (v1 : (c : Dev Cert.NormTwoIdeal.nD) → Buf (Elt Ideal) ((c.tc : Thread Cert.NormTwoIdeal.nD Cert.NormTwoIdeal.τ).loc Cert.NormTwoIdeal.main_v0_1)) (v2 : (c : Dev Cert.NormTwoIdeal.nD) → Buf (Elt Ideal) ((c.tc : Thread Cert.NormTwoIdeal.nD Cert.NormTwoIdeal.τ).loc Cert.NormTwoIdeal.main_v0_2)),
      θ_run (Cert.NormTwoIdeal.defs (F := Ideal)) (onTc (τ := Cert.NormTwoIdeal.τ) (Cert.NormTwoIdeal.main (F := Ideal))) ⟨m, fun _ => 0, g⟩ (fun r => ∀ c : Dev Cert.NormTwoIdeal.nD,
          r.2.mem ((c.tc : Thread Cert.NormTwoIdeal.nD Cert.NormTwoIdeal.τ).loc Cert.NormTwoIdeal.main_v0_0) = v0 c
          ∧ r.2.mem ((c.tc : Thread Cert.NormTwoIdeal.nD Cert.NormTwoIdeal.τ).loc Cert.NormTwoIdeal.main_v0_1) = v1 c
          ∧ r.2.mem ((c.tc : Thread Cert.NormTwoIdeal.nD Cert.NormTwoIdeal.τ).loc Cert.NormTwoIdeal.main_v0_2) = v2 c
          ∧ r.2.mem ((c.tc : Thread Cert.NormTwoIdeal.nD Cert.NormTwoIdeal.τ).loc Cert.NormTwoIdeal.main_arg0) = m ((c.tc : Thread Cert.NormTwoIdeal.nD Cert.NormTwoIdeal.τ).loc Cert.NormTwoIdeal.main_arg0)
          ∧ r.2.mem ((c.tc : Thread Cert.NormTwoIdeal.nD Cert.NormTwoIdeal.τ).loc Cert.NormTwoIdeal.main_arg1) = m ((c.tc : Thread Cert.NormTwoIdeal.nD Cert.NormTwoIdeal.τ).loc Cert.NormTwoIdeal.main_arg1)
          ∧ r.2.mem ((c.tc : Thread Cert.NormTwoIdeal.nD Cert.NormTwoIdeal.τ).loc Cert.NormTwoIdeal.main_arg2) = m ((c.tc : Thread Cert.NormTwoIdeal.nD Cert.NormTwoIdeal.τ).loc Cert.NormTwoIdeal.main_arg2))
      ∧ θ_run (Cert.NormTwoReferenceIdeal.defs (F := Ideal)) (onTc (τ := Cert.NormTwoReferenceIdeal.τ) (Cert.NormTwoReferenceIdeal.main (F := Ideal))) ⟨m', fun _ => 0, g'⟩ (fun r => ∀ c : Dev Cert.NormTwoReferenceIdeal.nD,
          r.2.mem ((c.tc : Thread Cert.NormTwoReferenceIdeal.nD Cert.NormTwoReferenceIdeal.τ).loc Cert.NormTwoReferenceIdeal.main_v12) = v0 c
          ∧ r.2.mem ((c.tc : Thread Cert.NormTwoReferenceIdeal.nD Cert.NormTwoReferenceIdeal.τ).loc Cert.NormTwoReferenceIdeal.main_v25) = v1 c
          ∧ r.2.mem ((c.tc : Thread Cert.NormTwoReferenceIdeal.nD Cert.NormTwoReferenceIdeal.τ).loc Cert.NormTwoReferenceIdeal.main_v33) = v2 c
          ∧ r.2.mem ((c.tc : Thread Cert.NormTwoReferenceIdeal.nD Cert.NormTwoReferenceIdeal.τ).loc Cert.NormTwoReferenceIdeal.main_arg0) = m' ((c.tc : Thread Cert.NormTwoReferenceIdeal.nD Cert.NormTwoReferenceIdeal.τ).loc Cert.NormTwoReferenceIdeal.main_arg0)
          ∧ r.2.mem ((c.tc : Thread Cert.NormTwoReferenceIdeal.nD Cert.NormTwoReferenceIdeal.τ).loc Cert.NormTwoReferenceIdeal.main_arg1) = m' ((c.tc : Thread Cert.NormTwoReferenceIdeal.nD Cert.NormTwoReferenceIdeal.τ).loc Cert.NormTwoReferenceIdeal.main_arg1)
          ∧ r.2.mem ((c.tc : Thread Cert.NormTwoReferenceIdeal.nD Cert.NormTwoReferenceIdeal.τ).loc Cert.NormTwoReferenceIdeal.main_arg2) = m' ((c.tc : Thread Cert.NormTwoReferenceIdeal.nD Cert.NormTwoReferenceIdeal.τ).loc Cert.NormTwoReferenceIdeal.main_arg2))

def preserves_NormMemory_NormMemoryIdeal : Prop :=
  True

def algebraic_NormMemoryIdeal_NormMemoryReferenceIdeal [hNormMemoryIdeal : Cert.NormMemoryIdeal.Facts] [hNormMemoryReferenceIdeal : Cert.NormMemoryReferenceIdeal.Facts] : Prop :=
  ∀ (m : (ℓ : Loc Cert.NormMemoryIdeal.nD Cert.NormMemoryIdeal.τ Cert.NormMemoryIdeal.sig) → Buf (Elt Ideal) ℓ) (g : Dev Cert.NormMemoryIdeal.nD → PrngReg)
    (m' : (ℓ : Loc Cert.NormMemoryReferenceIdeal.nD Cert.NormMemoryReferenceIdeal.τ Cert.NormMemoryReferenceIdeal.sig) → Buf (Elt Ideal) ℓ) (g' : Dev Cert.NormMemoryReferenceIdeal.nD → PrngReg), Pre_NormMemoryIdeal m →
    (∀ c : Dev Cert.NormMemoryIdeal.nD,
      m' ((c.tc : Thread Cert.NormMemoryReferenceIdeal.nD Cert.NormMemoryReferenceIdeal.τ).loc Cert.NormMemoryReferenceIdeal.main_arg0) = m ((c.tc : Thread Cert.NormMemoryIdeal.nD Cert.NormMemoryIdeal.τ).loc Cert.NormMemoryIdeal.main_arg0)
      ∧ m' ((c.tc : Thread Cert.NormMemoryReferenceIdeal.nD Cert.NormMemoryReferenceIdeal.τ).loc Cert.NormMemoryReferenceIdeal.main_arg1) = m ((c.tc : Thread Cert.NormMemoryIdeal.nD Cert.NormMemoryIdeal.τ).loc Cert.NormMemoryIdeal.main_arg1)) →
    ∃ (v0 : (c : Dev Cert.NormMemoryIdeal.nD) → Buf (Elt Ideal) ((c.tc : Thread Cert.NormMemoryIdeal.nD Cert.NormMemoryIdeal.τ).loc Cert.NormMemoryIdeal.main_v0_0)) (v1 : (c : Dev Cert.NormMemoryIdeal.nD) → Buf (Elt Ideal) ((c.tc : Thread Cert.NormMemoryIdeal.nD Cert.NormMemoryIdeal.τ).loc Cert.NormMemoryIdeal.main_v0_1)),
      θ_run (Cert.NormMemoryIdeal.defs (F := Ideal)) (onTc (τ := Cert.NormMemoryIdeal.τ) (Cert.NormMemoryIdeal.main (F := Ideal))) ⟨m, fun _ => 0, g⟩ (fun r => ∀ c : Dev Cert.NormMemoryIdeal.nD,
          r.2.mem ((c.tc : Thread Cert.NormMemoryIdeal.nD Cert.NormMemoryIdeal.τ).loc Cert.NormMemoryIdeal.main_v0_0) = v0 c
          ∧ r.2.mem ((c.tc : Thread Cert.NormMemoryIdeal.nD Cert.NormMemoryIdeal.τ).loc Cert.NormMemoryIdeal.main_v0_1) = v1 c
          ∧ r.2.mem ((c.tc : Thread Cert.NormMemoryIdeal.nD Cert.NormMemoryIdeal.τ).loc Cert.NormMemoryIdeal.main_arg0) = m ((c.tc : Thread Cert.NormMemoryIdeal.nD Cert.NormMemoryIdeal.τ).loc Cert.NormMemoryIdeal.main_arg0)
          ∧ r.2.mem ((c.tc : Thread Cert.NormMemoryIdeal.nD Cert.NormMemoryIdeal.τ).loc Cert.NormMemoryIdeal.main_arg1) = m ((c.tc : Thread Cert.NormMemoryIdeal.nD Cert.NormMemoryIdeal.τ).loc Cert.NormMemoryIdeal.main_arg1))
      ∧ θ_run (Cert.NormMemoryReferenceIdeal.defs (F := Ideal)) (onTc (τ := Cert.NormMemoryReferenceIdeal.τ) (Cert.NormMemoryReferenceIdeal.main (F := Ideal))) ⟨m', fun _ => 0, g'⟩ (fun r => ∀ c : Dev Cert.NormMemoryReferenceIdeal.nD,
          r.2.mem ((c.tc : Thread Cert.NormMemoryReferenceIdeal.nD Cert.NormMemoryReferenceIdeal.τ).loc Cert.NormMemoryReferenceIdeal.main_v12) = v0 c
          ∧ r.2.mem ((c.tc : Thread Cert.NormMemoryReferenceIdeal.nD Cert.NormMemoryReferenceIdeal.τ).loc Cert.NormMemoryReferenceIdeal.main_v20) = v1 c
          ∧ r.2.mem ((c.tc : Thread Cert.NormMemoryReferenceIdeal.nD Cert.NormMemoryReferenceIdeal.τ).loc Cert.NormMemoryReferenceIdeal.main_arg0) = m' ((c.tc : Thread Cert.NormMemoryReferenceIdeal.nD Cert.NormMemoryReferenceIdeal.τ).loc Cert.NormMemoryReferenceIdeal.main_arg0)
          ∧ r.2.mem ((c.tc : Thread Cert.NormMemoryReferenceIdeal.nD Cert.NormMemoryReferenceIdeal.τ).loc Cert.NormMemoryReferenceIdeal.main_arg1) = m' ((c.tc : Thread Cert.NormMemoryReferenceIdeal.nD Cert.NormMemoryReferenceIdeal.τ).loc Cert.NormMemoryReferenceIdeal.main_arg1))

def preserves_AdamInput_AdamInputIdeal : Prop :=
  True

def algebraic_AdamInputIdeal_AdamInputReferenceIdeal [hAdamInputIdeal : Cert.AdamInputIdeal.Facts] [hAdamInputReferenceIdeal : Cert.AdamInputReferenceIdeal.Facts] : Prop :=
  ∀ (m : (ℓ : Loc Cert.AdamInputIdeal.nD Cert.AdamInputIdeal.τ Cert.AdamInputIdeal.sig) → Buf (Elt Ideal) ℓ) (g : Dev Cert.AdamInputIdeal.nD → PrngReg)
    (m' : (ℓ : Loc Cert.AdamInputReferenceIdeal.nD Cert.AdamInputReferenceIdeal.τ Cert.AdamInputReferenceIdeal.sig) → Buf (Elt Ideal) ℓ) (g' : Dev Cert.AdamInputReferenceIdeal.nD → PrngReg), Pre_AdamInputIdeal m →
    (∀ c : Dev Cert.AdamInputIdeal.nD,
      m' ((c.tc : Thread Cert.AdamInputReferenceIdeal.nD Cert.AdamInputReferenceIdeal.τ).loc Cert.AdamInputReferenceIdeal.main_arg0) = m ((c.tc : Thread Cert.AdamInputIdeal.nD Cert.AdamInputIdeal.τ).loc Cert.AdamInputIdeal.main_arg0)
      ∧ m' ((c.tc : Thread Cert.AdamInputReferenceIdeal.nD Cert.AdamInputReferenceIdeal.τ).loc Cert.AdamInputReferenceIdeal.main_arg1) = m ((c.tc : Thread Cert.AdamInputIdeal.nD Cert.AdamInputIdeal.τ).loc Cert.AdamInputIdeal.main_arg1)
      ∧ m' ((c.tc : Thread Cert.AdamInputReferenceIdeal.nD Cert.AdamInputReferenceIdeal.τ).loc Cert.AdamInputReferenceIdeal.main_arg2) = m ((c.tc : Thread Cert.AdamInputIdeal.nD Cert.AdamInputIdeal.τ).loc Cert.AdamInputIdeal.main_arg2)
      ∧ m' ((c.tc : Thread Cert.AdamInputReferenceIdeal.nD Cert.AdamInputReferenceIdeal.τ).loc Cert.AdamInputReferenceIdeal.main_arg3) = m ((c.tc : Thread Cert.AdamInputIdeal.nD Cert.AdamInputIdeal.τ).loc Cert.AdamInputIdeal.main_arg3)) →
    ∃ (v0 : (c : Dev Cert.AdamInputIdeal.nD) → Buf (Elt Ideal) ((c.tc : Thread Cert.AdamInputIdeal.nD Cert.AdamInputIdeal.τ).loc Cert.AdamInputIdeal.main_v0_0)) (v1 : (c : Dev Cert.AdamInputIdeal.nD) → Buf (Elt Ideal) ((c.tc : Thread Cert.AdamInputIdeal.nD Cert.AdamInputIdeal.τ).loc Cert.AdamInputIdeal.main_v0_1)) (v2 : (c : Dev Cert.AdamInputIdeal.nD) → Buf (Elt Ideal) ((c.tc : Thread Cert.AdamInputIdeal.nD Cert.AdamInputIdeal.τ).loc Cert.AdamInputIdeal.main_v0_2)),
      θ_run (Cert.AdamInputIdeal.defs (F := Ideal)) (onTc (τ := Cert.AdamInputIdeal.τ) (Cert.AdamInputIdeal.main (F := Ideal))) ⟨m, fun _ => 0, g⟩ (fun r => ∀ c : Dev Cert.AdamInputIdeal.nD,
          r.2.mem ((c.tc : Thread Cert.AdamInputIdeal.nD Cert.AdamInputIdeal.τ).loc Cert.AdamInputIdeal.main_v0_0) = v0 c
          ∧ r.2.mem ((c.tc : Thread Cert.AdamInputIdeal.nD Cert.AdamInputIdeal.τ).loc Cert.AdamInputIdeal.main_v0_1) = v1 c
          ∧ r.2.mem ((c.tc : Thread Cert.AdamInputIdeal.nD Cert.AdamInputIdeal.τ).loc Cert.AdamInputIdeal.main_v0_2) = v2 c
          ∧ r.2.mem ((c.tc : Thread Cert.AdamInputIdeal.nD Cert.AdamInputIdeal.τ).loc Cert.AdamInputIdeal.main_arg0) = m ((c.tc : Thread Cert.AdamInputIdeal.nD Cert.AdamInputIdeal.τ).loc Cert.AdamInputIdeal.main_arg0)
          ∧ r.2.mem ((c.tc : Thread Cert.AdamInputIdeal.nD Cert.AdamInputIdeal.τ).loc Cert.AdamInputIdeal.main_arg1) = m ((c.tc : Thread Cert.AdamInputIdeal.nD Cert.AdamInputIdeal.τ).loc Cert.AdamInputIdeal.main_arg1)
          ∧ r.2.mem ((c.tc : Thread Cert.AdamInputIdeal.nD Cert.AdamInputIdeal.τ).loc Cert.AdamInputIdeal.main_arg2) = m ((c.tc : Thread Cert.AdamInputIdeal.nD Cert.AdamInputIdeal.τ).loc Cert.AdamInputIdeal.main_arg2)
          ∧ r.2.mem ((c.tc : Thread Cert.AdamInputIdeal.nD Cert.AdamInputIdeal.τ).loc Cert.AdamInputIdeal.main_arg3) = m ((c.tc : Thread Cert.AdamInputIdeal.nD Cert.AdamInputIdeal.τ).loc Cert.AdamInputIdeal.main_arg3))
      ∧ θ_run (Cert.AdamInputReferenceIdeal.defs (F := Ideal)) (onTc (τ := Cert.AdamInputReferenceIdeal.τ) (Cert.AdamInputReferenceIdeal.main (F := Ideal))) ⟨m', fun _ => 0, g'⟩ (fun r => ∀ c : Dev Cert.AdamInputReferenceIdeal.nD,
          r.2.mem ((c.tc : Thread Cert.AdamInputReferenceIdeal.nD Cert.AdamInputReferenceIdeal.τ).loc Cert.AdamInputReferenceIdeal.main_v23) = v0 c
          ∧ r.2.mem ((c.tc : Thread Cert.AdamInputReferenceIdeal.nD Cert.AdamInputReferenceIdeal.τ).loc Cert.AdamInputReferenceIdeal.main_v4) = v1 c
          ∧ r.2.mem ((c.tc : Thread Cert.AdamInputReferenceIdeal.nD Cert.AdamInputReferenceIdeal.τ).loc Cert.AdamInputReferenceIdeal.main_v10) = v2 c
          ∧ r.2.mem ((c.tc : Thread Cert.AdamInputReferenceIdeal.nD Cert.AdamInputReferenceIdeal.τ).loc Cert.AdamInputReferenceIdeal.main_arg0) = m' ((c.tc : Thread Cert.AdamInputReferenceIdeal.nD Cert.AdamInputReferenceIdeal.τ).loc Cert.AdamInputReferenceIdeal.main_arg0)
          ∧ r.2.mem ((c.tc : Thread Cert.AdamInputReferenceIdeal.nD Cert.AdamInputReferenceIdeal.τ).loc Cert.AdamInputReferenceIdeal.main_arg1) = m' ((c.tc : Thread Cert.AdamInputReferenceIdeal.nD Cert.AdamInputReferenceIdeal.τ).loc Cert.AdamInputReferenceIdeal.main_arg1)
          ∧ r.2.mem ((c.tc : Thread Cert.AdamInputReferenceIdeal.nD Cert.AdamInputReferenceIdeal.τ).loc Cert.AdamInputReferenceIdeal.main_arg2) = m' ((c.tc : Thread Cert.AdamInputReferenceIdeal.nD Cert.AdamInputReferenceIdeal.τ).loc Cert.AdamInputReferenceIdeal.main_arg2)
          ∧ r.2.mem ((c.tc : Thread Cert.AdamInputReferenceIdeal.nD Cert.AdamInputReferenceIdeal.τ).loc Cert.AdamInputReferenceIdeal.main_arg3) = m' ((c.tc : Thread Cert.AdamInputReferenceIdeal.nD Cert.AdamInputReferenceIdeal.τ).loc Cert.AdamInputReferenceIdeal.main_arg3))

def preserves_AdamSquare_AdamSquareIdeal : Prop :=
  True

def algebraic_AdamSquareIdeal_AdamSquareReferenceIdeal [hAdamSquareIdeal : Cert.AdamSquareIdeal.Facts] [hAdamSquareReferenceIdeal : Cert.AdamSquareReferenceIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareReferenceIdeal.nD Cert.AdamSquareReferenceIdeal.τ Cert.AdamSquareReferenceIdeal.sig) → Buf (Elt Ideal) ℓ) (g' : Dev Cert.AdamSquareReferenceIdeal.nD → PrngReg), Pre_AdamSquareIdeal m →
    (∀ c : Dev Cert.AdamSquareIdeal.nD,
      m' ((c.tc : Thread Cert.AdamSquareReferenceIdeal.nD Cert.AdamSquareReferenceIdeal.τ).loc Cert.AdamSquareReferenceIdeal.main_arg0) = m ((c.tc : Thread Cert.AdamSquareIdeal.nD Cert.AdamSquareIdeal.τ).loc Cert.AdamSquareIdeal.main_arg0)
      ∧ m' ((c.tc : Thread Cert.AdamSquareReferenceIdeal.nD Cert.AdamSquareReferenceIdeal.τ).loc Cert.AdamSquareReferenceIdeal.main_arg1) = m ((c.tc : Thread Cert.AdamSquareIdeal.nD Cert.AdamSquareIdeal.τ).loc Cert.AdamSquareIdeal.main_arg1)
      ∧ m' ((c.tc : Thread Cert.AdamSquareReferenceIdeal.nD Cert.AdamSquareReferenceIdeal.τ).loc Cert.AdamSquareReferenceIdeal.main_arg2) = m ((c.tc : Thread Cert.AdamSquareIdeal.nD Cert.AdamSquareIdeal.τ).loc Cert.AdamSquareIdeal.main_arg2)
      ∧ m' ((c.tc : Thread Cert.AdamSquareReferenceIdeal.nD Cert.AdamSquareReferenceIdeal.τ).loc Cert.AdamSquareReferenceIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareReferenceIdeal.defs (F := Ideal)) (onTc (τ := Cert.AdamSquareReferenceIdeal.τ) (Cert.AdamSquareReferenceIdeal.main (F := Ideal))) ⟨m', fun _ => 0, g'⟩ (fun r => ∀ c : Dev Cert.AdamSquareReferenceIdeal.nD,
          r.2.mem ((c.tc : Thread Cert.AdamSquareReferenceIdeal.nD Cert.AdamSquareReferenceIdeal.τ).loc Cert.AdamSquareReferenceIdeal.main_v23) = v0 c
          ∧ r.2.mem ((c.tc : Thread Cert.AdamSquareReferenceIdeal.nD Cert.AdamSquareReferenceIdeal.τ).loc Cert.AdamSquareReferenceIdeal.main_v4) = v1 c
          ∧ r.2.mem ((c.tc : Thread Cert.AdamSquareReferenceIdeal.nD Cert.AdamSquareReferenceIdeal.τ).loc Cert.AdamSquareReferenceIdeal.main_v10) = v2 c
          ∧ r.2.mem ((c.tc : Thread Cert.AdamSquareReferenceIdeal.nD Cert.AdamSquareReferenceIdeal.τ).loc Cert.AdamSquareReferenceIdeal.main_arg0) = m' ((c.tc : Thread Cert.AdamSquareReferenceIdeal.nD Cert.AdamSquareReferenceIdeal.τ).loc Cert.AdamSquareReferenceIdeal.main_arg0)
          ∧ r.2.mem ((c.tc : Thread Cert.AdamSquareReferenceIdeal.nD Cert.AdamSquareReferenceIdeal.τ).loc Cert.AdamSquareReferenceIdeal.main_arg1) = m' ((c.tc : Thread Cert.AdamSquareReferenceIdeal.nD Cert.AdamSquareReferenceIdeal.τ).loc Cert.AdamSquareReferenceIdeal.main_arg1)
          ∧ r.2.mem ((c.tc : Thread Cert.AdamSquareReferenceIdeal.nD Cert.AdamSquareReferenceIdeal.τ).loc Cert.AdamSquareReferenceIdeal.main_arg2) = m' ((c.tc : Thread Cert.AdamSquareReferenceIdeal.nD Cert.AdamSquareReferenceIdeal.τ).loc Cert.AdamSquareReferenceIdeal.main_arg2)
          ∧ r.2.mem ((c.tc : Thread Cert.AdamSquareReferenceIdeal.nD Cert.AdamSquareReferenceIdeal.τ).loc Cert.AdamSquareReferenceIdeal.main_arg3) = m' ((c.tc : Thread Cert.AdamSquareReferenceIdeal.nD Cert.AdamSquareReferenceIdeal.τ).loc Cert.AdamSquareReferenceIdeal.main_arg3))

def preserves_AdamMemory_AdamMemoryIdeal : Prop :=
  True

def algebraic_AdamMemoryIdeal_AdamMemoryReferenceIdeal [hAdamMemoryIdeal : Cert.AdamMemoryIdeal.Facts] [hAdamMemoryReferenceIdeal : Cert.AdamMemoryReferenceIdeal.Facts] : Prop :=
  ∀ (m : (ℓ : Loc Cert.AdamMemoryIdeal.nD Cert.AdamMemoryIdeal.τ Cert.AdamMemoryIdeal.sig) → Buf (Elt Ideal) ℓ) (g : Dev Cert.AdamMemoryIdeal.nD → PrngReg)
    (m' : (ℓ : Loc Cert.AdamMemoryReferenceIdeal.nD Cert.AdamMemoryReferenceIdeal.τ Cert.AdamMemoryReferenceIdeal.sig) → Buf (Elt Ideal) ℓ) (g' : Dev Cert.AdamMemoryReferenceIdeal.nD → PrngReg), Pre_AdamMemoryIdeal m →
    (∀ c : Dev Cert.AdamMemoryIdeal.nD,
      m' ((c.tc : Thread Cert.AdamMemoryReferenceIdeal.nD Cert.AdamMemoryReferenceIdeal.τ).loc Cert.AdamMemoryReferenceIdeal.main_arg0) = m ((c.tc : Thread Cert.AdamMemoryIdeal.nD Cert.AdamMemoryIdeal.τ).loc Cert.AdamMemoryIdeal.main_arg0)
      ∧ m' ((c.tc : Thread Cert.AdamMemoryReferenceIdeal.nD Cert.AdamMemoryReferenceIdeal.τ).loc Cert.AdamMemoryReferenceIdeal.main_arg1) = m ((c.tc : Thread Cert.AdamMemoryIdeal.nD Cert.AdamMemoryIdeal.τ).loc Cert.AdamMemoryIdeal.main_arg1)
      ∧ m' ((c.tc : Thread Cert.AdamMemoryReferenceIdeal.nD Cert.AdamMemoryReferenceIdeal.τ).loc Cert.AdamMemoryReferenceIdeal.main_arg2) = m ((c.tc : Thread Cert.AdamMemoryIdeal.nD Cert.AdamMemoryIdeal.τ).loc Cert.AdamMemoryIdeal.main_arg2)
      ∧ m' ((c.tc : Thread Cert.AdamMemoryReferenceIdeal.nD Cert.AdamMemoryReferenceIdeal.τ).loc Cert.AdamMemoryReferenceIdeal.main_arg3) = m ((c.tc : Thread Cert.AdamMemoryIdeal.nD Cert.AdamMemoryIdeal.τ).loc Cert.AdamMemoryIdeal.main_arg3)) →
    ∃ (v0 : (c : Dev Cert.AdamMemoryIdeal.nD) → Buf (Elt Ideal) ((c.tc : Thread Cert.AdamMemoryIdeal.nD Cert.AdamMemoryIdeal.τ).loc Cert.AdamMemoryIdeal.main_v0_0)) (v1 : (c : Dev Cert.AdamMemoryIdeal.nD) → Buf (Elt Ideal) ((c.tc : Thread Cert.AdamMemoryIdeal.nD Cert.AdamMemoryIdeal.τ).loc Cert.AdamMemoryIdeal.main_v0_1)) (v2 : (c : Dev Cert.AdamMemoryIdeal.nD) → Buf (Elt Ideal) ((c.tc : Thread Cert.AdamMemoryIdeal.nD Cert.AdamMemoryIdeal.τ).loc Cert.AdamMemoryIdeal.main_v0_2)),
      θ_run (Cert.AdamMemoryIdeal.defs (F := Ideal)) (onTc (τ := Cert.AdamMemoryIdeal.τ) (Cert.AdamMemoryIdeal.main (F := Ideal))) ⟨m, fun _ => 0, g⟩ (fun r => ∀ c : Dev Cert.AdamMemoryIdeal.nD,
          r.2.mem ((c.tc : Thread Cert.AdamMemoryIdeal.nD Cert.AdamMemoryIdeal.τ).loc Cert.AdamMemoryIdeal.main_v0_0) = v0 c
          ∧ r.2.mem ((c.tc : Thread Cert.AdamMemoryIdeal.nD Cert.AdamMemoryIdeal.τ).loc Cert.AdamMemoryIdeal.main_v0_1) = v1 c
          ∧ r.2.mem ((c.tc : Thread Cert.AdamMemoryIdeal.nD Cert.AdamMemoryIdeal.τ).loc Cert.AdamMemoryIdeal.main_v0_2) = v2 c
          ∧ r.2.mem ((c.tc : Thread Cert.AdamMemoryIdeal.nD Cert.AdamMemoryIdeal.τ).loc Cert.AdamMemoryIdeal.main_arg0) = m ((c.tc : Thread Cert.AdamMemoryIdeal.nD Cert.AdamMemoryIdeal.τ).loc Cert.AdamMemoryIdeal.main_arg0)
          ∧ r.2.mem ((c.tc : Thread Cert.AdamMemoryIdeal.nD Cert.AdamMemoryIdeal.τ).loc Cert.AdamMemoryIdeal.main_arg1) = m ((c.tc : Thread Cert.AdamMemoryIdeal.nD Cert.AdamMemoryIdeal.τ).loc Cert.AdamMemoryIdeal.main_arg1)
          ∧ r.2.mem ((c.tc : Thread Cert.AdamMemoryIdeal.nD Cert.AdamMemoryIdeal.τ).loc Cert.AdamMemoryIdeal.main_arg2) = m ((c.tc : Thread Cert.AdamMemoryIdeal.nD Cert.AdamMemoryIdeal.τ).loc Cert.AdamMemoryIdeal.main_arg2)
          ∧ r.2.mem ((c.tc : Thread Cert.AdamMemoryIdeal.nD Cert.AdamMemoryIdeal.τ).loc Cert.AdamMemoryIdeal.main_arg3) = m ((c.tc : Thread Cert.AdamMemoryIdeal.nD Cert.AdamMemoryIdeal.τ).loc Cert.AdamMemoryIdeal.main_arg3))
      ∧ θ_run (Cert.AdamMemoryReferenceIdeal.defs (F := Ideal)) (onTc (τ := Cert.AdamMemoryReferenceIdeal.τ) (Cert.AdamMemoryReferenceIdeal.main (F := Ideal))) ⟨m', fun _ => 0, g'⟩ (fun r => ∀ c : Dev Cert.AdamMemoryReferenceIdeal.nD,
          r.2.mem ((c.tc : Thread Cert.AdamMemoryReferenceIdeal.nD Cert.AdamMemoryReferenceIdeal.τ).loc Cert.AdamMemoryReferenceIdeal.main_v23) = v0 c
          ∧ r.2.mem ((c.tc : Thread Cert.AdamMemoryReferenceIdeal.nD Cert.AdamMemoryReferenceIdeal.τ).loc Cert.AdamMemoryReferenceIdeal.main_v4) = v1 c
          ∧ r.2.mem ((c.tc : Thread Cert.AdamMemoryReferenceIdeal.nD Cert.AdamMemoryReferenceIdeal.τ).loc Cert.AdamMemoryReferenceIdeal.main_v10) = v2 c
          ∧ r.2.mem ((c.tc : Thread Cert.AdamMemoryReferenceIdeal.nD Cert.AdamMemoryReferenceIdeal.τ).loc Cert.AdamMemoryReferenceIdeal.main_arg0) = m' ((c.tc : Thread Cert.AdamMemoryReferenceIdeal.nD Cert.AdamMemoryReferenceIdeal.τ).loc Cert.AdamMemoryReferenceIdeal.main_arg0)
          ∧ r.2.mem ((c.tc : Thread Cert.AdamMemoryReferenceIdeal.nD Cert.AdamMemoryReferenceIdeal.τ).loc Cert.AdamMemoryReferenceIdeal.main_arg1) = m' ((c.tc : Thread Cert.AdamMemoryReferenceIdeal.nD Cert.AdamMemoryReferenceIdeal.τ).loc Cert.AdamMemoryReferenceIdeal.main_arg1)
          ∧ r.2.mem ((c.tc : Thread Cert.AdamMemoryReferenceIdeal.nD Cert.AdamMemoryReferenceIdeal.τ).loc Cert.AdamMemoryReferenceIdeal.main_arg2) = m' ((c.tc : Thread Cert.AdamMemoryReferenceIdeal.nD Cert.AdamMemoryReferenceIdeal.τ).loc Cert.AdamMemoryReferenceIdeal.main_arg2)
          ∧ r.2.mem ((c.tc : Thread Cert.AdamMemoryReferenceIdeal.nD Cert.AdamMemoryReferenceIdeal.τ).loc Cert.AdamMemoryReferenceIdeal.main_arg3) = m' ((c.tc : Thread Cert.AdamMemoryReferenceIdeal.nD Cert.AdamMemoryReferenceIdeal.τ).loc Cert.AdamMemoryReferenceIdeal.main_arg3))

def preserves_AdamShared_AdamSharedIdeal : Prop :=
  True

def algebraic_AdamSharedIdeal_AdamSharedReferenceIdeal [hAdamSharedIdeal : Cert.AdamSharedIdeal.Facts] [hAdamSharedReferenceIdeal : Cert.AdamSharedReferenceIdeal.Facts] : Prop :=
  ∀ (m : (ℓ : Loc Cert.AdamSharedIdeal.nD Cert.AdamSharedIdeal.τ Cert.AdamSharedIdeal.sig) → Buf (Elt Ideal) ℓ) (g : Dev Cert.AdamSharedIdeal.nD → PrngReg)
    (m' : (ℓ : Loc Cert.AdamSharedReferenceIdeal.nD Cert.AdamSharedReferenceIdeal.τ Cert.AdamSharedReferenceIdeal.sig) → Buf (Elt Ideal) ℓ) (g' : Dev Cert.AdamSharedReferenceIdeal.nD → PrngReg), Pre_AdamSharedIdeal m →
    (∀ c : Dev Cert.AdamSharedIdeal.nD,
      m' ((c.tc : Thread Cert.AdamSharedReferenceIdeal.nD Cert.AdamSharedReferenceIdeal.τ).loc Cert.AdamSharedReferenceIdeal.main_arg0) = m ((c.tc : Thread Cert.AdamSharedIdeal.nD Cert.AdamSharedIdeal.τ).loc Cert.AdamSharedIdeal.main_arg0)
      ∧ m' ((c.tc : Thread Cert.AdamSharedReferenceIdeal.nD Cert.AdamSharedReferenceIdeal.τ).loc Cert.AdamSharedReferenceIdeal.main_arg1) = m ((c.tc : Thread Cert.AdamSharedIdeal.nD Cert.AdamSharedIdeal.τ).loc Cert.AdamSharedIdeal.main_arg1)
      ∧ m' ((c.tc : Thread Cert.AdamSharedReferenceIdeal.nD Cert.AdamSharedReferenceIdeal.τ).loc Cert.AdamSharedReferenceIdeal.main_arg2) = m ((c.tc : Thread Cert.AdamSharedIdeal.nD Cert.AdamSharedIdeal.τ).loc Cert.AdamSharedIdeal.main_arg2)
      ∧ m' ((c.tc : Thread Cert.AdamSharedReferenceIdeal.nD Cert.AdamSharedReferenceIdeal.τ).loc Cert.AdamSharedReferenceIdeal.main_arg3) = m ((c.tc : Thread Cert.AdamSharedIdeal.nD Cert.AdamSharedIdeal.τ).loc Cert.AdamSharedIdeal.main_arg3)) →
    ∃ (v0 : (c : Dev Cert.AdamSharedIdeal.nD) → Buf (Elt Ideal) ((c.tc : Thread Cert.AdamSharedIdeal.nD Cert.AdamSharedIdeal.τ).loc Cert.AdamSharedIdeal.main_v0_0)) (v1 : (c : Dev Cert.AdamSharedIdeal.nD) → Buf (Elt Ideal) ((c.tc : Thread Cert.AdamSharedIdeal.nD Cert.AdamSharedIdeal.τ).loc Cert.AdamSharedIdeal.main_v0_1)) (v2 : (c : Dev Cert.AdamSharedIdeal.nD) → Buf (Elt Ideal) ((c.tc : Thread Cert.AdamSharedIdeal.nD Cert.AdamSharedIdeal.τ).loc Cert.AdamSharedIdeal.main_v0_2)),
      θ_run (Cert.AdamSharedIdeal.defs (F := Ideal)) (onTc (τ := Cert.AdamSharedIdeal.τ) (Cert.AdamSharedIdeal.main (F := Ideal))) ⟨m, fun _ => 0, g⟩ (fun r => ∀ c : Dev Cert.AdamSharedIdeal.nD,
          r.2.mem ((c.tc : Thread Cert.AdamSharedIdeal.nD Cert.AdamSharedIdeal.τ).loc Cert.AdamSharedIdeal.main_v0_0) = v0 c
          ∧ r.2.mem ((c.tc : Thread Cert.AdamSharedIdeal.nD Cert.AdamSharedIdeal.τ).loc Cert.AdamSharedIdeal.main_v0_1) = v1 c
          ∧ r.2.mem ((c.tc : Thread Cert.AdamSharedIdeal.nD Cert.AdamSharedIdeal.τ).loc Cert.AdamSharedIdeal.main_v0_2) = v2 c
          ∧ r.2.mem ((c.tc : Thread Cert.AdamSharedIdeal.nD Cert.AdamSharedIdeal.τ).loc Cert.AdamSharedIdeal.main_arg0) = m ((c.tc : Thread Cert.AdamSharedIdeal.nD Cert.AdamSharedIdeal.τ).loc Cert.AdamSharedIdeal.main_arg0)
          ∧ r.2.mem ((c.tc : Thread Cert.AdamSharedIdeal.nD Cert.AdamSharedIdeal.τ).loc Cert.AdamSharedIdeal.main_arg1) = m ((c.tc : Thread Cert.AdamSharedIdeal.nD Cert.AdamSharedIdeal.τ).loc Cert.AdamSharedIdeal.main_arg1)
          ∧ r.2.mem ((c.tc : Thread Cert.AdamSharedIdeal.nD Cert.AdamSharedIdeal.τ).loc Cert.AdamSharedIdeal.main_arg2) = m ((c.tc : Thread Cert.AdamSharedIdeal.nD Cert.AdamSharedIdeal.τ).loc Cert.AdamSharedIdeal.main_arg2)
          ∧ r.2.mem ((c.tc : Thread Cert.AdamSharedIdeal.nD Cert.AdamSharedIdeal.τ).loc Cert.AdamSharedIdeal.main_arg3) = m ((c.tc : Thread Cert.AdamSharedIdeal.nD Cert.AdamSharedIdeal.τ).loc Cert.AdamSharedIdeal.main_arg3))
      ∧ θ_run (Cert.AdamSharedReferenceIdeal.defs (F := Ideal)) (onTc (τ := Cert.AdamSharedReferenceIdeal.τ) (Cert.AdamSharedReferenceIdeal.main (F := Ideal))) ⟨m', fun _ => 0, g'⟩ (fun r => ∀ c : Dev Cert.AdamSharedReferenceIdeal.nD,
          r.2.mem ((c.tc : Thread Cert.AdamSharedReferenceIdeal.nD Cert.AdamSharedReferenceIdeal.τ).loc Cert.AdamSharedReferenceIdeal.main_v23) = v0 c
          ∧ r.2.mem ((c.tc : Thread Cert.AdamSharedReferenceIdeal.nD Cert.AdamSharedReferenceIdeal.τ).loc Cert.AdamSharedReferenceIdeal.main_v4) = v1 c
          ∧ r.2.mem ((c.tc : Thread Cert.AdamSharedReferenceIdeal.nD Cert.AdamSharedReferenceIdeal.τ).loc Cert.AdamSharedReferenceIdeal.main_v10) = v2 c
          ∧ r.2.mem ((c.tc : Thread Cert.AdamSharedReferenceIdeal.nD Cert.AdamSharedReferenceIdeal.τ).loc Cert.AdamSharedReferenceIdeal.main_arg0) = m' ((c.tc : Thread Cert.AdamSharedReferenceIdeal.nD Cert.AdamSharedReferenceIdeal.τ).loc Cert.AdamSharedReferenceIdeal.main_arg0)
          ∧ r.2.mem ((c.tc : Thread Cert.AdamSharedReferenceIdeal.nD Cert.AdamSharedReferenceIdeal.τ).loc Cert.AdamSharedReferenceIdeal.main_arg1) = m' ((c.tc : Thread Cert.AdamSharedReferenceIdeal.nD Cert.AdamSharedReferenceIdeal.τ).loc Cert.AdamSharedReferenceIdeal.main_arg1)
          ∧ r.2.mem ((c.tc : Thread Cert.AdamSharedReferenceIdeal.nD Cert.AdamSharedReferenceIdeal.τ).loc Cert.AdamSharedReferenceIdeal.main_arg2) = m' ((c.tc : Thread Cert.AdamSharedReferenceIdeal.nD Cert.AdamSharedReferenceIdeal.τ).loc Cert.AdamSharedReferenceIdeal.main_arg2)
          ∧ r.2.mem ((c.tc : Thread Cert.AdamSharedReferenceIdeal.nD Cert.AdamSharedReferenceIdeal.τ).loc Cert.AdamSharedReferenceIdeal.main_arg3) = m' ((c.tc : Thread Cert.AdamSharedReferenceIdeal.nD Cert.AdamSharedReferenceIdeal.τ).loc Cert.AdamSharedReferenceIdeal.main_arg3))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v23) = v0 c
          ∧ r.2.mem ((c.tc : Thread Cert.AdamUpReferenceIdeal.nD Cert.AdamUpReferenceIdeal.τ).loc Cert.AdamUpReferenceIdeal.main_v4) = v1 c
          ∧ r.2.mem ((c.tc : Thread Cert.AdamUpReferenceIdeal.nD Cert.AdamUpReferenceIdeal.τ).loc Cert.AdamUpReferenceIdeal.main_v10) = v2 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v23) = v0 c
          ∧ r.2.mem ((c.tc : Thread Cert.AdamDownReferenceIdeal.nD Cert.AdamDownReferenceIdeal.τ).loc Cert.AdamDownReferenceIdeal.main_v4) = v1 c
          ∧ r.2.mem ((c.tc : Thread Cert.AdamDownReferenceIdeal.nD Cert.AdamDownReferenceIdeal.τ).loc Cert.AdamDownReferenceIdeal.main_v10) = v2 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_Middle_MiddleIdeal : Prop :=
  True

def algebraic_MiddleIdeal_MiddleReferenceIdeal [hMiddleIdeal : Cert.MiddleIdeal.Facts] [hMiddleReferenceIdeal : Cert.MiddleReferenceIdeal.Facts] : Prop :=
  ∀ (m : (ℓ : Loc Cert.MiddleIdeal.nD Cert.MiddleIdeal.τ Cert.MiddleIdeal.sig) → Buf (Elt Ideal) ℓ) (g : Dev Cert.MiddleIdeal.nD → PrngReg)
    (m' : (ℓ : Loc Cert.MiddleReferenceIdeal.nD Cert.MiddleReferenceIdeal.τ Cert.MiddleReferenceIdeal.sig) → Buf (Elt Ideal) ℓ) (g' : Dev Cert.MiddleReferenceIdeal.nD → PrngReg), Pre_MiddleIdeal m →
    (∀ c : Dev Cert.MiddleIdeal.nD,
      m' ((c.tc : Thread Cert.MiddleReferenceIdeal.nD Cert.MiddleReferenceIdeal.τ).loc Cert.MiddleReferenceIdeal.main_arg0) = m ((c.tc : Thread Cert.MiddleIdeal.nD Cert.MiddleIdeal.τ).loc Cert.MiddleIdeal.main_arg0)
      ∧ m' ((c.tc : Thread Cert.MiddleReferenceIdeal.nD Cert.MiddleReferenceIdeal.τ).loc Cert.MiddleReferenceIdeal.main_arg1) = m ((c.tc : Thread Cert.MiddleIdeal.nD Cert.MiddleIdeal.τ).loc Cert.MiddleIdeal.main_arg1)) →
    ∃ (v0 : (c : Dev Cert.MiddleIdeal.nD) → Buf (Elt Ideal) ((c.tc : Thread Cert.MiddleIdeal.nD Cert.MiddleIdeal.τ).loc Cert.MiddleIdeal.main_v0)),
      θ_run (Cert.MiddleIdeal.defs (F := Ideal)) (onTc (τ := Cert.MiddleIdeal.τ) (Cert.MiddleIdeal.main (F := Ideal))) ⟨m, fun _ => 0, g⟩ (fun r => ∀ c : Dev Cert.MiddleIdeal.nD,
          r.2.mem ((c.tc : Thread Cert.MiddleIdeal.nD Cert.MiddleIdeal.τ).loc Cert.MiddleIdeal.main_v0) = v0 c
          ∧ r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
          ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1))
      ∧ θ_run (Cert.MiddleReferenceIdeal.defs (F := Ideal)) (onTc (τ := Cert.MiddleReferenceIdeal.τ) (Cert.MiddleReferenceIdeal.main (F := Ideal))) ⟨m', fun _ => 0, g'⟩ (fun r => ∀ c : Dev Cert.MiddleReferenceIdeal.nD,
          r.2.mem ((c.tc : Thread Cert.MiddleReferenceIdeal.nD Cert.MiddleReferenceIdeal.τ).loc Cert.MiddleReferenceIdeal.main_v26) = v0 c
          ∧ r.2.mem ((c.tc : Thread Cert.MiddleReferenceIdeal.nD Cert.MiddleReferenceIdeal.τ).loc Cert.MiddleReferenceIdeal.main_arg0) = m' ((c.tc : Thread Cert.MiddleReferenceIdeal.nD Cert.MiddleReferenceIdeal.τ).loc Cert.MiddleReferenceIdeal.main_arg0)
          ∧ r.2.mem ((c.tc : Thread Cert.MiddleReferenceIdeal.nD Cert.MiddleReferenceIdeal.τ).loc Cert.MiddleReferenceIdeal.main_arg1) = m' ((c.tc : Thread Cert.MiddleReferenceIdeal.nD Cert.MiddleReferenceIdeal.τ).loc Cert.MiddleReferenceIdeal.main_arg1))

def preserves_Gain_GainIdeal : Prop :=
  True

def algebraic_GainIdeal_GainReferenceIdeal [hGainIdeal : Cert.GainIdeal.Facts] [hGainReferenceIdeal : Cert.GainReferenceIdeal.Facts] : Prop :=
  ∀ (m : (ℓ : Loc Cert.GainIdeal.nD Cert.GainIdeal.τ Cert.GainIdeal.sig) → Buf (Elt Ideal) ℓ) (g : Dev Cert.GainIdeal.nD → PrngReg)
    (m' : (ℓ : Loc Cert.GainReferenceIdeal.nD Cert.GainReferenceIdeal.τ Cert.GainReferenceIdeal.sig) → Buf (Elt Ideal) ℓ) (g' : Dev Cert.GainReferenceIdeal.nD → PrngReg), Pre_GainIdeal m →
    (∀ c : Dev Cert.GainIdeal.nD,
      m' ((c.tc : Thread Cert.GainReferenceIdeal.nD Cert.GainReferenceIdeal.τ).loc Cert.GainReferenceIdeal.main_arg0) = m ((c.tc : Thread Cert.GainIdeal.nD Cert.GainIdeal.τ).loc Cert.GainIdeal.main_arg0)
      ∧ m' ((c.tc : Thread Cert.GainReferenceIdeal.nD Cert.GainReferenceIdeal.τ).loc Cert.GainReferenceIdeal.main_arg1) = m ((c.tc : Thread Cert.GainIdeal.nD Cert.GainIdeal.τ).loc Cert.GainIdeal.main_arg1)
      ∧ m' ((c.tc : Thread Cert.GainReferenceIdeal.nD Cert.GainReferenceIdeal.τ).loc Cert.GainReferenceIdeal.main_arg2) = m ((c.tc : Thread Cert.GainIdeal.nD Cert.GainIdeal.τ).loc Cert.GainIdeal.main_arg2)
      ∧ m' ((c.tc : Thread Cert.GainReferenceIdeal.nD Cert.GainReferenceIdeal.τ).loc Cert.GainReferenceIdeal.main_arg3) = m ((c.tc : Thread Cert.GainIdeal.nD Cert.GainIdeal.τ).loc Cert.GainIdeal.main_arg3)) →
    ∃ (v0 : (c : Dev Cert.GainIdeal.nD) → Buf (Elt Ideal) ((c.tc : Thread Cert.GainIdeal.nD Cert.GainIdeal.τ).loc Cert.GainIdeal.main_v0)),
      θ_run (Cert.GainIdeal.defs (F := Ideal)) (onTc (τ := Cert.GainIdeal.τ) (Cert.GainIdeal.main (F := Ideal))) ⟨m, fun _ => 0, g⟩ (fun r => ∀ c : Dev Cert.GainIdeal.nD,
          r.2.mem ((c.tc : Thread Cert.GainIdeal.nD Cert.GainIdeal.τ).loc Cert.GainIdeal.main_v0) = v0 c
          ∧ r.2.mem ((c.tc : Thread Cert.GainIdeal.nD Cert.GainIdeal.τ).loc Cert.GainIdeal.main_arg0) = m ((c.tc : Thread Cert.GainIdeal.nD Cert.GainIdeal.τ).loc Cert.GainIdeal.main_arg0)
          ∧ r.2.mem ((c.tc : Thread Cert.GainIdeal.nD Cert.GainIdeal.τ).loc Cert.GainIdeal.main_arg1) = m ((c.tc : Thread Cert.GainIdeal.nD Cert.GainIdeal.τ).loc Cert.GainIdeal.main_arg1)
          ∧ r.2.mem ((c.tc : Thread Cert.GainIdeal.nD Cert.GainIdeal.τ).loc Cert.GainIdeal.main_arg2) = m ((c.tc : Thread Cert.GainIdeal.nD Cert.GainIdeal.τ).loc Cert.GainIdeal.main_arg2)
          ∧ r.2.mem ((c.tc : Thread Cert.GainIdeal.nD Cert.GainIdeal.τ).loc Cert.GainIdeal.main_arg3) = m ((c.tc : Thread Cert.GainIdeal.nD Cert.GainIdeal.τ).loc Cert.GainIdeal.main_arg3))
      ∧ θ_run (Cert.GainReferenceIdeal.defs (F := Ideal)) (onTc (τ := Cert.GainReferenceIdeal.τ) (Cert.GainReferenceIdeal.main (F := Ideal))) ⟨m', fun _ => 0, g'⟩ (fun r => ∀ c : Dev Cert.GainReferenceIdeal.nD,
          r.2.mem ((c.tc : Thread Cert.GainReferenceIdeal.nD Cert.GainReferenceIdeal.τ).loc Cert.GainReferenceIdeal.main_v6) = v0 c
          ∧ r.2.mem ((c.tc : Thread Cert.GainReferenceIdeal.nD Cert.GainReferenceIdeal.τ).loc Cert.GainReferenceIdeal.main_arg0) = m' ((c.tc : Thread Cert.GainReferenceIdeal.nD Cert.GainReferenceIdeal.τ).loc Cert.GainReferenceIdeal.main_arg0)
          ∧ r.2.mem ((c.tc : Thread Cert.GainReferenceIdeal.nD Cert.GainReferenceIdeal.τ).loc Cert.GainReferenceIdeal.main_arg1) = m' ((c.tc : Thread Cert.GainReferenceIdeal.nD Cert.GainReferenceIdeal.τ).loc Cert.GainReferenceIdeal.main_arg1)
          ∧ r.2.mem ((c.tc : Thread Cert.GainReferenceIdeal.nD Cert.GainReferenceIdeal.τ).loc Cert.GainReferenceIdeal.main_arg2) = m' ((c.tc : Thread Cert.GainReferenceIdeal.nD Cert.GainReferenceIdeal.τ).loc Cert.GainReferenceIdeal.main_arg2)
          ∧ r.2.mem ((c.tc : Thread Cert.GainReferenceIdeal.nD Cert.GainReferenceIdeal.τ).loc Cert.GainReferenceIdeal.main_arg3) = m' ((c.tc : Thread Cert.GainReferenceIdeal.nD Cert.GainReferenceIdeal.τ).loc Cert.GainReferenceIdeal.main_arg3))

def Claim : Prop :=
  ∃ (hKernel : Cert.Kernel.Facts) (hKernelIdeal : Cert.KernelIdeal.Facts) (hReferenceIdeal : Cert.ReferenceIdeal.Facts) (hHidden : Cert.Hidden.Facts) (hHiddenIdeal : Cert.HiddenIdeal.Facts) (hHiddenReferenceIdeal : Cert.HiddenReferenceIdeal.Facts) (hDown : Cert.Down.Facts) (hDownIdeal : Cert.DownIdeal.Facts) (hDownReferenceIdeal : Cert.DownReferenceIdeal.Facts) (hUp : Cert.Up.Facts) (hUpIdeal : Cert.UpIdeal.Facts) (hUpReferenceIdeal : Cert.UpReferenceIdeal.Facts) (hOut : Cert.Out.Facts) (hOutIdeal : Cert.OutIdeal.Facts) (hOutReferenceIdeal : Cert.OutReferenceIdeal.Facts) (hWide : Cert.Wide.Facts) (hWideIdeal : Cert.WideIdeal.Facts) (hWideReferenceIdeal : Cert.WideReferenceIdeal.Facts) (hBack : Cert.Back.Facts) (hBackIdeal : Cert.BackIdeal.Facts) (hBackReferenceIdeal : Cert.BackReferenceIdeal.Facts) (hBoth : Cert.Both.Facts) (hBothIdeal : Cert.BothIdeal.Facts) (hBothReferenceIdeal : Cert.BothReferenceIdeal.Facts) (hProject : Cert.Project.Facts) (hProjectIdeal : Cert.ProjectIdeal.Facts) (hProjectReferenceIdeal : Cert.ProjectReferenceIdeal.Facts) (hProjectBack : Cert.ProjectBack.Facts) (hProjectBackIdeal : Cert.ProjectBackIdeal.Facts) (hProjectBackReferenceIdeal : Cert.ProjectBackReferenceIdeal.Facts) (hProjectGrad : Cert.ProjectGrad.Facts) (hProjectGradIdeal : Cert.ProjectGradIdeal.Facts) (hProjectGradReferenceIdeal : Cert.ProjectGradReferenceIdeal.Facts) (hMix : Cert.Mix.Facts) (hMixIdeal : Cert.MixIdeal.Facts) (hMixReferenceIdeal : Cert.MixReferenceIdeal.Facts) (hMixBack : Cert.MixBack.Facts) (hMixBackIdeal : Cert.MixBackIdeal.Facts) (hMixBackReferenceIdeal : Cert.MixBackReferenceIdeal.Facts) (hMixGrad : Cert.MixGrad.Facts) (hMixGradIdeal : Cert.MixGradIdeal.Facts) (hMixGradReferenceIdeal : Cert.MixGradReferenceIdeal.Facts) (hShared : Cert.Shared.Facts) (hSharedIdeal : Cert.SharedIdeal.Facts) (hSharedReferenceIdeal : Cert.SharedReferenceIdeal.Facts) (hSharedBack : Cert.SharedBack.Facts) (hSharedBackIdeal : Cert.SharedBackIdeal.Facts) (hSharedBackReferenceIdeal : Cert.SharedBackReferenceIdeal.Facts) (hSharedGrad : Cert.SharedGrad.Facts) (hSharedGradIdeal : Cert.SharedGradIdeal.Facts) (hSharedGradReferenceIdeal : Cert.SharedGradReferenceIdeal.Facts) (hQuery : Cert.Query.Facts) (hQueryIdeal : Cert.QueryIdeal.Facts) (hQueryReferenceIdeal : Cert.QueryReferenceIdeal.Facts) (hQueryBack : Cert.QueryBack.Facts) (hQueryBackIdeal : Cert.QueryBackIdeal.Facts) (hQueryBackReferenceIdeal : Cert.QueryBackReferenceIdeal.Facts) (hQueryGrad : Cert.QueryGrad.Facts) (hQueryGradIdeal : Cert.QueryGradIdeal.Facts) (hQueryGradReferenceIdeal : Cert.QueryGradReferenceIdeal.Facts) (hSticks : Cert.Sticks.Facts) (hSticksIdeal : Cert.SticksIdeal.Facts) (hSticksReferenceIdeal : Cert.SticksReferenceIdeal.Facts) (hMemory : Cert.Memory.Facts) (hMemoryIdeal : Cert.MemoryIdeal.Facts) (hMemoryReferenceIdeal : Cert.MemoryReferenceIdeal.Facts) (hMemoryBack : Cert.MemoryBack.Facts) (hMemoryBackIdeal : Cert.MemoryBackIdeal.Facts) (hMemoryBackReferenceIdeal : Cert.MemoryBackReferenceIdeal.Facts) (hMemoryGrad : Cert.MemoryGrad.Facts) (hMemoryGradIdeal : Cert.MemoryGradIdeal.Facts) (hMemoryGradReferenceIdeal : Cert.MemoryGradReferenceIdeal.Facts) (hNorm : Cert.Norm.Facts) (hNormIdeal : Cert.NormIdeal.Facts) (hNormReferenceIdeal : Cert.NormReferenceIdeal.Facts) (hNormTwo : Cert.NormTwo.Facts) (hNormTwoIdeal : Cert.NormTwoIdeal.Facts) (hNormTwoReferenceIdeal : Cert.NormTwoReferenceIdeal.Facts) (hNormMemory : Cert.NormMemory.Facts) (hNormMemoryIdeal : Cert.NormMemoryIdeal.Facts) (hNormMemoryReferenceIdeal : Cert.NormMemoryReferenceIdeal.Facts) (hAdamInput : Cert.AdamInput.Facts) (hAdamInputIdeal : Cert.AdamInputIdeal.Facts) (hAdamInputReferenceIdeal : Cert.AdamInputReferenceIdeal.Facts) (hAdamSquare : Cert.AdamSquare.Facts) (hAdamSquareIdeal : Cert.AdamSquareIdeal.Facts) (hAdamSquareReferenceIdeal : Cert.AdamSquareReferenceIdeal.Facts) (hAdamMemory : Cert.AdamMemory.Facts) (hAdamMemoryIdeal : Cert.AdamMemoryIdeal.Facts) (hAdamMemoryReferenceIdeal : Cert.AdamMemoryReferenceIdeal.Facts) (hAdamShared : Cert.AdamShared.Facts) (hAdamSharedIdeal : Cert.AdamSharedIdeal.Facts) (hAdamSharedReferenceIdeal : Cert.AdamSharedReferenceIdeal.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hMiddle : Cert.Middle.Facts) (hMiddleIdeal : Cert.MiddleIdeal.Facts) (hMiddleReferenceIdeal : Cert.MiddleReferenceIdeal.Facts) (hGain : Cert.Gain.Facts) (hGainIdeal : Cert.GainIdeal.Facts) (hGainReferenceIdeal : Cert.GainReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_Down (hDown := hDown)
    ∧ quiescent_DownIdeal (hDownIdeal := hDownIdeal)
    ∧ quiescent_DownReferenceIdeal (hDownReferenceIdeal := hDownReferenceIdeal)
    ∧ quiescent_Up (hUp := hUp)
    ∧ quiescent_UpIdeal (hUpIdeal := hUpIdeal)
    ∧ quiescent_UpReferenceIdeal (hUpReferenceIdeal := hUpReferenceIdeal)
    ∧ quiescent_Out (hOut := hOut)
    ∧ quiescent_OutIdeal (hOutIdeal := hOutIdeal)
    ∧ quiescent_OutReferenceIdeal (hOutReferenceIdeal := hOutReferenceIdeal)
    ∧ quiescent_Wide (hWide := hWide)
    ∧ quiescent_WideIdeal (hWideIdeal := hWideIdeal)
    ∧ quiescent_WideReferenceIdeal (hWideReferenceIdeal := hWideReferenceIdeal)
    ∧ quiescent_Back (hBack := hBack)
    ∧ quiescent_BackIdeal (hBackIdeal := hBackIdeal)
    ∧ quiescent_BackReferenceIdeal (hBackReferenceIdeal := hBackReferenceIdeal)
    ∧ quiescent_Both (hBoth := hBoth)
    ∧ quiescent_BothIdeal (hBothIdeal := hBothIdeal)
    ∧ quiescent_BothReferenceIdeal (hBothReferenceIdeal := hBothReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_ProjectBack (hProjectBack := hProjectBack)
    ∧ quiescent_ProjectBackIdeal (hProjectBackIdeal := hProjectBackIdeal)
    ∧ quiescent_ProjectBackReferenceIdeal (hProjectBackReferenceIdeal := hProjectBackReferenceIdeal)
    ∧ quiescent_ProjectGrad (hProjectGrad := hProjectGrad)
    ∧ quiescent_ProjectGradIdeal (hProjectGradIdeal := hProjectGradIdeal)
    ∧ quiescent_ProjectGradReferenceIdeal (hProjectGradReferenceIdeal := hProjectGradReferenceIdeal)
    ∧ quiescent_Mix (hMix := hMix)
    ∧ quiescent_MixIdeal (hMixIdeal := hMixIdeal)
    ∧ quiescent_MixReferenceIdeal (hMixReferenceIdeal := hMixReferenceIdeal)
    ∧ quiescent_MixBack (hMixBack := hMixBack)
    ∧ quiescent_MixBackIdeal (hMixBackIdeal := hMixBackIdeal)
    ∧ quiescent_MixBackReferenceIdeal (hMixBackReferenceIdeal := hMixBackReferenceIdeal)
    ∧ quiescent_MixGrad (hMixGrad := hMixGrad)
    ∧ quiescent_MixGradIdeal (hMixGradIdeal := hMixGradIdeal)
    ∧ quiescent_MixGradReferenceIdeal (hMixGradReferenceIdeal := hMixGradReferenceIdeal)
    ∧ quiescent_Shared (hShared := hShared)
    ∧ quiescent_SharedIdeal (hSharedIdeal := hSharedIdeal)
    ∧ quiescent_SharedReferenceIdeal (hSharedReferenceIdeal := hSharedReferenceIdeal)
    ∧ quiescent_SharedBack (hSharedBack := hSharedBack)
    ∧ quiescent_SharedBackIdeal (hSharedBackIdeal := hSharedBackIdeal)
    ∧ quiescent_SharedBackReferenceIdeal (hSharedBackReferenceIdeal := hSharedBackReferenceIdeal)
    ∧ quiescent_SharedGrad (hSharedGrad := hSharedGrad)
    ∧ quiescent_SharedGradIdeal (hSharedGradIdeal := hSharedGradIdeal)
    ∧ quiescent_SharedGradReferenceIdeal (hSharedGradReferenceIdeal := hSharedGradReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_QueryBack (hQueryBack := hQueryBack)
    ∧ quiescent_QueryBackIdeal (hQueryBackIdeal := hQueryBackIdeal)
    ∧ quiescent_QueryBackReferenceIdeal (hQueryBackReferenceIdeal := hQueryBackReferenceIdeal)
    ∧ quiescent_QueryGrad (hQueryGrad := hQueryGrad)
    ∧ quiescent_QueryGradIdeal (hQueryGradIdeal := hQueryGradIdeal)
    ∧ quiescent_QueryGradReferenceIdeal (hQueryGradReferenceIdeal := hQueryGradReferenceIdeal)
    ∧ quiescent_Sticks (hSticks := hSticks)
    ∧ quiescent_SticksIdeal (hSticksIdeal := hSticksIdeal)
    ∧ quiescent_SticksReferenceIdeal (hSticksReferenceIdeal := hSticksReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_MemoryBack (hMemoryBack := hMemoryBack)
    ∧ quiescent_MemoryBackIdeal (hMemoryBackIdeal := hMemoryBackIdeal)
    ∧ quiescent_MemoryBackReferenceIdeal (hMemoryBackReferenceIdeal := hMemoryBackReferenceIdeal)
    ∧ quiescent_MemoryGrad (hMemoryGrad := hMemoryGrad)
    ∧ quiescent_MemoryGradIdeal (hMemoryGradIdeal := hMemoryGradIdeal)
    ∧ quiescent_MemoryGradReferenceIdeal (hMemoryGradReferenceIdeal := hMemoryGradReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_NormTwo (hNormTwo := hNormTwo)
    ∧ quiescent_NormTwoIdeal (hNormTwoIdeal := hNormTwoIdeal)
    ∧ quiescent_NormTwoReferenceIdeal (hNormTwoReferenceIdeal := hNormTwoReferenceIdeal)
    ∧ quiescent_NormMemory (hNormMemory := hNormMemory)
    ∧ quiescent_NormMemoryIdeal (hNormMemoryIdeal := hNormMemoryIdeal)
    ∧ quiescent_NormMemoryReferenceIdeal (hNormMemoryReferenceIdeal := hNormMemoryReferenceIdeal)
    ∧ quiescent_AdamInput (hAdamInput := hAdamInput)
    ∧ quiescent_AdamInputIdeal (hAdamInputIdeal := hAdamInputIdeal)
    ∧ quiescent_AdamInputReferenceIdeal (hAdamInputReferenceIdeal := hAdamInputReferenceIdeal)
    ∧ quiescent_AdamSquare (hAdamSquare := hAdamSquare)
    ∧ quiescent_AdamSquareIdeal (hAdamSquareIdeal := hAdamSquareIdeal)
    ∧ quiescent_AdamSquareReferenceIdeal (hAdamSquareReferenceIdeal := hAdamSquareReferenceIdeal)
    ∧ quiescent_AdamMemory (hAdamMemory := hAdamMemory)
    ∧ quiescent_AdamMemoryIdeal (hAdamMemoryIdeal := hAdamMemoryIdeal)
    ∧ quiescent_AdamMemoryReferenceIdeal (hAdamMemoryReferenceIdeal := hAdamMemoryReferenceIdeal)
    ∧ quiescent_AdamShared (hAdamShared := hAdamShared)
    ∧ quiescent_AdamSharedIdeal (hAdamSharedIdeal := hAdamSharedIdeal)
    ∧ quiescent_AdamSharedReferenceIdeal (hAdamSharedReferenceIdeal := hAdamSharedReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_Middle (hMiddle := hMiddle)
    ∧ quiescent_MiddleIdeal (hMiddleIdeal := hMiddleIdeal)
    ∧ quiescent_MiddleReferenceIdeal (hMiddleReferenceIdeal := hMiddleReferenceIdeal)
    ∧ quiescent_Gain (hGain := hGain)
    ∧ quiescent_GainIdeal (hGainIdeal := hGainIdeal)
    ∧ quiescent_GainReferenceIdeal (hGainReferenceIdeal := hGainReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Hidden_HiddenIdeal
    ∧ algebraic_HiddenIdeal_HiddenReferenceIdeal (hHiddenIdeal := hHiddenIdeal) (hHiddenReferenceIdeal := hHiddenReferenceIdeal)
    ∧ preserves_Down_DownIdeal
    ∧ algebraic_DownIdeal_DownReferenceIdeal (hDownIdeal := hDownIdeal) (hDownReferenceIdeal := hDownReferenceIdeal)
    ∧ preserves_Up_UpIdeal
    ∧ algebraic_UpIdeal_UpReferenceIdeal (hUpIdeal := hUpIdeal) (hUpReferenceIdeal := hUpReferenceIdeal)
    ∧ preserves_Out_OutIdeal
    ∧ algebraic_OutIdeal_OutReferenceIdeal (hOutIdeal := hOutIdeal) (hOutReferenceIdeal := hOutReferenceIdeal)
    ∧ preserves_Wide_WideIdeal
    ∧ algebraic_WideIdeal_WideReferenceIdeal (hWideIdeal := hWideIdeal) (hWideReferenceIdeal := hWideReferenceIdeal)
    ∧ preserves_Back_BackIdeal
    ∧ algebraic_BackIdeal_BackReferenceIdeal (hBackIdeal := hBackIdeal) (hBackReferenceIdeal := hBackReferenceIdeal)
    ∧ preserves_Both_BothIdeal
    ∧ algebraic_BothIdeal_BothReferenceIdeal (hBothIdeal := hBothIdeal) (hBothReferenceIdeal := hBothReferenceIdeal)
    ∧ preserves_Project_ProjectIdeal
    ∧ algebraic_ProjectIdeal_ProjectReferenceIdeal (hProjectIdeal := hProjectIdeal) (hProjectReferenceIdeal := hProjectReferenceIdeal)
    ∧ preserves_ProjectBack_ProjectBackIdeal
    ∧ algebraic_ProjectBackIdeal_ProjectBackReferenceIdeal (hProjectBackIdeal := hProjectBackIdeal) (hProjectBackReferenceIdeal := hProjectBackReferenceIdeal)
    ∧ preserves_ProjectGrad_ProjectGradIdeal
    ∧ algebraic_ProjectGradIdeal_ProjectGradReferenceIdeal (hProjectGradIdeal := hProjectGradIdeal) (hProjectGradReferenceIdeal := hProjectGradReferenceIdeal)
    ∧ preserves_Mix_MixIdeal
    ∧ algebraic_MixIdeal_MixReferenceIdeal (hMixIdeal := hMixIdeal) (hMixReferenceIdeal := hMixReferenceIdeal)
    ∧ preserves_MixBack_MixBackIdeal
    ∧ algebraic_MixBackIdeal_MixBackReferenceIdeal (hMixBackIdeal := hMixBackIdeal) (hMixBackReferenceIdeal := hMixBackReferenceIdeal)
    ∧ preserves_MixGrad_MixGradIdeal
    ∧ algebraic_MixGradIdeal_MixGradReferenceIdeal (hMixGradIdeal := hMixGradIdeal) (hMixGradReferenceIdeal := hMixGradReferenceIdeal)
    ∧ preserves_Shared_SharedIdeal
    ∧ algebraic_SharedIdeal_SharedReferenceIdeal (hSharedIdeal := hSharedIdeal) (hSharedReferenceIdeal := hSharedReferenceIdeal)
    ∧ preserves_SharedBack_SharedBackIdeal
    ∧ algebraic_SharedBackIdeal_SharedBackReferenceIdeal (hSharedBackIdeal := hSharedBackIdeal) (hSharedBackReferenceIdeal := hSharedBackReferenceIdeal)
    ∧ preserves_SharedGrad_SharedGradIdeal
    ∧ algebraic_SharedGradIdeal_SharedGradReferenceIdeal (hSharedGradIdeal := hSharedGradIdeal) (hSharedGradReferenceIdeal := hSharedGradReferenceIdeal)
    ∧ preserves_Query_QueryIdeal
    ∧ algebraic_QueryIdeal_QueryReferenceIdeal (hQueryIdeal := hQueryIdeal) (hQueryReferenceIdeal := hQueryReferenceIdeal)
    ∧ preserves_QueryBack_QueryBackIdeal
    ∧ algebraic_QueryBackIdeal_QueryBackReferenceIdeal (hQueryBackIdeal := hQueryBackIdeal) (hQueryBackReferenceIdeal := hQueryBackReferenceIdeal)
    ∧ preserves_QueryGrad_QueryGradIdeal
    ∧ algebraic_QueryGradIdeal_QueryGradReferenceIdeal (hQueryGradIdeal := hQueryGradIdeal) (hQueryGradReferenceIdeal := hQueryGradReferenceIdeal)
    ∧ preserves_Sticks_SticksIdeal
    ∧ algebraic_SticksIdeal_SticksReferenceIdeal (hSticksIdeal := hSticksIdeal) (hSticksReferenceIdeal := hSticksReferenceIdeal)
    ∧ preserves_Memory_MemoryIdeal
    ∧ algebraic_MemoryIdeal_MemoryReferenceIdeal (hMemoryIdeal := hMemoryIdeal) (hMemoryReferenceIdeal := hMemoryReferenceIdeal)
    ∧ preserves_MemoryBack_MemoryBackIdeal
    ∧ algebraic_MemoryBackIdeal_MemoryBackReferenceIdeal (hMemoryBackIdeal := hMemoryBackIdeal) (hMemoryBackReferenceIdeal := hMemoryBackReferenceIdeal)
    ∧ preserves_MemoryGrad_MemoryGradIdeal
    ∧ algebraic_MemoryGradIdeal_MemoryGradReferenceIdeal (hMemoryGradIdeal := hMemoryGradIdeal) (hMemoryGradReferenceIdeal := hMemoryGradReferenceIdeal)
    ∧ preserves_Norm_NormIdeal
    ∧ algebraic_NormIdeal_NormReferenceIdeal (hNormIdeal := hNormIdeal) (hNormReferenceIdeal := hNormReferenceIdeal)
    ∧ preserves_NormTwo_NormTwoIdeal
    ∧ algebraic_NormTwoIdeal_NormTwoReferenceIdeal (hNormTwoIdeal := hNormTwoIdeal) (hNormTwoReferenceIdeal := hNormTwoReferenceIdeal)
    ∧ preserves_NormMemory_NormMemoryIdeal
    ∧ algebraic_NormMemoryIdeal_NormMemoryReferenceIdeal (hNormMemoryIdeal := hNormMemoryIdeal) (hNormMemoryReferenceIdeal := hNormMemoryReferenceIdeal)
    ∧ preserves_AdamInput_AdamInputIdeal
    ∧ algebraic_AdamInputIdeal_AdamInputReferenceIdeal (hAdamInputIdeal := hAdamInputIdeal) (hAdamInputReferenceIdeal := hAdamInputReferenceIdeal)
    ∧ preserves_AdamSquare_AdamSquareIdeal
    ∧ algebraic_AdamSquareIdeal_AdamSquareReferenceIdeal (hAdamSquareIdeal := hAdamSquareIdeal) (hAdamSquareReferenceIdeal := hAdamSquareReferenceIdeal)
    ∧ preserves_AdamMemory_AdamMemoryIdeal
    ∧ algebraic_AdamMemoryIdeal_AdamMemoryReferenceIdeal (hAdamMemoryIdeal := hAdamMemoryIdeal) (hAdamMemoryReferenceIdeal := hAdamMemoryReferenceIdeal)
    ∧ preserves_AdamShared_AdamSharedIdeal
    ∧ algebraic_AdamSharedIdeal_AdamSharedReferenceIdeal (hAdamSharedIdeal := hAdamSharedIdeal) (hAdamSharedReferenceIdeal := hAdamSharedReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_Middle_MiddleIdeal
    ∧ algebraic_MiddleIdeal_MiddleReferenceIdeal (hMiddleIdeal := hMiddleIdeal) (hMiddleReferenceIdeal := hMiddleReferenceIdeal)
    ∧ preserves_Gain_GainIdeal
    ∧ algebraic_GainIdeal_GainReferenceIdeal (hGainIdeal := hGainIdeal) (hGainReferenceIdeal := hGainReferenceIdeal)
-- ==== Pre_finite.lean ====
abbrev S4x2048x2560 : Shape := ⟨3, ![4, 2048, 2560]⟩
abbrev S4x2048x1024 : Shape := ⟨3, ![4, 2048, 1024]⟩
abbrev S4x2048x2304 : Shape := ⟨3, ![4, 2048, 2304]⟩
abbrev S_ : Shape := ⟨0, ![]⟩
abbrev S4x2048x768 : Shape := ⟨3, ![4, 2048, 768]⟩

class Facts : Prop where
  slices_S4x2048x2560_S4x2048x2304_0_0_0 : S4x2048x2560.Slices ![0, 0, 0] S4x2048x2304
  bitsLt_bf16_f32 : FTy.bits .bf16 < FTy.bits .f32
  bcast_S_S4x2048x2304 : S_.BroadcastsInDim S4x2048x2304 (![] : Fin 0 → Fin S4x2048x2304.rank)
  slices_S4x2048x1024_S4x2048x768_0_0_0 : S4x2048x1024.Slices ![0, 0, 0] S4x2048x768
  bcast_S_S4x2048x768 : S_.BroadcastsInDim S4x2048x768 (![] : Fin 0 → Fin S4x2048x768.rank)

variable [Facts]

def fn {F : FTy → Type} [FloatOps F] (main_arg0 : FVec F S4x2048x2560 .bf16) (main_arg1 : FVec F S4x2048x1024 .bf16) : IVec S4x2048x2304 1 × IVec S4x2048x768 1 :=
  let main_v0 : FVec F S4x2048x2304 .bf16 := (extractStridedSlice S4x2048x2304 ![0, 0, 0] · slices_S4x2048x2560_S4x2048x2304_0_0_0) main_arg0
  let main_v1 : FVec F S4x2048x2304 .f32 := (extf .f32 · bitsLt_bf16_f32) main_v0
  let main_v2 : FVec F S4x2048x2304 .f32 := Host.absf main_v1
  let main_cst : FVec F S_ .f32 := constant S_ .f32 0x7F800000#32
  let main_v3 : FVec F S4x2048x2304 .f32 := broadcastInDim S4x2048x2304 ![] bcast_S_S4x2048x2304 main_cst
  let main_v4 : IVec S4x2048x2304 1 := cmpf .olt main_v2 main_v3
  let main_v5 : FVec F S4x2048x768 .bf16 := (extractStridedSlice S4x2048x768 ![0, 0, 0] · slices_S4x2048x1024_S4x2048x768_0_0_0) main_arg1
  let main_v6 : FVec F S4x2048x768 .f32 := (extf .f32 · bitsLt_bf16_f32) main_v5
  let main_v7 : FVec F S4x2048x768 .f32 := Host.absf main_v6
  let main_cst_0 : FVec F S_ .f32 := constant S_ .f32 0x7F800000#32
  let main_v8 : FVec F S4x2048x768 .f32 := broadcastInDim S4x2048x768 ![] bcast_S_S4x2048x768 main_cst_0
  let main_v9 : IVec S4x2048x768 1 := cmpf .olt main_v7 main_v8
  (main_v4, main_v9)
-- ==== Kernel.lean ====
abbrev S4x2048x2560 : Shape := ⟨3, ![4, 2048, 2560]⟩
abbrev S4x2048x1024 : Shape := ⟨3, ![4, 2048, 1024]⟩
abbrev S4x2048x1536 : Shape := ⟨3, ![4, 2048, 1536]⟩
abbrev S4x2048x768 : Shape := ⟨3, ![4, 2048, 768]⟩
abbrev S4x2048x12x64 : Shape := ⟨4, ![4, 2048, 12, 64]⟩
abbrev S4x12x2048x2048 : Shape := ⟨4, ![4, 12, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x12x2048 : Shape := ⟨3, ![4, 12, 2048]⟩
abbrev S4x2048x12 : Shape := ⟨3, ![4, 2048, 12]⟩
abbrev S8x128 : Shape := ⟨2, ![8, 128]⟩
abbrev S1x256x256 : Shape := ⟨3, ![1, 256, 256]⟩
abbrev S1x2048x256 : Shape := ⟨3, ![1, 2048, 256]⟩
abbrev S1024x256 : Shape := ⟨2, ![1024, 256]⟩
abbrev S256x256 : Shape := ⟨2, ![256, 256]⟩
abbrev S256x1 : Shape := ⟨2, ![256, 1]⟩
abbrev S1024x1 : Shape := ⟨2, ![1024, 1]⟩
abbrev S1024 : Shape := ⟨1, ![1024]⟩

abbrev nBuf : Space → Nat
  | .hbm => 51
  | .vmem => 21
  | .smem => 0
  | _ => 0

abbrev bufTy : (tb : Table) → Fin (tcTables nBuf tb) → BufTy
  | .hbm, ⟨0, _⟩ => ⟨S4x2048x2560, .bf16⟩
  | .hbm, ⟨1, _⟩ => ⟨S4x2048x1024, .bf16⟩
  | .hbm, ⟨2, _⟩ => ⟨S4x2048x1536, .bf16⟩
  | .hbm, ⟨3, _⟩ => ⟨S4x2048x1536, .f32⟩
  | .hbm, ⟨4, _⟩ => ⟨S4x2048x768, .f32⟩
  | .hbm, ⟨5, _⟩ => ⟨S4x2048x768, .f32⟩
  | .hbm, ⟨6, _⟩ => ⟨S4x2048x12x64, .f32⟩
  | .hbm, ⟨7, _⟩ => ⟨S4x2048x12x64, .f32⟩
  | .hbm, ⟨8, _⟩ => ⟨S4x12x2048x2048, .f32⟩
  | .hbm, ⟨9, _⟩ => ⟨S4x12x2048x2048, .bf16⟩
  | .hbm, ⟨10, _⟩ => ⟨S4x12x2048x2048, .f32⟩
  | .hbm, ⟨11, _⟩ => ⟨S_, .f32⟩
  | .hbm, ⟨12, _⟩ => ⟨S4x12x2048x2048, .f32⟩
  | .hbm, ⟨13, _⟩ => ⟨S4x12x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S4x12x2048x2048, .f32⟩
  | .hbm, ⟨23, _⟩ => ⟨S4x12x2048x2048, .f32⟩
  | .hbm, ⟨24, _⟩ => ⟨S4x12x2048x2048, .f32⟩
  | .hbm, ⟨25, _⟩ => ⟨S4x12x2048x2048, .f32⟩
  | .hbm, ⟨26, _⟩ => ⟨S4x12x2048x2048, .i1⟩
  | .hbm, ⟨27, _⟩ => ⟨S4x12x2048x2048, .f32⟩
  | .hbm, ⟨28, _⟩ => ⟨S4x12x2048x2048, .f32⟩
  | .hbm, ⟨29, _⟩ => ⟨S4x12x2048x2048, .f32⟩
  | .hbm, ⟨30, _⟩ => ⟨S4x12x2048x2048, .f32⟩
  | .hbm, ⟨31, _⟩ => ⟨S4x12x2048x2048, .f32⟩
  | .hbm, ⟨32, _⟩ => ⟨S4x12x2048x2048, .f32⟩
  | .hbm, ⟨33, _⟩ => ⟨S4x12x2048x2048, .f32⟩
  | .hbm, ⟨34, _⟩ => ⟨S4x12x2048x2048, .f32⟩
  | .hbm, ⟨35, _⟩ => ⟨S4x12x2048x2048, .f32⟩
  | .hbm, ⟨36, _⟩ => ⟨S_, .f32⟩
  | .hbm, ⟨37, _⟩ => ⟨S_, .f32⟩
  | .hbm, ⟨38, _⟩ => ⟨S4x12x2048x2048, .i1⟩
  | .hbm, ⟨39, _⟩ => ⟨S4x12x2048x2048, .f32⟩
  | .hbm, ⟨40, _⟩ => ⟨S4x12x2048x2048, .f32⟩
  | .hbm, ⟨41, _⟩ => ⟨S_, .f32⟩
  | .hbm, ⟨42, _⟩ => ⟨S4x12x2048, .f32⟩
  | .hbm, ⟨43, _⟩ => ⟨S4x2048x12, .f32⟩
  | .hbm, ⟨44, _⟩ => ⟨S4x2048x12x64, .f32⟩
  | .hbm, ⟨45, _⟩ => ⟨S4x2048x768, .f32⟩
  | .hbm, ⟨46, _⟩ => ⟨S_, .f32⟩
  | .hbm, ⟨47, _⟩ => ⟨S8x128, .f32⟩
  | .hbm, ⟨48, _⟩ => ⟨S4x2048x768, .bf16⟩
  | .hbm, ⟨49, _⟩ => ⟨S4x2048x768, .bf16⟩
  | .hbm, ⟨50, _⟩ => ⟨S4x2048x768, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .bf16⟩
  | .local _ .vmem, ⟨11, _⟩ => ⟨S1x256x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1x2048x256, .f32⟩
  | .local _ .vmem, ⟨20, _⟩ => ⟨S1x2048x256, .f32⟩
  | _, _ => ⟨S4x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_v26_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 3, 8], ![false, false, false]⟩

@[reducible] def k0_t1_loop (i : grid0.Coords) : Scf.Loop 32 :=
  let c0_i32_44 : BitVec 32 := 0#32
  let arg2 : BitVec 32 := BitVec.ofNat 32 (i 2).val
  let c256_i32_30 : BitVec 32 := 256#32
  let v82 : BitVec 32 := Scalar.muli arg2 c256_i32_30
  let c0_i32_32 : BitVec 32 := 0#32
  let v84 : BitVec 1 := Scalar.cmpi .sgt v82 c0_i32_32
  let v85 : BitVec 32 := Scalar.extui v84
  let c0_i32_33 : BitVec 32 := 0#32
  let v86 : BitVec 1 := Scalar.cmpi .slt v82 c0_i32_33
  let v87 : BitVec 32 := Scalar.extui v86
  let v88 : BitVec 32 := Scalar.subi v85 v87
  let c256_i32_31 : BitVec 32 := 256#32
  let c0_i32_34 : BitVec 32 := 0#32
  let v89 : BitVec 1 := Scalar.cmpi .sgt c256_i32_31 c0_i32_34
  let v90 : BitVec 32 := Scalar.extui v89
  let c0_i32_35 : BitVec 32 := 0#32
  let v91 : BitVec 1 := Scalar.cmpi .slt c256_i32_31 c0_i32_35
  let v92 : BitVec 32 := Scalar.extui v91
  let v93 : BitVec 32 := Scalar.subi v90 v92
  let v94 : BitVec 1 := Scalar.cmpi .ne v88 v93
  let v95 : BitVec 32 := Scalar.remsi v82 c256_i32_31
  let c0_i32_36 : BitVec 32 := 0#32
  let v96 : BitVec 1 := Scalar.cmpi .ne v95 c0_i32_36
  let v97 : BitVec 1 := Scalar.andi v94 v96
  let v83 : BitVec 32 := Scalar.divsi v82 c256_i32_31
  let c1_i32 : BitVec 32 := 1#32
  let v98 : BitVec 32 := Scalar.subi v83 c1_i32
  let v99 : BitVec 32 := Scalar.select v97 v98 v83
  let c0_i32_37 : BitVec 32 := 0#32
  let v101 : BitVec 1 := Scalar.cmpi .sgt v99 c0_i32_37
  let v102 : BitVec 32 := Scalar.extui v101
  let c0_i32_38 : BitVec 32 := 0#32
  let v103 : BitVec 1 := Scalar.cmpi .slt v99 c0_i32_38
  let v104 : BitVec 32 := Scalar.extui v103
  let v105 : BitVec 32 := Scalar.subi v102 v104
  let c2_i32 : BitVec 32 := 2#32
  let c0_i32_39 : BitVec 32 := 0#32
  let v106 : BitVec 1 := Scalar.cmpi .sgt c2_i32 c0_i32_39
  let v107 : BitVec 32 := Scalar.extui v106
  let c0_i32_40 : BitVec 32 := 0#32
  let v108 : BitVec 1 := Scalar.cmpi .slt c2_i32 c0_i32_40
  let v109 : BitVec 32 := Scalar.extui v108
  let v110 : BitVec 32 := Scalar.subi v107 v109
  let v111 : BitVec 1 := Scalar.cmpi .ne v105 v110
  let v112 : BitVec 32 := Scalar.remsi v99 c2_i32
  let c0_i32_41 : BitVec 32 := 0#32
  let v113 : BitVec 1 := Scalar.cmpi .ne v112 c0_i32_41
  let v114 : BitVec 1 := Scalar.andi v111 v113
  let v100 : BitVec 32 := Scalar.divsi v99 c2_i32
  let c1_i32_42 : BitVec 32 := 1#32
  let v115 : BitVec 32 := Scalar.subi v100 c1_i32_42
  let v116 : BitVec 32 := Scalar.select v114 v115 v100
  let v117 : BitVec 32 := Scalar.subi v116 c0_i32_44
  let c1_i32_45 : BitVec 32 := 1#32
  let v119 : BitVec 32 := Scalar.divsi v117 c1_i32_45
  let v120 : BitVec 32 := Scalar.muli v119 c1_i32_45
  let v121 : BitVec 32 := Scalar.addi c0_i32_44 v120
  let c1_i32_46 : BitVec 32 := 1#32
  ⟨c0_i32_44, v121, c1_i32_46⟩
def k0_mult1 (i : grid0.Coords) (k0_t1 : Fin (k0_t1_loop i).trips) : BitVec 32 :=
  let c2_i32_112 : BitVec 32 := 2#32
  let c0_i32_44 : BitVec 32 := 0#32
  let c1_i32_46 : BitVec 32 := 1#32
  let arg17 : BitVec 32 := Scf.iv c0_i32_44 c1_i32_46 k0_t1
  let v250 : BitVec 32 := Scalar.muli c2_i32_112 arg17
  let c256_i32_115 : BitVec 32 := 256#32
  let v253 : BitVec 32 := Scalar.muli v250 c256_i32_115
  v253
def k0_mult2 (i : grid0.Coords) (k0_t1 : Fin (k0_t1_loop i).trips) : BitVec 32 :=
  let c2_i32_113 : BitVec 32 := 2#32
  let c0_i32_44 : BitVec 32 := 0#32
  let c1_i32_46 : BitVec 32 := 1#32
  let arg17 : BitVec 32 := Scf.iv c0_i32_44 c1_i32_46 k0_t1
  let v251 : BitVec 32 := Scalar.muli c2_i32_113 arg17
  let c1_i32_114 : BitVec 32 := 1#32
  let v252 : BitVec 32 := Scalar.addi v251 c1_i32_114
  let c256_i32_116 : BitVec 32 := 256#32
  let v255 : BitVec 32 := Scalar.muli v252 c256_i32_116
  v255
def k0_off1 (i : grid0.Coords) (k0_t1 : Fin (k0_t1_loop i).trips) : Fin 3 → Nat :=
  let c0_117 : Index := 0#32
  let c2_i32_112 : BitVec 32 := 2#32
  let c0_i32_44 : BitVec 32 := 0#32
  let c1_i32_46 : BitVec 32 := 1#32
  let arg17 : BitVec 32 := Scf.iv c0_i32_44 c1_i32_46 k0_t1
  let v250 : BitVec 32 := Scalar.muli c2_i32_112 arg17
  let c256_i32_115 : BitVec 32 := 256#32
  let v253 : BitVec 32 := Scalar.muli v250 c256_i32_115
  let v254 : BitVec 32 := v253
  let v257 : Index := Scalar.indexCast v254
  let c0_118 : Index := 0#32
  ![0, v257.toNat, 0]
def k0_off2 (i : grid0.Coords) (k0_t1 : Fin (k0_t1_loop i).trips) : Fin 3 → Nat :=
  let c0_119 : Index := 0#32
  let c2_i32_113 : BitVec 32 := 2#32
  let c0_i32_44 : BitVec 32 := 0#32
  let c1_i32_46 : BitVec 32 := 1#32
  let arg17 : BitVec 32 := Scf.iv c0_i32_44 c1_i32_46 k0_t1
  let v251 : BitVec 32 := Scalar.muli c2_i32_113 arg17
  let c1_i32_114 : BitVec 32 := 1#32
  let v252 : BitVec 32 := Scalar.addi v251 c1_i32_114
  let c256_i32_116 : BitVec 32 := 256#32
  let v255 : BitVec 32 := Scalar.muli v252 c256_i32_116
  let v256 : BitVec 32 := v255
  let v260 : Index := Scalar.indexCast v256
  let c0_120 : Index := 0#32
  ![0, v260.toNat, 0]
@[reducible] def k0_t2_loop (i : grid0.Coords) : Scf.Loop 32 :=
  let c0_i32_44 : BitVec 32 := 0#32
  let arg2 : BitVec 32 := BitVec.ofNat 32 (i 2).val
  let c256_i32_30 : BitVec 32 := 256#32
  let v82 : BitVec 32 := Scalar.muli arg2 c256_i32_30
  let c0_i32_32 : BitVec 32 := 0#32
  let v84 : BitVec 1 := Scalar.cmpi .sgt v82 c0_i32_32
  let v85 : BitVec 32 := Scalar.extui v84
  let c0_i32_33 : BitVec 32 := 0#32
  let v86 : BitVec 1 := Scalar.cmpi .slt v82 c0_i32_33
  let v87 : BitVec 32 := Scalar.extui v86
  let v88 : BitVec 32 := Scalar.subi v85 v87
  let c256_i32_31 : BitVec 32 := 256#32
  let c0_i32_34 : BitVec 32 := 0#32
  let v89 : BitVec 1 := Scalar.cmpi .sgt c256_i32_31 c0_i32_34
  let v90 : BitVec 32 := Scalar.extui v89
  let c0_i32_35 : BitVec 32 := 0#32
  let v91 : BitVec 1 := Scalar.cmpi .slt c256_i32_31 c0_i32_35
  let v92 : BitVec 32 := Scalar.extui v91
  let v93 : BitVec 32 := Scalar.subi v90 v92
  let v94 : BitVec 1 := Scalar.cmpi .ne v88 v93
  let v95 : BitVec 32 := Scalar.remsi v82 c256_i32_31
  let c0_i32_36 : BitVec 32 := 0#32
  let v96 : BitVec 1 := Scalar.cmpi .ne v95 c0_i32_36
  let v97 : BitVec 1 := Scalar.andi v94 v96
  let v83 : BitVec 32 := Scalar.divsi v82 c256_i32_31
  let c1_i32 : BitVec 32 := 1#32
  let v98 : BitVec 32 := Scalar.subi v83 c1_i32
  let v99 : BitVec 32 := Scalar.select v97 v98 v83
  let c0_i32_37 : BitVec 32 := 0#32
  let v101 : BitVec 1 := Scalar.cmpi .sgt v99 c0_i32_37
  let v102 : BitVec 32 := Scalar.extui v101
  let c0_i32_38 : BitVec 32 := 0#32
  let v103 : BitVec 1 := Scalar.cmpi .slt v99 c0_i32_38
  let v104 : BitVec 32 := Scalar.extui v103
  let v105 : BitVec 32 := Scalar.subi v102 v104
  let c2_i32 : BitVec 32 := 2#32
  let c0_i32_39 : BitVec 32 := 0#32
  let v106 : BitVec 1 := Scalar.cmpi .sgt c2_i32 c0_i32_39
  let v107 : BitVec 32 := Scalar.extui v106
  let c0_i32_40 : BitVec 32 := 0#32
  let v108 : BitVec 1 := Scalar.cmpi .slt c2_i32 c0_i32_40
  let v109 : BitVec 32 := Scalar.extui v108
  let v110 : BitVec 32 := Scalar.subi v107 v109
  let v111 : BitVec 1 := Scalar.cmpi .ne v105 v110
  let v112 : BitVec 32 := Scalar.remsi v99 c2_i32
  let c0_i32_41 : BitVec 32 := 0#32
  let v113 : BitVec 1 := Scalar.cmpi .ne v112 c0_i32_41
  let v114 : BitVec 1 := Scalar.andi v111 v113
  let v100 : BitVec 32 := Scalar.divsi v99 c2_i32
  let c1_i32_42 : BitVec 32 := 1#32
  let v115 : BitVec 32 := Scalar.subi v100 c1_i32_42
  let v116 : BitVec 32 := Scalar.select v114 v115 v100
  let v117 : BitVec 32 := Scalar.subi v116 c0_i32_44
  let c1_i32_45 : BitVec 32 := 1#32
  let v119 : BitVec 32 := Scalar.divsi v117 c1_i32_45
  let v120 : BitVec 32 := Scalar.muli v119 c1_i32_45
  let v121 : BitVec 32 := Scalar.addi c0_i32_44 v120
  let v118 : BitVec 32 := Scalar.addi c0_i32_44 v117
  let c1_i32_47 : BitVec 32 := 1#32
  ⟨v121, v118, c1_i32_47⟩
def k0_mult3 (i : grid0.Coords) (k0_t2 : Fin (k0_t2_loop i).trips) : BitVec 32 :=
  let c2_i32_112 : BitVec 32 := 2#32
  let c0_i32_44 : BitVec 32 := 0#32
  let arg2 : BitVec 32 := BitVec.ofNat 32 (i 2).val
  let c256_i32_30 : BitVec 32 := 256#32
  let v82 : BitVec 32 := Scalar.muli arg2 c256_i32_30
  let c0_i32_32 : BitVec 32 := 0#32
  let v84 : BitVec 1 := Scalar.cmpi .sgt v82 c0_i32_32
  let v85 : BitVec 32 := Scalar.extui v84
  let c0_i32_33 : BitVec 32 := 0#32
  let v86 : BitVec 1 := Scalar.cmpi .slt v82 c0_i32_33
  let v87 : BitVec 32 := Scalar.extui v86
  let v88 : BitVec 32 := Scalar.subi v85 v87
  let c256_i32_31 : BitVec 32 := 256#32
  let c0_i32_34 : BitVec 32 := 0#32
  let v89 : BitVec 1 := Scalar.cmpi .sgt c256_i32_31 c0_i32_34
  let v90 : BitVec 32 := Scalar.extui v89
  let c0_i32_35 : BitVec 32 := 0#32
  let v91 : BitVec 1 := Scalar.cmpi .slt c256_i32_31 c0_i32_35
  let v92 : BitVec 32 := Scalar.extui v91
  let v93 : BitVec 32 := Scalar.subi v90 v92
  let v94 : BitVec 1 := Scalar.cmpi .ne v88 v93
  let v95 : BitVec 32 := Scalar.remsi v82 c256_i32_31
  let c0_i32_36 : BitVec 32 := 0#32
  let v96 : BitVec 1 := Scalar.cmpi .ne v95 c0_i32_36
  let v97 : BitVec 1 := Scalar.andi v94 v96
  let v83 : BitVec 32 := Scalar.divsi v82 c256_i32_31
  let c1_i32 : BitVec 32 := 1#32
  let v98 : BitVec 32 := Scalar.subi v83 c1_i32
  let v99 : BitVec 32 := Scalar.select v97 v98 v83
  let c0_i32_37 : BitVec 32 := 0#32
  let v101 : BitVec 1 := Scalar.cmpi .sgt v99 c0_i32_37
  let v102 : BitVec 32 := Scalar.extui v101
  let c0_i32_38 : BitVec 32 := 0#32
  let v103 : BitVec 1 := Scalar.cmpi .slt v99 c0_i32_38
  let v104 : BitVec 32 := Scalar.extui v103
  let v105 : BitVec 32 := Scalar.subi v102 v104
  let c2_i32 : BitVec 32 := 2#32
  let c0_i32_39 : BitVec 32 := 0#32
  let v106 : BitVec 1 := Scalar.cmpi .sgt c2_i32 c0_i32_39
  let v107 : BitVec 32 := Scalar.extui v106
  let c0_i32_40 : BitVec 32 := 0#32
  let v108 : BitVec 1 := Scalar.cmpi .slt c2_i32 c0_i32_40
  let v109 : BitVec 32 := Scalar.extui v108
  let v110 : BitVec 32 := Scalar.subi v107 v109
  let v111 : BitVec 1 := Scalar.cmpi .ne v105 v110
  let v112 : BitVec 32 := Scalar.remsi v99 c2_i32
  let c0_i32_41 : BitVec 32 := 0#32
  let v113 : BitVec 1 := Scalar.cmpi .ne v112 c0_i32_41
  let v114 : BitVec 1 := Scalar.andi v111 v113
  let v100 : BitVec 32 := Scalar.divsi v99 c2_i32
  let c1_i32_42 : BitVec 32 := 1#32
  let v115 : BitVec 32 := Scalar.subi v100 c1_i32_42
  let v116 : BitVec 32 := Scalar.select v114 v115 v100
  let v117 : BitVec 32 := Scalar.subi v116 c0_i32_44
  let c1_i32_45 : BitVec 32 := 1#32
  let v119 : BitVec 32 := Scalar.divsi v117 c1_i32_45
  let v120 : BitVec 32 := Scalar.muli v119 c1_i32_45
  let v121 : BitVec 32 := Scalar.addi c0_i32_44 v120
  let c1_i32_47 : BitVec 32 := 1#32
  let arg17 : BitVec 32 := Scf.iv v121 c1_i32_47 k0_t2
  let v250 : BitVec 32 := Scalar.muli c2_i32_112 arg17
  let c256_i32_115 : BitVec 32 := 256#32
  let v253 : BitVec 32 := Scalar.muli v250 c256_i32_115
  v253
def k0_mult4 (i : grid0.Coords) (k0_t2 : Fin (k0_t2_loop i).trips) : BitVec 32 :=
  let c2_i32_113 : BitVec 32 := 2#32
  let c0_i32_44 : BitVec 32 := 0#32
  let arg2 : BitVec 32 := BitVec.ofNat 32 (i 2).val
  let c256_i32_30 : BitVec 32 := 256#32
  let v82 : BitVec 32 := Scalar.muli arg2 c256_i32_30
  let c0_i32_32 : BitVec 32 := 0#32
  let v84 : BitVec 1 := Scalar.cmpi .sgt v82 c0_i32_32
  let v85 : BitVec 32 := Scalar.extui v84
  let c0_i32_33 : BitVec 32 := 0#32
  let v86 : BitVec 1 := Scalar.cmpi .slt v82 c0_i32_33
  let v87 : BitVec 32 := Scalar.extui v86
  let v88 : BitVec 32 := Scalar.subi v85 v87
  let c256_i32_31 : BitVec 32 := 256#32
  let c0_i32_34 : BitVec 32 := 0#32
  let v89 : BitVec 1 := Scalar.cmpi .sgt c256_i32_31 c0_i32_34
  let v90 : BitVec 32 := Scalar.extui v89
  let c0_i32_35 : BitVec 32 := 0#32
  let v91 : BitVec 1 := Scalar.cmpi .slt c256_i32_31 c0_i32_35
  let v92 : BitVec 32 := Scalar.extui v91
  let v93 : BitVec 32 := Scalar.subi v90 v92
  let v94 : BitVec 1 := Scalar.cmpi .ne v88 v93
  let v95 : BitVec 32 := Scalar.remsi v82 c256_i32_31
  let c0_i32_36 : BitVec 32 := 0#32
  let v96 : BitVec 1 := Scalar.cmpi .ne v95 c0_i32_36
  let v97 : BitVec 1 := Scalar.andi v94 v96
  let v83 : BitVec 32 := Scalar.divsi v82 c256_i32_31
  let c1_i32 : BitVec 32 := 1#32
  let v98 : BitVec 32 := Scalar.subi v83 c1_i32
  let v99 : BitVec 32 := Scalar.select v97 v98 v83
  let c0_i32_37 : BitVec 32 := 0#32
  let v101 : BitVec 1 := Scalar.cmpi .sgt v99 c0_i32_37
  let v102 : BitVec 32 := Scalar.extui v101
  let c0_i32_38 : BitVec 32 := 0#32
  let v103 : BitVec 1 := Scalar.cmpi .slt v99 c0_i32_38
  let v104 : BitVec 32 := Scalar.extui v103
  let v105 : BitVec 32 := Scalar.subi v102 v104
  let c2_i32 : BitVec 32 := 2#32
  let c0_i32_39 : BitVec 32 := 0#32
  let v106 : BitVec 1 := Scalar.cmpi .sgt c2_i32 c0_i32_39
  let v107 : BitVec 32 := Scalar.extui v106
  let c0_i32_40 : BitVec 32 := 0#32
  let v108 : BitVec 1 := Scalar.cmpi .slt c2_i32 c0_i32_40
  let v109 : BitVec 32 := Scalar.extui v108
  let v110 : BitVec 32 := Scalar.subi v107 v109
  let v111 : BitVec 1 := Scalar.cmpi .ne v105 v110
  let v112 : BitVec 32 := Scalar.remsi v99 c2_i32
  let c0_i32_41 : BitVec 32 := 0#32
  let v113 : BitVec 1 := Scalar.cmpi .ne v112 c0_i32_41
  let v114 : BitVec 1 := Scalar.andi v111 v113
  let v100 : BitVec 32 := Scalar.divsi v99 c2_i32
  let c1_i32_42 : BitVec 32 := 1#32
  let v115 : BitVec 32 := Scalar.subi v100 c1_i32_42
  let v116 : BitVec 32 := Scalar.select v114 v115 v100
  let v117 : BitVec 32 := Scalar.subi v116 c0_i32_44
  let c1_i32_45 : BitVec 32 := 1#32
  let v119 : BitVec 32 := Scalar.divsi v117 c1_i32_45
  let v120 : BitVec 32 := Scalar.muli v119 c1_i32_45
  let v121 : BitVec 32 := Scalar.addi c0_i32_44 v120
  let c1_i32_47 : BitVec 32 := 1#32
  let arg17 : BitVec 32 := Scf.iv v121 c1_i32_47 k0_t2
  let v251 : BitVec 32 := Scalar.muli c2_i32_113 arg17
  let c1_i32_114 : BitVec 32 := 1#32
  let v252 : BitVec 32 := Scalar.addi v251 c1_i32_114
  let c256_i32_116 : BitVec 32 := 256#32
  let v255 : BitVec 32 := Scalar.muli v252 c256_i32_116
  v255
def k0_off3 (i : grid0.Coords) (k0_t2 : Fin (k0_t2_loop i).trips) : Fin 3 → Nat :=
  let c0_117 : Index := 0#32
  let c2_i32_112 : BitVec 32 := 2#32
  let c0_i32_44 : BitVec 32 := 0#32
  let arg2 : BitVec 32 := BitVec.ofNat 32 (i 2).val
  let c256_i32_30 : BitVec 32 := 256#32
  let v82 : BitVec 32 := Scalar.muli arg2 c256_i32_30
  let c0_i32_32 : BitVec 32 := 0#32
  let v84 : BitVec 1 := Scalar.cmpi .sgt v82 c0_i32_32
  let v85 : BitVec 32 := Scalar.extui v84
  let c0_i32_33 : BitVec 32 := 0#32
  let v86 : BitVec 1 := Scalar.cmpi .slt v82 c0_i32_33
  let v87 : BitVec 32 := Scalar.extui v86
  let v88 : BitVec 32 := Scalar.subi v85 v87
  let c256_i32_31 : BitVec 32 := 256#32
  let c0_i32_34 : BitVec 32 := 0#32
  let v89 : BitVec 1 := Scalar.cmpi .sgt c256_i32_31 c0_i32_34
  let v90 : BitVec 32 := Scalar.extui v89
  let c0_i32_35 : BitVec 32 := 0#32
  let v91 : BitVec 1 := Scalar.cmpi .slt c256_i32_31 c0_i32_35
  let v92 : BitVec 32 := Scalar.extui v91
  let v93 : BitVec 32 := Scalar.subi v90 v92
  let v94 : BitVec 1 := Scalar.cmpi .ne v88 v93
  let v95 : BitVec 32 := Scalar.remsi v82 c256_i32_31
  let c0_i32_36 : BitVec 32 := 0#32
  let v96 : BitVec 1 := Scalar.cmpi .ne v95 c0_i32_36
  let v97 : BitVec 1 := Scalar.andi v94 v96
  let v83 : BitVec 32 := Scalar.divsi v82 c256_i32_31
  let c1_i32 : BitVec 32 := 1#32
  let v98 : BitVec 32 := Scalar.subi v83 c1_i32
  let v99 : BitVec 32 := Scalar.select v97 v98 v83
  let c0_i32_37 : BitVec 32 := 0#32
  let v101 : BitVec 1 := Scalar.cmpi .sgt v99 c0_i32_37
  let v102 : BitVec 32 := Scalar.extui v101
  let c0_i32_38 : BitVec 32 := 0#32
  let v103 : BitVec 1 := Scalar.cmpi .slt v99 c0_i32_38
  let v104 : BitVec 32 := Scalar.extui v103
  let v105 : BitVec 32 := Scalar.subi v102 v104
  let c2_i32 : BitVec 32 := 2#32
  let c0_i32_39 : BitVec 32 := 0#32
  let v106 : BitVec 1 := Scalar.cmpi .sgt c2_i32 c0_i32_39
  let v107 : BitVec 32 := Scalar.extui v106
  let c0_i32_40 : BitVec 32 := 0#32
  let v108 : BitVec 1 := Scalar.cmpi .slt c2_i32 c0_i32_40
  let v109 : BitVec 32 := Scalar.extui v108
  let v110 : BitVec 32 := Scalar.subi v107 v109
  let v111 : BitVec 1 := Scalar.cmpi .ne v105 v110
  let v112 : BitVec 32 := Scalar.remsi v99 c2_i32
  let c0_i32_41 : BitVec 32 := 0#32
  let v113 : BitVec 1 := Scalar.cmpi .ne v112 c0_i32_41
  let v114 : BitVec 1 := Scalar.andi v111 v113
  let v100 : BitVec 32 := Scalar.divsi v99 c2_i32
  let c1_i32_42 : BitVec 32 := 1#32
  let v115 : BitVec 32 := Scalar.subi v100 c1_i32_42
  let v116 : BitVec 32 := Scalar.select v114 v115 v100
  let v117 : BitVec 32 := Scalar.subi v116 c0_i32_44
  let c1_i32_45 : BitVec 32 := 1#32
  let v119 : BitVec 32 := Scalar.divsi v117 c1_i32_45
  let v120 : BitVec 32 := Scalar.muli v119 c1_i32_45
  let v121 : BitVec 32 := Scalar.addi c0_i32_44 v120
  let c1_i32_47 : BitVec 32 := 1#32
  let arg17 : BitVec 32 := Scf.iv v121 c1_i32_47 k0_t2
  let v250 : BitVec 32 := Scalar.muli c2_i32_112 arg17
  let c256_i32_115 : BitVec 32 := 256#32
  let v253 : BitVec 32 := Scalar.muli v250 c256_i32_115
  let v254 : BitVec 32 := v253
  let v257 : Index := Scalar.indexCast v254
  let c0_118 : Index := 0#32
  ![0, v257.toNat, 0]
def k0_off4 (i : grid0.Coords) (k0_t2 : Fin (k0_t2_loop i).trips) : Fin 3 → Nat :=
  let c0_119 : Index := 0#32
  let c2_i32_113 : BitVec 32 := 2#32
  let c0_i32_44 : BitVec 32 := 0#32
  let arg2 : BitVec 32 := BitVec.ofNat 32 (i 2).val
  let c256_i32_30 : BitVec 32 := 256#32
  let v82 : BitVec 32 := Scalar.muli arg2 c256_i32_30
  let c0_i32_32 : BitVec 32 := 0#32
  let v84 : BitVec 1 := Scalar.cmpi .sgt v82 c0_i32_32
  let v85 : BitVec 32 := Scalar.extui v84
  let c0_i32_33 : BitVec 32 := 0#32
  let v86 : BitVec 1 := Scalar.cmpi .slt v82 c0_i32_33
  let v87 : BitVec 32 := Scalar.extui v86
  let v88 : BitVec 32 := Scalar.subi v85 v87
  let c256_i32_31 : BitVec 32 := 256#32
  let c0_i32_34 : BitVec 32 := 0#32
  let v89 : BitVec 1 := Scalar.cmpi .sgt c256_i32_31 c0_i32_34
  let v90 : BitVec 32 := Scalar.extui v89
  let c0_i32_35 : BitVec 32 := 0#32
  let v91 : BitVec 1 := Scalar.cmpi .slt c256_i32_31 c0_i32_35
  let v92 : BitVec 32 := Scalar.extui v91
  let v93 : BitVec 32 := Scalar.subi v90 v92
  let v94 : BitVec 1 := Scalar.cmpi .ne v88 v93
  let v95 : BitVec 32 := Scalar.remsi v82 c256_i32_31
  let c0_i32_36 : BitVec 32 := 0#32
  let v96 : BitVec 1 := Scalar.cmpi .ne v95 c0_i32_36
  let v97 : BitVec 1 := Scalar.andi v94 v96
  let v83 : BitVec 32 := Scalar.divsi v82 c256_i32_31
  let c1_i32 : BitVec 32 := 1#32
  let v98 : BitVec 32 := Scalar.subi v83 c1_i32
  let v99 : BitVec 32 := Scalar.select v97 v98 v83
  let c0_i32_37 : BitVec 32 := 0#32
  let v101 : BitVec 1 := Scalar.cmpi .sgt v99 c0_i32_37
  let v102 : BitVec 32 := Scalar.extui v101
  let c0_i32_38 : BitVec 32 := 0#32
  let v103 : BitVec 1 := Scalar.cmpi .slt v99 c0_i32_38
  let v104 : BitVec 32 := Scalar.extui v103
  let v105 : BitVec 32 := Scalar.subi v102 v104
  let c2_i32 : BitVec 32 := 2#32
  let c0_i32_39 : BitVec 32 := 0#32
  let v106 : BitVec 1 := Scalar.cmpi .sgt c2_i32 c0_i32_39
  let v107 : BitVec 32 := Scalar.extui v106
  let c0_i32_40 : BitVec 32 := 0#32
  let v108 : BitVec 1 := Scalar.cmpi .slt c2_i32 c0_i32_40
  let v109 : BitVec 32 := Scalar.extui v108
  let v110 : BitVec 32 := Scalar.subi v107 v109
  let v111 : BitVec 1 := Scalar.cmpi .ne v105 v110
  let v112 : BitVec 32 := Scalar.remsi v99 c2_i32
  let c0_i32_41 : BitVec 32 := 0#32
  let v113 : BitVec 1 := Scalar.cmpi .ne v112 c0_i32_41
  let v114 : BitVec 1 := Scalar.andi v111 v113
  let v100 : BitVec 32 := Scalar.divsi v99 c2_i32
  let c1_i32_42 : BitVec 32 := 1#32
  let v115 : BitVec 32 := Scalar.subi v100 c1_i32_42
  let v116 : BitVec 32 := Scalar.select v114 v115 v100
  let v117 : BitVec 32 := Scalar.subi v116 c0_i32_44
  let c1_i32_45 : BitVec 32 := 1#32
  let v119 : BitVec 32 := Scalar.divsi v117 c1_i32_45
  let v120 : BitVec 32 := Scalar.muli v119 c1_i32_45
  let v121 : BitVec 32 := Scalar.addi c0_i32_44 v120
  let c1_i32_47 : BitVec 32 := 1#32
  let arg17 : BitVec 32 := Scf.iv v121 c1_i32_47 k0_t2
  let v251 : BitVec 32 := Scalar.muli c2_i32_113 arg17
  let c1_i32_114 : BitVec 32 := 1#32
  let v252 : BitVec 32 := Scalar.addi v251 c1_i32_114
  let c256_i32_116 : BitVec 32 := 256#32
  let v255 : BitVec 32 := Scalar.muli v252 c256_i32_116
  let v256 : BitVec 32 := v255
  let v260 : Index := Scalar.indexCast v256
  let c0_120 : Index := 0#32
  ![0, v260.toNat, 0]
def k0_cond2 (i : grid0.Coords) : BitVec 1 :=
  let arg2 : BitVec 32 := BitVec.ofNat 32 (i 2).val
  let c256_i32_30 : BitVec 32 := 256#32
  let v82 : BitVec 32 := Scalar.muli arg2 c256_i32_30
  let c0_i32_32 : BitVec 32 := 0#32
  let v84 : BitVec 1 := Scalar.cmpi .sgt v82 c0_i32_32
  let v85 : BitVec 32 := Scalar.extui v84
  let c0_i32_33 : BitVec 32 := 0#32
  let v86 : BitVec 1 := Scalar.cmpi .slt v82 c0_i32_33
  let v87 : BitVec 32 := Scalar.extui v86
  let v88 : BitVec 32 := Scalar.subi v85 v87
  let c256_i32_31 : BitVec 32 := 256#32
  let c0_i32_34 : BitVec 32 := 0#32
  let v89 : BitVec 1 := Scalar.cmpi .sgt c256_i32_31 c0_i32_34
  let v90 : BitVec 32 := Scalar.extui v89
  let c0_i32_35 : BitVec 32 := 0#32
  let v91 : BitVec 1 := Scalar.cmpi .slt c256_i32_31 c0_i32_35
  let v92 : BitVec 32 := Scalar.extui v91
  let v93 : BitVec 32 := Scalar.subi v90 v92
  let v94 : BitVec 1 := Scalar.cmpi .ne v88 v93
  let v95 : BitVec 32 := Scalar.remsi v82 c256_i32_31
  let c0_i32_36 : BitVec 32 := 0#32
  let v96 : BitVec 1 := Scalar.cmpi .ne v95 c0_i32_36
  let v97 : BitVec 1 := Scalar.andi v94 v96
  let v83 : BitVec 32 := Scalar.divsi v82 c256_i32_31
  let c1_i32 : BitVec 32 := 1#32
  let v98 : BitVec 32 := Scalar.subi v83 c1_i32
  let v99 : BitVec 32 := Scalar.select v97 v98 v83
  let c2_i32_48 : BitVec 32 := 2#32
  let c0_i32_49 : BitVec 32 := 0#32
  let v122 : BitVec 1 := Scalar.cmpi .eq c2_i32_48 c0_i32_49
  let c1_i32_50 : BitVec 32 := 1#32
  let v123 : BitVec 32 := Scalar.select v122 c1_i32_50 c2_i32_48
  let v124 : BitVec 32 := Scalar.remsi v99 v123
  let c0_i32_52 : BitVec 32 := 0#32
  let v126 : BitVec 1 := Scalar.cmpi .slt v124 c0_i32_52
  let c0_i32_53 : BitVec 32 := 0#32
  let v127 : BitVec 1 := Scalar.cmpi .slt v123 c0_i32_53
  let v128 : BitVec 1 := Scalar.xori v126 v127
  let c0_i32_51 : BitVec 32 := 0#32
  let v125 : BitVec 1 := Scalar.cmpi .ne v124 c0_i32_51
  let v129 : BitVec 1 := Scalar.andi v128 v125
  let v130 : BitVec 32 := Scalar.addi v124 v123
  let v131 : BitVec 32 := Scalar.select v129 v130 v124
  let c1_i32_54 : BitVec 32 := 1#32
  let v132 : BitVec 1 := Scalar.cmpi .eq v131 c1_i32_54
  let v133 : BitVec 32 := Scalar.extui v132
  let c0_i32_55 : BitVec 32 := 0#32
  let v134 : BitVec 1 := Scalar.cmpi .ne v133 c0_i32_55
  v134

def k0_mult5 (i : grid0.Coords) : BitVec 32 :=
  let arg2 : BitVec 32 := BitVec.ofNat 32 (i 2).val
  let c256_i32_30 : BitVec 32 := 256#32
  let v82 : BitVec 32 := Scalar.muli arg2 c256_i32_30
  let c0_i32_32 : BitVec 32 := 0#32
  let v84 : BitVec 1 := Scalar.cmpi .sgt v82 c0_i32_32
  let v85 : BitVec 32 := Scalar.extui v84
  let c0_i32_33 : BitVec 32 := 0#32
  let v86 : BitVec 1 := Scalar.cmpi .slt v82 c0_i32_33
  let v87 : BitVec 32 := Scalar.extui v86
  let v88 : BitVec 32 := Scalar.subi v85 v87
  let c256_i32_31 : BitVec 32 := 256#32
  let c0_i32_34 : BitVec 32 := 0#32
  let v89 : BitVec 1 := Scalar.cmpi .sgt c256_i32_31 c0_i32_34
  let v90 : BitVec 32 := Scalar.extui v89
  let c0_i32_35 : BitVec 32 := 0#32
  let v91 : BitVec 1 := Scalar.cmpi .slt c256_i32_31 c0_i32_35
  let v92 : BitVec 32 := Scalar.extui v91
  let v93 : BitVec 32 := Scalar.subi v90 v92
  let v94 : BitVec 1 := Scalar.cmpi .ne v88 v93
  let v95 : BitVec 32 := Scalar.remsi v82 c256_i32_31
  let c0_i32_36 : BitVec 32 := 0#32
  let v96 : BitVec 1 := Scalar.cmpi .ne v95 c0_i32_36
  let v97 : BitVec 1 := Scalar.andi v94 v96
  let v83 : BitVec 32 := Scalar.divsi v82 c256_i32_31
  let c1_i32 : BitVec 32 := 1#32
  let v98 : BitVec 32 := Scalar.subi v83 c1_i32
  let v99 : BitVec 32 := Scalar.select v97 v98 v83
  let c1_i32_112 : BitVec 32 := 1#32
  let v250 : BitVec 32 := Scalar.subi v99 c1_i32_112
  let c256_i32_113 : BitVec 32 := 256#32
  let v251 : BitVec 32 := Scalar.muli v250 c256_i32_113
  v251
def k0_off5 (i : grid0.Coords) : Fin 3 → Nat :=
  let c0_114 : Index := 0#32
  let arg2 : BitVec 32 := BitVec.ofNat 32 (i 2).val
  let c256_i32_30 : BitVec 32 := 256#32
  let v82 : BitVec 32 := Scalar.muli arg2 c256_i32_30
  let c0_i32_32 : BitVec 32 := 0#32
  let v84 : BitVec 1 := Scalar.cmpi .sgt v82 c0_i32_32
  let v85 : BitVec 32 := Scalar.extui v84
  let c0_i32_33 : BitVec 32 := 0#32
  let v86 : BitVec 1 := Scalar.cmpi .slt v82 c0_i32_33
  let v87 : BitVec 32 := Scalar.extui v86
  let v88 : BitVec 32 := Scalar.subi v85 v87
  let c256_i32_31 : BitVec 32 := 256#32
  let c0_i32_34 : BitVec 32 := 0#32
  let v89 : BitVec 1 := Scalar.cmpi .sgt c256_i32_31 c0_i32_34
  let v90 : BitVec 32 := Scalar.extui v89
  let c0_i32_35 : BitVec 32 := 0#32
  let v91 : BitVec 1 := Scalar.cmpi .slt c256_i32_31 c0_i32_35
  let v92 : BitVec 32 := Scalar.extui v91
  let v93 : BitVec 32 := Scalar.subi v90 v92
  let v94 : BitVec 1 := Scalar.cmpi .ne v88 v93
  let v95 : BitVec 32 := Scalar.remsi v82 c256_i32_31
  let c0_i32_36 : BitVec 32 := 0#32
  let v96 : BitVec 1 := Scalar.cmpi .ne v95 c0_i32_36
  let v97 : BitVec 1 := Scalar.andi v94 v96
  let v83 : BitVec 32 := Scalar.divsi v82 c256_i32_31
  let c1_i32 : BitVec 32 := 1#32
  let v98 : BitVec 32 := Scalar.subi v83 c1_i32
  let v99 : BitVec 32 := Scalar.select v97 v98 v83
  let c1_i32_112 : BitVec 32 := 1#32
  let v250 : BitVec 32 := Scalar.subi v99 c1_i32_112
  let c256_i32_113 : BitVec 32 := 256#32
  let v251 : BitVec 32 := Scalar.muli v250 c256_i32_113
  let v252 : BitVec 32 := v251
  let v253 : Index := Scalar.indexCast v252
  let c0_115 : Index := 0#32
  ![0, v253.toNat, 0]
def k0_mult6 (i : grid0.Coords) : BitVec 32 :=
  let arg2 : BitVec 32 := BitVec.ofNat 32 (i 2).val
  let c256_i32_30 : BitVec 32 := 256#32
  let v82 : BitVec 32 := Scalar.muli arg2 c256_i32_30
  let c0_i32_32 : BitVec 32 := 0#32
  let v84 : BitVec 1 := Scalar.cmpi .sgt v82 c0_i32_32
  let v85 : BitVec 32 := Scalar.extui v84
  let c0_i32_33 : BitVec 32 := 0#32
  let v86 : BitVec 1 := Scalar.cmpi .slt v82 c0_i32_33
  let v87 : BitVec 32 := Scalar.extui v86
  let v88 : BitVec 32 := Scalar.subi v85 v87
  let c256_i32_31 : BitVec 32 := 256#32
  let c0_i32_34 : BitVec 32 := 0#32
  let v89 : BitVec 1 := Scalar.cmpi .sgt c256_i32_31 c0_i32_34
  let v90 : BitVec 32 := Scalar.extui v89
  let c0_i32_35 : BitVec 32 := 0#32
  let v91 : BitVec 1 := Scalar.cmpi .slt c256_i32_31 c0_i32_35
  let v92 : BitVec 32 := Scalar.extui v91
  let v93 : BitVec 32 := Scalar.subi v90 v92
  let v94 : BitVec 1 := Scalar.cmpi .ne v88 v93
  let v95 : BitVec 32 := Scalar.remsi v82 c256_i32_31
  let c0_i32_36 : BitVec 32 := 0#32
  let v96 : BitVec 1 := Scalar.cmpi .ne v95 c0_i32_36
  let v97 : BitVec 1 := Scalar.andi v94 v96
  let v83 : BitVec 32 := Scalar.divsi v82 c256_i32_31
  let c1_i32 : BitVec 32 := 1#32
  let v98 : BitVec 32 := Scalar.subi v83 c1_i32
  let v99 : BitVec 32 := Scalar.select v97 v98 v83
  let c256_i32_56 : BitVec 32 := 256#32
  let v135 : BitVec 32 := Scalar.muli v99 c256_i32_56
  v135
def k0_off6 (i : grid0.Coords) : Fin 3 → Nat :=
  let c0_57 : Index := 0#32
  let arg2 : BitVec 32 := BitVec.ofNat 32 (i 2).val
  let c256_i32_30 : BitVec 32 := 256#32
  let v82 : BitVec 32 := Scalar.muli arg2 c256_i32_30
  let c0_i32_32 : BitVec 32 := 0#32
  let v84 : BitVec 1 := Scalar.cmpi .sgt v82 c0_i32_32
  let v85 : BitVec 32 := Scalar.extui v84
  let c0_i32_33 : BitVec 32 := 0#32
  let v86 : BitVec 1 := Scalar.cmpi .slt v82 c0_i32_33
  let v87 : BitVec 32 := Scalar.extui v86
  let v88 : BitVec 32 := Scalar.subi v85 v87
  let c256_i32_31 : BitVec 32 := 256#32
  let c0_i32_34 : BitVec 32 := 0#32
  let v89 : BitVec 1 := Scalar.cmpi .sgt c256_i32_31 c0_i32_34
  let v90 : BitVec 32 := Scalar.extui v89
  let c0_i32_35 : BitVec 32 := 0#32
  let v91 : BitVec 1 := Scalar.cmpi .slt c256_i32_31 c0_i32_35
  let v92 : BitVec 32 := Scalar.extui v91
  let v93 : BitVec 32 := Scalar.subi v90 v92
  let v94 : BitVec 1 := Scalar.cmpi .ne v88 v93
  let v95 : BitVec 32 := Scalar.remsi v82 c256_i32_31
  let c0_i32_36 : BitVec 32 := 0#32
  let v96 : BitVec 1 := Scalar.cmpi .ne v95 c0_i32_36
  let v97 : BitVec 1 := Scalar.andi v94 v96
  let v83 : BitVec 32 := Scalar.divsi v82 c256_i32_31
  let c1_i32 : BitVec 32 := 1#32
  let v98 : BitVec 32 := Scalar.subi v83 c1_i32
  let v99 : BitVec 32 := Scalar.select v97 v98 v83
  let c256_i32_56 : BitVec 32 := 256#32
  let v135 : BitVec 32 := Scalar.muli v99 c256_i32_56
  let v136 : BitVec 32 := v135
  let v137 : Index := Scalar.indexCast v136
  let c0_58 : Index := 0#32
  ![0, v137.toNat, 0]
def k0_cond3 (i : grid0.Coords) : BitVec 1 :=
  let arg2 : BitVec 32 := BitVec.ofNat 32 (i 2).val
  let c7_i32 : BitVec 32 := 7#32
  let v247 : BitVec 1 := Scalar.cmpi .eq arg2 c7_i32
  let v248 : BitVec 32 := Scalar.extui v247
  let c0_i32_111 : BitVec 32 := 0#32
  let v249 : BitVec 1 := Scalar.cmpi .ne v248 c0_i32_111
  v249

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S4x2048x2560 : Shape := ⟨3, ![4, 2048, 2560]⟩
abbrev S4x2048x1024 : Shape := ⟨3, ![4, 2048, 1024]⟩
abbrev S4x2048x768 : Shape := ⟨3, ![4, 2048, 768]⟩
abbrev S4x2048x2304 : Shape := ⟨3, ![4, 2048, 2304]⟩
abbrev S4x2048x12x64 : Shape := ⟨4, ![4, 2048, 12, 64]⟩
abbrev S4x12x2048x2048 : Shape := ⟨4, ![4, 12, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x12x64x2048 : Shape := ⟨4, ![4, 12, 64, 2048]⟩
abbrev S4x12x2048x64 : Shape := ⟨4, ![4, 12, 2048, 64]⟩

abbrev nBuf : Space → Nat
  | .hbm => 196
  | .vmem => 0
  | .smem => 0
  | _ => 0

abbrev hbmTy0_0 (i : Nat) : BufTy := match i % 128 with
  | 0 => ⟨S4x2048x2560, .bf16⟩
  | 1 => ⟨S4x2048x1024, .bf16⟩
  | 2 => ⟨S4x2048x2560, .f32⟩
  | 3 => ⟨S4x2048x768, .bf16⟩
  | 4 => ⟨S4x2048x768, .f32⟩
  | 5 => ⟨S4x2048x2304, .f32⟩
  | 6 => ⟨S4x2048x768, .f32⟩
  | 7 => ⟨S4x2048x768, .f32⟩
  | 8 => ⟨S4x2048x768, .f32⟩
  | 9 => ⟨S4x2048x12x64, .f32⟩
  | 10 => ⟨S4x2048x12x64, .f32⟩
  | 11 => ⟨S4x2048x12x64, .f32⟩
  | 12 => ⟨S4x12x2048x2048, .f32⟩
  | 13 => ⟨S4x12x2048x2048, .bf16⟩
  | 14 => ⟨S4x12x2048x2048, .f32⟩
  | 15 => ⟨S_, .f32⟩
  | 16 => ⟨S4x12x2048x2048, .f32⟩
  | 17 => ⟨S4x12x2048x2048, .f32⟩
  | 18 => ⟨S2048, .i32⟩
  | 19 => ⟨S2048x1, .i32⟩
  | 20 => ⟨S2048, .i32⟩
  | 21 => ⟨S1x2048, .i32⟩
  | 22 => ⟨S2048x2048, .i32⟩
  | 23 => ⟨S2048x2048, .i32⟩
  | 24 => ⟨S2048x2048, .i1⟩
  | 25 => ⟨S_, .f32⟩
  | 26 => ⟨S4x12x2048x2048, .f32⟩
  | 27 => ⟨S4x12x2048x2048, .f32⟩
  | 28 => ⟨S4x12x2048x2048, .f32⟩
  | 29 => ⟨S4x12x2048x2048, .f32⟩
  | 30 => ⟨S4x12x2048x2048, .i1⟩
  | 31 => ⟨S4x12x2048x2048, .f32⟩
  | 32 => ⟨S4x12x2048x2048, .f32⟩
  | 33 => ⟨S4x12x2048x2048, .f32⟩
  | 34 => ⟨S4x12x2048x2048, .f32⟩
  | 35 => ⟨S4x12x2048x2048, .f32⟩
  | 36 => ⟨S4x12x2048x2048, .f32⟩
  | 37 => ⟨S4x12x2048x2048, .f32⟩
  | 38 => ⟨S4x12x2048x2048, .f32⟩
  | 39 => ⟨S_, .f32⟩
  | 40 => ⟨S4x12x2048x2048, .f32⟩
  | 41 => ⟨S4x12x2048x2048, .i1⟩
  | 42 => ⟨S_, .f32⟩
  | 43 => ⟨S4x12x2048x2048, .f32⟩
  | 44 => ⟨S4x12x2048x2048, .f32⟩
  | 45 => ⟨S_, .f32⟩
  | 46 => ⟨S4x12x2048x2048, .f32⟩
  | 47 => ⟨S4x12x2048x2048, .i1⟩
  | 48 => ⟨S_, .f32⟩
  | 49 => ⟨S4x12x2048x2048, .f32⟩
  | 50 => ⟨S4x12x2048x2048, .f32⟩
  | 51 => ⟨S4x12x2048x2048, .f32⟩
  | 52 => ⟨S4x12x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S4x12x2048x2048, .f32⟩
  | 61 => ⟨S4x12x2048x2048, .i1⟩
  | 62 => ⟨S_, .f32⟩
  | 63 => ⟨S4x12x2048x2048, .f32⟩
  | 64 => ⟨S4x12x2048x2048, .f32⟩
  | 65 => ⟨S4x12x2048x2048, .f32⟩
  | 66 => ⟨S4x12x2048x2048, .f32⟩
  | 67 => ⟨S4x12x2048x2048, .f32⟩
  | 68 => ⟨S_, .f32⟩
  | 69 => ⟨S4x12x2048x2048, .f32⟩
  | 70 => ⟨S4x12x2048x2048, .f32⟩
  | 71 => ⟨S4x12x2048x2048, .f32⟩
  | 72 => ⟨S_, .f32⟩
  | 73 => ⟨S_, .f32⟩
  | 74 => ⟨S4x12x2048x2048, .i1⟩
  | 75 => ⟨S4x12x2048x2048, .f32⟩
  | 76 => ⟨S4x12x2048x2048, .f32⟩
  | 77 => ⟨S_, .f32⟩
  | 78 => ⟨S4x12x2048x2048, .f32⟩
  | 79 => ⟨S_, .f32⟩
  | 80 => ⟨S_, .f32⟩
  | 81 => ⟨S4x12x2048x2048, .f32⟩
  | 82 => ⟨S4x12x2048x2048, .f32⟩
  | 83 => ⟨S4x12x2048x2048, .f32⟩
  | 84 => ⟨S_, .f32⟩
  | 85 => ⟨S4x12x2048x2048, .f32⟩
  | 86 => ⟨S4x12x2048x2048, .f32⟩
  | 87 => ⟨S4x12x2048x2048, .f32⟩
  | 88 => ⟨S4x12x2048x2048, .f32⟩
  | 89 => ⟨S4x12x2048x2048, .i1⟩
  | 90 => ⟨S4x12x2048x2048, .f32⟩
  | 91 => ⟨S4x12x2048x2048, .f32⟩
  | 92 => ⟨S4x12x2048x2048, .f32⟩
  | 93 => ⟨S4x12x2048x2048, .f32⟩
  | 94 => ⟨S4x12x2048x2048, .f32⟩
  | 95 => ⟨S4x12x2048x2048, .f32⟩
  | 96 => ⟨S4x12x2048x2048, .f32⟩
  | 97 => ⟨S4x12x2048x2048, .f32⟩
  | 98 => ⟨S_, .f32⟩
  | 99 => ⟨S4x12x2048x2048, .f32⟩
  | 100 => ⟨S4x12x2048x2048, .i1⟩
  | 101 => ⟨S_, .f32⟩
  | 102 => ⟨S4x12x2048x2048, .f32⟩
  | 103 => ⟨S4x12x2048x2048, .f32⟩
  | 104 => ⟨S_, .f32⟩
  | 105 => ⟨S4x12x2048x2048, .f32⟩
  | 106 => ⟨S4x12x2048x2048, .i1⟩
  | 107 => ⟨S_, .f32⟩
  | 108 => ⟨S4x12x2048x2048, .f32⟩
  | 109 => ⟨S4x12x2048x2048, .f32⟩
  | 110 => ⟨S4x12x2048x2048, .f32⟩
  | 111 => ⟨S4x12x2048x2048, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S4x12x2048x2048, .f32⟩
  | 120 => ⟨S4x12x2048x2048, .i1⟩
  | 121 => ⟨S_, .f32⟩
  | 122 => ⟨S4x12x2048x2048, .f32⟩
  | 123 => ⟨S4x12x2048x2048, .f32⟩
  | 124 => ⟨S4x12x2048x2048, .f32⟩
  | 125 => ⟨S4x12x2048x2048, .f32⟩
  | 126 => ⟨S4x12x2048x2048, .f32⟩
  | 127 => ⟨S_, .f32⟩
  | _ => ⟨S4x2048x2560, .bf16⟩

abbrev hbmTy0_1 (i : Nat) : BufTy := match i % 128 with
  | 0 => ⟨S4x12x2048x2048, .f32⟩
  | 1 => ⟨S4x12x2048x2048, .f32⟩
  | 2 => ⟨S4x12x2048x2048, .f32⟩
  | 3 => ⟨S4x12x2048x2048, .f32⟩
  | 4 => ⟨S4x12x2048x2048, .f32⟩
  | 5 => ⟨S_, .f32⟩
  | 6 => ⟨S_, .f32⟩
  | 7 => ⟨S4x12x2048x2048, .i1⟩
  | 8 => ⟨S4x12x2048x2048, .f32⟩
  | 9 => ⟨S4x12x2048x2048, .f32⟩
  | 10 => ⟨S_, .f32⟩
  | 11 => ⟨S4x12x2048x2048, .f32⟩
  | 12 => ⟨S4x12x2048x2048, .bf16⟩
  | 13 => ⟨S4x12x2048x2048, .f32⟩
  | 14 => ⟨S4x12x64x2048, .f32⟩
  | 15 => ⟨S4x2048x12x64, .f32⟩
  | 16 => ⟨S4x2048x12x64, .bf16⟩
  | 17 => ⟨S4x2048x12x64, .f32⟩
  | 18 => ⟨S4x2048x768, .f32⟩
  | 19 => ⟨S4x2048x12x64, .f32⟩
  | 20 => ⟨S4x2048x12x64, .bf16⟩
  | 21 => ⟨S4x2048x12x64, .f32⟩
  | 22 => ⟨S4x12x64x2048, .f32⟩
  | 23 => ⟨S4x12x2048x2048, .f32⟩
  | 24 => ⟨S4x12x64x2048, .f32⟩
  | 25 => ⟨S4x2048x12x64, .f32⟩
  | 26 => ⟨S4x12x2048x2048, .bf16⟩
  | 27 => ⟨S4x12x2048x2048, .f32⟩
  | 28 => ⟨S_, .f32⟩
  | 29 => ⟨S4x12x2048x2048, .f32⟩
  | 30 => ⟨S4x12x2048x2048, .f32⟩
  | 31 => ⟨S4x12x2048x2048, .f32⟩
  | 32 => ⟨S4x12x2048x2048, .f32⟩
  | 33 => ⟨S4x12x2048x2048, .f32⟩
  | 34 => ⟨S4x12x2048x2048, .f32⟩
  | 35 => ⟨S4x12x2048x2048, .f32⟩
  | 36 => ⟨S_, .f32⟩
  | 37 => ⟨S_, .f32⟩
  | 38 => ⟨S4x12x2048x2048, .f32⟩
  | 39 => ⟨S4x12x2048x2048, .f32⟩
  | 40 => ⟨S_, .f32⟩
  | 41 => ⟨S4x12x2048x2048, .f32⟩
  | 42 => ⟨S4x12x2048x2048, .f32⟩
  | 43 => ⟨S4x12x2048x2048, .f32⟩
  | 44 => ⟨S4x12x2048x2048, .f32⟩
  | 45 => ⟨S4x12x2048x2048, .f32⟩
  | 46 => ⟨S_, .f32⟩
  | 47 => ⟨S4x12x2048x2048, .f32⟩
  | 48 => ⟨S4x12x2048x2048, .f32⟩
  | 49 => ⟨S4x12x2048x2048, .bf16⟩
  | 50 => ⟨S4x12x2048x2048, .f32⟩
  | 51 => ⟨S4x12x2048x64, .f32⟩
  | 52 => ⟨S4x2048x12x64, .f32⟩
  | 53 => ⟨S4x12x2048x64, .f32⟩
  | 54 => ⟨S4x2048x12x64, .f32⟩
  | 55 => ⟨S4x2048x768, .f32⟩
  | 56 => ⟨S4x2048x768, .f32⟩
  | 57 => ⟨S4x2048x768, .f32⟩
  | 58 => ⟨S4x2048x2304, .f32⟩
  | 59 => ⟨S_, .f32⟩
  | 60 => ⟨S4x2048x2560, .f32⟩
  | 61 => ⟨S4x2048x2304, .f32⟩
  | 62 => ⟨S4x2048x768, .f32⟩
  | 63 => ⟨S4x2048x768, .f32⟩
  | 64 => ⟨S4x2048x768, .f32⟩
  | 65 => ⟨S4x2048x768, .bf16⟩
  | 66 => ⟨S4x2048x768, .bf16⟩
  | 67 => ⟨S4x2048x768, .bf16⟩
  | _ => ⟨S4x2048x2560, .bf16⟩

abbrev hbmTy (i : Nat) : BufTy := match i / 128 with
  | 0 => hbmTy0_0 i
  | 1 => hbmTy0_1 i
  | _ => ⟨S4x2048x2560, .bf16⟩

abbrev bufTy : (tb : Table) → Fin (tcTables nBuf tb) → BufTy
  | .hbm, ⟨i, _⟩ => hbmTy i
  | _, _ => ⟨S4x2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v22_0 : Ref sig .tc := ⟨.hbm, 38, rfl⟩
abbrev main_call0_cst_0 : Ref sig .tc := ⟨.hbm, 39, rfl⟩
abbrev main_call0_v13 : Ref sig .tc := ⟨.hbm, 40, rfl⟩
abbrev main_call0_v14 : Ref sig .tc := ⟨.hbm, 41, rfl⟩
abbrev main_call0_cst_1 : Ref sig .tc := ⟨.hbm, 42, rfl⟩
abbrev main_call0_v15 : Ref sig .tc := ⟨.hbm, 43, rfl⟩
abbrev main_call0_v16 : Ref sig .tc := ⟨.hbm, 44, rfl⟩
abbrev main_call0_cst_2 : Ref sig .tc := ⟨.hbm, 45, rfl⟩
abbrev main_call0_v17 : Ref sig .tc := ⟨.hbm, 46, rfl⟩
abbrev main_call0_v18 : Ref sig .tc := ⟨.hbm, 47, rfl⟩
abbrev main_call0_cst_3 : Ref sig .tc := ⟨.hbm, 48, rfl⟩
abbrev main_call0_v19 : Ref sig .tc := ⟨.hbm, 49, rfl⟩
abbrev main_call0_v20 : Ref sig .tc := ⟨.hbm, 50, rfl⟩
abbrev main_call0_v21 : Ref sig .tc := ⟨.hbm, 51, rfl⟩
abbrev main_v22_1 : Ref sig .tc := ⟨.hbm, 52, rfl⟩
abbrev main_call0_cst_4 : Ref sig .tc := ⟨.hbm, 53, rfl⟩
abbrev main_call0_cst_5 : Ref sig .tc := ⟨.hbm, 54, rfl⟩
abbrev main_call0_v23 : Ref sig .tc := ⟨.hbm, 55, rfl⟩
abbrev main_call0_cst_6 : Ref sig .tc := ⟨.hbm, 56, rfl⟩
abbrev main_call0_cst_7 : Ref sig .tc := ⟨.hbm, 57, rfl⟩
abbrev main_call0_v24 : Ref sig .tc := ⟨.hbm, 58, rfl⟩
abbrev main_call0_cst_8 : Ref sig .tc := ⟨.hbm, 59, rfl⟩
abbrev main_call0_v25 : Ref sig .tc := ⟨.hbm, 60, rfl⟩
abbrev main_call0_v26 : Ref sig .tc := ⟨.hbm, 61, rfl⟩
abbrev main_call0_cst_9 : Ref sig .tc := ⟨.hbm, 62, rfl⟩
abbrev main_call0_v27 : Ref sig .tc := ⟨.hbm, 63, rfl⟩
abbrev main_call0_v28 : Ref sig .tc := ⟨.hbm, 64, rfl⟩
abbrev main_call0_v29 : Ref sig .tc := ⟨.hbm, 65, rfl⟩
abbrev main_call0_v30 : Ref sig .tc := ⟨.hbm, 66, rfl⟩
abbrev main_call0_v31 : Ref sig .tc := ⟨.hbm, 67, rfl⟩
abbrev main_call0_cst_10 : Ref sig .tc := ⟨.hbm, 68, rfl⟩
abbrev main_call0_v32 : Ref sig .tc := ⟨.hbm, 69, rfl⟩
abbrev main_v22_2 : Ref sig .tc := ⟨.hbm, 70, rfl⟩
abbrev main_v23 : Ref sig .tc := ⟨.hbm, 71, rfl⟩
abbrev main_cst_0 : Ref sig .tc := ⟨.hbm, 72, rfl⟩
abbrev main_call1_v0 : Ref sig .tc := ⟨.hbm, 73, rfl⟩
abbrev main_v24_1 : Ref sig .tc := ⟨.hbm, 74, rfl⟩
abbrev main_call1_v2 : Ref sig .tc := ⟨.hbm, 75, rfl⟩
abbrev main_v24_0 : Ref sig .tc := ⟨.hbm, 76, rfl⟩
abbrev main_call1_cst : Ref sig .tc := ⟨.hbm, 77, rfl⟩
abbrev main_v24_2 : Ref sig .tc := ⟨.hbm, 78, rfl⟩
abbrev main_call2_cst : Ref sig .tc := ⟨.hbm, 79, rfl⟩
abbrev main_call2_v0 : Ref sig .tc := ⟨.hbm, 80, rfl⟩
abbrev main_v25 : Ref sig .tc := ⟨.hbm, 81, rfl⟩
abbrev main_v26 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v27_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v27_2 : Ref sig .tc := ⟨.hbm, 129, rfl⟩
abbrev main_v27_0 : Ref sig .tc := ⟨.hbm, 130, rfl⟩
abbrev main_v28 : Ref sig .tc := ⟨.hbm, 131, rfl⟩
abbrev main_v29 : Ref sig .tc := ⟨.hbm, 132, rfl⟩
abbrev main_cst_1 : Ref sig .tc := ⟨.hbm, 133, rfl⟩
abbrev main_call4_v0 : Ref sig .tc := ⟨.hbm, 134, rfl⟩
abbrev main_v30_1 : Ref sig .tc := ⟨.hbm, 135, rfl⟩
abbrev main_call4_v2 : Ref sig .tc := ⟨.hbm, 136, rfl⟩
abbrev main_v30_0 : Ref sig .tc := ⟨.hbm, 137, rfl⟩
abbrev main_call4_cst : Ref sig .tc := ⟨.hbm, 138, rfl⟩
abbrev main_v30_2 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_call5_cst : Ref sig .tc := ⟨.hbm, 156, rfl⟩
abbrev main_call5_v0 : Ref sig .tc := ⟨.hbm, 157, rfl⟩
abbrev main_v47 : Ref sig .tc := ⟨.hbm, 158, rfl⟩
abbrev main_v48 : Ref sig .tc := ⟨.hbm, 159, rfl⟩
abbrev main_call6_v0 : Ref sig .tc := ⟨.hbm, 160, rfl⟩
abbrev main_call6_v1 : Ref sig .tc := ⟨.hbm, 161, rfl⟩
abbrev main_v49 : Ref sig .tc := ⟨.hbm, 162, rfl⟩
abbrev main_v50 : Ref sig .tc := ⟨.hbm, 163, rfl⟩
abbrev main_call7_cst : Ref sig .tc := ⟨.hbm, 164, rfl⟩
abbrev main_call7_v0 : Ref sig .tc := ⟨.hbm, 165, rfl⟩
abbrev main_v51 : Ref sig .tc := ⟨.hbm, 166, rfl⟩
abbrev main_v52 : Ref sig .tc := ⟨.hbm, 167, rfl⟩
abbrev main_call8_cst : Ref sig .tc := ⟨.hbm, 168, rfl⟩
abbrev main_call8_v0 : Ref sig .tc := ⟨.hbm, 169, rfl⟩
abbrev main_v53 : Ref sig .tc := ⟨.hbm, 170, rfl⟩
abbrev main_v54 : Ref sig .tc := ⟨.hbm, 171, rfl⟩
abbrev main_v55 : Ref sig .tc := ⟨.hbm, 172, rfl⟩
abbrev main_v56 : Ref sig .tc := ⟨.hbm, 173, rfl⟩
abbrev main_cst_2 : Ref sig .tc := ⟨.hbm, 174, rfl⟩
abbrev main_v57 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩
abbrev main_v61 : Ref sig .tc := ⟨.hbm, 179, rfl⟩
abbrev main_v62 : Ref sig .tc := ⟨.hbm, 180, rfl⟩
abbrev main_v63 : Ref sig .tc := ⟨.hbm, 181, rfl⟩
abbrev main_v64 : Ref sig .tc := ⟨.hbm, 182, rfl⟩
abbrev main_v65 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_cst_3 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩

abbrev nD : Nat := 1
abbrev τ : Topo := Topo.v7x

variable {F : FTy → Type} [FloatOps F]
-- ==== Hidden.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HiddenReferenceIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x2816, .f32⟩
  | .hbm, ⟨7, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Down.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Wide.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WideReferenceIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Back.lean ====
abbrev S8192x2816 : Shape := ⟨2, ![8192, 2816]⟩
abbrev S1024x2816 : Shape := ⟨2, ![1024, 2816]⟩
abbrev S8192x1024 : Shape := ⟨2, ![8192, 1024]⟩
abbrev S512x2816 : Shape := ⟨2, ![512, 2816]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x512, .f32⟩
  | .local _ .vmem, ⟨5, _⟩ => ⟨S1024x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackReferenceIdeal.lean ====
abbrev S8192x2816 : Shape := ⟨2, ![8192, 2816]⟩
abbrev S1024x2816 : Shape := ⟨2, ![1024, 2816]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S_, .f32⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Both.lean ====
abbrev S8192x2816 : Shape := ⟨2, ![8192, 2816]⟩
abbrev S1024x2816 : Shape := ⟨2, ![1024, 2816]⟩
abbrev S8192x1024 : Shape := ⟨2, ![8192, 1024]⟩
abbrev S512x2816 : Shape := ⟨2, ![512, 2816]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BothReferenceIdeal.lean ====
abbrev S8192x2816 : Shape := ⟨2, ![8192, 2816]⟩
abbrev S1024x2816 : Shape := ⟨2, ![1024, 2816]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S8192x1024, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Project.lean ====
abbrev S8192x1024 : Shape := ⟨2, ![8192, 1024]⟩
abbrev S1024x2560 : Shape := ⟨2, ![1024, 2560]⟩
abbrev S8192x2560 : Shape := ⟨2, ![8192, 2560]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S8192x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjectReferenceIdeal.lean ====
abbrev S8192x1024 : Shape := ⟨2, ![8192, 1024]⟩
abbrev S1024x2560 : Shape := ⟨2, ![1024, 2560]⟩
abbrev S8192x2560 : Shape := ⟨2, ![8192, 2560]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S8192x1024, .f32⟩
  | .hbm, ⟨3, _⟩ => ⟨S1024x2560, .f32⟩
  | .hbm, ⟨4, _⟩ => ⟨S8192x2560, .f32⟩
  | .hbm, ⟨5, _⟩ => ⟨S8192x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjectBack.lean ====
abbrev S8192x2560 : Shape := ⟨2, ![8192, 2560]⟩
abbrev S1024x2560 : Shape := ⟨2, ![1024, 2560]⟩
abbrev S8192x1024 : Shape := ⟨2, ![8192, 1024]⟩
abbrev S512x2560 : Shape := ⟨2, ![512, 2560]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .bf16⟩
  | .hbm, ⟨2, _⟩ => ⟨S8192x1024, .f32⟩
  | .local _ .vmem, ⟨0, _⟩ => ⟨S1024x2560, .bf16⟩
  | .local _ .vmem, ⟨1, _⟩ => ⟨S1024x2560, .bf16⟩
  | .local _ .vmem, ⟨2, _⟩ => ⟨S512x2560, .bf16⟩
  | .local _ .vmem, ⟨3, _⟩ => ⟨S512x2560, .bf16⟩
  | .local _ .vmem, ⟨4, _⟩ => ⟨S1024x512, .f32⟩
  | .local _ .vmem, ⟨5, _⟩ => ⟨S1024x512, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjectBackReferenceIdeal.lean ====
abbrev S8192x2560 : Shape := ⟨2, ![8192, 2560]⟩
abbrev S1024x2560 : Shape := ⟨2, ![1024, 2560]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .bf16⟩
  | .hbm, ⟨2, _⟩ => ⟨S_, .f32⟩
  | .hbm, ⟨3, _⟩ => ⟨S8192x1024, .f32⟩
  | .hbm, ⟨4, _⟩ => ⟨S1024x2560, .f32⟩
  | .hbm, ⟨5, _⟩ => ⟨S8192x2560, .f32⟩
  | .hbm, ⟨6, _⟩ => ⟨S8192x2560, .f32⟩
  | .hbm, ⟨7, _⟩ => ⟨S8192x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjectGrad.lean ====
abbrev S8192x1024 : Shape := ⟨2, ![8192, 1024]⟩
abbrev S8192x2560 : Shape := ⟨2, ![8192, 2560]⟩
abbrev S1024x2560 : Shape := ⟨2, ![1024, 2560]⟩
abbrev S1024x1024 : Shape := ⟨2, ![1024, 1024]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S1024x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjectGradReferenceIdeal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S_, .f32⟩
  | .hbm, ⟨3, _⟩ => ⟨S1024x2560, .f32⟩
  | .hbm, ⟨4, _⟩ => ⟨S8192x1024, .f32⟩
  | .hbm, ⟨5, _⟩ => ⟨S8192x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S1024x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mix.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixBack.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixBackReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixGrad.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixGradReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Shared.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SharedReferenceIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | .hbm, ⟨5, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SharedBack.lean ====
abbrev S8192x1536 : Shape := ⟨2, ![8192, 1536]⟩
abbrev S1024x1536 : Shape := ⟨2, ![1024, 1536]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SharedBackReferenceIdeal.lean ====
abbrev S8192x1536 : Shape := ⟨2, ![8192, 1536]⟩
abbrev S1024x1536 : Shape := ⟨2, ![1024, 1536]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S_, .f32⟩
  | .hbm, ⟨3, _⟩ => ⟨S8192x1024, .f32⟩
  | .hbm, ⟨4, _⟩ => ⟨S1024x1536, .f32⟩
  | .hbm, ⟨5, _⟩ => ⟨S8192x1536, .f32⟩
  | .hbm, ⟨6, _⟩ => ⟨S8192x1536, .f32⟩
  | .hbm, ⟨7, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SharedGrad.lean ====
abbrev S8192x1024 : Shape := ⟨2, ![8192, 1024]⟩
abbrev S8192x1536 : Shape := ⟨2, ![8192, 1536]⟩
abbrev S1024x1536 : Shape := ⟨2, ![1024, 1536]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SharedGradReferenceIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Query.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryReferenceIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QueryBack.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryBackReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QueryGrad.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryGradReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Sticks.lean ====
abbrev S4x2048x2560 : Shape := ⟨3, ![4, 2048, 2560]⟩
abbrev S_ : Shape := ⟨0, ![]⟩
abbrev S8x128 : Shape := ⟨2, ![8, 128]⟩
abbrev S4x2048x768 : Shape := ⟨3, ![4, 2048, 768]⟩
abbrev S1x256x256 : Shape := ⟨3, ![1, 256, 256]⟩
abbrev S1x2048x256 : Shape := ⟨3, ![1, 2048, 256]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 12
  | .smem => 0
  | _ => 0

abbrev bufTy : (tb : Table) → Fin (tcTables nBuf tb) → BufTy
  | .hbm, ⟨0, _⟩ => ⟨S4x2048x2560, .bf16⟩
  | .hbm, ⟨1, _⟩ => ⟨S_, .f32⟩
  | .hbm, ⟨2, _⟩ => ⟨S8x128, .f32⟩
  | .hbm, ⟨3, _⟩ => ⟨S4x2048x768, .bf16⟩
  | .hbm, ⟨4, _⟩ => ⟨S4x2048x768, .f32⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .f32⟩
  | .local _ .vmem, ⟨9, _⟩ => ⟨S1x256x256, .f32⟩
  | .local _ .vmem, ⟨10, _⟩ => ⟨S1024x256, .f32⟩
  | .local _ .vmem, ⟨11, _⟩ => ⟨S1024x256, .f32⟩
  | _, _ => ⟨S4x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 3, 8], ![false, false, false]⟩

def k0_mult1 (i : grid0.Coords) : BitVec 32 :=
  let arg2 : BitVec 32 := BitVec.ofNat 32 (i 2).val
  let c256_i32_15 : BitVec 32 := 256#32
  let v53 : BitVec 32 := Scalar.muli arg2 c256_i32_15
  let c0_i32_17 : BitVec 32 := 0#32
  let v55 : BitVec 1 := Scalar.cmpi .sgt v53 c0_i32_17
  let v56 : BitVec 32 := Scalar.extui v55
  let c0_i32_18 : BitVec 32 := 0#32
  let v57 : BitVec 1 := Scalar.cmpi .slt v53 c0_i32_18
  let v58 : BitVec 32 := Scalar.extui v57
  let v59 : BitVec 32 := Scalar.subi v56 v58
  let c256_i32_16 : BitVec 32 := 256#32
  let c0_i32_19 : BitVec 32 := 0#32
  let v60 : BitVec 1 := Scalar.cmpi .sgt c256_i32_16 c0_i32_19
  let v61 : BitVec 32 := Scalar.extui v60
  let c0_i32_20 : BitVec 32 := 0#32
  let v62 : BitVec 1 := Scalar.cmpi .slt c256_i32_16 c0_i32_20
  let v63 : BitVec 32 := Scalar.extui v62
  let v64 : BitVec 32 := Scalar.subi v61 v63
  let v65 : BitVec 1 := Scalar.cmpi .ne v59 v64
  let v66 : BitVec 32 := Scalar.remsi v53 c256_i32_16
  let c0_i32_21 : BitVec 32 := 0#32
  let v67 : BitVec 1 := Scalar.cmpi .ne v66 c0_i32_21
  let v68 : BitVec 1 := Scalar.andi v65 v67
  let v54 : BitVec 32 := Scalar.divsi v53 c256_i32_16
  let c1_i32 : BitVec 32 := 1#32
  let v69 : BitVec 32 := Scalar.subi v54 c1_i32
  let v70 : BitVec 32 := Scalar.select v68 v69 v54
  let c256_i32_22 : BitVec 32 := 256#32
  let v71 : BitVec 32 := Scalar.muli v70 c256_i32_22
  v71
def k0_off1 (i : grid0.Coords) : Fin 3 → Nat :=
  let c0_23 : Index := 0#32
  let arg2 : BitVec 32 := BitVec.ofNat 32 (i 2).val
  let c256_i32_15 : BitVec 32 := 256#32
  let v53 : BitVec 32 := Scalar.muli arg2 c256_i32_15
  let c0_i32_17 : BitVec 32 := 0#32
  let v55 : BitVec 1 := Scalar.cmpi .sgt v53 c0_i32_17
  let v56 : BitVec 32 := Scalar.extui v55
  let c0_i32_18 : BitVec 32 := 0#32
  let v57 : BitVec 1 := Scalar.cmpi .slt v53 c0_i32_18
  let v58 : BitVec 32 := Scalar.extui v57
  let v59 : BitVec 32 := Scalar.subi v56 v58
  let c256_i32_16 : BitVec 32 := 256#32
  let c0_i32_19 : BitVec 32 := 0#32
  let v60 : BitVec 1 := Scalar.cmpi .sgt c256_i32_16 c0_i32_19
  let v61 : BitVec 32 := Scalar.extui v60
  let c0_i32_20 : BitVec 32 := 0#32
  let v62 : BitVec 1 := Scalar.cmpi .slt c256_i32_16 c0_i32_20
  let v63 : BitVec 32 := Scalar.extui v62
  let v64 : BitVec 32 := Scalar.subi v61 v63
  let v65 : BitVec 1 := Scalar.cmpi .ne v59 v64
  let v66 : BitVec 32 := Scalar.remsi v53 c256_i32_16
  let c0_i32_21 : BitVec 32 := 0#32
  let v67 : BitVec 1 := Scalar.cmpi .ne v66 c0_i32_21
  let v68 : BitVec 1 := Scalar.andi v65 v67
  let v54 : BitVec 32 := Scalar.divsi v53 c256_i32_16
  let c1_i32 : BitVec 32 := 1#32
  let v69 : BitVec 32 := Scalar.subi v54 c1_i32
  let v70 : BitVec 32 := Scalar.select v68 v69 v54
  let c256_i32_22 : BitVec 32 := 256#32
  let v71 : BitVec 32 := Scalar.muli v70 c256_i32_22
  let v72 : BitVec 32 := v71
  let v73 : Index := Scalar.indexCast v72
  let c0_24 : Index := 0#32
  ![0, v73.toNat, 0]
@[reducible] def k0_t1_loop (i : grid0.Coords) : Scf.Loop 32 :=
  let c0_i32_55 : BitVec 32 := 0#32
  let arg2 : BitVec 32 := BitVec.ofNat 32 (i 2).val
  let c256_i32_15 : BitVec 32 := 256#32
  let v53 : BitVec 32 := Scalar.muli arg2 c256_i32_15
  let c0_i32_17 : BitVec 32 := 0#32
  let v55 : BitVec 1 := Scalar.cmpi .sgt v53 c0_i32_17
  let v56 : BitVec 32 := Scalar.extui v55
  let c0_i32_18 : BitVec 32 := 0#32
  let v57 : BitVec 1 := Scalar.cmpi .slt v53 c0_i32_18
  let v58 : BitVec 32 := Scalar.extui v57
  let v59 : BitVec 32 := Scalar.subi v56 v58
  let c256_i32_16 : BitVec 32 := 256#32
  let c0_i32_19 : BitVec 32 := 0#32
  let v60 : BitVec 1 := Scalar.cmpi .sgt c256_i32_16 c0_i32_19
  let v61 : BitVec 32 := Scalar.extui v60
  let c0_i32_20 : BitVec 32 := 0#32
  let v62 : BitVec 1 := Scalar.cmpi .slt c256_i32_16 c0_i32_20
  let v63 : BitVec 32 := Scalar.extui v62
  let v64 : BitVec 32 := Scalar.subi v61 v63
  let v65 : BitVec 1 := Scalar.cmpi .ne v59 v64
  let v66 : BitVec 32 := Scalar.remsi v53 c256_i32_16
  let c0_i32_21 : BitVec 32 := 0#32
  let v67 : BitVec 1 := Scalar.cmpi .ne v66 c0_i32_21
  let v68 : BitVec 1 := Scalar.andi v65 v67
  let v54 : BitVec 32 := Scalar.divsi v53 c256_i32_16
  let c1_i32 : BitVec 32 := 1#32
  let v69 : BitVec 32 := Scalar.subi v54 c1_i32
  let v70 : BitVec 32 := Scalar.select v68 v69 v54
  let c0_i32_48 : BitVec 32 := 0#32
  let v126 : BitVec 1 := Scalar.cmpi .sgt v70 c0_i32_48
  let v127 : BitVec 32 := Scalar.extui v126
  let c0_i32_49 : BitVec 32 := 0#32
  let v128 : BitVec 1 := Scalar.cmpi .slt v70 c0_i32_49
  let v129 : BitVec 32 := Scalar.extui v128
  let v130 : BitVec 32 := Scalar.subi v127 v129
  let c2_i32 : BitVec 32 := 2#32
  let c0_i32_50 : BitVec 32 := 0#32
  let v131 : BitVec 1 := Scalar.cmpi .sgt c2_i32 c0_i32_50
  let v132 : BitVec 32 := Scalar.extui v131
  let c0_i32_51 : BitVec 32 := 0#32
  let v133 : BitVec 1 := Scalar.cmpi .slt c2_i32 c0_i32_51
  let v134 : BitVec 32 := Scalar.extui v133
  let v135 : BitVec 32 := Scalar.subi v132 v134
  let v136 : BitVec 1 := Scalar.cmpi .ne v130 v135
  let v137 : BitVec 32 := Scalar.remsi v70 c2_i32
  let c0_i32_52 : BitVec 32 := 0#32
  let v138 : BitVec 1 := Scalar.cmpi .ne v137 c0_i32_52
  let v139 : BitVec 1 := Scalar.andi v136 v138
  let v125 : BitVec 32 := Scalar.divsi v70 c2_i32
  let c1_i32_53 : BitVec 32 := 1#32
  let v140 : BitVec 32 := Scalar.subi v125 c1_i32_53
  let v141 : BitVec 32 := Scalar.select v139 v140 v125
  let v142 : BitVec 32 := Scalar.subi v141 c0_i32_55
  let c1_i32_56 : BitVec 32 := 1#32
  let v144 : BitVec 32 := Scalar.divsi v142 c1_i32_56
  let v145 : BitVec 32 := Scalar.muli v144 c1_i32_56
  let v146 : BitVec 32 := Scalar.addi c0_i32_55 v145
  let c1_i32_57 : BitVec 32 := 1#32
  ⟨c0_i32_55, v146, c1_i32_57⟩
def k0_mult2 (i : grid0.Coords) (k0_t1 : Fin (k0_t1_loop i).trips) : BitVec 32 :=
  let arg2 : BitVec 32 := BitVec.ofNat 32 (i 2).val
  let c256_i32_15 : BitVec 32 := 256#32
  let v53 : BitVec 32 := Scalar.muli arg2 c256_i32_15
  let c0_i32_17 : BitVec 32 := 0#32
  let v55 : BitVec 1 := Scalar.cmpi .sgt v53 c0_i32_17
  let v56 : BitVec 32 := Scalar.extui v55
  let c0_i32_18 : BitVec 32 := 0#32
  let v57 : BitVec 1 := Scalar.cmpi .slt v53 c0_i32_18
  let v58 : BitVec 32 := Scalar.extui v57
  let v59 : BitVec 32 := Scalar.subi v56 v58
  let c256_i32_16 : BitVec 32 := 256#32
  let c0_i32_19 : BitVec 32 := 0#32
  let v60 : BitVec 1 := Scalar.cmpi .sgt c256_i32_16 c0_i32_19
  let v61 : BitVec 32 := Scalar.extui v60
  let c0_i32_20 : BitVec 32 := 0#32
  let v62 : BitVec 1 := Scalar.cmpi .slt c256_i32_16 c0_i32_20
  let v63 : BitVec 32 := Scalar.extui v62
  let v64 : BitVec 32 := Scalar.subi v61 v63
  let v65 : BitVec 1 := Scalar.cmpi .ne v59 v64
  let v66 : BitVec 32 := Scalar.remsi v53 c256_i32_16
  let c0_i32_21 : BitVec 32 := 0#32
  let v67 : BitVec 1 := Scalar.cmpi .ne v66 c0_i32_21
  let v68 : BitVec 1 := Scalar.andi v65 v67
  let v54 : BitVec 32 := Scalar.divsi v53 c256_i32_16
  let c1_i32 : BitVec 32 := 1#32
  let v69 : BitVec 32 := Scalar.subi v54 c1_i32
  let v70 : BitVec 32 := Scalar.select v68 v69 v54
  let c1_i32_86 : BitVec 32 := 1#32
  let v181 : BitVec 32 := Scalar.subi v70 c1_i32_86
  let c2_i32_87 : BitVec 32 := 2#32
  let c0_i32_55 : BitVec 32 := 0#32
  let c1_i32_57 : BitVec 32 := 1#32
  let arg11 : BitVec 32 := Scf.iv c0_i32_55 c1_i32_57 k0_t1
  let v182 : BitVec 32 := Scalar.muli c2_i32_87 arg11
  let v183 : BitVec 32 := Scalar.subi v181 v182
  let c256_i32_90 : BitVec 32 := 256#32
  let v187 : BitVec 32 := Scalar.muli v183 c256_i32_90
  v187
def k0_mult3 (i : grid0.Coords) (k0_t1 : Fin (k0_t1_loop i).trips) : BitVec 32 :=
  let arg2 : BitVec 32 := BitVec.ofNat 32 (i 2).val
  let c256_i32_15 : BitVec 32 := 256#32
  let v53 : BitVec 32 := Scalar.muli arg2 c256_i32_15
  let c0_i32_17 : BitVec 32 := 0#32
  let v55 : BitVec 1 := Scalar.cmpi .sgt v53 c0_i32_17
  let v56 : BitVec 32 := Scalar.extui v55
  let c0_i32_18 : BitVec 32 := 0#32
  let v57 : BitVec 1 := Scalar.cmpi .slt v53 c0_i32_18
  let v58 : BitVec 32 := Scalar.extui v57
  let v59 : BitVec 32 := Scalar.subi v56 v58
  let c256_i32_16 : BitVec 32 := 256#32
  let c0_i32_19 : BitVec 32 := 0#32
  let v60 : BitVec 1 := Scalar.cmpi .sgt c256_i32_16 c0_i32_19
  let v61 : BitVec 32 := Scalar.extui v60
  let c0_i32_20 : BitVec 32 := 0#32
  let v62 : BitVec 1 := Scalar.cmpi .slt c256_i32_16 c0_i32_20
  let v63 : BitVec 32 := Scalar.extui v62
  let v64 : BitVec 32 := Scalar.subi v61 v63
  let v65 : BitVec 1 := Scalar.cmpi .ne v59 v64
  let v66 : BitVec 32 := Scalar.remsi v53 c256_i32_16
  let c0_i32_21 : BitVec 32 := 0#32
  let v67 : BitVec 1 := Scalar.cmpi .ne v66 c0_i32_21
  let v68 : BitVec 1 := Scalar.andi v65 v67
  let v54 : BitVec 32 := Scalar.divsi v53 c256_i32_16
  let c1_i32 : BitVec 32 := 1#32
  let v69 : BitVec 32 := Scalar.subi v54 c1_i32
  let v70 : BitVec 32 := Scalar.select v68 v69 v54
  let c2_i32_88 : BitVec 32 := 2#32
  let v184 : BitVec 32 := Scalar.subi v70 c2_i32_88
  let c2_i32_89 : BitVec 32 := 2#32
  let c0_i32_55 : BitVec 32 := 0#32
  let c1_i32_57 : BitVec 32 := 1#32
  let arg11 : BitVec 32 := Scf.iv c0_i32_55 c1_i32_57 k0_t1
  let v185 : BitVec 32 := Scalar.muli c2_i32_89 arg11
  let v186 : BitVec 32 := Scalar.subi v184 v185
  let c256_i32_91 : BitVec 32 := 256#32
  let v189 : BitVec 32 := Scalar.muli v186 c256_i32_91
  v189
def k0_off2 (i : grid0.Coords) (k0_t1 : Fin (k0_t1_loop i).trips) (c1_i32_86 : BitVec 32) : Fin 3 → Nat :=
  let c0_92 : Index := 0#32
  let arg2 : BitVec 32 := BitVec.ofNat 32 (i 2).val
  let c256_i32_15 : BitVec 32 := 256#32
  let v53 : BitVec 32 := Scalar.muli arg2 c256_i32_15
  let c0_i32_17 : BitVec 32 := 0#32
  let v55 : BitVec 1 := Scalar.cmpi .sgt v53 c0_i32_17
  let v56 : BitVec 32 := Scalar.extui v55
  let c0_i32_18 : BitVec 32 := 0#32
  let v57 : BitVec 1 := Scalar.cmpi .slt v53 c0_i32_18
  let v58 : BitVec 32 := Scalar.extui v57
  let v59 : BitVec 32 := Scalar.subi v56 v58
  let c256_i32_16 : BitVec 32 := 256#32
  let c0_i32_19 : BitVec 32 := 0#32
  let v60 : BitVec 1 := Scalar.cmpi .sgt c256_i32_16 c0_i32_19
  let v61 : BitVec 32 := Scalar.extui v60
  let c0_i32_20 : BitVec 32 := 0#32
  let v62 : BitVec 1 := Scalar.cmpi .slt c256_i32_16 c0_i32_20
  let v63 : BitVec 32 := Scalar.extui v62
  let v64 : BitVec 32 := Scalar.subi v61 v63
  let v65 : BitVec 1 := Scalar.cmpi .ne v59 v64
  let v66 : BitVec 32 := Scalar.remsi v53 c256_i32_16
  let c0_i32_21 : BitVec 32 := 0#32
  let v67 : BitVec 1 := Scalar.cmpi .ne v66 c0_i32_21
  let v68 : BitVec 1 := Scalar.andi v65 v67
  let v54 : BitVec 32 := Scalar.divsi v53 c256_i32_16
  let c1_i32 : BitVec 32 := 1#32
  let v69 : BitVec 32 := Scalar.subi v54 c1_i32
  let v70 : BitVec 32 := Scalar.select v68 v69 v54
  let v181 : BitVec 32 := Scalar.subi v70 c1_i32_86
  let c2_i32_87 : BitVec 32 := 2#32
  let c0_i32_55 : BitVec 32 := 0#32
  let c1_i32_57 : BitVec 32 := 1#32
  let arg11 : BitVec 32 := Scf.iv c0_i32_55 c1_i32_57 k0_t1
  let v182 : BitVec 32 := Scalar.muli c2_i32_87 arg11
  let v183 : BitVec 32 := Scalar.subi v181 v182
  let c256_i32_90 : BitVec 32 := 256#32
  let v187 : BitVec 32 := Scalar.muli v183 c256_i32_90
  let v188 : BitVec 32 := v187
  let v191 : Index := Scalar.indexCast v188
  let c0_93 : Index := 0#32
  ![0, v191.toNat, 0]
@[reducible] def k0_t2_loop (i : grid0.Coords) : Scf.Loop 32 :=
  let c0_i32_55 : BitVec 32 := 0#32
  let arg2 : BitVec 32 := BitVec.ofNat 32 (i 2).val
  let c256_i32_15 : BitVec 32 := 256#32
  let v53 : BitVec 32 := Scalar.muli arg2 c256_i32_15
  let c0_i32_17 : BitVec 32 := 0#32
  let v55 : BitVec 1 := Scalar.cmpi .sgt v53 c0_i32_17
  let v56 : BitVec 32 := Scalar.extui v55
  let c0_i32_18 : BitVec 32 := 0#32
  let v57 : BitVec 1 := Scalar.cmpi .slt v53 c0_i32_18
  let v58 : BitVec 32 := Scalar.extui v57
  let v59 : BitVec 32 := Scalar.subi v56 v58
  let c256_i32_16 : BitVec 32 := 256#32
  let c0_i32_19 : BitVec 32 := 0#32
  let v60 : BitVec 1 := Scalar.cmpi .sgt c256_i32_16 c0_i32_19
  let v61 : BitVec 32 := Scalar.extui v60
  let c0_i32_20 : BitVec 32 := 0#32
  let v62 : BitVec 1 := Scalar.cmpi .slt c256_i32_16 c0_i32_20
  let v63 : BitVec 32 := Scalar.extui v62
  let v64 : BitVec 32 := Scalar.subi v61 v63
  let v65 : BitVec 1 := Scalar.cmpi .ne v59 v64
  let v66 : BitVec 32 := Scalar.remsi v53 c256_i32_16
  let c0_i32_21 : BitVec 32 := 0#32
  let v67 : BitVec 1 := Scalar.cmpi .ne v66 c0_i32_21
  let v68 : BitVec 1 := Scalar.andi v65 v67
  let v54 : BitVec 32 := Scalar.divsi v53 c256_i32_16
  let c1_i32 : BitVec 32 := 1#32
  let v69 : BitVec 32 := Scalar.subi v54 c1_i32
  let v70 : BitVec 32 := Scalar.select v68 v69 v54
  let c0_i32_48 : BitVec 32 := 0#32
  let v126 : BitVec 1 := Scalar.cmpi .sgt v70 c0_i32_48
  let v127 : BitVec 32 := Scalar.extui v126
  let c0_i32_49 : BitVec 32 := 0#32
  let v128 : BitVec 1 := Scalar.cmpi .slt v70 c0_i32_49
  let v129 : BitVec 32 := Scalar.extui v128
  let v130 : BitVec 32 := Scalar.subi v127 v129
  let c2_i32 : BitVec 32 := 2#32
  let c0_i32_50 : BitVec 32 := 0#32
  let v131 : BitVec 1 := Scalar.cmpi .sgt c2_i32 c0_i32_50
  let v132 : BitVec 32 := Scalar.extui v131
  let c0_i32_51 : BitVec 32 := 0#32
  let v133 : BitVec 1 := Scalar.cmpi .slt c2_i32 c0_i32_51
  let v134 : BitVec 32 := Scalar.extui v133
  let v135 : BitVec 32 := Scalar.subi v132 v134
  let v136 : BitVec 1 := Scalar.cmpi .ne v130 v135
  let v137 : BitVec 32 := Scalar.remsi v70 c2_i32
  let c0_i32_52 : BitVec 32 := 0#32
  let v138 : BitVec 1 := Scalar.cmpi .ne v137 c0_i32_52
  let v139 : BitVec 1 := Scalar.andi v136 v138
  let v125 : BitVec 32 := Scalar.divsi v70 c2_i32
  let c1_i32_53 : BitVec 32 := 1#32
  let v140 : BitVec 32 := Scalar.subi v125 c1_i32_53
  let v141 : BitVec 32 := Scalar.select v139 v140 v125
  let v142 : BitVec 32 := Scalar.subi v141 c0_i32_55
  let c1_i32_56 : BitVec 32 := 1#32
  let v144 : BitVec 32 := Scalar.divsi v142 c1_i32_56
  let v145 : BitVec 32 := Scalar.muli v144 c1_i32_56
  let v146 : BitVec 32 := Scalar.addi c0_i32_55 v145
  let v143 : BitVec 32 := Scalar.addi c0_i32_55 v142
  let c1_i32_58 : BitVec 32 := 1#32
  ⟨v146, v143, c1_i32_58⟩
def k0_mult4 (i : grid0.Coords) (k0_t2 : Fin (k0_t2_loop i).trips) : BitVec 32 :=
  let arg2 : BitVec 32 := BitVec.ofNat 32 (i 2).val
  let c256_i32_15 : BitVec 32 := 256#32
  let v53 : BitVec 32 := Scalar.muli arg2 c256_i32_15
  let c0_i32_17 : BitVec 32 := 0#32
  let v55 : BitVec 1 := Scalar.cmpi .sgt v53 c0_i32_17
  let v56 : BitVec 32 := Scalar.extui v55
  let c0_i32_18 : BitVec 32 := 0#32
  let v57 : BitVec 1 := Scalar.cmpi .slt v53 c0_i32_18
  let v58 : BitVec 32 := Scalar.extui v57
  let v59 : BitVec 32 := Scalar.subi v56 v58
  let c256_i32_16 : BitVec 32 := 256#32
  let c0_i32_19 : BitVec 32 := 0#32
  let v60 : BitVec 1 := Scalar.cmpi .sgt c256_i32_16 c0_i32_19
  let v61 : BitVec 32 := Scalar.extui v60
  let c0_i32_20 : BitVec 32 := 0#32
  let v62 : BitVec 1 := Scalar.cmpi .slt c256_i32_16 c0_i32_20
  let v63 : BitVec 32 := Scalar.extui v62
  let v64 : BitVec 32 := Scalar.subi v61 v63
  let v65 : BitVec 1 := Scalar.cmpi .ne v59 v64
  let v66 : BitVec 32 := Scalar.remsi v53 c256_i32_16
  let c0_i32_21 : BitVec 32 := 0#32
  let v67 : BitVec 1 := Scalar.cmpi .ne v66 c0_i32_21
  let v68 : BitVec 1 := Scalar.andi v65 v67
  let v54 : BitVec 32 := Scalar.divsi v53 c256_i32_16
  let c1_i32 : BitVec 32 := 1#32
  let v69 : BitVec 32 := Scalar.subi v54 c1_i32
  let v70 : BitVec 32 := Scalar.select v68 v69 v54
  let c1_i32_86 : BitVec 32 := 1#32
  let v181 : BitVec 32 := Scalar.subi v70 c1_i32_86
  let c2_i32_87 : BitVec 32 := 2#32
  let c0_i32_55 : BitVec 32 := 0#32
  let c0_i32_48 : BitVec 32 := 0#32
  let v126 : BitVec 1 := Scalar.cmpi .sgt v70 c0_i32_48
  let v127 : BitVec 32 := Scalar.extui v126
  let c0_i32_49 : BitVec 32 := 0#32
  let v128 : BitVec 1 := Scalar.cmpi .slt v70 c0_i32_49
  let v129 : BitVec 32 := Scalar.extui v128
  let v130 : BitVec 32 := Scalar.subi v127 v129
  let c2_i32 : BitVec 32 := 2#32
  let c0_i32_50 : BitVec 32 := 0#32
  let v131 : BitVec 1 := Scalar.cmpi .sgt c2_i32 c0_i32_50
  let v132 : BitVec 32 := Scalar.extui v131
  let c0_i32_51 : BitVec 32 := 0#32
  let v133 : BitVec 1 := Scalar.cmpi .slt c2_i32 c0_i32_51
  let v134 : BitVec 32 := Scalar.extui v133
  let v135 : BitVec 32 := Scalar.subi v132 v134
  let v136 : BitVec 1 := Scalar.cmpi .ne v130 v135
  let v137 : BitVec 32 := Scalar.remsi v70 c2_i32
  let c0_i32_52 : BitVec 32 := 0#32
  let v138 : BitVec 1 := Scalar.cmpi .ne v137 c0_i32_52
  let v139 : BitVec 1 := Scalar.andi v136 v138
  let v125 : BitVec 32 := Scalar.divsi v70 c2_i32
  let c1_i32_53 : BitVec 32 := 1#32
  let v140 : BitVec 32 := Scalar.subi v125 c1_i32_53
  let v141 : BitVec 32 := Scalar.select v139 v140 v125
  let v142 : BitVec 32 := Scalar.subi v141 c0_i32_55
  let c1_i32_56 : BitVec 32 := 1#32
  let v144 : BitVec 32 := Scalar.divsi v142 c1_i32_56
  let v145 : BitVec 32 := Scalar.muli v144 c1_i32_56
  let v146 : BitVec 32 := Scalar.addi c0_i32_55 v145
  let c1_i32_58 : BitVec 32 := 1#32
  let arg11 : BitVec 32 := Scf.iv v146 c1_i32_58 k0_t2
  let v182 : BitVec 32 := Scalar.muli c2_i32_87 arg11
  let v183 : BitVec 32 := Scalar.subi v181 v182
  let c256_i32_90 : BitVec 32 := 256#32
  let v187 : BitVec 32 := Scalar.muli v183 c256_i32_90
  v187
def k0_mult5 (i : grid0.Coords) (k0_t2 : Fin (k0_t2_loop i).trips) : BitVec 32 :=
  let arg2 : BitVec 32 := BitVec.ofNat 32 (i 2).val
  let c256_i32_15 : BitVec 32 := 256#32
  let v53 : BitVec 32 := Scalar.muli arg2 c256_i32_15
  let c0_i32_17 : BitVec 32 := 0#32
  let v55 : BitVec 1 := Scalar.cmpi .sgt v53 c0_i32_17
  let v56 : BitVec 32 := Scalar.extui v55
  let c0_i32_18 : BitVec 32 := 0#32
  let v57 : BitVec 1 := Scalar.cmpi .slt v53 c0_i32_18
  let v58 : BitVec 32 := Scalar.extui v57
  let v59 : BitVec 32 := Scalar.subi v56 v58
  let c256_i32_16 : BitVec 32 := 256#32
  let c0_i32_19 : BitVec 32 := 0#32
  let v60 : BitVec 1 := Scalar.cmpi .sgt c256_i32_16 c0_i32_19
  let v61 : BitVec 32 := Scalar.extui v60
  let c0_i32_20 : BitVec 32 := 0#32
  let v62 : BitVec 1 := Scalar.cmpi .slt c256_i32_16 c0_i32_20
  let v63 : BitVec 32 := Scalar.extui v62
  let v64 : BitVec 32 := Scalar.subi v61 v63
  let v65 : BitVec 1 := Scalar.cmpi .ne v59 v64
  let v66 : BitVec 32 := Scalar.remsi v53 c256_i32_16
  let c0_i32_21 : BitVec 32 := 0#32
  let v67 : BitVec 1 := Scalar.cmpi .ne v66 c0_i32_21
  let v68 : BitVec 1 := Scalar.andi v65 v67
  let v54 : BitVec 32 := Scalar.divsi v53 c256_i32_16
  let c1_i32 : BitVec 32 := 1#32
  let v69 : BitVec 32 := Scalar.subi v54 c1_i32
  let v70 : BitVec 32 := Scalar.select v68 v69 v54
  let c2_i32_88 : BitVec 32 := 2#32
  let v184 : BitVec 32 := Scalar.subi v70 c2_i32_88
  let c2_i32_89 : BitVec 32 := 2#32
  let c0_i32_55 : BitVec 32 := 0#32
  let c0_i32_48 : BitVec 32 := 0#32
  let v126 : BitVec 1 := Scalar.cmpi .sgt v70 c0_i32_48
  let v127 : BitVec 32 := Scalar.extui v126
  let c0_i32_49 : BitVec 32 := 0#32
  let v128 : BitVec 1 := Scalar.cmpi .slt v70 c0_i32_49
  let v129 : BitVec 32 := Scalar.extui v128
  let v130 : BitVec 32 := Scalar.subi v127 v129
  let c2_i32 : BitVec 32 := 2#32
  let c0_i32_50 : BitVec 32 := 0#32
  let v131 : BitVec 1 := Scalar.cmpi .sgt c2_i32 c0_i32_50
  let v132 : BitVec 32 := Scalar.extui v131
  let c0_i32_51 : BitVec 32 := 0#32
  let v133 : BitVec 1 := Scalar.cmpi .slt c2_i32 c0_i32_51
  let v134 : BitVec 32 := Scalar.extui v133
  let v135 : BitVec 32 := Scalar.subi v132 v134
  let v136 : BitVec 1 := Scalar.cmpi .ne v130 v135
  let v137 : BitVec 32 := Scalar.remsi v70 c2_i32
  let c0_i32_52 : BitVec 32 := 0#32
  let v138 : BitVec 1 := Scalar.cmpi .ne v137 c0_i32_52
  let v139 : BitVec 1 := Scalar.andi v136 v138
  let v125 : BitVec 32 := Scalar.divsi v70 c2_i32
  let c1_i32_53 : BitVec 32 := 1#32
  let v140 : BitVec 32 := Scalar.subi v125 c1_i32_53
  let v141 : BitVec 32 := Scalar.select v139 v140 v125
  let v142 : BitVec 32 := Scalar.subi v141 c0_i32_55
  let c1_i32_56 : BitVec 32 := 1#32
  let v144 : BitVec 32 := Scalar.divsi v142 c1_i32_56
  let v145 : BitVec 32 := Scalar.muli v144 c1_i32_56
  let v146 : BitVec 32 := Scalar.addi c0_i32_55 v145
  let c1_i32_58 : BitVec 32 := 1#32
  let arg11 : BitVec 32 := Scf.iv v146 c1_i32_58 k0_t2
  let v185 : BitVec 32 := Scalar.muli c2_i32_89 arg11
  let v186 : BitVec 32 := Scalar.subi v184 v185
  let c256_i32_91 : BitVec 32 := 256#32
  let v189 : BitVec 32 := Scalar.muli v186 c256_i32_91
  v189
def k0_off3 (i : grid0.Coords) (k0_t2 : Fin (k0_t2_loop i).trips) (c1_i32_86 : BitVec 32) : Fin 3 → Nat :=
  let c0_92 : Index := 0#32
  let arg2 : BitVec 32 := BitVec.ofNat 32 (i 2).val
  let c256_i32_15 : BitVec 32 := 256#32
  let v53 : BitVec 32 := Scalar.muli arg2 c256_i32_15
  let c0_i32_17 : BitVec 32 := 0#32
  let v55 : BitVec 1 := Scalar.cmpi .sgt v53 c0_i32_17
  let v56 : BitVec 32 := Scalar.extui v55
  let c0_i32_18 : BitVec 32 := 0#32
  let v57 : BitVec 1 := Scalar.cmpi .slt v53 c0_i32_18
  let v58 : BitVec 32 := Scalar.extui v57
  let v59 : BitVec 32 := Scalar.subi v56 v58
  let c256_i32_16 : BitVec 32 := 256#32
  let c0_i32_19 : BitVec 32 := 0#32
  let v60 : BitVec 1 := Scalar.cmpi .sgt c256_i32_16 c0_i32_19
  let v61 : BitVec 32 := Scalar.extui v60
  let c0_i32_20 : BitVec 32 := 0#32
  let v62 : BitVec 1 := Scalar.cmpi .slt c256_i32_16 c0_i32_20
  let v63 : BitVec 32 := Scalar.extui v62
  let v64 : BitVec 32 := Scalar.subi v61 v63
  let v65 : BitVec 1 := Scalar.cmpi .ne v59 v64
  let v66 : BitVec 32 := Scalar.remsi v53 c256_i32_16
  let c0_i32_21 : BitVec 32 := 0#32
  let v67 : BitVec 1 := Scalar.cmpi .ne v66 c0_i32_21
  let v68 : BitVec 1 := Scalar.andi v65 v67
  let v54 : BitVec 32 := Scalar.divsi v53 c256_i32_16
  let c1_i32 : BitVec 32 := 1#32
  let v69 : BitVec 32 := Scalar.subi v54 c1_i32
  let v70 : BitVec 32 := Scalar.select v68 v69 v54
  let v181 : BitVec 32 := Scalar.subi v70 c1_i32_86
  let c2_i32_87 : BitVec 32 := 2#32
  let c0_i32_55 : BitVec 32 := 0#32
  let c0_i32_48 : BitVec 32 := 0#32
  let v126 : BitVec 1 := Scalar.cmpi .sgt v70 c0_i32_48
  let v127 : BitVec 32 := Scalar.extui v126
  let c0_i32_49 : BitVec 32 := 0#32
  let v128 : BitVec 1 := Scalar.cmpi .slt v70 c0_i32_49
  let v129 : BitVec 32 := Scalar.extui v128
  let v130 : BitVec 32 := Scalar.subi v127 v129
  let c2_i32 : BitVec 32 := 2#32
  let c0_i32_50 : BitVec 32 := 0#32
  let v131 : BitVec 1 := Scalar.cmpi .sgt c2_i32 c0_i32_50
  let v132 : BitVec 32 := Scalar.extui v131
  let c0_i32_51 : BitVec 32 := 0#32
  let v133 : BitVec 1 := Scalar.cmpi .slt c2_i32 c0_i32_51
  let v134 : BitVec 32 := Scalar.extui v133
  let v135 : BitVec 32 := Scalar.subi v132 v134
  let v136 : BitVec 1 := Scalar.cmpi .ne v130 v135
  let v137 : BitVec 32 := Scalar.remsi v70 c2_i32
  let c0_i32_52 : BitVec 32 := 0#32
  let v138 : BitVec 1 := Scalar.cmpi .ne v137 c0_i32_52
  let v139 : BitVec 1 := Scalar.andi v136 v138
  let v125 : BitVec 32 := Scalar.divsi v70 c2_i32
  let c1_i32_53 : BitVec 32 := 1#32
  let v140 : BitVec 32 := Scalar.subi v125 c1_i32_53
  let v141 : BitVec 32 := Scalar.select v139 v140 v125
  let v142 : BitVec 32 := Scalar.subi v141 c0_i32_55
  let c1_i32_56 : BitVec 32 := 1#32
  let v144 : BitVec 32 := Scalar.divsi v142 c1_i32_56
  let v145 : BitVec 32 := Scalar.muli v144 c1_i32_56
  let v146 : BitVec 32 := Scalar.addi c0_i32_55 v145
  let c1_i32_58 : BitVec 32 := 1#32
  let arg11 : BitVec 32 := Scf.iv v146 c1_i32_58 k0_t2
  let v182 : BitVec 32 := Scalar.muli c2_i32_87 arg11
  let v183 : BitVec 32 := Scalar.subi v181 v182
  let c256_i32_90 : BitVec 32 := 256#32
  let v187 : BitVec 32 := Scalar.muli v183 c256_i32_90
  let v188 : BitVec 32 := v187
  let v191 : Index := Scalar.indexCast v188
  let c0_93 : Index := 0#32
  ![0, v191.toNat, 0]
def k0_cond1 (i : grid0.Coords) : BitVec 1 :=
  let arg2 : BitVec 32 := BitVec.ofNat 32 (i 2).val
  let c256_i32_15 : BitVec 32 := 256#32
  let v53 : BitVec 32 := Scalar.muli arg2 c256_i32_15
  let c0_i32_17 : BitVec 32 := 0#32
  let v55 : BitVec 1 := Scalar.cmpi .sgt v53 c0_i32_17
  let v56 : BitVec 32 := Scalar.extui v55
  let c0_i32_18 : BitVec 32 := 0#32
  let v57 : BitVec 1 := Scalar.cmpi .slt v53 c0_i32_18
  let v58 : BitVec 32 := Scalar.extui v57
  let v59 : BitVec 32 := Scalar.subi v56 v58
  let c256_i32_16 : BitVec 32 := 256#32
  let c0_i32_19 : BitVec 32 := 0#32
  let v60 : BitVec 1 := Scalar.cmpi .sgt c256_i32_16 c0_i32_19
  let v61 : BitVec 32 := Scalar.extui v60
  let c0_i32_20 : BitVec 32 := 0#32
  let v62 : BitVec 1 := Scalar.cmpi .slt c256_i32_16 c0_i32_20
  let v63 : BitVec 32 := Scalar.extui v62
  let v64 : BitVec 32 := Scalar.subi v61 v63
  let v65 : BitVec 1 := Scalar.cmpi .ne v59 v64
  let v66 : BitVec 32 := Scalar.remsi v53 c256_i32_16
  let c0_i32_21 : BitVec 32 := 0#32
  let v67 : BitVec 1 := Scalar.cmpi .ne v66 c0_i32_21
  let v68 : BitVec 1 := Scalar.andi v65 v67
  let v54 : BitVec 32 := Scalar.divsi v53 c256_i32_16
  let c1_i32 : BitVec 32 := 1#32
  let v69 : BitVec 32 := Scalar.subi v54 c1_i32
  let v70 : BitVec 32 := Scalar.select v68 v69 v54
  let c2_i32_59 : BitVec 32 := 2#32
  let c0_i32_60 : BitVec 32 := 0#32
  let v147 : BitVec 1 := Scalar.cmpi .eq c2_i32_59 c0_i32_60
  let c1_i32_61 : BitVec 32 := 1#32
  let v148 : BitVec 32 := Scalar.select v147 c1_i32_61 c2_i32_59
  let v149 : BitVec 32 := Scalar.remsi v70 v148
  let c0_i32_63 : BitVec 32 := 0#32
  let v151 : BitVec 1 := Scalar.cmpi .slt v149 c0_i32_63
  let c0_i32_64 : BitVec 32 := 0#32
  let v152 : BitVec 1 := Scalar.cmpi .slt v148 c0_i32_64
  let v153 : BitVec 1 := Scalar.xori v151 v152
  let c0_i32_62 : BitVec 32 := 0#32
  let v150 : BitVec 1 := Scalar.cmpi .ne v149 c0_i32_62
  let v154 : BitVec 1 := Scalar.andi v153 v150
  let v155 : BitVec 32 := Scalar.addi v149 v148
  let v156 : BitVec 32 := Scalar.select v154 v155 v149
  let c1_i32_65 : BitVec 32 := 1#32
  let v157 : BitVec 1 := Scalar.cmpi .eq v156 c1_i32_65
  let v158 : BitVec 32 := Scalar.extui v157
  let c0_i32_66 : BitVec 32 := 0#32
  let v159 : BitVec 1 := Scalar.cmpi .ne v158 c0_i32_66
  v159

def k0_mult6 : BitVec 32 :=
  let c0_i32_86 : BitVec 32 := 0#32
  c0_i32_86
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== SticksReferenceIdeal.lean ====
abbrev S4x2048x2560 : Shape := ⟨3, ![4, 2048, 2560]⟩
abbrev S4x2048x2304 : Shape := ⟨3, ![4, 2048, 2304]⟩
abbrev S4x2048x768 : Shape := ⟨3, ![4, 2048, 768]⟩
abbrev S4x2048x12x64 : Shape := ⟨4, ![4, 2048, 12, 64]⟩
abbrev S4x12x2048x2048 : Shape := ⟨4, ![4, 12, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x12x64x2048 : Shape := ⟨4, ![4, 12, 64, 2048]⟩
abbrev S4x2048x1536 : Shape := ⟨3, ![4, 2048, 1536]⟩
abbrev S4x12x2048 : Shape := ⟨3, ![4, 12, 2048]⟩
abbrev S4x2048x12 : Shape := ⟨3, ![4, 2048, 12]⟩

abbrev nBuf : Space → Nat
  | .hbm => 121
  | .vmem => 0
  | .smem => 0
  | _ => 0

abbrev bufTy : (tb : Table) → Fin (tcTables nBuf tb) → BufTy
  | .hbm, ⟨0, _⟩ => ⟨S4x2048x2560, .bf16⟩
  | .hbm, ⟨1, _⟩ => ⟨S4x2048x2560, .f32⟩
  | .hbm, ⟨2, _⟩ => ⟨S4x2048x2304, .f32⟩
  | .hbm, ⟨3, _⟩ => ⟨S4x2048x768, .f32⟩
  | .hbm, ⟨4, _⟩ => ⟨S4x2048x768, .f32⟩
  | .hbm, ⟨5, _⟩ => ⟨S4x2048x768, .f32⟩
  | .hbm, ⟨6, _⟩ => ⟨S4x2048x12x64, .f32⟩
  | .hbm, ⟨7, _⟩ => ⟨S4x2048x12x64, .f32⟩
  | .hbm, ⟨8, _⟩ => ⟨S4x2048x12x64, .f32⟩
  | .hbm, ⟨9, _⟩ => ⟨S4x12x2048x2048, .f32⟩
  | .hbm, ⟨10, _⟩ => ⟨S4x12x2048x2048, .bf16⟩
  | .hbm, ⟨11, _⟩ => ⟨S4x12x2048x2048, .f32⟩
  | .hbm, ⟨12, _⟩ => ⟨S_, .f32⟩
  | .hbm, ⟨13, _⟩ => ⟨S4x12x2048x2048, .f32⟩
  | .hbm, ⟨14, _⟩ => ⟨S4x12x2048x2048, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S4x12x2048x2048, .f32⟩
  | .hbm, ⟨24, _⟩ => ⟨S4x12x2048x2048, .f32⟩
  | .hbm, ⟨25, _⟩ => ⟨S4x12x2048x2048, .f32⟩
  | .hbm, ⟨26, _⟩ => ⟨S4x12x2048x2048, .f32⟩
  | .hbm, ⟨27, _⟩ => ⟨S4x12x2048x2048, .i1⟩
  | .hbm, ⟨28, _⟩ => ⟨S4x12x2048x2048, .f32⟩
  | .hbm, ⟨29, _⟩ => ⟨S4x12x2048x2048, .f32⟩
  | .hbm, ⟨30, _⟩ => ⟨S4x12x2048x2048, .f32⟩
  | .hbm, ⟨31, _⟩ => ⟨S4x12x2048x2048, .f32⟩
  | .hbm, ⟨32, _⟩ => ⟨S4x12x2048x2048, .f32⟩
  | .hbm, ⟨33, _⟩ => ⟨S4x12x2048x2048, .f32⟩
  | .hbm, ⟨34, _⟩ => ⟨S4x12x2048x2048, .f32⟩
  | .hbm, ⟨35, _⟩ => ⟨S4x12x2048x2048, .f32⟩
  | .hbm, ⟨36, _⟩ => ⟨S4x12x2048x2048, .f32⟩
  | .hbm, ⟨37, _⟩ => ⟨S_, .f32⟩
  | .hbm, ⟨38, _⟩ => ⟨S_, .f32⟩
  | .hbm, ⟨39, _⟩ => ⟨S4x12x2048x2048, .i1⟩
  | .hbm, ⟨40, _⟩ => ⟨S4x12x2048x2048, .f32⟩
  | .hbm, ⟨41, _⟩ => ⟨S4x12x2048x2048, .f32⟩
  | .hbm, ⟨42, _⟩ => ⟨S_, .f32⟩
  | .hbm, ⟨43, _⟩ => ⟨S_, .f32⟩
  | .hbm, ⟨44, _⟩ => ⟨S4x12x2048x2048, .f32⟩
  | .hbm, ⟨45, _⟩ => ⟨S4x12x2048x2048, .f32⟩
  | .hbm, ⟨46, _⟩ => ⟨S4x12x2048x2048, .f32⟩
  | .hbm, ⟨47, _⟩ => ⟨S_, .f32⟩
  | .hbm, ⟨48, _⟩ => ⟨S4x12x2048x2048, .f32⟩
  | .hbm, ⟨49, _⟩ => ⟨S4x12x2048x2048, .f32⟩
  | .hbm, ⟨50, _⟩ => ⟨S4x12x2048x2048, .f32⟩
  | .hbm, ⟨51, _⟩ => ⟨S4x12x2048x2048, .f32⟩
  | .hbm, ⟨52, _⟩ => ⟨S4x12x2048x2048, .i1⟩
  | .hbm, ⟨53, _⟩ => ⟨S4x12x2048x2048, .f32⟩
  | .hbm, ⟨54, _⟩ => ⟨S4x12x2048x2048, .f32⟩
  | .hbm, ⟨55, _⟩ => ⟨S4x12x2048x2048, .f32⟩
  | .hbm, ⟨56, _⟩ => ⟨S4x12x2048x2048, .f32⟩
  | .hbm, ⟨57, _⟩ => ⟨S4x12x2048x2048, .f32⟩
  | .hbm, ⟨58, _⟩ => ⟨S4x12x2048x2048, .f32⟩
  | .hbm, ⟨59, _⟩ => ⟨S4x12x2048x2048, .f32⟩
  | .hbm, ⟨60, _⟩ => ⟨S4x12x2048x2048, .f32⟩
  | .hbm, ⟨61, _⟩ => ⟨S4x12x2048x2048, .f32⟩
  | .hbm, ⟨62, _⟩ => ⟨S4x12x2048x2048, .f32⟩
  | .hbm, ⟨63, _⟩ => ⟨S4x12x2048x2048, .f32⟩
  | .hbm, ⟨64, _⟩ => ⟨S_, .f32⟩
  | .hbm, ⟨65, _⟩ => ⟨S_, .f32⟩
  | .hbm, ⟨66, _⟩ => ⟨S4x12x2048x2048, .i1⟩
  | .hbm, ⟨67, _⟩ => ⟨S4x12x2048x2048, .f32⟩
  | .hbm, ⟨68, _⟩ => ⟨S4x12x2048x2048, .f32⟩
  | .hbm, ⟨69, _⟩ => ⟨S4x12x2048x2048, .bf16⟩
  | .hbm, ⟨70, _⟩ => ⟨S4x12x2048x2048, .f32⟩
  | .hbm, ⟨71, _⟩ => ⟨S4x12x64x2048, .f32⟩
  | .hbm, ⟨72, _⟩ => ⟨S4x2048x12x64, .f32⟩
  | .hbm, ⟨73, _⟩ => ⟨S4x2048x12x64, .bf16⟩
  | .hbm, ⟨74, _⟩ => ⟨S4x2048x12x64, .f32⟩
  | .hbm, ⟨75, _⟩ => ⟨S4x2048x768, .f32⟩
  | .hbm, ⟨76, _⟩ => ⟨S4x2048x768, .bf16⟩
  | .hbm, ⟨77, _⟩ => ⟨S4x2048x1536, .bf16⟩
  | .hbm, ⟨78, _⟩ => ⟨S4x2048x1536, .f32⟩
  | .hbm, ⟨79, _⟩ => ⟨S4x2048x768, .f32⟩
  | .hbm, ⟨80, _⟩ => ⟨S4x2048x768, .f32⟩
  | .hbm, ⟨81, _⟩ => ⟨S4x2048x12x64, .f32⟩
  | .hbm, ⟨82, _⟩ => ⟨S4x2048x12x64, .f32⟩
  | .hbm, ⟨83, _⟩ => ⟨S4x12x2048x2048, .f32⟩
  | .hbm, ⟨84, _⟩ => ⟨S4x12x2048x2048, .bf16⟩
  | .hbm, ⟨85, _⟩ => ⟨S4x12x2048x2048, .f32⟩
  | .hbm, ⟨86, _⟩ => ⟨S_, .f32⟩
  | .hbm, ⟨87, _⟩ => ⟨S4x12x2048x2048, .f32⟩
  | .hbm, ⟨88, _⟩ => ⟨S4x12x2048x2048, .f32⟩
  | .hbm, ⟨89, _⟩ => ⟨S2048, .i32⟩
  | .hbm, ⟨90, _⟩ => ⟨S1x2048, .i32⟩
  | .hbm, ⟨91, _⟩ => ⟨S2048, .i32⟩
  | .hbm, ⟨92, _⟩ => ⟨S2048x1, .i32⟩
  | .hbm, ⟨93, _⟩ => ⟨S2048x2048, .i32⟩
  | .hbm, ⟨94, _⟩ => ⟨S2048x2048, .i32⟩
  | .hbm, ⟨95, _⟩ => ⟨S2048x2048, .i1⟩
  | .hbm, ⟨96, _⟩ => ⟨S_, .f32⟩
  | .hbm, ⟨97, _⟩ => ⟨S4x12x2048x2048, .f32⟩
  | .hbm, ⟨98, _⟩ => ⟨S4x12x2048x2048, .f32⟩
  | .hbm, ⟨99, _⟩ => ⟨S4x12x2048x2048, .f32⟩
  | .hbm, ⟨100, _⟩ => ⟨S4x12x2048x2048, .f32⟩
  | .hbm, ⟨101, _⟩ => ⟨S4x12x2048x2048, .i1⟩
  | .hbm, ⟨102, _⟩ => ⟨S4x12x2048x2048, .f32⟩
  | .hbm, ⟨103, _⟩ => ⟨S4x12x2048x2048, .f32⟩
  | .hbm, ⟨104, _⟩ => ⟨S4x12x2048x2048, .f32⟩
  | .hbm, ⟨105, _⟩ => ⟨S4x12x2048x2048, .f32⟩
  | .hbm, ⟨106, _⟩ => ⟨S4x12x2048x2048, .f32⟩
  | .hbm, ⟨107, _⟩ => ⟨S4x12x2048x2048, .f32⟩
  | .hbm, ⟨108, _⟩ => ⟨S4x12x2048x2048, .f32⟩
  | .hbm, ⟨109, _⟩ => ⟨S4x12x2048x2048, .f32⟩
  | .hbm, ⟨110, _⟩ => ⟨S4x12x2048x2048, .f32⟩
  | .hbm, ⟨111, _⟩ => ⟨S_, .f32⟩
  | .hbm, ⟨112, _⟩ => ⟨S_, .f32⟩
  | .hbm, ⟨113, _⟩ => ⟨S4x12x2048x2048, .i1⟩
  | .hbm, ⟨114, _⟩ => ⟨S4x12x2048x2048, .f32⟩
  | .hbm, ⟨115, _⟩ => ⟨S4x12x2048x2048, .f32⟩
  | .hbm, ⟨116, _⟩ => ⟨S_, .f32⟩
  | .hbm, ⟨117, _⟩ => ⟨S4x12x2048, .f32⟩
  | .hbm, ⟨118, _⟩ => ⟨S4x2048x12, .f32⟩
  | .hbm, ⟨119, _⟩ => ⟨S4x2048x12x64, .f32⟩
  | .hbm, ⟨120, _⟩ => ⟨S4x2048x768, .f32⟩
  | _, _ => ⟨S4x2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v22 : Ref sig .tc := ⟨.hbm, 41, rfl⟩
abbrev main_call2_cst : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_2 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call5_cst : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_v5 : Ref sig .tc := ⟨.hbm, 102, rfl⟩
abbrev main_call5_v6 : Ref sig .tc := ⟨.hbm, 103, rfl⟩
abbrev main_call5_v7 : Ref sig .tc := ⟨.hbm, 104, rfl⟩
abbrev main_call5_v8 : Ref sig .tc := ⟨.hbm, 105, rfl⟩
abbrev main_call5_v9 : Ref sig .tc := ⟨.hbm, 106, rfl⟩
abbrev main_call5_v10 : Ref sig .tc := ⟨.hbm, 107, rfl⟩
abbrev main_call5_v11 : Ref sig .tc := ⟨.hbm, 108, rfl⟩
abbrev main_v55 : Ref sig .tc := ⟨.hbm, 109, rfl⟩
abbrev main_v56 : Ref sig .tc := ⟨.hbm, 110, rfl⟩
abbrev main_cst_3 : Ref sig .tc := ⟨.hbm, 111, rfl⟩
abbrev main_call6_v0 : Ref sig .tc := ⟨.hbm, 112, rfl⟩
abbrev main_call6_v1 : Ref sig .tc := ⟨.hbm, 113, rfl⟩
abbrev main_call6_v2 : Ref sig .tc := ⟨.hbm, 114, rfl⟩
abbrev main_v57 : Ref sig .tc := ⟨.hbm, 115, rfl⟩
abbrev main_cst_4 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩

abbrev nD : Nat := 1
abbrev τ : Topo := Topo.v7x

variable {F : FTy → Type} [FloatOps F]
-- ==== Memory.lean ====
abbrev S1024x1024 : Shape := ⟨2, ![1024, 1024]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x512, .bf16⟩
  | .local _ .vmem, ⟨0, _⟩ => ⟨S1024x1024, .bf16⟩
  | .local _ .vmem, ⟨1, _⟩ => ⟨S1024x512, .bf16⟩
  | .local _ .vmem, ⟨2, _⟩ => ⟨S1024x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemoryReferenceIdeal.lean ====
abbrev S1024x1024 : Shape := ⟨2, ![1024, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S1024x512, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MemoryBack.lean ====
abbrev S1024x512 : Shape := ⟨2, ![1024, 512]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemoryBackReferenceIdeal.lean ====
abbrev S1024x512 : Shape := ⟨2, ![1024, 512]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S_, .f32⟩
  | .hbm, ⟨3, _⟩ => ⟨S1024x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemoryGrad.lean ====
abbrev S1024x1024 : Shape := ⟨2, ![1024, 1024]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x512, .bf16⟩
  | .local _ .vmem, ⟨0, _⟩ => ⟨S1024x1024, .bf16⟩
  | .local _ .vmem, ⟨1, _⟩ => ⟨S1024x512, .bf16⟩
  | .local _ .vmem, ⟨2, _⟩ => ⟨S1024x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemoryGradReferenceIdeal.lean ====
abbrev S1024x1024 : Shape := ⟨2, ![1024, 1024]⟩
abbrev S1024x512 : Shape := ⟨2, ![1024, 512]⟩
abbrev S_ : Shape := ⟨0, ![]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S_, .f32⟩
  | .hbm, ⟨3, _⟩ => ⟨S1024x512, .f32⟩
  | .hbm, ⟨4, _⟩ => ⟨S1024x1024, .f32⟩
  | .hbm, ⟨5, _⟩ => ⟨S1024x512, .f32⟩
  | .hbm, ⟨6, _⟩ => ⟨S1024x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1, .f32⟩
  | .local _ .vmem, ⟨6, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormIdeal.lean ====
abbrev S8192x1024 : Shape := ⟨2, ![8192, 1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1, .f32⟩
  | .local _ .vmem, ⟨6, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== NormTwo.lean ====
abbrev S8192x1024 : Shape := ⟨2, ![8192, 1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .hbm, ⟨4, _⟩ => ⟨S8192x1024, .bf16⟩
  | .hbm, ⟨5, _⟩ => ⟨S8192x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1, .f32⟩
  | .local _ .vmem, ⟨9, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormTwoReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== NormMemory.lean ====
abbrev S1024x1024 : Shape := ⟨2, ![1024, 1024]⟩
abbrev S1x1024 : Shape := ⟨2, ![1, 1024]⟩
abbrev S1024x1 : Shape := ⟨2, ![1024, 1]⟩
abbrev S512x1024 : Shape := ⟨2, ![512, 1024]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .bf16⟩
  | .hbm, ⟨3, _⟩ => ⟨S1024x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1, .f32⟩
  | .local _ .vmem, ⟨6, _⟩ => ⟨S512x1, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormMemoryReferenceIdeal.lean ====
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S1024x1 : Shape := ⟨2, ![1024, 1]⟩

abbrev nBuf : Space → Nat
  | .hbm => 29
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S_, .f32⟩
  | .hbm, ⟨20, _⟩ => ⟨S1024, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S_, .f32⟩
  | .hbm, ⟨26, _⟩ => ⟨S1024x1, .f32⟩
  | .hbm, ⟨27, _⟩ => ⟨S1024x1, .f32⟩
  | .hbm, ⟨28, _⟩ => ⟨S1024x1, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== AdamInput.lean ====
abbrev S1024x320 : Shape := ⟨2, ![1024, 320]⟩
abbrev S256x320 : Shape := ⟨2, ![256, 320]⟩

abbrev nBuf : Space → Nat
  | .hbm => 7
  | .vmem => 14
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .local _ .vmem, ⟨0, _⟩ => ⟨S256x320, .f32⟩
  | .local _ .vmem, ⟨1, _⟩ => ⟨S256x320, .f32⟩
  | .local _ .vmem, ⟨2, _⟩ => ⟨S256x320, .f32⟩
  | .local _ .vmem, ⟨3, _⟩ => ⟨S256x320, .f32⟩
  | .local _ .vmem, ⟨4, _⟩ => ⟨S256x320, .f32⟩
  | .local _ .vmem, ⟨5, _⟩ => ⟨S256x320, .f32⟩
  | .local _ .vmem, ⟨6, _⟩ => ⟨S256x320, .f32⟩
  | .local _ .vmem, ⟨7, _⟩ => ⟨S256x320, .f32⟩
  | .local _ .vmem, ⟨8, _⟩ => ⟨S256x320, .f32⟩
  | .local _ .vmem, ⟨9, _⟩ => ⟨S256x320, .f32⟩
  | .local _ .vmem, ⟨10, _⟩ => ⟨S256x320, .f32⟩
  | .local _ .vmem, ⟨11, _⟩ => ⟨S256x320, .f32⟩
  | .local _ .vmem, ⟨12, _⟩ => ⟨S256x320, .f32⟩
  | .local _ .vmem, ⟨13, _⟩ => ⟨S256x320, .f32⟩
  | _, _ => ⟨S1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInputIdeal.lean ====
abbrev S1024x320 : Shape := ⟨2, ![1024, 320]⟩
abbrev S256x320 : Shape := ⟨2, ![256, 320]⟩

abbrev nBuf : Space → Nat
  | .hbm => 7
  | .vmem => 14
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .local _ .vmem, ⟨0, _⟩ => ⟨S256x320, .f32⟩
  | .local _ .vmem, ⟨1, _⟩ => ⟨S256x320, .f32⟩
  | .local _ .vmem, ⟨2, _⟩ => ⟨S256x320, .f32⟩
  | .local _ .vmem, ⟨3, _⟩ => ⟨S256x320, .f32⟩
  | .local _ .vmem, ⟨4, _⟩ => ⟨S256x320, .f32⟩
  | .local _ .vmem, ⟨5, _⟩ => ⟨S256x320, .f32⟩
  | .local _ .vmem, ⟨6, _⟩ => ⟨S256x320, .f32⟩
  | .local _ .vmem, ⟨7, _⟩ => ⟨S256x320, .f32⟩
  | .local _ .vmem, ⟨8, _⟩ => ⟨S256x320, .f32⟩
  | .local _ .vmem, ⟨9, _⟩ => ⟨S256x320, .f32⟩
  | .local _ .vmem, ⟨10, _⟩ => ⟨S256x320, .f32⟩
  | .local _ .vmem, ⟨11, _⟩ => ⟨S256x320, .f32⟩
  | .local _ .vmem, ⟨12, _⟩ => ⟨S256x320, .f32⟩
  | .local _ .vmem, ⟨13, _⟩ => ⟨S256x320, .f32⟩
  | _, _ => ⟨S1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInputReferenceIdeal.lean ====
abbrev S1024x320 : Shape := ⟨2, ![1024, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S_, .f32⟩
  | .hbm, ⟨5, _⟩ => ⟨S1024x320, .f32⟩
  | .hbm, ⟨6, _⟩ => ⟨S1024x320, .f32⟩
  | .hbm, ⟨7, _⟩ => ⟨S_, .f32⟩
  | .hbm, ⟨8, _⟩ => ⟨S1024x320, .f32⟩
  | .hbm, ⟨9, _⟩ => ⟨S1024x320, .f32⟩
  | .hbm, ⟨10, _⟩ => ⟨S1024x320, .f32⟩
  | .hbm, ⟨11, _⟩ => ⟨S_, .f32⟩
  | .hbm, ⟨12, _⟩ => ⟨S1024x320, .f32⟩
  | .hbm, ⟨13, _⟩ => ⟨S1024x320, .f32⟩
  | .hbm, ⟨14, _⟩ => ⟨S1024x320, .f32⟩
  | .hbm, ⟨15, _⟩ => ⟨S_, .f32⟩
  | .hbm, ⟨16, _⟩ => ⟨S1024x320, .f32⟩
  | .hbm, ⟨17, _⟩ => ⟨S1024x320, .f32⟩
  | .hbm, ⟨18, _⟩ => ⟨S1024x320, .f32⟩
  | .hbm, ⟨19, _⟩ => ⟨S_, .f32⟩
  | .hbm, ⟨20, _⟩ => ⟨S1024x320, .f32⟩
  | .hbm, ⟨21, _⟩ => ⟨S1024x320, .f32⟩
  | .hbm, ⟨22, _⟩ => ⟨S_, .f32⟩
  | .hbm, ⟨23, _⟩ => ⟨S1024x320, .f32⟩
  | .hbm, ⟨24, _⟩ => ⟨S1024x320, .f32⟩
  | .hbm, ⟨25, _⟩ => ⟨S1024x320, .f32⟩
  | .hbm, ⟨26, _⟩ => ⟨S_, .f32⟩
  | .hbm, ⟨27, _⟩ => ⟨S1024x320, .f32⟩
  | .hbm, ⟨28, _⟩ => ⟨S1024x320, .f32⟩
  | .hbm, ⟨29, _⟩ => ⟨S1024x320, .f32⟩
  | .hbm, ⟨30, _⟩ => ⟨S_, .f32⟩
  | .hbm, ⟨31, _⟩ => ⟨S1024x320, .f32⟩
  | .hbm, ⟨32, _⟩ => ⟨S1024x320, .f32⟩
  | .hbm, ⟨33, _⟩ => ⟨S1024x320, .f32⟩
  | .hbm, ⟨34, _⟩ => ⟨S_, .f32⟩
  | .hbm, ⟨35, _⟩ => ⟨S1024x320, .f32⟩
  | .hbm, ⟨36, _⟩ => ⟨S1024x320, .f32⟩
  | _, _ => ⟨S1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareIdeal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareReferenceIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMemory.lean ====
abbrev S128x512 : Shape := ⟨2, ![128, 512]⟩

abbrev nBuf : Space → Nat
  | .hbm => 7
  | .vmem => 7
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMemoryIdeal.lean ====
abbrev S128x512 : Shape := ⟨2, ![128, 512]⟩

abbrev nBuf : Space → Nat
  | .hbm => 7
  | .vmem => 7
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMemoryReferenceIdeal.lean ====
abbrev S128x512 : Shape := ⟨2, ![128, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S_, .f32⟩
  | .hbm, ⟨5, _⟩ => ⟨S128x512, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S128x512, .f32⟩
  | .hbm, ⟨11, _⟩ => ⟨S_, .f32⟩
  | .hbm, ⟨12, _⟩ => ⟨S128x512, .f32⟩
  | .hbm, ⟨13, _⟩ => ⟨S128x512, .f32⟩
  | .hbm, ⟨14, _⟩ => ⟨S128x512, .f32⟩
  | .hbm, ⟨15, _⟩ => ⟨S_, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S_, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S_, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S_, .f32⟩
  | .hbm, ⟨35, _⟩ => ⟨S128x512, .f32⟩
  | .hbm, ⟨36, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamShared.lean ====
abbrev S1024x192 : Shape := ⟨2, ![1024, 192]⟩
abbrev S256x192 : Shape := ⟨2, ![256, 192]⟩

abbrev nBuf : Space → Nat
  | .hbm => 7
  | .vmem => 14
  | .smem => 0
  | _ => 0

abbrev bufTy : (tb : Table) → Fin (tcTables nBuf tb) → BufTy
  | .hbm, ⟨0, _⟩ => ⟨S1024x192, .f32⟩
  | .hbm, ⟨1, _⟩ => ⟨S1024x192, .f32⟩
  | .hbm, ⟨2, _⟩ => ⟨S1024x192, .f32⟩
  | .hbm, ⟨3, _⟩ => ⟨S1024x192, .f32⟩
  | .hbm, ⟨4, _⟩ => ⟨S1024x192, .f32⟩
  | .hbm, ⟨5, _⟩ => ⟨S1024x192, .f32⟩
  | .hbm, ⟨6, _⟩ => ⟨S1024x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | _, _ => ⟨S1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSharedIdeal.lean ====
abbrev S1024x192 : Shape := ⟨2, ![1024, 192]⟩
abbrev S256x192 : Shape := ⟨2, ![256, 192]⟩

abbrev nBuf : Space → Nat
  | .hbm => 7
  | .vmem => 14
  | .smem => 0
  | _ => 0

abbrev bufTy : (tb : Table) → Fin (tcTables nBuf tb) → BufTy
  | .hbm, ⟨0, _⟩ => ⟨S1024x192, .f32⟩
  | .hbm, ⟨1, _⟩ => ⟨S1024x192, .f32⟩
  | .hbm, ⟨2, _⟩ => ⟨S1024x192, .f32⟩
  | .hbm, ⟨3, _⟩ => ⟨S1024x192, .f32⟩
  | .hbm, ⟨4, _⟩ => ⟨S1024x192, .f32⟩
  | .hbm, ⟨5, _⟩ => ⟨S1024x192, .f32⟩
  | .hbm, ⟨6, _⟩ => ⟨S1024x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | _, _ => ⟨S1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSharedReferenceIdeal.lean ====
abbrev S1024x192 : Shape := ⟨2, ![1024, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x192, .f32⟩
  | .hbm, ⟨1, _⟩ => ⟨S1024x192, .f32⟩
  | .hbm, ⟨2, _⟩ => ⟨S1024x192, .f32⟩
  | .hbm, ⟨3, _⟩ => ⟨S1024x192, .f32⟩
  | .hbm, ⟨4, _⟩ => ⟨S_, .f32⟩
  | .hbm, ⟨5, _⟩ => ⟨S1024x192, .f32⟩
  | .hbm, ⟨6, _⟩ => ⟨S1024x192, .f32⟩
  | .hbm, ⟨7, _⟩ => ⟨S_, .f32⟩
  | .hbm, ⟨8, _⟩ => ⟨S1024x192, .f32⟩
  | .hbm, ⟨9, _⟩ => ⟨S1024x192, .f32⟩
  | .hbm, ⟨10, _⟩ => ⟨S1024x192, .f32⟩
  | .hbm, ⟨11, _⟩ => ⟨S_, .f32⟩
  | .hbm, ⟨12, _⟩ => ⟨S1024x192, .f32⟩
  | .hbm, ⟨13, _⟩ => ⟨S1024x192, .f32⟩
  | .hbm, ⟨14, _⟩ => ⟨S1024x192, .f32⟩
  | .hbm, ⟨15, _⟩ => ⟨S_, .f32⟩
  | .hbm, ⟨16, _⟩ => ⟨S1024x192, .f32⟩
  | .hbm, ⟨17, _⟩ => ⟨S1024x192, .f32⟩
  | .hbm, ⟨18, _⟩ => ⟨S1024x192, .f32⟩
  | .hbm, ⟨19, _⟩ => ⟨S_, .f32⟩
  | .hbm, ⟨20, _⟩ => ⟨S1024x192, .f32⟩
  | .hbm, ⟨21, _⟩ => ⟨S1024x192, .f32⟩
  | .hbm, ⟨22, _⟩ => ⟨S_, .f32⟩
  | .hbm, ⟨23, _⟩ => ⟨S1024x192, .f32⟩
  | .hbm, ⟨24, _⟩ => ⟨S1024x192, .f32⟩
  | .hbm, ⟨25, _⟩ => ⟨S1024x192, .f32⟩
  | .hbm, ⟨26, _⟩ => ⟨S_, .f32⟩
  | .hbm, ⟨27, _⟩ => ⟨S1024x192, .f32⟩
  | .hbm, ⟨28, _⟩ => ⟨S1024x192, .f32⟩
  | .hbm, ⟨29, _⟩ => ⟨S1024x192, .f32⟩
  | .hbm, ⟨30, _⟩ => ⟨S_, .f32⟩
  | .hbm, ⟨31, _⟩ => ⟨S1024x192, .f32⟩
  | .hbm, ⟨32, _⟩ => ⟨S1024x192, .f32⟩
  | .hbm, ⟨33, _⟩ => ⟨S1024x192, .f32⟩
  | .hbm, ⟨34, _⟩ => ⟨S_, .f32⟩
  | .hbm, ⟨35, _⟩ => ⟨S1024x192, .f32⟩
  | .hbm, ⟨36, _⟩ => ⟨S1024x192, .f32⟩
  | _, _ => ⟨S1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpReferenceIdeal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S352x1024 : Shape := ⟨2, ![352, 1024]⟩
abbrev S88x1024 : Shape := ⟨2, ![88, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownReferenceIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Middle.lean ====
abbrev S4x2048x5632 : Shape := ⟨3, ![4, 2048, 5632]⟩
abbrev S3x5632 : Shape := ⟨2, ![3, 5632]⟩
abbrev S4x2048x2816 : Shape := ⟨3, ![4, 2048, 2816]⟩
abbrev S1x2048x256 : Shape := ⟨3, ![1, 2048, 256]⟩
abbrev S3x256 : Shape := ⟨2, ![3, 256]⟩
abbrev S1x256x256 : Shape := ⟨3, ![1, 256, 256]⟩
abbrev S256x256 : Shape := ⟨2, ![256, 256]⟩
abbrev S1x16x256 : Shape := ⟨3, ![1, 16, 256]⟩
abbrev S16x256 : Shape := ⟨2, ![16, 256]⟩
abbrev S8x256 : Shape := ⟨2, ![8, 256]⟩
abbrev S1x256 : Shape := ⟨2, ![1, 256]⟩
abbrev S248x256 : Shape := ⟨2, ![248, 256]⟩

abbrev nBuf : Space → Nat
  | .hbm => 3
  | .vmem => 10
  | .smem => 0
  | _ => 0

abbrev bufTy : (tb : Table) → Fin (tcTables nBuf tb) → BufTy
  | .hbm, ⟨0, _⟩ => ⟨S4x2048x5632, .bf16⟩
  | .hbm, ⟨1, _⟩ => ⟨S3x5632, .f32⟩
  | .hbm, ⟨2, _⟩ => ⟨S4x2048x2816, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x2048x256, .bf16⟩
  | .local _ .vmem, ⟨9, _⟩ => ⟨S1x2048x256, .bf16⟩
  | _, _ => ⟨S4x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 4], ![false, false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v3 : BitVec 32 := Scalar.muli arg7 c256_i32
  v3
def k0_off1 (k0_t1 : Fin k0_t1_loop.trips) : Fin 3 → Nat :=
  let c0_4 : Index := 0#32
  let c0_i32 : BitVec 32 := 0#32
  let c1_i32 : BitVec 32 := 1#32
  let arg7 : BitVec 32 := Scf.iv c0_i32 c1_i32 k0_t1
  let c256_i32 : BitVec 32 := 256#32
  let v3 : BitVec 32 := Scalar.muli arg7 c256_i32
  let v4 : BitVec 32 := v3
  let v5 : Index := Scalar.indexCast v4
  let c0_5 : Index := 0#32
  ![0, v5.toNat, 0]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v3 : BitVec 32 := Scalar.muli arg7 c256_i32
  let v4 : BitVec 32 := v3
  let c16_i32 : BitVec 32 := 16#32
  let v9 : BitVec 32 := Scalar.subi v4 c16_i32
  let c0_i32_6 : BitVec 32 := 0#32
  let v10 : BitVec 32 := Scalar.maxsi v9 c0_i32_6
  v10
def k0_off2 (k0_t1 : Fin k0_t1_loop.trips) : Fin 3 → Nat :=
  let c0_7 : Index := 0#32
  let c0_i32 : BitVec 32 := 0#32
  let c1_i32 : BitVec 32 := 1#32
  let arg7 : BitVec 32 := Scf.iv c0_i32 c1_i32 k0_t1
  let c256_i32 : BitVec 32 := 256#32
  let v3 : BitVec 32 := Scalar.muli arg7 c256_i32
  let v4 : BitVec 32 := v3
  let c16_i32 : BitVec 32 := 16#32
  let v9 : BitVec 32 := Scalar.subi v4 c16_i32
  let c0_i32_6 : BitVec 32 := 0#32
  let v10 : BitVec 32 := Scalar.maxsi v9 c0_i32_6
  let v11 : BitVec 32 := v10
  let v12 : Index := Scalar.indexCast v11
  let c0_8 : Index := 0#32
  ![0, v12.toNat, 0]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32_14 : BitVec 32 := 256#32
  let v57 : BitVec 32 := Scalar.muli arg7 c256_i32_14
  v57
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32_14 : BitVec 32 := 256#32
  let v57 : BitVec 32 := Scalar.muli arg7 c256_i32_14
  let v58 : BitVec 32 := v57
  let c16_i32_17 : BitVec 32 := 16#32
  let v63 : BitVec 32 := Scalar.subi v58 c16_i32_17
  let c0_i32_18 : BitVec 32 := 0#32
  let v64 : BitVec 32 := Scalar.maxsi v63 c0_i32_18
  v64
def k0_mult5 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32_28 : BitVec 32 := 256#32
  let v111 : BitVec 32 := Scalar.muli arg7 c256_i32_28
  v111
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![arg1.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MiddleReferenceIdeal.lean ====
abbrev S4x2048x5632 : Shape := ⟨3, ![4, 2048, 5632]⟩
abbrev S3x5632 : Shape := ⟨2, ![3, 5632]⟩
abbrev S_ : Shape := ⟨0, ![]⟩
abbrev S4x2050x5632 : Shape := ⟨3, ![4, 2050, 5632]⟩
abbrev S1x5632 : Shape := ⟨2, ![1, 5632]⟩
abbrev S5632 : Shape := ⟨1, ![5632]⟩
abbrev S1x1x5632 : Shape := ⟨3, ![1, 1, 5632]⟩
abbrev S4x2048x2816 : Shape := ⟨3, ![4, 2048, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x5632, .bf16⟩
  | .hbm, ⟨1, _⟩ => ⟨S3x5632, .f32⟩
  | .hbm, ⟨2, _⟩ => ⟨S4x2048x5632, .f32⟩
  | .hbm, ⟨3, _⟩ => ⟨S_, .i32⟩
  | .hbm, ⟨4, _⟩ => ⟨S_, .f32⟩
  | .hbm, ⟨5, _⟩ => ⟨S4x2050x5632, .f32⟩
  | .hbm, ⟨6, _⟩ => ⟨S1x5632, .f32⟩
  | .hbm, ⟨7, _⟩ => ⟨S5632, .f32⟩
  | .hbm, ⟨8, _⟩ => ⟨S4x2048x5632, .f32⟩
  | .hbm, ⟨9, _⟩ => ⟨S1x1x5632, .f32⟩
  | .hbm, ⟨10, _⟩ => ⟨S4x2048x5632, .f32⟩
  | .hbm, ⟨11, _⟩ => ⟨S4x2048x5632, .f32⟩
  | .hbm, ⟨12, _⟩ => ⟨S1x5632, .f32⟩
  | .hbm, ⟨13, _⟩ => ⟨S5632, .f32⟩
  | .hbm, ⟨14, _⟩ => ⟨S4x2048x5632, .f32⟩
  | .hbm, ⟨15, _⟩ => ⟨S1x1x5632, .f32⟩
  | .hbm, ⟨16, _⟩ => ⟨S4x2048x5632, .f32⟩
  | .hbm, ⟨17, _⟩ => ⟨S4x2048x5632, .f32⟩
  | .hbm, ⟨18, _⟩ => ⟨S4x2048x5632, .f32⟩
  | .hbm, ⟨19, _⟩ => ⟨S1x5632, .f32⟩
  | .hbm, ⟨20, _⟩ => ⟨S5632, .f32⟩
  | .hbm, ⟨21, _⟩ => ⟨S4x2048x5632, .f32⟩
  | .hbm, ⟨22, _⟩ => ⟨S1x1x5632, .f32⟩
  | .hbm, ⟨23, _⟩ => ⟨S4x2048x5632, .f32⟩
  | .hbm, ⟨24, _⟩ => ⟨S4x2048x5632, .f32⟩
  | .hbm, ⟨25, _⟩ => ⟨S4x2048x5632, .f32⟩
  | .hbm, ⟨26, _⟩ => ⟨S4x2048x2816, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S_, .f32⟩
  | .hbm, ⟨31, _⟩ => ⟨S4x2048x2816, .f32⟩
  | .hbm, ⟨32, _⟩ => ⟨S4x2048x2816, .f32⟩
  | .hbm, ⟨33, _⟩ => ⟨S_, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S4x2048x2816, .bf16⟩
  | _, _ => ⟨S4x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Gain.lean ====
abbrev S1024x1024 : Shape := ⟨2, ![1024, 1024]⟩
abbrev S1024x1 : Shape := ⟨2, ![1024, 1]⟩
abbrev S1x1024 : Shape := ⟨2, ![1, 1024]⟩
abbrev S512x1024 : Shape := ⟨2, ![512, 1024]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x1, .f32⟩
  | .hbm, ⟨2, _⟩ => ⟨S1024x1024, .f32⟩
  | .hbm, ⟨3, _⟩ => ⟨S1x1024, .f32⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1, .f32⟩
  | .local _ .vmem, ⟨3, _⟩ => ⟨S512x1, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_5 : BitVec 32 := 0#32
  let v10 : BitVec 1 := Scalar.cmpi .ne v9 c0_i32_5
  v10

def k0_cond2 (i : grid0.Coords) : BitVec 1 :=
  let arg0 : BitVec 32 := BitVec.ofNat 32 (i 0).val
  let c0_i32_6 : BitVec 32 := 0#32
  let v11 : BitVec 1 := Scalar.cmpi .sgt arg0 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GainReferenceIdeal.lean ====
abbrev S1024x1024 : Shape := ⟨2, ![1024, 1024]⟩
abbrev S1024x1 : Shape := ⟨2, ![1024, 1]⟩
abbrev S1x1024 : Shape := ⟨2, ![1, 1024]⟩
abbrev S_ : Shape := ⟨0, ![]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1, .f32⟩
  | .hbm, ⟨2, _⟩ => ⟨S1024x1024, .f32⟩
  | .hbm, ⟨3, _⟩ => ⟨S1x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024, .f32⟩
  | .hbm, ⟨11, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Block.lean ====
/- What the backward kernel of the stick-breaking attention does to its running state, as plain functions of vectors
   over any float values: one masked or unmasked key block, a pair of key blocks, the head-stacked queries and
   cotangents, the strictly triangular tables, and the cut of the stacked query gradient back to one block of rows.
   The run (Proof/Frame.lean) is stated with these functions; the value proof reads them at the ideal values. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.Sb

open Cert.KernelIdeal Cert.KernelIdeal.Gen
open Idealize.ShloMosaic

variable {F : FTy → Type} [FloatOps F]

/-! ## The pieces of one block -/

/-- A stored key or value block as a matrix. -/
def mat (k : Vec F S1x256x256 .bf16) : FVec F S256x256 .bf16 := shapeCast S256x256 k shapeCasts_S1x256x256_S256x256

/-- Rows against rows: `a · bᵀ`. -/
def nt (a : FVec F S1024x256 .bf16) (b : FVec F S256x256 .bf16) : FVec F S1024x256 .f32 :=
  matmul dot_S1024x256_S256x256_S1024x256_1_1_0_0_n_n none a b (constant S1024x256 .f32 0x00000000#32)
/-- Rows against columns: `a · b`. -/
def nn (a : FVec F S1024x256 .bf16) (b : FVec F S256x256 .bf16) : FVec F S1024x256 .f32 :=
  matmul dot_S1024x256_S256x256_S1024x256_1_0_0_1_n_n none a b (constant S1024x256 .f32 0x00000000#32)
/-- Columns against columns: `aᵀ · b`. -/
def tn (a b : FVec F S1024x256 .bf16) : FVec F S256x256 .f32 :=
  matmul dot_S1024x256_S1024x256_S256x256_0_0_1_1_n_n none a b (constant S256x256 .f32 0x00000000#32)

/-- The vector of zeros. -/
def zeros : FVec F S1024x256 .f32 := broadcast S1024x256 (Scalar.ofBits .f32 0x00000000#32)
/-- The vector of ones. -/
def ones : FVec F S1024x256 .f32 := broadcast S1024x256 (Scalar.ofBits .f32 0x3F800000#32)

/-- Each row's sum over the block's columns, at every column. -/
def rowSum (x : FVec F S1024x256 .f32) : FVec F S1024x256 .f32 :=
  broadcastTo S1024x256 (shapeCast S1024x1 (multiReduction .add [1] S1024 x 0x00000000#32 reduces_S1024x256_S1024 (.inl rfl) rfl)
    shapeCasts_S1024_S1024x1) broadcasts_S1024x1_S1024x256
/-- A column at every column. -/
def spread (r : FVec F S1024x1 .f32) : FVec F S1024x256 .f32 := broadcastTo S1024x256 r broadcasts_S1024x1_S1024x256

/-- Rounding to the narrow format. -/
def narrow (x : FVec F S1024x256 .f32) : FVec F S1024x256 .bf16 := truncf .bf16 x bitsLt_bf16_f32
/-- The store's cast to its own shape. -/
def same (x : FVec F S1024x256 .f32) : FVec F S1024x256 .f32 := shapeCast S1024x256 x shapeCasts_S1024x256_S1024x256

/-- `−softplus` of the logits, as the kernel computes it. -/
def stay (z : FVec F S1024x256 .f32) : FVec F S1024x256 .f32 :=
  subf (minimumf (subf zeros z) zeros) (log (addf ones (exp (minimumf z (subf zeros z)))))

/-- The weights of a block: `exp` of the log of the stick's break, of the rows' total less the running sum, and of the
    later keys in the block. -/
def weight (later : FVec F S256x256 .bf16) (r : FVec F S1024x1 .f32) (brk ls cp : FVec F S1024x256 .f32) : FVec F S1024x256 .f32 :=
  exp (addf brk (addf (subf (spread r) cp) (nn (narrow ls) later)))

/-- The logits' cotangent, from the weights' cotangent times the weights `g` and its running sum `cg`. -/
def dlogit (excl : FVec F S256x256 .bf16) (brk g cg : FVec F S1024x256 .f32) : FVec F S1024x256 .f32 :=
  subf g (mulf (exp brk) (addf g (addf (nn (narrow g) excl) cg)))

/-! ## The state and what does not change within a point -/

/-- What the kernel keeps between blocks: the query gradient, the two running sums, the key and the value gradient. -/
structure St (F : FTy → Type) [FloatOps F] where
  dq : Vec F S1024x256 .f32
  cp : Vec F S1024x256 .f32
  cg : Vec F S1024x256 .f32
  dk : Vec F S1x2048x256 .f32
  dv : Vec F S1x2048x256 .f32

/-- What a point's blocks share: the two triangular tables, the stacked queries and cotangents, the rows' totals, and
    the keys and the values. -/
structure Cx (F : FTy → Type) [FloatOps F] where
  later : FVec F S256x256 .bf16
  excl : FVec F S256x256 .bf16
  q : FVec F S1024x256 .bf16
  ct : FVec F S1024x256 .bf16
  r : FVec F S1024x1 .f32
  k : Vec F S1x2048x256 .bf16
  v : Vec F S1x2048x256 .bf16

/-- The block at offsets `o` of a long array. -/
abbrev cut {e : EltTy} (x : Vec F S1x2048x256 e) (o : Fin 3 → ℕ) (h : ∀ a, o a + S1x256x256.size a ≤ S1x2048x256.size a) : Vec F S1x256x256 e :=
  VecWindow.window (s := S1x2048x256) x o S1x256x256.size h

/-- The array with `w` added to the block at offsets `o`. -/
def addAt (x : Vec F S1x2048x256 .f32) (o : Fin 3 → ℕ) (h : ∀ a, o a + S1x256x256.size a ≤ S1x2048x256.size a) (w : FVec F S256x256 .f32) : Vec F S1x2048x256 .f32 :=
  VecWindow.put (s := S1x2048x256) x o S1x256x256.size
    (shapeCast S1x256x256 (addf (shapeCast S256x256 (cut x o h) shapeCasts_S1x256x256_S256x256) w) shapeCasts_S256x256_S1x256x256)

/-! ## One block, by parts: `msk` clears what lies on or above the diagonal -/

section Block
variable (C : Cx F) (msk : FVec F S1024x256 .f32 → FVec F S1024x256 .f32) (o : Fin 3 → ℕ) (h : ∀ a, o a + S1x256x256.size a ≤ S1x2048x256.size a)

/-- The block's logits. -/
def logit : FVec F S1024x256 .f32 := nt C.q (mat (cut C.k o h))
/-- The cotangents against the block's values. -/
def dweight : FVec F S1024x256 .f32 := nt C.ct (mat (cut C.v o h))
/-- The log of the stick's break. -/
def brk : FVec F S1024x256 .f32 := addf (logit C o h) (stay (logit C o h))
/-- The log of what stays, cleared by the mask. -/
def stayM : FVec F S1024x256 .f32 := msk (stay (logit C o h))
/-- The running sum of the logs after the block, from `cp` before it. -/
def cpNext (cp : FVec F S1024x256 .f32) : FVec F S1024x256 .f32 := addf cp (rowSum (stayM C msk o h))
/-- The block's weights. -/
def wts (cp : FVec F S1024x256 .f32) : FVec F S1024x256 .f32 :=
  msk (weight C.later C.r (brk C o h) (stayM C msk o h) (cpNext C msk o h cp))
/-- The weights' cotangents times the weights. -/
def gvec (cp : FVec F S1024x256 .f32) : FVec F S1024x256 .f32 := mulf (dweight C o h) (wts C msk o h cp)
/-- The running sum of these after the block. -/
def cgNext (cp cg : FVec F S1024x256 .f32) : FVec F S1024x256 .f32 := addf cg (rowSum (gvec C msk o h cp))
/-- The logits' cotangents. -/
def dz (cp cg : FVec F S1024x256 .f32) : FVec F S1024x256 .bf16 :=
  narrow (msk (dlogit C.excl (brk C o h) (gvec C msk o h cp) cg))
/-- The block's part of the query gradient. -/
def dqPart (cp cg : FVec F S1024x256 .f32) : FVec F S1024x256 .f32 := nn (dz C msk o h cp cg) (mat (cut C.k o h))

/-- The state after one block. -/
def one (s : St F) : St F where
  dq := same (addf s.dq (dqPart C msk o h s.cp s.cg))
  cp := same (cpNext C msk o h s.cp)
  cg := same (cgNext C msk o h s.cp s.cg)
  dk := addAt s.dk o h (tn (dz C msk o h s.cp s.cg) C.q)
  dv := addAt s.dv o h (tn (narrow (wts C msk o h s.cp)) C.ct)

end Block

/-- The state after two unmasked blocks, the second's running sums from the first's. -/
def pair (C : Cx F) (oA oB : Fin 3 → ℕ) (hA : ∀ a, oA a + S1x256x256.size a ≤ S1x2048x256.size a)
    (hB : ∀ a, oB a + S1x256x256.size a ≤ S1x2048x256.size a) (s : St F) : St F where
  dq := same (addf s.dq (addf (dqPart C id oA hA s.cp s.cg) (dqPart C id oB hB (cpNext C id oA hA s.cp) (cgNext C id oA hA s.cp s.cg))))
  cp := same (cpNext C id oB hB (cpNext C id oA hA s.cp))
  cg := same (cgNext C id oB hB (cpNext C id oA hA s.cp) (cgNext C id oA hA s.cp s.cg))
  dk := addAt (addAt s.dk oA hA (tn (dz C id oA hA s.cp s.cg) C.q)) oB hB
    (tn (dz C id oB hB (cpNext C id oA hA s.cp) (cgNext C id oA hA s.cp s.cg)) C.q)
  dv := addAt (addAt s.dv oA hA (tn (narrow (wts C id oA hA s.cp)) C.ct)) oB hB
    (tn (narrow (wts C id oB hB (cpNext C id oA hA s.cp))) C.ct)

/-! ## A point -/

/-- The mask of the diagonal block: key columns before the row are kept. -/
def diag (i : grid0.Coords) (x : FVec F S1024x256 .f32) : FVec F S1024x256 .f32 :=
  select (cmpi .slt k0_pay89 (broadcast S1024x256
    (Scalar.subi (Scalar.muli (BitVec.ofNat 32 (i 2).val) 256#32) (Scalar.muli (BitVec.ofNat 32 (i 2).val) 256#32)))) x zeros

/-- What the blocks of a point share, from the point's five input blocks. -/
def cx (xq : Vec F S1x256x256 .bf16) (xk xv : Vec F S1x2048x256 .bf16) (xc : Vec F S1x256x256 .bf16) (xr : Vec F S1x256x256 .f32) : Cx F where
  later := k0_pay87
  excl := k0_pay88
  q := k0_pay91 k0_pay83 k0_pay84 k0_pay85 k0_pay86 (k0_pay90 xq) (Scalar.ofBits .bf16 0x3E00#16)
  ct := k0_pay92 k0_pay83 k0_pay84 k0_pay85 k0_pay86 xc
  r := k0_pay93 xr
  k := xk
  v := xv

/-- The state a point's blocks start from: the query gradient and the running sums at zero, and at the first point of a
    batch and head group the key and value gradients too. -/
def start (i : grid0.Coords) (dk dv : Vec F S1x2048x256 .f32) : St F where
  dq := k0_pay94
  cp := k0_pay95
  cg := k0_pay96 (Scalar.ofBits .f32 0x00000000#32)
  dk := if (i 2).val = 0 then k0_pay81 else dk
  dv := if (i 2).val = 0 then k0_pay82 else dv

/-- The state after the first `n` pairs of blocks of a point. -/
def pairs (C : Cx F) (i : grid0.Coords) (s : St F) : ℕ → St F
  | 0 => s
  | n + 1 => if h : n < (k0_t1_loop i).trips
      then pair C (k0_off1 i ⟨n, h⟩) (k0_off2 i ⟨n, h⟩) (k0_off1_inb i ⟨n, h⟩) (k0_off2_inb i ⟨n, h⟩) (pairs C i s n)
      else pairs C i s n

/-- The state after the odd block, where there is one. -/
def odd (C : Cx F) (i : grid0.Coords) (s : St F) : St F :=
  if h : k0_cond2 i = 1#1 then one C id (k0_off5 i) (k0_off5_inb i h) s else s

/-- The state after all of a point's blocks. -/
def after (C : Cx F) (i : grid0.Coords) (s : St F) : St F :=
  one C (diag i) (k0_off6 i) (k0_off6_inb i) (odd C i (pairs C i s (k0_t1_loop i).trips))

/-- The query gradient's block: each head's columns of its own stack of rows, scaled and rounded. -/
def outQ (s : St F) : FVec F S1x256x256 .bf16 :=
  k0_pay1 k0_pay84 k0_pay85 k0_pay86
    (VecWindow.window (s := S1024x256) s.dq ![0, 0] S256x256.size inb_S1024x256_S256x256_0_0)
    (VecWindow.window (s := S1024x256) s.dq ![256, 0] S256x256.size inb_S1024x256_S256x256_256_0)
    (VecWindow.window (s := S1024x256) s.dq ![512, 0] S256x256.size inb_S1024x256_S256x256_512_0)
    (VecWindow.window (s := S1024x256) s.dq ![768, 0] S256x256.size inb_S1024x256_S256x256_768_0)

end Cert.Sb
end
-- ==== Proof.Hold.lean ====
/- Loads and stores of an OWNED memref, stated over plain vectors: a load of a box hands back the vector at the box's
   places, a store leaves the vector with the payload written over the box. Every triple of this certificate is stated
   with `owns`, so no buffer contents and no piece lists appear in them. -/
module

public import Idealize.ShloMosaic.Lib.VecWindow
public import Idealize.ShloMosaic.Lib.WritesUnit
public import Idealize.ShloMosaic.Lib.Exec
public import Idealize.ShloMosaic.Lib.Pipeline.TableIdle
public import Idealize.ShloMosaic.Lib.Pipeline.FrameBody
public import Idealize.ShloMosaic.Lib.Tactic

@[expose] public section

noncomputable section

namespace Cert.Hold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} [∀ e, Nonempty (Val e)] {Name : Type} [DecidableEq Name]
variable {U : Type} [URA U] {Lvl : Type} {Λ : Labels}
variable [Preorder Lvl] {defs : Defs nD τ sig Val Λ} (𝒱 : Variants) (c : Thread nD τ)
variable {s : Shape} {e : EltTy} {α : Type} {Q : α → sProp (MT nD τ sig Ix Val Name U Lvl)}

local notation "𝕄" => MT nD τ sig Ix Val Name U Lvl

/-- A load of the whole memref hands back the vector it is owned at. -/
theorem load_whole {cs : CoreSpace} {m : Memref sig c.2.kind cs s e} {off : Fin s.rank → ℕ} {inb : ∀ a, off a + s.size a ≤ s.size a}
    {hl : m.view.LoadsAt (Rect.unit off s.size inb).toLoadRect}
    {k : ((Rect.unit off s.size inb).toLoadRect.shape.Idx → Val e) → Prog (TpuEff nD τ sig Val Λ c.2) α} {q : PosShare TreeShare} (X : s.Idx → Val e) :
    (owns c m q X : sProp 𝕄)
      ⊢ iprop((owns c m q X -∗ wp frame (wpE defs 𝒱 c none) Set.univ (k X) Q)
        -∗ wp frame (wpE defs 𝒱 c none) Set.univ (.op (.load m (Rect.unit off s.size inb).toLoadRect hl) k) Q) := by
  rw [owns_eq_rep]
  have h := wp_load (defs := defs) 𝒱 c none Set.univ (Γ := ∅) (m := m) (r := (Rect.unit off s.size inb).toLoadRect) (hl := hl) (k := k) (Q := Q)
    (S := m.view.set) (q := q) (f := m.view.rep X) (View.setOn_subset_set _ _)
  rw [View.readAt_rep_full] at h
  exact h

/-- A load of a box hands back the vector at the box's places. -/
theorem load_box {cs : CoreSpace} {m : Memref sig c.2.kind cs s e} {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α} {q : PosShare TreeShare} (X : s.Idx → Val e) :
    (owns c m q X : sProp 𝕄)
      ⊢ iprop((owns c m q X -∗ wp frame (wpE defs 𝒱 c none) Set.univ (k (VecWindow.window X off size inb)) Q)
        -∗ wp frame (wpE defs 𝒱 c none) Set.univ (.op (.load m (Rect.unit off size inb).toLoadRect hl) k) Q) := by
  rw [owns_eq_rep]
  have h := wp_load (defs := defs) 𝒱 c none Set.univ (Γ := ∅) (m := m) (r := (Rect.unit off size inb).toLoadRect) (hl := hl) (k := k) (Q := Q)
    (S := m.view.set) (q := q) (f := m.view.rep X) (View.setOn_subset_set _ _)
  rw [View.readAt_rep_unit m.view X inb rfl inb] at h
  exact h

/-- A store over a box leaves the vector with the payload put there. -/
theorem store_box {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} (X : s.Idx → Val e) :
    (owns c m fullShare X : sProp 𝕄)
      ⊢ iprop((owns c m fullShare (VecWindow.put X off size w) -∗ wp frame (wpE defs 𝒱 c none) Set.univ (k ⟨⟩) Q)
        -∗ wp frame (wpE defs 𝒱 c none) Set.univ (.op (.store m (Rect.unit off size inb) w Finset.univ hx hm) k) Q) := by
  have h := wp_store (defs := defs) 𝒱 c none Set.univ (Γ := ∅) (m := m) (r := Rect.unit off size inb) (w := w) (Mk := Finset.univ) (hx := hx) (hm := hm) (k := k) (Q := Q)
    (S := m.view.set) (f := m.view.rep X) (by
      show ((m.view.slice _).setOn Finset.univ) ⊆ _
      rw [View.setOn_univ]; exact View.set_slice_subset _ _)
  have e : (View.loc c (m.access (Rect.unit off size inb)) ↦[m.view.set]{fullShare}
        (m.access (Rect.unit off size inb)).write Val (m.view.rep X) w Finset.univ : sProp 𝕄)
      ⊢ owns c m fullShare (VecWindow.put X off size w) := by
    rw [← View.read_writes_rep_unit m.view X inb w rfl]
    exact owns_intro c m fullShare _
  rw [owns_eq_rep]
  exact h.trans (wand_mono_left (wand_mono_left e))

/-- A store of the whole memref leaves the payload. -/
theorem store_whole {cs : CoreSpace} {m : Memref sig c.2.kind cs s e} {off : Fin s.rank → ℕ} {inb : ∀ a, off a + s.size a ≤ s.size a}
    {w : (Rect.unit off s.size inb).shape.Idx → Val e} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} (X : s.Idx → Val e) :
    (owns c m fullShare X : sProp 𝕄)
      ⊢ iprop((owns c m fullShare (w : s.Idx → Val e) -∗ wp frame (wpE defs 𝒱 c none) Set.univ (k ⟨⟩) Q)
        -∗ wp frame (wpE defs 𝒱 c none) Set.univ (.op (.store m (Rect.unit off s.size inb) w Finset.univ hx hm) k) Q) := by
  have h := store_box (defs := defs) (Q := Q) 𝒱 c (m := m) (inb := inb) (w := w) (hx := hx) (hm := hm) (k := k) X
  have e : VecWindow.put X off s.size w = (w : s.Idx → Val e) := by
    rw [← View.read_writes_rep_unit m.view X inb w rfl, View.read_writes_full]
  rwa [e] at h

/-- A program run first, by its own triple. -/
theorem first {β : Type} {p : Prog (TpuEff nD τ sig Val Λ c.2) β} {k : β → Prog (TpuEff nD τ sig Val Λ c.2) α} {P : sProp 𝕄} {R : β → sProp 𝕄}
    (h : P ⊢ wp frame (wpE defs 𝒱 c none) Set.univ p R) :
    P ⊢ iprop((∀ a, R a -∗ wp frame (wpE defs 𝒱 c none) Set.univ (k a) Q) -∗ wp frame (wpE defs 𝒱 c none) Set.univ (p.bind k) Q) := by
  rw [show p.bind k = p >>= k from rfl, wp_bind]
  exact h.trans (wp_wand frame _ _)

/-- A program run to its end, by its own triple. -/
theorem last {β : Type} {p : Prog (TpuEff nD τ sig Val Λ c.2) β} {P : sProp 𝕄} {R Q : β → sProp 𝕄}
    (h : P ⊢ wp frame (wpE defs 𝒱 c none) Set.univ p R) :
    P ⊢ iprop((∀ a, R a -∗ Q a) -∗ wp frame (wpE defs 𝒱 c none) Set.univ p Q) :=
  h.trans (wp_wand frame _ _)

end Cert.Hold
end
-- ==== Proof.Trip.lean ====
/- One trip of the pair loop, as a step of the state. -/
module

public import proofs.«01_k».proof.Proof.Block
public import proofs.«01_k».proof.Proof.Hold

@[expose] public section

set_option maxRecDepth 16384

noncomputable section

namespace Cert.Sb

open Cert.KernelIdeal Cert.KernelIdeal.Gen Cert.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
local notation "𝒱₀" => Variants.none

section
variable (c : Dev nD) (i : grid0.Coords)
  (arg3 : Memref sig .tc .vmem S1x256x256 .bf16) (harg3 : arg3.IsWhole)
  (arg4 : Memref sig .tc .vmem S1x2048x256 .bf16) (harg4 : arg4.IsWhole)
  (arg5 : Memref sig .tc .vmem S1x2048x256 .bf16) (harg5 : arg5.IsWhole)
  (arg6 : Memref sig .tc .vmem S1x256x256 .bf16) (harg6 : arg6.IsWhole)
  (arg7 : Memref sig .tc .vmem S1x256x256 .f32) (harg7 : arg7.IsWhole)
  (arg8 : Memref sig .tc .hbm S8x128 .f32) (harg8 : arg8.IsWhole)
  (arg9 : Memref sig .tc .vmem S1x256x256 .bf16) (harg9 : arg9.IsWhole)
  (arg10 : Memref sig .tc .vmem S1x2048x256 .bf16) (harg10 : arg10.IsWhole)
  (arg11 : Memref sig .tc .vmem S1x2048x256 .bf16) (harg11 : arg11.IsWhole)
  (arg12 : Memref sig .tc .vmem S1024x256 .f32) (harg12 : arg12.IsWhole)
  (arg13 : Memref sig .tc .vmem S1024x256 .f32) (harg13 : arg13.IsWhole)
  (arg14 : Memref sig .tc .vmem S1024x256 .f32) (harg14 : arg14.IsWhole)
  (arg15 : Memref sig .tc .vmem S1x2048x256 .f32) (harg15 : arg15.IsWhole)
  (arg16 : Memref sig .tc .vmem S1x2048x256 .f32) (harg16 : arg16.IsWhole)

/-- The five scratch buffers hold the state. -/
def holds (s : St F) : sProp 𝕄 :=
  iprop(owns (c : Thread nD τ) arg12 fullShare s.dq ∗ owns (c : Thread nD τ) arg13 fullShare s.cp ∗ owns (c : Thread nD τ) arg14 fullShare s.cg
    ∗ owns (c : Thread nD τ) arg15 fullShare s.dk ∗ owns (c : Thread nD τ) arg16 fullShare s.dv)

/-- A trip of the pair loop takes the state one pair further. -/
theorem trip (C : Cx F) (qk : PosShare TreeShare) (v99 v0 v117 : BitVec 32) (n : Fin (k0_t1_loop i).trips) (s : St F) :
    iprop(owns (c : Thread nD τ) arg4 qk C.k ∗ owns (c : Thread nD τ) arg5 qk C.v ∗ holds c arg12 arg13 arg14 arg15 arg16 s)
      ⊢ wp frame (wpE defs₀ 𝒱₀ (c : Thread nD τ) none) Set.univ
          (k0_t1_body i arg3 harg3 arg4 harg4 arg5 harg5 arg6 harg6 arg7 harg7 arg8 harg8 arg9 harg9 arg10 harg10 arg11 harg11 arg12 harg12 arg13 harg13 arg14 harg14 arg15 harg15 arg16 harg16 C.later C.excl C.q C.ct C.r v99 v0 v117 n ())
          fun _ => (iprop(owns (c : Thread nD τ) arg4 qk C.k ∗ owns (c : Thread nD τ) arg5 qk C.v
            ∗ holds c arg12 arg13 arg14 arg15 arg16 (pair C (k0_off1 i n) (k0_off2 i n) (k0_off1_inb i n) (k0_off2_inb i n) s)) : sProp 𝕄) := by
  unfold k0_t1_body
  simp only [k0_part1_eq_skeleton, k0_part2_eq_skeleton, k0_part3_eq_skeleton, k0_part1_skel, k0_part2_skel, k0_part3_skel,
    Prog.lift, Prog.bind_op, Prog.bind_ret, Prog.pure_eq_ret, Prog.bind_assoc]
  unfold holds
  iintro ⟨HK, HV, HQ, HP, HG, HDK, HDV⟩
  iapply (load_box 𝒱₀ (c : Thread nD τ) C.k) $$ HK; iintro HK
  iapply (load_box 𝒱₀ (c : Thread nD τ) C.k) $$ HK; iintro HK
  iapply (load_box 𝒱₀ (c : Thread nD τ) C.v) $$ HV; iintro HV
  iapply (load_box 𝒱₀ (c : Thread nD τ) C.v) $$ HV; iintro HV
  iapply (load_whole 𝒱₀ (c : Thread nD τ) s.cp) $$ HP; iintro HP
  iapply (load_whole 𝒱₀ (c : Thread nD τ) s.cp) $$ HP; iintro HP
  iapply (store_whole 𝒱₀ (c : Thread nD τ) s.cp) $$ HP; iintro HP
  iapply (load_whole 𝒱₀ (c : Thread nD τ) s.cg) $$ HG; iintro HG
  iapply (load_whole 𝒱₀ (c : Thread nD τ) s.cg) $$ HG; iintro HG
  iapply (store_whole 𝒱₀ (c : Thread nD τ) s.cg) $$ HG; iintro HG
  iapply (load_whole 𝒱₀ (c : Thread nD τ) s.dq) $$ HQ; iintro HQ
  iapply (load_whole 𝒱₀ (c : Thread nD τ) s.dq) $$ HQ; iintro HQ
  iapply (store_whole 𝒱₀ (c : Thread nD τ) s.dq) $$ HQ; iintro HQ
  iapply (load_box 𝒱₀ (c : Thread nD τ) s.dk) $$ HDK; iintro HDK
  iapply (load_box 𝒱₀ (c : Thread nD τ) s.dk) $$ HDK; iintro HDK
  iapply (store_box 𝒱₀ (c : Thread nD τ) s.dk) $$ HDK; iintro HDK
  iapply (load_box 𝒱₀ (c : Thread nD τ) s.dv) $$ HDV; iintro HDV
  iapply (load_box 𝒱₀ (c : Thread nD τ) s.dv) $$ HDV; iintro HDV
  iapply (store_box 𝒱₀ (c : Thread nD τ) s.dv) $$ HDV; iintro HDV
  iapply (load_box 𝒱₀ (c : Thread nD τ) _) $$ HDK; iintro HDK
  iapply (load_box 𝒱₀ (c : Thread nD τ) _) $$ HDK; iintro HDK
  iapply (store_box 𝒱₀ (c : Thread nD τ) _) $$ HDK; iintro HDK
  iapply (load_box 𝒱₀ (c : Thread nD τ) _) $$ HDV; iintro HDV
  iapply (load_box 𝒱₀ (c : Thread nD τ) _) $$ HDV; iintro HDV
  iapply (store_box 𝒱₀ (c : Thread nD τ) _) $$ HDV; iintro HDV
  rw [wp_ret]
  imodintro
  isplitl [HK]; · iexact HK
  isplitl [HV]; · iexact HV
  isplitl [HQ]; · iexact HQ
  isplitl [HP]; · iexact HP
  isplitl [HG]; · iexact HG
  isplitl [HDK]; · iexact HDK
  iexact HDV

end
end Cert.Sb
end
-- ==== Proof.Body.lean ====
/- The body of the kernel at one grid point, as a step of the carried gradients. -/
module

public import proofs.«01_k».proof.Proof.Block
public import proofs.«01_k».proof.Proof.Hold
public import proofs.«01_k».proof.Proof.Trip

@[expose] public section

set_option maxRecDepth 16384

noncomputable section

namespace Cert.Sb

open Cert.KernelIdeal Cert.KernelIdeal.Gen Cert.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
local notation "𝒱₀" => Variants.none

section
variable (c : Dev nD) (i : grid0.Coords)
  (arg3 : Memref sig .tc .vmem S1x256x256 .bf16) (harg3 : arg3.IsWhole)
  (arg4 : Memref sig .tc .vmem S1x2048x256 .bf16) (harg4 : arg4.IsWhole)
  (arg5 : Memref sig .tc .vmem S1x2048x256 .bf16) (harg5 : arg5.IsWhole)
  (arg6 : Memref sig .tc .vmem S1x256x256 .bf16) (harg6 : arg6.IsWhole)
  (arg7 : Memref sig .tc .vmem S1x256x256 .f32) (harg7 : arg7.IsWhole)
  (arg8 : Memref sig .tc .hbm S8x128 .f32) (harg8 : arg8.IsWhole)
  (arg9 : Memref sig .tc .vmem S1x256x256 .bf16) (harg9 : arg9.IsWhole)
  (arg10 : Memref sig .tc .vmem S1x2048x256 .bf16) (harg10 : arg10.IsWhole)
  (arg11 : Memref sig .tc .vmem S1x2048x256 .bf16) (harg11 : arg11.IsWhole)
  (arg12 : Memref sig .tc .vmem S1024x256 .f32) (harg12 : arg12.IsWhole)
  (arg13 : Memref sig .tc .vmem S1024x256 .f32) (harg13 : arg13.IsWhole)
  (arg14 : Memref sig .tc .vmem S1024x256 .f32) (harg14 : arg14.IsWhole)
  (arg15 : Memref sig .tc .vmem S1x2048x256 .f32) (harg15 : arg15.IsWhole)
  (arg16 : Memref sig .tc .vmem S1x2048x256 .f32) (harg16 : arg16.IsWhole)

/-! ## What the kernel does before its blocks -/

/-- The first part: at the first point of a batch and head group the carried gradients are cleared; the tables and
    masks are built, the queries loaded. -/
theorem part9 (dk dv : Vec F S1x2048x256 .f32) (xq : Vec F S1x256x256 .bf16) :
    iprop(owns (c : Thread nD τ) arg15 fullShare dk ∗ owns (c : Thread nD τ) arg16 fullShare dv ∗ owns (c : Thread nD τ) arg3 fullShare xq)
      ⊢ wp frame (wpE defs₀ 𝒱₀ (c : Thread nD τ) none) Set.univ
          (k0_part9 i arg3 harg3 arg4 harg4 arg5 harg5 arg6 harg6 arg7 harg7 arg8 harg8 arg9 harg9 arg10 harg10 arg11 harg11 arg12 harg12 arg13 harg13 arg14 harg14 arg15 harg15 arg16 harg16)
          fun x => (iprop(⌜x = ⟨BitVec.ofNat 32 (i 2).val, k0_pay83, k0_pay84, k0_pay85, k0_pay86, k0_pay87, k0_pay88, k0_pay89, k0_pay90 xq, Scalar.ofBits .bf16 0x3E00#16⟩⌝ ∗ owns (c : Thread nD τ) arg15 fullShare (start i dk dv).dk ∗ owns (c : Thread nD τ) arg16 fullShare (start i dk dv).dv ∗ owns (c : Thread nD τ) arg3 fullShare xq) : sProp 𝕄) := by
  have hc : (Scalar.cmpi .ne (Scalar.extui (Scalar.cmpi .eq (BitVec.ofNat 32 (i 2).val) 0#32) : BitVec 32) 0#32 = 1#1) ↔ (i 2).val = 0 := by
    generalize i 2 = n; revert n; decide +kernel
  rw [k0_part9_eq_skeleton, k0_part9_skel]
  iintro ⟨HDK, HDV, HX⟩
  by_cases h0 : (i 2).val = 0
  · simp only [dif_pos (hc.2 h0), start, if_pos h0, Prog.lift, Prog.bind_op, Prog.bind_ret, Prog.pure_eq_ret, Prog.bind_assoc]
    iapply (load_whole 𝒱₀ (c : Thread nD τ) dk) $$ HDK; iintro HDK
    iapply (store_whole 𝒱₀ (c : Thread nD τ) dk) $$ HDK; iintro HDK
    iapply (load_whole 𝒱₀ (c : Thread nD τ) dv) $$ HDV; iintro HDV
    iapply (store_whole 𝒱₀ (c : Thread nD τ) dv) $$ HDV; iintro HDV
    iapply (load_whole 𝒱₀ (c : Thread nD τ) xq) $$ HX; iintro HX
    rw [wp_ret]
    imodintro
    isplitr; · ipureintro; rfl
    isplitl [HDK]; · iexact HDK
    isplitl [HDV]; · iexact HDV
    iexact HX
  · simp only [dif_neg (fun h => h0 (hc.1 h)), start, if_neg h0, Prog.lift, Prog.bind_op, Prog.bind_ret, Prog.pure_eq_ret, Prog.bind_assoc]
    iapply (load_whole 𝒱₀ (c : Thread nD τ) xq) $$ HX; iintro HX
    rw [wp_ret]
    imodintro
    isplitr; · ipureintro; rfl
    isplitl [HDK]; · iexact HDK
    isplitl [HDV]; · iexact HDV
    iexact HX

/-- The third part clears the running gradient sum and computes the number of blocks. -/
theorem part11 (cg : Vec F S1024x256 .f32) (z : F .f32) :
    owns (c : Thread nD τ) arg14 fullShare cg
      ⊢ wp frame (wpE defs₀ 𝒱₀ (c : Thread nD τ) none) Set.univ
          (k0_part11 i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) z)
          fun x => (iprop(⌜x = ⟨BitVec.ofNat 32 (i 2).val, 0#32, BitVec.ofNat 32 ((i 2).val / 2)⟩⌝ ∗ owns (c : Thread nD τ) arg14 fullShare (k0_pay96 z)) : sProp 𝕄) := by
  rw [k0_part11_eq_skeleton, k0_part11_skel]
  simp only [Prog.lift, Prog.bind_op, Prog.bind_ret, Prog.pure_eq_ret, Prog.bind_assoc]
  iintro HG
  iapply (load_whole 𝒱₀ (c : Thread nD τ) cg) $$ HG; iintro HG
  iapply (store_whole 𝒱₀ (c : Thread nD τ) cg) $$ HG; iintro HG
  rw [wp_ret]
  imodintro
  isplitr
  · ipureintro
    generalize i 2 = n
    revert n
    decide +kernel
  iexact HG

/-! ## The blocks -/

/-- The pair loop runs over no pair twice: a second loop of the printed program has no trip. -/
theorem t2_none (i : grid0.Coords) : (k0_t2_loop i).trips = 0 := by
  unfold k0_t2_loop Scf.Loop.trips
  generalize i 2 = n
  revert n
  decide +kernel

/-- The pair loop takes half the blocks before the diagonal, rounded down. -/
theorem t1_trips (i : grid0.Coords) : (k0_t1_loop i).trips = (i 2).val / 2 := by
  unfold k0_t1_loop Scf.Loop.trips
  generalize i 2 = n
  revert n
  decide +kernel

/-- There is an odd block exactly where the number of blocks before the diagonal is odd. -/
theorem cond2_iff (i : grid0.Coords) : k0_cond2 i = 1#1 ↔ (i 2).val % 2 = 1 := by
  unfold k0_cond2
  generalize i 2 = n
  revert n
  decide +kernel

/-- The carried gradients are written out exactly at the last block of rows. -/
theorem cond3_iff (i : grid0.Coords) : k0_cond3 i = 1#1 ↔ (i 2).val = 7 := by
  unfold k0_cond3
  generalize i 2 = n
  revert n
  decide +kernel

/-- The pair loop: the state after all pairs. -/
theorem loop1 (C : Cx F) (v99 v0 v117 : BitVec 32) (s : St F) :
    iprop(owns (c : Thread nD τ) arg4 fullShare C.k ∗ owns (c : Thread nD τ) arg5 fullShare C.v ∗ holds c arg12 arg13 arg14 arg15 arg16 s)
      ⊢ wp frame (wpE defs₀ 𝒱₀ (c : Thread nD τ) none) Set.univ
          (Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 arg13 harg13 arg14 harg14 arg15 harg15 arg16 harg16 C.later C.excl C.q C.ct C.r v99 v0 v117))
          fun x => (iprop(owns (c : Thread nD τ) arg4 fullShare C.k ∗ owns (c : Thread nD τ) arg5 fullShare C.v ∗ holds c arg12 arg13 arg14 arg15 arg16 (pairs C i s (k0_t1_loop i).trips)) : sProp 𝕄) := by
  have hI := Scf.wp_for (M := 𝕄) frame (wpE defs₀ 𝒱₀ (c : Thread nD τ) none) Set.univ (k0_t1_loop i).lb (k0_t1_loop i).ub (k0_t1_loop i).st (k0_t1_ok i) ()
    (k0_t1_body i arg3 harg3 arg4 harg4 arg5 harg5 arg6 harg6 arg7 harg7 arg8 harg8 arg9 harg9 arg10 harg10 arg11 harg11 arg12 harg12 arg13 harg13 arg14 harg14 arg15 harg15 arg16 harg16 C.later C.excl C.q C.ct C.r v99 v0 v117)
    (fun n _ => iprop(owns (c : Thread nD τ) arg4 fullShare C.k ∗ owns (c : Thread nD τ) arg5 fullShare C.v ∗ holds c arg12 arg13 arg14 arg15 arg16 (pairs C i s n))) ?_
    (Q := fun _ => iprop(owns (c : Thread nD τ) arg4 fullShare C.k ∗ owns (c : Thread nD τ) arg5 fullShare C.v ∗ holds c arg12 arg13 arg14 arg15 arg16 (pairs C i s (k0_t1_loop i).trips)))
  · iintro H
    iapply hI
    isplitl [H]
    · iexact H
    · iintro %_ H
      iexact H
  · intro n _
    have e : pairs C i s (n.val + 1) = pair C (k0_off1 i n) (k0_off2 i n) (k0_off1_inb i n) (k0_off2_inb i n) (pairs C i s n.val) := by
      rw [pairs, dif_pos n.isLt]
    have h := trip c i arg3 harg3 arg4 harg4 arg5 harg5 arg6 harg6 arg7 harg7 arg8 harg8 arg9 harg9 arg10 harg10 arg11 harg11 arg12 harg12 arg13 harg13 arg14 harg14 arg15 harg15 arg16 harg16 C fullShare v99 v0 v117 n (pairs C i s n.val)
    rw [← e] at h
    exact h

end
end Cert.Sb
end
-- ==== Proof.Blocks.lean ====
/- The kernel after its pair loop: the odd block, the diagonal block, and what is written out; and the whole body at one grid point. -/
module

public import proofs.«01_k».proof.Proof.Block
public import proofs.«01_k».proof.Proof.Hold
public import proofs.«01_k».proof.Proof.Body

@[expose] public section

set_option maxRecDepth 16384

noncomputable section

namespace Cert.Sb

open Cert.KernelIdeal Cert.KernelIdeal.Gen Cert.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
local notation "𝒱₀" => Variants.none

section
variable (c : Dev nD) (i : grid0.Coords)
  (arg3 : Memref sig .tc .vmem S1x256x256 .bf16) (harg3 : arg3.IsWhole)
  (arg4 : Memref sig .tc .vmem S1x2048x256 .bf16) (harg4 : arg4.IsWhole)
  (arg5 : Memref sig .tc .vmem S1x2048x256 .bf16) (harg5 : arg5.IsWhole)
  (arg6 : Memref sig .tc .vmem S1x256x256 .bf16) (harg6 : arg6.IsWhole)
  (arg7 : Memref sig .tc .vmem S1x256x256 .f32) (harg7 : arg7.IsWhole)
  (arg8 : Memref sig .tc .hbm S8x128 .f32) (harg8 : arg8.IsWhole)
  (arg9 : Memref sig .tc .vmem S1x256x256 .bf16) (harg9 : arg9.IsWhole)
  (arg10 : Memref sig .tc .vmem S1x2048x256 .bf16) (harg10 : arg10.IsWhole)
  (arg11 : Memref sig .tc .vmem S1x2048x256 .bf16) (harg11 : arg11.IsWhole)
  (arg12 : Memref sig .tc .vmem S1024x256 .f32) (harg12 : arg12.IsWhole)
  (arg13 : Memref sig .tc .vmem S1024x256 .f32) (harg13 : arg13.IsWhole)
  (arg14 : Memref sig .tc .vmem S1024x256 .f32) (harg14 : arg14.IsWhole)
  (arg15 : Memref sig .tc .vmem S1x2048x256 .f32) (harg15 : arg15.IsWhole)
  (arg16 : Memref sig .tc .vmem S1x2048x256 .f32) (harg16 : arg16.IsWhole)

/-- The second loop has no trip. -/
theorem loop2 (v29 v33 : FVec F S256x256 .bf16) (v53 v62 : FVec F S1024x256 .bf16) (v69 : FVec F S1024x1 .f32) (v99 v0 v117 v121 : BitVec 32) (P : sProp 𝕄) :
    P ⊢ wp frame (wpE defs₀ 𝒱₀ (c : Thread nD τ) none) Set.univ
          (Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 arg13 harg13 arg14 harg14 arg15 harg15 arg16 harg16 v29 v33 v53 v62 v69 v99 v0 v117 v121))
          fun x => (iprop(P) : sProp 𝕄) := by
  have hI := Scf.wp_for (M := 𝕄) frame (wpE defs₀ 𝒱₀ (c : Thread nD τ) none) Set.univ (k0_t2_loop i).lb (k0_t2_loop i).ub (k0_t2_loop i).st (k0_t2_ok i) ()
    (k0_t2_body i arg3 harg3 arg4 harg4 arg5 harg5 arg6 harg6 arg7 harg7 arg8 harg8 arg9 harg9 arg10 harg10 arg11 harg11 arg12 harg12 arg13 harg13 arg14 harg14 arg15 harg15 arg16 harg16 v29 v33 v53 v62 v69 v99 v0 v117 v121) (fun _ _ => P) (fun n _ => absurd n.isLt (by have := t2_none i; show ¬ n.val < (k0_t2_loop i).trips; omega))
    (Q := fun _ => P)
  iintro H
  iapply hI
  isplitl [H]
  · iexact H
  · iintro %_ H
    iexact H

/-- The loops, the odd block, and the loads of the diagonal block. -/
theorem part12 (C : Cx F) (v99 v117 : BitVec 32) (s : St F) :
    iprop(owns (c : Thread nD τ) arg4 fullShare C.k ∗ owns (c : Thread nD τ) arg5 fullShare C.v ∗ holds c arg12 arg13 arg14 arg15 arg16 s)
      ⊢ wp frame (wpE defs₀ 𝒱₀ (c : Thread nD τ) none) Set.univ
          (k0_part12 i arg3 harg3 arg4 harg4 arg5 harg5 arg6 harg6 arg7 harg7 arg8 harg8 arg9 harg9 arg10 harg10 arg11 harg11 arg12 harg12 arg13 harg13 arg14 harg14 arg15 harg15 arg16 harg16 C.later C.excl C.q C.ct C.r v99 0#32 v117)
          fun x => (iprop(⌜x = ⟨Scalar.muli v99 256#32, k0_pay104 (cut C.k (k0_off6 i) (k0_off6_inb i)), k0_pay105 C.q (cut C.k (k0_off6 i) (k0_off6_inb i)), k0_pay106 C.ct (cut C.v (k0_off6 i) (k0_off6_inb i)), k0_pay108 C.q (cut C.k (k0_off6 i) (k0_off6_inb i)), k0_pay109 C.q (cut C.k (k0_off6 i) (k0_off6_inb i))⟩⌝ ∗ owns (c : Thread nD τ) arg4 fullShare C.k ∗ owns (c : Thread nD τ) arg5 fullShare C.v ∗ holds c arg12 arg13 arg14 arg15 arg16 (odd C i (pairs C i s (k0_t1_loop i).trips))) : sProp 𝕄) := by
  rw [k0_part12_eq_skeleton, k0_part12_skel]
  simp only [Prog.lift, Prog.bind_op, Prog.bind_ret, Prog.pure_eq_ret, Prog.bind_assoc]
  iintro H
  iapply (first 𝒱₀ (c : Thread nD τ) (loop1 c i arg3 harg3 arg4 harg4 arg5 harg5 arg6 harg6 arg7 harg7 arg8 harg8 arg9 harg9 arg10 harg10 arg11 harg11 arg12 harg12 arg13 harg13 arg14 harg14 arg15 harg15 arg16 harg16 C v99 0#32 v117 s)) $$ H; iintro %_ H
  iapply (first 𝒱₀ (c : Thread nD τ) (loop2 c i arg3 harg3 arg4 harg4 arg5 harg5 arg6 harg6 arg7 harg7 arg8 harg8 arg9 harg9 arg10 harg10 arg11 harg11 arg12 harg12 arg13 harg13 arg14 harg14 arg15 harg15 arg16 harg16 C.later C.excl C.q C.ct C.r v99 0#32 v117 _ _)) $$ H; iintro %_ H
  generalize pairs C i s (k0_t1_loop i).trips = s'
  by_cases hc : k0_cond2 i = 1#1
  · simp only [dif_pos hc, odd, k0_part7_eq_skeleton, k0_part8_eq_skeleton, k0_part7_skel, k0_part8_skel, Prog.lift, Prog.bind_op, Prog.bind_ret, Prog.pure_eq_ret, Prog.bind_assoc]
    unfold holds
    icases H with ⟨HK, HV, HQ, HP, HG, HDK, HDV⟩
    iapply (load_box 𝒱₀ (c : Thread nD τ) _) $$ HK; iintro HK
    iapply (load_box 𝒱₀ (c : Thread nD τ) _) $$ HV; iintro HV
    iapply (load_whole 𝒱₀ (c : Thread nD τ) _) $$ HP; iintro HP
    iapply (load_whole 𝒱₀ (c : Thread nD τ) _) $$ HP; iintro HP
    iapply (store_whole 𝒱₀ (c : Thread nD τ) _) $$ HP; iintro HP
    iapply (load_whole 𝒱₀ (c : Thread nD τ) _) $$ HG; iintro HG
    iapply (load_whole 𝒱₀ (c : Thread nD τ) _) $$ HG; iintro HG
    iapply (store_whole 𝒱₀ (c : Thread nD τ) _) $$ HG; iintro HG
    iapply (load_whole 𝒱₀ (c : Thread nD τ) _) $$ HQ; iintro HQ
    iapply (load_whole 𝒱₀ (c : Thread nD τ) _) $$ HQ; iintro HQ
    iapply (store_whole 𝒱₀ (c : Thread nD τ) _) $$ HQ; iintro HQ
    iapply (load_box 𝒱₀ (c : Thread nD τ) _) $$ HDK; iintro HDK
    iapply (load_box 𝒱₀ (c : Thread nD τ) _) $$ HDK; iintro HDK
    iapply (store_box 𝒱₀ (c : Thread nD τ) _) $$ HDK; iintro HDK
    iapply (load_box 𝒱₀ (c : Thread nD τ) _) $$ HDV; iintro HDV
    iapply (load_box 𝒱₀ (c : Thread nD τ) _) $$ HDV; iintro HDV
    iapply (store_box 𝒱₀ (c : Thread nD τ) _) $$ HDV; iintro HDV
    iapply (load_box 𝒱₀ (c : Thread nD τ) _) $$ HK; iintro HK
    iapply (load_box 𝒱₀ (c : Thread nD τ) _) $$ HV; iintro HV
    rw [wp_ret]
    imodintro
    isplitr; · ipureintro; rfl
    isplitl [HK]; · iexact HK
    isplitl [HV]; · iexact HV
    isplitl [HQ]; · iexact HQ
    isplitl [HP]; · iexact HP
    isplitl [HG]; · iexact HG
    isplitl [HDK]; · iexact HDK
    iexact HDV
  · simp only [dif_neg hc, odd, Prog.lift, Prog.bind_op, Prog.bind_ret, Prog.pure_eq_ret, Prog.bind_assoc]
    icases H with ⟨HK, HV, H⟩
    iapply (load_box 𝒱₀ (c : Thread nD τ) _) $$ HK; iintro HK
    iapply (load_box 𝒱₀ (c : Thread nD τ) _) $$ HV; iintro HV
    rw [wp_ret]
    imodintro
    isplitr; · ipureintro; rfl
    isplitl [HK]; · iexact HK
    isplitl [HV]; · iexact HV
    iexact H

/-- **The body at one point**: from the input blocks and the carried state, the state after the point's blocks; the
    query gradient's block written, and at the last block of rows the carried gradients too. -/
theorem body (xq : Vec F S1x256x256 .bf16) (xk xv : Vec F S1x2048x256 .bf16) (xc : Vec F S1x256x256 .bf16) (xr : Vec F S1x256x256 .f32)
    (oq : Vec F S1x256x256 .bf16) (ok ov : Vec F S1x2048x256 .bf16) (s : St F) :
    iprop(owns (c : Thread nD τ) arg3 fullShare xq ∗ owns (c : Thread nD τ) arg4 fullShare xk ∗ owns (c : Thread nD τ) arg5 fullShare xv ∗ owns (c : Thread nD τ) arg6 fullShare xc ∗ owns (c : Thread nD τ) arg7 fullShare xr ∗ owns (c : Thread nD τ) arg9 fullShare oq ∗ owns (c : Thread nD τ) arg10 fullShare ok ∗ owns (c : Thread nD τ) arg11 fullShare ov ∗ holds c arg12 arg13 arg14 arg15 arg16 s)
      ⊢ wp frame (wpE defs₀ 𝒱₀ (c : Thread nD τ) none) Set.univ
          (cc0_a_sb_bwd i arg3 harg3 arg4 harg4 arg5 harg5 arg6 harg6 arg7 harg7 arg8 harg8 arg9 harg9 arg10 harg10 arg11 harg11 arg12 harg12 arg13 harg13 arg14 harg14 arg15 harg15 arg16 harg16)
          fun x => (iprop(owns (c : Thread nD τ) arg3 fullShare xq ∗ owns (c : Thread nD τ) arg4 fullShare xk ∗ owns (c : Thread nD τ) arg5 fullShare xv ∗ owns (c : Thread nD τ) arg6 fullShare xc ∗ owns (c : Thread nD τ) arg7 fullShare xr ∗ owns (c : Thread nD τ) arg9 fullShare (outQ (after (cx xq xk xv xc xr) i (start i s.dk s.dv))) ∗ owns (c : Thread nD τ) arg10 fullShare (if (i 2).val = 7 then k0_pay2 (after (cx xq xk xv xc xr) i (start i s.dk s.dv)).dk else ok) ∗ owns (c : Thread nD τ) arg11 fullShare (if (i 2).val = 7 then k0_pay3 (after (cx xq xk xv xc xr) i (start i s.dk s.dv)).dv else ov) ∗ holds c arg12 arg13 arg14 arg15 arg16 (after (cx xq xk xv xc xr) i (start i s.dk s.dv))) : sProp 𝕄) := by
  rw [cc0_a_sb_bwd_eq_skeleton, cc0_a_sb_bwd_skel]
  simp only [Prog.lift, Prog.bind_op, Prog.bind_ret, Prog.pure_eq_ret, Prog.bind_assoc]
  iintro ⟨HX, HK, HV, HC, HR, HOQ, HOK, HOV, HS⟩
  unfold holds
  icases HS with ⟨HQ, HP, HG, HDK, HDV⟩
  iapply (first 𝒱₀ (c : Thread nD τ) (part9 c i arg3 harg3 arg4 harg4 arg5 harg5 arg6 harg6 arg7 harg7 arg8 harg8 arg9 harg9 arg10 harg10 arg11 harg11 arg12 harg12 arg13 harg13 arg14 harg14 arg15 harg15 arg16 harg16 s.dk s.dv xq)) $$ [HDK HDV HX]
  · isplitl [HDK]; · iexact HDK
    isplitl [HDV]; · iexact HDV
    iexact HX
  iintro %x ⟨%hx, HDK, HDV, HX⟩
  subst hx
  simp only [k0_part10_eq_skeleton, k0_part10_skel, Prog.lift, Prog.bind_op, Prog.bind_ret, Prog.pure_eq_ret, Prog.bind_assoc]
  iapply (load_whole 𝒱₀ (c : Thread nD τ) _) $$ HC; iintro HC
  iapply (load_whole 𝒱₀ (c : Thread nD τ) _) $$ HR; iintro HR
  iapply (load_whole 𝒱₀ (c : Thread nD τ) _) $$ HQ; iintro HQ
  iapply (store_whole 𝒱₀ (c : Thread nD τ) _) $$ HQ; iintro HQ
  iapply (load_whole 𝒱₀ (c : Thread nD τ) _) $$ HP; iintro HP
  iapply (store_whole 𝒱₀ (c : Thread nD τ) _) $$ HP; iintro HP
  iapply (first 𝒱₀ (c : Thread nD τ) (part11 c i arg3 harg3 arg4 harg4 arg5 harg5 arg6 harg6 arg7 harg7 arg8 harg8 arg9 harg9 arg10 harg10 arg11 harg11 arg12 harg12 arg13 harg13 arg14 harg14 arg15 harg15 arg16 harg16 s.cg _)) $$ HG
  iintro %x ⟨%hx, HG⟩
  subst hx
  dsimp only
  iapply (first 𝒱₀ (c : Thread nD τ) (part12 c i arg3 harg3 arg4 harg4 arg5 harg5 arg6 harg6 arg7 harg7 arg8 harg8 arg9 harg9 arg10 harg10 arg11 harg11 arg12 harg12 arg13 harg13 arg14 harg14 arg15 harg15 arg16 harg16 (cx xq xk xv xc xr) _ _ (start i s.dk s.dv))) $$ [HK HV HQ HP HG HDK HDV]
  · unfold holds
    isplitl [HK]; · iexact HK
    isplitl [HV]; · iexact HV
    isplitl [HQ]; · iexact HQ
    isplitl [HP]; · iexact HP
    isplitl [HG]; · iexact HG
    isplitl [HDK]; · iexact HDK
    iexact HDV
  iintro %x ⟨%hx, HK, HV, HS⟩
  subst hx
  simp only [k0_part13_eq_skeleton, k0_part14_eq_skeleton, k0_part13_skel, k0_part14_skel, Prog.lift, Prog.bind_op, Prog.bind_ret, Prog.pure_eq_ret, Prog.bind_assoc]
  unfold holds
  icases HS with ⟨HQ, HP, HG, HDK, HDV⟩
  iapply (load_whole 𝒱₀ (c : Thread nD τ) _) $$ HP; iintro HP
  iapply (load_whole 𝒱₀ (c : Thread nD τ) _) $$ HP; iintro HP
  iapply (store_whole 𝒱₀ (c : Thread nD τ) _) $$ HP; iintro HP
  iapply (load_whole 𝒱₀ (c : Thread nD τ) _) $$ HG; iintro HG
  iapply (load_whole 𝒱₀ (c : Thread nD τ) _) $$ HG; iintro HG
  iapply (store_whole 𝒱₀ (c : Thread nD τ) _) $$ HG; iintro HG
  iapply (load_whole 𝒱₀ (c : Thread nD τ) _) $$ HQ; iintro HQ
  iapply (load_whole 𝒱₀ (c : Thread nD τ) _) $$ HQ; iintro HQ
  iapply (store_whole 𝒱₀ (c : Thread nD τ) _) $$ HQ; iintro HQ
  iapply (load_box 𝒱₀ (c : Thread nD τ) _) $$ HDK; iintro HDK
  iapply (load_box 𝒱₀ (c : Thread nD τ) _) $$ HDK; iintro HDK
  iapply (store_box 𝒱₀ (c : Thread nD τ) _) $$ HDK; iintro HDK
  iapply (load_box 𝒱₀ (c : Thread nD τ) _) $$ HDV; iintro HDV
  iapply (load_box 𝒱₀ (c : Thread nD τ) _) $$ HDV; iintro HDV
  iapply (store_box 𝒱₀ (c : Thread nD τ) _) $$ HDV; iintro HDV
  iapply (load_box 𝒱₀ (c : Thread nD τ) _) $$ HQ; iintro HQ
  iapply (load_box 𝒱₀ (c : Thread nD τ) _) $$ HQ; iintro HQ
  iapply (load_box 𝒱₀ (c : Thread nD τ) _) $$ HQ; iintro HQ
  iapply (load_box 𝒱₀ (c : Thread nD τ) _) $$ HQ; iintro HQ
  iapply (load_whole 𝒱₀ (c : Thread nD τ) _) $$ HOQ; iintro HOQ
  iapply (store_whole 𝒱₀ (c : Thread nD τ) _) $$ HOQ; iintro HOQ
  by_cases h3 : (i 2).val = 7
  · simp only [dif_pos ((cond3_iff i).2 h3), if_pos h3, Prog.lift, Prog.bind_op, Prog.bind_ret, Prog.pure_eq_ret, Prog.bind_assoc]
    iapply (load_whole 𝒱₀ (c : Thread nD τ) _) $$ HDK; iintro HDK
    iapply (load_whole 𝒱₀ (c : Thread nD τ) _) $$ HOK; iintro HOK
    iapply (store_whole 𝒱₀ (c : Thread nD τ) _) $$ HOK; iintro HOK
    iapply (load_whole 𝒱₀ (c : Thread nD τ) _) $$ HDV; iintro HDV
    iapply (load_whole 𝒱₀ (c : Thread nD τ) _) $$ HOV; iintro HOV
    iapply (store_whole 𝒱₀ (c : Thread nD τ) _) $$ HOV; iintro HOV
    rw [wp_ret]
    imodintro
    isplitl [HX]; · iexact HX
    isplitl [HK]; · iexact HK
    isplitl [HV]; · iexact HV
    isplitl [HC]; · iexact HC
    isplitl [HR]; · iexact HR
    isplitl [HOQ]; · iexact HOQ
    isplitl [HOK]; · iexact HOK
    isplitl [HOV]; · iexact HOV
    isplitl [HQ]; · iexact HQ
    isplitl [HP]; · iexact HP
    isplitl [HG]; · iexact HG
    isplitl [HDK]; · iexact HDK
    iexact HDV
  · simp only [dif_neg (fun h => h3 ((cond3_iff i).1 h)), if_neg h3, Prog.lift, Prog.bind_op, Prog.bind_ret, Prog.pure_eq_ret, Prog.bind_assoc]
    rw [wp_ret]
    imodintro
    isplitl [HX]; · iexact HX
    isplitl [HK]; · iexact HK
    isplitl [HV]; · iexact HV
    isplitl [HC]; · iexact HC
    isplitl [HR]; · iexact HR
    isplitl [HOQ]; · iexact HOQ
    isplitl [HOK]; · iexact HOK
    isplitl [HOV]; · iexact HOV
    isplitl [HQ]; · iexact HQ
    isplitl [HP]; · iexact HP
    isplitl [HG]; · iexact HG
    isplitl [HDK]; · iexact HDK
    iexact HDV

end
end Cert.Sb
end
-- ==== Proof.Frame.lean ====
/- The launch: the state each grid point leaves, what the pipeline finds and keeps, and the run of the whole program. -/
module

public import proofs.«01_k».proof.Proof.Block
public import proofs.«01_k».proof.Proof.Hold
public import proofs.«01_k».proof.Proof.Blocks
public import proofs.«01_k».proof.Proof.Gen.KernelIdeal.Frame

@[expose] public section

set_option maxRecDepth 16384

noncomputable section

namespace Cert.Sb

open Cert.KernelIdeal Cert.KernelIdeal.Gen Cert.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "𝒱₀" => Variants.none

variable (m : (ℓ : Loc nD τ sig) → Buf (Elt F) ℓ) (ρ : Dev nD → PrngReg)

/-! ## The state from point to point -/

/-- What a point's blocks share, from the point's blocks of the arrays. -/
def ctxAt (c : Dev nD) (t : Fin cfg0.N) : Cx F := cx (iblk m c 0 t) (iblk m c 1 t) (iblk m c 2 t) (iblk m c 3 t) (iblk m c 4 t)

/-- The state a point leaves, from the state before it. -/
def step (c : Dev nD) (t : Fin cfg0.N) (s : St F) : St F := after (ctxAt m c t) (grid0.coords t) (start (grid0.coords t) s.dk s.dv)

/-- The state before point `n`, the buffers taken to hold zeros at the beginning. -/
def before (c : Dev nD) : ℕ → St F
  | 0 => ⟨zeros, zeros, zeros, k0_pay81, k0_pay82⟩
  | n + 1 => if h : n < cfg0.N then step m c ⟨n, h⟩ (before c n) else before c n

/-- The state point `t` leaves. -/
def left (c : Dev nD) (t : Fin cfg0.N) : St F := step m c t (before m c t.val)

theorem before_succ (c : Dev nD) (t : Fin cfg0.N) : before m c (t.val + 1) = left m c t := by
  unfold left; rw [before, dif_pos t.2]

/-- The last grid coordinate of a point. -/
theorem coord2 : ∀ t : Fin grid0.N, (grid0.coords t 2).val = t.val % 8 := by decide +kernel

/-- The first point of a batch and head group does not read what the buffers held. -/
theorem step_first (c : Dev nD) (t : Fin cfg0.N) (h : t.val % 8 = 0) (s s' : St F) : step m c t s = step m c t s' := by
  unfold step start
  rw [if_pos ((coord2 t).trans h), if_pos ((coord2 t).trans h), if_pos ((coord2 t).trans h), if_pos ((coord2 t).trans h)]

/-! ## The pipeline's proof data -/

/-- The scratch buffers between points: at the state before point `n`, or at anything before a first point. -/
def keeps (c : Dev nD) (n : ℕ) : sProp 𝕄 :=
  iprop((∃ s : St F, ⌜n % 8 ≠ 0 → s = before m c n⌝
      ∗ holds c (Memref.whole cc0_scratch0) (Memref.whole cc0_scratch1) (Memref.whole cc0_scratch2) (Memref.whole cc0_scratch3) (Memref.whole cc0_scratch4) s)
    ∗ ∃ r, prngReg c r)

/-- What the body leaves in the staging buffers: the inputs' blocks, the query gradient's block, and the key and value
    gradients of the group (copied out at its last point only). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outQ (left m c t)
    | ⟨6, _⟩ => k0_pay2 (left m c t).dk
    | ⟨7, _⟩ => k0_pay3 (left m c t).dv
  Φ t := keeps m c t.val
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outQ (left m c t) := by dsimp only [dats]
theorem after0_6 (c : Dev nD) (t : Fin cfg0.N) : (dats m 0 c).after 6 t = k0_pay2 (left m c t).dk := by dsimp only [dats]
theorem after0_7 (c : Dev nD) (t : Fin cfg0.N) : (dats m 0 c).after 7 t = k0_pay3 (left m c t).dv := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The key and value gradients' windows are left alone at every point but a group's last. -/
theorem idle_6 (t : Fin cfg0.N) : idle0 6 (grid0.coords t) = !decide (t.val % 8 = 7) := by
  show (!(k0_cond3 (grid0.coords t) == 1#1)) = _
  rw [← coord2 t]
  congr 1
  have := cond3_iff (grid0.coords t)
  by_cases h : (grid0.coords t 2).val = 7 <;> simp [h, this]

/-! ## The body at a point -/

set_option maxHeartbeats 1000000 in
theorem obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = keeps m c (t.val + 1) from rfl, show (dats m 0 c).Φ t.castSucc = keeps m c t.val from rfl,
    show (dats m 0 c).owesAt () t.succ = (dats m 0 c).owesAt () t.castSucc from rfl, after0_0, after0_1, after0_2, after0_3, after0_4, after0_5]
  unfold keeps
  iintro ⟨⟨⟨%s, %hs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hl : step m c t s = left m c t := by
    unfold left
    by_cases h0 : t.val % 8 = 0
    · exact step_first m c t h0 _ _
    · rw [hs h0]
  iapply (last 𝒱₀ (c : Thread nD τ) (body c (grid0.coords t) _ _ _ _ _ _ _ _ _ _ _ _ _ _ _ _ _ _ _ _ _ _ _ _ _ _ _ _ (iblk m c 0 t) (iblk m c 1 t) (iblk m c 2 t) (iblk m c 3 t) (iblk m c 4 t)
    ((dats m 0 c).before 5 t d5) ((dats m 0 c).before 6 t d6) ((dats m 0 c).before 7 t d7) s)) $$ [H0 H1 H2 H3 H4 H5 H6 H7 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iintro %_x ⟨H0, H1, H2, H3, H4, H5, H6, H7, HS⟩
  rw [coord2 t, show after (cx (iblk m c 0 t) (iblk m c 1 t) (iblk m c 2 t) (iblk m c 3 t) (iblk m c 4 t)) (grid0.coords t)
    (start (grid0.coords t) s.dk s.dv) = left m c t from hl, idle_6]
  isplitl [HS HR]
  · isplitl [HS]
    · iexists (left m c t)
      isplitr
      · ipureintro; exact fun _ => (before_succ m c t).symm
      iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  by_cases h7 : t.val % 8 = 7
  · rw [decide_eq_true h7, if_pos h7, if_pos h7]
    simp only [Bool.not_true, after0_6, after0_7]
    isplitl [H6]; · iexact H6
    iexact H7
  · have f6 : (win0 6).flush t = false := Bool.eq_false_iff.2 fun h => h7 ((flush0_6 t).1 h)
    have f7 : (win0 7).flush t = false := Bool.eq_false_iff.2 fun h => h7 ((flush0_7 t).1 h)
    rw [decide_eq_false h7, if_neg h7, if_neg h7, f6, f7]
    simp only [Bool.not_false]
    isplitl [H6]; · iexists d6; iexact H6
    iexists d7; iexact H7

/-! ## The run -/

theorem keeps_of_rest (c : Dev nD) : Pipeline.ΦA (Val := Elt F) spec0 c ⊢ (keeps m c 0 : sProp 𝕄) := by
  unfold Pipeline.ΦA keeps holds
  rw [scopedRest0_eq]
  simp only [owns_whole]
  iintro ⟨⟨⟨%f0, H0⟩, ⟨%f1, H1⟩, ⟨%f2, H2⟩, ⟨%f3, H3⟩, ⟨%f4, H4⟩⟩, HR⟩
  isplitr [HR]
  · iexists (⟨f0, f1, f2, f3, f4⟩ : St F)
    isplitr
    · ipureintro; exact fun h => absurd rfl h
    isplitl [H0]; · iexact H0
    isplitl [H1]; · iexact H1
    isplitl [H2]; · iexact H2
    isplitl [H3]; · iexact H3
    iexact H4
  iexact HR

theorem rest_of_keeps (c : Dev nD) (n : ℕ) : (keeps m c n : sProp 𝕄) ⊢ Pipeline.ΦA (Val := Elt F) spec0 c := by
  unfold Pipeline.ΦA keeps holds
  rw [scopedRest0_eq]
  simp only [owns_whole]
  iintro ⟨⟨%s, -, H0, H1, H2, H3, H4⟩, HR⟩
  isplitr [HR]
  · isplitl [H0]; · iexists _; iexact H0
    isplitl [H1]; · iexists _; iexact H1
    isplitl [H2]; · iexists _; iexact H2
    isplitl [H3]; · iexists _; iexact H3
    iexists _; iexact H4
  iexact HR

set_option backward.isDefEq.respectTransparency.types false in
/-- Every execution ends, with each array of the pipeline at what its write-backs leave and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (obligation m c).loose) (hq := fun _ _ _ => rfl) (howed := fun _ _ => rfl) (V := V m)
    (hmain := hmain m 𝒱₀) (hA := fun _ _ => rfl) (hin := fun c => keeps_of_rest m c) (hout := fun c => rest_of_keeps m c _)

/-- The arguments are left as they were, and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.Sb
end
-- ==== Proof.Frames.lean ====
/- The three frames: the kernel as written, the kernel over the reals, and the reference. -/
module

public import proofs.«01_k».proof.Proof.Gen.ReferenceIdeal.Run
public import proofs.«01_k».proof.Defs
public import proofs.«01_k».proof.Proof.Gen.Kernel
public import proofs.«01_k».proof.Proof.Gen.ReferenceIdeal
public import proofs.«01_k».proof.Proof.Frame
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts

open Cert.KernelIdeal in
/-- The kernel as written and the kernel read over the reals have one text. -/
theorem same_text : Cert.quiescent_Kernel = (∀ (m : (ℓ : Loc nD τ sig) → Buf (Elt Bits) ℓ) (ρ : Dev nD → PrngReg), True →
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)) := by
  chain_rfl

/-- The kernel as written leaves its arguments and its counters. -/
theorem frame_kernel : Cert.quiescent_Kernel := same_text.mpr fun m ρ _ => Cert.Sb.run_frame (F := Bits) m ρ

/-- So does the kernel over the reals. -/
theorem frame_ideal : Cert.quiescent_KernelIdeal := fun m ρ _ => Cert.Sb.run_frame m ρ

/-- The reference leaves its arguments, and it has no counter. -/
theorem frame_reference : Cert.quiescent_ReferenceIdeal := fun m ρ _ =>
  (θ_run _ _ _).mono (fun r h => ⟨fun c => ⟨(h c).2.2.2.1, (h c).2.2.2.2⟩, sem_eq_zero_of_no_sems (by decide) r.2⟩)
    (Cert.ReferenceIdeal.Value.run (F := Ideal) m ρ)

end Cert.Proof

end
-- ==== Proof.Model.lean ====
/- The mathematics of one query row of the stick-breaking attention's backward pass, over the reals: the stick's logs,
   the weights, their cotangents and the logits' cotangents, all as functions of the key's position, with the sums over
   earlier keys written as prefix sums. A row sees the keys before its own position `T`. -/
module

public import Mathlib.Analysis.SpecialFunctions.Log.Basic
public import Mathlib.Algebra.BigOperators.Fin
public import Mathlib.Algebra.BigOperators.Intervals
public import Mathlib.Tactic.Ring
public import Mathlib.Tactic.Linarith
public import Mathlib.Tactic.Positivity
public import Mathlib.Tactic.FieldSimp

@[expose] public section

noncomputable section

namespace Cert.Sb

open Finset

/-- `log (1 + eˣ)`. -/
def sp (x : ℝ) : ℝ := Real.log (1 + Real.exp x)

/-- The sum of the first `n` values. -/
def pre (f : ℕ → ℝ) (n : ℕ) : ℝ := ∑ u ∈ range n, f u

variable (z dw : ℕ → ℝ) (T : ℕ)

/-- The log of what stays of the stick after a key. -/
def lstay (s : ℕ) : ℝ := if s < T then -sp (z s) else 0
/-- The weight of a key: its break times what the later keys leave. -/
def wt (s : ℕ) : ℝ := if s < T then Real.exp (z s - sp (z s) + (pre (lstay z T) 2048 - pre (lstay z T) (s + 1))) else 0
/-- The weight's cotangent times the weight. -/
def gw (s : ℕ) : ℝ := dw s * wt z T s
/-- The logit's cotangent. -/
def dlog (s : ℕ) : ℝ := if s < T then gw z dw T s - Real.exp (z s - sp (z s)) * pre (gw z dw T) (s + 1) else 0

theorem dlog_zero {s : ℕ} (h : T ≤ s) : dlog z dw T s = 0 := if_neg (by omega)
theorem wt_zero {s : ℕ} (h : T ≤ s) : wt z T s = 0 := if_neg (by omega)

/-- A prefix sum grows by a block of 256 values. -/
theorem pre_block (f : ℕ → ℝ) (n : ℕ) : pre f (256 * n) + ∑ c : Fin 256, f (256 * n + c.val) = pre f (256 * (n + 1)) := by
  unfold pre
  rw [Fin.sum_univ_eq_sum_range (fun c => f (256 * n + c)), show 256 * (n + 1) = 256 * n + 256 by ring, sum_range_add]

/-- A prefix sum stops growing where the values vanish. -/
theorem pre_stop (f : ℕ → ℝ) {n k : ℕ} (h : n ≤ k) (h0 : ∀ s, n ≤ s → f s = 0) : pre f n = pre f k := by
  obtain ⟨d, rfl⟩ := Nat.exists_eq_add_of_le h
  unfold pre
  rw [sum_range_add]
  simp [h0]

/-- A prefix sum continued. -/
theorem pre_add (f : ℕ → ℝ) (n d : ℕ) : pre f (n + d) = pre f n + ∑ a ∈ range d, f (n + a) := sum_range_add f n d

/-- Of the values from `n` on, `c` and `d` and one more of them, those past place `c`. -/
theorem later_split (f : ℕ → ℝ) (n c d : ℕ) :
    ∑ a ∈ range (c + 1 + d), f (n + a) * (if c < a then 1 else 0) = pre f (n + (c + 1 + d)) - pre f (n + (c + 1)) := by
  rw [sum_range_add, sum_eq_zero (fun a ha => by rw [mem_range] at ha; rw [if_neg (by omega), mul_zero]), zero_add,
    ← add_assoc n (c + 1) d, pre_add f (n + (c + 1)) d, add_sub_cancel_left]
  refine sum_congr rfl fun a _ => ?_
  rw [if_pos (by omega), mul_one, ← add_assoc n (c + 1) a]

/-- Of the values from `n` on, those before place `c`. -/
theorem earlier_split (f : ℕ → ℝ) (n c d : ℕ) :
    ∑ a ∈ range (c + d), f (n + a) * (if a < c then 1 else 0) = pre f (n + c) - pre f n := by
  rw [sum_range_add, sum_eq_zero (s := range d) (fun a ha => by rw [if_neg (by omega), mul_zero]), add_zero,
    pre_add f n c, add_sub_cancel_left]
  refine sum_congr rfl fun a ha => ?_
  rw [mem_range] at ha
  rw [if_pos ha, mul_one]

/-- Within a block, the values at later places: the prefix sum after the block less the one after the place. -/
theorem pre_later (f : ℕ → ℝ) (n : ℕ) (c : Fin 256) :
    ∑ a : Fin 256, f (256 * n + a.val) * (if c.val < a.val then 1 else 0) = pre f (256 * (n + 1)) - pre f (256 * n + c.val + 1) := by
  have h := Fin.sum_univ_eq_sum_range (fun a => f (256 * n + a) * (if c.val < a then (1 : ℝ) else 0)) 256
  have h' := later_split f (256 * n) c.val (255 - c.val)
  have e : c.val + 1 + (255 - c.val) = 256 := by omega
  rw [e] at h'
  exact h.trans h'

/-- Within a block, the values at earlier places: the prefix sum before the place less the one before the block. -/
theorem pre_earlier (f : ℕ → ℝ) (n : ℕ) (c : Fin 256) :
    ∑ a : Fin 256, f (256 * n + a.val) * (if a.val < c.val then 1 else 0) = pre f (256 * n + c.val) - pre f (256 * n) := by
  have h := Fin.sum_univ_eq_sum_range (fun a => f (256 * n + a) * (if a < c.val then (1 : ℝ) else 0)) 256
  have h' := earlier_split f (256 * n) c.val (256 - c.val)
  have e : c.val + (256 - c.val) = 256 := by omega
  rw [e] at h'
  exact h.trans h'

theorem pre_succ (f : ℕ → ℝ) (n : ℕ) : pre f (n + 1) = pre f n + f n := sum_range_succ f n

/-- The softplus both ways round. -/
theorem sp_neg (x : ℝ) : sp (-x) = sp x - x := by
  unfold sp
  rw [show 1 + Real.exp (-x) = (1 + Real.exp x) * Real.exp (-x) by rw [add_mul, one_mul, ← Real.exp_add, add_neg_cancel, Real.exp_zero]; ring]
  rw [Real.log_mul (by positivity) (by positivity), Real.log_exp]; ring

/-- `−softplus` by way of the smaller of the argument and its negative. -/
theorem neg_sp (x : ℝ) : min (-x) 0 - Real.log (1 + Real.exp (min x (-x))) = -sp x := by
  rcases le_total x 0 with h | h
  · rw [min_eq_right (by linarith), min_eq_left (by linarith)]; unfold sp; ring
  · rw [min_eq_left (by linarith), min_eq_right (by linarith)]
    have := sp_neg x; unfold sp at this ⊢; linarith

/-- The softplus by way of the larger of the argument and zero. -/
theorem sp_max (x : ℝ) : max x 0 + Real.log (1 + Real.exp (-|x|)) = sp x := by
  rcases le_total x 0 with h | h
  · rw [max_eq_right h, abs_of_nonpos h, neg_neg]; unfold sp; ring
  · rw [max_eq_left h, abs_of_nonneg h]
    have := sp_neg x; unfold sp at this ⊢; linarith

/-- The two halves of the logistic curve. -/
theorem exp_break (x : ℝ) : Real.exp (-x - sp (-x)) = 1 - Real.exp (x - sp x) := by
  have e : Real.exp (x - sp x) + Real.exp (- sp x) = 1 := by
    rw [sub_eq_add_neg, Real.exp_add, Real.exp_neg (sp x)]
    unfold sp
    rw [Real.exp_log (by positivity)]
    field_simp
    ring
  rw [show -x - sp (-x) = -sp x by rw [sp_neg]; ring]; linarith

end Cert.Sb
end
-- ==== Proof.Lift.lean ====
/- The kernel's block functions read at an index over the ideal values, and what they give on vectors of real numbers. -/
module

public import proofs.«01_k».proof.Proof.Block
public import proofs.«01_k».proof.Proof.Model
public import Idealize.ShloMosaic.Lib.Pointwise
public import Idealize.ShloMosaic.Lib.WordCmp

@[expose] public section

set_option maxRecDepth 16384

noncomputable section

namespace Cert.Sb

open Cert.KernelIdeal Cert.KernelIdeal.Gen
open Idealize.ShloMosaic Idealize.ShloMosaic.WordCmp

/-! ## Reals among the ideal values -/

/-- A sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals. -/
theorem coe_dot {n : ℕ} (f g : Fin n → EReal) (f' g' : Fin n → ℝ) (hf : ∀ i, f i = f' i) (hg : ∀ i, g i = g' i) :
    ∑ i, f i * g i = ((∑ i, f' i * g' i : ℝ) : EReal) := by
  rw [coe_sum]
  exact Finset.sum_congr rfl fun i _ => by rw [hf, hg, EReal.coe_mul]

theorem coe_min (a b : ℝ) : min (a : EReal) b = ((min a b : ℝ) : EReal) :=
  (EReal.coe_strictMono.monotone.map_min).symm
theorem coe_max (a b : ℝ) : max (a : EReal) b = ((max a b : ℝ) : EReal) :=
  (EReal.coe_strictMono.monotone.map_max).symm

/-- The log of one plus an exponential. -/
theorem log_one_add (x : ℝ) : Ideal.log (1 + ((Real.exp x : ℝ) : EReal)) = ((Real.log (1 + Real.exp x) : ℝ) : EReal) := by
  rw [show (1 : EReal) = ((1 : ℝ) : EReal) from rfl, ← EReal.coe_add, Ideal.log_coe, if_neg (by have := Real.exp_pos x; linarith)]

/-! ## The pieces at an index -/

variable (a b : FVec Ideal S1024x256 .bf16) (w : FVec Ideal S256x256 .bf16) (x y u : FVec Ideal S1024x256 .f32)

theorem nt_at (r : Fin 1024) (c : Fin 256) : nt a w (ix2 r c) = ∑ l : Fin 256, (a (ix2 r l) * w (ix2 c l) : EReal) := by
  pointwise [nt]
theorem nn_at (r : Fin 1024) (c : Fin 256) : nn a w (ix2 r c) = ∑ l : Fin 256, (a (ix2 r l) * w (ix2 l c) : EReal) := by
  pointwise [nn]
theorem tn_at (r c : Fin 256) : tn a b (ix2 r c) = ∑ l : Fin 1024, (a (ix2 l r) * b (ix2 l c) : EReal) := by
  pointwise [tn]
theorem rowSum_at (r : Fin 1024) (c : Fin 256) : rowSum x (ix2 r c) = ∑ l : Fin 256, (x (ix2 r l) : EReal) := by
  pointwise [rowSum]
theorem spread_at (v : FVec Ideal S1024x1 .f32) (r : Fin 1024) (c : Fin 256) : spread v (ix2 r c) = v (ix2 r 0) := by
  pointwise [spread]
theorem same_eq : same x = x := by
  funext i; pointwise [same]
theorem narrow_eq : narrow x = x := by
  funext i; pointwise [narrow]

/-! ## The tables and masks at an index -/

/-- A comparison's bit as a number. -/
theorem bit_number (p : Bool) : (FloatOps.sitofp FTy.f32 (BitVec.setWidth 32 (BitVec.ofBool p)) : Ideal .f32) = if p = true then 1 else 0 := by
  cases p
  · show (((BitVec.setWidth 32 (BitVec.ofBool false)).toInt : ℝ) : EReal) = 0
    simp
  · show (((BitVec.setWidth 32 (BitVec.ofBool true)).toInt : ℝ) : EReal) = 1
    simp

theorem later_at (r c : Fin 256) : (k0_pay87 : FVec Ideal S256x256 .bf16) (ix2 r c) = if c.val < r.val then 1 else 0 := by
  pointwise [k0_pay87]
  rw [cmpi_sgt_of_lt (by rw [toNat_ofNat_of_lt] <;> omega) (by rw [toNat_ofNat_of_lt] <;> omega), bit_number,
    toNat_ofNat_of_lt (by omega), toNat_ofNat_of_lt (by omega)]
  simp only [decide_eq_true_eq]
theorem excl_at (r c : Fin 256) : (k0_pay88 : FVec Ideal S256x256 .bf16) (ix2 r c) = if r.val < c.val then 1 else 0 := by
  pointwise [k0_pay88]
  rw [cmpi_slt_of_lt (by rw [toNat_ofNat_of_lt] <;> omega) (by rw [toNat_ofNat_of_lt] <;> omega), bit_number,
    toNat_ofNat_of_lt (by omega), toNat_ofNat_of_lt (by omega)]
  simp only [decide_eq_true_eq]

/-- The low eight bits of a row number. -/
theorem low_bits (r : ℕ) : IntOp.andi (BitVec.ofNat 32 r) 255#32 = BitVec.ofNat 32 (r % 256) := by
  show BitVec.ofNat 32 r &&& 255#32 = _
  apply BitVec.eq_of_toNat_eq
  rw [BitVec.toNat_and, BitVec.toNat_ofNat, BitVec.toNat_ofNat, BitVec.toNat_ofNat, show 255 % 2 ^ 32 = 2 ^ 8 - 1 from rfl, Nat.and_two_pow_sub_one_eq_mod]
  omega

/-- The sign of a difference of small numbers. -/
theorem diff_neg (c d : ℕ) (hc : c < 256) (hd : d < 256) : IntOp.cmpi .slt (IntOp.subi (BitVec.ofNat 32 c) (BitVec.ofNat 32 d)) 0#32 = BitVec.ofBool (decide (c < d)) := by
  rw [cmpi_slt_eq]
  congr 1
  apply decide_eq_decide.mpr
  show (BitVec.ofNat 32 c - BitVec.ofNat 32 d).toInt < (0#32).toInt ↔ _
  rw [BitVec.toInt_sub, toInt_ofNat_of_lt (by omega), toInt_ofNat_of_lt (by omega)]
  simp only [Int.bmod, BitVec.toInt_zero]
  omega

theorem diag_at (i : grid0.Coords) (r : Fin 1024) (c : Fin 256) : diag (F := Ideal) i x (ix2 r c) = if c.val < r.val % 256 then x (ix2 r c) else 0 := by
  pointwise [diag, k0_pay89, zeros]
  rw [low_bits, show ∀ b : BitVec 32, Scalar.subi b b = 0#32 from fun b => BitVec.sub_self b, diff_neg _ _ c.2 (Nat.mod_lt _ (by omega))]
  by_cases h : c.val < r.val % 256 <;> simp [h, Scalar.select]

/-- One eighth. -/
theorem eighth_bf16 : Ideal.ofBits .bf16 0x3E00#16 = ((1 / 8 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num

/-- A lane range's mask. -/
theorem lanes (c lo hi : ℕ) (hc : c < 256) (hlo : lo < 256) (hhi : hi ≤ 256) (p q : EReal) :
    Scalar.select (IntOp.andi (IntOp.cmpi .sge (BitVec.ofNat 32 c) (BitVec.ofNat 32 lo)) (IntOp.cmpi .slt (BitVec.ofNat 32 c) (BitVec.ofNat 32 hi))) p q
      = if lo ≤ c ∧ c < hi then p else q := by
  rw [cmpi_sge_of_lt (by rw [toNat_ofNat_of_lt] <;> omega) (by rw [toNat_ofNat_of_lt] <;> omega),
    cmpi_slt_of_lt (by rw [toNat_ofNat_of_lt] <;> omega) (by rw [toNat_ofNat_of_lt] <;> omega), andi_ofBool,
    toNat_ofNat_of_lt (by omega), toNat_ofNat_of_lt (by omega), toNat_ofNat_of_lt (by omega)]
  by_cases h1 : lo ≤ c <;> by_cases h2 : c < hi <;> simp [h1, h2, Scalar.select]

/-- The stacked, scaled queries. -/
theorem stackQ_at (xq : FVec Ideal S1x256x256 .bf16) (r : Fin 1024) (c : Fin 256) :
    k0_pay91 (F := Ideal) k0_pay83 k0_pay84 k0_pay85 k0_pay86 (k0_pay90 (F := Ideal) xq) (Scalar.ofBits .bf16 0x3E00#16) (ix2 r c)
      = if c.val / 64 = r.val / 256 then xq (ix3 0 ⟨r.val % 256, Nat.mod_lt _ (by omega)⟩ c) * ((1 / 8 : ℝ) : EReal) else 0 := by
  pointwise [k0_pay91, k0_pay83, k0_pay84, k0_pay85, k0_pay86, k0_pay90]
  rw [eighth_bf16]
  have hc := c.2
  have hr := r.2
  simp only [lanes c.val 0 64 hc (by omega) (by omega), lanes c.val 64 128 hc (by omega) (by omega),
    lanes c.val 128 192 hc (by omega) (by omega), lanes c.val 192 256 hc (by omega) (by omega)]
  by_cases h0 : r.val < 256
  · rw [dif_pos h0]
    refine if_congr (by omega) (congrArg (fun a => xq (ix3 0 a c) * _) (Fin.ext ?_)) rfl
    show r.val = r.val % 256; omega
  rw [dif_neg h0]
  by_cases h1 : r.val - 256 < 256
  · rw [dif_pos h1]
    refine if_congr (by omega) (congrArg (fun a => xq (ix3 0 a c) * _) (Fin.ext ?_)) rfl
    show r.val - 256 = r.val % 256; omega
  rw [dif_neg h1]
  by_cases h2 : r.val - 256 - 256 < 256
  · rw [dif_pos h2]
    refine if_congr (by omega) (congrArg (fun a => xq (ix3 0 a c) * _) (Fin.ext ?_)) rfl
    show r.val - 256 - 256 = r.val % 256; omega
  rw [dif_neg h2]
  refine if_congr (by omega) (congrArg (fun a => xq (ix3 0 a c) * _) (Fin.ext ?_)) rfl
  show r.val - 256 - 256 - 256 = r.val % 256; omega

/-- The stacked cotangents. -/
theorem stackC_at (xc : FVec Ideal S1x256x256 .bf16) (r : Fin 1024) (c : Fin 256) :
    k0_pay92 (F := Ideal) k0_pay83 k0_pay84 k0_pay85 k0_pay86 xc (ix2 r c)
      = if c.val / 64 = r.val / 256 then xc (ix3 0 ⟨r.val % 256, Nat.mod_lt _ (by omega)⟩ c) else 0 := by
  pointwise [k0_pay92, k0_pay83, k0_pay84, k0_pay85, k0_pay86]
  have hc := c.2
  have hr := r.2
  simp only [lanes c.val 0 64 hc (by omega) (by omega), lanes c.val 64 128 hc (by omega) (by omega),
    lanes c.val 128 192 hc (by omega) (by omega), lanes c.val 192 256 hc (by omega) (by omega)]
  by_cases h0 : r.val < 256
  · rw [dif_pos h0]
    refine if_congr (by omega) (congrArg (fun a => xc (ix3 0 a c)) (Fin.ext ?_)) rfl
    show r.val = r.val % 256; omega
  rw [dif_neg h0]
  by_cases h1 : r.val - 256 < 256
  · rw [dif_pos h1]
    refine if_congr (by omega) (congrArg (fun a => xc (ix3 0 a c)) (Fin.ext ?_)) rfl
    show r.val - 256 = r.val % 256; omega
  rw [dif_neg h1]
  by_cases h2 : r.val - 256 - 256 < 256
  · rw [dif_pos h2]
    refine if_congr (by omega) (congrArg (fun a => xc (ix3 0 a c)) (Fin.ext ?_)) rfl
    show r.val - 256 - 256 = r.val % 256; omega
  rw [dif_neg h2]
  refine if_congr (by omega) (congrArg (fun a => xc (ix3 0 a c)) (Fin.ext ?_)) rfl
  show r.val - 256 - 256 - 256 = r.val % 256; omega

/-- The rows' totals, one column per head. -/
theorem totals_at (xr : FVec Ideal S1x256x256 .f32) (r : Fin 1024) :
    k0_pay93 (F := Ideal) xr (ix2 r 0) = xr (ix3 0 ⟨r.val % 256, Nat.mod_lt _ (by omega)⟩ ⟨64 * (r.val / 256), by have := r.2; omega⟩) := by
  pointwise [k0_pay93]
  have hr := r.2
  by_cases h0 : r.val < 256
  · rw [dif_pos h0]
    refine congrArg₂ (fun a b => xr (ix3 0 a b)) (Fin.ext ?_) (Fin.ext ?_)
    · show r.val = r.val % 256; omega
    · show 0 = 64 * (r.val / 256); omega
  rw [dif_neg h0]
  by_cases h1 : r.val - 256 < 256
  · rw [dif_pos h1]
    refine congrArg₂ (fun a b => xr (ix3 0 a b)) (Fin.ext ?_) (Fin.ext ?_)
    · show r.val - 256 = r.val % 256; omega
    · show 64 = 64 * (r.val / 256); omega
  rw [dif_neg h1]
  by_cases h2 : r.val - 256 - 256 < 256
  · rw [dif_pos h2]
    refine congrArg₂ (fun a b => xr (ix3 0 a b)) (Fin.ext ?_) (Fin.ext ?_)
    · show r.val - 256 - 256 = r.val % 256; omega
    · show 128 = 64 * (r.val / 256); omega
  rw [dif_neg h2]
  refine congrArg₂ (fun a b => xr (ix3 0 a b)) (Fin.ext ?_) (Fin.ext ?_)
  · show r.val - 256 - 256 - 256 = r.val % 256; omega
  · show 192 = 64 * (r.val / 256); omega

/-- `−softplus` of a real, and the log of the break. -/
theorem stay_at (z : FVec Ideal S1024x256 .f32) (r : Fin 1024) (c : Fin 256) (v : ℝ) (h : z (ix2 r c) = (v : EReal)) :
    stay z (ix2 r c) = ((-sp v : ℝ) : EReal) := by
  pointwise [stay, zeros, ones]
  rw [h, show (0 : EReal) = ((0 : ℝ) : EReal) from rfl, ← EReal.coe_sub, coe_min, coe_min, Ideal.exp_coe, log_one_add, ← EReal.coe_sub, zero_sub, neg_sp]

/-! ## The long arrays' blocks -/

/-- A block's element. -/
theorem cut_at {e : EltTy} (k : Vec Ideal S1x2048x256 e) (n : ℕ) (h) (r c : Fin 256) (hn : n < 8) :
    cut k ![0, 256 * n, 0] h (ix3 0 r c) = k (ix3 0 ⟨256 * n + r.val, by omega⟩ c) := by
  show k _ = k _
  congr 1
  funext a
  apply Fin.ext
  fin_cases a
  · rfl
  · show 256 * n + 1 * r.val = _; simp
  · show 0 + 1 * c.val = _; simp

theorem mat_at (k : FVec Ideal S1x256x256 .bf16) (r c : Fin 256) : mat (F := Ideal) k (ix2 r c) = k (ix3 0 r c) := by
  pointwise [mat]

/-- The array after an addition to a block. -/
theorem addAt_at (k : FVec Ideal S1x2048x256 .f32) (n : ℕ) (h) (d : FVec Ideal S256x256 .f32) (r : Fin 2048) (c : Fin 256) (hn : n < 8) :
    addAt (F := Ideal) k ![0, 256 * n, 0] h d (ix3 0 r c)
      = if h : 256 * n ≤ r.val ∧ r.val < 256 * (n + 1) then (k (ix3 0 r c) + d (ix2 ⟨r.val - 256 * n, by omega⟩ c) : EReal) else k (ix3 0 r c) := by
  unfold addAt VecWindow.put
  by_cases hb : 256 * n ≤ r.val ∧ r.val < 256 * (n + 1)
  · have hb' : ∀ a, ![0, 256 * n, 0] a ≤ ((ix3 0 r c : S1x2048x256.Idx) a).val ∧ ((ix3 0 r c : S1x2048x256.Idx) a).val < ![0, 256 * n, 0] a + S1x256x256.size a := by
      intro a; fin_cases a
      · exact ⟨Nat.le_refl _, Nat.lt_of_sub_eq_succ rfl⟩
      · exact ⟨hb.1, by show r.val < 256 * n + 256; omega⟩
      · exact ⟨Nat.zero_le _, by show c.val < 0 + 256; omega⟩
    rw [dif_pos hb, dif_pos hb']
    have hlt : r.val - 256 * n < 256 := by omega
    have e : Rect.unitLocal (s := S1x2048x256) (off := ![0, 256 * n, 0]) (size := S1x256x256.size) (ix3 0 r c) hb' = ix3 (0 : Fin 1) (⟨r.val - 256 * n, hlt⟩ : Fin 256) c := by
      funext a; apply Fin.ext; fin_cases a <;> rfl
    rw [e]
    pointwise
    rw [cut_at _ _ _ _ _ hn]
    congr 4
    show 256 * n + (r.val - 256 * n) = r.val; omega
  · rw [dif_neg hb, dif_neg]
    intro h'
    have h1 := h' 1
    have e1 : 256 * n ≤ r.val := h1.1
    have e2 : r.val < 256 * n + 256 := h1.2
    omega

end Cert.Sb
end
-- ==== Proof.Row.lean ====
/- One key block over the reals: what the kernel's block functions give on a point whose blocks hold real numbers, and the
   state after the first `n` key blocks of a point. -/
module

public import proofs.«01_k».proof.Proof.Lift

@[expose] public section

set_option maxRecDepth 16384

noncomputable section

namespace Cert.Sb

open Cert.KernelIdeal Cert.KernelIdeal.Gen
open Idealize.ShloMosaic

/-- The query position of a stacked row. -/
def pos (i : ℕ) (r : Fin 1024) : ℕ := 256 * i + r.val % 256

/-- A row against the rows of a long array. -/
def dotRow (Q : Fin 1024 → Fin 256 → ℝ) (K : ℕ → Fin 256 → ℝ) (r : Fin 1024) (s : ℕ) : ℝ := ∑ l : Fin 256, Q r l * K s l

/-- A point's shared blocks hold the reals `Q`, `D`, `K`, `V`, and each row's total over the keys before it. -/
structure Holds (C : Cx Ideal) (i : ℕ) (Q D : Fin 1024 → Fin 256 → ℝ) (K V : ℕ → Fin 256 → ℝ) : Prop where
  later : C.later = k0_pay87
  excl : C.excl = k0_pay88
  q : ∀ r c, C.q (ix2 r c) = (Q r c : EReal)
  ct : ∀ r c, C.ct (ix2 r c) = (D r c : EReal)
  k : ∀ (s : Fin 2048) (c : Fin 256), (show EReal from C.k (ix3 0 s c)) = (K s.val c : EReal)
  v : ∀ (s : Fin 2048) (c : Fin 256), (show EReal from C.v (ix3 0 s c)) = (V s.val c : EReal)
  r : ∀ r : Fin 1024, C.r (ix2 r 0) = (pre (lstay (dotRow Q K r) (pos i r)) 2048 : EReal)

section Block
variable {C : Cx Ideal} {i : ℕ} {Q D : Fin 1024 → Fin 256 → ℝ} {K V : ℕ → Fin 256 → ℝ} (H : Holds C i Q D K V)
variable {msk : FVec Ideal S1024x256 .f32 → FVec Ideal S1024x256 .f32} {n : ℕ} (hn : n < 8)
variable (h : ∀ a, ![0, 256 * n, 0] a + S1x256x256.size a ≤ S1x2048x256.size a)
variable (hm : ∀ (x : FVec Ideal S1024x256 .f32) (r : Fin 1024) (c : Fin 256),
  msk x (ix2 r c) = if 256 * n + c.val < pos i r then x (ix2 r c) else 0)

include H hn

theorem logit_real (r : Fin 1024) (c : Fin 256) : logit C ![0, 256 * n, 0] h (ix2 r c) = (dotRow Q K r (256 * n + c.val) : EReal) := by
  unfold logit; rw [nt_at]
  refine coe_dot _ _ _ _ (fun l => H.q r l) fun l => ?_
  rw [mat_at, cut_at _ _ _ _ _ hn]; exact H.k _ _

theorem dweight_real (r : Fin 1024) (c : Fin 256) : dweight C ![0, 256 * n, 0] h (ix2 r c) = (dotRow D V r (256 * n + c.val) : EReal) := by
  unfold dweight; rw [nt_at]
  refine coe_dot _ _ _ _ (fun l => H.ct r l) fun l => ?_
  rw [mat_at, cut_at _ _ _ _ _ hn]; exact H.v _ _

theorem brk_real (r : Fin 1024) (c : Fin 256) : brk C ![0, 256 * n, 0] h (ix2 r c)
    = ((dotRow Q K r (256 * n + c.val) - sp (dotRow Q K r (256 * n + c.val)) : ℝ) : EReal) := by
  have e := logit_real H hn h r c
  unfold brk
  show (logit C ![0, 256 * n, 0] h (ix2 r c) + stay (logit C ![0, 256 * n, 0] h) (ix2 r c) : EReal) = _
  rw [stay_at _ r c _ e, e, ← EReal.coe_add, ← sub_eq_add_neg]

include hm

theorem stayM_real (r : Fin 1024) (c : Fin 256) : stayM C msk ![0, 256 * n, 0] h (ix2 r c)
    = (lstay (dotRow Q K r) (pos i r) (256 * n + c.val) : EReal) := by
  unfold stayM lstay
  rw [hm, stay_at _ r c _ (logit_real H hn h r c)]
  split <;> rfl

theorem cpNext_real (cp : FVec Ideal S1024x256 .f32) (hcp : ∀ r c, cp (ix2 r c) = (pre (lstay (dotRow Q K r) (pos i r)) (256 * n) : EReal))
    (r : Fin 1024) (c : Fin 256) : cpNext C msk ![0, 256 * n, 0] h cp (ix2 r c) = (pre (lstay (dotRow Q K r) (pos i r)) (256 * (n + 1)) : EReal) := by
  unfold cpNext
  show (cp (ix2 r c) + rowSum (F := Ideal) _ (ix2 r c) : EReal) = _
  rw [hcp, rowSum_at, Finset.sum_congr rfl fun l _ => stayM_real H hn h hm r l, ← coe_sum, ← EReal.coe_add, pre_block]

theorem wts_real (cp : FVec Ideal S1024x256 .f32) (hcp : ∀ r c, cp (ix2 r c) = (pre (lstay (dotRow Q K r) (pos i r)) (256 * n) : EReal))
    (r : Fin 1024) (c : Fin 256) : wts C msk ![0, 256 * n, 0] h cp (ix2 r c) = (wt (dotRow Q K r) (pos i r) (256 * n + c.val) : EReal) := by
  unfold wts wt
  rw [hm]
  split
  · unfold weight
    show Ideal.exp (brk C _ h (ix2 r c) + ((spread C.r (ix2 r c) - cpNext C msk _ h cp (ix2 r c)) + nn (narrow _) C.later (ix2 r c))) = _
    rw [brk_real H hn h, spread_at, H.r, cpNext_real H hn h hm cp hcp, nn_at, narrow_eq, H.later,
      coe_dot _ _ _ (fun l : Fin 256 => if c.val < l.val then (1 : ℝ) else 0) (fun l => stayM_real H hn h hm r l)
        (fun l => by rw [later_at]; split <;> rfl), pre_later, ← EReal.coe_sub, ← EReal.coe_add, ← EReal.coe_add, Ideal.exp_coe]
    congr 3; ring
  · rfl

theorem gvec_real (cp : FVec Ideal S1024x256 .f32) (hcp : ∀ r c, cp (ix2 r c) = (pre (lstay (dotRow Q K r) (pos i r)) (256 * n) : EReal))
    (r : Fin 1024) (c : Fin 256) : gvec C msk ![0, 256 * n, 0] h cp (ix2 r c) = (gw (dotRow Q K r) (dotRow D V r) (pos i r) (256 * n + c.val) : EReal) := by
  unfold gvec gw
  show (dweight C _ h (ix2 r c) * wts C msk _ h cp (ix2 r c) : EReal) = _
  rw [dweight_real H hn h, wts_real H hn h hm cp hcp, EReal.coe_mul]

variable {cp cg : FVec Ideal S1024x256 .f32} (hcp : ∀ r c, cp (ix2 r c) = (pre (lstay (dotRow Q K r) (pos i r)) (256 * n) : EReal))
  (hcg : ∀ r c, cg (ix2 r c) = (pre (gw (dotRow Q K r) (dotRow D V r) (pos i r)) (256 * n) : EReal))
include hcp hcg

theorem cgNext_real (r : Fin 1024) (c : Fin 256) : cgNext C msk ![0, 256 * n, 0] h cp cg (ix2 r c)
    = (pre (gw (dotRow Q K r) (dotRow D V r) (pos i r)) (256 * (n + 1)) : EReal) := by
  unfold cgNext
  show (cg (ix2 r c) + rowSum (F := Ideal) _ (ix2 r c) : EReal) = _
  rw [hcg, rowSum_at, Finset.sum_congr rfl fun l _ => gvec_real H hn h hm cp hcp r l, ← coe_sum, ← EReal.coe_add, pre_block]

theorem dz_real (r : Fin 1024) (c : Fin 256) : dz C msk ![0, 256 * n, 0] h cp cg (ix2 r c)
    = (dlog (dotRow Q K r) (dotRow D V r) (pos i r) (256 * n + c.val) : EReal) := by
  unfold dz dlog
  rw [narrow_eq, hm]
  split
  · unfold dlogit
    show (gvec C msk _ h cp (ix2 r c) - Ideal.exp (brk C _ h (ix2 r c)) * (gvec C msk _ h cp (ix2 r c) + (nn (narrow _) C.excl (ix2 r c) + cg (ix2 r c))) : EReal) = _
    rw [brk_real H hn h, gvec_real H hn h hm cp hcp, hcg, nn_at, narrow_eq, H.excl,
      coe_dot _ _ _ (fun l : Fin 256 => if l.val < c.val then (1 : ℝ) else 0) (fun l => gvec_real H hn h hm cp hcp r l)
        (fun l => by rw [excl_at]; split <;> rfl), pre_earlier, Ideal.exp_coe, ← EReal.coe_add, ← EReal.coe_add, ← EReal.coe_mul, ← EReal.coe_sub, pre_succ]
    congr 3; ring
  · rfl

theorem dqPart_real (r : Fin 1024) (c : Fin 256) : dqPart C msk ![0, 256 * n, 0] h cp cg (ix2 r c)
    = ((∑ l : Fin 256, dlog (dotRow Q K r) (dotRow D V r) (pos i r) (256 * n + l.val) * K (256 * n + l.val) c : ℝ) : EReal) := by
  unfold dqPart; rw [nn_at]
  refine coe_dot _ _ _ _ (fun l => dz_real H hn h hm hcp hcg r l) fun l => ?_
  rw [mat_at, cut_at _ _ _ _ _ hn]; exact H.k _ _

end Block

/-- The state after the first `n` key blocks of a point that began with `A` and `B` in the key and value gradients. -/
structure Upto (i : ℕ) (Q D : Fin 1024 → Fin 256 → ℝ) (K V : ℕ → Fin 256 → ℝ) (A B : ℕ → Fin 256 → ℝ) (n : ℕ) (s : St Ideal) : Prop where
  dq : ∀ (r : Fin 1024) (c : Fin 256), (show EReal from s.dq (ix2 r c)) = (pre (fun u => dlog (dotRow Q K r) (dotRow D V r) (pos i r) u * K u c) (256 * n) : EReal)
  cp : ∀ (r : Fin 1024) (c : Fin 256), (show EReal from s.cp (ix2 r c)) = (pre (lstay (dotRow Q K r) (pos i r)) (256 * n) : EReal)
  cg : ∀ (r : Fin 1024) (c : Fin 256), (show EReal from s.cg (ix2 r c)) = (pre (gw (dotRow Q K r) (dotRow D V r) (pos i r)) (256 * n) : EReal)
  dk : ∀ (u : Fin 2048) (c : Fin 256), (show EReal from s.dk (ix3 0 u c))
    = ((A u.val c + if u.val < 256 * n then ∑ r : Fin 1024, dlog (dotRow Q K r) (dotRow D V r) (pos i r) u.val * Q r c else 0 : ℝ) : EReal)
  dv : ∀ (u : Fin 2048) (c : Fin 256), (show EReal from s.dv (ix3 0 u c))
    = ((B u.val c + if u.val < 256 * n then ∑ r : Fin 1024, wt (dotRow Q K r) (pos i r) u.val * D r c else 0 : ℝ) : EReal)

/-- An addition to block `n` of an array, over the reals. -/
theorem addAt_real (x : FVec Ideal S1x2048x256 .f32) (n : ℕ) (hn : n < 8) (h) (d : FVec Ideal S256x256 .f32) (A E : ℕ → Fin 256 → ℝ)
    (hx : ∀ (u : Fin 2048) (c : Fin 256), x (ix3 0 u c) = ((A u.val c + if u.val < 256 * n then E u.val c else 0 : ℝ) : EReal))
    (hd : ∀ (l c : Fin 256), d (ix2 l c) = (E (256 * n + l.val) c : EReal)) (u : Fin 2048) (c : Fin 256) :
    addAt (F := Ideal) x ![0, 256 * n, 0] h d (ix3 0 u c) = ((A u.val c + if u.val < 256 * (n + 1) then E u.val c else 0 : ℝ) : EReal) := by
  rw [addAt_at _ _ _ _ _ _ hn]
  by_cases hb : 256 * n ≤ u.val ∧ u.val < 256 * (n + 1)
  · rw [dif_pos hb, hx, hd, if_neg (by omega), if_pos hb.2, ← EReal.coe_add]
    show ((A u.val c + 0 + E (256 * n + (u.val - 256 * n)) c : ℝ) : EReal) = _
    rw [add_zero, Nat.add_sub_cancel' hb.1]
  · rw [dif_neg hb, hx]
    congr 2
    exact if_congr (by omega) rfl rfl

theorem one_upto {C : Cx Ideal} {i : ℕ} {Q D : Fin 1024 → Fin 256 → ℝ} {K V A B : ℕ → Fin 256 → ℝ} (H : Holds C i Q D K V)
    {msk : FVec Ideal S1024x256 .f32 → FVec Ideal S1024x256 .f32} {n : ℕ} (hn : n < 8)
    (h : ∀ a, ![0, 256 * n, 0] a + S1x256x256.size a ≤ S1x2048x256.size a)
    (hm : ∀ (x : FVec Ideal S1024x256 .f32) (r : Fin 1024) (c : Fin 256), msk x (ix2 r c) = if 256 * n + c.val < pos i r then x (ix2 r c) else 0)
    (s : St Ideal) (hs : Upto i Q D K V A B n s) : Upto i Q D K V A B (n + 1) (one C msk ![0, 256 * n, 0] h s) where
  dq r c := by
    show same (F := Ideal) (addf (F := Ideal) s.dq _) (ix2 r c) = _
    rw [same_eq]
    show ((show EReal from s.dq (ix2 r c)) + dqPart C msk _ h s.cp s.cg (ix2 r c) : EReal) = _
    rw [hs.dq, dqPart_real H hn h hm hs.cp hs.cg, ← EReal.coe_add, ← pre_block]
  cp r c := by
    exact (congrFun (same_eq _) (ix2 r c)).trans <| cpNext_real H hn h hm _ hs.cp r c
  cg r c := by
    exact (congrFun (same_eq _) (ix2 r c)).trans <| cgNext_real H hn h hm hs.cp hs.cg r c
  dk u c := by
    refine addAt_real _ n hn h _ A (fun u c => ∑ r : Fin 1024, dlog (dotRow Q K r) (dotRow D V r) (pos i r) u * Q r c) hs.dk (fun l c => ?_) u c
    rw [tn_at]
    exact coe_dot _ _ _ _ (fun r => dz_real H hn h hm hs.cp hs.cg r l) fun r => H.q r c
  dv u c := by
    refine addAt_real _ n hn h _ B (fun u c => ∑ r : Fin 1024, wt (dotRow Q K r) (pos i r) u * D r c) hs.dv (fun l c => ?_) u c
    rw [tn_at, narrow_eq]
    exact coe_dot _ _ _ _ (fun r => wts_real H hn h hm _ hs.cp r l) fun r => H.ct r c

/-- Two blocks at once are two blocks in turn. -/
theorem pair_eq (C : Cx Ideal) (oA oB : Fin 3 → ℕ) (hA : ∀ a, oA a + S1x256x256.size a ≤ S1x2048x256.size a)
    (hB : ∀ a, oB a + S1x256x256.size a ≤ S1x2048x256.size a) (s : St Ideal) :
    pair C oA oB hA hB s = one C id oB hB (one C id oA hA s) := by
  unfold pair one
  simp only [same_eq]
  congr 1
  funext j
  exact (add_assoc (show EReal from s.dq j) _ _).symm

end Cert.Sb
end
-- ==== Proof.Point.lean ====
/- A whole point over the reals: the key blocks before the diagonal in pairs and the odd one, the diagonal block, and the
   state they leave. -/
module

public import proofs.«01_k».proof.Proof.Row
public import proofs.«01_k».proof.Proof.Frame

@[expose] public section

set_option maxRecDepth 16384

noncomputable section

namespace Cert.Sb

open Cert.KernelIdeal Cert.KernelIdeal.Gen
open Idealize.ShloMosaic

/-! ## The blocks' offsets -/

theorem off1_eq (i : grid0.Coords) (k : Fin (k0_t1_loop i).trips) : k0_off1 i k = ![0, 256 * (2 * k.val), 0] := by
  have hk : k.val < 4 := by have h := k.2; have ht := t1_trips i; have e : (i 2).val < 8 := (i 2).2; omega
  unfold k0_off1
  generalize k.val = n at hk
  interval_cases n <;> rfl
theorem off2_eq (i : grid0.Coords) (k : Fin (k0_t1_loop i).trips) : k0_off2 i k = ![0, 256 * (2 * k.val + 1), 0] := by
  have hk : k.val < 4 := by have h := k.2; have ht := t1_trips i; have e : (i 2).val < 8 := (i 2).2; omega
  unfold k0_off2
  generalize k.val = n at hk
  interval_cases n <;> rfl
theorem off5_eq (i : grid0.Coords) (h : k0_cond2 i = 1#1) : k0_off5 i = ![0, 256 * ((i 2).val - 1), 0] := by
  have h1 : (i 2).val % 2 = 1 := (cond2_iff i).mp h
  unfold k0_off5
  revert h1
  generalize i 2 = n
  revert n
  decide +kernel
theorem off6_eq (i : grid0.Coords) : k0_off6 i = ![0, 256 * (i 2).val, 0] := by
  unfold k0_off6
  generalize i 2 = n
  revert n
  decide +kernel

section
variable {C : Cx Ideal} {i : ℕ} {Q D : Fin 1024 → Fin 256 → ℝ} {K V A B : ℕ → Fin 256 → ℝ} (H : Holds C i Q D K V)
include H

/-- One block at offsets that come to block `n`'s. -/
theorem one_at {msk : FVec Ideal S1024x256 .f32 → FVec Ideal S1024x256 .f32} {n : ℕ} (hn : n < 8) {o : Fin 3 → ℕ} (ho : o = ![0, 256 * n, 0])
    (h : ∀ a, o a + S1x256x256.size a ≤ S1x2048x256.size a)
    (hm : ∀ (x : FVec Ideal S1024x256 .f32) (r : Fin 1024) (c : Fin 256), msk x (ix2 r c) = if 256 * n + c.val < pos i r then x (ix2 r c) else 0)
    (s : St Ideal) (hs : Upto i Q D K V A B n s) : Upto i Q D K V A B (n + 1) (one C msk o h s) := by
  subst ho; exact one_upto H hn h hm s hs

/-- One block before the diagonal. -/
theorem one_before {n : ℕ} (hn : n < i) (hi : i < 8) {o : Fin 3 → ℕ} (ho : o = ![0, 256 * n, 0])
    (h : ∀ a, o a + S1x256x256.size a ≤ S1x2048x256.size a) (s : St Ideal) (hs : Upto i Q D K V A B n s) :
    Upto i Q D K V A B (n + 1) (one C id o h s) :=
  one_at H (by omega) ho h (fun x r c => (if_pos (by have := c.2; unfold pos; omega)).symm) s hs

theorem pairs_upto (co : grid0.Coords) (hi : i = (co 2).val) (s : St Ideal) (hs : Upto i Q D K V A B 0 s) :
    ∀ n, n ≤ i / 2 → Upto i Q D K V A B (2 * n) (pairs C co s n)
  | 0, _ => hs
  | n + 1, h => by
    have h8 : (co 2).val < 8 := (co 2).2
    have ht : n < (k0_t1_loop co).trips := by rw [t1_trips]; omega
    rw [pairs, dif_pos ht, pair_eq]
    have e := pairs_upto co hi s hs n (by omega)
    exact one_before H (n := 2 * n + 1) (by omega) (by omega) (off2_eq co ⟨n, ht⟩) _ _
      (one_before H (n := 2 * n) (by omega) (by omega) (off1_eq co ⟨n, ht⟩) _ _ e)

/-- The state after all of a point's blocks. -/
theorem after_upto (co : grid0.Coords) (hi : i = (co 2).val) (s : St Ideal) (hs : Upto i Q D K V A B 0 s) :
    Upto i Q D K V A B (i + 1) (after C co s) := by
  have h8 : (co 2).val < 8 := (co 2).2
  have e := pairs_upto H co hi s hs (i / 2) (Nat.le_refl _)
  have ho : Upto i Q D K V A B i (odd C co (pairs C co s (k0_t1_loop co).trips)) := by
    rw [show (k0_t1_loop co).trips = i / 2 by rw [t1_trips, hi]]
    unfold odd
    by_cases hc : k0_cond2 co = 1#1
    · have h1 : (co 2).val % 2 = 1 := (cond2_iff co).mp hc
      rw [dif_pos hc]
      have := one_before H (n := 2 * (i / 2)) (by omega) (by omega) (o := k0_off5 co) (by rw [off5_eq co hc]; congr 3; omega) (k0_off5_inb co hc) _ e
      rwa [show 2 * (i / 2) + 1 = i by omega] at this
    · rw [dif_neg hc]
      have h1 : ¬ (co 2).val % 2 = 1 := fun h => hc ((cond2_iff co).mpr h)
      rwa [show 2 * (i / 2) = i by omega] at e
  unfold after
  refine one_at H (by omega) (by rw [off6_eq, hi]) _ (fun x r c => ?_) _ ho
  rw [diag_at]
  exact if_congr (by unfold pos; omega) rfl rfl

end

/-- The state a point starts from. -/
theorem start_upto (co : grid0.Coords) {i : ℕ} {Q D : Fin 1024 → Fin 256 → ℝ} {K V A B : ℕ → Fin 256 → ℝ} (dk dv : Vec Ideal S1x2048x256 .f32)
    (hk : ∀ (u : Fin 2048) (c : Fin 256), (show EReal from (start co dk dv).dk (ix3 0 u c)) = (A u.val c : EReal))
    (hv : ∀ (u : Fin 2048) (c : Fin 256), (show EReal from (start co dk dv).dv (ix3 0 u c)) = (B u.val c : EReal)) :
    Upto i Q D K V A B 0 (start co dk dv) where
  dq r c := by
    show (show EReal from k0_pay94 (F := Ideal) (ix2 r c)) = _
    pointwise [k0_pay94]; simp [pre]
  cp r c := by
    show (show EReal from k0_pay95 (F := Ideal) (ix2 r c)) = _
    pointwise [k0_pay95]; simp [pre]
  cg r c := by
    show (show EReal from k0_pay96 (F := Ideal) (Scalar.ofBits .f32 0x00000000#32) (ix2 r c)) = _
    pointwise [k0_pay96]; simp [pre]
  dk u c := (hk u c).trans (by simp)
  dv u c := (hv u c).trans (by simp)

end Cert.Sb
end
-- ==== Proof.Reads.lean ====
/- The kernel's arrays as reals, and what a point's blocks of them hold. -/
module

public import proofs.«01_k».proof.Proof.Point
public import Idealize.ShloMosaic.Lib.Pipeline.ValueKit
public import Idealize.ShloMosaic.Lib.Claim

@[expose] public section

set_option maxRecDepth 16384

noncomputable section

namespace Cert.Sb

open Cert.KernelIdeal Cert.KernelIdeal.Gen
open Idealize.ShloMosaic Idealize.ShloMosaic.TcCoe Idealize.SL.Sem

/-! ## The windows' block indices -/

theorem idx : ∀ t : Fin cfg0.N, win0_0.index t = ![t.val / 24, t.val % 8, t.val / 8 % 3] ∧ win0_1.index t = ![t.val / 24, 0, 3 + t.val / 8 % 3]
    ∧ win0_2.index t = ![t.val / 24, 0, 6 + t.val / 8 % 3] ∧ win0_3.index t = ![t.val / 24, t.val % 8, t.val / 8 % 3]
    ∧ win0_4.index t = ![t.val / 24, t.val % 8, t.val / 8 % 3] ∧ win0_5.index t = ![t.val / 24, t.val % 8, t.val / 8 % 3]
    ∧ win0_6.index t = ![t.val / 24, 0, t.val / 8 % 3] ∧ win0_7.index t = ![t.val / 24, 0, t.val / 8 % 3] :=
  (by decide +kernel : ∀ t : Fin grid0.N, _)

theorem point_lt (t : Fin cfg0.N) : t.val < 96 := t.2

variable (m : (ℓ : Loc nD τ sig) → Buf (Elt Ideal) ℓ) (c : Dev nD) (t : Fin cfg0.N)

theorem read0 (a l : Fin 256) : iblk m c 0 t (ix3 0 a l)
    = m ((c : Thread nD τ).loc main_arg0) (ix3 ⟨t.val / 24, by have := point_lt t; omega⟩ ⟨256 * (t.val % 8) + a.val, by omega⟩ ⟨256 * (t.val / 8 % 3) + l.val, by omega⟩ : S4x2048x2560.Idx) := by
  refine Eq.trans ?_ (congrFun (V_main_arg0 m c) _)
  blk_ext [iblk, idx t]
theorem read1 (s : Fin 2048) (l : Fin 256) : iblk m c 1 t (ix3 0 s l)
    = m ((c : Thread nD τ).loc main_arg0) (ix3 ⟨t.val / 24, by have := point_lt t; omega⟩ s ⟨768 + 256 * (t.val / 8 % 3) + l.val, by omega⟩ : S4x2048x2560.Idx) := by
  refine Eq.trans ?_ (congrFun (V_main_arg0 m c) _)
  blk_ext [iblk, idx t]
theorem read2 (s : Fin 2048) (l : Fin 256) : iblk m c 2 t (ix3 0 s l)
    = m ((c : Thread nD τ).loc main_arg0) (ix3 ⟨t.val / 24, by have := point_lt t; omega⟩ s ⟨1536 + 256 * (t.val / 8 % 3) + l.val, by omega⟩ : S4x2048x2560.Idx) := by
  refine Eq.trans ?_ (congrFun (V_main_arg0 m c) _)
  blk_ext [iblk, idx t]
theorem read3 (a l : Fin 256) : iblk m c 3 t (ix3 0 a l)
    = m ((c : Thread nD τ).loc main_arg1) (ix3 ⟨t.val / 24, by have := point_lt t; omega⟩ ⟨256 * (t.val % 8) + a.val, by omega⟩ ⟨256 * (t.val / 8 % 3) + l.val, by omega⟩ : S4x2048x1024.Idx) := by
  refine Eq.trans ?_ (congrFun (V_main_arg1 m c) _)
  blk_ext [iblk, idx t]
theorem read4 (a l : Fin 256) : iblk m c 4 t (ix3 0 a l)
    = V m c main_v24 (ix3 ⟨t.val / 24, by have := point_lt t; omega⟩ ⟨256 * (t.val % 8) + a.val, by omega⟩ ⟨256 * (t.val / 8 % 3) + l.val, by omega⟩ : S4x2048x768.Idx) := by
  blk_ext [iblk, idx t]

end Cert.Sb
end
-- ==== Proof.Data.lean ====
/- The gradients of stick-breaking attention as real sums over whole arrays, and the same sums grouped as the kernel groups
   them: four heads of 64 lanes stacked on the rows, blocks of 256 positions. -/
module

public import proofs.«01_k».proof.Proof.Row

@[expose] public section

set_option maxRecDepth 16384

noncomputable section

namespace Cert.Sb

open Idealize.ShloMosaic Idealize.ShloMosaic.TcCoe

/-! ## The whole arrays -/

section Spec
variable (x d : Fin 4 → ℕ → ℕ → ℝ) (b : Fin 4) (H : ℕ)

/-- The score of position `t` against position `s` in head `H`. -/
def score (t s : ℕ) : ℝ := (∑ e : Fin 64, x b t (H * 64 + e.val) * x b s (768 + (H * 64 + e.val))) * (1 / 8)

/-- The cotangent of the weight of `s` for `t`. -/
def wcot (t s : ℕ) : ℝ := ∑ e : Fin 64, d b t (H * 64 + e.val) * x b s (1536 + (H * 64 + e.val))

/-- The score's gradient. -/
def dsc (t s : ℕ) : ℝ := dlog (score x b H t) (wcot x d b H t) t s

/-- The weight. -/
def wgt (t s : ℕ) : ℝ := wt (score x b H t) t s

def gradQ (t f : ℕ) : ℝ := (∑ s ∈ Finset.range 2048, dsc x d b (f / 64) t s * x b s (768 + f)) * (1 / 8)
def gradK (s f : ℕ) : ℝ := ∑ t ∈ Finset.range 2048, dsc x d b (f / 64) t s * (x b t f * (1 / 8))
def gradV (s f : ℕ) : ℝ := ∑ t ∈ Finset.range 2048, wgt x b (f / 64) t s * d b t f

end Spec

/-- The arrays hold the reals `x` and `d` in the columns that count. -/
structure Reals (X : (⟨3, ![4, 2048, 2560]⟩ : Shape).Idx → EReal) (D : (⟨3, ![4, 2048, 1024]⟩ : Shape).Idx → EReal)
    (x d : Fin 4 → ℕ → ℕ → ℝ) : Prop where
  x : ∀ (b : Fin 4) (t : Fin 2048) (f : Fin 2560), f.val < 2304 → X (ix3 b t f) = (x b t.val f.val : EReal)
  d : ∀ (b : Fin 4) (t : Fin 2048) (f : Fin 1024), f.val < 768 → D (ix3 b t f) = (d b t.val f.val : EReal)

/-- The reals an array holds. -/
def realsOf {n : ℕ} (X : (⟨3, ![4, 2048, n]⟩ : Shape).Idx → EReal) (b : Fin 4) (t f : ℕ) : ℝ :=
  if h : t < 2048 ∧ f < n then (X (ix3 b ⟨t, h.1⟩ ⟨f, h.2⟩)).toReal else 0

theorem realsOf_at {n : ℕ} (X : (⟨3, ![4, 2048, n]⟩ : Shape).Idx → EReal) (b : Fin 4) (t : Fin 2048) (f : Fin n)
    (h : X (ix3 b t f) ≠ ⊤) (h' : X (ix3 b t f) ≠ ⊥) : X (ix3 b t f) = (realsOf X b t.val f.val : EReal) := by
  unfold realsOf
  rw [dif_pos ⟨t.2, f.2⟩]
  exact (EReal.coe_toReal h h').symm

/-! ## The kernel's grouping -/

/-- A sum over 256 lanes of which only one head's count. -/
theorem head_sum {M : Type} [AddCommMonoid M] (h : ℕ) (hh : h < 4) (A : ℕ → M) : (∑ l : Fin 256, if l.val / 64 = h then A l.val else 0) = ∑ e : Fin 64, A (h * 64 + e.val) := by
  rw [Fin.sum_univ_tiles 4 64 (by rfl) fun l : Fin 256 => if l.val / 64 = h then A l.val else 0]
  rw [Finset.sum_eq_single (⟨h, hh⟩ : Fin 4)]
  · refine Finset.sum_congr rfl fun e _ => ?_
    rw [if_pos]; show (h * 64 + e.val) / 64 = h; omega
  · intro j _ hj
    refine Finset.sum_eq_zero fun e _ => ?_
    rw [if_neg]
    show ¬ (j.val * 64 + e.val) / 64 = h
    have : j.val ≠ h := fun e => hj (Fin.ext e)
    omega
  · intro h; exact absurd (Finset.mem_univ _) h

/-- A sum over the 1024 stacked rows of which only one head's count. -/
theorem stack_sum (h : ℕ) (hh : h < 4) (A : ℕ → ℝ) : (∑ r : Fin 1024, if h = r.val / 256 then A (r.val % 256) else 0) = ∑ a : Fin 256, A a.val := by
  rw [Fin.sum_univ_tiles 4 256 (by rfl) fun r : Fin 1024 => if h = r.val / 256 then A (r.val % 256) else 0]
  rw [Finset.sum_eq_single (⟨h, hh⟩ : Fin 4)]
  · refine Finset.sum_congr rfl fun a _ => ?_
    show (if h = (h * 256 + a.val) / 256 then A ((h * 256 + a.val) % 256) else 0) = _
    rw [if_pos (by omega)]; congr 1; omega
  · intro j _ hj
    refine Finset.sum_eq_zero fun a _ => ?_
    rw [if_neg]
    show ¬ h = (j.val * 256 + a.val) / 256
    have : j.val ≠ h := fun e => hj (Fin.ext e)
    omega
  · intro h; exact absurd (Finset.mem_univ _) h

section Group
variable (x d : Fin 4 → ℕ → ℕ → ℝ) (b : Fin 4) (p i : ℕ)

def Qg (r : Fin 1024) (l : Fin 256) : ℝ := if l.val / 64 = r.val / 256 then x b (256 * i + r.val % 256) (256 * p + l.val) * (1 / 8) else 0
def Dg (r : Fin 1024) (l : Fin 256) : ℝ := if l.val / 64 = r.val / 256 then d b (256 * i + r.val % 256) (256 * p + l.val) else 0
def Kg (s : ℕ) (l : Fin 256) : ℝ := x b s (768 + (256 * p + l.val))
def Vg (s : ℕ) (l : Fin 256) : ℝ := x b s (1536 + (256 * p + l.val))

theorem dot_score (r : Fin 1024) : dotRow (Qg x b p i) (Kg x b p) r = score x b (4 * p + r.val / 256) (pos i r) := by
  funext s
  have hr := r.2
  unfold dotRow score pos
  refine Eq.trans ?_ ((head_sum (r.val / 256) (by omega) fun l => x b (256 * i + r.val % 256) (256 * p + l) * (1 / 8) * x b s (768 + (256 * p + l))).trans ?_)
  · refine Finset.sum_congr rfl fun l _ => ?_
    unfold Qg Kg; split <;> simp
  · rw [Finset.sum_mul]
    refine Finset.sum_congr rfl fun e _ => ?_
    rw [show 256 * p + (r.val / 256 * 64 + e.val) = (4 * p + r.val / 256) * 64 + e.val by omega]
    ring

theorem dot_wcot (r : Fin 1024) : dotRow (Dg d b p i) (Vg x b p) r = wcot x d b (4 * p + r.val / 256) (pos i r) := by
  funext s
  have hr := r.2
  unfold dotRow wcot pos
  refine Eq.trans ?_ ((head_sum (r.val / 256) (by omega) fun l => d b (256 * i + r.val % 256) (256 * p + l) * x b s (1536 + (256 * p + l))).trans ?_)
  · refine Finset.sum_congr rfl fun l _ => ?_
    unfold Dg Vg; split <;> simp
  · refine Finset.sum_congr rfl fun e _ => ?_
    rw [show 256 * p + (r.val / 256 * 64 + e.val) = (4 * p + r.val / 256) * 64 + e.val by omega]

/-- What a point adds to the key gradient. -/
theorem part_k (u : ℕ) (c : Fin 256) :
    (∑ r : Fin 1024, dlog (dotRow (Qg x b p i) (Kg x b p) r) (dotRow (Dg d b p i) (Vg x b p) r) (pos i r) u * Qg x b p i r c)
      = ∑ a : Fin 256, dsc x d b ((256 * p + c.val) / 64) (256 * i + a.val) u * (x b (256 * i + a.val) (256 * p + c.val) * (1 / 8)) := by
  refine Eq.trans ?_ (stack_sum (c.val / 64) (by omega) fun a => dsc x d b ((256 * p + c.val) / 64) (256 * i + a) u * (x b (256 * i + a) (256 * p + c.val) * (1 / 8)))
  refine Finset.sum_congr rfl fun r _ => ?_
  rw [dot_score, dot_wcot]
  unfold Qg
  split
  · next h => rw [show 4 * p + r.val / 256 = (256 * p + c.val) / 64 by omega]; rfl
  · simp

theorem part_v (u : ℕ) (c : Fin 256) :
    (∑ r : Fin 1024, wt (dotRow (Qg x b p i) (Kg x b p) r) (pos i r) u * Dg d b p i r c)
      = ∑ a : Fin 256, wgt x b ((256 * p + c.val) / 64) (256 * i + a.val) u * d b (256 * i + a.val) (256 * p + c.val) := by
  refine Eq.trans ?_ (stack_sum (c.val / 64) (by omega) fun a => wgt x b ((256 * p + c.val) / 64) (256 * i + a) u * d b (256 * i + a) (256 * p + c.val))
  refine Finset.sum_congr rfl fun r _ => ?_
  rw [dot_score]
  unfold Dg
  split
  · next h => rw [show 4 * p + r.val / 256 = (256 * p + c.val) / 64 by omega]; rfl
  · simp

/-- The query gradient of a stacked row, complete after the row's own block. -/
theorem part_q (r : Fin 1024) (c : Fin 256) (hi : i < 8) (hc : c.val / 64 = r.val / 256) :
    pre (fun u => dlog (dotRow (Qg x b p i) (Kg x b p) r) (dotRow (Dg d b p i) (Vg x b p) r) (pos i r) u * Kg x b p u c) (256 * (i + 1)) * (1 / 8)
      = gradQ x d b (256 * i + r.val % 256) (256 * p + c.val) := by
  unfold gradQ
  have e : ∀ n, 256 * (i + 1) ≤ n → pre (fun u => dlog (dotRow (Qg x b p i) (Kg x b p) r) (dotRow (Dg d b p i) (Vg x b p) r) (pos i r) u * Kg x b p u c) (256 * (i + 1))
      = pre (fun u => dlog (dotRow (Qg x b p i) (Kg x b p) r) (dotRow (Dg d b p i) (Vg x b p) r) (pos i r) u * Kg x b p u c) n := by
    intro n hn
    refine Finset.sum_subset (Finset.range_subset_range.2 hn) fun u _ hu => ?_
    have : ¬ u < 256 * (i + 1) := fun h => hu (Finset.mem_range.2 h)
    rw [dlog_zero _ _ _ (by unfold pos; omega), zero_mul]
  rw [e 2048 (by omega)]
  congr 1
  refine Finset.sum_congr rfl fun u _ => ?_
  rw [dot_score, dot_wcot, show 4 * p + r.val / 256 = (256 * p + c.val) / 64 by omega]
  rfl

end Group

/-- A sum over 2048 positions by blocks of 256. -/
theorem blocks_sum (A : ℕ → ℝ) : (∑ j ∈ Finset.range 8, ∑ a : Fin 256, A (256 * j + a.val)) = ∑ t ∈ Finset.range 2048, A t := by
  rw [Finset.sum_range, Finset.sum_range, Fin.sum_univ_tiles 8 256 (by rfl) fun t : Fin 2048 => A t.val]
  refine Finset.sum_congr rfl fun j _ => Finset.sum_congr rfl fun a _ => ?_
  show A (256 * j.val + a.val) = A (j.val * 256 + a.val)
  rw [Nat.mul_comm]

end Cert.Sb
end
-- ==== Proof.Elem.lean ====
/- The host's softplus and its causal mask at one element, over the reals. -/
module

public import proofs.«01_k».proof.Proof.Data

@[expose] public section

set_option maxRecDepth 16384

noncomputable section

namespace Cert.Sb

open Idealize.ShloMosaic Idealize.ShloMosaic.TcCoe Idealize.ShloMosaic.WordCmp

theorem soft_el (y : EReal) (v : ℝ) (h : y = (v : EReal)) :
    (if y ≠ y then y else max y 0 + Ideal.log1p (Ideal.exp (-FloatOps.absf (F := Ideal) (φ := .f32) y))) = (sp v : EReal) := by
  rw [if_neg (by simp), h]
  show max (v : EReal) ((0 : ℝ) : EReal) + Ideal.log (1 + Ideal.exp (-(max (v : EReal) (-(v : EReal))))) = _
  rw [← EReal.coe_neg, coe_max, coe_max, ← EReal.coe_neg, Ideal.exp_coe, log_one_add, ← EReal.coe_add]
  exact congrArg _ (sp_max v)

theorem mask_el (s T : ℕ) (hs : s < 2048) (hT : T < 2048) (p q : EReal) :
    Scalar.select (IntOp.cmpi .slt (BitVec.ofNat 32 s) (BitVec.ofNat 32 T)) p q = if s < T then p else q := by
  rw [cmpi_slt_of_lt (by rw [toNat_ofNat_of_lt] <;> omega) (by rw [toNat_ofNat_of_lt] <;> omega), toNat_ofNat_of_lt (by omega), toNat_ofNat_of_lt (by omega)]
  by_cases h : s < T <;> simp [h, Scalar.select]

end Cert.Sb
end
-- ==== Proof.Totals.lean ====
/- The row totals that the host computes for the kernel, operation by operation. -/
module

public import proofs.«01_k».proof.Proof.Elem
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Sb.Host

open Cert.KernelIdeal Cert.KernelIdeal.Gen
open Idealize.ShloMosaic Idealize.ShloMosaic.TcCoe Idealize.SL.Sem
open Idealize.ShloMosaic.StableHlo

abbrev Held := Valuation τ sig (Elt Ideal)

/-- The scores, from the first argument. -/
def scores (X : FVec Ideal S4x2048x2560 .bf16) : FVec Ideal S4x12x2048x2048 .f32 :=
  mulf (extf .f32 (truncf .bf16 (Host.dotGeneral dot_S4x2048x12x64_S4x2048x12x64_S4x12x2048x2048_3_3_1_1_02_02 none
    (shapeCast S4x2048x12x64 (extractStridedSlice S4x2048x768 ![0, 0, 0] (extf .f32 (extractStridedSlice S4x2048x1536 ![0, 0, 0] X slices_S4x2048x2560_S4x2048x1536_0_0_0) bitsLt_bf16_f32) slices_S4x2048x1536_S4x2048x768_0_0_0) shapeCasts_S4x2048x768_S4x2048x12x64)
    (shapeCast S4x2048x12x64 (extractStridedSlice S4x2048x768 ![0, 0, 768] (extf .f32 (extractStridedSlice S4x2048x1536 ![0, 0, 0] X slices_S4x2048x2560_S4x2048x1536_0_0_0) bitsLt_bf16_f32) slices_S4x2048x1536_S4x2048x768_0_0_768) shapeCasts_S4x2048x768_S4x2048x12x64)) bitsLt_bf16_f32) bitsLt_bf16_f32)
    (broadcastInDim S4x12x2048x2048 ![] bcast_S_S4x12x2048x2048 (constant (F := Ideal) S_ .f32 0x3E000000#32))

/-- Which columns lie before their row. -/
def earlier : IVec S2048x2048 1 :=
  cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))

/-- A number everywhere. -/
abbrev naught : FVec Ideal S4x12x2048x2048 .f32 := broadcastInDim S4x12x2048x2048 ![] bcast_S_S4x12x2048x2048 (constant (F := Ideal) S_ .f32 0x00000000#32)

def soft (z : FVec Ideal S4x12x2048x2048 .f32) : FVec Ideal S4x12x2048x2048 .f32 :=
  select (cmpf .une (subf z naught) (subf z naught)) (addf z naught) (addf (maximumf z naught) (Host.log1p (Host.exp (Host.negf (Host.absf (subf z naught))))))

def spreadTotals (w : FVec Ideal S4x12x2048x2048 .f32) : FVec Ideal S4x2048x768 .f32 :=
  shapeCast S4x2048x768 (broadcastInDim S4x2048x12x64 ![0, 1, 2] bcast_S4x2048x12_S4x2048x12x64_0_1_2 (transpose S4x2048x12 [0, 2, 1] (Host.reduceAdd w (constant (F := Ideal) S_ .f32 0x00000000#32) reducesTo_S4x12x2048x2048_S4x12x2048_d3 h_S_) transposes_S4x12x2048_S4x2048x12_0_2_1)) shapeCasts_S4x2048x12x64_S4x2048x768

theorem first_v10 (σ : Held) : StableHlo.after hostOps0 σ (Proc.devRef .tc main_v10) = scores (σ (Proc.devRef .tc main_arg0)) := by
  simp only [hostOps0]
  after_results_simp
  all_goals rfl
theorem first_v17 (σ : Held) : StableHlo.after hostOps0 σ (Proc.devRef .tc main_v17) = earlier := by
  simp only [hostOps0]
  after_results_simp
  all_goals rfl
theorem second_v18 (σ : Held) : StableHlo.after hostOps0_1 σ (Proc.devRef .tc main_v18) = soft (σ (Proc.devRef .tc main_v10)) := by
  simp only [hostOps0_1, TRef.binary, TRef.nullary, TRef.unary, TRef.ternary, TRef.toBuf, TRef.ofBuf, cast_eq]
  after_results_simp
  all_goals rfl
theorem second_v17 (σ : Held) : StableHlo.after hostOps0_1 σ (Proc.devRef .tc main_v17) = σ (Proc.devRef .tc main_v17) := by
  simp only [hostOps0_1, TRef.binary, TRef.nullary, TRef.unary, TRef.ternary, TRef.toBuf, TRef.ofBuf, cast_eq]
  after_results_simp
  all_goals rfl
theorem fourth_v20 (σ : Held) : StableHlo.after hostOps0_3 (StableHlo.after hostOps0_2 σ) (Proc.devRef .tc main_v20)
    = select (broadcastInDim S4x12x2048x2048 ![2, 3] bcast_S2048x2048_S4x12x2048x2048_2_3 (σ (Proc.devRef .tc main_v17))) (Host.negf (σ (Proc.devRef .tc main_v18))) naught := by
  simp only [hostOps0_2, hostOps0_3, TRef.binary, TRef.nullary, TRef.unary, TRef.ternary, TRef.toBuf, TRef.ofBuf, cast_eq]
  after_results_simp
  all_goals rfl
theorem fifth_v24 (σ : Held) : StableHlo.after hostOps0_4 σ (Proc.devRef .tc main_v24) = spreadTotals (σ (Proc.devRef .tc main_v20)) := by
  simp only [hostOps0_4]
  after_results_simp
  all_goals rfl

theorem after_app (l k : List (HloOp τ sig (Elt Ideal))) (σ : Held) : StableHlo.after (l ++ k) σ = StableHlo.after k (StableHlo.after l σ) := by
  induction l generalizing σ with
  | nil => rfl
  | cons o l ih => exact ih _

/-- The totals the kernel reads, as one expression. -/
theorem totals_val (m : (ℓ : Loc nD τ sig) → Buf (Elt Ideal) ℓ) (c : Dev nD) :
    V m c main_v24 = spreadTotals (select (broadcastInDim S4x12x2048x2048 ![2, 3] bcast_S2048x2048_S4x12x2048x2048_2_3 earlier) (Host.negf (soft (scores (m ((c : Thread nD τ).loc main_arg0))))) naught) := by
  unfold V
  simp only [List.flatten_cons, List.flatten_nil, List.append_nil, after_app]
  rw [fifth_v24, fourth_v20, second_v17, second_v18, first_v10, first_v17]

theorem scores_at (X : FVec Ideal S4x2048x2560 .bf16) {D} {x d : Fin 4 → ℕ → ℕ → ℝ} (R : Reals X D x d) (b : Fin 4) (h : Fin 12) (T s : Fin 2048) :
    (show EReal from scores X (ix4 b h T s)) = (score x b h.val T.val s.val : EReal) := by
  pointwise [scores]
  rw [eighth_f32]
  unfold score
  rw [EReal.coe_mul]
  congr 1
  refine coe_dot _ _ _ _ (fun e => R.x b T _ ?_) fun e => R.x b s _ ?_
  · show h.val * 64 + e.val < 2304; omega
  · show 768 + (h.val * 64 + e.val) < 2304; omega

/-- A row's total, in each of its head's lanes. -/
theorem total_at (m : (ℓ : Loc nD τ sig) → Buf (Elt Ideal) ℓ) (c : Dev nD) {D} {x d : Fin 4 → ℕ → ℕ → ℝ}
    (R : Reals (m ((c : Thread nD τ).loc main_arg0)) D x d) (b : Fin 4) (T : Fin 2048) (f : Fin 768) :
    (show EReal from V m c main_v24 (ix3 b T f)) = (pre (lstay (score x b (f.val / 64) T.val) T.val) 2048 : EReal) := by
  rw [totals_val]
  generalize hz : scores (m ((c : Thread nD τ).loc main_arg0)) = z
  have hz' : ∀ (h : Fin 12) (T s : Fin 2048), (show EReal from z (ix4 b h T s)) = (score x b h.val T.val s.val : EReal) := fun h T s => by rw [← hz]; exact scores_at _ R b h T s
  have e : ∀ s : Fin 2048, (show EReal from select (broadcastInDim S4x12x2048x2048 ![2, 3] bcast_S2048x2048_S4x12x2048x2048_2_3 earlier) (Host.negf (soft z)) naught (ix4 b (⟨f.val / 64, by omega⟩ : Fin 12) T s))
      = (lstay (score x b (f.val / 64) T.val) T.val s.val : EReal) := fun s => by
    pointwise [earlier, soft, naught]
    rw [mask_el _ _ s.2 T.2, soft_el _ _ (hz' _ T s)]
    unfold lstay
    split <;> rfl
  generalize select _ _ _ = w at e
  pointwise [spreadTotals]
  rw [Finset.sum_congr rfl fun s _ => e s, ← coe_sum]
  unfold pre
  rw [Finset.sum_range]

end Cert.Sb.Host
end
-- ==== Proof.Group.lean ====
/- The kernel's points over the reals: what a point's blocks hold, and what the points of a batch element and head group leave in
   the key and value gradients. -/
module

public import proofs.«01_k».proof.Proof.Reads
public import proofs.«01_k».proof.Proof.Totals
public import proofs.«01_k».proof.Proof.Frame

@[expose] public section

set_option maxRecDepth 16384

noncomputable section

namespace Cert.Sb

open Cert.KernelIdeal Cert.KernelIdeal.Gen
open Idealize.ShloMosaic Idealize.ShloMosaic.TcCoe Idealize.SL.Sem

variable (m : (ℓ : Loc nD τ sig) → Buf (Elt Ideal) ℓ) (c : Dev nD)
variable {x d : Fin 4 → ℕ → ℕ → ℝ} (R : Reals (m ((c : Thread nD τ).loc main_arg0)) (m ((c : Thread nD τ).loc main_arg1)) x d)

/-- A point's batch element. -/
def bat (t : Fin cfg0.N) : Fin 4 := ⟨t.val / 24, by have := point_lt t; omega⟩

include R

theorem holds_at (t : Fin cfg0.N) : Holds (ctxAt m c t) (t.val % 8) (Qg x (bat t) (t.val / 8 % 3) (t.val % 8)) (Dg d (bat t) (t.val / 8 % 3) (t.val % 8))
    (Kg x (bat t) (t.val / 8 % 3)) (Vg x (bat t) (t.val / 8 % 3)) where
  later := rfl
  excl := rfl
  q r l := by
    refine (stackQ_at (iblk m c 0 t) r l).trans ?_
    unfold Qg
    split
    · rw [read0, R.x _ _ _ (by show 256 * (t.val / 8 % 3) + l.val < 2304; omega), ← EReal.coe_mul]; rfl
    · rfl
  ct r l := by
    refine (stackC_at (iblk m c 3 t) r l).trans ?_
    unfold Dg
    split
    · rw [read3, R.d _ _ _ (by show 256 * (t.val / 8 % 3) + l.val < 768; omega)]; rfl
    · rfl
  k s l := by
    refine (read1 m c t s l).trans ((R.x _ _ _ (by show 768 + 256 * (t.val / 8 % 3) + l.val < 2304; omega)).trans ?_)
    unfold Kg bat
    rw [← Nat.add_assoc]
  v s l := by
    refine (read2 m c t s l).trans ((R.x _ _ _ (by show 1536 + 256 * (t.val / 8 % 3) + l.val < 2304; omega)).trans ?_)
    unfold Vg bat
    rw [← Nat.add_assoc]
  r r := by
    have hr := r.2
    refine (totals_at (iblk m c 4 t) r).trans ((read4 m c t _ _).trans ((Host.total_at m c R _ _ _).trans ?_))
    rw [dot_score]
    unfold pos
    rw [show 4 * (t.val / 8 % 3) + r.val / 256 = (256 * (t.val / 8 % 3) + 64 * (r.val / 256)) / 64 by omega]
    rfl

omit R

/-- What the first `n` query blocks of a group give to the key gradient. -/
def sumK (x d : Fin 4 → ℕ → ℕ → ℝ) (b : Fin 4) (p n : ℕ) (u : ℕ) (l : Fin 256) : ℝ := ∑ j ∈ Finset.range n, ∑ a : Fin 256,
  dsc x d b ((256 * p + l.val) / 64) (256 * j + a.val) u * (x b (256 * j + a.val) (256 * p + l.val) * (1 / 8))
/-- What they give to the value gradient. -/
def sumV (x d : Fin 4 → ℕ → ℕ → ℝ) (b : Fin 4) (p n : ℕ) (u : ℕ) (l : Fin 256) : ℝ := ∑ j ∈ Finset.range n, ∑ a : Fin 256,
  wgt x b ((256 * p + l.val) / 64) (256 * j + a.val) u * d b (256 * j + a.val) (256 * p + l.val)

theorem sumK_all (x d : Fin 4 → ℕ → ℕ → ℝ) (b : Fin 4) (p : ℕ) (u : ℕ) (l : Fin 256) : sumK x d b p 8 u l = gradK x d b u (256 * p + l.val) :=
  blocks_sum fun t => dsc x d b ((256 * p + l.val) / 64) t u * (x b t (256 * p + l.val) * (1 / 8))
theorem sumV_all (x d : Fin 4 → ℕ → ℕ → ℝ) (b : Fin 4) (p : ℕ) (u : ℕ) (l : Fin 256) : sumV x d b p 8 u l = gradV x d b u (256 * p + l.val) :=
  blocks_sum fun t => wgt x b ((256 * p + l.val) / 64) t u * d b t (256 * p + l.val)

/-- The state before a point, as the point starts from it, holds what the group's earlier points gave. -/
structure Begun (x d : Fin 4 → ℕ → ℕ → ℝ) (t : Fin cfg0.N) (s : St Ideal) : Prop where
  dk : ∀ (u : Fin 2048) (l : Fin 256), (show EReal from (start (grid0.coords t) s.dk s.dv).dk (ix3 0 u l)) = (sumK x d (bat t) (t.val / 8 % 3) (t.val % 8) u.val l : EReal)
  dv : ∀ (u : Fin 2048) (l : Fin 256), (show EReal from (start (grid0.coords t) s.dk s.dv).dv (ix3 0 u l)) = (sumV x d (bat t) (t.val / 8 % 3) (t.val % 8) u.val l : EReal)

include R

theorem step_upto (t : Fin cfg0.N) (s : St Ideal) (h : Begun x d t s) :
    Upto (t.val % 8) (Qg x (bat t) (t.val / 8 % 3) (t.val % 8)) (Dg d (bat t) (t.val / 8 % 3) (t.val % 8))
      (Kg x (bat t) (t.val / 8 % 3)) (Vg x (bat t) (t.val / 8 % 3))
      (sumK x d (bat t) (t.val / 8 % 3) (t.val % 8)) (sumV x d (bat t) (t.val / 8 % 3) (t.val % 8)) (t.val % 8 + 1) (step m c t s) :=
  after_upto (holds_at m c R t) (grid0.coords t) (coord2 t).symm _ (start_upto _ _ _ h.dk h.dv)

theorem step_dk (t : Fin cfg0.N) (s : St Ideal) (h : Begun x d t s) (u : Fin 2048) (l : Fin 256) :
    (show EReal from (step m c t s).dk (ix3 0 u l)) = (sumK x d (bat t) (t.val / 8 % 3) (t.val % 8 + 1) u.val l : EReal) := by
  rw [(step_upto m c R t s h).dk u l]
  congr 1
  have e : sumK x d (bat t) (t.val / 8 % 3) (t.val % 8 + 1) u.val l = sumK x d (bat t) (t.val / 8 % 3) (t.val % 8) u.val l + _ := Finset.sum_range_succ _ _
  rw [e, ← part_k]
  congr 1
  split
  · rfl
  · next hu =>
    refine (Finset.sum_eq_zero fun r _ => ?_).symm
    rw [dlog_zero _ _ _ (by unfold pos; omega), zero_mul]

theorem step_dv (t : Fin cfg0.N) (s : St Ideal) (h : Begun x d t s) (u : Fin 2048) (l : Fin 256) :
    (show EReal from (step m c t s).dv (ix3 0 u l)) = (sumV x d (bat t) (t.val / 8 % 3) (t.val % 8 + 1) u.val l : EReal) := by
  rw [(step_upto m c R t s h).dv u l]
  congr 1
  have e : sumV x d (bat t) (t.val / 8 % 3) (t.val % 8 + 1) u.val l = sumV x d (bat t) (t.val / 8 % 3) (t.val % 8) u.val l + _ := Finset.sum_range_succ _ _
  rw [e, ← part_v]
  congr 1
  split
  · rfl
  · next hu =>
    refine (Finset.sum_eq_zero fun r _ => ?_).symm
    rw [wt_zero _ _ (by unfold pos; omega), zero_mul]

/-- Every point finds what the group's earlier points gave. -/
theorem begun (n : ℕ) : ∀ h : n < cfg0.N, Begun x d ⟨n, h⟩ (before m c n) := by
  induction n with
  | zero =>
    intro h
    have h0 : (grid0.coords (⟨0, h⟩ : Fin grid0.N) 2).val = 0 := coord2 _
    constructor
    · intro u l
      unfold start; dsimp only; rw [if_pos h0]; pointwise [k0_pay81]; simp [sumK]
    · intro u l
      unfold start; dsimp only; rw [if_pos h0]; pointwise [k0_pay82]; simp [sumV]
  | succ n ih =>
    intro h
    have hn : n < cfg0.N := Nat.lt_of_succ_lt h
    have e : before m c (n + 1) = step m c ⟨n, hn⟩ (before m c n) := before_succ m c ⟨n, hn⟩
    by_cases h8 : (n + 1) % 8 = 0
    · have h0 : (grid0.coords (⟨n + 1, h⟩ : Fin grid0.N) 2).val = 0 := (coord2 _).trans h8
      constructor
      · intro u l
        unfold start; dsimp only; rw [if_pos h0, h8]; pointwise [k0_pay81]; simp [sumK]
      · intro u l
        unfold start; dsimp only; rw [if_pos h0, h8]; pointwise [k0_pay82]; simp [sumV]
    · have h0 : ¬ (grid0.coords (⟨n + 1, h⟩ : Fin grid0.N) 2).val = 0 := fun q => h8 ((coord2 ⟨n + 1, h⟩).symm.trans q)
      have eb : bat ⟨n + 1, h⟩ = bat ⟨n, hn⟩ := Fin.ext (by show (n + 1) / 24 = n / 24; omega)
      have ep : (n + 1) / 8 % 3 = n / 8 % 3 := by omega
      have ei : (n + 1) % 8 = n % 8 + 1 := by omega
      constructor
      · intro u l
        unfold start; dsimp only; rw [if_neg h0, e, eb, ep, ei]; exact step_dk m c R ⟨n, hn⟩ _ (ih hn) u l
      · intro u l
        unfold start; dsimp only; rw [if_neg h0, e, eb, ep, ei]; exact step_dv m c R ⟨n, hn⟩ _ (ih hn) u l

theorem left_dk (t : Fin cfg0.N) (ht : t.val % 8 = 7) (u : Fin 2048) (l : Fin 256) :
    (show EReal from (left m c t).dk (ix3 0 u l)) = (gradK x d (bat t) u.val (256 * (t.val / 8 % 3) + l.val) : EReal) := by
  refine (step_dk m c R t _ (begun m c R t.val t.2) u l).trans ?_
  rw [ht, sumK_all]
theorem left_dv (t : Fin cfg0.N) (ht : t.val % 8 = 7) (u : Fin 2048) (l : Fin 256) :
    (show EReal from (left m c t).dv (ix3 0 u l)) = (gradV x d (bat t) u.val (256 * (t.val / 8 % 3) + l.val) : EReal) := by
  refine (step_dv m c R t _ (begun m c R t.val t.2) u l).trans ?_
  rw [ht, sumV_all]

omit R in
/-- A row of one of the four heads' rows. -/
theorem rows_at (y : Vec Ideal S1024x256 .f32) (o : ℕ) (h) (a l : Fin 256) (ho : o ≤ 768) :
    VecWindow.window (s := S1024x256) y ![o, 0] S256x256.size h (ix2 a l) = y (ix2 ⟨o + a.val, by omega⟩ l) := by
  show y _ = y _
  congr 1
  funext k
  apply Fin.ext
  fin_cases k
  · show o + 1 * a.val = _; simp
  · show 0 + 1 * l.val = _; simp

/-- The block of the query gradient that a point writes. -/
theorem left_dq (t : Fin cfg0.N) (a l : Fin 256) :
    (show EReal from outQ (left m c t) (ix3 0 a l)) = (gradQ x d (bat t) (256 * (t.val % 8) + a.val) (256 * (t.val / 8 % 3) + l.val) : EReal) := by
  have U := (step_upto m c R t _ (begun m c R t.val t.2)).dq
  have e : (show EReal from outQ (left m c t) (ix3 0 a l)) = (left m c t).dq (ix2 ⟨256 * (l.val / 64) + a.val, by omega⟩ l) * ((1 / 8 : ℝ) : EReal) := by
    generalize left m c t = s
    pointwise [outQ, k0_pay1, k0_pay84, k0_pay85, k0_pay86]
    rw [eighth_f32]
    have hl := l.2
    simp only [lanes l.val 64 128 hl (by omega) (by omega), lanes l.val 128 192 hl (by omega) (by omega), lanes l.val 192 256 hl (by omega) (by omega)]
    have w0 := rows_at s.dq 0 inb_S1024x256_S256x256_0_0 a l (by omega)
    have w1 := rows_at s.dq 256 inb_S1024x256_S256x256_256_0 a l (by omega)
    have w2 := rows_at s.dq 512 inb_S1024x256_S256x256_512_0 a l (by omega)
    have w3 := rows_at s.dq 768 inb_S1024x256_S256x256_768_0 a l (by omega)
    congr 1
    split
    · refine w3.trans (congrArg (fun r => s.dq (ix2 r l)) (Fin.ext ?_)); show 768 + a.val = 256 * (l.val / 64) + a.val; omega
    split
    · refine w2.trans (congrArg (fun r => s.dq (ix2 r l)) (Fin.ext ?_)); show 512 + a.val = 256 * (l.val / 64) + a.val; omega
    split
    · refine w1.trans (congrArg (fun r => s.dq (ix2 r l)) (Fin.ext ?_)); show 256 + a.val = 256 * (l.val / 64) + a.val; omega
    · refine w0.trans (congrArg (fun r => s.dq (ix2 r l)) (Fin.ext ?_)); show 0 + a.val = 256 * (l.val / 64) + a.val; omega
  rw [e]
  refine (congrArg (· * ((1 / 8 : ℝ) : EReal)) (U _ _)).trans ?_
  rw [← EReal.coe_mul, part_q _ _ _ _ _ _ _ (by omega) (by show _ = (256 * (l.val / 64) + a.val) / 256; omega)]
  congr 2
  show 256 * (t.val % 8) + (256 * (l.val / 64) + a.val) % 256 = _
  omega

end Cert.Sb
end
-- ==== Proof.Arrays.lean ====
/- The three arrays the kernel leaves: the gradients of stick-breaking attention. -/
module

public import proofs.«01_k».proof.Proof.Group

@[expose] public section

set_option maxRecDepth 16384

noncomputable section

namespace Cert.Sb

open Cert.KernelIdeal Cert.KernelIdeal.Gen
open Idealize.ShloMosaic Idealize.ShloMosaic.TcCoe Idealize.SL.Sem

/-- An array of reals. -/
def asArray (g : Fin 4 → ℕ → ℕ → ℝ) : (⟨3, ![4, 2048, 768]⟩ : Shape).Idx → EReal := fun i => (g (i 0) (i 1).val (i 2).val : EReal)

theorem asArray_at (g : Fin 4 → ℕ → ℕ → ℝ) (b : Fin 4) (t : Fin 2048) (f : Fin 768) : asArray g (ix3 b t f) = (g b t.val f.val : EReal) := rfl

variable (m : (ℓ : Loc nD τ sig) → Buf (Elt Ideal) ℓ) (c : Dev nD)
variable {x d : Fin 4 → ℕ → ℕ → ℝ} (R : Reals (m ((c : Thread nD τ).loc main_arg0)) (m ((c : Thread nD τ).loc main_arg1)) x d)

theorem flush6 : ∀ t : Fin cfg0.N, (cfg0.win 6).flush t = true → t.val % 8 = 7 := (by decide +kernel : ∀ t : Fin grid0.N, _)
theorem flush7 : ∀ t : Fin cfg0.N, (cfg0.win 7).flush t = true → t.val % 8 = 7 := (by decide +kernel : ∀ t : Fin grid0.N, _)

theorem one_idx {n k : ℕ} (y : (⟨3, ![1, n, k]⟩ : Shape).Idx) : y = ix3 (0 : Fin 1) (y 1) (y 2) := by
  funext a
  match a with
  | ⟨0, _⟩ => exact Subsingleton.elim (α := Fin 1) _ _
  | ⟨1, _⟩ => rfl
  | ⟨2, _⟩ => rfl

include R

theorem arr5 : (dats m 0 c).arrAt 5 cfg0.N = asArray (gradQ x d) := by
  refine (dats m 0 c).arrAt_eq_of_covers 5 _ (by decide +kernel) fun t hf y => ?_
  blk_simp
  rw [after0_5]
  have key : ∀ y : S1x256x256.Idx, (show EReal from outQ (left m c t) y) = (gradQ x d (bat t) (256 * (t.val % 8) + (y 1).val) (256 * (t.val / 8 % 3) + (y 2).val) : EReal) := fun y =>
    (congrArg (outQ (left m c t)) (one_idx y)).trans (left_dq m c R t (y 1) (y 2))
  refine (key y).trans ?_
  unfold asArray bat
  congr 2
  · apply Fin.ext
    blk_simp [idx t]
  · blk_simp [idx t]; omega
  · blk_simp [idx t]; omega

theorem arr6 : (dats m 0 c).arrAt 6 cfg0.N = asArray (gradK x d) := by
  refine (dats m 0 c).arrAt_eq_of_covers 6 _ (by decide +kernel) fun t hf y => ?_
  have ht := flush6 t hf
  blk_simp
  rw [after0_6]
  have key : ∀ y : S1x2048x256.Idx, (show EReal from k0_pay2 (left m c t).dk y) = (gradK x d (bat t) ((y 1).val) (256 * (t.val / 8 % 3) + (y 2).val) : EReal) := fun y =>
    (congrArg (fun y => show EReal from k0_pay2 (left m c t).dk y) (one_idx y)).trans (left_dk m c R t ht (y 1) (y 2))
  refine (key y).trans ?_
  unfold asArray bat
  congr 2
  · apply Fin.ext
    blk_simp [idx t]
  · blk_simp [idx t]
  · blk_simp [idx t]; omega

theorem arr7 : (dats m 0 c).arrAt 7 cfg0.N = asArray (gradV x d) := by
  refine (dats m 0 c).arrAt_eq_of_covers 7 _ (by decide +kernel) fun t hf y => ?_
  have ht := flush7 t hf
  blk_simp
  rw [after0_7]
  have key : ∀ y : S1x2048x256.Idx, (show EReal from k0_pay3 (left m c t).dv y) = (gradV x d (bat t) ((y 1).val) (256 * (t.val / 8 % 3) + (y 2).val) : EReal) := fun y =>
    (congrArg (fun y => show EReal from k0_pay3 (left m c t).dv y) (one_idx y)).trans (left_dv m c R t ht (y 1) (y 2))
  refine (key y).trans ?_
  unfold asArray bat
  congr 2
  · apply Fin.ext
    blk_simp [idx t]
  · blk_simp [idx t]
  · blk_simp [idx t]; omega

end Cert.Sb
end
-- ==== Proof.Running.lean ====
/- The host's running sums along the last axis, from the left and from the right, as sums. -/
module

public import proofs.«01_k».proof.Proof.Lift

@[expose] public section

noncomputable section

namespace Cert.Sb

open Idealize.ShloMosaic Idealize.ShloMosaic.TcCoe

theorem foldl_plus {α : Type} (l : List α) (g : α → EReal) (a : EReal) :
    l.foldl (fun r n => r + g n) a = a + (l.map g).sum := by
  induction l generalizing a with
  | nil => simp
  | cons x l ih => rw [List.foldl_cons, ih, List.map_cons, List.sum_cons, add_assoc]

/-- The array's element under a window's position, nothing outside the array. -/
def under {A B C N : Nat} (lo : Fin 4 → Nat) (x : (⟨4, ![A, B, C, N]⟩ : Shape).Idx → EReal)
    (j : (⟨4, ![A, B, C, N]⟩ : Shape).Idx) (w : (⟨4, ![1, 1, 1, N]⟩ : Shape).Idx) : EReal :=
  if hin : ∀ a : Fin 4, lo a ≤ (j a).val * (![1, 1, 1, 1] : Fin 4 → Nat) a + (w a).val
      ∧ (j a).val * (![1, 1, 1, 1] : Fin 4 → Nat) a + (w a).val - lo a < (⟨4, ![A, B, C, N]⟩ : Shape).size a
  then x (fun a => ⟨(j a).val * (![1, 1, 1, 1] : Fin 4 → Nat) a + (w a).val - lo a, (hin a).2⟩) else 0

/-- A window sum as a sum over the window's last coordinate, for a window of one row. -/
theorem window_sum {A B C N : Nat} (lo hi : Fin 4 → Nat) (x : (⟨4, ![A, B, C, N]⟩ : Shape).Idx → EReal)
    (h : (⟨4, ![A, B, C, N]⟩ : Shape).ReduceWindows ![1, 1, 1, N] ![1, 1, 1, 1] lo hi ⟨4, ![A, B, C, N]⟩)
    (j : (⟨4, ![A, B, C, N]⟩ : Shape).Idx) :
    Ideal.hostReduceWindowAdd ![1, 1, 1, N] ![1, 1, 1, 1] lo hi h x 0 j = ∑ w : Fin N, under lo x j (ix4 0 0 0 w) := by
  have e : Ideal.hostReduceWindowAdd ![1, 1, 1, N] ![1, 1, 1, 1] lo hi h x 0 j
      = (List.finRange (⟨4, ![1, 1, 1, N]⟩ : Shape).numel).foldl (fun r n => r + under lo x j ((⟨4, ![1, 1, 1, N]⟩ : Shape).rowMajor.symm n)) 0 := by
    unfold Ideal.hostReduceWindowAdd Host.reduceWindow under
    refine congrArg (fun F => List.foldl F (0 : EReal) (List.finRange (⟨4, ![1, 1, 1, N]⟩ : Shape).numel)) (funext fun r => funext fun n => ?_)
    exact congrArg (r + ·) (dite_congr rfl (fun _ => rfl) (fun _ => rfl))
  rw [e, foldl_plus, zero_add, ← Fin.sum_univ_def, Equiv.sum_comp ((⟨4, ![1, 1, 1, N]⟩ : Shape).rowMajor.symm) (under lo x j), sum_idx4]
  simp

theorem real_sum (N : Nat) (f : ℕ → ℝ) (g : Fin N → EReal) (h : ∀ w, g w = (f w.val : ℝ)) : ∑ w, g w = ((∑ n ∈ Finset.range N, f n : ℝ) : EReal) := by
  rw [Finset.sum_range, coe_sum]
  exact Finset.sum_congr rfl fun w _ => h w

/-- The running sum from the right of any values. -/
theorem onward_sum {A B C N : Nat} (hi : Fin 4 → Nat) (x : (⟨4, ![A, B, C, N]⟩ : Shape).Idx → EReal)
    (h : (⟨4, ![A, B, C, N]⟩ : Shape).ReduceWindows ![1, 1, 1, N] ![1, 1, 1, 1] ![0, 0, 0, 0] hi ⟨4, ![A, B, C, N]⟩)
    (b : Fin A) (e : Fin B) (T : Fin C) (s : Fin N) (f : ℕ → EReal) (hf : ∀ u : Fin N, x (ix4 b e T u) = f u.val) :
    Ideal.hostReduceWindowAdd ![1, 1, 1, N] ![1, 1, 1, 1] ![0, 0, 0, 0] hi h x 0 (ix4 b e T s) = ∑ u ∈ Finset.Ico s.val N, f u := by
  rw [window_sum]
  refine Eq.trans ?_ ((Finset.sum_range (n := N) fun w => if s.val + w < N then f (s.val + w) else 0).symm.trans ?_)
  · refine Finset.sum_congr rfl fun w _ => ?_
    unfold under
    have hw := w.isLt
    by_cases hc : s.val + w.val < N
    · rw [if_pos hc, dif_pos]
      · refine Eq.trans (congrArg x ?_) (hf ⟨s.val + w.val, hc⟩)
        funext a
        fin_cases a <;> refine Fin.ext ?_ <;> simp
      · intro a; fin_cases a <;> simp [hc]
    · rw [if_neg hc, dif_neg]
      intro hin; have := (hin 3).2; simp at this; omega
  · rw [Finset.sum_Ico_eq_sum_range]
    have e2 : Finset.range (N - s.val) ⊆ Finset.range N := Finset.range_subset_range.2 (by omega)
    refine (Finset.sum_subset e2 fun w hw hn => ?_).symm.trans (Finset.sum_congr rfl fun w hw => ?_)
    · rw [if_neg]; have := Finset.mem_range.not.1 hn; omega
    · rw [if_pos]; have := Finset.mem_range.1 hw; omega

/-- The running sum from the right: everything from here on. -/
theorem from_here {A B C N : Nat} (hi : Fin 4 → Nat) (x : (⟨4, ![A, B, C, N]⟩ : Shape).Idx → EReal)
    (h : (⟨4, ![A, B, C, N]⟩ : Shape).ReduceWindows ![1, 1, 1, N] ![1, 1, 1, 1] ![0, 0, 0, 0] hi ⟨4, ![A, B, C, N]⟩)
    (b : Fin A) (e : Fin B) (T : Fin C) (s : Fin N) (f : ℕ → ℝ) (hf : ∀ u : Fin N, x (ix4 b e T u) = (f u.val : ℝ)) :
    Ideal.hostReduceWindowAdd ![1, 1, 1, N] ![1, 1, 1, 1] ![0, 0, 0, 0] hi h x 0 (ix4 b e T s) = ((pre f N - pre f s.val : ℝ) : EReal) := by
  rw [onward_sum hi x h b e T s (fun u => (f u : EReal)) hf, ← coe_sum, Finset.sum_Ico_eq_sub _ s.isLt.le]
  rfl

/-- The running sum from the left: everything up to here. -/
theorem to_here {A B C M : Nat} (hi : Fin 4 → Nat) (x : (⟨4, ![A, B, C, M + 1]⟩ : Shape).Idx → EReal)
    (h : (⟨4, ![A, B, C, M + 1]⟩ : Shape).ReduceWindows ![1, 1, 1, M + 1] ![1, 1, 1, 1] ![0, 0, 0, M] hi ⟨4, ![A, B, C, M + 1]⟩)
    (b : Fin A) (e : Fin B) (T : Fin C) (s : Fin (M + 1)) (f : ℕ → ℝ) (hf : ∀ u : Fin (M + 1), x (ix4 b e T u) = (f u.val : ℝ)) :
    Ideal.hostReduceWindowAdd ![1, 1, 1, M + 1] ![1, 1, 1, 1] ![0, 0, 0, M] hi h x 0 (ix4 b e T s) = ((pre f (s.val + 1) : ℝ) : EReal) := by
  rw [window_sum, real_sum (M + 1) (fun w => if M ≤ s.val + w then f (s.val + w - M) else 0)]
  · congr 1
    have hs := s.isLt
    generalize s.val = s at hs ⊢
    obtain ⟨k, hk⟩ : ∃ k, M = s + k := ⟨M - s, by omega⟩
    have e1 : M + 1 = k + (s + 1) := by omega
    rw [e1, Finset.sum_range_add, Finset.sum_eq_zero, zero_add]
    · refine Finset.sum_congr rfl fun w hw => ?_
      rw [if_pos (by omega)]
      congr 1; omega
    · intro w hw
      rw [if_neg]; have := Finset.mem_range.1 hw; omega
  · intro w
    unfold under
    have hw := w.isLt
    by_cases hc : M ≤ s.val + w.val
    · rw [if_pos hc, dif_pos]
      · refine Eq.trans (congrArg x ?_) (hf ⟨s.val + w.val - M, by omega⟩)
        funext a
        fin_cases a <;> refine Fin.ext ?_ <;> simp
      · intro a; fin_cases a <;> simp [hc]
        omega
    · rw [if_neg hc, dif_neg]
      · rfl
      · intro hin; have := (hin 3).1; simp at this; omega

end Cert.Sb
end
-- ==== Proof.Refer.lean ====
/- The reference's values over the reals, intermediate by intermediate, down to the three gradients. -/
module

public import proofs.«01_k».proof.Proof.Elem
public import proofs.«01_k».proof.Proof.Running
public import proofs.«01_k».proof.Proof.Gen.ReferenceIdeal.Run

@[expose] public section

set_option maxRecDepth 16384

noncomputable section

namespace Cert.Sb.Ref

open Cert.ReferenceIdeal Cert.ReferenceIdeal.Gen Cert.ReferenceIdeal.Value
open Idealize.ShloMosaic Idealize.ShloMosaic.TcCoe Idealize.SL.Sem
open Idealize.ShloMosaic.StableHlo

variable {V0 : Valuation τ sig (Elt Ideal)} {x d : Fin 4 → ℕ → ℕ → ℝ}
variable (R : Reals (V0 (Proc.devRef .tc main_arg0)) (V0 (Proc.devRef .tc main_arg1)) x d)
variable (b : Fin 4) (h : Fin 12) (T s : Fin 2048) (e : Fin 64) (f : Fin 768)

/-- Infinity is no real. -/
theorem inf_f32 : Ideal.ofBits .f32 2139095040#32 = ⊤ := by simp [Ideal.ofBits, Ideal.ieee]

theorem not_inf {p q : EReal} (v : ℝ) : (if ((v : ℝ) : EReal) = Ideal.ofBits .f32 2139095040#32 then p else q) = q :=
  if_neg (by rw [inf_f32]; exact EReal.coe_ne_top v)

theorem naught_at : (id (constant (F := Ideal) S_ .f32 0x00000000#32) ix0 : EReal) = ((0 : ℝ) : EReal) := by
  show (constant (F := Ideal) S_ .f32 0x00000000#32) ix0 = _
  pointwise
  rfl

include R

theorem q_at : (show EReal from res_main_v7 V0 (ix4 b T h e)) = (x b T.val (h.val * 64 + e.val) : EReal) := by
  pointwise [res_main_v7, res_main_v3]
  exact R.x b T _ (by show h.val * 64 + e.val < 2304; omega)
theorem k_at : (show EReal from res_main_v8 V0 (ix4 b T h e)) = (x b T.val (768 + (h.val * 64 + e.val)) : EReal) := by
  pointwise [res_main_v8, res_main_v3]
  exact R.x b T _ (by show 768 + (h.val * 64 + e.val) < 2304; omega)
theorem v_at : (show EReal from res_main_v9 V0 (ix4 b T h e)) = (x b T.val (1536 + (h.val * 64 + e.val)) : EReal) := by
  pointwise [res_main_v9, res_main_v3]
  exact R.x b T _ (by show 1536 + (h.val * 64 + e.val) < 2304; omega)
theorem ct_at : (show EReal from res_main_v41 V0 (ix4 b h e T)) = (d b T.val (h.val * 64 + e.val) : EReal) := by
  pointwise [res_main_v41]
  exact R.d b T _ (by show h.val * 64 + e.val < 768; omega)

theorem score_at : (show EReal from res_main_v14 V0 (ix4 b h T s)) = (score x b h.val T.val s.val : EReal) := by
  pointwise [res_main_v14]
  rw [eighth_f32]
  unfold score
  rw [EReal.coe_mul]
  congr 1
  exact coe_dot _ _ _ _ (fun e => q_at R b h T e) fun e => k_at R b h s e

theorem soft_at : (show EReal from res_main_v22_0 V0 (ix4 b h T s)) = (sp (score x b h.val T.val s.val) : EReal) := by
  have e := score_at R b h T s
  generalize hz : res_main_v14 V0 = z at e
  pointwise [res_main_v22_0, res_main_call0_v3, res_main_call0_cst, hz]
  exact soft_el _ _ e

theorem minus_at : (show EReal from res_main_call3_v0 V0 (ix4 b h T s)) = ((-score x b h.val T.val s.val : ℝ) : EReal) := by
  have e := score_at R b h T s
  generalize hz : res_main_v14 V0 = z at e
  pointwise [res_main_call3_v0, hz]
  exact congrArg (- ·) e

theorem softm_at : (show EReal from res_main_call3_v1_0 V0 (ix4 b h T s)) = (sp (-score x b h.val T.val s.val) : EReal) := by
  have e := minus_at R b h T s
  generalize hz : res_main_call3_v0 V0 = z at e
  pointwise [res_main_call3_v1_0, res_main_call3_call0_v3, res_main_call3_call0_cst, hz]
  exact soft_el _ _ e

theorem stay_at : (show EReal from res_main_v24_0 V0 (ix4 b h T s)) = (lstay (score x b h.val T.val) T.val s.val : EReal) := by
  have e := soft_at R b h T s
  generalize hz : res_main_v22_0 V0 = z at e
  pointwise [res_main_v24_0, res_main_v24_1, res_main_v21, hz]
  rw [mask_el _ _ s.2 T.2]
  unfold lstay
  split
  · exact congrArg (- ·) e
  · exact naught_at

/-- The weight before the causal mask. -/
theorem raw_at : (show EReal from res_main_v29 V0 (ix4 b h T s)) = (Real.exp (score x b h.val T.val s.val - sp (score x b h.val T.val s.val)
    + (pre (lstay (score x b h.val T.val) T.val) 2048 - pre (lstay (score x b h.val T.val) T.val) (s.val + 1))) : EReal) := by
  have e1 := softm_at R b h T s
  have e2 : ∀ u : Fin 2048, (show EReal from res_main_v24_0 V0 (ix4 b h T u)) = (lstay (score x b h.val T.val) T.val u.val : EReal) := fun u => stay_at R b h T u
  generalize hz : res_main_v24_0 V0 = z at e2
  generalize hy : res_main_call3_v1_0 V0 = y at e1
  have e3 : (show EReal from Host.reduceWindowAdd ![1, 1, 1, 2048] ![1, 1, 1, 1] ![0, 0, 0, 0] ![0, 0, 0, 2047] z (broadcastInDim S_ ![] bcast_S_S_ (constant (F := Ideal) S_ .f32 0x00000000#32)) reduceWindows_S4x12x2048x2048_S4x12x2048x2048_w1s1p0_0_w1s1p0_0_w1s1p0_0_w2048s1p0_2047 h_S_ (ix4 b h T s))
      = ((pre (lstay (score x b h.val T.val) T.val) 2048 - pre (lstay (score x b h.val T.val) T.val) s.val : ℝ) : EReal) := by
    refine Eq.trans ?_ (from_here _ z reduceWindows_S4x12x2048x2048_S4x12x2048x2048_w1s1p0_0_w1s1p0_0_w1s1p0_0_w2048s1p0_2047 b h T s _ e2)
    have e0 : (broadcastInDim S_ ![] bcast_S_S_ (constant (F := Ideal) S_ .f32 0x00000000#32) (Shape.Idx.first h_S_) : EReal) = 0 := by pointwise
    unfold Host.reduceWindowAdd
    rw [e0]; rfl
  unfold res_main_v29
  rw [hz, hy]
  generalize Host.reduceWindowAdd (F := Ideal) _ _ _ _ _ _ _ _ = w at e3 ⊢
  pointwise
  refine (congrArg₂ (fun p q => Ideal.exp (-p + q)) e1 (congrArg₂ (fun p q : EReal => p - q) e3 (e2 s))).trans ?_
  rw [← EReal.coe_neg, ← EReal.coe_sub, ← EReal.coe_add, Ideal.exp_coe]
  congr 2
  have e4 := pre_succ (lstay (score x b h.val T.val) T.val) s.val
  have e5 := sp_neg (score x b h.val T.val s.val)
  linarith

theorem weight_at : (show EReal from res_main_v32 V0 (ix4 b h T s)) = (wgt x b h.val T.val s.val : EReal) := by
  have e := raw_at R b h T s
  generalize hz : res_main_v29 V0 = z at e
  pointwise [res_main_v32, res_main_v30_1, res_main_v21, hz]
  rw [mask_el _ _ s.2 T.2]
  unfold wgt wt
  split
  · exact e
  · exact naught_at

theorem g_at : (show EReal from res_main_v48 V0 (ix4 b h T s)) = (gw (score x b h.val T.val) (wcot x d b h.val T.val) T.val s.val : EReal) := by
  have e := raw_at R b h T s
  have ev := fun l => v_at R b h s l
  have ed := fun l => ct_at R b h T l
  generalize hz : res_main_v29 V0 = z at e
  generalize hv : res_main_v9 V0 = v at ev
  generalize hd : res_main_v41 V0 = dd at ed
  pointwise [res_main_v48, res_main_v30_1, res_main_v21, hz, hv, hd]
  rw [mask_el _ _ s.2 T.2]
  unfold gw wt
  split
  · next hs =>
    rw [EReal.coe_mul]
    exact congrArg₂ (fun p q : EReal => p * q) (coe_dot _ _ _ _ ed ev) e
  · rw [mul_zero]; rfl

theorem dscore_at : (show EReal from res_main_v60 V0 (ix4 b h T s)) = ((dsc x d b h.val T.val s.val * (1 / 8) : ℝ) : EReal) := by
  have e1 := score_at R b h T s
  have e2 := soft_at R b h T s
  have e3 := minus_at R b h T s
  have e4 := softm_at R b h T s
  have e5 : ∀ u : Fin 2048, (show EReal from res_main_v48 V0 (ix4 b h T u)) = (gw (score x b h.val T.val) (wcot x d b h.val T.val) T.val u.val : EReal) := fun u => g_at R b h T u
  generalize hg : res_main_v48 V0 = g at e5
  have e6 : (show EReal from Host.reduceWindowAdd ![1, 1, 1, 2048] ![1, 1, 1, 1] ![0, 0, 0, 2047] ![0, 0, 0, 0] g (broadcastInDim S_ ![] bcast_S_S_ (constant (F := Ideal) S_ .f32 0x00000000#32)) reduceWindows_S4x12x2048x2048_S4x12x2048x2048_w1s1p0_0_w1s1p0_0_w1s1p0_0_w2048s1p2047_0 h_S_ (ix4 b h T s))
      = (pre (gw (score x b h.val T.val) (wcot x d b h.val T.val) T.val) (s.val + 1) : EReal) := by
    refine Eq.trans ?_ (to_here _ g reduceWindows_S4x12x2048x2048_S4x12x2048x2048_w1s1p0_0_w1s1p0_0_w1s1p0_0_w2048s1p2047_0 b h T s _ e5)
    have e0 : (broadcastInDim S_ ![] bcast_S_S_ (constant (F := Ideal) S_ .f32 0x00000000#32) (Shape.Idx.first h_S_) : EReal) = 0 := by pointwise
    unfold Host.reduceWindowAdd
    rw [e0]; rfl
  have e5 := e5 s
  unfold res_main_v60
  rw [hg]
  generalize Host.reduceWindowAdd (F := Ideal) _ _ _ _ _ _ _ _ = w at e6 ⊢
  generalize res_main_v14 V0 = z at e1 ⊢
  generalize res_main_v22_0 V0 = y at e2 ⊢
  generalize res_main_call3_v0 V0 = z' at e3 ⊢
  generalize res_main_call3_v1_0 V0 = y' at e4 ⊢
  pointwise [res_main_v21, res_main_v24_1]
  rw [mask_el _ _ s.2 T.2, eighth_f32]
  rw [show z (ix4 b h T s) = _ from e1, show y (ix4 b h T s) = _ from e2, show z' (ix4 b h T s) = _ from e3, show y' (ix4 b h T s) = _ from e4,
    show g (ix4 b h T s) = _ from e5, show w (ix4 b h T s) = _ from e6]
  simp only [not_inf]
  rw [EReal.coe_mul]
  congr 1
  rw [← EReal.coe_sub, ← EReal.coe_sub, Ideal.exp_coe, Ideal.exp_coe]
  unfold dsc dlog
  split
  · rw [← EReal.coe_neg, ← EReal.coe_mul, ← EReal.coe_neg, ← EReal.coe_add, ← EReal.coe_neg, ← EReal.coe_mul, ← EReal.coe_add, exp_break]
    congr 1
    ring
  · next hs =>
    rw [show gw (score x b h.val T.val) (wcot x d b h.val T.val) T.val s.val = 0 by unfold gw wt; rw [if_neg hs, mul_zero]]
    simp

theorem dq_at : (show EReal from (truncf (F := Ideal) .bf16 (extractStridedSlice S4x2048x768 ![0, 0, 0] (res_main_v70 V0) slices_S4x2048x2304_S4x2048x768_0_0_0) bitsLt_bf16_f32) (ix3 b T f))
    = (gradQ x d b T.val f.val : EReal) := by
  have e1 := fun h s => dscore_at R b h T s
  have e2 := fun h s e => k_at R b h s e
  generalize hz : res_main_v60 V0 = z at e1
  generalize hy : res_main_v8 V0 = y at e2
  pointwise [res_main_v70, hz, hy]
  rw [dif_pos (by omega)]
  refine (coe_dot _ _ _ _ (fun s => e1 _ s) (fun s => e2 _ s _)).trans (congrArg _ ?_)
  unfold gradQ
  rw [Finset.sum_range, Finset.sum_mul]
  refine Finset.sum_congr rfl fun s _ => ?_
  show dsc x d b (f.val / 64) T.val s.val * (1 / 8) * x b s.val (768 + (f.val / 64 * 64 + f.val % 64)) = _
  rw [Nat.div_add_mod']
  ring

theorem dk_at : (show EReal from (truncf (F := Ideal) .bf16 (extractStridedSlice S4x2048x768 ![0, 0, 768] (res_main_v70 V0) slices_S4x2048x2304_S4x2048x768_0_0_768) bitsLt_bf16_f32) (ix3 b T f))
    = (gradK x d b T.val f.val : EReal) := by
  have e1 := fun h s => dscore_at R b h s T
  have e2 := fun h s e => q_at R b h s e
  generalize hz : res_main_v60 V0 = z at e1
  generalize hy : res_main_v7 V0 = y at e2
  pointwise [res_main_v70, hz, hy]
  rw [dif_pos (by omega)]
  refine (coe_dot _ _ _ _ (fun s => e1 _ s) (fun s => e2 _ s _)).trans (congrArg _ ?_)
  unfold gradK
  rw [Finset.sum_range]
  refine Finset.sum_congr rfl fun s _ => ?_
  show dsc x d b (f.val / 64) s.val T.val * (1 / 8) * x b s.val (f.val / 64 * 64 + f.val % 64) = _
  rw [Nat.div_add_mod']
  ring

theorem dv_at : (show EReal from (truncf (F := Ideal) .bf16 (extractStridedSlice S4x2048x768 ![0, 0, 1536] (res_main_v70 V0) slices_S4x2048x2304_S4x2048x768_0_0_1536) bitsLt_bf16_f32) (ix3 b T f))
    = (gradV x d b T.val f.val : EReal) := by
  have e1 := fun h s => weight_at R b h s T
  have e2 := fun h s e => ct_at R b h s e
  generalize hz : res_main_v32 V0 = z at e1
  generalize hy : res_main_v41 V0 = y at e2
  unfold res_main_v70
  rw [hz, hy]
  generalize res_main_v60 V0 = z1
  generalize res_main_v7 V0 = y1
  generalize res_main_v8 V0 = y2
  have key : ∀ (h : Fin 12) (e : Fin 64), h.val = f.val / 64 → e.val = f.val % 64 → (∑ s : Fin 2048, ((show EReal from y (ix4 b h e s)) * (show EReal from z (ix4 b h s T)))) = (gradV x d b T.val f.val : EReal) := fun h e hh he => by
    refine (coe_dot _ _ _ _ (fun s => e2 h s e) (fun s => e1 h s)).trans (congrArg _ ?_)
    unfold gradV
    rw [Finset.sum_range]
    refine Finset.sum_congr rfl fun s _ => ?_
    rw [hh, he, Nat.div_add_mod']
    ring
  pointwise
  rw [dif_pos (by omega), dif_neg (by omega), dif_neg (by omega)]
  have ef : 1536 + f.val - 768 - 768 = f.val := by omega
  simp only [ef]
  exact key _ _ rfl rfl

end Cert.Sb.Ref
end
-- ==== Proof.Join.lean ====
/- The kernel's arrays are the reference's: where the arguments are finite, both are the real sums of the gradients. -/
module

public import proofs.«01_k».proof.Proof.Arrays
public import proofs.«01_k».proof.Proof.Refer
public import proofs.«01_k».proof.Proof.Frames

@[expose] public section

set_option maxRecDepth 16384

noncomputable section

namespace Cert.Proof

open Idealize.ShloMosaic Idealize.ShloMosaic.TcCoe Idealize.SL.Sem Cert.Sb

attribute [local instance] Cert.Kernel.Gen.facts Cert.KernelIdeal.Gen.facts Cert.ReferenceIdeal.Gen.facts

/-- The predicate's facts. -/
theorem factsPre : Cert.Pre_finite.Facts := by constructor <;> decide

attribute [local instance] factsPre

/-- A magnitude below infinity is a real's. -/
theorem real_of_lt (y : EReal) (h : FloatOps.cmpf (F := Ideal) (φ := .f32) .olt (FloatOps.absf (F := Ideal) (φ := .f32) y) (Ideal.ofBits .f32 2139095040#32) = 1#1) : y ≠ ⊤ ∧ y ≠ ⊥ := by
  rw [Cert.Sb.Ref.inf_f32] at h
  have h2 : max y (-y) < ⊤ := by
    by_contra hn
    have : FloatOps.cmpf (F := Ideal) (φ := .f32) .olt (FloatOps.absf (F := Ideal) (φ := .f32) y) ⊤ = BitVec.ofBool (decide (max y (-y) < ⊤)) := rfl
    rw [this, decide_eq_false hn] at h
    exact absurd h (by decide)
  exact ⟨fun e => by simp [e] at h2, fun e => by simp [e] at h2⟩

/-- Finite arguments are reals. -/
theorem reals_of_pre (X : FVec Ideal Cert.Pre_finite.S4x2048x2560 .bf16) (D : FVec Ideal Cert.Pre_finite.S4x2048x1024 .bf16)
    (h1 : (Cert.Pre_finite.fn (F := Ideal) X D).1 = fun _ => 1#1) (h2 : (Cert.Pre_finite.fn (F := Ideal) X D).2 = fun _ => 1#1) :
    Reals X D (realsOf X) (realsOf D) where
  x b t f hf := by
    have e := congrFun h1 (ix3 b t (⟨f.val, hf⟩ : Fin 2304))
    have k : X (ix3 b t f) ≠ ⊤ ∧ X (ix3 b t f) ≠ ⊥ := by
      refine real_of_lt _ (Eq.trans ?_ e)
      pointwise [Cert.Pre_finite.fn]
    exact realsOf_at X b t f k.1 k.2
  d b t f hf := by
    have e := congrFun h2 (ix3 b t (⟨f.val, hf⟩ : Fin 768))
    have k : D (ix3 b t f) ≠ ⊤ ∧ D (ix3 b t f) ≠ ⊥ := by
      refine real_of_lt _ (Eq.trans ?_ e)
      pointwise [Cert.Pre_finite.fn]
    exact realsOf_at D b t f k.1 k.2

/-- An array is the array of its reals. -/
theorem as_of_at (G : (⟨3, ![4, 2048, 768]⟩ : Shape).Idx → EReal) (g : Fin 4 → ℕ → ℕ → ℝ)
    (h : ∀ (b : Fin 4) (t : Fin 2048) (f : Fin 768), G (ix3 b t f) = (g b t.val f.val : EReal)) : G = asArray g := by
  funext i
  have e : i = ix3 (i 0) (i 1) (i 2) := by
    funext a
    match a with
    | ⟨0, _⟩ => rfl
    | ⟨1, _⟩ => rfl
    | ⟨2, _⟩ => rfl
  exact (congrArg G e).trans (h (i 0) (i 1) (i 2))

/-- The same, of arguments that are equal. -/
theorem reals_eq {X X' : (⟨3, ![4, 2048, 2560]⟩ : Shape).Idx → EReal} {D D' : (⟨3, ![4, 2048, 1024]⟩ : Shape).Idx → EReal}
    {x d : Fin 4 → ℕ → ℕ → ℝ} (R : Reals X D x d) (hx : X' = X) (hd : D' = D) : Reals X' D' x d := by
  rw [hx, hd]; exact R

/-- From finite arguments both programs end with the same three gradients. -/
theorem gradients : Cert.algebraic_KernelIdeal_ReferenceIdeal_pre_finite := by
  intro m g m' g' hp hm
  have R := fun c : Dev Cert.KernelIdeal.nD => reals_of_pre _ _ (hp c).1 (hp c).2
  refine ⟨fun c => asArray (gradQ (realsOf (m (c.tc.loc Cert.KernelIdeal.main_arg0))) (realsOf (m (c.tc.loc Cert.KernelIdeal.main_arg1)))),
    fun c => asArray (gradK (realsOf (m (c.tc.loc Cert.KernelIdeal.main_arg0))) (realsOf (m (c.tc.loc Cert.KernelIdeal.main_arg1)))),
    fun c => asArray (gradV (realsOf (m (c.tc.loc Cert.KernelIdeal.main_arg0))) (realsOf (m (c.tc.loc Cert.KernelIdeal.main_arg1)))), ?_, ?_⟩
  · refine (θ_run _ _ _).mono (fun r h c => ?_) (θ_run_and (Cert.Sb.run_main m g) (Cert.Sb.run_frame m g))
    exact ⟨(h.1.1.out_eq c 5).trans (arr5 m c (R c)), (h.1.1.out_eq c 6).trans (arr6 m c (R c)),
      (h.1.1.out_eq c 7).trans (arr7 m c (R c)), (h.2.1 c).1, (h.2.1 c).2⟩
  · refine (θ_run _ _ _).mono (fun r h c => ?_) (Cert.ReferenceIdeal.Value.run (F := Ideal) m' g')
    have R' : Reals (StableHlo.launchContents m' c (Proc.devRef .tc Cert.ReferenceIdeal.main_arg0))
        (StableHlo.launchContents m' c (Proc.devRef .tc Cert.ReferenceIdeal.main_arg1)) _ _ := reals_eq (R c) (hm c).1 (hm c).2
    exact ⟨(h c).1.trans (as_of_at _ _ (Cert.Sb.Ref.dq_at R')), (h c).2.1.trans (as_of_at _ _ (Cert.Sb.Ref.dk_at R')),
      (h c).2.2.1.trans (as_of_at _ _ (Cert.Sb.Ref.dv_at R')), (h c).2.2.2.1, (h c).2.2.2.2⟩

end Cert.Proof
end
-- ==== Proof.AheadModel.lean ====
/- The forward attention over the extended reals: the softplus, what stays of the stick after a key, the weights and the scores. -/
module

public import proofs.«01_k».proof.Proof.Elem
public import proofs.«01_k».proof.Proof.Running

@[expose] public section

set_option maxRecDepth 16384

noncomputable section

namespace Cert.Ahead

open Cert.Sb
open Idealize.ShloMosaic

/-! ## The softplus -/

/-- `log (1 + eˣ)`, with its limits. -/
def spx : EReal → EReal
  | ⊥ => 0
  | ⊤ => ⊤
  | (r : ℝ) => (sp r : EReal)

theorem spx_bot : spx ⊥ = 0 := rfl
theorem spx_top : spx ⊤ = ⊤ := rfl
theorem spx_coe (r : ℝ) : spx (r : EReal) = (sp r : EReal) := rfl

theorem log_one : Ideal.log 1 = 0 := by
  rw [show (1 : EReal) = ((1 : ℝ) : EReal) from rfl, Ideal.log_coe, if_neg (by norm_num), Real.log_one]; rfl

/-- The kernel's way to it. -/
theorem stay_el (a : EReal) : min (0 - a) 0 - Ideal.log (1 + Ideal.exp (min a (0 - a))) = -spx a := by
  induction a using EReal.rec with
  | bot => simp [spx_bot, log_one]
  | top => simp [spx_top, log_one]
  | coe v =>
    rw [spx_coe, show (0 : EReal) = ((0 : ℝ) : EReal) from rfl, ← EReal.coe_sub, coe_min, coe_min, Ideal.exp_coe, log_one_add, ← EReal.coe_sub, zero_sub,
      neg_sp, EReal.coe_neg]

/-- The reference's way to it. -/
theorem spx_el (y : EReal) :
    (if y ≠ y then y else max y 0 + Ideal.log1p (Ideal.exp (-FloatOps.absf (F := Ideal) (φ := .f32) y))) = spx y := by
  induction y using EReal.rec with
  | bot =>
    rw [if_neg (by simp)]
    show max (⊥ : EReal) 0 + Ideal.log (1 + Ideal.exp (-(max (⊥ : EReal) (-⊥)))) = _
    simp [spx_bot, log_one]
  | top =>
    rw [if_neg (by simp)]
    show max (⊤ : EReal) 0 + Ideal.log (1 + Ideal.exp (-(max (⊤ : EReal) (-⊤)))) = _
    simp [spx_top, log_one]
  | coe v => exact soft_el _ v rfl

/-! ## The weights -/

section
variable (z : ℕ → EReal) (T : ℕ)

/-- The log of what stays of the stick after a key. -/
def ls (s : ℕ) : EReal := if s < T then -spx (z s) else 0
/-- The log of what the keys from `n` on leave. -/
def past (n : ℕ) : EReal := ∑ u ∈ Finset.Ico n 2048, ls z T u
/-- The weight of a key: its break times what the later keys leave. -/
def we (s : ℕ) : EReal := if s < T then Ideal.exp ((z s + -spx (z s)) + past z T (s + 1)) else 0

theorem we_zero {s : ℕ} (h : T ≤ s) : we z T s = 0 := if_neg (by omega)
theorem past_zero {n : ℕ} (h : T ≤ n) : past z T n = 0 :=
  Finset.sum_eq_zero fun u hu => if_neg (by have := Finset.mem_Ico.mp hu; omega)

/-- What a block of 256 keys and those past it leave. -/
theorem past_block {n : ℕ} (hn : n < 8) : past z T (256 * (n + 1)) + ∑ l : Fin 256, ls z T (256 * n + l.val) = past z T (256 * n) := by
  unfold past
  rw [Fin.sum_univ_eq_sum_range (fun l => ls z T (256 * n + l)), add_comm,
    ← Finset.sum_Ico_consecutive _ (show 256 * n ≤ 256 * (n + 1) by omega) (show 256 * (n + 1) ≤ 2048 by omega)]
  congr 1
  rw [Finset.sum_Ico_eq_sum_range, show 256 * (n + 1) - 256 * n = 256 by omega]

/-- What the later keys of a key's block and those past the block leave. -/
theorem past_later {n : ℕ} (hn : n < 8) (c : Fin 256) :
    (∑ l : Fin 256, ls z T (256 * n + l.val) * if c.val < l.val then 1 else 0) + past z T (256 * (n + 1)) = past z T (256 * n + c.val + 1) := by
  have hc := c.2
  unfold past
  rw [Fin.sum_univ_eq_sum_range (fun l => ls z T (256 * n + l) * if c.val < l then 1 else 0) 256, Finset.range_eq_Ico,
    ← Finset.sum_Ico_consecutive _ (Nat.zero_le (c.val + 1)) (show c.val + 1 ≤ 256 by omega),
    Finset.sum_eq_zero (fun l hl => by rw [if_neg (by have := Finset.mem_Ico.mp hl; omega), mul_zero]), zero_add,
    ← Finset.sum_Ico_consecutive _ (show 256 * n + c.val + 1 ≤ 256 * (n + 1) by omega) (show 256 * (n + 1) ≤ 2048 by omega)]
  congr 1
  rw [Finset.sum_Ico_eq_sum_range, Finset.sum_Ico_eq_sum_range, show 256 * (n + 1) - (256 * n + c.val + 1) = 256 - (c.val + 1) by omega]
  refine Finset.sum_congr rfl fun l _ => ?_
  rw [if_pos (by omega), mul_one, ← Nat.add_assoc, ← Nat.add_assoc]

/-- The log of a weight, from the softplus of the other sign and the sum that begins with the key itself. -/
theorem other_sign (v L : EReal) : -spx (-v) + ((-spx v + L) - -spx v) = (v + -spx v) + L := by
  induction v using EReal.rec with
  | bot => simp [spx_top, spx_bot]
  | top => simp [spx_top, spx_bot, sub_eq_add_neg]
  | coe v =>
    have e := sp_neg v
    rw [← EReal.coe_neg, spx_coe, spx_coe]
    induction L using EReal.rec with
    | bot => simp [sub_eq_add_neg, ← EReal.coe_neg, ← EReal.coe_add]
    | top => simp [sub_eq_add_neg, ← EReal.coe_neg, ← EReal.coe_add]
    | coe L =>
      rw [← EReal.coe_neg, ← EReal.coe_neg, ← EReal.coe_add, ← EReal.coe_sub, ← EReal.coe_add, ← EReal.coe_add, ← EReal.coe_add]
      congr 1
      linarith

theorem we_other {s : ℕ} (h : s < T) (hT : T ≤ 2048) : Ideal.exp (-spx (-z s) + ((∑ u ∈ Finset.Ico s 2048, ls z T u) - ls z T s)) = we z T s := by
  unfold we past
  rw [if_pos h, Finset.sum_eq_sum_Ico_succ_bot (by omega), show ls z T s = -spx (z s) from if_pos h, other_sign]

end

/-! ## The scores -/

/-- An entry of the array. -/
def ent (X : (⟨3, ![4, 2048, 2560]⟩ : Shape).Idx → EReal) (b : Fin 4) (t f : ℕ) : EReal :=
  if h : t < 2048 ∧ f < 2560 then X (ix3 b ⟨t, h.1⟩ ⟨f, h.2⟩) else 0

theorem ent_at (X : (⟨3, ![4, 2048, 2560]⟩ : Shape).Idx → EReal) (b : Fin 4) (t : Fin 2048) (f : Fin 2560) : X (ix3 b t f) = ent X b t.val f.val := by
  unfold ent
  rw [dif_pos ⟨t.2, f.2⟩]

/-- A row against the rows of a long array. -/
def dots (Q : Fin 1024 → Fin 256 → EReal) (K : ℕ → Fin 256 → EReal) (r : Fin 1024) (s : ℕ) : EReal := ∑ l : Fin 256, Q r l * K s l

/-- The factor of the scores comes out of their sum. -/
theorem eighth_out {n : ℕ} (f : Fin n → EReal) : ∑ e, f e * ((1 / 8 : ℝ) : EReal) = (∑ e, f e) * ((1 / 8 : ℝ) : EReal) := by
  have h0 : (0 : EReal) ≤ ((1 / 8 : ℝ) : EReal) := EReal.coe_nonneg.mpr (by norm_num)
  induction (Finset.univ : Finset (Fin n)) using Finset.induction_on with
  | empty => simp
  | insert a s ha ih => rw [Finset.sum_insert ha, Finset.sum_insert ha, ih, EReal.right_distrib_of_nonneg_of_ne_top h0 (EReal.coe_ne_top _)]

section
variable (x : Fin 4 → ℕ → ℕ → EReal) (b : Fin 4) (p i : ℕ)

/-- The score of a query and a key in a head. -/
def sco (h t s : ℕ) : EReal := (∑ e : Fin 64, x b t (h * 64 + e.val) * x b s (768 + (h * 64 + e.val))) * ((1 / 8 : ℝ) : EReal)

/-- The stacked queries of a group, and its keys and values. -/
def qrow (r : Fin 1024) (l : Fin 256) : EReal :=
  if l.val / 64 = r.val / 256 then x b (256 * i + r.val % 256) (256 * p + l.val) * ((1 / 8 : ℝ) : EReal) else 0
def krow (s : ℕ) (l : Fin 256) : EReal := x b s (768 + (256 * p + l.val))
def vrow (s : ℕ) (l : Fin 256) : EReal := x b s (1536 + (256 * p + l.val))

theorem dots_score (r : Fin 1024) : dots (qrow x b p i) (krow x b p) r = sco x b (4 * p + r.val / 256) (pos i r) := by
  funext s
  have hr := r.2
  unfold dots sco pos
  rw [← eighth_out]
  refine Eq.trans ?_ ((head_sum (r.val / 256) (by omega) fun l =>
    x b (256 * i + r.val % 256) (256 * p + l) * x b s (768 + (256 * p + l)) * ((1 / 8 : ℝ) : EReal)).trans ?_)
  · refine Finset.sum_congr rfl fun l _ => ?_
    unfold qrow krow
    split
    · exact mul_right_comm _ _ _
    · exact zero_mul _
  · refine Finset.sum_congr rfl fun e _ => ?_
    rw [show 256 * p + (r.val / 256 * 64 + e.val) = (4 * p + r.val / 256) * 64 + e.val by omega]

/-- The attention's output. -/
def att (t f : ℕ) : EReal := ∑ u ∈ Finset.range 2048, we (sco x b (f / 64) t) t u * x b u (1536 + f)

/-- A row's total. -/
def tot (t f : ℕ) : EReal := past (sco x b (f / 64) t) t 0

end

end Cert.Ahead
end
-- ==== Proof.Ahead.lean ====
/- The forward call's blocks: what one key block gives to a point's outputs and to its running sum, the blocks of a point from
   the diagonal down, and both in terms of the weights. -/
module

public import proofs.«01_k».proof.Proof.AheadModel

@[expose] public section

set_option maxRecDepth 16384

noncomputable section

namespace Cert.Ahead

open Cert.KernelIdeal Cert.KernelIdeal.Gen Cert.Sb
open Idealize.ShloMosaic

/-- What a point keeps between blocks: the outputs so far, and each row's log of what stays past the blocks so far. -/
structure St where
  acc : Vec Ideal S1024x256 .f32
  car : Vec Ideal S1024x256 .f32

/-- What the blocks share, the rest of the backward's context at zero. -/
def shared (q : FVec Ideal S1024x256 .bf16) (k : Vec Ideal S1x2048x256 .bf16) : Cx Ideal where
  later := k0_pay87
  excl := k0_pay88
  q := q
  ct := fun _ => (0 : EReal)
  r := fun _ => (0 : EReal)
  k := k
  v := fun _ => (0 : EReal)

section Block
variable (C : Cx Ideal) (v : Vec Ideal S1x2048x256 .bf16) (msk : FVec Ideal S1024x256 .f32 → FVec Ideal S1024x256 .f32)
  (o : Fin 3 → ℕ) (h : ∀ a, o a + S1x256x256.size a ≤ S1x2048x256.size a)

/-- The block's weights, from the running sum before it. -/
def weights (car : FVec Ideal S1024x256 .f32) : FVec Ideal S1024x256 .f32 :=
  msk (exp (addf (addf (addf (logit C o h) (stayM C msk o h)) (nn (narrow (stayM C msk o h)) C.later)) car))

/-- The block's part of the outputs. -/
def part (car : FVec Ideal S1024x256 .f32) : FVec Ideal S1024x256 .f32 := nn (narrow (weights C msk o h car)) (mat (cut v o h))

/-- The state after one block. -/
def one (s : St) : St where
  acc := same (addf s.acc (part C v msk o h s.car))
  car := same (cpNext C msk o h s.car)

end Block

/-- The state after two blocks before the diagonal, the second's running sum from the first's. -/
def pair (C : Cx Ideal) (v : Vec Ideal S1x2048x256 .bf16) (oA oB : Fin 3 → ℕ) (hA : ∀ a, oA a + S1x256x256.size a ≤ S1x2048x256.size a)
    (hB : ∀ a, oB a + S1x256x256.size a ≤ S1x2048x256.size a) (s : St) : St where
  acc := same (addf s.acc (addf (part C v id oA hA s.car) (part C v id oB hB (cpNext C id oA hA s.car))))
  car := same (cpNext C id oB hB (cpNext C id oA hA s.car))

/-- Two blocks at once are two blocks in turn. -/
theorem pair_eq (C : Cx Ideal) (v : Vec Ideal S1x2048x256 .bf16) (oA oB : Fin 3 → ℕ) (hA : ∀ a, oA a + S1x256x256.size a ≤ S1x2048x256.size a)
    (hB : ∀ a, oB a + S1x256x256.size a ≤ S1x2048x256.size a) (s : St) : pair C v oA oB hA hB s = one C v id oB hB (one C v id oA hA s) := by
  unfold pair one
  simp only [same_eq]
  congr 1
  funext j
  exact (add_assoc (show EReal from s.acc j) _ _).symm

/-- The mask of the diagonal block: key columns before the row are kept. -/
def diag (x : FVec Ideal S1024x256 .f32) : FVec Ideal S1024x256 .f32 := select (cmpi .slt k0_pay89 (broadcast S1024x256 0#32)) x zeros

theorem diag_at (x : FVec Ideal S1024x256 .f32) (r : Fin 1024) (c : Fin 256) : diag x (ix2 r c) = if c.val < r.val % 256 then x (ix2 r c) else 0 := by
  have i : grid0.Coords := grid0.coords ⟨0, by decide⟩
  exact (congrArg (fun b : BitVec 32 => select (cmpi .slt k0_pay89 (broadcast S1024x256 b)) x zeros (ix2 r c))
    (BitVec.sub_self (Scalar.muli (BitVec.ofNat 32 (i 2).val) 256#32)).symm).trans (Cert.Sb.diag_at x i r c)

/-! ## In terms of the weights -/

/-- What the queries, the keys and the values hold. -/
structure Reads (q : FVec Ideal S1024x256 .bf16) (k v : Vec Ideal S1x2048x256 .bf16) (Q : Fin 1024 → Fin 256 → EReal) (K V : ℕ → Fin 256 → EReal) : Prop where
  q : ∀ r c, (show EReal from q (ix2 r c)) = Q r c
  k : ∀ (s : Fin 2048) (c : Fin 256), (show EReal from k (ix3 0 s c)) = K s.val c
  v : ∀ (s : Fin 2048) (c : Fin 256), (show EReal from v (ix3 0 s c)) = V s.val c

/-- The state after the blocks from the diagonal `i` down to block `n`. -/
structure Down (i : ℕ) (Q : Fin 1024 → Fin 256 → EReal) (K V : ℕ → Fin 256 → EReal) (n : ℕ) (s : St) : Prop where
  acc : ∀ (r : Fin 1024) (c : Fin 256), (show EReal from s.acc (ix2 r c)) = ∑ u ∈ Finset.Ico (256 * n) 2048, we (dots Q K r) (pos i r) u * V u c
  car : ∀ (r : Fin 1024) (c : Fin 256), (show EReal from s.car (ix2 r c)) = past (dots Q K r) (pos i r) (256 * n)

section
variable {q : FVec Ideal S1024x256 .bf16} {k v : Vec Ideal S1x2048x256 .bf16} {Q : Fin 1024 → Fin 256 → EReal} {K V : ℕ → Fin 256 → EReal}
  (H : Reads q k v Q K V) {i : ℕ}

/-- A point's start is the state past the diagonal. -/
theorem start_down (hi : i < 8) (s : St) (ha : ∀ j, (show EReal from s.acc j) = 0) (hc : ∀ j, (show EReal from s.car j) = 0) :
    Down i Q K V (i + 1) s where
  acc r c := by
    rw [ha]
    refine (Finset.sum_eq_zero fun u hu => ?_).symm
    have hu := Finset.mem_Ico.mp hu
    rw [we_zero _ _ (by unfold pos; omega), zero_mul]
  car r c := by
    rw [hc, past_zero _ _ (by unfold pos; omega)]

variable {msk : FVec Ideal S1024x256 .f32 → FVec Ideal S1024x256 .f32} {n : ℕ} (hn : n < 8)
  (h : ∀ a, ![0, 256 * n, 0] a + S1x256x256.size a ≤ S1x2048x256.size a)
  (hm : ∀ (x : FVec Ideal S1024x256 .f32) (r : Fin 1024) (c : Fin 256), msk x (ix2 r c) = if 256 * n + c.val < pos i r then x (ix2 r c) else 0)
include H hn

theorem logit_at (r : Fin 1024) (c : Fin 256) : (show EReal from logit (shared q k) ![0, 256 * n, 0] h (ix2 r c)) = dots Q K r (256 * n + c.val) := by
  refine (nt_at _ _ r c).trans (Finset.sum_congr rfl fun l _ => congrArg₂ (fun a b : EReal => a * b) (H.q r l) ?_)
  rw [mat_at, cut_at _ _ _ _ _ hn]
  exact H.k _ _

theorem left_at (r : Fin 1024) (c : Fin 256) : (show EReal from stay (logit (shared q k) ![0, 256 * n, 0] h) (ix2 r c)) = -spx (dots Q K r (256 * n + c.val)) := by
  rw [← logit_at H hn h r c, ← stay_el]
  pointwise [stay, zeros, ones]

include hm

theorem stayM_at (r : Fin 1024) (c : Fin 256) : (show EReal from stayM (shared q k) msk ![0, 256 * n, 0] h (ix2 r c))
    = ls (dots Q K r) (pos i r) (256 * n + c.val) := by
  unfold stayM ls
  rw [hm]
  split
  · exact left_at H hn h r c
  · rfl

theorem weights_at (car : FVec Ideal S1024x256 .f32) (hc : ∀ r c, (show EReal from car (ix2 r c)) = past (dots Q K r) (pos i r) (256 * (n + 1)))
    (r : Fin 1024) (c : Fin 256) : (show EReal from weights (shared q k) msk ![0, 256 * n, 0] h car (ix2 r c)) = we (dots Q K r) (pos i r) (256 * n + c.val) := by
  have es := stayM_at H hn h hm
  unfold weights we
  rw [hm]
  split
  · next hp =>
    show Ideal.exp (((logit (F := Ideal) _ _ h (ix2 r c) + stayM (F := Ideal) _ msk _ h (ix2 r c)) + nn (F := Ideal) (narrow _) _ (ix2 r c)) + car (ix2 r c)) = _
    refine (congrArg Ideal.exp (congrArg₂ (fun a b : EReal => a + b) (congrArg₂ (fun a b : EReal => a + b)
      (congrArg₂ (fun a b : EReal => a + b) (logit_at H hn h r c) ((es r c).trans (if_pos hp))) ((nn_at _ _ r c).trans
        (Finset.sum_congr rfl fun l _ => congrArg₂ (fun a b : EReal => a * b) ((congrFun (narrow_eq _) _).trans (es r l)) (later_at l c)))) (hc r c))).trans ?_
    rw [add_assoc, past_later _ _ hn]
  · rfl

theorem one_down (s : St) (hs : Down i Q K V (n + 1) s) : Down i Q K V n (one (shared q k) v msk ![0, 256 * n, 0] h s) where
  acc r c := by
    show same (F := Ideal) (addf (F := Ideal) s.acc _) (ix2 r c) = _
    rw [same_eq]
    show ((show EReal from s.acc (ix2 r c)) + part (shared q k) v msk _ h s.car (ix2 r c) : EReal) = _
    have e : (part (shared q k) v msk _ h s.car (ix2 r c) : EReal) = ∑ l : Fin 256, we (dots Q K r) (pos i r) (256 * n + l.val) * V (256 * n + l.val) c := by
      refine (nn_at _ _ r c).trans (Finset.sum_congr rfl fun l _ => congrArg₂ (fun a b : EReal => a * b)
        ((congrFun (narrow_eq _) _).trans (weights_at H hn h hm s.car hs.car r l)) ?_)
      rw [mat_at, cut_at _ _ _ _ _ hn]
      exact H.v _ _
    rw [e, hs.acc, Fin.sum_univ_eq_sum_range (fun l => we (dots Q K r) (pos i r) (256 * n + l) * V (256 * n + l) c),
      ← Finset.sum_Ico_consecutive _ (show 256 * n ≤ 256 * (n + 1) by omega) (show 256 * (n + 1) ≤ 2048 by omega), add_comm]
    congr 1
    rw [Finset.sum_Ico_eq_sum_range, show 256 * (n + 1) - 256 * n = 256 by omega]
  car r c := by
    show same (F := Ideal) (cpNext _ _ _ _ s.car) (ix2 r c) = _
    rw [same_eq]
    show ((show EReal from s.car (ix2 r c)) + rowSum (F := Ideal) (stayM (shared q k) msk _ h) (ix2 r c) : EReal) = _
    rw [hs.car, rowSum_at, Finset.sum_congr rfl fun l _ => stayM_at H hn h hm r l, past_block _ _ hn]

end

section
variable {q : FVec Ideal S1024x256 .bf16} {k v : Vec Ideal S1x2048x256 .bf16} {Q : Fin 1024 → Fin 256 → EReal} {K V : ℕ → Fin 256 → EReal}
  (H : Reads q k v Q K V) {i : ℕ} (hi : i < 8) {n : ℕ} {o : Fin 3 → ℕ} (ho : o = ![0, 256 * n, 0])
  (h : ∀ a, o a + S1x256x256.size a ≤ S1x2048x256.size a) (s : St)
include H hi ho

/-- A block before the diagonal. -/
theorem before_down (hn : n < i) (hs : Down i Q K V (n + 1) s) : Down i Q K V n (one (shared q k) v id o h s) := by
  subst ho
  exact one_down H (by omega) h (fun x r c => (if_pos (by have := c.2; unfold pos; omega)).symm) s hs

/-- The diagonal block. -/
theorem diag_down (hn : n = i) (hs : Down i Q K V (n + 1) s) : Down i Q K V n (one (shared q k) v diag o h s) := by
  subst ho
  refine one_down H (by omega) h (fun x r c => (diag_at x r c).trans (if_congr ?_ rfl rfl)) s hs
  unfold pos
  omega

end

end Cert.Ahead
end
-- ==== Proof.Tiles.lean ====
/- What the tiled products share: their runs turned into claims, the loads and stores of whole blocks, and two matrix
   products whose blocks are the products of the factors' blocks. -/
module

public import Idealize.ShloMosaic.Lib.Pipeline.ValueKit
public import Idealize.ShloMosaic.Lib.Claim
public import Idealize.ShloMosaic.Lib.Quiescent

@[expose] public section

noncomputable section

namespace Cert.Products

open Idealize.ShloMosaic Idealize.SL.Sem

/-! ## From a run to the claims -/

section
variable {nD : Nat} {τ : Topo} {sig : RefSig} {Val : EltTy → Type} {Λ : Labels} {defs : Defs nD τ sig Val Λ}
  {p : (c : Thread nD τ) → Prog (TpuEff nD τ sig Val Λ c.2) PUnit} {s : MemSt nD τ sig Val} {D : Type} {X : D → Type}
  {f : PUnit × MemSt nD τ sig Val → (c : D) → X c} {a : (c : D) → X c} {K : PUnit × MemSt nD τ sig Val → D → Prop}

/-- A program without semaphores that leaves its arguments as they were is quiescent. -/
theorem quiet (h0 : sig.nSem + sig.nDmaSem = 0) (h : θ_run defs p s fun r => ∀ c, f r c = a c ∧ K r c) :
    θ_run defs p s fun r => (∀ c, K r c) ∧ r.2.sem = fun _ => 0 :=
  (θ_run _ _ _).mono (fun r h => ⟨fun c => (h c).2, sem_eq_zero_of_no_sems h0 r.2⟩) h

/-- A run's result under another name for its value. -/
theorem result {v : (c : D) → X c} (h : θ_run defs p s fun r => ∀ c, f r c = a c ∧ K r c) (ha : ∀ c, a c = v c) :
    θ_run defs p s fun r => ∀ c, f r c = v c ∧ K r c :=
  (θ_run _ _ _).mono (fun _ h c => ⟨(h c).1.trans (ha c), (h c).2⟩) h

end

/-! ## Whole blocks -/

theorem hz : (![0, 0] : Fin 2 → Nat) = fun _ => 0 := funext fun a => by fin_cases a <;> rfl

section
variable {Val : EltTy → Type} [∀ e, Nonempty (Val e)] {S : Shape} {e : EltTy} {off : Fin S.rank → Nat}
  {inb : ∀ a, off a + S.size a ≤ S.size a} {sig : RefSig} {κ : Kind} {sp : Space}

/-- What one whole store leaves, whatever was there. -/
theorem stored (h0 : off = fun _ => 0) (v : View sig κ sp S e) (f : v.ty.Contents Val) (w : S.Idx → Val e) :
    v.read Val (v.writes Val f [⟨Rect.unit off S.size inb, w⟩]) = w :=
  (View.read_writes_eq_canon v f _ fun y => ⟨_, List.mem_singleton_self _, View.mem_set_unit_zero h0 inb y⟩).trans (View.canon_unit_zero h0 inb w)

/-- A whole load of a buffer that holds `x`. -/
theorem loaded (h0 : off = fun _ => 0) (r : Memref sig κ sp S e) (h : r.IsWhole) (x : S.Idx → Elt Ideal e) :
    r.view.readAt (Elt Ideal) (Rect.unit off S.size inb).toLoadRect (h.unread x) = x :=
  (congrArg (fun g => View.ld g (Rect.unit off S.size inb)) (h.read_unread x)).trans (View.ld_unit_zero h0 inb x)

end

/-! ## Products -/

/-- An index of a matrix is its row and its column. -/
theorem at2 {M N : Nat} (y : (⟨2, ![M, N]⟩ : Shape).Idx) : ∃ i j, y = ix2 i j := ⟨y 0, y 1, by ext a; fin_cases a <;> rfl⟩

section
variable {M K N M' N' : Nat}

/-- The product of the rows of one matrix with the columns of another. -/
def byColumns (A : (⟨2, ![M, K]⟩ : Shape).Idx → EReal) (B : (⟨2, ![K, N]⟩ : Shape).Idx → EReal) (y : (⟨2, ![M, N]⟩ : Shape).Idx) : EReal :=
  ∑ k : Fin K, A (ix2 (y 0) k) * B (ix2 k (y 1))

/-- The product of the rows of one matrix with the rows of another. -/
def byRows (A : (⟨2, ![M, K]⟩ : Shape).Idx → EReal) (B : (⟨2, ![N, K]⟩ : Shape).Idx → EReal) (y : (⟨2, ![M, N]⟩ : Shape).Idx) : EReal :=
  ∑ k : Fin K, A (ix2 (y 0) k) * B (ix2 (y 1) k)

/-- An element of a product is that of the blocks' product where the blocks hold its row and its column. -/
theorem byColumns_block {a : (⟨2, ![M', K]⟩ : Shape).Idx → EReal} {b : (⟨2, ![K, N']⟩ : Shape).Idx → EReal}
    {A : (⟨2, ![M, K]⟩ : Shape).Idx → EReal} {B : (⟨2, ![K, N]⟩ : Shape).Idx → EReal} {y : (⟨2, ![M', N']⟩ : Shape).Idx} {i : (⟨2, ![M, N]⟩ : Shape).Idx}
    (ha : ∀ k, a (ix2 (y 0) k) = A (ix2 (i 0) k)) (hb : ∀ k, b (ix2 k (y 1)) = B (ix2 k (i 1))) : byColumns a b y = byColumns A B i :=
  Finset.sum_congr rfl fun k _ => congrArg₂ (· * ·) (ha k) (hb k)

/-- The same for rows with rows. -/
theorem byRows_block {a : (⟨2, ![M', K]⟩ : Shape).Idx → EReal} {b : (⟨2, ![N', K]⟩ : Shape).Idx → EReal}
    {A : (⟨2, ![M, K]⟩ : Shape).Idx → EReal} {B : (⟨2, ![N, K]⟩ : Shape).Idx → EReal} {y : (⟨2, ![M', N']⟩ : Shape).Idx} {i : (⟨2, ![M, N]⟩ : Shape).Idx}
    (ha : ∀ k, a (ix2 (y 0) k) = A (ix2 (i 0) k)) (hb : ∀ k, b (ix2 (y 1) k) = B (ix2 (i 1) k)) : byRows a b y = byRows A B i :=
  Finset.sum_congr rfl fun k _ => congrArg₂ (· * ·) (ha k) (hb k)

end

end Cert.Products
end
-- ==== Proof.AheadRun.lean ====
/- The forward call's run at a point: the loop over pairs of key blocks, and the two outputs as functions of the point's blocks. -/
module

public import proofs.«01_k».proof.Proof.Ahead
public import proofs.«01_k».proof.Proof.Tiles
public import proofs.«01_k».proof.Proof.Gen.SticksIdeal.Value

@[expose] public section

set_option maxRecDepth 16384

noncomputable section

namespace Cert.Ahead

open Cert.SticksIdeal Cert.SticksIdeal.Gen Cert.Sb Cert.Products
open Idealize.ShloMosaic Idealize.ShloMosaic.TcCoe

/-- A load of one block of a long array that a buffer holds. -/
theorem loaded_cut {sp : Space} (r : Memref sig .tc sp S1x2048x256 .bf16) (h : r.IsWhole) (x : Vec Ideal S1x2048x256 .bf16) (o : Fin 3 → ℕ)
    (hb : ∀ a, o a + S1x256x256.size a ≤ S1x2048x256.size a) :
    r.view.readAt (Elt Ideal) (Rect.unit (s := S1x2048x256) o S1x256x256.size hb).toLoadRect (h.unread x) = cut x o hb :=
  (View.readAt_unit r.view _ hb rfl hb).trans (congrArg (fun y => cut y o hb) (h.read_unread x))

section
variable (c : Dev nD) (i : grid0.Coords)
  (arg3 : Memref sig .tc .vmem S1x256x256 .bf16) (harg3 : arg3.IsWhole) (arg4 : Memref sig .tc .vmem S1x2048x256 .bf16) (harg4 : arg4.IsWhole)
  (arg5 : Memref sig .tc .vmem S1x2048x256 .bf16) (harg5 : arg5.IsWhole) (arg6 : Memref sig .tc .hbm S8x128 .f32) (harg6 : arg6.IsWhole)
  (arg7 : Memref sig .tc .vmem S1x256x256 .bf16) (harg7 : arg7.IsWhole) (arg8 : Memref sig .tc .vmem S1x256x256 .f32) (harg8 : arg8.IsWhole)
  (arg9 : Memref sig .tc .vmem S1024x256 .f32) (harg9 : arg9.IsWhole) (arg10 : Memref sig .tc .vmem S1024x256 .f32) (harg10 : arg10.IsWhole)
  (q : FVec Ideal S1024x256 .bf16) (x1 x2 : Vec Ideal S1x2048x256 .bf16)
  (v70 : BitVec 32) (v78 : FVec Ideal S256x256 .bf16) (v111 : FVec Ideal S1024x256 .bf16) (v119 : Vec Ideal S1024x256 .f32)

/-- The state two buffers hold. -/
def held (f9 : arg9.view.ty.Contents (Elt Ideal)) (f10 : arg10.view.ty.Contents (Elt Ideal)) : St :=
  ⟨arg9.view.read (Elt Ideal) f9, arg10.view.read (Elt Ideal) f10⟩

/-- Pair `k` of a point's blocks. -/
def pairAt (k : Fin (k0_t1_loop i).trips) (s : St) : St :=
  pair (shared q x1) x2 (k0_off2 i k 1#32) (k0_off2 i k 2#32) (k0_off2_inb i k 0) (k0_off2_inb i k 1) s

theorem trip (k : Fin (k0_t1_loop i).trips) (f9 : arg9.view.ty.Contents (Elt Ideal)) (f10 : arg10.view.ty.Contents (Elt Ideal)) :
    held arg9 arg10 (arg9.view.writes (Elt Ideal) f9 (tripL_k0_t1 Variants.none c none i arg3 harg3 arg4 harg4 arg5 harg5 arg6 harg6 arg7 harg7 arg8 harg8 arg9 harg9 arg10 harg10
        k0_pay24 q v70 v78 v111 v119 (harg4.unread x1) (harg5.unread x2) k f9 f10).1)
      (arg10.view.writes (Elt Ideal) f10 (tripL_k0_t1 Variants.none c none i arg3 harg3 arg4 harg4 arg5 harg5 arg6 harg6 arg7 harg7 arg8 harg8 arg9 harg9 arg10 harg10
        k0_pay24 q v70 v78 v111 v119 (harg4.unread x1) (harg5.unread x2) k f9 f10).2) = pairAt i q x1 x2 k (held arg9 arg10 f9 f10) := by
  unfold tripL_k0_t1 trip_k0_t1
  dsimp only
  unfold trip_k0_t1.sl.r trip_k0_t1.sl.r_1 trip_k0_t1.sl.r_2 trip_k0_t1.sl.r_3 trip_k0_t1.sl.r_4 trip_k0_t1.sl.r_5 trip_k0_t1.sl.r_6
  unfold held pairAt pair
  rw [stored hz, stored hz, View.readAt_full, View.readAt_full]
  rw [loaded_cut, loaded_cut, loaded_cut, loaded_cut]
  rfl

/-- The state after the first `n` pairs. -/
def pairs (s : St) : ℕ → St
  | 0 => s
  | n + 1 => if h : n < (k0_t1_loop i).trips then pairAt i q x1 x2 ⟨n, h⟩ (pairs s n) else pairs s n

theorem loop (f9 : arg9.view.ty.Contents (Elt Ideal)) (f10 : arg10.view.ty.Contents (Elt Ideal)) : ∀ n, n ≤ (k0_t1_loop i).trips →
    held arg9 arg10 (arg9.view.writes (Elt Ideal) f9 (pb_k0_t1 Variants.none c none i arg3 harg3 arg4 harg4 arg5 harg5 arg6 harg6 arg7 harg7 arg8 harg8 arg9 harg9 arg10 harg10
        k0_pay24 q v70 v78 v111 v119 (harg4.unread x1) (harg5.unread x2) f9 f10 n).1)
      (arg10.view.writes (Elt Ideal) f10 (pb_k0_t1 Variants.none c none i arg3 harg3 arg4 harg4 arg5 harg5 arg6 harg6 arg7 harg7 arg8 harg8 arg9 harg9 arg10 harg10
        k0_pay24 q v70 v78 v111 v119 (harg4.unread x1) (harg5.unread x2) f9 f10 n).2) = pairs i q x1 x2 (held arg9 arg10 f9 f10) n
  | 0, _ => rfl
  | n + 1, h => by
    rw [pb_k0_t1_succ (k := ⟨n, h⟩), View.writes_append, View.writes_append, trip, loop f9 f10 n (by omega), pairs, dif_pos (show n < _ from h)]

/-- The second loop has no trips. -/
theorem trips2 : Scf.trips (k0_t2_loop i).lb (k0_t2_loop i).ub (k0_t2_loop i).st = 0 := by
  unfold k0_t2_loop
  generalize i 2 = n
  revert n
  decide +kernel

variable (x0 : Vec Ideal S1x256x256 .bf16)

/-- The point's stacked queries. -/
def queries : FVec Ideal S1024x256 .bf16 := k0_pay30 k0_pay22 k0_pay23 (k0_pay26 x0) (k0_pay27 x0) (k0_pay28 x0) k0_pay29

/-- The state after the diagonal block. -/
def first : St := one (shared (queries x0) x1) x2 diag (k0_off1 i) (k0_off1_inb i) ⟨k0_pay31 (F := Ideal), k0_pay32 (F := Ideal)⟩

/-- The state after the pairs. -/
def paired : St := pairs i (queries x0) x1 x2 (first i x1 x2 x0) (k0_t1_loop i).trips

/-- What the two loops leave, over the stores before them. -/
theorem finish (v146 : BitVec 32) (HS0 HS1 : List (View.Piece (Elt Ideal) S1024x256 .f32)) (f9 : arg9.view.ty.Contents (Elt Ideal)) (f10 : arg10.view.ty.Contents (Elt Ideal))
    (n : ℕ) (hn : n = 0) (hq : q = queries x0)
    (hs : held arg9 arg10 (arg9.view.writes (Elt Ideal) arg9.view.junk HS0) (arg10.view.writes (Elt Ideal) arg10.view.junk HS1) = first i x1 x2 x0) :
    held arg9 arg10 (arg9.view.writes (Elt Ideal) arg9.view.junk ((pb_k0_t2 Variants.none c none i arg3 harg3 arg4 harg4 arg5 harg5 arg6 harg6 arg7 harg7 arg8 harg8 arg9 harg9 arg10 harg10
        k0_pay24 q v70 v78 v111 v119 v146 (harg4.unread x1) (harg5.unread x2) f9 f10 n).1 ++
        ((pb_k0_t1 Variants.none c none i arg3 harg3 arg4 harg4 arg5 harg5 arg6 harg6 arg7 harg7 arg8 harg8 arg9 harg9 arg10 harg10
        k0_pay24 q v70 v78 v111 v119 (harg4.unread x1) (harg5.unread x2) (arg9.view.writes (Elt Ideal) arg9.view.junk HS0) (arg10.view.writes (Elt Ideal) arg10.view.junk HS1)
        (Scf.trips (k0_t1_loop i).lb (k0_t1_loop i).ub (k0_t1_loop i).st)).1 ++ HS0)))
      (arg10.view.writes (Elt Ideal) arg10.view.junk ((pb_k0_t2 Variants.none c none i arg3 harg3 arg4 harg4 arg5 harg5 arg6 harg6 arg7 harg7 arg8 harg8 arg9 harg9 arg10 harg10
        k0_pay24 q v70 v78 v111 v119 v146 (harg4.unread x1) (harg5.unread x2) f9 f10 n).2 ++
        ((pb_k0_t1 Variants.none c none i arg3 harg3 arg4 harg4 arg5 harg5 arg6 harg6 arg7 harg7 arg8 harg8 arg9 harg9 arg10 harg10
        k0_pay24 q v70 v78 v111 v119 (harg4.unread x1) (harg5.unread x2) (arg9.view.writes (Elt Ideal) arg9.view.junk HS0) (arg10.view.writes (Elt Ideal) arg10.view.junk HS1)
        (Scf.trips (k0_t1_loop i).lb (k0_t1_loop i).ub (k0_t1_loop i).st)).2 ++ HS1)))
      = paired i x1 x2 x0 := by
  subst hn hq
  rw [pb_k0_t2.eq_1, List.nil_append, List.nil_append, View.writes_append, View.writes_append]
  refine (loop c i arg3 harg3 arg4 harg4 arg5 harg5 arg6 harg6 arg7 harg7 arg8 harg8 arg9 harg9 arg10 harg10 (queries x0) x1 x2 v70 v78 v111 v119 _ _ _ (Nat.le_refl _)).trans ?_
  rw [hs]
  rfl

/-- The block the outputs are read from. -/
def outO (s : St) : FVec Ideal S1x256x256 .bf16 :=
  k0_pay1 k0_pay21 k0_pay22 k0_pay23
    (VecWindow.window (s := S1024x256) s.acc ![0, 0] S256x256.size inb_S1024x256_S256x256_0_0)
    (VecWindow.window (s := S1024x256) s.acc ![256, 0] S256x256.size inb_S1024x256_S256x256_256_0)
    (VecWindow.window (s := S1024x256) s.acc ![512, 0] S256x256.size inb_S1024x256_S256x256_512_0)
    (VecWindow.window (s := S1024x256) s.acc ![768, 0] S256x256.size inb_S1024x256_S256x256_768_0)

/-- The block the rows' totals are read from. -/
def outR (s : St) : FVec Ideal S1x256x256 .f32 :=
  k0_pay2 k0_pay21 k0_pay22 k0_pay23
    (VecWindow.window (s := S1024x256) s.car ![0, 0] S256x256.size inb_S1024x256_S256x256_0_0)
    (VecWindow.window (s := S1024x256) s.car ![256, 0] S256x256.size inb_S1024x256_S256x256_256_0)
    (VecWindow.window (s := S1024x256) s.car ![512, 0] S256x256.size inb_S1024x256_S256x256_512_0)
    (VecWindow.window (s := S1024x256) s.car ![768, 0] S256x256.size inb_S1024x256_S256x256_768_0)

/-- The diagonal block's stores. -/
theorem diag_stores (j : BitVec 32) (o : Fin 3 → ℕ) (h : ∀ a, o a + S1x256x256.size a ≤ S1x2048x256.size a) (a b : Vec Ideal S1024x256 .f32) :
    (⟨k0_pay39 (k0_pay34 (cut x2 o h)) (k0_pay37 j k0_pay24 k0_pay25 q j (k0_pay33 (cut x1 o h)) b) a, k0_pay38 j k0_pay25 q j (k0_pay33 (cut x1 o h)) b⟩ : St)
      = one (shared q x1) x2 diag o h ⟨a, b⟩ := by
  unfold k0_pay38 k0_pay37 k0_pay36
  simp only [show ∀ z : BitVec 32, Scalar.subi z z = 0#32 from fun z => BitVec.sub_self z]
  rfl

/-- The odd block's stores. -/
theorem odd_stores (o : Fin 3 → ℕ) (h : ∀ a, o a + S1x256x256.size a ≤ S1x2048x256.size a) (a b : Vec Ideal S1024x256 .f32) :
    (⟨k0_pay20 k0_pay24 q (cut x1 o h) (cut x2 o h) b a, k0_pay19 q (cut x1 o h) b⟩ : St) = one (shared q x1) x2 id o h ⟨a, b⟩ := rfl

theorem hz3 : (![0, 0, 0] : Fin 3 → Nat) = fun _ => 0 := funext fun a => by fin_cases a <;> rfl

theorem queriesA : kernelRun0_A.sl.r_3 c arg3 harg3 x0 = queries x0 := by
  unfold kernelRun0_A.sl.r_3 kernelRun0_A.sl.r kernelRun0_A.sl.r_1 kernelRun0_A.sl.r_2
  rw [loaded hz3]
  rfl

theorem topA : kernelRun0_A.sl.v70 i = BitVec.ofNat 32 (i 2).val := by
  unfold kernelRun0_A.sl.v70 kernelRun0_A.sl.v68 kernelRun0_A.sl.v69 kernelRun0_A.sl.v54 kernelRun0_A.sl.v65 kernelRun0_A.sl.v67 kernelRun0_A.sl.v53
    kernelRun0_A.sl.v66 kernelRun0_A.sl.v59 kernelRun0_A.sl.v56 kernelRun0_A.sl.v58 kernelRun0_A.sl.v55 kernelRun0_A.sl.v57 kernelRun0_A.sl.v53
  generalize i 2 = n
  revert n
  decide +kernel

theorem startA : held arg9 arg10 (arg9.view.writes (Elt Ideal) arg9.view.junk (kernelRun0_A.sl.HS0_2 c i arg3 harg3 arg4 harg4 arg5 harg5 arg9 arg10 x0 x1 x2))
    (arg10.view.writes (Elt Ideal) arg10.view.junk (kernelRun0_A.sl.HS1_2 c i arg3 harg3 arg4 harg4 arg10 x0 x1)) = first i x1 x2 x0 := by
  unfold kernelRun0_A.sl.HS0_2 kernelRun0_A.sl.HS1_2 kernelRun0_A.sl.r_6 kernelRun0_A.sl.r_5 kernelRun0_A.sl.r_4 kernelRun0_A.sl.v119 kernelRun0_A.sl.v99 kernelRun0_A.sl.HS0_1 kernelRun0_A.sl.HS1_1
  rw [queriesA, topA, loaded_cut, loaded_cut, View.readCov_full, View.readCov_full]
  unfold held
  rw [View.read_writes_full, View.read_writes_full]
  exact diag_stores _ _ _ _ _ _ _ _

theorem outO_reads (L : List (View.Piece (Elt Ideal) S1024x256 .f32)) (s : St) (e : arg9.view.read (Elt Ideal) (arg9.view.writes (Elt Ideal) arg9.view.junk L) = s.acc) :
    k0_pay1 k0_pay21 k0_pay22 k0_pay23
      (arg9.view.readCov L (Rect.unit (s := S1024x256) ![0, 0] ![256, 256] inb_S1024x256_S256x256_0_0).toLoadRect)
      (arg9.view.readCov L (Rect.unit (s := S1024x256) ![256, 0] ![256, 256] inb_S1024x256_S256x256_256_0).toLoadRect)
      (arg9.view.readCov L (Rect.unit (s := S1024x256) ![512, 0] ![256, 256] inb_S1024x256_S256x256_512_0).toLoadRect)
      (arg9.view.readCov L (Rect.unit (s := S1024x256) ![768, 0] ![256, 256] inb_S1024x256_S256x256_768_0).toLoadRect) = outO s := by
  unfold outO
  rw [← e]
  rfl

theorem outR_reads (L : List (View.Piece (Elt Ideal) S1024x256 .f32)) (s : St) (e : arg10.view.read (Elt Ideal) (arg10.view.writes (Elt Ideal) arg10.view.junk L) = s.car) :
    k0_pay2 k0_pay21 k0_pay22 k0_pay23
      (arg10.view.readCov L (Rect.unit (s := S1024x256) ![0, 0] ![256, 256] inb_S1024x256_S256x256_0_0).toLoadRect)
      (arg10.view.readCov L (Rect.unit (s := S1024x256) ![256, 0] ![256, 256] inb_S1024x256_S256x256_256_0).toLoadRect)
      (arg10.view.readCov L (Rect.unit (s := S1024x256) ![512, 0] ![256, 256] inb_S1024x256_S256x256_512_0).toLoadRect)
      (arg10.view.readCov L (Rect.unit (s := S1024x256) ![768, 0] ![256, 256] inb_S1024x256_S256x256_768_0).toLoadRect) = outR s := by
  unfold outR
  rw [← e]
  rfl

theorem outA (hc0 : ¬cond0_0 i) :
    out0_A_3 (F := Ideal) c i arg3 harg3 arg4 harg4 arg5 harg5 arg7 harg7 arg8 harg8 arg9 harg9 arg10 harg10 hc0 x0 x1 x2 = outO (paired i x1 x2 x0) := by
  unfold out0_A_3 kernelRun0_A
  dsimp only
  unfold kernelRun0_A.sl.v160 kernelRun0_A.sl.v162 kernelRun0_A.sl.v166 kernelRun0_A.sl.v170
  exact (stored hz3 _ _ _).trans (outO_reads arg9 _ _ (congrArg St.acc (finish c i arg3 harg3 arg4 harg4 arg5 harg5 (Memref.whole main_v0) (Memref.isWhole_whole _) arg7 harg7 arg8 harg8 arg9 harg9 arg10 harg10 _ x1 x2 _ _ _ _ x0 _ _ _ _ _ _ (trips2 i) (queriesA c arg3 harg3 x0)
    (startA c i arg3 harg3 arg4 harg4 arg5 harg5 arg9 arg10 x1 x2 x0))))

theorem totalsA (hc0 : ¬cond0_0 i) :
    out0_A_4 (F := Ideal) c i arg3 harg3 arg4 harg4 arg5 harg5 arg7 harg7 arg8 harg8 arg9 harg9 arg10 harg10 hc0 x0 x1 x2 = outR (paired i x1 x2 x0) := by
  unfold out0_A_4 kernelRun0_A
  dsimp only
  unfold kernelRun0_A.sl.v161 kernelRun0_A.sl.v164 kernelRun0_A.sl.v168 kernelRun0_A.sl.v172
  exact (stored hz3 _ _ _).trans (outR_reads arg10 _ _ (congrArg St.car (finish c i arg3 harg3 arg4 harg4 arg5 harg5 (Memref.whole main_v0) (Memref.isWhole_whole _) arg7 harg7 arg8 harg8 arg9 harg9 arg10 harg10 _ x1 x2 _ _ _ _ x0 _ _ _ _ _ _ (trips2 i) (queriesA c arg3 harg3 x0)
    (startA c i arg3 harg3 arg4 harg4 arg5 harg5 arg9 arg10 x1 x2 x0))))

/-- The odd block's stores over the stores before them. -/
theorem odd_reads (L9 L10 : List (View.Piece (Elt Ideal) S1024x256 .f32)) (s : St) (o : Fin 3 → ℕ) (h : ∀ a, o a + S1x256x256.size a ≤ S1x2048x256.size a)
    (hq : q = queries x0) (e : held arg9 arg10 (arg9.view.writes (Elt Ideal) arg9.view.junk L9) (arg10.view.writes (Elt Ideal) arg10.view.junk L10) = s) :
    arg9.view.read (Elt Ideal) (arg9.view.writes (Elt Ideal) arg9.view.junk (⟨(Rect.unit (s := S1024x256) ![0, 0] S1024x256.size inb_S1024x256_S1024x256_0_0), k0_pay20 k0_pay24 q
        (View.readAt (Elt Ideal) arg4.view (Rect.unit (s := S1x2048x256) o S1x256x256.size h).toLoadRect (harg4.unread x1)) (View.readAt (Elt Ideal) arg5.view (Rect.unit (s := S1x2048x256) o S1x256x256.size h).toLoadRect (harg5.unread x2))
        (arg10.view.readCov L10 (Rect.unit (s := S1024x256) ![0, 0] S1024x256.size inb_S1024x256_S1024x256_0_0).toLoadRect)
        (arg9.view.readCov L9 (Rect.unit (s := S1024x256) ![0, 0] S1024x256.size inb_S1024x256_S1024x256_0_0).toLoadRect)⟩ :: L9))
      = (one (shared (queries x0) x1) x2 id o h s).acc ∧
    arg10.view.read (Elt Ideal) (arg10.view.writes (Elt Ideal) arg10.view.junk (⟨(Rect.unit (s := S1024x256) ![0, 0] S1024x256.size inb_S1024x256_S1024x256_0_0), k0_pay19 q
        (View.readAt (Elt Ideal) arg4.view (Rect.unit (s := S1x2048x256) o S1x256x256.size h).toLoadRect (harg4.unread x1))
        (arg10.view.readCov L10 (Rect.unit (s := S1024x256) ![0, 0] S1024x256.size inb_S1024x256_S1024x256_0_0).toLoadRect)⟩ :: L10))
      = (one (shared (queries x0) x1) x2 id o h s).car := by
  subst hq e
  rw [loaded_cut, loaded_cut, View.read_writes_full, View.read_writes_full]
  unfold View.readCov
  rw [View.readAt_full, View.readAt_full]
  exact ⟨congrArg St.acc (odd_stores _ _ _ _ _ _ _), congrArg St.car (odd_stores _ _ _ _ _ _ _)⟩

theorem outB (hc0 : cond0_0 i) :
    out0_B_3 (F := Ideal) c i arg3 harg3 arg4 harg4 arg5 harg5 arg7 harg7 arg8 harg8 arg9 harg9 arg10 harg10 hc0 x0 x1 x2
      = outO (one (shared (queries x0) x1) x2 id _ inb_S1x2048x256_S1x256x256_0_0_0 (paired i x1 x2 x0)) := by
  unfold out0_B_3 kernelRun0_B
  dsimp only
  unfold kernelRun0_B.sl.v160 kernelRun0_B.sl.v162 kernelRun0_B.sl.v166 kernelRun0_B.sl.v170 kernelRun0_B.sl.HS0_1_1 kernelRun0_B.sl.r_7 kernelRun0_B.sl.v201 kernelRun0_B.sl.v214
  refine (stored hz3 _ _ _).trans (outO_reads arg9 _ _ (odd_reads arg4 harg4 arg5 harg5 arg9 arg10 _ x1 x2 x0 _ _ _ _ _ ?_ ?_).1)
  · exact queriesA c arg3 harg3 x0
  exact finish c i arg3 harg3 arg4 harg4 arg5 harg5 (Memref.whole main_v0) (Memref.isWhole_whole _) arg7 harg7 arg8 harg8 arg9 harg9 arg10 harg10 _ x1 x2 _ _ _ _ x0 _ _ _ _ _ _ (trips2 i) (queriesA c arg3 harg3 x0)
    (startA c i arg3 harg3 arg4 harg4 arg5 harg5 arg9 arg10 x1 x2 x0)

theorem totalsB (hc0 : cond0_0 i) :
    out0_B_4 (F := Ideal) c i arg3 harg3 arg4 harg4 arg5 harg5 arg7 harg7 arg8 harg8 arg9 harg9 arg10 harg10 hc0 x0 x1 x2
      = outR (one (shared (queries x0) x1) x2 id _ inb_S1x2048x256_S1x256x256_0_0_0 (paired i x1 x2 x0)) := by
  unfold out0_B_4 kernelRun0_B
  dsimp only
  unfold kernelRun0_B.sl.v161 kernelRun0_B.sl.v164 kernelRun0_B.sl.v168 kernelRun0_B.sl.v172 kernelRun0_B.sl.HS1_1_1 kernelRun0_B.sl.v201
  refine (stored hz3 _ _ _).trans ?_
  refine outR_reads arg10 _ _ ?_
  refine (odd_reads arg4 harg4 arg5 harg5 arg9 arg10 _ x1 x2 x0 ?_ _ (paired i x1 x2 x0) _ _ (queriesA c arg3 harg3 x0) ?_).2
  rotate_left 1
  exact finish c i arg3 harg3 arg4 harg4 arg5 harg5 (Memref.whole main_v0) (Memref.isWhole_whole _) arg7 harg7 arg8 harg8 arg9 harg9 arg10 harg10 _ x1 x2 _ _ _ _ x0 _ _ _ _ _ _ (trips2 i) (queriesA c arg3 harg3 x0)
    (startA c i arg3 harg3 arg4 harg4 arg5 harg5 arg9 arg10 x1 x2 x0)
end

end Cert.Ahead
end
-- ==== Proof.AheadPoint.lean ====
/- A point of the forward kernel: what it reads, the blocks it goes through, and the two blocks it writes. -/
module

public import proofs.«01_k».proof.Proof.AheadRun
public import proofs.«01_k».proof.Proof.Group
public import Idealize.ShloMosaic.Lib.Pipeline.ValueKit
public import Idealize.ShloMosaic.Lib.Claim

@[expose] public section

set_option maxRecDepth 16384

noncomputable section

namespace Cert.Ahead

open Cert.SticksIdeal Cert.SticksIdeal.Gen Cert.Sb
open Idealize.ShloMosaic Idealize.ShloMosaic.TcCoe Idealize.SL.Sem

/-! ## The blocks' offsets -/

theorem trips1 (i : grid0.Coords) : (k0_t1_loop i).trips = (i 2).val / 2 := by
  unfold Scf.Loop.trips k0_t1_loop
  generalize i 2 = n
  revert n
  decide +kernel

theorem off1_eq (i : grid0.Coords) : k0_off1 i = ![0, 256 * (i 2).val, 0] := by
  unfold k0_off1
  generalize i 2 = n
  revert n
  decide +kernel

theorem off2_eq (i : grid0.Coords) (k : Fin (k0_t1_loop i).trips) : k0_off2 i k 1#32 = ![0, 256 * ((i 2).val - 1 - 2 * k.val), 0]
    ∧ k0_off2 i k 2#32 = ![0, 256 * ((i 2).val - 2 - 2 * k.val), 0] := by
  have hk : k.val < (i 2).val / 2 := Nat.lt_of_lt_of_eq k.2 (trips1 i)
  unfold k0_off2
  generalize k.val = n at hk
  have hn : n < 4 := by have e : (i 2).val < 8 := (i 2).2; omega
  revert hk
  generalize i 2 = t
  revert t
  interval_cases n <;> decide +kernel

/-! ## The blocks in turn -/

section
variable {q : FVec Ideal S1024x256 .bf16} {k v : Vec Ideal S1x2048x256 .bf16} {Q : Fin 1024 → Fin 256 → EReal}
  {K V : ℕ → Fin 256 → EReal} (H : Reads q k v Q K V) (i : grid0.Coords)
include H

/-- The state after the first `n` pairs has gone `2 n` blocks down from the diagonal. -/
theorem pairs_down (s : St) (hs : Down (i 2).val Q K V (i 2).val s) : ∀ n, n ≤ (i 2).val / 2 → Down (i 2).val Q K V ((i 2).val - 2 * n) (pairs i q k v s n)
  | 0, _ => hs
  | n + 1, hn => by
    have i8 : (i 2).val < 8 := (i 2).2
    have h : n < (k0_t1_loop i).trips := by rw [trips1]; omega
    have hd := pairs_down s hs n (by omega)
    rw [pairs, dif_pos h, pairAt, pair_eq]
    have o := off2_eq i ⟨n, h⟩
    refine before_down H i8 (o.2.trans ?_) _ _ (n := (i 2).val - 2 * (n + 1)) (by omega) ?_
    · rw [show (i 2).val - 2 - 2 * n = (i 2).val - 2 * (n + 1) by omega]
    rw [show (i 2).val - 2 * (n + 1) + 1 = (i 2).val - 1 - 2 * n by omega]
    refine before_down H i8 o.1 _ _ (by omega) ?_
    rw [show (i 2).val - 1 - 2 * n + 1 = (i 2).val - 2 * n by omega]
    exact hd

end

/-- The state after the pairs. -/
theorem paired_down (x0 : Vec Ideal S1x256x256 .bf16) (x1 x2 : Vec Ideal S1x2048x256 .bf16) {Q : Fin 1024 → Fin 256 → EReal}
    {K V : ℕ → Fin 256 → EReal} (H : Reads (queries x0) x1 x2 Q K V) (i : grid0.Coords) :
    Down (i 2).val Q K V ((i 2).val - 2 * ((i 2).val / 2)) (paired i x1 x2 x0) := by
  have i8 : (i 2).val < 8 := (i 2).2
  unfold paired
  rw [trips1]
  refine pairs_down H i _ ?_ _ (Nat.le_refl _)
  unfold first
  refine diag_down H i8 (off1_eq i) _ _ rfl (start_down i8 _ (fun j => ?_) fun j => ?_)
  · obtain ⟨r, c, rfl⟩ : ∃ (r : Fin 1024) (c : Fin 256), j = ix2 r c := ⟨j 0, j 1, funext fun a => by fin_cases a <;> rfl⟩
    pointwise [k0_pay31]
  · obtain ⟨r, c, rfl⟩ : ∃ (r : Fin 1024) (c : Fin 256), j = ix2 r c := ⟨j 0, j 1, funext fun a => by fin_cases a <;> rfl⟩
    pointwise [k0_pay32]

/-- The state a point ends with. -/
def ended (i : grid0.Coords) (x0 : Vec Ideal S1x256x256 .bf16) (x1 x2 : Vec Ideal S1x2048x256 .bf16) : St :=
  if (i 2).val % 2 = 1 then one (shared (queries x0) x1) x2 id ![0, 0, 0] inb_S1x2048x256_S1x256x256_0_0_0 (paired i x1 x2 x0) else paired i x1 x2 x0

theorem ended_down (x0 : Vec Ideal S1x256x256 .bf16) (x1 x2 : Vec Ideal S1x2048x256 .bf16) {Q : Fin 1024 → Fin 256 → EReal}
    {K V : ℕ → Fin 256 → EReal} (H : Reads (queries x0) x1 x2 Q K V) (i : grid0.Coords) : Down (i 2).val Q K V 0 (ended i x0 x1 x2) := by
  have i8 : (i 2).val < 8 := (i 2).2
  have h := paired_down x0 x1 x2 H i
  unfold ended
  split
  · next h1 =>
    rw [show (i 2).val - 2 * ((i 2).val / 2) = 0 + 1 by omega] at h
    exact before_down H i8 rfl _ _ (by omega) h
  · next h1 =>
    rw [show (i 2).val - 2 * ((i 2).val / 2) = 0 by omega] at h
    exact h

/-! ## The queries and the outputs, lane by lane -/

theorem queries_at (x0 : Vec Ideal S1x256x256 .bf16) (r : Fin 1024) (c : Fin 256) :
    queries x0 (ix2 r c) = if c.val / 64 = r.val / 256 then (show EReal from x0 (ix3 0 ⟨r.val % 256, Nat.mod_lt _ (by omega)⟩ c)) * ((1 / 8 : ℝ) : EReal) else 0 :=
  stackQ_at x0 r c

/-- Each lane from its own head's rows. -/
theorem pick (y : Vec Ideal S1024x256 .f32) (a l : Fin 256) (h0 h1 h2 h3) :
    (if 192 ≤ l.val ∧ l.val < 256 then VecWindow.window (s := S1024x256) y ![768, 0] S256x256.size h3 (ix2 a l)
      else if 128 ≤ l.val ∧ l.val < 192 then VecWindow.window (s := S1024x256) y ![512, 0] S256x256.size h2 (ix2 a l)
      else if 64 ≤ l.val ∧ l.val < 128 then VecWindow.window (s := S1024x256) y ![256, 0] S256x256.size h1 (ix2 a l)
      else VecWindow.window (s := S1024x256) y ![0, 0] S256x256.size h0 (ix2 a l))
      = y (ix2 ⟨256 * (l.val / 64) + a.val, by omega⟩ l) := by
  rw [rows_at y 768 h3 a l (by omega), rows_at y 512 h2 a l (by omega), rows_at y 256 h1 a l (by omega), rows_at y 0 h0 a l (by omega)]
  have hl := l.2
  split
  · exact congrArg (fun r => y (ix2 r l)) (Fin.ext (show 768 + a.val = 256 * (l.val / 64) + a.val by omega))
  split
  · exact congrArg (fun r => y (ix2 r l)) (Fin.ext (show 512 + a.val = 256 * (l.val / 64) + a.val by omega))
  split
  · exact congrArg (fun r => y (ix2 r l)) (Fin.ext (show 256 + a.val = 256 * (l.val / 64) + a.val by omega))
  · exact congrArg (fun r => y (ix2 r l)) (Fin.ext (show 0 + a.val = 256 * (l.val / 64) + a.val by omega))

theorem outO_at (s : St) (a l : Fin 256) : (show EReal from outO s (ix3 0 a l)) = s.acc (ix2 ⟨256 * (l.val / 64) + a.val, by omega⟩ l) := by
  pointwise [outO, k0_pay1, k0_pay21, k0_pay22, k0_pay23]
  have hl := l.2
  simp only [lanes l.val 64 128 hl (by omega) (by omega), lanes l.val 128 192 hl (by omega) (by omega), lanes l.val 192 256 hl (by omega) (by omega)]
  exact pick s.acc a l _ _ _ _

theorem outR_at (s : St) (a l : Fin 256) : (show EReal from outR s (ix3 0 a l)) = s.car (ix2 ⟨256 * (l.val / 64) + a.val, by omega⟩ l) := by
  pointwise [outR, k0_pay2, k0_pay21, k0_pay22, k0_pay23]
  have hl := l.2
  simp only [lanes l.val 64 128 hl (by omega) (by omega), lanes l.val 128 192 hl (by omega) (by omega), lanes l.val 192 256 hl (by omega) (by omega)]
  exact pick s.car a l _ _ _ _

/-! ## The launch -/

theorem idx : ∀ t : Fin cfg0.N, win0_0.index t = ![t.val / 24, t.val % 8, t.val / 8 % 3] ∧ win0_1.index t = ![t.val / 24, 0, 3 + t.val / 8 % 3]
    ∧ win0_2.index t = ![t.val / 24, 0, 6 + t.val / 8 % 3] ∧ win0_3.index t = ![t.val / 24, t.val % 8, t.val / 8 % 3]
    ∧ win0_4.index t = ![t.val / 24, t.val % 8, t.val / 8 % 3] := (by decide +kernel : ∀ t : Fin grid0.N, _)

theorem coord2 : ∀ t : Fin cfg0.N, (grid0.coords t 2).val = t.val % 8 := (by decide +kernel : ∀ t : Fin grid0.N, _)

theorem point_lt (t : Fin cfg0.N) : t.val < 96 := t.2

/-- A point's batch element. -/
def bat (t : Fin cfg0.N) : Fin 4 := ⟨t.val / 24, by have := point_lt t; omega⟩

/-- The array's entries. -/
abbrev inp (m : (ℓ : Loc nD τ sig) → Buf (Elt Ideal) ℓ) (c : Dev nD) : Fin 4 → ℕ → ℕ → EReal := ent (m ((c : Thread nD τ).loc main_arg0))

variable (m : (ℓ : Loc nD τ sig) → Buf (Elt Ideal) ℓ) (c : Dev nD) (t : Fin cfg0.N)

theorem read0 (a l : Fin 256) : iblk m c 0 t (ix3 0 a l)
    = m ((c : Thread nD τ).loc main_arg0) (ix3 (bat t) ⟨256 * (t.val % 8) + a.val, by omega⟩ ⟨256 * (t.val / 8 % 3) + l.val, by omega⟩ : S4x2048x2560.Idx) := by
  refine Eq.trans ?_ (congrFun (V_main_arg0 m c) _)
  blk_ext [iblk, idx t, bat]
theorem read1 (s : Fin 2048) (l : Fin 256) : iblk m c 1 t (ix3 0 s l)
    = m ((c : Thread nD τ).loc main_arg0) (ix3 (bat t) s ⟨768 + 256 * (t.val / 8 % 3) + l.val, by omega⟩ : S4x2048x2560.Idx) := by
  refine Eq.trans ?_ (congrFun (V_main_arg0 m c) _)
  blk_ext [iblk, idx t, bat]
theorem read2 (s : Fin 2048) (l : Fin 256) : iblk m c 2 t (ix3 0 s l)
    = m ((c : Thread nD τ).loc main_arg0) (ix3 (bat t) s ⟨1536 + 256 * (t.val / 8 % 3) + l.val, by omega⟩ : S4x2048x2560.Idx) := by
  refine Eq.trans ?_ (congrFun (V_main_arg0 m c) _)
  blk_ext [iblk, idx t, bat]

/-- The state a point ends with, from its blocks. -/
def endAt : St := ended (grid0.coords t) (iblk m c 0 t) (iblk m c 1 t) (iblk m c 2 t)

theorem outs_at : outsAt0 m c t.val t.isLt = (outO (endAt m c t), outR (endAt m c t)) := by
  have e := coord2 t
  unfold endAt ended
  by_cases h : t.val % 2 = 1
  · rw [if_pos (by omega), outsAt0_B m c t h]
    exact congrArg₂ Prod.mk (outB _ _ _ _ _ _ _ _ _ _ _ _ _ _ _ _ _ _ _ _) (totalsB _ _ _ _ _ _ _ _ _ _ _ _ _ _ _ _ _ _ _ _)
  · rw [if_neg (by omega), outsAt0_A m c t h]
    exact congrArg₂ Prod.mk (outA _ _ _ _ _ _ _ _ _ _ _ _ _ _ _ _ _ _ _ _) (totalsA _ _ _ _ _ _ _ _ _ _ _ _ _ _ _ _ _ _ _ _)

theorem reads_at : Reads (queries (iblk m c 0 t)) (iblk m c 1 t) (iblk m c 2 t) (qrow (inp m c) (bat t) (t.val / 8 % 3) (t.val % 8))
    (krow (inp m c) (bat t) (t.val / 8 % 3)) (vrow (inp m c) (bat t) (t.val / 8 % 3)) where
  q r l := by
    refine (queries_at (iblk m c 0 t) r l).trans ?_
    unfold qrow
    split
    · exact congrArg (· * ((1 / 8 : ℝ) : EReal)) ((read0 m c t _ _).trans (ent_at _ _ _ _))
    · rfl
  k s l := by
    refine (read1 m c t s l).trans ((ent_at _ _ _ _).trans ?_)
    unfold krow
    rw [← Nat.add_assoc]
  v s l := by
    refine (read2 m c t s l).trans ((ent_at _ _ _ _).trans ?_)
    unfold vrow
    rw [← Nat.add_assoc]

theorem end_down : Down (t.val % 8) (qrow (inp m c) (bat t) (t.val / 8 % 3) (t.val % 8)) (krow (inp m c) (bat t) (t.val / 8 % 3))
    (vrow (inp m c) (bat t) (t.val / 8 % 3)) 0 (endAt m c t) :=
  coord2 t ▸ ended_down _ _ _ (coord2 t ▸ reads_at m c t) (grid0.coords t)

/-- The block of outputs that a point writes. -/
theorem o_at (a l : Fin 256) : (show EReal from outO (endAt m c t) (ix3 0 a l))
    = att (inp m c) (bat t) (256 * (t.val % 8) + a.val) (256 * (t.val / 8 % 3) + l.val) := by
  refine (outO_at _ a l).trans (((end_down m c t).acc _ _).trans ?_)
  unfold att
  rw [Nat.mul_zero, ← Finset.range_eq_Ico, dots_score]
  unfold pos vrow
  have ea : 256 * (t.val % 8) + (256 * (l.val / 64) + a.val) % 256 = 256 * (t.val % 8) + a.val := by omega
  have eh : 4 * (t.val / 8 % 3) + (256 * (l.val / 64) + a.val) / 256 = (256 * (t.val / 8 % 3) + l.val) / 64 := by omega
  dsimp only
  rw [ea, eh]

/-- The block of totals that a point writes. -/
theorem r_at (a l : Fin 256) : (show EReal from outR (endAt m c t) (ix3 0 a l))
    = tot (inp m c) (bat t) (256 * (t.val % 8) + a.val) (256 * (t.val / 8 % 3) + l.val) := by
  refine (outR_at _ a l).trans (((end_down m c t).car _ _).trans ?_)
  unfold tot
  rw [dots_score]
  unfold pos
  have ea : 256 * (t.val % 8) + (256 * (l.val / 64) + a.val) % 256 = 256 * (t.val % 8) + a.val := by omega
  have eh : 4 * (t.val / 8 % 3) + (256 * (l.val / 64) + a.val) / 256 = (256 * (t.val / 8 % 3) + l.val) / 64 := by omega
  dsimp only
  rw [ea, eh, Nat.mul_zero]

end Cert.Ahead
end
-- ==== Proof.AheadRefer.lean ====
/- The forward reference piece by piece: the scores, the weights and the two results. -/
module

public import proofs.«01_k».proof.Proof.AheadPoint
public import proofs.«01_k».proof.Proof.Elem
public import proofs.«01_k».proof.Proof.Running
public import proofs.«01_k».proof.Proof.Gen.SticksReferenceIdeal.Run

@[expose] public section

set_option maxRecDepth 16384

noncomputable section

namespace Cert.Ahead.Ref

open Cert.SticksReferenceIdeal Cert.SticksReferenceIdeal.Gen Cert.SticksReferenceIdeal.Value Cert.Sb
open Idealize.ShloMosaic Idealize.ShloMosaic.TcCoe Idealize.SL.Sem
open Idealize.ShloMosaic.StableHlo

/-! ## The reference's pieces -/

/-- The scores of queries and keys. -/
def scaled (q k : FVec Ideal S4x2048x768 .f32) : FVec Ideal S4x12x2048x2048 .f32 :=
  mulf (extf .f32 (truncf .bf16 (Host.dotGeneral dot_S4x2048x12x64_S4x2048x12x64_S4x12x2048x2048_3_3_1_1_02_02 none
    (shapeCast S4x2048x12x64 q shapeCasts_S4x2048x768_S4x2048x12x64) (shapeCast S4x2048x12x64 k shapeCasts_S4x2048x768_S4x2048x12x64)) bitsLt_bf16_f32) bitsLt_bf16_f32)
    (broadcastInDim S4x12x2048x2048 ![] bcast_S_S4x12x2048x2048 (constant (F := Ideal) S_ .f32 0x3E000000#32))

/-- Which columns lie before their row, in every head. -/
def earlier : IVec S4x12x2048x2048 1 :=
  broadcastInDim S4x12x2048x2048 ![2, 3] bcast_S2048x2048_S4x12x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

abbrev naught : FVec Ideal S4x12x2048x2048 .f32 := broadcastInDim S4x12x2048x2048 ![] bcast_S_S4x12x2048x2048 (constant (F := Ideal) S_ .f32 0x00000000#32)

def soft (z : FVec Ideal S4x12x2048x2048 .f32) : FVec Ideal S4x12x2048x2048 .f32 :=
  select (cmpf .une (subf z naught) (subf z naught)) (addf z naught) (addf (maximumf z naught) (Host.log1p (Host.exp (Host.negf (Host.absf (subf z naught))))))

/-- The entries before the diagonal. -/
def before (z : FVec Ideal S4x12x2048x2048 .f32) : FVec Ideal S4x12x2048x2048 .f32 :=
  select earlier z (broadcastInDim S4x12x2048x2048 ![] bcast_S_S4x12x2048x2048 (id (constant (F := Ideal) S_ .f32 0x00000000#32)))

/-- The logarithms of what is left. -/
def stay (z : FVec Ideal S4x12x2048x2048 .f32) : FVec Ideal S4x12x2048x2048 .f32 := before (Host.negf (soft z))

/-- The sums from a column on. -/
def onward (y : FVec Ideal S4x12x2048x2048 .f32) : FVec Ideal S4x12x2048x2048 .f32 :=
  Host.reduceWindowAdd ![1, 1, 1, 2048] ![1, 1, 1, 1] ![0, 0, 0, 0] ![0, 0, 0, 2047] y (broadcastInDim S_ ![] bcast_S_S_ (constant (F := Ideal) S_ .f32 0x00000000#32))
    reduceWindows_S4x12x2048x2048_S4x12x2048x2048_w1s1p0_0_w1s1p0_0_w1s1p0_0_w2048s1p0_2047 h_S_

/-- The weights. -/
def weights (z : FVec Ideal S4x12x2048x2048 .f32) : FVec Ideal S4x12x2048x2048 .f32 :=
  before (Host.exp (addf (Host.negf (soft (Host.negf z))) (subf (onward (stay z)) (stay z))))

/-- The outputs of values and weights. -/
def blend (v : FVec Ideal S4x2048x768 .f32) (w : FVec Ideal S4x12x2048x2048 .f32) : FVec Ideal S4x2048x768 .bf16 :=
  truncf .bf16 (shapeCast S4x2048x768 (extf .f32 (truncf .bf16 (transpose S4x2048x12x64 [0, 3, 1, 2] (Host.dotGeneral dot_S4x2048x12x64_S4x12x2048x2048_S4x12x64x2048_1_3_3_2_02_01 none
    (shapeCast S4x2048x12x64 v shapeCasts_S4x2048x768_S4x2048x12x64) (extf .f32 (truncf .bf16 w bitsLt_bf16_f32) bitsLt_bf16_f32)) transposes_S4x12x64x2048_S4x2048x12x64_0_3_1_2) bitsLt_bf16_f32) bitsLt_bf16_f32) shapeCasts_S4x2048x12x64_S4x2048x768) bitsLt_bf16_f32

/-- The rows' totals, in each of the head's lanes. -/
def spread (w : FVec Ideal S4x12x2048x2048 .f32) : FVec Ideal S4x2048x768 .f32 :=
  shapeCast S4x2048x768 (broadcastInDim S4x2048x12x64 ![0, 1, 2] bcast_S4x2048x12_S4x2048x12x64_0_1_2 (transpose S4x2048x12 [0, 2, 1]
    (Host.reduceAdd w (constant (F := Ideal) S_ .f32 0x00000000#32) reducesTo_S4x12x2048x2048_S4x12x2048_d3 h_S_) transposes_S4x12x2048_S4x2048x12_0_2_1)) shapeCasts_S4x2048x12x64_S4x2048x768

section Args
variable (X : FVec Ideal S4x2048x2560 .bf16)

def used : FVec Ideal S4x2048x2304 .f32 := extractStridedSlice S4x2048x2304 ![0, 0, 0] (extf .f32 X bitsLt_bf16_f32) slices_S4x2048x2560_S4x2048x2304_0_0_0
def queries : FVec Ideal S4x2048x768 .f32 := extractStridedSlice S4x2048x768 ![0, 0, 0] (used X) slices_S4x2048x2304_S4x2048x768_0_0_0
def keys : FVec Ideal S4x2048x768 .f32 := extractStridedSlice S4x2048x768 ![0, 0, 768] (used X) slices_S4x2048x2304_S4x2048x768_0_0_768
def values : FVec Ideal S4x2048x768 .f32 := extractStridedSlice S4x2048x768 ![0, 0, 1536] (used X) slices_S4x2048x2304_S4x2048x768_0_0_1536
def used' : FVec Ideal S4x2048x1536 .f32 := extf .f32 (extractStridedSlice S4x2048x1536 ![0, 0, 0] X slices_S4x2048x2560_S4x2048x1536_0_0_0) bitsLt_bf16_f32
def queries' : FVec Ideal S4x2048x768 .f32 := extractStridedSlice S4x2048x768 ![0, 0, 0] (used' X) slices_S4x2048x1536_S4x2048x768_0_0_0
def keys' : FVec Ideal S4x2048x768 .f32 := extractStridedSlice S4x2048x768 ![0, 0, 768] (used' X) slices_S4x2048x1536_S4x2048x768_0_0_768
end Args

variable (m : (ℓ : Loc nD τ sig) → Buf (Elt Ideal) ℓ) (c : Dev nD)

theorem out0_eq : res_out0 m c = blend (values (m ((c.tc : Thread nD τ).loc main_arg0))) (weights (scaled (queries (m ((c.tc : Thread nD τ).loc main_arg0))) (keys (m ((c.tc : Thread nD τ).loc main_arg0))))) := rfl
theorem out1_eq : res_out1 m c = spread (stay (scaled (queries' (m ((c.tc : Thread nD τ).loc main_arg0))) (keys' (m ((c.tc : Thread nD τ).loc main_arg0))))) := rfl

/-! ## Their values -/

theorem naught_at : (id (constant (F := Ideal) S_ .f32 0x00000000#32) ix0 : EReal) = 0 := by
  show (constant (F := Ideal) S_ .f32 0x00000000#32) ix0 = _
  pointwise

theorem scaled_at {q k : FVec Ideal S4x2048x768 .f32} {x : Fin 4 → ℕ → ℕ → EReal}
    (hq : ∀ (b : Fin 4) (t : Fin 2048) (f : Fin 768), (show EReal from q (ix3 b t f)) = x b t.val f.val)
    (hk : ∀ (b : Fin 4) (t : Fin 2048) (f : Fin 768), (show EReal from k (ix3 b t f)) = x b t.val (768 + f.val))
    (b : Fin 4) (h : Fin 12) (T s : Fin 2048) : (show EReal from scaled q k (ix4 b h T s)) = sco x b h.val T.val s.val := by
  pointwise [scaled]
  rw [eighth_f32]
  unfold sco
  congr 1
  exact Finset.sum_congr rfl fun e _ => congrArg₂ (fun p q : EReal => p * q) (hq b T _) (hk b s _)

theorem before_at (z : FVec Ideal S4x12x2048x2048 .f32) (b : Fin 4) (h : Fin 12) (T s : Fin 2048) :
    (show EReal from before z (ix4 b h T s)) = if s.val < T.val then z (ix4 b h T s) else (0 : EReal) := by
  pointwise [before, earlier]
  rw [mask_el _ _ s.2 T.2]
  split
  · rfl
  · exact naught_at

theorem soft_at (z : FVec Ideal S4x12x2048x2048 .f32) (b : Fin 4) (h : Fin 12) (T s : Fin 2048) :
    (show EReal from soft z (ix4 b h T s)) = spx (z (ix4 b h T s)) := by
  pointwise [soft, naught]
  exact spx_el _

section
variable {z : FVec Ideal S4x12x2048x2048 .f32} {x : Fin 4 → ℕ → ℕ → EReal}
  (hz : ∀ (b : Fin 4) (h : Fin 12) (T s : Fin 2048), (show EReal from z (ix4 b h T s)) = sco x b h.val T.val s.val)
  (b : Fin 4) (h : Fin 12) (T s : Fin 2048)
include hz

theorem stay_at : (show EReal from stay z (ix4 b h T s)) = ls (sco x b h.val T.val) T.val s.val := by
  refine (before_at _ b h T s).trans ?_
  unfold ls
  split
  · exact congrArg (- ·) ((soft_at z b h T s).trans (congrArg spx (hz b h T s)))
  · rfl

theorem onward_at : (show EReal from onward (stay z) (ix4 b h T s)) = ∑ u ∈ Finset.Ico s.val 2048, ls (sco x b h.val T.val) T.val u := by
  refine Eq.trans ?_ (onward_sum _ (stay z) reduceWindows_S4x12x2048x2048_S4x12x2048x2048_w1s1p0_0_w1s1p0_0_w1s1p0_0_w2048s1p0_2047 b h T s _ fun u => stay_at hz b h T u)
  have e0 : (broadcastInDim S_ ![] bcast_S_S_ (constant (F := Ideal) S_ .f32 0x00000000#32) (Shape.Idx.first h_S_) : EReal) = 0 := by pointwise
  unfold onward Host.reduceWindowAdd
  rw [e0]; rfl

theorem weights_at : (show EReal from weights z (ix4 b h T s)) = we (sco x b h.val T.val) T.val s.val := by
  refine (before_at _ b h T s).trans ?_
  split
  · next hs =>
    exact (congrArg₂ (fun p q : EReal => Ideal.exp (-p + q)) ((soft_at (Host.negf z) b h T s).trans (congrArg (fun v : EReal => spx (-v)) (hz b h T s)))
      (congrArg₂ (fun p q : EReal => p - q) (onward_at hz b h T s) (stay_at hz b h T s))).trans (we_other _ _ hs T.2.le)
  · next hs => exact (we_zero _ _ (Nat.le_of_not_lt hs)).symm

end

theorem blend_at (v : FVec Ideal S4x2048x768 .f32) (w : FVec Ideal S4x12x2048x2048 .f32) (b : Fin 4) (T : Fin 2048) (f : Fin 768) :
    (show EReal from blend v w (ix3 b T f)) = ∑ s : Fin 2048, (w (ix4 b (⟨f.val / 64, by omega⟩ : Fin 12) T s) : EReal) * v (ix3 b s f) := by
  pointwise [blend]
  exact Finset.sum_congr rfl fun s _ => mul_comm _ _

theorem spread_at (w : FVec Ideal S4x12x2048x2048 .f32) (b : Fin 4) (T : Fin 2048) (f : Fin 768) :
    (show EReal from spread w (ix3 b T f)) = ∑ s : Fin 2048, (w (ix4 b (⟨f.val / 64, by omega⟩ : Fin 12) T s) : EReal) := by
  pointwise [spread]

section
variable (X : FVec Ideal S4x2048x2560 .bf16) (b : Fin 4) (T : Fin 2048) (f : Fin 768)

theorem q_at : (show EReal from queries X (ix3 b T f)) = ent X b T.val f.val := by
  pointwise [queries, used]
  exact ent_at X b T _
theorem k_at : (show EReal from keys X (ix3 b T f)) = ent X b T.val (768 + f.val) := by
  pointwise [keys, used]
  exact ent_at X b T _
theorem v_at : (show EReal from values X (ix3 b T f)) = ent X b T.val (1536 + f.val) := by
  pointwise [values, used]
  exact ent_at X b T _
theorem q_at' : (show EReal from queries' X (ix3 b T f)) = ent X b T.val f.val := by
  pointwise [queries', used']
  exact ent_at X b T _
theorem k_at' : (show EReal from keys' X (ix3 b T f)) = ent X b T.val (768 + f.val) := by
  pointwise [keys', used']
  exact ent_at X b T _

/-- The reference's outputs. -/
theorem att_at : (show EReal from blend (values X) (weights (scaled (queries X) (keys X))) (ix3 b T f)) = att (ent X) b T.val f.val := by
  refine (blend_at _ _ b T f).trans ?_
  unfold att
  rw [Finset.sum_range]
  exact Finset.sum_congr rfl fun s _ => congrArg₂ (fun p q : EReal => p * q)
    (weights_at (scaled_at (q_at X) (k_at X)) b (⟨f.val / 64, by omega⟩ : Fin 12) T s) (v_at X b s f)

/-- The reference's totals. -/
theorem tot_at : (show EReal from spread (stay (scaled (queries' X) (keys' X))) (ix3 b T f)) = tot (ent X) b T.val f.val := by
  refine (spread_at _ b T f).trans ?_
  unfold tot past
  rw [← Finset.range_eq_Ico, Finset.sum_range]
  exact Finset.sum_congr rfl fun s _ => stay_at (scaled_at (q_at' X) (k_at' X)) b (⟨f.val / 64, by omega⟩ : Fin 12) T s

end

end Cert.Ahead.Ref
end
-- ==== Proof.AheadJoin.lean ====
/- The forward kernel's two arrays, and that they are the reference's. -/
module

public import proofs.«01_k».proof.Proof.AheadRefer
public import proofs.«01_k».proof.Proof.Join
public import proofs.«01_k».proof.Proof.Gen.Sticks.Frame

@[expose] public section

set_option maxRecDepth 16384

noncomputable section

namespace Cert.Ahead

open Cert.SticksIdeal Cert.SticksIdeal.Gen Cert.Sb
open Idealize.ShloMosaic Idealize.ShloMosaic.TcCoe Idealize.SL.Sem

/-! ## The kernel's arrays -/

/-- An array from its entries. -/
def entries (g : Fin 4 → ℕ → ℕ → EReal) : (⟨3, ![4, 2048, 768]⟩ : Shape).Idx → EReal := fun i => g (i 0) (i 1).val (i 2).val

/-- An array is that of its entries. -/
theorem entries_of (G : (⟨3, ![4, 2048, 768]⟩ : Shape).Idx → EReal) (g : Fin 4 → ℕ → ℕ → EReal)
    (h : ∀ (b : Fin 4) (t : Fin 2048) (f : Fin 768), G (ix3 b t f) = g b t.val f.val) : G = entries g := by
  funext i
  have e : i = ix3 (i 0) (i 1) (i 2) := by
    funext a
    match a with
    | ⟨0, _⟩ => rfl
    | ⟨1, _⟩ => rfl
    | ⟨2, _⟩ => rfl
  exact (congrArg G e).trans (h (i 0) (i 1) (i 2))

section
variable (m : (ℓ : Loc nD τ sig) → Buf (Elt Ideal) ℓ) (c : Dev nD)

theorem array_o : (Gen.dats m 0 c).arrAt 3 cfg0.N = entries (att (inp m c)) := by
  refine (Gen.dats m 0 c).arrAt_eq_of_covers 3 _ (by decide +kernel) fun t hf y => ?_
  blk_simp
  rw [Gen.after0_3, outs_at]
  have key : ∀ y : S1x256x256.Idx, (show EReal from outO (endAt m c t) y)
      = att (inp m c) (bat t) (256 * (t.val % 8) + (y 1).val) (256 * (t.val / 8 % 3) + (y 2).val) := fun y =>
    (congrArg (outO (endAt m c t)) (one_idx y)).trans (o_at m c t (y 1) (y 2))
  refine (key y).trans ?_
  unfold entries
  congr 1
  · apply Fin.ext
    blk_simp [idx t, bat]
  · blk_simp [idx t]; omega
  · blk_simp [idx t]; omega

theorem array_r : (Gen.dats m 0 c).arrAt 4 cfg0.N = entries (tot (inp m c)) := by
  refine (Gen.dats m 0 c).arrAt_eq_of_covers 4 _ (by decide +kernel) fun t hf y => ?_
  blk_simp
  rw [Gen.after0_4, outs_at]
  have key : ∀ y : S1x256x256.Idx, (show EReal from outR (endAt m c t) y)
      = tot (inp m c) (bat t) (256 * (t.val % 8) + (y 1).val) (256 * (t.val / 8 % 3) + (y 2).val) := fun y =>
    (congrArg (outR (endAt m c t)) (one_idx y)).trans (r_at m c t (y 1) (y 2))
  refine (key y).trans ?_
  unfold entries
  congr 1
  · apply Fin.ext
    blk_simp [idx t, bat]
  · blk_simp [idx t]; omega
  · blk_simp [idx t]; omega

end

/-! ## The claims -/

attribute [local instance] Cert.Sticks.Gen.facts Cert.SticksIdeal.Gen.facts Cert.SticksReferenceIdeal.Gen.facts

theorem frames : Cert.quiescent_Sticks ∧ Cert.quiescent_SticksIdeal ∧ Cert.quiescent_SticksReferenceIdeal :=
  ⟨fun m ρ _ => Cert.Sticks.Gen.frame (F := Bits) m ρ, fun m ρ _ => Cert.SticksIdeal.Gen.frame m ρ,
    fun m ρ _ => (θ_run _ _ _).mono (fun r h => ⟨fun c => (h c).2.2, sem_eq_zero_of_no_sems (by decide) r.2⟩) (Cert.SticksReferenceIdeal.Value.run (F := Ideal) m ρ)⟩

/-- Both programs end with the same outputs and totals. -/
theorem same : Cert.algebraic_SticksIdeal_SticksReferenceIdeal := by
  intro m g m' g' hp hm
  refine ⟨fun c => entries (att (inp m c)), fun c => entries (tot (inp m c)), ?_, ?_⟩
  · refine (θ_run _ _ _).mono (fun r h c => ?_) (Cert.SticksIdeal.Value.run_blocks m g)
    exact ⟨(h c).1.trans (array_o m c), (h c).2.1.trans (array_r m c), (h c).2.2⟩
  · refine (θ_run _ _ _).mono (fun r h c => ?_) (Cert.SticksReferenceIdeal.Value.run (F := Ideal) m' g')
    have e := hm c
    refine ⟨(h c).1.trans ((Ref.out0_eq m' c).trans ?_), (h c).2.1.trans ((Ref.out1_eq m' c).trans ?_), (h c).2.2⟩
    · rw [e]; exact entries_of _ _ (Ref.att_at _)
    · rw [e]; exact entries_of _ _ (Ref.tot_at _)

end Cert.Ahead

end
-- ==== Proof.Hidden.lean ====
/- The gradient of the feed-forward's middle: the product of the output's gradient with the transposed down-projection. -/
module

public import proofs.«01_k».proof.Proof.Gen.HiddenIdeal.Value
public import proofs.«01_k».proof.Proof.Gen.HiddenReferenceIdeal.Run
public import proofs.«01_k».proof.Proof.Tiles

@[expose] public section

set_option maxRecDepth 16384

noncomputable section

namespace Cert.Products.Hidden

open Cert.HiddenIdeal Cert.HiddenIdeal.Gen
open Idealize.ShloMosaic Idealize.ShloMosaic.TcCoe Idealize.SL.Sem

attribute [local instance] Cert.HiddenReferenceIdeal.Gen.facts

/-- The windows' block indices: eight blocks of tokens by two of features. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The reference's product. -/
abbrev whole (A : FVec Ideal S8192x1024 .f32) (B : FVec Ideal S2816x1024 .bf16) : FVec Ideal S8192x2816 .bf16 :=
  truncf .bf16 (Host.dotGeneral Cert.HiddenReferenceIdeal.dot_S8192x1024_S2816x1024_S8192x2816_1_1_0_0_n_n none A
    (extf .f32 B Cert.HiddenReferenceIdeal.Gen.bitsLt_bf16_f32)) Cert.HiddenReferenceIdeal.Gen.bitsLt_bf16_f32

theorem whole_at (A : FVec Ideal S8192x1024 .f32) (B : FVec Ideal S2816x1024 .bf16) (i : S8192x2816.Idx) :
    (show EReal from whole A B i) = byRows A B i := by
  pointwise [whole, byRows]

theorem block_at (A : FVec Ideal S1024x1024 .f32) (B : FVec Ideal S1408x1024 .bf16) (y : S1024x1408.Idx) :
    (show EReal from out0_2 (F := Ideal) A B y) = byRows A B y := by
  unfold out0_2
  rw [View.canon_unit_zero hz]
  simp only [View.ld_unit_zero (S := S1024x1024) hz, View.ld_unit_zero (S := S1408x1024) hz]
  pointwise [k0_pay1, byRows]

variable (m : (ℓ : Loc nD τ sig) → Buf (Elt Ideal) ℓ) (c : Dev nD)

theorem array : (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  refine (block_at _ _ _).trans (Eq.trans ?_ (whole_at _ _ _).symm)
  refine byRows_block (fun k => ?_) fun k => ?_
  · blk_ext [iblk, idx t]
  · blk_ext [iblk, idx t]

end Cert.Products.Hidden
end
-- ==== Proof.Eighths.lean ====
/- A weight gradient is a sum over 8192 tokens, added up in eight blocks of 1024: what a value holds that starts anew at
   every eighth step and gains one block at every other, and the blocks' products as terms of that sum. -/
module

public import Idealize.ShloMosaic.Lib.Pipeline.ValueKit

@[expose] public section

noncomputable section

namespace Cert.Products

open Idealize.ShloMosaic

variable {N : Nat} (T : Nat → Nat → EReal) (acc : (n : Nat) → n < N → EReal)

/-- The `n`-th step's block of terms. -/
abbrev eighth (n : Nat) : EReal := ∑ k ∈ Finset.range 1024, T (n / 8) (1024 * (n % 8) + k)

/-- Before its last block the value is the sum of the blocks so far. -/
theorem so_far (h0 : ∀ n hn, n % 8 = 0 → acc n hn = eighth T n)
    (h1 : ∀ n (hn : n + 1 < N), (n + 1) % 8 ≠ 0 → (n + 1) % 8 ≠ 7 → acc (n + 1) hn = acc n (Nat.lt_of_succ_lt hn) + eighth T (n + 1))
    (n : Nat) (hn : n < N) (h7 : n % 8 ≠ 7) : acc n hn = ∑ q ∈ Finset.range (1024 * (n % 8 + 1)), T (n / 8) q := by
  induction n with
  | zero =>
    rw [h0 0 hn (Nat.zero_mod 8), eighth]
    simp
  | succ n ih =>
    by_cases hz : (n + 1) % 8 = 0
    · rw [h0 (n + 1) hn hz, eighth]
      simp [hz]
    · rw [h1 n hn hz h7, ih (Nat.lt_of_succ_lt hn) (by omega), eighth, show (n + 1) / 8 = n / 8 by omega,
        show 1024 * ((n + 1) % 8 + 1) = 1024 * (n % 8 + 1) + 1024 by omega, Finset.sum_range_add,
        show 1024 * ((n + 1) % 8) = 1024 * (n % 8 + 1) by omega]

/-- With its last block it is the whole sum. -/
theorem in_all (h0 : ∀ n hn, n % 8 = 0 → acc n hn = eighth T n)
    (h1 : ∀ n (hn : n + 1 < N), (n + 1) % 8 ≠ 0 → (n + 1) % 8 ≠ 7 → acc (n + 1) hn = acc n (Nat.lt_of_succ_lt hn) + eighth T (n + 1))
    (n : Nat) (hn : n - 1 < N) (h7 : n % 8 = 7) : acc (n - 1) hn + eighth T n = ∑ q ∈ Finset.range 8192, T (n / 8) q := by
  rw [so_far T acc h0 h1 (n - 1) hn (by omega), eighth, show (n - 1) / 8 = n / 8 by omega,
    show 1024 * ((n - 1) % 8 + 1) = 7168 by omega, h7, show (8192 : Nat) = 7168 + 1024 by rfl, Finset.sum_range_add]

/-! ## The terms of a gradient -/

/-- One block's product: its tokens' terms of element `y`. -/
def part {M N : Nat} (A : (⟨2, ![1024, M]⟩ : Shape).Idx → EReal) (B : (⟨2, ![1024, N]⟩ : Shape).Idx → EReal) (y : (⟨2, ![M, N]⟩ : Shape).Idx) : EReal :=
  ∑ k : Fin 1024, A (ix2 k (y 0)) * B (ix2 k (y 1))

/-- One token's term of element `(i, j)`. -/
def term {M N : Nat} (A : (⟨2, ![8192, M]⟩ : Shape).Idx → EReal) (B : (⟨2, ![8192, N]⟩ : Shape).Idx → EReal) (i : Fin M) (j : Fin N) (q : Nat) : EReal :=
  if h : q < 8192 then A (ix2 ⟨q, h⟩ i) * B (ix2 ⟨q, h⟩ j) else 0

/-- The sum of all terms, with the factors as the reference has them. -/
theorem all_terms {M N : Nat} (A : (⟨2, ![8192, M]⟩ : Shape).Idx → EReal) (B : (⟨2, ![8192, N]⟩ : Shape).Idx → EReal) (i : Fin M) (j : Fin N) :
    ∑ q : Fin 8192, B (ix2 q j) * A (ix2 q i) = ∑ q ∈ Finset.range 8192, term A B i j q := by
  rw [Finset.sum_range]
  refine Finset.sum_congr rfl fun q _ => ?_
  rw [term, dif_pos q.isLt, mul_comm]

/-- A gradient's block as the points write it: what is held starts with the first block of tokens and gains one at each point,
    and the last point writes what was held and its own. The points' blocks `a`, `b` are read from the arrays at columns `I`, `J`. -/
theorem gradient {N M N' M₁ N₁ : Nat} (A : (⟨2, ![8192, M]⟩ : Shape).Idx → EReal) (B : (⟨2, ![8192, N']⟩ : Shape).Idx → EReal)
    (a : (n : Nat) → n < N → (⟨2, ![1024, M₁]⟩ : Shape).Idx → EReal) (b : (n : Nat) → n < N → (⟨2, ![1024, N₁]⟩ : Shape).Idx → EReal)
    (held out : (n : Nat) → n < N → (⟨2, ![M₁, N₁]⟩ : Shape).Idx → EReal) (I : Nat → Fin M₁ → Fin M) (J : Nat → Fin N₁ → Fin N')
    (ha : ∀ n hn (k : Fin 1024) i, a n hn (ix2 k i) = A (ix2 ⟨1024 * (n % 8) + k.val, by omega⟩ (I (n / 8) i)))
    (hb : ∀ n hn (k : Fin 1024) j, b n hn (ix2 k j) = B (ix2 ⟨1024 * (n % 8) + k.val, by omega⟩ (J (n / 8) j)))
    (first : ∀ n hn, n % 8 = 0 → ∀ y, held n hn y = part (a n hn) (b n hn) y)
    (next : ∀ n (hn : n + 1 < N), (n + 1) % 8 ≠ 0 → (n + 1) % 8 ≠ 7 → ∀ y,
      held (n + 1) hn y = held n (Nat.lt_of_succ_lt hn) y + part (a (n + 1) hn) (b (n + 1) hn) y)
    (last : ∀ n hn, n % 8 = 7 → ∀ y, out n hn y = held (n - 1) (Nat.lt_of_le_of_lt (Nat.sub_le _ _) hn) y + part (a n hn) (b n hn) y)
    (n : Nat) (hn : n < N) (h7 : n % 8 = 7) (i : Fin M₁) (j : Fin N₁) :
    out n hn (ix2 i j) = ∑ q ∈ Finset.range 8192, term A B (I (n / 8) i) (J (n / 8) j) q := by
  have hp : ∀ n hn, part (a n hn) (b n hn) (ix2 i j) = eighth (fun r q => term A B (I r i) (J r j) q) n := fun n hn => by
    rw [eighth, Finset.sum_range, part]
    refine Finset.sum_congr rfl fun k _ => ?_
    rw [term, dif_pos (by omega)]
    exact congrArg₂ (· * ·) (ha n hn k i) (hb n hn k j)
  rw [last n hn h7, hp]
  exact in_all (fun r q => term A B (I r i) (J r j) q) (fun n hn => held n hn (ix2 i j)) (fun n hn h0 => (first n hn h0 _).trans (hp n hn))
    (fun n hn h0 h7 => (next n hn h0 h7 _).trans (congrArg₂ (· + ·) rfl (hp (n + 1) hn))) n _ h7

/-- A block's number times its width and a place in it, as a place among `W` columns or rows. -/
def place (W w r : Nat) [NeZero W] (i : Fin w) : Fin W := Fin.ofNat W (w * r + i.val)

theorem place_val (W w r : Nat) [NeZero W] (i : Fin w) (h : w * r + i.val < W) : (place W w r i).val = w * r + i.val :=
  Nat.mod_eq_of_lt h

end Cert.Products
end
-- ==== Proof.Down.lean ====
/- The gradient of the down-projection: the product of the transposed middle with the output's gradient, added up over
   eight blocks of tokens. -/
module

public import proofs.«01_k».proof.Proof.Gen.DownIdeal.Value
public import proofs.«01_k».proof.Proof.Gen.DownReferenceIdeal.Run
public import proofs.«01_k».proof.Proof.Eighths
public import proofs.«01_k».proof.Proof.Tiles

@[expose] public section

set_option maxRecDepth 16384

noncomputable section

namespace Cert.Products.Down

open Cert.DownIdeal Cert.DownIdeal.Gen
open Idealize.ShloMosaic Idealize.ShloMosaic.TcCoe Idealize.SL.Sem

attribute [local instance] Cert.DownReferenceIdeal.Gen.facts

/-- The windows' block indices: two blocks of rows, each over eight blocks of tokens. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The reference's product. -/
abbrev whole (A : FVec Ideal S8192x2816 .bf16) (B : FVec Ideal S8192x1024 .f32) : FVec Ideal S2816x1024 .bf16 :=
  truncf .bf16 (transpose S2816x1024 [1, 0] (Host.dotGeneral Cert.DownReferenceIdeal.dot_S8192x1024_S8192x2816_S1024x2816_0_0_1_1_n_n none B (extf .f32 A Cert.DownReferenceIdeal.Gen.bitsLt_bf16_f32)) Cert.DownReferenceIdeal.Gen.transposes_S1024x2816_S2816x1024_1_0) Cert.DownReferenceIdeal.Gen.bitsLt_bf16_f32

section
variable (c : Dev nD) (i : grid0.Coords) (a₃ : Memref sig .tc .vmem S1024x1408 .bf16) (h₃ : a₃.IsWhole)
  (a₄ : Memref sig .tc .vmem S1024x1024 .f32) (h₄ : a₄.IsWhole) (a₅ : Memref sig .tc .vmem S1408x1024 .bf16) (h₅ : a₅.IsWhole)
  (a₆ : Memref sig .tc .vmem S1408x1024 .f32) (h₆ : a₆.IsWhole)
  (A : FVec Ideal S1024x1408 .bf16) (B : FVec Ideal S1024x1024 .f32) (acc : FVec Ideal S1408x1024 .f32)

/-- The first block of tokens starts the sum. -/
theorem first (hc0 : cond0_0 i) (hc1 : ¬cond0_1 i) (hc2 : ¬cond0_2 i) :
    sout0_A_0 (F := Ideal) c i a₃ h₃ a₄ h₄ a₅ h₅ a₆ h₆ hc0 hc1 hc2 A B = k0_pay2 (F := Ideal) A B :=
  (stored hz _ _ _).trans (congrArg₂ (k0_pay2 (F := Ideal)) (loaded hz a₃ h₃ A) (loaded hz a₄ h₄ B))

/-- A later block adds to it. -/
theorem next (hc0 : ¬cond0_0 i) (hc1 : cond0_1 i) (hc2 : ¬cond0_2 i) :
    sout0_B_0 (F := Ideal) c i a₃ h₃ a₄ h₄ a₅ h₅ a₆ h₆ hc0 hc1 hc2 A B acc = k0_pay3 (F := Ideal) A B acc :=
  (stored hz _ _ _).trans (congr (congrArg₂ (k0_pay3 (F := Ideal)) (loaded hz a₃ h₃ A) (loaded hz a₄ h₄ B)) (loaded hz a₆ h₆ acc))

/-- The last block adds to it and writes the result out. -/
theorem last (hc0 : ¬cond0_0 i) (hc1 : cond0_1 i) (hc2 : cond0_2 i) :
    out0_C_2 (F := Ideal) c i a₃ h₃ a₄ h₄ a₅ h₅ a₆ h₆ hc0 hc1 hc2 A B acc = k0_pay4 (F := Ideal) (k0_pay3 (F := Ideal) A B acc) :=
  (stored hz _ _ _).trans (congrArg (k0_pay4 (F := Ideal)) ((View.readCov_unit_zero (S := S1408x1024) _ hz _ _).trans
    (congr (congrArg₂ (k0_pay3 (F := Ideal)) (loaded hz a₃ h₃ A) (loaded hz a₄ h₄ B)) (loaded hz a₆ h₆ acc))))

end

theorem start_at (A : FVec Ideal S1024x1408 .bf16) (B : FVec Ideal S1024x1024 .f32) (y : S1408x1024.Idx) :
    (show EReal from k0_pay2 (F := Ideal) A B y) = part A B y := by
  obtain ⟨i, j, rfl⟩ := at2 y
  pointwise [k0_pay2, k0_pay1, part]

theorem add_at (A : FVec Ideal S1024x1408 .bf16) (B : FVec Ideal S1024x1024 .f32) (acc : FVec Ideal S1408x1024 .f32) (y : S1408x1024.Idx) :
    (show EReal from k0_pay3 (F := Ideal) A B acc y) = (show EReal from acc y) + part A B y := by
  obtain ⟨i, j, rfl⟩ := at2 y
  pointwise [k0_pay3, k0_pay1, part]

theorem out_at (acc : FVec Ideal S1408x1024 .f32) (y : S1408x1024.Idx) :
    (show EReal from k0_pay4 (F := Ideal) acc y) = (show EReal from acc y) := by
  obtain ⟨i, j, rfl⟩ := at2 y
  pointwise [k0_pay4]

theorem whole_at (A : FVec Ideal S8192x2816 .bf16) (B : FVec Ideal S8192x1024 .f32) (i : Fin 2816) (j : Fin 1024) :
    (show EReal from whole A B (ix2 i j)) = ∑ q ∈ Finset.range 8192, term A B i j q := by
  refine Eq.trans ?_ (all_terms A B i j)
  pointwise [whole]

variable (m : (ℓ : Loc nD τ sig) → Buf (Elt Ideal) ℓ) (c : Dev nD)

theorem row_val {n : Nat} (hn : n < cfg0.N) (i : Fin 1408) : (place 2816 1408 (n / 8) i).val = 1408 * (n / 8) + i.val := by
  have := lt_of_lt_of_eq hn (show cfg0.N = 16 from N_0)
  exact place_val 2816 1408 _ i (by omega)

/-- The last point of a block of rows writes the whole sum. -/
theorem written (t : Fin cfg0.N) (h7 : t.val % 8 = 7) (i : Fin 1408) (j : Fin 1024) :
    (show EReal from (outsAt0 m c t.val t.isLt).1 (ix2 i j))
      = ∑ q ∈ Finset.range 8192, term (m ((c : Thread nD τ).loc main_arg0)) (m ((c : Thread nD τ).loc main_arg1)) (place 2816 1408 (t.val / 8) i) j q := by
  refine gradient (N := cfg0.N) _ _ (fun n hn => iblk m c 0 ⟨n, hn⟩) (fun n hn => iblk m c 1 ⟨n, hn⟩) (fun n hn => (outsAt0 m c n hn).2)
    (fun n hn => (outsAt0 m c n hn).1) (fun r i => place 2816 1408 r i) (fun _ j => j) (fun n hn k i => ?_) (fun n hn k j => ?_)
    (fun n hn h0 y => ?_) (fun n hn h0 h7 y => ?_) (fun n hn h7 y => ?_) t.val t.isLt h7 i j
  · have hr := row_val hn i
    blk_ext [iblk, idx ⟨n, hn⟩]
  · blk_ext [iblk, idx ⟨n, hn⟩]
  · rw [outsAt0_A m c ⟨n, hn⟩ h0 (by dsimp only; omega) (by dsimp only; omega)]
    dsimp only
    rw [first]
    exact start_at _ _ y
  · rw [outsAt0_B m c ⟨n + 1, hn⟩ h0 (by dsimp only; omega) h7]
    dsimp only
    rw [next]
    exact add_at _ _ _ y
  · rw [outsAt0_C m c ⟨n, hn⟩ (by dsimp only; omega) (by dsimp only; omega) h7]
    dsimp only
    rw [last]
    exact (out_at _ y).trans (add_at _ _ _ y)

theorem array : (dats m 0 c).arrAt 2 cfg0.N = whole (m ((c : Thread nD τ).loc main_arg0)) (m ((c : Thread nD τ).loc main_arg1)) := by
  refine (dats m 0 c).arrAt_eq_of_covers 2 _ (by decide +kernel) fun t hf y => ?_
  obtain ⟨i, j, rfl⟩ := at2 (M := 1408) (N := 1024) y
  have h7 : t.val % 8 = 7 := by
    revert hf
    exact (by decide +kernel : ∀ t : Fin cfg0.N, (cfg0.win 2).flush t = true → t.val % 8 = 7) t
  blk_simp
  rw [after0_2]
  have hr := row_val t.isLt i
  refine (written m c t h7 i j).trans ((whole_at _ _ _ _).symm.trans ?_)
  blk_ext [idx t]

end Cert.Products.Down
end
-- ==== Proof.Up.lean ====
/- The up-projection: the normed input by the projection's two halves. -/
module

public import proofs.«01_k».proof.Proof.Gen.UpIdeal.Value
public import proofs.«01_k».proof.Proof.Gen.UpReferenceIdeal.Run
public import proofs.«01_k».proof.Proof.Tiles

@[expose] public section

set_option maxRecDepth 16384

noncomputable section

namespace Cert.Products.Up

open Cert.UpIdeal Cert.UpIdeal.Gen
open Idealize.ShloMosaic Idealize.ShloMosaic.TcCoe Idealize.SL.Sem

attribute [local instance] Cert.UpReferenceIdeal.Gen.facts

/-- The windows' block indices: eight blocks of tokens by four of features. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The reference's product. -/
abbrev whole (A : FVec Ideal S8192x1024 .bf16) (B : FVec Ideal S1024x5632 .bf16) : FVec Ideal S8192x5632 .bf16 :=
  truncf .bf16 (Host.dotGeneral Cert.UpReferenceIdeal.dot_S8192x1024_S1024x5632_S8192x5632_1_0_0_1_n_n none
    (extf .f32 A Cert.UpReferenceIdeal.Gen.bitsLt_bf16_f32) (extf .f32 B Cert.UpReferenceIdeal.Gen.bitsLt_bf16_f32)) Cert.UpReferenceIdeal.Gen.bitsLt_bf16_f32

theorem whole_at (A : FVec Ideal S8192x1024 .bf16) (B : FVec Ideal S1024x5632 .bf16) (i : S8192x5632.Idx) :
    (show EReal from whole A B i) = byColumns A B i := by
  pointwise [whole, byColumns]

theorem block_at (A : FVec Ideal S1024x1024 .bf16) (B : FVec Ideal S1024x1408 .bf16) (y : S1024x1408.Idx) :
    (show EReal from out0_2 (F := Ideal) A B y) = byColumns A B y := by
  unfold out0_2
  rw [View.canon_unit_zero hz]
  simp only [View.ld_unit_zero (S := S1024x1024) hz, View.ld_unit_zero (S := S1024x1408) hz]
  pointwise [k0_pay1, byColumns]

variable (m : (ℓ : Loc nD τ sig) → Buf (Elt Ideal) ℓ) (c : Dev nD)

theorem array : (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  refine (block_at _ _ _).trans (Eq.trans ?_ (whole_at _ _ _).symm)
  refine byColumns_block (fun k => ?_) fun k => ?_
  · blk_ext [iblk, idx t]
  · blk_ext [iblk, idx t]

end Cert.Products.Up
end
-- ==== Proof.Out.lean ====
/- The down-projection with the residual: the feed-forward's middle by the projection, and the layer's input added. -/
module

public import proofs.«01_k».proof.Proof.Gen.OutIdeal.Value
public import proofs.«01_k».proof.Proof.Gen.OutReferenceIdeal.Run
public import proofs.«01_k».proof.Proof.Tiles

@[expose] public section

set_option maxRecDepth 16384

noncomputable section

namespace Cert.Products.Out

open Cert.OutIdeal Cert.OutIdeal.Gen
open Idealize.ShloMosaic Idealize.ShloMosaic.TcCoe Idealize.SL.Sem

attribute [local instance] Cert.OutReferenceIdeal.Gen.facts

/-- The windows' block indices: eight blocks of tokens by two of features. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- The reference's product and sum. -/
abbrev whole (A : FVec Ideal S8192x2816 .bf16) (B : FVec Ideal S2816x1024 .bf16) (R : FVec Ideal S8192x1024 .f32) : FVec Ideal S8192x1024 .f32 :=
  addf (Host.dotGeneral Cert.OutReferenceIdeal.dot_S8192x2816_S2816x1024_S8192x1024_1_0_0_1_n_n none
    (extf .f32 A Cert.OutReferenceIdeal.Gen.bitsLt_bf16_f32) (extf .f32 B Cert.OutReferenceIdeal.Gen.bitsLt_bf16_f32)) R

theorem whole_at (A : FVec Ideal S8192x2816 .bf16) (B : FVec Ideal S2816x1024 .bf16) (R : FVec Ideal S8192x1024 .f32) (i : S8192x1024.Idx) :
    (show EReal from whole A B R i) = byColumns A B i + (show EReal from R i) := by
  pointwise [whole, byColumns]

theorem block_at (A : FVec Ideal S1024x2816 .bf16) (B : FVec Ideal S2816x512 .bf16) (R : FVec Ideal S1024x512 .f32) (y : S1024x512.Idx) :
    (show EReal from out0_3 (F := Ideal) A B R y) = byColumns A B y + (show EReal from R y) := by
  unfold out0_3
  rw [View.canon_unit_zero hz]
  simp only [View.ld_unit_zero (S := S1024x2816) hz, View.ld_unit_zero (S := S2816x512) hz, View.ld_unit_zero (S := S1024x512) hz]
  pointwise [k0_pay1, byColumns]

variable (m : (ℓ : Loc nD τ sig) → Buf (Elt Ideal) ℓ) (c : Dev nD)

theorem array : (dats m 0 c).arrAt 3 cfg0.N
    = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (block_at _ _ _ _).trans (Eq.trans (congrArg₂ (· + ·) (byColumns_block (fun k => ?_) fun k => ?_) ?_) (whole_at _ _ _ _).symm)
  · blk_ext [iblk, idx t]
  · blk_ext [iblk, idx t]
  · blk_ext [iblk, idx t]

end Cert.Products.Out
end
-- ==== Proof.Wide.lean ====
/- The gradient of one half of the up-projection: the product of the transposed normed input with the half's gradient,
   added up over eight blocks of tokens, for each of two blocks of columns. -/
module

public import proofs.«01_k».proof.Proof.Gen.WideIdeal.Value
public import proofs.«01_k».proof.Proof.Gen.WideReferenceIdeal.Run
public import proofs.«01_k».proof.Proof.Eighths
public import proofs.«01_k».proof.Proof.Tiles

@[expose] public section

set_option maxRecDepth 16384

noncomputable section

namespace Cert.Products.Wide

open Cert.WideIdeal Cert.WideIdeal.Gen
open Idealize.ShloMosaic Idealize.ShloMosaic.TcCoe Idealize.SL.Sem

attribute [local instance] Cert.WideReferenceIdeal.Gen.facts

/-- Two blocks of columns, each over eight blocks of tokens. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The reference's product. -/
abbrev whole (A : FVec Ideal S8192x1024 .bf16) (B : FVec Ideal S8192x2816 .bf16) : FVec Ideal S1024x2816 .bf16 :=
  truncf .bf16 (transpose S1024x2816 [1, 0] (Host.dotGeneral Cert.WideReferenceIdeal.dot_S8192x2816_S8192x1024_S2816x1024_0_0_1_1_n_n none
    (extf .f32 B Cert.WideReferenceIdeal.Gen.bitsLt_bf16_f32) (extf .f32 A Cert.WideReferenceIdeal.Gen.bitsLt_bf16_f32))
    Cert.WideReferenceIdeal.Gen.transposes_S2816x1024_S1024x2816_1_0) Cert.WideReferenceIdeal.Gen.bitsLt_bf16_f32

theorem whole_at (A : FVec Ideal S8192x1024 .bf16) (B : FVec Ideal S8192x2816 .bf16) (i : Fin 1024) (j : Fin 2816) :
    (show EReal from whole A B (ix2 i j)) = ∑ q ∈ Finset.range 8192, term A B i j q := by
  refine Eq.trans ?_ (all_terms A B i j)
  pointwise [whole]

section
variable (c : Dev nD) (i : grid0.Coords) (a₃ : Memref sig .tc .vmem S1024x1024 .bf16) (h₃ : a₃.IsWhole)
  (a₄ : Memref sig .tc .vmem S1024x1408 .bf16) (h₄ : a₄.IsWhole) (a₅ : Memref sig .tc .vmem S1024x1408 .bf16) (h₅ : a₅.IsWhole)
  (a₆ : Memref sig .tc .vmem S1024x1408 .f32) (h₆ : a₆.IsWhole)
  (A : FVec Ideal S1024x1024 .bf16) (B : FVec Ideal S1024x1408 .bf16) (acc : FVec Ideal S1024x1408 .f32)

/-- The first block of tokens starts the sum. -/
theorem first (hc0 : cond0_0 i) (hc1 : ¬cond0_1 i) (hc2 : ¬cond0_2 i) :
    sout0_A_0 (F := Ideal) c i a₃ h₃ a₄ h₄ a₅ h₅ a₆ h₆ hc0 hc1 hc2 A B = k0_pay2 (F := Ideal) A B :=
  (stored hz _ _ _).trans (congrArg₂ (k0_pay2 (F := Ideal)) (loaded hz a₃ h₃ A) (loaded hz a₄ h₄ B))

/-- A later block adds to it. -/
theorem next (hc0 : ¬cond0_0 i) (hc1 : cond0_1 i) (hc2 : ¬cond0_2 i) :
    sout0_B_0 (F := Ideal) c i a₃ h₃ a₄ h₄ a₅ h₅ a₆ h₆ hc0 hc1 hc2 A B acc = k0_pay3 (F := Ideal) A B acc :=
  (stored hz _ _ _).trans (congr (congrArg₂ (k0_pay3 (F := Ideal)) (loaded hz a₃ h₃ A) (loaded hz a₄ h₄ B)) (loaded hz a₆ h₆ acc))

/-- The last block adds to it and writes the result out. -/
theorem last (hc0 : ¬cond0_0 i) (hc1 : cond0_1 i) (hc2 : cond0_2 i) :
    out0_C_2 (F := Ideal) c i a₃ h₃ a₄ h₄ a₅ h₅ a₆ h₆ hc0 hc1 hc2 A B acc = k0_pay4 (F := Ideal) (k0_pay3 (F := Ideal) A B acc) :=
  (stored hz _ _ _).trans (congrArg (k0_pay4 (F := Ideal)) ((View.readCov_unit_zero (S := S1024x1408) _ hz _ _).trans
    (congr (congrArg₂ (k0_pay3 (F := Ideal)) (loaded hz a₃ h₃ A) (loaded hz a₄ h₄ B)) (loaded hz a₆ h₆ acc))))

end

theorem start_at (A : FVec Ideal S1024x1024 .bf16) (B : FVec Ideal S1024x1408 .bf16) (y : S1024x1408.Idx) :
    (show EReal from k0_pay2 (F := Ideal) A B y) = part A B y := by
  obtain ⟨i, j, rfl⟩ := at2 y
  pointwise [k0_pay2, k0_pay1, part]

theorem add_at (A : FVec Ideal S1024x1024 .bf16) (B : FVec Ideal S1024x1408 .bf16) (acc : FVec Ideal S1024x1408 .f32) (y : S1024x1408.Idx) :
    (show EReal from k0_pay3 (F := Ideal) A B acc y) = (show EReal from acc y) + part A B y := by
  obtain ⟨i, j, rfl⟩ := at2 y
  pointwise [k0_pay3, k0_pay1, part]

theorem out_at (acc : FVec Ideal S1024x1408 .f32) (y : S1024x1408.Idx) : (show EReal from k0_pay4 (F := Ideal) acc y) = (show EReal from acc y) := by
  obtain ⟨i, j, rfl⟩ := at2 y
  pointwise [k0_pay4]

theorem col_val {n : Nat} (hn : n < cfg0.N) (j : Fin 1408) : (place 2816 1408 (n / 8) j).val = 1408 * (n / 8) + j.val := by
  have := lt_of_lt_of_eq hn (show cfg0.N = 16 from N_0)
  exact place_val 2816 1408 _ j (by omega)

variable (m : (ℓ : Loc nD τ sig) → Buf (Elt Ideal) ℓ) (c : Dev nD)

/-- The last point of a block of columns writes the whole sum. -/
theorem written (t : Fin cfg0.N) (h7 : t.val % 8 = 7) (i : Fin 1024) (j : Fin 1408) :
    (show EReal from (outsAt0 m c t.val t.isLt).1 (ix2 i j))
      = ∑ q ∈ Finset.range 8192, term (m ((c : Thread nD τ).loc main_arg0)) (m ((c : Thread nD τ).loc main_arg1)) i (place 2816 1408 (t.val / 8) j) q := by
  refine gradient (N := cfg0.N) _ _ (fun n hn => iblk m c 0 ⟨n, hn⟩) (fun n hn => iblk m c 1 ⟨n, hn⟩) (fun n hn => (outsAt0 m c n hn).2)
    (fun n hn => (outsAt0 m c n hn).1) (fun _ i => i) (fun r j => place 2816 1408 r j) (fun n hn k i => ?_) (fun n hn k j => ?_)
    (fun n hn h0 y => ?_) (fun n hn h0 h7 y => ?_) (fun n hn h7 y => ?_) t.val t.isLt h7 i j
  · blk_ext [iblk, idx ⟨n, hn⟩]
  · have hr := col_val hn j
    blk_ext [iblk, idx ⟨n, hn⟩]
  · rw [outsAt0_A m c ⟨n, hn⟩ h0 (by dsimp only; omega) (by dsimp only; omega)]
    dsimp only
    rw [first]
    exact start_at _ _ y
  · rw [outsAt0_B m c ⟨n + 1, hn⟩ h0 (by dsimp only; omega) h7]
    dsimp only
    rw [next]
    exact add_at _ _ _ y
  · rw [outsAt0_C m c ⟨n, hn⟩ (by dsimp only; omega) (by dsimp only; omega) h7]
    dsimp only
    rw [last]
    exact (out_at _ y).trans (add_at _ _ _ y)

theorem array : (dats m 0 c).arrAt 2 cfg0.N = whole (m ((c : Thread nD τ).loc main_arg0)) (m ((c : Thread nD τ).loc main_arg1)) := by
  refine (dats m 0 c).arrAt_eq_of_covers 2 _ (by decide +kernel) fun t hf y => ?_
  obtain ⟨i, j, rfl⟩ := at2 (M := 1024) (N := 1408) y
  have h7 := (by decide +kernel : ∀ t : Fin cfg0.N, (cfg0.win 2).flush t = true → t.val % 8 = 7) t hf
  blk_simp
  rw [after0_2]
  have hr := col_val t.isLt j
  refine (written m c t h7 i j).trans ((whole_at _ _ _ _).symm.trans ?_)
  blk_ext [idx t]

end Cert.Products.Wide
end
-- ==== Proof.Back.lean ====
/- The gradient of the feed-forward's normed input: each half's gradient by the transposed half of the up-projection,
   the second half's added to the first's. -/
module

public import proofs.«01_k».proof.Proof.Gen.BackIdeal.Value
public import proofs.«01_k».proof.Proof.Gen.BackReferenceIdeal.Run
public import proofs.«01_k».proof.Proof.Gen.BothIdeal.Value
public import proofs.«01_k».proof.Proof.Gen.BothReferenceIdeal.Run
public import proofs.«01_k».proof.Proof.Tiles

@[expose] public section

set_option maxRecDepth 16384

noncomputable section

namespace Cert.Products.Back

open Cert.BackIdeal Cert.BackIdeal.Gen
open Idealize.ShloMosaic Idealize.ShloMosaic.TcCoe Idealize.SL.Sem

attribute [local instance] Cert.BackReferenceIdeal.Gen.facts

/-- The windows' block indices: eight blocks of tokens by two of features. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The reference's product. -/
abbrev whole (A : FVec Ideal S8192x2816 .bf16) (B : FVec Ideal S1024x2816 .bf16) : FVec Ideal S8192x1024 .f32 :=
  Host.dotGeneral Cert.BackReferenceIdeal.dot_S8192x2816_S1024x2816_S8192x1024_1_1_0_0_n_n none
    (extf .f32 A Cert.BackReferenceIdeal.Gen.bitsLt_bf16_f32) (extf .f32 B Cert.BackReferenceIdeal.Gen.bitsLt_bf16_f32)

theorem whole_at (A : FVec Ideal S8192x2816 .bf16) (B : FVec Ideal S1024x2816 .bf16) (i : S8192x1024.Idx) :
    (show EReal from whole A B i) = byRows A B i := by
  pointwise [whole, byRows]

theorem block_at (A : FVec Ideal S1024x2816 .bf16) (B : FVec Ideal S512x2816 .bf16) (y : S1024x512.Idx) :
    (show EReal from out0_2 (F := Ideal) A B y) = byRows A B y := by
  unfold out0_2
  rw [View.canon_unit_zero hz]
  simp only [View.ld_unit_zero (S := S1024x2816) hz, View.ld_unit_zero (S := S512x2816) hz]
  pointwise [k0_pay1, byRows]

variable (m : (ℓ : Loc nD τ sig) → Buf (Elt Ideal) ℓ) (c : Dev nD)

theorem array : (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  refine (block_at _ _ _).trans (Eq.trans (byRows_block (fun k => ?_) fun k => ?_) (whole_at _ _ _).symm)
  · blk_ext [iblk, idx t]
  · blk_ext [iblk, idx t]

end Cert.Products.Back

namespace Cert.Products.Both

open Cert.BothIdeal Cert.BothIdeal.Gen
open Idealize.ShloMosaic Idealize.ShloMosaic.TcCoe Idealize.SL.Sem

/-- The windows' block indices: those of the first half's product, and the first half's result by its blocks. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

/-- The reference's product and sum. -/
abbrev whole (A : FVec Ideal S8192x2816 .bf16) (B : FVec Ideal S1024x2816 .bf16) (R : FVec Ideal S8192x1024 .f32) : FVec Ideal S8192x1024 .f32 :=
  addf (Back.whole A B) R

theorem block_at (A : FVec Ideal S1024x2816 .bf16) (B : FVec Ideal S512x2816 .bf16) (R : FVec Ideal S1024x512 .f32) (y : S1024x512.Idx) :
    (show EReal from out0_3 (F := Ideal) A B R y) = byRows A B y + (show EReal from R y) := by
  unfold out0_3
  rw [View.canon_unit_zero hz]
  simp only [View.ld_unit_zero (S := S1024x2816) hz, View.ld_unit_zero (S := S512x2816) hz, View.ld_unit_zero (S := S1024x512) hz]
  pointwise [k0_pay1, byRows]

variable (m : (ℓ : Loc nD τ sig) → Buf (Elt Ideal) ℓ) (c : Dev nD)

theorem array : (dats m 0 c).arrAt 3 cfg0.N
    = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (block_at _ _ _ _).trans (congrArg₂ (· + ·) (Eq.trans (byRows_block (fun k => ?_) fun k => ?_) (Back.whole_at _ _ _).symm) ?_)
  · blk_ext [iblk, idx t]
  · blk_ext [iblk, idx t]
  · blk_ext [iblk, idx t]

end Cert.Products.Both
end
-- ==== Proof.Products.lean ====
/- The feed-forward products' claims: the frames, and each product against its reference's. -/
module

public import proofs.«01_k».proof.Defs
public import proofs.«01_k».proof.Proof.Hidden
public import proofs.«01_k».proof.Proof.Down
public import proofs.«01_k».proof.Proof.Up
public import proofs.«01_k».proof.Proof.Out
public import proofs.«01_k».proof.Proof.Wide
public import proofs.«01_k».proof.Proof.Back
public import proofs.«01_k».proof.Proof.Gen.Hidden.Frame
public import proofs.«01_k».proof.Proof.Gen.Down.Frame
public import proofs.«01_k».proof.Proof.Gen.Up.Frame
public import proofs.«01_k».proof.Proof.Gen.Out.Frame
public import proofs.«01_k».proof.Proof.Gen.Wide.Frame
public import proofs.«01_k».proof.Proof.Gen.Back.Frame
public import proofs.«01_k».proof.Proof.Gen.Both.Frame

@[expose] public section

noncomputable section

namespace Cert.Products

open Idealize.ShloMosaic Idealize.SL.Sem

attribute [local instance] Cert.Hidden.Gen.facts Cert.HiddenIdeal.Gen.facts Cert.HiddenReferenceIdeal.Gen.facts
  Cert.Down.Gen.facts Cert.DownIdeal.Gen.facts Cert.DownReferenceIdeal.Gen.facts
  Cert.Up.Gen.facts Cert.UpIdeal.Gen.facts Cert.UpReferenceIdeal.Gen.facts
  Cert.Out.Gen.facts Cert.OutIdeal.Gen.facts Cert.OutReferenceIdeal.Gen.facts
  Cert.Wide.Gen.facts Cert.WideIdeal.Gen.facts Cert.WideReferenceIdeal.Gen.facts
  Cert.Back.Gen.facts Cert.BackIdeal.Gen.facts Cert.BackReferenceIdeal.Gen.facts
  Cert.Both.Gen.facts Cert.BothIdeal.Gen.facts Cert.BothReferenceIdeal.Gen.facts

/-! ## Frames -/

theorem Hidden.frames : Cert.quiescent_Hidden ∧ Cert.quiescent_HiddenIdeal ∧ Cert.quiescent_HiddenReferenceIdeal :=
  ⟨fun m g _ => Cert.Hidden.Gen.frame m g, fun m g _ => Cert.HiddenIdeal.Gen.frame m g,
    fun m g _ => quiet (by decide) (Cert.HiddenReferenceIdeal.Value.run m g)⟩

theorem Down.frames : Cert.quiescent_Down ∧ Cert.quiescent_DownIdeal ∧ Cert.quiescent_DownReferenceIdeal :=
  ⟨fun m g _ => Cert.Down.Gen.frame m g, fun m g _ => Cert.DownIdeal.Gen.frame m g,
    fun m g _ => quiet (by decide) (Cert.DownReferenceIdeal.Value.run m g)⟩

theorem Up.frames : Cert.quiescent_Up ∧ Cert.quiescent_UpIdeal ∧ Cert.quiescent_UpReferenceIdeal :=
  ⟨fun m g _ => Cert.Up.Gen.frame m g, fun m g _ => Cert.UpIdeal.Gen.frame m g,
    fun m g _ => quiet (by decide) (Cert.UpReferenceIdeal.Value.run m g)⟩

theorem Out.frames : Cert.quiescent_Out ∧ Cert.quiescent_OutIdeal ∧ Cert.quiescent_OutReferenceIdeal :=
  ⟨fun m g _ => Cert.Out.Gen.frame m g, fun m g _ => Cert.OutIdeal.Gen.frame m g,
    fun m g _ => quiet (by decide) (Cert.OutReferenceIdeal.Value.run m g)⟩

theorem Wide.frames : Cert.quiescent_Wide ∧ Cert.quiescent_WideIdeal ∧ Cert.quiescent_WideReferenceIdeal :=
  ⟨fun m g _ => Cert.Wide.Gen.frame m g, fun m g _ => Cert.WideIdeal.Gen.frame m g,
    fun m g _ => quiet (by decide) (Cert.WideReferenceIdeal.Value.run m g)⟩

theorem Back.frames : Cert.quiescent_Back ∧ Cert.quiescent_BackIdeal ∧ Cert.quiescent_BackReferenceIdeal :=
  ⟨fun m g _ => Cert.Back.Gen.frame m g, fun m g _ => Cert.BackIdeal.Gen.frame m g,
    fun m g _ => quiet (by decide) (Cert.BackReferenceIdeal.Value.run m g)⟩

theorem Both.frames : Cert.quiescent_Both ∧ Cert.quiescent_BothIdeal ∧ Cert.quiescent_BothReferenceIdeal :=
  ⟨fun m g _ => Cert.Both.Gen.frame m g, fun m g _ => Cert.BothIdeal.Gen.frame m g,
    fun m g _ => quiet (by decide) (Cert.BothReferenceIdeal.Value.run m g)⟩

/-! ## Values -/

theorem Hidden.same : Cert.algebraic_HiddenIdeal_HiddenReferenceIdeal := fun m g m' g' _ hm =>
  ⟨_, result (Cert.HiddenIdeal.Value.run_blocks m g) (Hidden.array m),
    result (Cert.HiddenReferenceIdeal.Value.run m' g') fun c => congrArg₂ Hidden.whole (hm c).1 (hm c).2⟩

theorem Down.same : Cert.algebraic_DownIdeal_DownReferenceIdeal := fun m g m' g' _ hm =>
  ⟨_, result (Cert.DownIdeal.Value.run_blocks m g) (Down.array m),
    result (Cert.DownReferenceIdeal.Value.run m' g') fun c => congrArg₂ Down.whole (hm c).1 (hm c).2⟩

theorem Up.same : Cert.algebraic_UpIdeal_UpReferenceIdeal := fun m g m' g' _ hm =>
  ⟨_, result (Cert.UpIdeal.Value.run_blocks m g) (Up.array m),
    result (Cert.UpReferenceIdeal.Value.run m' g') fun c => congrArg₂ Up.whole (hm c).1 (hm c).2⟩

theorem Out.same : Cert.algebraic_OutIdeal_OutReferenceIdeal := fun m g m' g' _ hm =>
  ⟨_, result (Cert.OutIdeal.Value.run_blocks m g) (Out.array m),
    result (Cert.OutReferenceIdeal.Value.run m' g') fun c => congr (congrArg₂ Out.whole (hm c).1 (hm c).2.1) (hm c).2.2⟩

theorem Wide.same : Cert.algebraic_WideIdeal_WideReferenceIdeal := fun m g m' g' _ hm =>
  ⟨_, result (Cert.WideIdeal.Value.run_blocks m g) (Wide.array m),
    result (Cert.WideReferenceIdeal.Value.run m' g') fun c => congrArg₂ Wide.whole (hm c).1 (hm c).2⟩

theorem Back.same : Cert.algebraic_BackIdeal_BackReferenceIdeal := fun m g m' g' _ hm =>
  ⟨_, result (Cert.BackIdeal.Value.run_blocks m g) (Back.array m),
    result (Cert.BackReferenceIdeal.Value.run m' g') fun c => congrArg₂ Back.whole (hm c).1 (hm c).2⟩

theorem Both.same : Cert.algebraic_BothIdeal_BothReferenceIdeal := fun m g m' g' _ hm =>
  ⟨_, result (Cert.BothIdeal.Value.run_blocks m g) (Both.array m),
    result (Cert.BothReferenceIdeal.Value.run m' g') fun c => congr (congrArg₂ Both.whole (hm c).1 (hm c).2.1) (hm c).2.2⟩

end Cert.Products

end
-- ==== Proof.Project.lean ====
/- The first layer's input projection: the product of the normed input with the projection's matrix, and, backward, of
   the projected vectors' gradient with its transpose. -/
module

public import proofs.«01_k».proof.Proof.Gen.ProjectIdeal.Value
public import proofs.«01_k».proof.Proof.Gen.ProjectReferenceIdeal.Run
public import proofs.«01_k».proof.Proof.Gen.ProjectBackIdeal.Value
public import proofs.«01_k».proof.Proof.Gen.ProjectBackReferenceIdeal.Run
public import proofs.«01_k».proof.Proof.Tiles

@[expose] public section

set_option maxRecDepth 16384

noncomputable section

open Idealize.ShloMosaic Idealize.ShloMosaic.TcCoe Idealize.SL.Sem

namespace Cert.Products.Project

open Cert.ProjectIdeal Cert.ProjectIdeal.Gen

attribute [local instance] Cert.ProjectReferenceIdeal.Gen.facts

/-- Eight blocks of tokens by two of columns. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The reference's product. -/
abbrev whole (A : FVec Ideal S8192x1024 .bf16) (B : FVec Ideal S1024x2560 .bf16) : FVec Ideal S8192x2560 .bf16 :=
  truncf .bf16 (Host.dotGeneral Cert.ProjectReferenceIdeal.dot_S8192x1024_S1024x2560_S8192x2560_1_0_0_1_n_n none
    (extf .f32 A Cert.ProjectReferenceIdeal.Gen.bitsLt_bf16_f32) (extf .f32 B Cert.ProjectReferenceIdeal.Gen.bitsLt_bf16_f32)) Cert.ProjectReferenceIdeal.Gen.bitsLt_bf16_f32

theorem whole_at (A : FVec Ideal S8192x1024 .bf16) (B : FVec Ideal S1024x2560 .bf16) (i : S8192x2560.Idx) : (show EReal from whole A B i) = byColumns A B i := by
  pointwise [whole, byColumns]

theorem block_at (A : FVec Ideal S1024x1024 .bf16) (B : FVec Ideal S1024x1280 .bf16) (y : S1024x1280.Idx) :
    (show EReal from out0_2 (F := Ideal) A B y) = byColumns A B y := by
  unfold out0_2
  rw [View.canon_unit_zero hz, View.ld_unit_zero (S := S1024x1024) hz, View.ld_unit_zero (S := S1024x1280) hz]
  pointwise [k0_pay1, byColumns]

theorem array (m : (ℓ : Loc nD τ sig) → Buf (Elt Ideal) ℓ) (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  refine (block_at _ _ _).trans (Eq.trans (byColumns_block (fun k => ?_) fun k => ?_) (whole_at _ _ _).symm)
  · blk_ext [iblk, idx t]
  · blk_ext [iblk, idx t]

end Cert.Products.Project

namespace Cert.Products.ProjectBack

open Cert.ProjectBackIdeal Cert.ProjectBackIdeal.Gen

attribute [local instance] Cert.ProjectBackReferenceIdeal.Gen.facts

/-- Eight blocks of tokens by two of columns. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The reference's product. -/
abbrev whole (A : FVec Ideal S8192x2560 .bf16) (B : FVec Ideal S1024x2560 .bf16) : FVec Ideal S8192x1024 .f32 :=
  Host.dotGeneral Cert.ProjectBackReferenceIdeal.dot_S8192x2560_S1024x2560_S8192x1024_1_1_0_0_n_n none
    (extf .f32 A Cert.ProjectBackReferenceIdeal.Gen.bitsLt_bf16_f32) (extf .f32 B Cert.ProjectBackReferenceIdeal.Gen.bitsLt_bf16_f32)

theorem whole_at (A : FVec Ideal S8192x2560 .bf16) (B : FVec Ideal S1024x2560 .bf16) (i : S8192x1024.Idx) : (show EReal from whole A B i) = byRows A B i := by
  pointwise [whole, byRows]

theorem block_at (A : FVec Ideal S1024x2560 .bf16) (B : FVec Ideal S512x2560 .bf16) (y : S1024x512.Idx) :
    (show EReal from out0_2 (F := Ideal) A B y) = byRows A B y := by
  unfold out0_2
  rw [View.canon_unit_zero hz, View.ld_unit_zero (S := S1024x2560) hz, View.ld_unit_zero (S := S512x2560) hz]
  pointwise [k0_pay1, byRows]

theorem array (m : (ℓ : Loc nD τ sig) → Buf (Elt Ideal) ℓ) (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  refine (block_at _ _ _).trans (Eq.trans (byRows_block (fun k => ?_) fun k => ?_) (whole_at _ _ _).symm)
  · blk_ext [iblk, idx t]
  · blk_ext [iblk, idx t]

end Cert.Products.ProjectBack

end
-- ==== Proof.ProjectGrad.lean ====
/- The gradient of the first layer's input projection: the product of the transposed normed input with the projected
   vectors' gradient, added up over eight blocks of tokens, for each of two blocks of columns. -/
module

public import proofs.«01_k».proof.Proof.Gen.ProjectGradIdeal.Value
public import proofs.«01_k».proof.Proof.Gen.ProjectGradReferenceIdeal.Run
public import proofs.«01_k».proof.Proof.Eighths
public import proofs.«01_k».proof.Proof.Tiles

@[expose] public section

set_option maxRecDepth 16384

noncomputable section

namespace Cert.Products.ProjectGrad

open Cert.ProjectGradIdeal Cert.ProjectGradIdeal.Gen
open Idealize.ShloMosaic Idealize.ShloMosaic.TcCoe Idealize.SL.Sem

attribute [local instance] Cert.ProjectGradReferenceIdeal.Gen.facts

/-- Two blocks of columns, each over eight blocks of tokens. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The reference's product. -/
abbrev whole (A : FVec Ideal S8192x1024 .bf16) (B : FVec Ideal S8192x2560 .bf16) : FVec Ideal S1024x2560 .bf16 :=
  truncf .bf16 (transpose S1024x2560 [1, 0] (Host.dotGeneral Cert.ProjectGradReferenceIdeal.dot_S8192x2560_S8192x1024_S2560x1024_0_0_1_1_n_n none
    (extf .f32 B Cert.ProjectGradReferenceIdeal.Gen.bitsLt_bf16_f32) (extf .f32 A Cert.ProjectGradReferenceIdeal.Gen.bitsLt_bf16_f32))
    Cert.ProjectGradReferenceIdeal.Gen.transposes_S2560x1024_S1024x2560_1_0) Cert.ProjectGradReferenceIdeal.Gen.bitsLt_bf16_f32

theorem whole_at (A : FVec Ideal S8192x1024 .bf16) (B : FVec Ideal S8192x2560 .bf16) (i : Fin 1024) (j : Fin 2560) :
    (show EReal from whole A B (ix2 i j)) = ∑ q ∈ Finset.range 8192, term A B i j q := by
  refine Eq.trans ?_ (all_terms A B i j)
  pointwise [whole]

section
variable (c : Dev nD) (i : grid0.Coords) (a₃ : Memref sig .tc .vmem S1024x1024 .bf16) (h₃ : a₃.IsWhole)
  (a₄ : Memref sig .tc .vmem S1024x1280 .bf16) (h₄ : a₄.IsWhole) (a₅ : Memref sig .tc .vmem S1024x1280 .bf16) (h₅ : a₅.IsWhole)
  (a₆ : Memref sig .tc .vmem S1024x1280 .f32) (h₆ : a₆.IsWhole)
  (A : FVec Ideal S1024x1024 .bf16) (B : FVec Ideal S1024x1280 .bf16) (acc : FVec Ideal S1024x1280 .f32)

theorem first (hc0 : cond0_0 i) (hc1 : ¬cond0_1 i) (hc2 : ¬cond0_2 i) :
    sout0_A_0 (F := Ideal) c i a₃ h₃ a₄ h₄ a₅ h₅ a₆ h₆ hc0 hc1 hc2 A B = k0_pay2 (F := Ideal) A B :=
  (stored hz _ _ _).trans (congrArg₂ (k0_pay2 (F := Ideal)) (loaded hz a₃ h₃ A) (loaded hz a₄ h₄ B))

theorem next (hc0 : ¬cond0_0 i) (hc1 : cond0_1 i) (hc2 : ¬cond0_2 i) :
    sout0_B_0 (F := Ideal) c i a₃ h₃ a₄ h₄ a₅ h₅ a₆ h₆ hc0 hc1 hc2 A B acc = k0_pay3 (F := Ideal) A B acc :=
  (stored hz _ _ _).trans (congr (congrArg₂ (k0_pay3 (F := Ideal)) (loaded hz a₃ h₃ A) (loaded hz a₄ h₄ B)) (loaded hz a₆ h₆ acc))

theorem last (hc0 : ¬cond0_0 i) (hc1 : cond0_1 i) (hc2 : cond0_2 i) :
    out0_C_2 (F := Ideal) c i a₃ h₃ a₄ h₄ a₅ h₅ a₆ h₆ hc0 hc1 hc2 A B acc = k0_pay4 (F := Ideal) (k0_pay3 (F := Ideal) A B acc) :=
  (stored hz _ _ _).trans (congrArg (k0_pay4 (F := Ideal)) ((View.readCov_unit_zero (S := S1024x1280) _ hz _ _).trans
    (congr (congrArg₂ (k0_pay3 (F := Ideal)) (loaded hz a₃ h₃ A) (loaded hz a₄ h₄ B)) (loaded hz a₆ h₆ acc))))

theorem start_at (y : S1024x1280.Idx) : (show EReal from k0_pay2 (F := Ideal) A B y) = part A B y := by
  obtain ⟨i, j, rfl⟩ := at2 y
  pointwise [k0_pay2, k0_pay1, part]

theorem add_at (y : S1024x1280.Idx) : (show EReal from k0_pay3 (F := Ideal) A B acc y) = (show EReal from acc y) + part A B y := by
  obtain ⟨i, j, rfl⟩ := at2 y
  pointwise [k0_pay3, k0_pay1, part]

theorem out_at (y : S1024x1280.Idx) : (show EReal from k0_pay4 (F := Ideal) acc y) = (show EReal from acc y) := by
  obtain ⟨i, j, rfl⟩ := at2 y
  pointwise [k0_pay4]

end

theorem col_val {n : Nat} (hn : n < cfg0.N) (j : Fin 1280) : (place 2560 1280 (n / 8) j).val = 1280 * (n / 8) + j.val := by
  have := lt_of_lt_of_eq hn (show cfg0.N = 16 from N_0)
  exact place_val 2560 1280 _ j (by omega)

variable (m : (ℓ : Loc nD τ sig) → Buf (Elt Ideal) ℓ) (c : Dev nD)

/-- The last point of a block of columns writes the whole sum. -/
theorem written (t : Fin cfg0.N) (h7 : t.val % 8 = 7) (i : Fin 1024) (j : Fin 1280) :
    (show EReal from (outsAt0 m c t.val t.isLt).1 (ix2 i j))
      = ∑ q ∈ Finset.range 8192, term (m ((c : Thread nD τ).loc main_arg0)) (m ((c : Thread nD τ).loc main_arg1)) i (place 2560 1280 (t.val / 8) j) q := by
  refine gradient (N := cfg0.N) _ _ (fun n hn => iblk m c 0 ⟨n, hn⟩) (fun n hn => iblk m c 1 ⟨n, hn⟩) (fun n hn => (outsAt0 m c n hn).2)
    (fun n hn => (outsAt0 m c n hn).1) (fun _ i => i) (fun r j => place 2560 1280 r j) (fun n hn k i => ?_) (fun n hn k j => ?_)
    (fun n hn h0 y => ?_) (fun n hn h0 h7 y => ?_) (fun n hn h7 y => ?_) t.val t.isLt h7 i j
  · blk_ext [iblk, idx ⟨n, hn⟩]
  · have hr := col_val hn j
    blk_ext [iblk, idx ⟨n, hn⟩]
  · rw [outsAt0_A m c ⟨n, hn⟩ h0 (by dsimp only; omega) (by dsimp only; omega)]
    dsimp only
    rw [first]
    exact start_at _ _ y
  · rw [outsAt0_B m c ⟨n + 1, hn⟩ h0 (by dsimp only; omega) h7]
    dsimp only
    rw [next]
    exact add_at _ _ _ y
  · rw [outsAt0_C m c ⟨n, hn⟩ (by dsimp only; omega) (by dsimp only; omega) h7]
    dsimp only
    rw [last]
    exact (out_at _ y).trans (add_at _ _ _ y)

theorem array : (dats m 0 c).arrAt 2 cfg0.N = whole (m ((c : Thread nD τ).loc main_arg0)) (m ((c : Thread nD τ).loc main_arg1)) := by
  refine (dats m 0 c).arrAt_eq_of_covers 2 _ (by decide +kernel) fun t hf y => ?_
  obtain ⟨i, j, rfl⟩ := at2 (M := 1024) (N := 1280) y
  have h7 := (by decide +kernel : ∀ t : Fin cfg0.N, (cfg0.win 2).flush t = true → t.val % 8 = 7) t hf
  blk_simp
  rw [after0_2]
  have hr := col_val t.isLt j
  refine (written m c t h7 i j).trans ((whole_at _ _ _ _).symm.trans ?_)
  blk_ext [idx t]

end Cert.Products.ProjectGrad
end
-- ==== Proof.Mix.lean ====
/- The attention's output projection: the product of the joined heads with its matrix and the layer's input added, and,
   backward, of the output's gradient with its transpose. -/
module

public import proofs.«01_k».proof.Proof.Gen.MixIdeal.Value
public import proofs.«01_k».proof.Proof.Gen.MixReferenceIdeal.Run
public import proofs.«01_k».proof.Proof.Gen.MixBackIdeal.Value
public import proofs.«01_k».proof.Proof.Gen.MixBackReferenceIdeal.Run
public import proofs.«01_k».proof.Proof.Tiles

@[expose] public section

set_option maxRecDepth 16384

noncomputable section

open Idealize.ShloMosaic Idealize.ShloMosaic.TcCoe Idealize.SL.Sem

namespace Cert.Products.Mix

open Cert.MixIdeal Cert.MixIdeal.Gen

attribute [local instance] Cert.MixReferenceIdeal.Gen.facts

/-- Eight blocks of tokens, the matrix whole. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The reference's product and sum. -/
abbrev whole (A : FVec Ideal S8192x1024 .bf16) (B : FVec Ideal S1024x1024 .bf16) (R : FVec Ideal S8192x1024 .f32) : FVec Ideal S8192x1024 .f32 :=
  addf (Host.dotGeneral Cert.MixReferenceIdeal.dot_S8192x1024_S1024x1024_S8192x1024_1_0_0_1_n_n none
    (extf .f32 A Cert.MixReferenceIdeal.Gen.bitsLt_bf16_f32) (extf .f32 B Cert.MixReferenceIdeal.Gen.bitsLt_bf16_f32)) R

theorem whole_at (A : FVec Ideal S8192x1024 .bf16) (B : FVec Ideal S1024x1024 .bf16) (R : FVec Ideal S8192x1024 .f32) (i : S8192x1024.Idx) :
    (show EReal from whole A B R i) = byColumns A B i + (show EReal from R i) := by
  pointwise [whole, byColumns]

theorem block_at (A B : FVec Ideal S1024x1024 .bf16) (R : FVec Ideal S1024x1024 .f32) (y : S1024x1024.Idx) :
    (show EReal from out0_3 (F := Ideal) A B R y) = byColumns A B y + (show EReal from R y) := by
  unfold out0_3
  rw [View.canon_unit_zero hz, View.ld_unit_zero (S := S1024x1024) hz, View.ld_unit_zero (S := S1024x1024) hz, View.ld_unit_zero (S := S1024x1024) hz]
  pointwise [k0_pay1, byColumns]

theorem array (m : (ℓ : Loc nD τ sig) → Buf (Elt Ideal) ℓ) (c : Dev nD) : (dats m 0 c).arrAt 3 cfg0.N
    = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (block_at _ _ _ _).trans (Eq.trans (congrArg₂ (· + ·) (byColumns_block (fun k => ?_) fun k => ?_) ?_) (whole_at _ _ _ _).symm)
  · blk_ext [iblk, idx t]
  · blk_ext [iblk, idx t]
  · blk_ext [iblk, idx t]

end Cert.Products.Mix

namespace Cert.Products.MixBack

open Cert.MixBackIdeal Cert.MixBackIdeal.Gen

attribute [local instance] Cert.MixBackReferenceIdeal.Gen.facts

/-- Eight blocks of tokens, the matrix whole. -/
theorem idx : ∀ t : Fin cfg0.N, win0_0.index t = ![t.val, 0] ∧ win0_1.index t = ![0, 0] ∧ win0_2.index t = ![t.val, 0] :=
  (by decide +kernel : ∀ t : Fin grid0.N, _)

/-- The reference's product. -/
abbrev whole (A : FVec Ideal S8192x1024 .f32) (B : FVec Ideal S1024x1024 .bf16) : FVec Ideal S8192x1024 .bf16 :=
  truncf .bf16 (Host.dotGeneral Cert.MixBackReferenceIdeal.dot_S8192x1024_S1024x1024_S8192x1024_1_1_0_0_n_n none A
    (extf .f32 B Cert.MixBackReferenceIdeal.Gen.bitsLt_bf16_f32)) Cert.MixBackReferenceIdeal.Gen.bitsLt_bf16_f32

theorem whole_at (A : FVec Ideal S8192x1024 .f32) (B : FVec Ideal S1024x1024 .bf16) (i : S8192x1024.Idx) : (show EReal from whole A B i) = byRows A B i := by
  pointwise [whole, byRows]

theorem block_at (A : FVec Ideal S1024x1024 .f32) (B : FVec Ideal S1024x1024 .bf16) (y : S1024x1024.Idx) :
    (show EReal from out0_2 (F := Ideal) A B y) = byRows A B y := by
  unfold out0_2
  rw [View.canon_unit_zero hz, View.ld_unit_zero (S := S1024x1024) hz, View.ld_unit_zero (S := S1024x1024) hz]
  pointwise [k0_pay1, byRows]

theorem array (m : (ℓ : Loc nD τ sig) → Buf (Elt Ideal) ℓ) (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  refine (block_at _ _ _).trans (Eq.trans (byRows_block (fun k => ?_) fun k => ?_) (whole_at _ _ _).symm)
  · blk_ext [iblk, idx t]
  · blk_ext [iblk, idx t]

end Cert.Products.MixBack

end
-- ==== Proof.MixGrad.lean ====
/- The gradient of the attention's output projection: the product of the transposed joined heads with the output's
   gradient, added up over eight blocks of tokens. -/
module

public import proofs.«01_k».proof.Proof.Gen.MixGradIdeal.Value
public import proofs.«01_k».proof.Proof.Gen.MixGradReferenceIdeal.Run
public import proofs.«01_k».proof.Proof.Eighths
public import proofs.«01_k».proof.Proof.Tiles

@[expose] public section

set_option maxRecDepth 16384

noncomputable section

namespace Cert.Products.MixGrad

open Cert.MixGradIdeal Cert.MixGradIdeal.Gen
open Idealize.ShloMosaic Idealize.ShloMosaic.TcCoe Idealize.SL.Sem

attribute [local instance] Cert.MixGradReferenceIdeal.Gen.facts

/-- Eight blocks of tokens, the matrix whole. -/
theorem idx : ∀ t : Fin cfg0.N, win0_0.index t = ![t.val % 8, 0] ∧ win0_1.index t = ![t.val % 8, 0] ∧ win0_2.index t = ![0, 0] :=
  (by decide +kernel : ∀ t : Fin grid0.N, _)

/-- The reference's product. -/
abbrev whole (A : FVec Ideal S8192x1024 .bf16) (B : FVec Ideal S8192x1024 .f32) : FVec Ideal S1024x1024 .bf16 :=
  truncf .bf16 (transpose S1024x1024 [1, 0] (Host.dotGeneral Cert.MixGradReferenceIdeal.dot_S8192x1024_S8192x1024_S1024x1024_0_0_1_1_n_n none
    B (extf .f32 A Cert.MixGradReferenceIdeal.Gen.bitsLt_bf16_f32))
    Cert.MixGradReferenceIdeal.Gen.transposes_S1024x1024_S1024x1024_1_0) Cert.MixGradReferenceIdeal.Gen.bitsLt_bf16_f32

theorem whole_at (A : FVec Ideal S8192x1024 .bf16) (B : FVec Ideal S8192x1024 .f32) (i j : Fin 1024) :
    (show EReal from whole A B (ix2 i j)) = ∑ q ∈ Finset.range 8192, term A B i j q := by
  refine Eq.trans ?_ (all_terms A B i j)
  pointwise [whole]

section
variable (c : Dev nD) (i : grid0.Coords) (a₃ : Memref sig .tc .vmem S1024x1024 .bf16) (h₃ : a₃.IsWhole)
  (a₄ : Memref sig .tc .vmem S1024x1024 .f32) (h₄ : a₄.IsWhole) (a₅ : Memref sig .tc .vmem S1024x1024 .bf16) (h₅ : a₅.IsWhole)
  (a₆ : Memref sig .tc .vmem S1024x1024 .f32) (h₆ : a₆.IsWhole)
  (A : FVec Ideal S1024x1024 .bf16) (B : FVec Ideal S1024x1024 .f32) (acc : FVec Ideal S1024x1024 .f32)

theorem first (hc0 : cond0_0 i) (hc1 : ¬cond0_1 i) (hc2 : ¬cond0_2 i) :
    sout0_A_0 (F := Ideal) c i a₃ h₃ a₄ h₄ a₅ h₅ a₆ h₆ hc0 hc1 hc2 A B = k0_pay2 (F := Ideal) A B :=
  (stored hz _ _ _).trans (congrArg₂ (k0_pay2 (F := Ideal)) (loaded hz a₃ h₃ A) (loaded hz a₄ h₄ B))

theorem next (hc0 : ¬cond0_0 i) (hc1 : cond0_1 i) (hc2 : ¬cond0_2 i) :
    sout0_B_0 (F := Ideal) c i a₃ h₃ a₄ h₄ a₅ h₅ a₆ h₆ hc0 hc1 hc2 A B acc = k0_pay3 (F := Ideal) A B acc :=
  (stored hz _ _ _).trans (congr (congrArg₂ (k0_pay3 (F := Ideal)) (loaded hz a₃ h₃ A) (loaded hz a₄ h₄ B)) (loaded hz a₆ h₆ acc))

theorem last (hc0 : ¬cond0_0 i) (hc1 : cond0_1 i) (hc2 : cond0_2 i) :
    out0_C_2 (F := Ideal) c i a₃ h₃ a₄ h₄ a₅ h₅ a₆ h₆ hc0 hc1 hc2 A B acc = k0_pay4 (F := Ideal) (k0_pay3 (F := Ideal) A B acc) :=
  (stored hz _ _ _).trans (congrArg (k0_pay4 (F := Ideal)) ((View.readCov_unit_zero (S := S1024x1024) _ hz _ _).trans
    (congr (congrArg₂ (k0_pay3 (F := Ideal)) (loaded hz a₃ h₃ A) (loaded hz a₄ h₄ B)) (loaded hz a₆ h₆ acc))))

theorem start_at (y : S1024x1024.Idx) : (show EReal from k0_pay2 (F := Ideal) A B y) = part A B y := by
  obtain ⟨i, j, rfl⟩ := at2 y
  pointwise [k0_pay2, k0_pay1, part]

theorem add_at (y : S1024x1024.Idx) : (show EReal from k0_pay3 (F := Ideal) A B acc y) = (show EReal from acc y) + part A B y := by
  obtain ⟨i, j, rfl⟩ := at2 y
  pointwise [k0_pay3, k0_pay1, part]

theorem out_at (y : S1024x1024.Idx) : (show EReal from k0_pay4 (F := Ideal) acc y) = (show EReal from acc y) := by
  obtain ⟨i, j, rfl⟩ := at2 y
  pointwise [k0_pay4]

end

variable (m : (ℓ : Loc nD τ sig) → Buf (Elt Ideal) ℓ) (c : Dev nD)

/-- The last point writes the whole sum. -/
theorem written (t : Fin cfg0.N) (h7 : t.val % 8 = 7) (i j : Fin 1024) : (show EReal from (outsAt0 m c t.val t.isLt).1 (ix2 i j))
      = ∑ q ∈ Finset.range 8192, term (m ((c : Thread nD τ).loc main_arg0)) (m ((c : Thread nD τ).loc main_arg1)) i j q := by
  refine gradient (N := cfg0.N) _ _ (fun n hn => iblk m c 0 ⟨n, hn⟩) (fun n hn => iblk m c 1 ⟨n, hn⟩) (fun n hn => (outsAt0 m c n hn).2)
    (fun n hn => (outsAt0 m c n hn).1) (fun _ i => i) (fun _ j => j) (fun n hn k i => ?_) (fun n hn k j => ?_)
    (fun n hn h0 y => ?_) (fun n hn h0 h7 y => ?_) (fun n hn h7 y => ?_) t.val t.isLt h7 i j
  · blk_ext [iblk, idx ⟨n, hn⟩]
  · blk_ext [iblk, idx ⟨n, hn⟩]
  · have h8 := lt_of_lt_of_eq hn (show cfg0.N = 8 from N_0)
    rw [outsAt0_A m c ⟨n, hn⟩ h0 (by dsimp only; omega) (by dsimp only; omega)]
    dsimp only
    rw [first]
    exact start_at _ _ y
  · rw [outsAt0_B m c ⟨n + 1, hn⟩ h0 (by dsimp only; omega) h7]
    dsimp only
    rw [next]
    exact add_at _ _ _ y
  · rw [outsAt0_C m c ⟨n, hn⟩ (by dsimp only; omega) (by dsimp only; omega) h7]
    dsimp only
    rw [last]
    exact (out_at _ y).trans (add_at _ _ _ y)

theorem array : (dats m 0 c).arrAt 2 cfg0.N = whole (m ((c : Thread nD τ).loc main_arg0)) (m ((c : Thread nD τ).loc main_arg1)) := by
  refine (dats m 0 c).arrAt_eq_of_covers 2 _ (by decide +kernel) fun t hf y => ?_
  obtain ⟨i, j, rfl⟩ := at2 (M := 1024) (N := 1024) y
  have h7 := (by decide +kernel : ∀ t : Fin cfg0.N, (cfg0.win 2).flush t = true → t.val % 8 = 7) t hf
  blk_simp
  rw [after0_2]
  refine (written m c t h7 i j).trans ((whole_at _ _ _ _).symm.trans ?_)
  blk_ext [idx t]

end Cert.Products.MixGrad
end
-- ==== Proof.Shared.lean ====
/- The projection to the keys and values that both layers share: the product of the normed input with the projection's
   matrix, and, backward, of the keys' and values' gradient with its transpose. -/
module

public import proofs.«01_k».proof.Proof.Gen.SharedIdeal.Value
public import proofs.«01_k».proof.Proof.Gen.SharedReferenceIdeal.Run
public import proofs.«01_k».proof.Proof.Gen.SharedBackIdeal.Value
public import proofs.«01_k».proof.Proof.Gen.SharedBackReferenceIdeal.Run
public import proofs.«01_k».proof.Proof.Tiles

@[expose] public section

set_option maxRecDepth 16384

noncomputable section

open Idealize.ShloMosaic Idealize.ShloMosaic.TcCoe Idealize.SL.Sem

namespace Cert.Products.Shared

open Cert.SharedIdeal Cert.SharedIdeal.Gen

attribute [local instance] Cert.SharedReferenceIdeal.Gen.facts

/-- Eight blocks of tokens by two of columns, the keys and the values. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The reference's product. -/
abbrev whole (A : FVec Ideal S8192x1024 .bf16) (B : FVec Ideal S1024x1536 .bf16) : FVec Ideal S8192x1536 .bf16 :=
  truncf .bf16 (Host.dotGeneral Cert.SharedReferenceIdeal.dot_S8192x1024_S1024x1536_S8192x1536_1_0_0_1_n_n none
    (extf .f32 A Cert.SharedReferenceIdeal.Gen.bitsLt_bf16_f32) (extf .f32 B Cert.SharedReferenceIdeal.Gen.bitsLt_bf16_f32)) Cert.SharedReferenceIdeal.Gen.bitsLt_bf16_f32

theorem whole_at (A : FVec Ideal S8192x1024 .bf16) (B : FVec Ideal S1024x1536 .bf16) (i : S8192x1536.Idx) : (show EReal from whole A B i) = byColumns A B i := by
  pointwise [whole, byColumns]

theorem block_at (A : FVec Ideal S1024x1024 .bf16) (B : FVec Ideal S1024x768 .bf16) (y : S1024x768.Idx) : (show EReal from out0_2 (F := Ideal) A B y) = byColumns A B y := by
  unfold out0_2
  rw [View.canon_unit_zero hz, View.ld_unit_zero (S := S1024x1024) hz, View.ld_unit_zero (S := S1024x768) hz]
  pointwise [k0_pay1, byColumns]

theorem array (m : (ℓ : Loc nD τ sig) → Buf (Elt Ideal) ℓ) (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  refine (block_at _ _ _).trans (Eq.trans (byColumns_block (fun k => ?_) fun k => ?_) (whole_at _ _ _).symm)
  · blk_ext [iblk, idx t]
  · blk_ext [iblk, idx t]

end Cert.Products.Shared

namespace Cert.Products.SharedBack

open Cert.SharedBackIdeal Cert.SharedBackIdeal.Gen

attribute [local instance] Cert.SharedBackReferenceIdeal.Gen.facts

/-- Eight blocks of tokens, the matrix whole. -/
theorem idx : ∀ t : Fin cfg0.N, win0_0.index t = ![t.val, 0] ∧ win0_1.index t = ![0, 0] ∧ win0_2.index t = ![t.val, 0] :=
  (by decide +kernel : ∀ t : Fin grid0.N, _)

/-- The reference's product. -/
abbrev whole (A : FVec Ideal S8192x1536 .bf16) (B : FVec Ideal S1024x1536 .bf16) : FVec Ideal S8192x1024 .f32 :=
  Host.dotGeneral Cert.SharedBackReferenceIdeal.dot_S8192x1536_S1024x1536_S8192x1024_1_1_0_0_n_n none
    (extf .f32 A Cert.SharedBackReferenceIdeal.Gen.bitsLt_bf16_f32) (extf .f32 B Cert.SharedBackReferenceIdeal.Gen.bitsLt_bf16_f32)

theorem whole_at (A : FVec Ideal S8192x1536 .bf16) (B : FVec Ideal S1024x1536 .bf16) (i : S8192x1024.Idx) : (show EReal from whole A B i) = byRows A B i := by
  pointwise [whole, byRows]

theorem block_at (A : FVec Ideal S1024x1536 .bf16) (B : FVec Ideal S1024x1536 .bf16) (y : S1024x1024.Idx) : (show EReal from out0_2 (F := Ideal) A B y) = byRows A B y := by
  unfold out0_2
  rw [View.canon_unit_zero hz, View.ld_unit_zero (S := S1024x1536) hz, View.ld_unit_zero (S := S1024x1536) hz]
  pointwise [k0_pay1, byRows]

theorem array (m : (ℓ : Loc nD τ sig) → Buf (Elt Ideal) ℓ) (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  refine (block_at _ _ _).trans (Eq.trans (byRows_block (fun k => ?_) fun k => ?_) (whole_at _ _ _).symm)
  · blk_ext [iblk, idx t]
  · blk_ext [iblk, idx t]

end Cert.Products.SharedBack

end
-- ==== Proof.SharedGrad.lean ====
/- The gradient of the projection to the shared keys and values: the product of the transposed normed input with the
   keys' and values' gradient, added up over eight blocks of tokens, the keys' columns before the values'. -/
module

public import proofs.«01_k».proof.Proof.Gen.SharedGradIdeal.Value
public import proofs.«01_k».proof.Proof.Gen.SharedGradReferenceIdeal.Run
public import proofs.«01_k».proof.Proof.Eighths
public import proofs.«01_k».proof.Proof.Tiles

@[expose] public section

set_option maxRecDepth 16384

noncomputable section

namespace Cert.Products.SharedGrad

open Cert.SharedGradIdeal Cert.SharedGradIdeal.Gen
open Idealize.ShloMosaic Idealize.ShloMosaic.TcCoe Idealize.SL.Sem

attribute [local instance] Cert.SharedGradReferenceIdeal.Gen.facts

/-- Two blocks of columns, each over eight blocks of tokens. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The reference's product. -/
abbrev whole (A : FVec Ideal S8192x1024 .bf16) (B : FVec Ideal S8192x1536 .bf16) : FVec Ideal S1024x1536 .bf16 :=
  truncf .bf16 (transpose S1024x1536 [1, 0] (Host.dotGeneral Cert.SharedGradReferenceIdeal.dot_S8192x1536_S8192x1024_S1536x1024_0_0_1_1_n_n none
    (extf .f32 B Cert.SharedGradReferenceIdeal.Gen.bitsLt_bf16_f32) (extf .f32 A Cert.SharedGradReferenceIdeal.Gen.bitsLt_bf16_f32))
    Cert.SharedGradReferenceIdeal.Gen.transposes_S1536x1024_S1024x1536_1_0) Cert.SharedGradReferenceIdeal.Gen.bitsLt_bf16_f32

theorem whole_at (A : FVec Ideal S8192x1024 .bf16) (B : FVec Ideal S8192x1536 .bf16) (i : Fin 1024) (j : Fin 1536) :
    (show EReal from whole A B (ix2 i j)) = ∑ q ∈ Finset.range 8192, term A B i j q := by
  refine Eq.trans ?_ (all_terms A B i j)
  pointwise [whole]

section
variable (c : Dev nD) (i : grid0.Coords) (a₃ : Memref sig .tc .vmem S1024x1024 .bf16) (h₃ : a₃.IsWhole)
  (a₄ : Memref sig .tc .vmem S1024x768 .bf16) (h₄ : a₄.IsWhole) (a₅ : Memref sig .tc .vmem S1024x768 .bf16) (h₅ : a₅.IsWhole)
  (a₆ : Memref sig .tc .vmem S1024x768 .f32) (h₆ : a₆.IsWhole)
  (A : FVec Ideal S1024x1024 .bf16) (B : FVec Ideal S1024x768 .bf16) (acc : FVec Ideal S1024x768 .f32)

theorem first (hc0 : cond0_0 i) (hc1 : ¬cond0_1 i) (hc2 : ¬cond0_2 i) :
    sout0_A_0 (F := Ideal) c i a₃ h₃ a₄ h₄ a₅ h₅ a₆ h₆ hc0 hc1 hc2 A B = k0_pay2 (F := Ideal) A B :=
  (stored hz _ _ _).trans (congrArg₂ (k0_pay2 (F := Ideal)) (loaded hz a₃ h₃ A) (loaded hz a₄ h₄ B))

theorem next (hc0 : ¬cond0_0 i) (hc1 : cond0_1 i) (hc2 : ¬cond0_2 i) :
    sout0_B_0 (F := Ideal) c i a₃ h₃ a₄ h₄ a₅ h₅ a₆ h₆ hc0 hc1 hc2 A B acc = k0_pay3 (F := Ideal) A B acc :=
  (stored hz _ _ _).trans (congr (congrArg₂ (k0_pay3 (F := Ideal)) (loaded hz a₃ h₃ A) (loaded hz a₄ h₄ B)) (loaded hz a₆ h₆ acc))

theorem last (hc0 : ¬cond0_0 i) (hc1 : cond0_1 i) (hc2 : cond0_2 i) :
    out0_C_2 (F := Ideal) c i a₃ h₃ a₄ h₄ a₅ h₅ a₆ h₆ hc0 hc1 hc2 A B acc = k0_pay4 (F := Ideal) (k0_pay3 (F := Ideal) A B acc) :=
  (stored hz _ _ _).trans (congrArg (k0_pay4 (F := Ideal)) ((View.readCov_unit_zero (S := S1024x768) _ hz _ _).trans
    (congr (congrArg₂ (k0_pay3 (F := Ideal)) (loaded hz a₃ h₃ A) (loaded hz a₄ h₄ B)) (loaded hz a₆ h₆ acc))))

theorem start_at (y : S1024x768.Idx) : (show EReal from k0_pay2 (F := Ideal) A B y) = part A B y := by
  obtain ⟨i, j, rfl⟩ := at2 y
  pointwise [k0_pay2, k0_pay1, part]

theorem add_at (y : S1024x768.Idx) : (show EReal from k0_pay3 (F := Ideal) A B acc y) = (show EReal from acc y) + part A B y := by
  obtain ⟨i, j, rfl⟩ := at2 y
  pointwise [k0_pay3, k0_pay1, part]

theorem out_at (y : S1024x768.Idx) : (show EReal from k0_pay4 (F := Ideal) acc y) = (show EReal from acc y) := by
  obtain ⟨i, j, rfl⟩ := at2 y
  pointwise [k0_pay4]

end

theorem col_val {n : Nat} (hn : n < cfg0.N) (j : Fin 768) : (place 1536 768 (n / 8) j).val = 768 * (n / 8) + j.val := by
  have := lt_of_lt_of_eq hn (show cfg0.N = 16 from N_0)
  exact place_val 1536 768 _ j (by omega)

variable (m : (ℓ : Loc nD τ sig) → Buf (Elt Ideal) ℓ) (c : Dev nD)

/-- The last point of a block of columns writes the whole sum. -/
theorem written (t : Fin cfg0.N) (h7 : t.val % 8 = 7) (i : Fin 1024) (j : Fin 768) :
    (show EReal from (outsAt0 m c t.val t.isLt).1 (ix2 i j))
      = ∑ q ∈ Finset.range 8192, term (m ((c : Thread nD τ).loc main_arg0)) (m ((c : Thread nD τ).loc main_arg1)) i (place 1536 768 (t.val / 8) j) q := by
  refine gradient (N := cfg0.N) _ _ (fun n hn => iblk m c 0 ⟨n, hn⟩) (fun n hn => iblk m c 1 ⟨n, hn⟩) (fun n hn => (outsAt0 m c n hn).2)
    (fun n hn => (outsAt0 m c n hn).1) (fun _ i => i) (fun r j => place 1536 768 r j) (fun n hn k i => ?_) (fun n hn k j => ?_)
    (fun n hn h0 y => ?_) (fun n hn h0 h7 y => ?_) (fun n hn h7 y => ?_) t.val t.isLt h7 i j
  · blk_ext [iblk, idx ⟨n, hn⟩]
  · have hr := col_val hn j
    blk_ext [iblk, idx ⟨n, hn⟩]
  · rw [outsAt0_A m c ⟨n, hn⟩ h0 (by dsimp only; omega) (by dsimp only; omega)]
    dsimp only
    rw [first]
    exact start_at _ _ y
  · rw [outsAt0_B m c ⟨n + 1, hn⟩ h0 (by dsimp only; omega) h7]
    dsimp only
    rw [next]
    exact add_at _ _ _ y
  · rw [outsAt0_C m c ⟨n, hn⟩ (by dsimp only; omega) (by dsimp only; omega) h7]
    dsimp only
    rw [last]
    exact (out_at _ y).trans (add_at _ _ _ y)

theorem array : (dats m 0 c).arrAt 2 cfg0.N = whole (m ((c : Thread nD τ).loc main_arg0)) (m ((c : Thread nD τ).loc main_arg1)) := by
  refine (dats m 0 c).arrAt_eq_of_covers 2 _ (by decide +kernel) fun t hf y => ?_
  obtain ⟨i, j, rfl⟩ := at2 (M := 1024) (N := 768) y
  have h7 := (by decide +kernel : ∀ t : Fin cfg0.N, (cfg0.win 2).flush t = true → t.val % 8 = 7) t hf
  blk_simp
  rw [after0_2]
  have hr := col_val t.isLt j
  refine (written m c t h7 i j).trans ((whole_at _ _ _ _).symm.trans ?_)
  blk_ext [idx t]

end Cert.Products.SharedGrad
end
-- ==== Proof.Query.lean ====
/- The second layer's input projection, a square matrix: the product of the normed input with it, and, backward, of the
   projected vectors' gradient with its transpose. -/
module

public import proofs.«01_k».proof.Proof.Gen.QueryIdeal.Value
public import proofs.«01_k».proof.Proof.Gen.QueryReferenceIdeal.Run
public import proofs.«01_k».proof.Proof.Gen.QueryBackIdeal.Value
public import proofs.«01_k».proof.Proof.Gen.QueryBackReferenceIdeal.Run
public import proofs.«01_k».proof.Proof.Tiles

@[expose] public section

set_option maxRecDepth 16384

noncomputable section

open Idealize.ShloMosaic Idealize.ShloMosaic.TcCoe Idealize.SL.Sem

namespace Cert.Products.Query

open Cert.QueryIdeal Cert.QueryIdeal.Gen

attribute [local instance] Cert.QueryReferenceIdeal.Gen.facts

/-- Eight blocks of tokens, the matrix whole. -/
theorem idx : ∀ t : Fin cfg0.N, win0_0.index t = ![t.val, 0] ∧ win0_1.index t = ![0, 0] ∧ win0_2.index t = ![t.val, 0] :=
  (by decide +kernel : ∀ t : Fin grid0.N, _)

/-- The reference's product. -/
abbrev whole (A : FVec Ideal S8192x1024 .bf16) (B : FVec Ideal S1024x1024 .bf16) : FVec Ideal S8192x1024 .bf16 :=
  truncf .bf16 (Host.dotGeneral Cert.QueryReferenceIdeal.dot_S8192x1024_S1024x1024_S8192x1024_1_0_0_1_n_n none
    (extf .f32 A Cert.QueryReferenceIdeal.Gen.bitsLt_bf16_f32) (extf .f32 B Cert.QueryReferenceIdeal.Gen.bitsLt_bf16_f32)) Cert.QueryReferenceIdeal.Gen.bitsLt_bf16_f32

theorem whole_at (A : FVec Ideal S8192x1024 .bf16) (B : FVec Ideal S1024x1024 .bf16) (i : S8192x1024.Idx) : (show EReal from whole A B i) = byColumns A B i := by
  pointwise [whole, byColumns]

theorem block_at (A B : FVec Ideal S1024x1024 .bf16) (y : S1024x1024.Idx) : (show EReal from out0_2 (F := Ideal) A B y) = byColumns A B y := by
  unfold out0_2
  rw [View.canon_unit_zero hz, View.ld_unit_zero (S := S1024x1024) hz, View.ld_unit_zero (S := S1024x1024) hz]
  pointwise [k0_pay1, byColumns]

theorem array (m : (ℓ : Loc nD τ sig) → Buf (Elt Ideal) ℓ) (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  refine (block_at _ _ _).trans (Eq.trans (byColumns_block (fun k => ?_) fun k => ?_) (whole_at _ _ _).symm)
  · blk_ext [iblk, idx t]
  · blk_ext [iblk, idx t]

end Cert.Products.Query

namespace Cert.Products.QueryBack

open Cert.QueryBackIdeal Cert.QueryBackIdeal.Gen

attribute [local instance] Cert.QueryBackReferenceIdeal.Gen.facts

/-- Eight blocks of tokens, the matrix whole. -/
theorem idx : ∀ t : Fin cfg0.N, win0_0.index t = ![t.val, 0] ∧ win0_1.index t = ![0, 0] ∧ win0_2.index t = ![t.val, 0] :=
  (by decide +kernel : ∀ t : Fin grid0.N, _)

/-- The reference's product. -/
abbrev whole (A : FVec Ideal S8192x1024 .bf16) (B : FVec Ideal S1024x1024 .bf16) : FVec Ideal S8192x1024 .f32 :=
  Host.dotGeneral Cert.QueryBackReferenceIdeal.dot_S8192x1024_S1024x1024_S8192x1024_1_1_0_0_n_n none
    (extf .f32 A Cert.QueryBackReferenceIdeal.Gen.bitsLt_bf16_f32) (extf .f32 B Cert.QueryBackReferenceIdeal.Gen.bitsLt_bf16_f32)

theorem whole_at (A : FVec Ideal S8192x1024 .bf16) (B : FVec Ideal S1024x1024 .bf16) (i : S8192x1024.Idx) : (show EReal from whole A B i) = byRows A B i := by
  pointwise [whole, byRows]

theorem block_at (A B : FVec Ideal S1024x1024 .bf16) (y : S1024x1024.Idx) : (show EReal from out0_2 (F := Ideal) A B y) = byRows A B y := by
  unfold out0_2
  rw [View.canon_unit_zero hz, View.ld_unit_zero (S := S1024x1024) hz, View.ld_unit_zero (S := S1024x1024) hz]
  pointwise [k0_pay1, byRows]

theorem array (m : (ℓ : Loc nD τ sig) → Buf (Elt Ideal) ℓ) (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  refine (block_at _ _ _).trans (Eq.trans (byRows_block (fun k => ?_) fun k => ?_) (whole_at _ _ _).symm)
  · blk_ext [iblk, idx t]
  · blk_ext [iblk, idx t]

end Cert.Products.QueryBack

end
-- ==== Proof.QueryGrad.lean ====
/- The gradient of the second layer's input projection: the product of the transposed normed input with the projected
   vectors' gradient, added up over eight blocks of tokens. -/
module

public import proofs.«01_k».proof.Proof.Gen.QueryGradIdeal.Value
public import proofs.«01_k».proof.Proof.Gen.QueryGradReferenceIdeal.Run
public import proofs.«01_k».proof.Proof.Eighths
public import proofs.«01_k».proof.Proof.Tiles

@[expose] public section

set_option maxRecDepth 16384

noncomputable section

namespace Cert.Products.QueryGrad

open Cert.QueryGradIdeal Cert.QueryGradIdeal.Gen
open Idealize.ShloMosaic Idealize.ShloMosaic.TcCoe Idealize.SL.Sem

attribute [local instance] Cert.QueryGradReferenceIdeal.Gen.facts

/-- Eight blocks of tokens, the matrix whole. -/
theorem idx : ∀ t : Fin cfg0.N, win0_0.index t = ![t.val % 8, 0] ∧ win0_1.index t = ![t.val % 8, 0] ∧ win0_2.index t = ![0, 0] :=
  (by decide +kernel : ∀ t : Fin grid0.N, _)

/-- The reference's product. -/
abbrev whole (A B : FVec Ideal S8192x1024 .bf16) : FVec Ideal S1024x1024 .bf16 :=
  truncf .bf16 (transpose S1024x1024 [1, 0] (Host.dotGeneral Cert.QueryGradReferenceIdeal.dot_S8192x1024_S8192x1024_S1024x1024_0_0_1_1_n_n none
    (extf .f32 B Cert.QueryGradReferenceIdeal.Gen.bitsLt_bf16_f32) (extf .f32 A Cert.QueryGradReferenceIdeal.Gen.bitsLt_bf16_f32))
    Cert.QueryGradReferenceIdeal.Gen.transposes_S1024x1024_S1024x1024_1_0) Cert.QueryGradReferenceIdeal.Gen.bitsLt_bf16_f32

theorem whole_at (A B : FVec Ideal S8192x1024 .bf16) (i j : Fin 1024) :
    (show EReal from whole A B (ix2 i j)) = ∑ q ∈ Finset.range 8192, term A B i j q := by
  refine Eq.trans ?_ (all_terms A B i j)
  pointwise [whole]

section
variable (c : Dev nD) (i : grid0.Coords) (a₃ : Memref sig .tc .vmem S1024x1024 .bf16) (h₃ : a₃.IsWhole)
  (a₄ : Memref sig .tc .vmem S1024x1024 .bf16) (h₄ : a₄.IsWhole) (a₅ : Memref sig .tc .vmem S1024x1024 .bf16) (h₅ : a₅.IsWhole)
  (a₆ : Memref sig .tc .vmem S1024x1024 .f32) (h₆ : a₆.IsWhole) (A B : FVec Ideal S1024x1024 .bf16) (acc : FVec Ideal S1024x1024 .f32)

theorem first (hc0 : cond0_0 i) (hc1 : ¬cond0_1 i) (hc2 : ¬cond0_2 i) :
    sout0_A_0 (F := Ideal) c i a₃ h₃ a₄ h₄ a₅ h₅ a₆ h₆ hc0 hc1 hc2 A B = k0_pay2 (F := Ideal) A B :=
  (stored hz _ _ _).trans (congrArg₂ (k0_pay2 (F := Ideal)) (loaded hz a₃ h₃ A) (loaded hz a₄ h₄ B))

theorem next (hc0 : ¬cond0_0 i) (hc1 : cond0_1 i) (hc2 : ¬cond0_2 i) :
    sout0_B_0 (F := Ideal) c i a₃ h₃ a₄ h₄ a₅ h₅ a₆ h₆ hc0 hc1 hc2 A B acc = k0_pay3 (F := Ideal) A B acc :=
  (stored hz _ _ _).trans (congr (congrArg₂ (k0_pay3 (F := Ideal)) (loaded hz a₃ h₃ A) (loaded hz a₄ h₄ B)) (loaded hz a₆ h₆ acc))

theorem last (hc0 : ¬cond0_0 i) (hc1 : cond0_1 i) (hc2 : cond0_2 i) :
    out0_C_2 (F := Ideal) c i a₃ h₃ a₄ h₄ a₅ h₅ a₆ h₆ hc0 hc1 hc2 A B acc = k0_pay4 (F := Ideal) (k0_pay3 (F := Ideal) A B acc) :=
  (stored hz _ _ _).trans (congrArg (k0_pay4 (F := Ideal)) ((View.readCov_unit_zero (S := S1024x1024) _ hz _ _).trans
    (congr (congrArg₂ (k0_pay3 (F := Ideal)) (loaded hz a₃ h₃ A) (loaded hz a₄ h₄ B)) (loaded hz a₆ h₆ acc))))

theorem start_at (y : S1024x1024.Idx) : (show EReal from k0_pay2 (F := Ideal) A B y) = part A B y := by
  obtain ⟨i, j, rfl⟩ := at2 y
  pointwise [k0_pay2, k0_pay1, part]

theorem add_at (y : S1024x1024.Idx) : (show EReal from k0_pay3 (F := Ideal) A B acc y) = (show EReal from acc y) + part A B y := by
  obtain ⟨i, j, rfl⟩ := at2 y
  pointwise [k0_pay3, k0_pay1, part]

theorem out_at (y : S1024x1024.Idx) : (show EReal from k0_pay4 (F := Ideal) acc y) = (show EReal from acc y) := by
  obtain ⟨i, j, rfl⟩ := at2 y
  pointwise [k0_pay4]

end

variable (m : (ℓ : Loc nD τ sig) → Buf (Elt Ideal) ℓ) (c : Dev nD)

/-- The last point writes the whole sum. -/
theorem written (t : Fin cfg0.N) (h7 : t.val % 8 = 7) (i j : Fin 1024) : (show EReal from (outsAt0 m c t.val t.isLt).1 (ix2 i j))
      = ∑ q ∈ Finset.range 8192, term (m ((c : Thread nD τ).loc main_arg0)) (m ((c : Thread nD τ).loc main_arg1)) i j q := by
  refine gradient (N := cfg0.N) _ _ (fun n hn => iblk m c 0 ⟨n, hn⟩) (fun n hn => iblk m c 1 ⟨n, hn⟩) (fun n hn => (outsAt0 m c n hn).2)
    (fun n hn => (outsAt0 m c n hn).1) (fun _ i => i) (fun _ j => j) (fun n hn k i => ?_) (fun n hn k j => ?_)
    (fun n hn h0 y => ?_) (fun n hn h0 h7 y => ?_) (fun n hn h7 y => ?_) t.val t.isLt h7 i j
  · blk_ext [iblk, idx ⟨n, hn⟩]
  · blk_ext [iblk, idx ⟨n, hn⟩]
  · have h8 := lt_of_lt_of_eq hn (show cfg0.N = 8 from N_0)
    rw [outsAt0_A m c ⟨n, hn⟩ h0 (by dsimp only; omega) (by dsimp only; omega)]
    dsimp only
    rw [first]
    exact start_at _ _ y
  · rw [outsAt0_B m c ⟨n + 1, hn⟩ h0 (by dsimp only; omega) h7]
    dsimp only
    rw [next]
    exact add_at _ _ _ y
  · rw [outsAt0_C m c ⟨n, hn⟩ (by dsimp only; omega) (by dsimp only; omega) h7]
    dsimp only
    rw [last]
    exact (out_at _ y).trans (add_at _ _ _ y)

theorem array : (dats m 0 c).arrAt 2 cfg0.N = whole (m ((c : Thread nD τ).loc main_arg0)) (m ((c : Thread nD τ).loc main_arg1)) := by
  refine (dats m 0 c).arrAt_eq_of_covers 2 _ (by decide +kernel) fun t hf y => ?_
  obtain ⟨i, j, rfl⟩ := at2 (M := 1024) (N := 1024) y
  have h7 := (by decide +kernel : ∀ t : Fin cfg0.N, (cfg0.win 2).flush t = true → t.val % 8 = 7) t hf
  blk_simp
  rw [after0_2]
  refine (written m c t h7 i j).trans ((whole_at _ _ _ _).symm.trans ?_)
  blk_ext [idx t]

end Cert.Products.QueryGrad
end
-- ==== Proof.Projections.lean ====
/- The attention projections' claims: the frames, and each product against its reference's. -/
module

public import proofs.«01_k».proof.Defs
public import proofs.«01_k».proof.Proof.Project
public import proofs.«01_k».proof.Proof.ProjectGrad
public import proofs.«01_k».proof.Proof.Mix
public import proofs.«01_k».proof.Proof.MixGrad
public import proofs.«01_k».proof.Proof.Shared
public import proofs.«01_k».proof.Proof.SharedGrad
public import proofs.«01_k».proof.Proof.Query
public import proofs.«01_k».proof.Proof.QueryGrad
public import proofs.«01_k».proof.Proof.Gen.Project.Frame
public import proofs.«01_k».proof.Proof.Gen.ProjectBack.Frame
public import proofs.«01_k».proof.Proof.Gen.ProjectGrad.Frame
public import proofs.«01_k».proof.Proof.Gen.Mix.Frame
public import proofs.«01_k».proof.Proof.Gen.MixBack.Frame
public import proofs.«01_k».proof.Proof.Gen.MixGrad.Frame
public import proofs.«01_k».proof.Proof.Gen.Shared.Frame
public import proofs.«01_k».proof.Proof.Gen.SharedBack.Frame
public import proofs.«01_k».proof.Proof.Gen.SharedGrad.Frame
public import proofs.«01_k».proof.Proof.Gen.Query.Frame
public import proofs.«01_k».proof.Proof.Gen.QueryBack.Frame
public import proofs.«01_k».proof.Proof.Gen.QueryGrad.Frame

@[expose] public section

noncomputable section

namespace Cert.Products

open Idealize.ShloMosaic Idealize.SL.Sem

attribute [local instance] Cert.Project.Gen.facts Cert.ProjectIdeal.Gen.facts Cert.ProjectReferenceIdeal.Gen.facts
  Cert.ProjectBack.Gen.facts Cert.ProjectBackIdeal.Gen.facts Cert.ProjectBackReferenceIdeal.Gen.facts
  Cert.ProjectGrad.Gen.facts Cert.ProjectGradIdeal.Gen.facts Cert.ProjectGradReferenceIdeal.Gen.facts
  Cert.Mix.Gen.facts Cert.MixIdeal.Gen.facts Cert.MixReferenceIdeal.Gen.facts
  Cert.MixBack.Gen.facts Cert.MixBackIdeal.Gen.facts Cert.MixBackReferenceIdeal.Gen.facts
  Cert.MixGrad.Gen.facts Cert.MixGradIdeal.Gen.facts Cert.MixGradReferenceIdeal.Gen.facts
  Cert.Shared.Gen.facts Cert.SharedIdeal.Gen.facts Cert.SharedReferenceIdeal.Gen.facts
  Cert.SharedBack.Gen.facts Cert.SharedBackIdeal.Gen.facts Cert.SharedBackReferenceIdeal.Gen.facts
  Cert.SharedGrad.Gen.facts Cert.SharedGradIdeal.Gen.facts Cert.SharedGradReferenceIdeal.Gen.facts
  Cert.Query.Gen.facts Cert.QueryIdeal.Gen.facts Cert.QueryReferenceIdeal.Gen.facts
  Cert.QueryBack.Gen.facts Cert.QueryBackIdeal.Gen.facts Cert.QueryBackReferenceIdeal.Gen.facts
  Cert.QueryGrad.Gen.facts Cert.QueryGradIdeal.Gen.facts Cert.QueryGradReferenceIdeal.Gen.facts

/-! ## Frames -/

theorem Project.frames : Cert.quiescent_Project ∧ Cert.quiescent_ProjectIdeal ∧ Cert.quiescent_ProjectReferenceIdeal :=
  ⟨fun m g _ => Cert.Project.Gen.frame m g, fun m g _ => Cert.ProjectIdeal.Gen.frame m g,
    fun m g _ => quiet (by decide) (Cert.ProjectReferenceIdeal.Value.run m g)⟩

theorem ProjectBack.frames : Cert.quiescent_ProjectBack ∧ Cert.quiescent_ProjectBackIdeal ∧ Cert.quiescent_ProjectBackReferenceIdeal :=
  ⟨fun m g _ => Cert.ProjectBack.Gen.frame m g, fun m g _ => Cert.ProjectBackIdeal.Gen.frame m g,
    fun m g _ => quiet (by decide) (Cert.ProjectBackReferenceIdeal.Value.run m g)⟩

theorem ProjectGrad.frames : Cert.quiescent_ProjectGrad ∧ Cert.quiescent_ProjectGradIdeal ∧ Cert.quiescent_ProjectGradReferenceIdeal :=
  ⟨fun m g _ => Cert.ProjectGrad.Gen.frame m g, fun m g _ => Cert.ProjectGradIdeal.Gen.frame m g,
    fun m g _ => quiet (by decide) (Cert.ProjectGradReferenceIdeal.Value.run m g)⟩

theorem Mix.frames : Cert.quiescent_Mix ∧ Cert.quiescent_MixIdeal ∧ Cert.quiescent_MixReferenceIdeal :=
  ⟨fun m g _ => Cert.Mix.Gen.frame m g, fun m g _ => Cert.MixIdeal.Gen.frame m g,
    fun m g _ => quiet (by decide) (Cert.MixReferenceIdeal.Value.run m g)⟩

theorem MixBack.frames : Cert.quiescent_MixBack ∧ Cert.quiescent_MixBackIdeal ∧ Cert.quiescent_MixBackReferenceIdeal :=
  ⟨fun m g _ => Cert.MixBack.Gen.frame m g, fun m g _ => Cert.MixBackIdeal.Gen.frame m g,
    fun m g _ => quiet (by decide) (Cert.MixBackReferenceIdeal.Value.run m g)⟩

theorem MixGrad.frames : Cert.quiescent_MixGrad ∧ Cert.quiescent_MixGradIdeal ∧ Cert.quiescent_MixGradReferenceIdeal :=
  ⟨fun m g _ => Cert.MixGrad.Gen.frame m g, fun m g _ => Cert.MixGradIdeal.Gen.frame m g,
    fun m g _ => quiet (by decide) (Cert.MixGradReferenceIdeal.Value.run m g)⟩

theorem Shared.frames : Cert.quiescent_Shared ∧ Cert.quiescent_SharedIdeal ∧ Cert.quiescent_SharedReferenceIdeal :=
  ⟨fun m g _ => Cert.Shared.Gen.frame m g, fun m g _ => Cert.SharedIdeal.Gen.frame m g,
    fun m g _ => quiet (by decide) (Cert.SharedReferenceIdeal.Value.run m g)⟩

theorem SharedBack.frames : Cert.quiescent_SharedBack ∧ Cert.quiescent_SharedBackIdeal ∧ Cert.quiescent_SharedBackReferenceIdeal :=
  ⟨fun m g _ => Cert.SharedBack.Gen.frame m g, fun m g _ => Cert.SharedBackIdeal.Gen.frame m g,
    fun m g _ => quiet (by decide) (Cert.SharedBackReferenceIdeal.Value.run m g)⟩

theorem SharedGrad.frames : Cert.quiescent_SharedGrad ∧ Cert.quiescent_SharedGradIdeal ∧ Cert.quiescent_SharedGradReferenceIdeal :=
  ⟨fun m g _ => Cert.SharedGrad.Gen.frame m g, fun m g _ => Cert.SharedGradIdeal.Gen.frame m g,
    fun m g _ => quiet (by decide) (Cert.SharedGradReferenceIdeal.Value.run m g)⟩

theorem Query.frames : Cert.quiescent_Query ∧ Cert.quiescent_QueryIdeal ∧ Cert.quiescent_QueryReferenceIdeal :=
  ⟨fun m g _ => Cert.Query.Gen.frame m g, fun m g _ => Cert.QueryIdeal.Gen.frame m g,
    fun m g _ => quiet (by decide) (Cert.QueryReferenceIdeal.Value.run m g)⟩

theorem QueryBack.frames : Cert.quiescent_QueryBack ∧ Cert.quiescent_QueryBackIdeal ∧ Cert.quiescent_QueryBackReferenceIdeal :=
  ⟨fun m g _ => Cert.QueryBack.Gen.frame m g, fun m g _ => Cert.QueryBackIdeal.Gen.frame m g,
    fun m g _ => quiet (by decide) (Cert.QueryBackReferenceIdeal.Value.run m g)⟩

theorem QueryGrad.frames : Cert.quiescent_QueryGrad ∧ Cert.quiescent_QueryGradIdeal ∧ Cert.quiescent_QueryGradReferenceIdeal :=
  ⟨fun m g _ => Cert.QueryGrad.Gen.frame m g, fun m g _ => Cert.QueryGradIdeal.Gen.frame m g,
    fun m g _ => quiet (by decide) (Cert.QueryGradReferenceIdeal.Value.run m g)⟩

/-! ## Values -/

theorem Project.same : Cert.algebraic_ProjectIdeal_ProjectReferenceIdeal := fun m g m' g' _ hm =>
  ⟨_, result (Cert.ProjectIdeal.Value.run_blocks m g) (Project.array m),
    result (Cert.ProjectReferenceIdeal.Value.run m' g') fun c => congrArg₂ Project.whole (hm c).1 (hm c).2⟩

theorem ProjectBack.same : Cert.algebraic_ProjectBackIdeal_ProjectBackReferenceIdeal := fun m g m' g' _ hm =>
  ⟨_, result (Cert.ProjectBackIdeal.Value.run_blocks m g) (ProjectBack.array m),
    result (Cert.ProjectBackReferenceIdeal.Value.run m' g') fun c => congrArg₂ ProjectBack.whole (hm c).1 (hm c).2⟩

theorem ProjectGrad.same : Cert.algebraic_ProjectGradIdeal_ProjectGradReferenceIdeal := fun m g m' g' _ hm =>
  ⟨_, result (Cert.ProjectGradIdeal.Value.run_blocks m g) (ProjectGrad.array m),
    result (Cert.ProjectGradReferenceIdeal.Value.run m' g') fun c => congrArg₂ ProjectGrad.whole (hm c).1 (hm c).2⟩

theorem Mix.same : Cert.algebraic_MixIdeal_MixReferenceIdeal := fun m g m' g' _ hm =>
  ⟨_, result (Cert.MixIdeal.Value.run_blocks m g) (Mix.array m),
    result (Cert.MixReferenceIdeal.Value.run m' g') fun c => congr (congrArg₂ Mix.whole (hm c).1 (hm c).2.1) (hm c).2.2⟩

theorem MixBack.same : Cert.algebraic_MixBackIdeal_MixBackReferenceIdeal := fun m g m' g' _ hm =>
  ⟨_, result (Cert.MixBackIdeal.Value.run_blocks m g) (MixBack.array m),
    result (Cert.MixBackReferenceIdeal.Value.run m' g') fun c => congrArg₂ MixBack.whole (hm c).1 (hm c).2⟩

theorem MixGrad.same : Cert.algebraic_MixGradIdeal_MixGradReferenceIdeal := fun m g m' g' _ hm =>
  ⟨_, result (Cert.MixGradIdeal.Value.run_blocks m g) (MixGrad.array m),
    result (Cert.MixGradReferenceIdeal.Value.run m' g') fun c => congrArg₂ MixGrad.whole (hm c).1 (hm c).2⟩

theorem Shared.same : Cert.algebraic_SharedIdeal_SharedReferenceIdeal := fun m g m' g' _ hm =>
  ⟨_, result (Cert.SharedIdeal.Value.run_blocks m g) (Shared.array m),
    result (Cert.SharedReferenceIdeal.Value.run m' g') fun c => congrArg₂ Shared.whole (hm c).1 (hm c).2⟩

theorem SharedBack.same : Cert.algebraic_SharedBackIdeal_SharedBackReferenceIdeal := fun m g m' g' _ hm =>
  ⟨_, result (Cert.SharedBackIdeal.Value.run_blocks m g) (SharedBack.array m),
    result (Cert.SharedBackReferenceIdeal.Value.run m' g') fun c => congrArg₂ SharedBack.whole (hm c).1 (hm c).2⟩

theorem SharedGrad.same : Cert.algebraic_SharedGradIdeal_SharedGradReferenceIdeal := fun m g m' g' _ hm =>
  ⟨_, result (Cert.SharedGradIdeal.Value.run_blocks m g) (SharedGrad.array m),
    result (Cert.SharedGradReferenceIdeal.Value.run m' g') fun c => congrArg₂ SharedGrad.whole (hm c).1 (hm c).2⟩

theorem Query.same : Cert.algebraic_QueryIdeal_QueryReferenceIdeal := fun m g m' g' _ hm =>
  ⟨_, result (Cert.QueryIdeal.Value.run_blocks m g) (Query.array m),
    result (Cert.QueryReferenceIdeal.Value.run m' g') fun c => congrArg₂ Query.whole (hm c).1 (hm c).2⟩

theorem QueryBack.same : Cert.algebraic_QueryBackIdeal_QueryBackReferenceIdeal := fun m g m' g' _ hm =>
  ⟨_, result (Cert.QueryBackIdeal.Value.run_blocks m g) (QueryBack.array m),
    result (Cert.QueryBackReferenceIdeal.Value.run m' g') fun c => congrArg₂ QueryBack.whole (hm c).1 (hm c).2⟩

theorem QueryGrad.same : Cert.algebraic_QueryGradIdeal_QueryGradReferenceIdeal := fun m g m' g' _ hm =>
  ⟨_, result (Cert.QueryGradIdeal.Value.run_blocks m g) (QueryGrad.array m),
    result (Cert.QueryGradReferenceIdeal.Value.run m' g') fun c => congrArg₂ QueryGrad.whole (hm c).1 (hm c).2⟩

end Cert.Products

end
-- ==== Proof.Memory.lean ====
/- The memory's projection to its keys and values: the product of the normed memory with the projection's matrix and,
   backward, the gradients of the two. Each fits into one block. -/
module

public import proofs.«01_k».proof.Defs
public import proofs.«01_k».proof.Proof.Gen.Memory.Frame
public import proofs.«01_k».proof.Proof.Gen.MemoryIdeal.Value
public import proofs.«01_k».proof.Proof.Gen.MemoryReferenceIdeal.Run
public import proofs.«01_k».proof.Proof.Gen.MemoryBack.Frame
public import proofs.«01_k».proof.Proof.Gen.MemoryBackIdeal.Value
public import proofs.«01_k».proof.Proof.Gen.MemoryBackReferenceIdeal.Run
public import proofs.«01_k».proof.Proof.Gen.MemoryGrad.Frame
public import proofs.«01_k».proof.Proof.Gen.MemoryGradIdeal.Value
public import proofs.«01_k».proof.Proof.Gen.MemoryGradReferenceIdeal.Run
public import proofs.«01_k».proof.Proof.Tiles
public import proofs.«01_k».proof.Proof.Eighths

@[expose] public section

set_option maxRecDepth 16384

noncomputable section

open Idealize.ShloMosaic Idealize.ShloMosaic.TcCoe Idealize.SL.Sem

namespace Cert.Products.Memory

open Cert.MemoryIdeal Cert.MemoryIdeal.Gen

attribute [local instance] Cert.Memory.Gen.facts Cert.MemoryIdeal.Gen.facts Cert.MemoryReferenceIdeal.Gen.facts

theorem idx : ∀ t : Fin cfg0.N, win0_0.index t = ![0, 0] ∧ win0_1.index t = ![0, 0] ∧ win0_2.index t = ![0, 0] :=
  (by decide +kernel : ∀ t : Fin grid0.N, _)

/-- The reference's product. -/
abbrev whole (A : FVec Ideal S1024x1024 .bf16) (B : FVec Ideal S1024x512 .bf16) : FVec Ideal S1024x512 .bf16 :=
  truncf .bf16 (Host.dotGeneral Cert.MemoryReferenceIdeal.dot_S1024x1024_S1024x512_S1024x512_1_0_0_1_n_n none
    (extf .f32 A Cert.MemoryReferenceIdeal.Gen.bitsLt_bf16_f32) (extf .f32 B Cert.MemoryReferenceIdeal.Gen.bitsLt_bf16_f32)) Cert.MemoryReferenceIdeal.Gen.bitsLt_bf16_f32

theorem whole_at (A : FVec Ideal S1024x1024 .bf16) (B : FVec Ideal S1024x512 .bf16) (i : S1024x512.Idx) : (show EReal from whole A B i) = byColumns A B i := by
  pointwise [whole, byColumns]

theorem block_at (A : FVec Ideal S1024x1024 .bf16) (B : FVec Ideal S1024x512 .bf16) (y : S1024x512.Idx) : (show EReal from out0_2 (F := Ideal) A B y) = byColumns A B y := by
  unfold out0_2
  rw [View.canon_unit_zero hz, View.ld_unit_zero (S := S1024x1024) hz, View.ld_unit_zero (S := S1024x512) hz]
  pointwise [k0_pay1, byColumns]

theorem array (m : (ℓ : Loc nD τ sig) → Buf (Elt Ideal) ℓ) (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  refine (block_at _ _ _).trans (Eq.trans (byColumns_block (fun k => ?_) fun k => ?_) (whole_at _ _ _).symm)
  · blk_ext [iblk, idx t]
  · blk_ext [iblk, idx t]

theorem frames : Cert.quiescent_Memory ∧ Cert.quiescent_MemoryIdeal ∧ Cert.quiescent_MemoryReferenceIdeal :=
  ⟨fun m g _ => Cert.Memory.Gen.frame m g, fun m g _ => Cert.MemoryIdeal.Gen.frame m g,
    fun m g _ => quiet (by decide) (Cert.MemoryReferenceIdeal.Value.run m g)⟩

theorem same : Cert.algebraic_MemoryIdeal_MemoryReferenceIdeal := fun m g m' g' _ hm =>
  ⟨_, result (Cert.MemoryIdeal.Value.run_blocks m g) (array m),
    result (Cert.MemoryReferenceIdeal.Value.run m' g') fun c => congrArg₂ whole (hm c).1 (hm c).2⟩

end Cert.Products.Memory

namespace Cert.Products.MemoryBack

open Cert.MemoryBackIdeal Cert.MemoryBackIdeal.Gen

attribute [local instance] Cert.MemoryBack.Gen.facts Cert.MemoryBackIdeal.Gen.facts Cert.MemoryBackReferenceIdeal.Gen.facts

theorem idx : ∀ t : Fin cfg0.N, win0_0.index t = ![0, 0] ∧ win0_1.index t = ![0, 0] ∧ win0_2.index t = ![0, 0] :=
  (by decide +kernel : ∀ t : Fin grid0.N, _)

/-- The reference's product. -/
abbrev whole (A : FVec Ideal S1024x512 .bf16) (B : FVec Ideal S1024x512 .bf16) : FVec Ideal S1024x1024 .f32 :=
  Host.dotGeneral Cert.MemoryBackReferenceIdeal.dot_S1024x512_S1024x512_S1024x1024_1_1_0_0_n_n none
    (extf .f32 A Cert.MemoryBackReferenceIdeal.Gen.bitsLt_bf16_f32) (extf .f32 B Cert.MemoryBackReferenceIdeal.Gen.bitsLt_bf16_f32)

theorem whole_at (A : FVec Ideal S1024x512 .bf16) (B : FVec Ideal S1024x512 .bf16) (i : S1024x1024.Idx) : (show EReal from whole A B i) = byRows A B i := by
  pointwise [whole, byRows]

theorem block_at (A : FVec Ideal S1024x512 .bf16) (B : FVec Ideal S1024x512 .bf16) (y : S1024x1024.Idx) : (show EReal from out0_2 (F := Ideal) A B y) = byRows A B y := by
  unfold out0_2
  rw [View.canon_unit_zero hz, View.ld_unit_zero (S := S1024x512) hz, View.ld_unit_zero (S := S1024x512) hz]
  pointwise [k0_pay1, byRows]

theorem array (m : (ℓ : Loc nD τ sig) → Buf (Elt Ideal) ℓ) (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2]
  refine (block_at _ _ _).trans (Eq.trans (byRows_block (fun k => ?_) fun k => ?_) (whole_at _ _ _).symm)
  · blk_ext [iblk, idx t]
  · blk_ext [iblk, idx t]

theorem frames : Cert.quiescent_MemoryBack ∧ Cert.quiescent_MemoryBackIdeal ∧ Cert.quiescent_MemoryBackReferenceIdeal :=
  ⟨fun m g _ => Cert.MemoryBack.Gen.frame m g, fun m g _ => Cert.MemoryBackIdeal.Gen.frame m g,
    fun m g _ => quiet (by decide) (Cert.MemoryBackReferenceIdeal.Value.run m g)⟩

theorem same : Cert.algebraic_MemoryBackIdeal_MemoryBackReferenceIdeal := fun m g m' g' _ hm =>
  ⟨_, result (Cert.MemoryBackIdeal.Value.run_blocks m g) (array m),
    result (Cert.MemoryBackReferenceIdeal.Value.run m' g') fun c => congrArg₂ whole (hm c).1 (hm c).2⟩

end Cert.Products.MemoryBack

namespace Cert.Products.MemoryGrad

open Cert.MemoryGradIdeal Cert.MemoryGradIdeal.Gen

attribute [local instance] Cert.MemoryGrad.Gen.facts Cert.MemoryGradIdeal.Gen.facts Cert.MemoryGradReferenceIdeal.Gen.facts

theorem idx : ∀ t : Fin cfg0.N, win0_0.index t = ![0, 0] ∧ win0_1.index t = ![0, 0] ∧ win0_2.index t = ![0, 0] :=
  (by decide +kernel : ∀ t : Fin grid0.N, _)

/-- The reference's product. -/
abbrev whole (A : FVec Ideal S1024x1024 .bf16) (B : FVec Ideal S1024x512 .bf16) : FVec Ideal S1024x512 .bf16 :=
  truncf .bf16 (transpose S1024x512 [1, 0] (Host.dotGeneral Cert.MemoryGradReferenceIdeal.dot_S1024x512_S1024x1024_S512x1024_0_0_1_1_n_n none
    (extf .f32 B Cert.MemoryGradReferenceIdeal.Gen.bitsLt_bf16_f32) (extf .f32 A Cert.MemoryGradReferenceIdeal.Gen.bitsLt_bf16_f32))
    Cert.MemoryGradReferenceIdeal.Gen.transposes_S512x1024_S1024x512_1_0) Cert.MemoryGradReferenceIdeal.Gen.bitsLt_bf16_f32

/-- The memory's 1024 rows are one block of terms; the reference has the factors the other way round. -/
theorem whole_at (A : FVec Ideal S1024x1024 .bf16) (B : FVec Ideal S1024x512 .bf16) (i : Fin 1024) (j : Fin 512) :
    (show EReal from whole A B (ix2 i j)) = part A B (ix2 i j) := by
  have h : part A B (ix2 i j) = ∑ q : Fin 1024, B (ix2 q j) * A (ix2 q i) := Finset.sum_congr rfl fun q _ => mul_comm _ _
  rw [h]
  pointwise [whole]

theorem block_at (A : FVec Ideal S1024x1024 .bf16) (B : FVec Ideal S1024x512 .bf16) (y : S1024x512.Idx) : (show EReal from out0_2 (F := Ideal) A B y) = part A B y := by
  unfold out0_2
  rw [View.canon_unit_zero hz, View.ld_unit_zero (S := S1024x1024) hz, View.ld_unit_zero (S := S1024x512) hz]
  pointwise [k0_pay1, part]

theorem array (m : (ℓ : Loc nD τ sig) → Buf (Elt Ideal) ℓ) (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  obtain ⟨i, j, rfl⟩ := at2 (M := 1024) (N := 512) y
  blk_simp
  rw [after0_2]
  refine (block_at _ _ _).trans (Eq.trans (Finset.sum_congr rfl fun k _ => congrArg₂ (· * ·) ?_ ?_)
    ((whole_at (m ((c : Thread nD τ).loc main_arg0)) (m ((c : Thread nD τ).loc main_arg1)) i j).symm.trans ?_))
  · blk_ext [iblk, idx t]
  · blk_ext [iblk, idx t]
  · blk_ext [idx t]

theorem frames : Cert.quiescent_MemoryGrad ∧ Cert.quiescent_MemoryGradIdeal ∧ Cert.quiescent_MemoryGradReferenceIdeal :=
  ⟨fun m g _ => Cert.MemoryGrad.Gen.frame m g, fun m g _ => Cert.MemoryGradIdeal.Gen.frame m g,
    fun m g _ => quiet (by decide) (Cert.MemoryGradReferenceIdeal.Value.run m g)⟩

theorem same : Cert.algebraic_MemoryGradIdeal_MemoryGradReferenceIdeal := fun m g m' g' _ hm =>
  ⟨_, result (Cert.MemoryGradIdeal.Value.run_blocks m g) (array m),
    result (Cert.MemoryGradReferenceIdeal.Value.run m' g') fun c => congrArg₂ whole (hm c).1 (hm c).2⟩

end Cert.Products.MemoryGrad
end
-- ==== Proof.Several.lean ====
/- Programs with two or three results: their runs turned into claims. -/
module

public import proofs.«01_k».proof.Proof.Tiles

@[expose] public section

noncomputable section

namespace Cert.Products

open Idealize.ShloMosaic Idealize.SL.Sem

variable {nD : Nat} {τ : Topo} {sig : RefSig} {Val : EltTy → Type} {Λ : Labels} {defs : Defs nD τ sig Val Λ}
  {p : (c : Thread nD τ) → Prog (TpuEff nD τ sig Val Λ c.2) PUnit} {s : MemSt nD τ sig Val} {D : Type} {X Y Z : D → Type}

/-- A program without semaphores whose run leaves `K` is quiescent with `K`. -/
theorem still {G K : PUnit × MemSt nD τ sig Val → D → Prop} (h0 : sig.nSem + sig.nDmaSem = 0)
    (h : θ_run defs p s fun r => ∀ c, G r c) (hk : ∀ r c, G r c → K r c) :
    θ_run defs p s fun r => (∀ c, K r c) ∧ r.2.sem = fun _ => 0 :=
  (θ_run _ _ _).mono (fun r h => ⟨fun c => hk r c (h c), sem_eq_zero_of_no_sems h0 r.2⟩) h

section
variable {f : PUnit × MemSt nD τ sig Val → (c : D) → X c} {g : PUnit × MemSt nD τ sig Val → (c : D) → Y c}
  {k : PUnit × MemSt nD τ sig Val → (c : D) → Z c} {a v : (c : D) → X c} {b w : (c : D) → Y c} {d u : (c : D) → Z c}
  {K : PUnit × MemSt nD τ sig Val → D → Prop}

/-- Two results under other names for their values. -/
theorem two (h : θ_run defs p s fun r => ∀ c, f r c = a c ∧ g r c = b c ∧ K r c) (ha : ∀ c, a c = v c) (hb : ∀ c, b c = w c) :
    θ_run defs p s fun r => ∀ c, f r c = v c ∧ g r c = w c ∧ K r c :=
  (θ_run _ _ _).mono (fun _ h c => ⟨(h c).1.trans (ha c), (h c).2.1.trans (hb c), (h c).2.2⟩) h

/-- Three results under other names for their values. -/
theorem three (h : θ_run defs p s fun r => ∀ c, f r c = a c ∧ g r c = b c ∧ k r c = d c ∧ K r c)
    (ha : ∀ c, a c = v c) (hb : ∀ c, b c = w c) (hd : ∀ c, d c = u c) :
    θ_run defs p s fun r => ∀ c, f r c = v c ∧ g r c = w c ∧ k r c = u c ∧ K r c :=
  (θ_run _ _ _).mono (fun _ h c => ⟨(h c).1.trans (ha c), (h c).2.1.trans (hb c), (h c).2.2.1.trans (hd c), (h c).2.2.2⟩) h

end

end Cert.Products
end
-- ==== Proof.Norms.lean ====
/- The norms: the kernel takes blocks of rows, and a row's scale and its normed elements need that row alone. -/
module

public import proofs.«01_k».proof.Defs
public import proofs.«01_k».proof.Proof.Gen.Norm.Frame
public import proofs.«01_k».proof.Proof.Gen.NormIdeal.Value
public import proofs.«01_k».proof.Proof.Gen.NormReferenceIdeal.Run
public import proofs.«01_k».proof.Proof.Gen.NormTwo.Frame
public import proofs.«01_k».proof.Proof.Gen.NormTwoIdeal.Value
public import proofs.«01_k».proof.Proof.Gen.NormTwoReferenceIdeal.Run
public import proofs.«01_k».proof.Proof.Gen.NormMemory.Frame
public import proofs.«01_k».proof.Proof.Gen.NormMemoryIdeal.Value
public import proofs.«01_k».proof.Proof.Gen.NormMemoryReferenceIdeal.Run
public import proofs.«01_k».proof.Proof.Several

@[expose] public section

set_option maxRecDepth 16384

noncomputable section

open Idealize.ShloMosaic Idealize.ShloMosaic.TcCoe Idealize.SL.Sem

namespace Cert.Norms

open Cert.Products

/-! ## Rows -/

section
variable {T T' : Nat}

/-- What a row is multiplied by: the reciprocal root of its mean square. -/
def scale (X : (⟨2, ![T, 1024]⟩ : Shape).Idx → EReal) (r : Fin T) : EReal :=
  Ideal.rsqrt (Ideal.div (∑ k : Fin 1024, X (ix2 r k) * X (ix2 r k)) (Ideal.ofBits .f32 0x44800000#32) + Ideal.ofBits .f32 0x358637BD#32)

/-- A normed element. -/
def normed (X : (⟨2, ![T, 1024]⟩ : Shape).Idx → EReal) (G : (⟨2, ![1, 1024]⟩ : Shape).Idx → EReal) (r : Fin T) (j : Fin 1024) : EReal :=
  X (ix2 r j) * scale X r * G (ix2 0 j)

/-- A block that holds a whole row has the row's scale. -/
theorem scale_block {x : (⟨2, ![T', 1024]⟩ : Shape).Idx → EReal} {X : (⟨2, ![T, 1024]⟩ : Shape).Idx → EReal} {r : Fin T'} {R : Fin T}
    (h : ∀ k, x (ix2 r k) = X (ix2 R k)) : scale x r = scale X R := by
  unfold scale
  simp only [h]

/-- And the row's normed elements. -/
theorem normed_block {x : (⟨2, ![T', 1024]⟩ : Shape).Idx → EReal} {X : (⟨2, ![T, 1024]⟩ : Shape).Idx → EReal} {r : Fin T'} {R : Fin T}
    {g G : (⟨2, ![1, 1024]⟩ : Shape).Idx → EReal} {j J : Fin 1024} (h : ∀ k, x (ix2 r k) = X (ix2 R k)) (hj : j = J) (hg : g = G) :
    normed x g r j = normed X G R J := by
  subst hj hg
  unfold normed
  rw [scale_block h, h]

end

end Cert.Norms

namespace Cert.Norms.One

open Cert.NormIdeal Cert.NormIdeal.Gen Cert.Products

attribute [local instance] Cert.Norm.Gen.facts Cert.NormIdeal.Gen.facts Cert.NormReferenceIdeal.Gen.facts

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The reference's scales. -/
abbrev scales (X : FVec Ideal S8192x1024 .f32) : FVec Ideal S8192x1 .f32 :=
  Host.rsqrt (addf (Host.divf (broadcastInDim S8192x1 ![0] Cert.NormReferenceIdeal.Gen.bcast_S8192_S8192x1_0 (Host.reduceAdd (mulf X X)
    (constant Cert.NormReferenceIdeal.S_ .f32 0x00000000#32) Cert.NormReferenceIdeal.Gen.reducesTo_S8192x1024_S8192_d1 Cert.NormReferenceIdeal.Gen.h_S_))
    (broadcastInDim S8192x1 ![] Cert.NormReferenceIdeal.Gen.bcast_S_S8192x1 (constant Cert.NormReferenceIdeal.S_ .f32 0x44800000#32)))
    (broadcastInDim S8192x1 ![] Cert.NormReferenceIdeal.Gen.bcast_S_S8192x1 (constant Cert.NormReferenceIdeal.S_ .f32 0x358637BD#32)))

/-- The reference's normed rows. -/
abbrev rows (X : FVec Ideal S8192x1024 .f32) (G : FVec Ideal S1x1024 .f32) : FVec Ideal S8192x1024 .bf16 :=
  truncf .bf16 (mulf (mulf X (broadcastInDim S8192x1024 ![0, 1] Cert.NormReferenceIdeal.Gen.bcast_S8192x1_S8192x1024_0_1 (scales X)))
    (broadcastInDim S8192x1024 ![0, 1] Cert.NormReferenceIdeal.Gen.bcast_S1x1024_S8192x1024_0_1 G)) Cert.NormReferenceIdeal.Gen.bitsLt_bf16_f32

theorem scales_at (X : FVec Ideal S8192x1024 .f32) (i : S8192x1.Idx) : (show EReal from scales X i) = scale X (i 0) := by
  pointwise [scales, scale]

theorem rows_at (X : FVec Ideal S8192x1024 .f32) (G : FVec Ideal S1x1024 .f32) (i : S8192x1024.Idx) : (show EReal from rows X G i) = normed X G (i 0) (i 1) := by
  pointwise [rows, scales, scale, normed]

theorem block_r (X : FVec Ideal S512x1024 .f32) (G : FVec Ideal S1x1024 .f32) (y : S512x1.Idx) : (show EReal from out0_3 (F := Ideal) X G y) = scale X (y 0) := by
  unfold out0_3
  rw [View.canon_unit_zero hz, View.ld_unit_zero (S := S512x1024) hz]
  pointwise [k0_pay1, scale]

theorem block_n (X : FVec Ideal S512x1024 .f32) (G : FVec Ideal S1x1024 .f32) (y : S512x1024.Idx) : (show EReal from out0_2 (F := Ideal) X G y) = normed X G (y 0) (y 1) := by
  unfold out0_2
  rw [View.canon_unit_zero hz, View.ld_unit_zero (S := S512x1024) hz, View.ld_unit_zero (S := S1x1024) hz]
  pointwise [k0_pay2, k0_pay1, scale, normed]

section
variable (m : (ℓ : Loc nD τ sig) → Buf (Elt Ideal) ℓ) (c : Dev nD)

theorem array_n : (dats m 0 c).arrAt 2 cfg0.N = rows (m ((c : Thread nD τ).loc main_arg0)) (m ((c : Thread nD τ).loc main_arg1)) := by
  refine (dats m 0 c).arrAt_eq_of_covers 2 _ (by decide +kernel) fun t hf y => ?_
  blk_simp
  rw [after0_2]
  refine (block_n _ _ _).trans (Eq.trans (normed_block (fun k => ?_) ?_ (funext fun g => ?_)) (rows_at _ _ _).symm)
  · blk_ext [iblk, idx t]
  · apply Fin.ext
    blk_simp [idx t]
  · blk_ext [iblk, idx t]

theorem array_r : (dats m 0 c).arrAt 3 cfg0.N = scales (m ((c : Thread nD τ).loc main_arg0)) := by
  refine (dats m 0 c).arrAt_eq_of_covers 3 _ (by decide +kernel) fun t hf y => ?_
  blk_simp
  rw [after0_3]
  refine (block_r _ _ _).trans (Eq.trans (scale_block fun k => ?_) (scales_at _ _).symm)
  blk_ext [iblk, idx t]

end

theorem frames : Cert.quiescent_Norm ∧ Cert.quiescent_NormIdeal ∧ Cert.quiescent_NormReferenceIdeal :=
  ⟨fun m g _ => Cert.Norm.Gen.frame m g, fun m g _ => Cert.NormIdeal.Gen.frame m g,
    fun m g _ => still (by decide) (Cert.NormReferenceIdeal.Value.run m g) fun _ _ h => h.2.2⟩

theorem same : Cert.algebraic_NormIdeal_NormReferenceIdeal := fun m g m' g' _ hm =>
  ⟨_, _, two (Cert.NormIdeal.Value.run_blocks m g) (array_n m) (array_r m),
    two (Cert.NormReferenceIdeal.Value.run m' g') (fun c => congrArg₂ rows (hm c).1 (hm c).2) fun c => congrArg scales (hm c).1⟩

end Cert.Norms.One

/-! ## One scale with two gains: the reference is the same, once for each gain -/

namespace Cert.Norms.Two

open Cert.NormTwoIdeal Cert.NormTwoIdeal.Gen Cert.Products

attribute [local instance] Cert.NormTwo.Gen.facts Cert.NormTwoIdeal.Gen.facts Cert.NormTwoReferenceIdeal.Gen.facts
  Cert.NormIdeal.Gen.facts Cert.NormReferenceIdeal.Gen.facts

theorem idx : ∀ t : Fin cfg0.N, win0_0.index t = ![t.val, 0] ∧ win0_1.index t = ![0, 0] ∧ win0_2.index t = ![0, 0] ∧ win0_3.index t = ![t.val, 0] ∧
    win0_4.index t = ![t.val, 0] ∧ win0_5.index t = ![t.val, 0] :=
  (by decide +kernel : ∀ t : Fin grid0.N, _)

theorem block_r (X : FVec Ideal S512x1024 .f32) (G H : FVec Ideal S1x1024 .f32) (y : S512x1.Idx) : (show EReal from out0_5 (F := Ideal) X G H y) = scale X (y 0) := by
  unfold out0_5
  rw [View.canon_unit_zero hz, View.ld_unit_zero (S := S512x1024) hz]
  pointwise [k0_pay1, scale]

theorem block_n (X : FVec Ideal S512x1024 .f32) (G H : FVec Ideal S1x1024 .f32) (y : S512x1024.Idx) :
    (show EReal from out0_3 (F := Ideal) X G H y) = normed X G (y 0) (y 1) := by
  unfold out0_3
  rw [View.canon_unit_zero hz, View.ld_unit_zero (S := S512x1024) hz, View.ld_unit_zero (S := S1x1024) hz]
  pointwise [k0_pay3, k0_pay2, k0_pay1, scale, normed]

/-- The second gain's rows are the first's with the gains exchanged. -/
theorem exchanged (X : FVec Ideal S512x1024 .f32) (G H : FVec Ideal S1x1024 .f32) : out0_4 (F := Ideal) X G H = out0_3 (F := Ideal) X H G := rfl

section
variable (m : (ℓ : Loc nD τ sig) → Buf (Elt Ideal) ℓ) (c : Dev nD)

theorem array_n : (dats m 0 c).arrAt 3 cfg0.N = One.rows (m ((c : Thread nD τ).loc main_arg0)) (m ((c : Thread nD τ).loc main_arg1)) := by
  refine (dats m 0 c).arrAt_eq_of_covers 3 _ (by decide +kernel) fun t hf y => ?_
  blk_simp
  rw [after0_3]
  refine (block_n _ _ _ _).trans (Eq.trans (normed_block (fun k => ?_) ?_ (funext fun g => ?_)) (One.rows_at _ _ _).symm)
  · blk_ext [iblk, idx t]
  · apply Fin.ext
    blk_simp [idx t]
  · blk_ext [iblk, idx t]

theorem array_h : (dats m 0 c).arrAt 4 cfg0.N = One.rows (m ((c : Thread nD τ).loc main_arg0)) (m ((c : Thread nD τ).loc main_arg2)) := by
  refine (dats m 0 c).arrAt_eq_of_covers 4 _ (by decide +kernel) fun t hf y => ?_
  blk_simp
  rw [after0_4, exchanged]
  refine (block_n _ _ _ _).trans (Eq.trans (normed_block (fun k => ?_) ?_ (funext fun g => ?_)) (One.rows_at _ _ _).symm)
  · blk_ext [iblk, idx t]
  · apply Fin.ext
    blk_simp [idx t]
  · blk_ext [iblk, idx t]

theorem array_r : (dats m 0 c).arrAt 5 cfg0.N = One.scales (m ((c : Thread nD τ).loc main_arg0)) := by
  refine (dats m 0 c).arrAt_eq_of_covers 5 _ (by decide +kernel) fun t hf y => ?_
  blk_simp
  rw [after0_5]
  refine (block_r _ _ _ _).trans (Eq.trans (scale_block fun k => ?_) (One.scales_at _ _).symm)
  blk_ext [iblk, idx t]

end

theorem frames : Cert.quiescent_NormTwo ∧ Cert.quiescent_NormTwoIdeal ∧ Cert.quiescent_NormTwoReferenceIdeal :=
  ⟨fun m g _ => Cert.NormTwo.Gen.frame m g, fun m g _ => Cert.NormTwoIdeal.Gen.frame m g,
    fun m g _ => still (by decide) (Cert.NormTwoReferenceIdeal.Value.run m g) fun _ _ h => h.2.2.2⟩

theorem same : Cert.algebraic_NormTwoIdeal_NormTwoReferenceIdeal := fun m g m' g' _ hm =>
  ⟨_, _, _, three (Cert.NormTwoIdeal.Value.run_blocks m g) (array_n m) (array_h m) (array_r m),
    three (Cert.NormTwoReferenceIdeal.Value.run m' g') (fun c => congrArg₂ One.rows (hm c).1 (hm c).2.1)
      (fun c => congrArg₂ One.rows (hm c).1 (hm c).2.2) fun c => congrArg One.scales (hm c).1⟩

end Cert.Norms.Two

/-! ## The memory's norm -/

namespace Cert.Norms.OfMemory

open Cert.NormMemoryIdeal Cert.NormMemoryIdeal.Gen Cert.Products

attribute [local instance] Cert.NormMemory.Gen.facts Cert.NormMemoryIdeal.Gen.facts Cert.NormMemoryReferenceIdeal.Gen.facts

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The reference's scales. -/
abbrev scales (X : FVec Ideal S1024x1024 .f32) : FVec Ideal S1024x1 .f32 :=
  Host.rsqrt (addf (Host.divf (broadcastInDim S1024x1 ![0] Cert.NormMemoryReferenceIdeal.Gen.bcast_S1024_S1024x1_0 (Host.reduceAdd (mulf X X)
    (constant Cert.NormMemoryReferenceIdeal.S_ .f32 0x00000000#32) Cert.NormMemoryReferenceIdeal.Gen.reducesTo_S1024x1024_S1024_d1 Cert.NormMemoryReferenceIdeal.Gen.h_S_))
    (broadcastInDim S1024x1 ![] Cert.NormMemoryReferenceIdeal.Gen.bcast_S_S1024x1 (constant Cert.NormMemoryReferenceIdeal.S_ .f32 0x44800000#32)))
    (broadcastInDim S1024x1 ![] Cert.NormMemoryReferenceIdeal.Gen.bcast_S_S1024x1 (constant Cert.NormMemoryReferenceIdeal.S_ .f32 0x358637BD#32)))

/-- The reference's normed rows. -/
abbrev rows (X : FVec Ideal S1024x1024 .f32) (G : FVec Ideal S1x1024 .f32) : FVec Ideal S1024x1024 .bf16 :=
  truncf .bf16 (mulf (mulf X (broadcastInDim S1024x1024 ![0, 1] Cert.NormMemoryReferenceIdeal.Gen.bcast_S1024x1_S1024x1024_0_1 (scales X)))
    (broadcastInDim S1024x1024 ![0, 1] Cert.NormMemoryReferenceIdeal.Gen.bcast_S1x1024_S1024x1024_0_1 G)) Cert.NormMemoryReferenceIdeal.Gen.bitsLt_bf16_f32

theorem scales_at (X : FVec Ideal S1024x1024 .f32) (i : S1024x1.Idx) : (show EReal from scales X i) = scale X (i 0) := by
  pointwise [scales, scale]

theorem rows_at (X : FVec Ideal S1024x1024 .f32) (G : FVec Ideal S1x1024 .f32) (i : S1024x1024.Idx) : (show EReal from rows X G i) = normed X G (i 0) (i 1) := by
  pointwise [rows, scales, scale, normed]

/-- A block is computed as the other norm's is. -/
theorem block_r (X : FVec Ideal S512x1024 .f32) (G : FVec Ideal S1x1024 .f32) (y : S512x1.Idx) : (show EReal from out0_3 (F := Ideal) X G y) = scale X (y 0) := by
  unfold out0_3
  rw [View.canon_unit_zero hz, View.ld_unit_zero (S := S512x1024) hz]
  pointwise [k0_pay1, scale]

theorem block_n (X : FVec Ideal S512x1024 .f32) (G : FVec Ideal S1x1024 .f32) (y : S512x1024.Idx) : (show EReal from out0_2 (F := Ideal) X G y) = normed X G (y 0) (y 1) := by
  unfold out0_2
  rw [View.canon_unit_zero hz, View.ld_unit_zero (S := S512x1024) hz, View.ld_unit_zero (S := S1x1024) hz]
  pointwise [k0_pay2, k0_pay1, scale, normed]

section
variable (m : (ℓ : Loc nD τ sig) → Buf (Elt Ideal) ℓ) (c : Dev nD)

theorem array_n : (dats m 0 c).arrAt 2 cfg0.N = rows (m ((c : Thread nD τ).loc main_arg0)) (m ((c : Thread nD τ).loc main_arg1)) := by
  refine (dats m 0 c).arrAt_eq_of_covers 2 _ (by decide +kernel) fun t hf y => ?_
  blk_simp
  rw [after0_2]
  refine (block_n _ _ _).trans (Eq.trans (normed_block (fun k => ?_) ?_ (funext fun g => ?_)) (rows_at _ _ _).symm)
  · blk_ext [iblk, idx t]
  · apply Fin.ext
    blk_simp [idx t]
  · blk_ext [iblk, idx t]

theorem array_r : (dats m 0 c).arrAt 3 cfg0.N = scales (m ((c : Thread nD τ).loc main_arg0)) := by
  refine (dats m 0 c).arrAt_eq_of_covers 3 _ (by decide +kernel) fun t hf y => ?_
  blk_simp
  rw [after0_3]
  refine (block_r _ _ _).trans (Eq.trans (scale_block fun k => ?_) (scales_at _ _).symm)
  blk_ext [iblk, idx t]

end

theorem frames : Cert.quiescent_NormMemory ∧ Cert.quiescent_NormMemoryIdeal ∧ Cert.quiescent_NormMemoryReferenceIdeal :=
  ⟨fun m g _ => Cert.NormMemory.Gen.frame m g, fun m g _ => Cert.NormMemoryIdeal.Gen.frame m g,
    fun m g _ => still (by decide) (Cert.NormMemoryReferenceIdeal.Value.run m g) fun _ _ h => h.2.2⟩

theorem same : Cert.algebraic_NormMemoryIdeal_NormMemoryReferenceIdeal := fun m g m' g' _ hm =>
  ⟨_, _, two (Cert.NormMemoryIdeal.Value.run_blocks m g) (array_n m) (array_r m),
    two (Cert.NormMemoryReferenceIdeal.Value.run m' g') (fun c => congrArg₂ rows (hm c).1 (hm c).2) fun c => congrArg scales (hm c).1⟩

end Cert.Norms.OfMemory
end
-- ==== Proof.Adam.lean ====
/- AdamW on the weights' shards: the kernel takes blocks of rows and makes each element of its three results from the elements
   of the weight, the gradient and the two moments in the same place, as the reference does. -/
module

public import proofs.«01_k».proof.Defs
public import proofs.«01_k».proof.Proof.Gen.AdamInput.Frame
public import proofs.«01_k».proof.Proof.Gen.AdamInputIdeal.Value
public import proofs.«01_k».proof.Proof.Gen.AdamInputReferenceIdeal.Run
public import proofs.«01_k».proof.Proof.Gen.AdamSquare.Frame
public import proofs.«01_k».proof.Proof.Gen.AdamSquareIdeal.Value
public import proofs.«01_k».proof.Proof.Gen.AdamSquareReferenceIdeal.Run
public import proofs.«01_k».proof.Proof.Gen.AdamMemory.Frame
public import proofs.«01_k».proof.Proof.Gen.AdamMemoryIdeal.Value
public import proofs.«01_k».proof.Proof.Gen.AdamMemoryReferenceIdeal.Run
public import proofs.«01_k».proof.Proof.Gen.AdamShared.Frame
public import proofs.«01_k».proof.Proof.Gen.AdamSharedIdeal.Value
public import proofs.«01_k».proof.Proof.Gen.AdamSharedReferenceIdeal.Run
public import proofs.«01_k».proof.Proof.Gen.AdamUp.Frame
public import proofs.«01_k».proof.Proof.Gen.AdamUpIdeal.Value
public import proofs.«01_k».proof.Proof.Gen.AdamUpReferenceIdeal.Run
public import proofs.«01_k».proof.Proof.Gen.AdamDown.Frame
public import proofs.«01_k».proof.Proof.Gen.AdamDownIdeal.Value
public import proofs.«01_k».proof.Proof.Gen.AdamDownReferenceIdeal.Run
public import proofs.«01_k».proof.Proof.Several

@[expose] public section

set_option maxRecDepth 16384

noncomputable section

open Idealize.ShloMosaic Idealize.ShloMosaic.TcCoe Idealize.SL.Sem

namespace Cert.Adam

open Cert.Products

/-! ## One element -/

/-- A constant of the step. -/
abbrev const (b : BitVec 32) : Ideal .f32 := Scalar.ofBits .f32 b

/-- The new first moment. -/
def mean (g m : Ideal .f32) : Ideal .f32 :=
  FloatOps.addf (FloatOps.mulf (const 0x3F666666#32) m) (FloatOps.mulf (const 0x3DCCCCCD#32) g)

/-- The new second moment. -/
def square (g v : Ideal .f32) : Ideal .f32 :=
  FloatOps.addf (FloatOps.mulf (const 0x3F7FBE77#32) v) (FloatOps.mulf (const 0x3A83126F#32) (FloatOps.mulf g g))

/-- The weight's change. -/
def change (w g m v : Ideal .f32) : Ideal .f32 :=
  FloatOps.mulf (const 0xBA83126F#32) (FloatOps.addf
    (FloatOps.divf (FloatOps.divf (mean g m) (const 0x3F26BD02#32))
      (FloatOps.addf (FloatOps.sqrt (FloatOps.divf (square g v) (const 0x3C231ACC#32))) (const 0x322BCC77#32)))
    (FloatOps.mulf (const 0x3C23D70A#32) w))

/-! ## Whole arrays -/

section
variable {S T : Shape}

def means (g m : FVec Ideal S .f32) : FVec Ideal S .f32 := fun i => mean (g i) (m i)
def squares (g v : FVec Ideal S .f32) : FVec Ideal S .f32 := fun i => square (g i) (v i)
def changes (w g m v : FVec Ideal S .f32) : FVec Ideal S .f32 := fun i => change (w i) (g i) (m i) (v i)

variable {w g m v : FVec Ideal S .f32} {W G M V : FVec Ideal T .f32} {y : S.Idx} {i : T.Idx}

/-- Arrays that agree in two places have the same results there. -/
theorem means_at (hg : g y = G i) (hm : m y = M i) : means g m y = means G M i := congrArg₂ mean hg hm
theorem squares_at (hg : g y = G i) (hv : v y = V i) : squares g v y = squares G V i := congrArg₂ square hg hv
theorem changes_at (hw : w y = W i) (hg : g y = G i) (hm : m y = M i) (hv : v y = V i) : changes w g m v y = changes W G M V i :=
  congr (congr (congrArg₂ change hw hg) hm) hv

end

end Cert.Adam

/-! ## The first layer's input projection -/

namespace Cert.Adam.Input

open Cert.AdamInputIdeal Cert.AdamInputIdeal.Gen Cert.Products

attribute [local instance] Cert.AdamInput.Gen.facts Cert.AdamInputIdeal.Gen.facts Cert.AdamInputReferenceIdeal.Gen.facts

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

theorem out_at (W G M V : Vec Ideal S256x320 .f32) :
    out0_4 W G M V = changes W G M V ∧ out0_5 W G M V = means G M ∧ out0_6 W G M V = squares G V := by
  unfold out0_4 out0_5 out0_6
  rw [View.canon_unit_zero hz, View.canon_unit_zero hz, View.canon_unit_zero hz, View.ld_unit_zero hz, View.ld_unit_zero hz, View.ld_unit_zero hz, View.ld_unit_zero hz]
  exact ⟨rfl, rfl, rfl⟩

theorem arrays (m : (ℓ : Loc nD τ sig) → Buf (Elt Ideal) ℓ) (c : Dev nD) :
    (dats m 0 c).arrAt 4 cfg0.N = changes (m ((c : Thread nD τ).loc main_arg0)) (m ((c : Thread nD τ).loc main_arg1))
      (m ((c : Thread nD τ).loc main_arg2)) (m ((c : Thread nD τ).loc main_arg3))
    ∧ (dats m 0 c).arrAt 5 cfg0.N = means (m ((c : Thread nD τ).loc main_arg1)) (m ((c : Thread nD τ).loc main_arg2))
    ∧ (dats m 0 c).arrAt 6 cfg0.N = squares (m ((c : Thread nD τ).loc main_arg1)) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_⟩ <;> blk_simp
  · rw [after0_4, (out_at _ _ _ _).1]
    refine changes_at ?_ ?_ ?_ ?_ <;> blk_ext [iblk, idx t]
  · rw [after0_5, (out_at _ _ _ _).2.1]
    refine means_at ?_ ?_ <;> blk_ext [iblk, idx t]
  · rw [after0_6, (out_at _ _ _ _).2.2]
    refine squares_at ?_ ?_ <;> blk_ext [iblk, idx t]

theorem frames : Cert.quiescent_AdamInput ∧ Cert.quiescent_AdamInputIdeal ∧ Cert.quiescent_AdamInputReferenceIdeal :=
  ⟨fun m g _ => Cert.AdamInput.Gen.frame m g, fun m g _ => Cert.AdamInputIdeal.Gen.frame m g,
    fun m g _ => still (by decide) (Cert.AdamInputReferenceIdeal.Value.run m g) fun _ _ h => h.2.2.2⟩

theorem same : Cert.algebraic_AdamInputIdeal_AdamInputReferenceIdeal := fun m g m' g' _ hm =>
  ⟨_, _, _, three (Cert.AdamInputIdeal.Value.run_blocks m g) (fun c => (arrays m c).1) (fun c => (arrays m c).2.1) (fun c => (arrays m c).2.2),
    three (Cert.AdamInputReferenceIdeal.Value.run m' g') (fun c => by rw [(hm c).1, (hm c).2.1, (hm c).2.2.1, (hm c).2.2.2]; rfl)
      (fun c => by rw [(hm c).2.1, (hm c).2.2.1]; rfl) (fun c => by rw [(hm c).2.1, (hm c).2.2.2]; rfl)⟩

end Cert.Adam.Input

/-! ## The output projections and the second layer's input projection -/

namespace Cert.Adam.Square

open Cert.AdamSquareIdeal Cert.AdamSquareIdeal.Gen Cert.Products

attribute [local instance] Cert.AdamSquare.Gen.facts Cert.AdamSquareIdeal.Gen.facts Cert.AdamSquareReferenceIdeal.Gen.facts

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

theorem out_at (W G M V : Vec Ideal S128x1024 .f32) :
    out0_4 W G M V = changes W G M V ∧ out0_5 W G M V = means G M ∧ out0_6 W G M V = squares G V := by
  unfold out0_4 out0_5 out0_6
  rw [View.canon_unit_zero hz, View.canon_unit_zero hz, View.canon_unit_zero hz, View.ld_unit_zero hz, View.ld_unit_zero hz, View.ld_unit_zero hz, View.ld_unit_zero hz]
  exact ⟨rfl, rfl, rfl⟩

theorem arrays (m : (ℓ : Loc nD τ sig) → Buf (Elt Ideal) ℓ) (c : Dev nD) :
    (dats m 0 c).arrAt 4 cfg0.N = changes (m ((c : Thread nD τ).loc main_arg0)) (m ((c : Thread nD τ).loc main_arg1))
      (m ((c : Thread nD τ).loc main_arg2)) (m ((c : Thread nD τ).loc main_arg3))
    ∧ (dats m 0 c).arrAt 5 cfg0.N = means (m ((c : Thread nD τ).loc main_arg1)) (m ((c : Thread nD τ).loc main_arg2))
    ∧ (dats m 0 c).arrAt 6 cfg0.N = squares (m ((c : Thread nD τ).loc main_arg1)) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_⟩ <;> blk_simp
  · rw [after0_4, (out_at _ _ _ _).1]
    refine changes_at ?_ ?_ ?_ ?_ <;> blk_ext [iblk, idx t]
  · rw [after0_5, (out_at _ _ _ _).2.1]
    refine means_at ?_ ?_ <;> blk_ext [iblk, idx t]
  · rw [after0_6, (out_at _ _ _ _).2.2]
    refine squares_at ?_ ?_ <;> blk_ext [iblk, idx t]

theorem frames : Cert.quiescent_AdamSquare ∧ Cert.quiescent_AdamSquareIdeal ∧ Cert.quiescent_AdamSquareReferenceIdeal :=
  ⟨fun m g _ => Cert.AdamSquare.Gen.frame m g, fun m g _ => Cert.AdamSquareIdeal.Gen.frame m g,
    fun m g _ => still (by decide) (Cert.AdamSquareReferenceIdeal.Value.run m g) fun _ _ h => h.2.2.2⟩

theorem same : Cert.algebraic_AdamSquareIdeal_AdamSquareReferenceIdeal := fun m g m' g' _ hm =>
  ⟨_, _, _, three (Cert.AdamSquareIdeal.Value.run_blocks m g) (fun c => (arrays m c).1) (fun c => (arrays m c).2.1) (fun c => (arrays m c).2.2),
    three (Cert.AdamSquareReferenceIdeal.Value.run m' g') (fun c => by rw [(hm c).1, (hm c).2.1, (hm c).2.2.1, (hm c).2.2.2]; rfl)
      (fun c => by rw [(hm c).2.1, (hm c).2.2.1]; rfl) (fun c => by rw [(hm c).2.1, (hm c).2.2.2]; rfl)⟩

end Cert.Adam.Square

/-! ## The memory's projections -/

namespace Cert.Adam.Memory

open Cert.AdamMemoryIdeal Cert.AdamMemoryIdeal.Gen Cert.Products

attribute [local instance] Cert.AdamMemory.Gen.facts Cert.AdamMemoryIdeal.Gen.facts Cert.AdamMemoryReferenceIdeal.Gen.facts

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

theorem out_at (W G M V : Vec Ideal S128x512 .f32) :
    out0_4 W G M V = changes W G M V ∧ out0_5 W G M V = means G M ∧ out0_6 W G M V = squares G V := by
  unfold out0_4 out0_5 out0_6
  rw [View.canon_unit_zero hz, View.canon_unit_zero hz, View.canon_unit_zero hz, View.ld_unit_zero hz, View.ld_unit_zero hz, View.ld_unit_zero hz, View.ld_unit_zero hz]
  exact ⟨rfl, rfl, rfl⟩

theorem arrays (m : (ℓ : Loc nD τ sig) → Buf (Elt Ideal) ℓ) (c : Dev nD) :
    (dats m 0 c).arrAt 4 cfg0.N = changes (m ((c : Thread nD τ).loc main_arg0)) (m ((c : Thread nD τ).loc main_arg1))
      (m ((c : Thread nD τ).loc main_arg2)) (m ((c : Thread nD τ).loc main_arg3))
    ∧ (dats m 0 c).arrAt 5 cfg0.N = means (m ((c : Thread nD τ).loc main_arg1)) (m ((c : Thread nD τ).loc main_arg2))
    ∧ (dats m 0 c).arrAt 6 cfg0.N = squares (m ((c : Thread nD τ).loc main_arg1)) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_⟩ <;> blk_simp
  · rw [after0_4, (out_at _ _ _ _).1]
    refine changes_at ?_ ?_ ?_ ?_ <;> blk_ext [iblk, idx t]
  · rw [after0_5, (out_at _ _ _ _).2.1]
    refine means_at ?_ ?_ <;> blk_ext [iblk, idx t]
  · rw [after0_6, (out_at _ _ _ _).2.2]
    refine squares_at ?_ ?_ <;> blk_ext [iblk, idx t]

theorem frames : Cert.quiescent_AdamMemory ∧ Cert.quiescent_AdamMemoryIdeal ∧ Cert.quiescent_AdamMemoryReferenceIdeal :=
  ⟨fun m g _ => Cert.AdamMemory.Gen.frame m g, fun m g _ => Cert.AdamMemoryIdeal.Gen.frame m g,
    fun m g _ => still (by decide) (Cert.AdamMemoryReferenceIdeal.Value.run m g) fun _ _ h => h.2.2.2⟩

theorem same : Cert.algebraic_AdamMemoryIdeal_AdamMemoryReferenceIdeal := fun m g m' g' _ hm =>
  ⟨_, _, _, three (Cert.AdamMemoryIdeal.Value.run_blocks m g) (fun c => (arrays m c).1) (fun c => (arrays m c).2.1) (fun c => (arrays m c).2.2),
    three (Cert.AdamMemoryReferenceIdeal.Value.run m' g') (fun c => by rw [(hm c).1, (hm c).2.1, (hm c).2.2.1, (hm c).2.2.2]; rfl)
      (fun c => by rw [(hm c).2.1, (hm c).2.2.1]; rfl) (fun c => by rw [(hm c).2.1, (hm c).2.2.2]; rfl)⟩

end Cert.Adam.Memory

/-! ## The shared keys and values -/

namespace Cert.Adam.Shared

open Cert.AdamSharedIdeal Cert.AdamSharedIdeal.Gen Cert.Products

attribute [local instance] Cert.AdamShared.Gen.facts Cert.AdamSharedIdeal.Gen.facts Cert.AdamSharedReferenceIdeal.Gen.facts

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

theorem out_at (W G M V : Vec Ideal S256x192 .f32) :
    out0_4 W G M V = changes W G M V ∧ out0_5 W G M V = means G M ∧ out0_6 W G M V = squares G V := by
  unfold out0_4 out0_5 out0_6
  rw [View.canon_unit_zero hz, View.canon_unit_zero hz, View.canon_unit_zero hz, View.ld_unit_zero hz, View.ld_unit_zero hz, View.ld_unit_zero hz, View.ld_unit_zero hz]
  exact ⟨rfl, rfl, rfl⟩

theorem arrays (m : (ℓ : Loc nD τ sig) → Buf (Elt Ideal) ℓ) (c : Dev nD) :
    (dats m 0 c).arrAt 4 cfg0.N = changes (m ((c : Thread nD τ).loc main_arg0)) (m ((c : Thread nD τ).loc main_arg1))
      (m ((c : Thread nD τ).loc main_arg2)) (m ((c : Thread nD τ).loc main_arg3))
    ∧ (dats m 0 c).arrAt 5 cfg0.N = means (m ((c : Thread nD τ).loc main_arg1)) (m ((c : Thread nD τ).loc main_arg2))
    ∧ (dats m 0 c).arrAt 6 cfg0.N = squares (m ((c : Thread nD τ).loc main_arg1)) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_⟩ <;> blk_simp
  · rw [after0_4, (out_at _ _ _ _).1]
    refine changes_at ?_ ?_ ?_ ?_ <;> blk_ext [iblk, idx t]
  · rw [after0_5, (out_at _ _ _ _).2.1]
    refine means_at ?_ ?_ <;> blk_ext [iblk, idx t]
  · rw [after0_6, (out_at _ _ _ _).2.2]
    refine squares_at ?_ ?_ <;> blk_ext [iblk, idx t]

theorem frames : Cert.quiescent_AdamShared ∧ Cert.quiescent_AdamSharedIdeal ∧ Cert.quiescent_AdamSharedReferenceIdeal :=
  ⟨fun m g _ => Cert.AdamShared.Gen.frame m g, fun m g _ => Cert.AdamSharedIdeal.Gen.frame m g,
    fun m g _ => still (by decide) (Cert.AdamSharedReferenceIdeal.Value.run m g) fun _ _ h => h.2.2.2⟩

theorem same : Cert.algebraic_AdamSharedIdeal_AdamSharedReferenceIdeal := fun m g m' g' _ hm =>
  ⟨_, _, _, three (Cert.AdamSharedIdeal.Value.run_blocks m g) (fun c => (arrays m c).1) (fun c => (arrays m c).2.1) (fun c => (arrays m c).2.2),
    three (Cert.AdamSharedReferenceIdeal.Value.run m' g') (fun c => by rw [(hm c).1, (hm c).2.1, (hm c).2.2.1, (hm c).2.2.2]; rfl)
      (fun c => by rw [(hm c).2.1, (hm c).2.2.1]; rfl) (fun c => by rw [(hm c).2.1, (hm c).2.2.2]; rfl)⟩

end Cert.Adam.Shared

/-! ## The up-projections -/

namespace Cert.Adam.Up

open Cert.AdamUpIdeal Cert.AdamUpIdeal.Gen Cert.Products

attribute [local instance] Cert.AdamUp.Gen.facts Cert.AdamUpIdeal.Gen.facts Cert.AdamUpReferenceIdeal.Gen.facts

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

theorem out_at (W G M V : Vec Ideal S256x704 .f32) :
    out0_4 W G M V = changes W G M V ∧ out0_5 W G M V = means G M ∧ out0_6 W G M V = squares G V := by
  unfold out0_4 out0_5 out0_6
  rw [View.canon_unit_zero hz, View.canon_unit_zero hz, View.canon_unit_zero hz, View.ld_unit_zero hz, View.ld_unit_zero hz, View.ld_unit_zero hz, View.ld_unit_zero hz]
  exact ⟨rfl, rfl, rfl⟩

theorem arrays (m : (ℓ : Loc nD τ sig) → Buf (Elt Ideal) ℓ) (c : Dev nD) :
    (dats m 0 c).arrAt 4 cfg0.N = changes (m ((c : Thread nD τ).loc main_arg0)) (m ((c : Thread nD τ).loc main_arg1))
      (m ((c : Thread nD τ).loc main_arg2)) (m ((c : Thread nD τ).loc main_arg3))
    ∧ (dats m 0 c).arrAt 5 cfg0.N = means (m ((c : Thread nD τ).loc main_arg1)) (m ((c : Thread nD τ).loc main_arg2))
    ∧ (dats m 0 c).arrAt 6 cfg0.N = squares (m ((c : Thread nD τ).loc main_arg1)) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_⟩ <;> blk_simp
  · rw [after0_4, (out_at _ _ _ _).1]
    refine changes_at ?_ ?_ ?_ ?_ <;> blk_ext [iblk, idx t]
  · rw [after0_5, (out_at _ _ _ _).2.1]
    refine means_at ?_ ?_ <;> blk_ext [iblk, idx t]
  · rw [after0_6, (out_at _ _ _ _).2.2]
    refine squares_at ?_ ?_ <;> blk_ext [iblk, idx t]

theorem frames : Cert.quiescent_AdamUp ∧ Cert.quiescent_AdamUpIdeal ∧ Cert.quiescent_AdamUpReferenceIdeal :=
  ⟨fun m g _ => Cert.AdamUp.Gen.frame m g, fun m g _ => Cert.AdamUpIdeal.Gen.frame m g,
    fun m g _ => still (by decide) (Cert.AdamUpReferenceIdeal.Value.run m g) fun _ _ h => h.2.2.2⟩

theorem same : Cert.algebraic_AdamUpIdeal_AdamUpReferenceIdeal := fun m g m' g' _ hm =>
  ⟨_, _, _, three (Cert.AdamUpIdeal.Value.run_blocks m g) (fun c => (arrays m c).1) (fun c => (arrays m c).2.1) (fun c => (arrays m c).2.2),
    three (Cert.AdamUpReferenceIdeal.Value.run m' g') (fun c => by rw [(hm c).1, (hm c).2.1, (hm c).2.2.1, (hm c).2.2.2]; rfl)
      (fun c => by rw [(hm c).2.1, (hm c).2.2.1]; rfl) (fun c => by rw [(hm c).2.1, (hm c).2.2.2]; rfl)⟩

end Cert.Adam.Up

/-! ## The down-projections -/

namespace Cert.Adam.Down

open Cert.AdamDownIdeal Cert.AdamDownIdeal.Gen Cert.Products

attribute [local instance] Cert.AdamDown.Gen.facts Cert.AdamDownIdeal.Gen.facts Cert.AdamDownReferenceIdeal.Gen.facts

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

theorem out_at (W G M V : Vec Ideal S88x1024 .f32) :
    out0_4 W G M V = changes W G M V ∧ out0_5 W G M V = means G M ∧ out0_6 W G M V = squares G V := by
  unfold out0_4 out0_5 out0_6
  rw [View.canon_unit_zero hz, View.canon_unit_zero hz, View.canon_unit_zero hz, View.ld_unit_zero hz, View.ld_unit_zero hz, View.ld_unit_zero hz, View.ld_unit_zero hz]
  exact ⟨rfl, rfl, rfl⟩

theorem arrays (m : (ℓ : Loc nD τ sig) → Buf (Elt Ideal) ℓ) (c : Dev nD) :
    (dats m 0 c).arrAt 4 cfg0.N = changes (m ((c : Thread nD τ).loc main_arg0)) (m ((c : Thread nD τ).loc main_arg1))
      (m ((c : Thread nD τ).loc main_arg2)) (m ((c : Thread nD τ).loc main_arg3))
    ∧ (dats m 0 c).arrAt 5 cfg0.N = means (m ((c : Thread nD τ).loc main_arg1)) (m ((c : Thread nD τ).loc main_arg2))
    ∧ (dats m 0 c).arrAt 6 cfg0.N = squares (m ((c : Thread nD τ).loc main_arg1)) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_⟩ <;> blk_simp
  · rw [after0_4, (out_at _ _ _ _).1]
    refine changes_at ?_ ?_ ?_ ?_ <;> blk_ext [iblk, idx t]
  · rw [after0_5, (out_at _ _ _ _).2.1]
    refine means_at ?_ ?_ <;> blk_ext [iblk, idx t]
  · rw [after0_6, (out_at _ _ _ _).2.2]
    refine squares_at ?_ ?_ <;> blk_ext [iblk, idx t]

theorem frames : Cert.quiescent_AdamDown ∧ Cert.quiescent_AdamDownIdeal ∧ Cert.quiescent_AdamDownReferenceIdeal :=
  ⟨fun m g _ => Cert.AdamDown.Gen.frame m g, fun m g _ => Cert.AdamDownIdeal.Gen.frame m g,
    fun m g _ => still (by decide) (Cert.AdamDownReferenceIdeal.Value.run m g) fun _ _ h => h.2.2.2⟩

theorem same : Cert.algebraic_AdamDownIdeal_AdamDownReferenceIdeal := fun m g m' g' _ hm =>
  ⟨_, _, _, three (Cert.AdamDownIdeal.Value.run_blocks m g) (fun c => (arrays m c).1) (fun c => (arrays m c).2.1) (fun c => (arrays m c).2.2),
    three (Cert.AdamDownReferenceIdeal.Value.run m' g') (fun c => by rw [(hm c).1, (hm c).2.1, (hm c).2.2.1, (hm c).2.2.2]; rfl)
      (fun c => by rw [(hm c).2.1, (hm c).2.2.1]; rfl) (fun c => by rw [(hm c).2.1, (hm c).2.2.2]; rfl)⟩

end Cert.Adam.Down

end
-- ==== Proof.Middle.lean ====
/- The feed-forward's middle: a causal convolution of three taps over the rows of both halves of the projection, and the
   gate of one half by the other. A grid point convolves one block of columns of both halves, 256 rows at a time. -/
module

public import proofs.«01_k».proof.Defs
public import proofs.«01_k».proof.Proof.Gen.Middle.Frame
public import proofs.«01_k».proof.Proof.Gen.MiddleIdeal.Value
public import proofs.«01_k».proof.Proof.Gen.MiddleReferenceIdeal.Run
public import proofs.«01_k».proof.Proof.Tiles

@[expose] public section

set_option maxRecDepth 16384

noncomputable section

open Idealize.ShloMosaic Idealize.ShloMosaic.TcCoe Idealize.SL.Sem

namespace Cert.Gated

open Cert.MiddleReferenceIdeal Cert.MiddleReferenceIdeal.Gen

attribute [local instance] Cert.MiddleReferenceIdeal.Gen.facts

/-! ## What is computed -/

theorem at3 {M N K : Nat} (y : (⟨3, ![M, N, K]⟩ : Shape).Idx) : ∃ i j k, y = ix3 i j k := ⟨y 0, y 1, y 2, by ext a; fin_cases a <;> rfl⟩

/-- A column `R` rows down, `j` rows earlier; before the first row there are zeros. -/
def earlier (x : Fin 2048 → EReal) (j : ℕ) (R : Fin 2048) : EReal := if j ≤ R.val then x ⟨R.val - j, by omega⟩ else 0

/-- The convolution of a column with three taps. -/
def taps (x : Fin 2048 → EReal) (w : Fin 3 → EReal) (R : Fin 2048) : EReal :=
  w 0 * earlier x 2 R + w 1 * earlier x 1 R + w 2 * x R

/-- The gate's value. -/
def gate (g a : EReal) : EReal := g * Ideal.logistic g * a

/-- The middle's value at a row of two columns. -/
def value (a b : Fin 2048 → EReal) (v w : Fin 3 → EReal) (R : Fin 2048) : EReal := gate (taps b w R) (taps a v R)

/-! ## The reference -/

/-- The rows with two rows of zeros before them. -/
abbrev padded (A : FVec Ideal S4x2048x5632 .bf16) : FVec Ideal S4x2050x5632 .f32 :=
  pad S4x2050x5632 ![0, 2, 0] ![0, 0, 0] ![0, 0, 0] (extf .f32 A bitsLt_bf16_f32) (sitofp .f32 (constantI S_ 32 0#32)) pads_S4x2048x5632_S4x2050x5632_000_200_000 h_S_

/-- One tap for every row. -/
abbrev spread (W : FVec Ideal S1x5632 .f32) : FVec Ideal S4x2048x5632 .f32 :=
  broadcastInDim S4x2048x5632 ![0, 1, 2] bcast_S1x1x5632_S4x2048x5632_0_1_2 (broadcastInDim S1x1x5632 ![2] bcast_S5632_S1x1x5632_2 (shapeCast _ W shapeCasts_S1x5632_S5632))

/-- The reference's convolution. -/
def conv (A : FVec Ideal S4x2048x5632 .bf16) (W : FVec Ideal S3x5632 .f32) : FVec Ideal S4x2048x5632 .f32 :=
  addf (addf (mulf (spread (extractStridedSlice S1x5632 ![0, 0] W slices_S3x5632_S1x5632_0_0)) (extractStridedSlice S4x2048x5632 ![0, 0, 0] (padded A) slices_S4x2050x5632_S4x2048x5632_0_0_0))
    (mulf (spread (extractStridedSlice S1x5632 ![1, 0] W slices_S3x5632_S1x5632_1_0)) (extractStridedSlice S4x2048x5632 ![0, 1, 0] (padded A) slices_S4x2050x5632_S4x2048x5632_0_1_0)))
    (mulf (spread (extractStridedSlice S1x5632 ![2, 0] W slices_S3x5632_S1x5632_2_0)) (extractStridedSlice S4x2048x5632 ![0, 2, 0] (padded A) slices_S4x2050x5632_S4x2048x5632_0_2_0))

/-- The reference's gate. -/
def gated (C : FVec Ideal S4x2048x5632 .f32) : FVec Ideal S4x2048x2816 .bf16 :=
  truncf .bf16 (mulf (mulf (extractStridedSlice S4x2048x2816 ![0, 0, 2816] C slices_S4x2048x5632_S4x2048x2816_0_0_2816)
    (Host.divf (broadcastInDim S4x2048x2816 ![] bcast_S_S4x2048x2816 (constant S_ .f32 0x3F800000#32))
      (addf (broadcastInDim S4x2048x2816 ![] bcast_S_S4x2048x2816 (constant S_ .f32 0x3F800000#32))
        (Host.exp (Host.negf (extractStridedSlice S4x2048x2816 ![0, 0, 2816] C slices_S4x2048x5632_S4x2048x2816_0_0_2816))))))
    (extractStridedSlice S4x2048x2816 ![0, 0, 0] C slices_S4x2048x5632_S4x2048x2816_0_0_0)) bitsLt_bf16_f32

/-- The reference's result. -/
def whole (A : FVec Ideal S4x2048x5632 .bf16) (W : FVec Ideal S3x5632 .f32) : FVec Ideal S4x2048x2816 .bf16 := gated (conv A W)

theorem naught : FloatOps.sitofp (F := Ideal) .f32 (0#32) = (0 : EReal) := by
  show (((0#32 : BitVec 32).toInt : ℝ) : EReal) = 0
  simp

theorem conv_at (A : FVec Ideal S4x2048x5632 .bf16) (W : FVec Ideal S3x5632 .f32) (b : Fin 4) (R : Fin 2048) (q : Fin 5632) :
    (show EReal from conv A W (ix3 b R q)) = taps (fun R => A (ix3 b R q)) (fun j => W (ix2 j q)) R := by
  unfold taps earlier
  pointwise [conv, spread, padded]
  simp only [naught]
  congr 2
  · congr 1
    by_cases h : 2 ≤ R.val
    · rw [dif_pos ⟨h, by omega⟩, if_pos h]
    · rw [dif_neg fun e => h e.1, if_neg h]
  · congr 1
    by_cases h : 1 ≤ R.val
    · rw [dif_pos ⟨by omega, by omega⟩, if_pos h]
      exact congrArg (fun R : Fin 2048 => A (ix3 b R q)) (Fin.ext (show 1 + R.val - 2 = R.val - 1 by omega))
    · rw [dif_neg fun e => h (by omega), if_neg h]

theorem gated_at (C : FVec Ideal S4x2048x5632 .f32) (b : Fin 4) (R : Fin 2048) (q : Fin 2816) :
    (show EReal from gated C (ix3 b R q)) = gate (C (ix3 b R ⟨2816 + q.val, by omega⟩)) (C (ix3 b R ⟨q.val, by omega⟩)) := by
  unfold gate Ideal.logistic
  pointwise [gated]

theorem whole_at (A : FVec Ideal S4x2048x5632 .bf16) (W : FVec Ideal S3x5632 .f32) (b : Fin 4) (R : Fin 2048) (q : Fin 2816) :
    (show EReal from whole A W (ix3 b R q)) = value (fun R => A (ix3 b R ⟨q.val, by omega⟩)) (fun R => A (ix3 b R ⟨2816 + q.val, by omega⟩))
      (fun j => W (ix2 j ⟨q.val, by omega⟩)) (fun j => W (ix2 j ⟨2816 + q.val, by omega⟩)) R :=
  (gated_at (conv A W) b R q).trans (congrArg₂ gate (conv_at A W b R _) (conv_at A W b R _))

end Cert.Gated

namespace Cert.Gated

open Cert.MiddleIdeal Cert.MiddleIdeal.Gen Cert.Products

attribute [local instance] Cert.Middle.Gen.facts Cert.MiddleIdeal.Gen.facts Cert.MiddleReferenceIdeal.Gen.facts

/-! ## One trip -/

abbrev Trip := Fin k0_t1_loop.trips

/-- The trip's convolution of one half, from its rows and the sixteen before them. -/
def mix (k : Trip) (w : Vec Ideal S3x256 .f32) (x : Vec Ideal S1x256x256 .bf16) (h : Vec Ideal S1x16x256 .bf16) : FVec Ideal S256x256 .f32 :=
  k0_pay7 w (k0_pay2 x) (k0_pay4 0#32 1#32 k x h) (k0_pay5 0#32 1#32 k x h) (k0_pay6 w)

/-- What the trip stores. -/
def trip (k : Trip) (v w : Vec Ideal S3x256 .f32) (x y : Vec Ideal S1x256x256 .bf16) (h g : Vec Ideal S1x16x256 .bf16) : FVec Ideal S1x256x256 .bf16 :=
  shapeCast S1x256x256 (truncf .bf16 (mulf (mulf (mix k w y g) (logistic (mix k w y g))) (mix k v x h)) bitsLt_bf16_f32) shapeCasts_S256x256_S1x256x256

/-- Whether a trip is past the first. -/
theorem past (k : Trip) : Scalar.cmpi .sgt (Scf.iv 0#32 1#32 k) 0#32 = if 0 < k.val then 1#1 else 0#1 := by
  revert k
  decide +kernel

theorem off1 : ∀ k : Trip, k0_off1 k = ![0, 256 * k.val, 0] := by decide +kernel

theorem off2 : ∀ k : Trip, k0_off2 k = ![0, 256 * k.val - 16, 0] := by decide +kernel

/-- A choice by a row's number. -/
theorem pick {α : Type} (r n : ℕ) (hr : r < 256) (hn : n < 256) (p q : α) :
    Scalar.select (IntOp.cmpi .eq (BitVec.ofNat 32 r) (BitVec.ofNat 32 n)) p q = if r = n then p else q := by
  have e : IntOp.cmpi .eq (BitVec.ofNat 32 r) (BitVec.ofNat 32 n) = if r = n then 1#1 else 0#1 := by
    have : (BitVec.ofNat 32 r = BitVec.ofNat 32 n) ↔ r = n := by
      rw [BitVec.toNat_eq, BitVec.toNat_ofNat, BitVec.toNat_ofNat, Nat.mod_eq_of_lt (by omega), Nat.mod_eq_of_lt (by omega)]
    by_cases h : r = n <;> simp [IntOp.cmpi, h, beq_eq_decide, this]
  rw [e]
  by_cases h : r = n <;> simp [h, Scalar.select]

theorem pick_past {α : Type} (k : Trip) (p q : α) : Scalar.select (if 0 < k.val then 1#1 else 0#1) p q = if 0 < k.val then p else q := by
  by_cases h : 0 < k.val <;> simp [h, Scalar.select]

/-- The row before, in a trip. -/
theorem one_at (k : Trip) (x : Vec Ideal S1x256x256 .bf16) (h : Vec Ideal S1x16x256 .bf16) (r l : Fin 256) :
    (show EReal from k0_pay4 0#32 1#32 k x h (ix2 r l))
      = if r.val = 0 then (if 0 < k.val then h (ix3 0 15 l) else 0) else x (ix3 0 ⟨r.val - 1, by omega⟩ l) := by
  pointwise [k0_pay4, k0_pay3, k0_pay2, past]
  rw [pick _ 0 r.isLt (by omega), pick_past]
  split <;> split <;> first | rfl | omega | exact congrArg (fun q => x (ix3 0 q l)) (Fin.ext (by simp only; omega))

/-- The row two before. -/
theorem two_at (k : Trip) (x : Vec Ideal S1x256x256 .bf16) (h : Vec Ideal S1x16x256 .bf16) (r l : Fin 256) :
    (show EReal from k0_pay5 0#32 1#32 k x h (ix2 r l))
      = if r.val = 0 then (if 0 < k.val then h (ix3 0 14 l) else 0) else
        if r.val = 1 then (if 0 < k.val then h (ix3 0 15 l) else 0) else x (ix3 0 ⟨r.val - 2, by omega⟩ l) := by
  pointwise [k0_pay5, k0_pay3, k0_pay2, past]
  rw [pick _ 0 r.isLt (by omega), pick _ 1 r.isLt (by omega), pick_past, pick_past]
  split <;> split <;> (try split) <;> first | rfl | omega | exact congrArg (fun q => x (ix3 0 q l)) (Fin.ext (by simp only; omega))

/-- The rows of a trip, and the sixteen rows before them. -/
abbrev rows (k : Trip) (X : Vec Ideal S1x2048x256 .bf16) : Vec Ideal S1x256x256 .bf16 :=
  View.ld X (Rect.unit (s := S1x2048x256) (k0_off1 k) S1x256x256.size (k0_off1_inb k))
abbrev halo (k : Trip) (X : Vec Ideal S1x2048x256 .bf16) : Vec Ideal S1x16x256 .bf16 :=
  View.ld X (Rect.unit (s := S1x2048x256) (k0_off2 k) S1x16x256.size (k0_off2_inb k))

theorem few (k : Trip) : k.val < 8 := by
  revert k
  decide +kernel

/-- A trip's row among all. -/
abbrev row (k : Trip) (r : Fin 256) : Fin 2048 := ⟨256 * k.val + r.val, by have := few k; omega⟩

/-- Where an element of some rows lies. -/
theorem placed {H : ℕ} (n : ℕ) (o : Fin 3 → ℕ) (e : o = ![0, n, 0]) (inb : ∀ a, o a + (![1, H, 256] : Fin 3 → ℕ) a ≤ S1x2048x256.size a) (r : Fin H) (l : Fin 256)
    (R : Fin 2048) (hR : R.val = n + r.val) : (Rect.unit (s := S1x2048x256) o ![1, H, 256] inb).emb (ix3 (0 : Fin 1) r l) = ix3 0 R l := by
  subst e
  refine funext fun a => Fin.ext ((ValueKit.rect_emb_unit_val _ _ _ _ a).trans ?_)
  fin_cases a
  · rfl
  · exact hR.symm
  · exact Nat.zero_add _

theorem rows_at (k : Trip) (X : Vec Ideal S1x2048x256 .bf16) (r l : Fin 256) : rows k X (ix3 0 r l) = X (ix3 0 (row k r) l) := by
  exact congrArg X (placed _ _ (off1 k) _ r l _ rfl)

theorem halo_at (k : Trip) (hk : 0 < k.val) (X : Vec Ideal S1x2048x256 .bf16) (r : Fin 16) (l : Fin 256) :
    halo k X (ix3 0 r l) = X (ix3 0 ⟨256 * k.val - 16 + r.val, by have := few k; omega⟩ l) := by
  exact congrArg X (placed _ _ (off2 k) _ r l _ rfl)

/-- A trip's convolution is the column's. -/
theorem mix_at (k : Trip) (w : Vec Ideal S3x256 .f32) (X : Vec Ideal S1x2048x256 .bf16) (r l : Fin 256) :
    (show EReal from mix k w (rows k X) (halo k X) (ix2 r l)) = taps (fun R => X (ix3 0 R l)) (fun j => w (ix2 j l)) (row k r) := by
  have h1 : (show EReal from k0_pay4 0#32 1#32 k (rows k X) (halo k X) (ix2 r l)) = earlier (fun R => X (ix3 0 R l)) 1 (row k r) := by
    rw [one_at]
    simp only [earlier]
    have := few k
    split
    · split
      · rename_i hr hk
        rw [halo_at k hk, if_pos (show 1 ≤ 256 * k.val + r.val by omega)]
        exact congrArg (fun R : Fin 2048 => X (ix3 0 R l)) (Fin.ext (show 256 * k.val - 16 + 15 = 256 * k.val + r.val - 1 by omega))
      · rw [if_neg (show ¬1 ≤ 256 * k.val + r.val by omega)]
    · rw [if_pos (show 1 ≤ 256 * k.val + r.val by omega)]
      exact (rows_at k X ⟨r.val - 1, by omega⟩ l).trans <| congrArg (fun R : Fin 2048 => X (ix3 0 R l)) (a₁ := row k ⟨r.val - 1, by omega⟩) (a₂ := ⟨256 * k.val + r.val - 1, by omega⟩) (Fin.ext (show 256 * k.val + (r.val - 1) = 256 * k.val + r.val - 1 by omega))
  have h2 : (show EReal from k0_pay5 0#32 1#32 k (rows k X) (halo k X) (ix2 r l)) = earlier (fun R => X (ix3 0 R l)) 2 (row k r) := by
    rw [two_at]
    simp only [earlier]
    have := few k
    split
    · split
      · rename_i hr hk
        rw [halo_at k hk, if_pos (show 2 ≤ 256 * k.val + r.val by omega)]
        exact congrArg (fun R : Fin 2048 => X (ix3 0 R l)) (Fin.ext (show 256 * k.val - 16 + 14 = 256 * k.val + r.val - 2 by omega))
      · rw [if_neg (show ¬2 ≤ 256 * k.val + r.val by omega)]
    · split
      · split
        · rename_i hr hk
          rw [halo_at k hk, if_pos (show 2 ≤ 256 * k.val + r.val by omega)]
          exact congrArg (fun R : Fin 2048 => X (ix3 0 R l)) (Fin.ext (show 256 * k.val - 16 + 15 = 256 * k.val + r.val - 2 by omega))
        · rw [if_neg (show ¬2 ≤ 256 * k.val + r.val by omega)]
      · rw [if_pos (show 2 ≤ 256 * k.val + r.val by omega)]
        exact (rows_at k X ⟨r.val - 2, by omega⟩ l).trans <| congrArg (fun R : Fin 2048 => X (ix3 0 R l)) (a₁ := row k ⟨r.val - 2, by omega⟩) (a₂ := ⟨256 * k.val + r.val - 2, by omega⟩) (Fin.ext (show 256 * k.val + (r.val - 2) = 256 * k.val + r.val - 2 by omega))
  unfold taps
  rw [← h1, ← h2]
  refine Eq.trans ?_ (congrArg (_ + w (ix2 2 l) * ·) (rows_at k X r l))
  unfold mix
  generalize k0_pay4 (F := Ideal) _ _ _ _ _ = p
  generalize k0_pay5 (F := Ideal) _ _ _ _ _ = q
  generalize rows k X = x
  pointwise [k0_pay7, k0_pay6, k0_pay2]

theorem trip_at (k : Trip) (v w : Vec Ideal S3x256 .f32) (X Y : Vec Ideal S1x2048x256 .bf16) (r l : Fin 256) :
    (show EReal from trip k v w (rows k X) (rows k Y) (halo k X) (halo k Y) (ix3 0 r l))
      = value (fun R => X (ix3 0 R l)) (fun R => Y (ix3 0 R l)) (fun j => v (ix2 j l)) (fun j => w (ix2 j l)) (row k r) := by
  unfold value
  rw [← mix_at, ← mix_at]
  unfold trip gate
  generalize mix k v _ _ = p
  generalize mix k w _ _ = q
  pointwise

/-! ## The point -/

/-- A point's block. -/
def block (v w : Vec Ideal S3x256 .f32) (X Y : Vec Ideal S1x2048x256 .bf16) : Vec Ideal S1x2048x256 .bf16 := fun y =>
  value (fun R => X (ix3 0 R (y 2))) (fun R => Y (ix3 0 R (y 2))) (fun j => v (ix2 j (y 2))) (fun j => w (ix2 j (y 2))) (y 1)

section
variable (c : Dev nD) (i : grid0.Coords)
  (arg2 : Memref sig .tc .vmem S1x2048x256 .bf16) (harg2 : arg2.IsWhole) (arg3 : Memref sig .tc .vmem S1x2048x256 .bf16) (harg3 : arg3.IsWhole)
  (arg4 : Memref sig .tc .vmem S3x256 .f32) (harg4 : arg4.IsWhole) (arg5 : Memref sig .tc .vmem S3x256 .f32) (harg5 : arg5.IsWhole)
  (arg6 : Memref sig .tc .vmem S1x2048x256 .bf16) (harg6 : arg6.IsWhole)
  (X Y : Vec Ideal S1x2048x256 .bf16) (v w : Vec Ideal S3x256 .f32)

/-- A load of a part of what a buffer holds. -/
theorem held_part (r : Memref sig .tc .vmem S1x2048x256 .bf16) (h : r.IsWhole) (x : Vec Ideal S1x2048x256 .bf16) (o : Fin 3 → ℕ) (z : Fin 3 → ℕ)
    (inb : ∀ a, o a + z a ≤ S1x2048x256.size a) :
    r.view.readAt (Elt Ideal) (Rect.unit (s := S1x2048x256) o z inb).toLoadRect (h.unread x) = View.ld x (Rect.unit (s := S1x2048x256) o z inb) :=
  congrArg (fun g => View.ld g (Rect.unit (s := S1x2048x256) o z inb)) (h.read_unread x)

theorem piece (k : Trip) : ∀ p ∈ tripL_k0_t1 (F := Ideal) Variants.none c none i arg2 harg2 arg3 harg3 arg4 harg4 arg5 harg5 arg6 harg6 v w (harg2.unread X) (harg3.unread Y) k,
    ∀ x : p.1.shape.Idx, p.2 x = block v w X Y (p.1.emb x) := by
  unfold tripL_k0_t1 trip_k0_t1
  dsimp only
  intro p hp x
  obtain rfl := List.mem_singleton.mp hp
  obtain ⟨z, r, l, rfl⟩ := at3 (M := 1) (N := 256) (K := 256) x
  obtain rfl := Subsingleton.elim 0 z
  have e : (Rect.unit (s := S1x2048x256) (k0_off1 k) S1x256x256.size (k0_off1_inb k)).emb (ix3 0 r l) = ix3 0 (row k r) l := placed _ _ (off1 k) _ r l _ rfl
  refine Eq.trans ?_ ((trip_at k v w X Y r l).trans (congrArg (block v w X Y) e.symm))
  unfold trip_k0_t1.sl.r_3 trip_k0_t1.sl.r_4 trip_k0_t1.sl.r_5 trip_k0_t1.sl.r_6 trip_k0_t1.sl.r_7 trip_k0_t1.sl.r_8 trip_k0_t1.sl.r_9
  rw [held_part, held_part]
  unfold trip_k0_t1.sl.r trip_k0_t1.sl.r_1 trip_k0_t1.sl.r_2
  rw [held_part, held_part]
  rfl

theorem pieces : ∀ n, n ≤ k0_t1_loop.trips →
    ∀ p ∈ pb_k0_t1 (F := Ideal) Variants.none c none i arg2 harg2 arg3 harg3 arg4 harg4 arg5 harg5 arg6 harg6 v w (harg2.unread X) (harg3.unread Y) n,
      ∀ x : p.1.shape.Idx, p.2 x = block v w X Y (p.1.emb x)
  | 0, _ => fun p hp => by rw [pb_k0_t1.eq_1] at hp; exact absurd hp List.not_mem_nil
  | n + 1, h => fun p hp => by
    rw [pb_k0_t1_succ (k := ⟨n, h⟩), List.mem_append] at hp
    exact hp.elim (piece c i arg2 harg2 arg3 harg3 arg4 harg4 arg5 harg5 arg6 harg6 X Y v w ⟨n, h⟩ p) (pieces n (by omega) p)

theorem out : out0_A_4 (F := Ideal) c i arg2 harg2 arg3 harg3 arg4 harg4 arg5 harg5 arg6 harg6 X Y v w = block v w X Y := by
  refine funext fun y => View.read_writes_apply_of_pieces _ _ (block v w X Y) _ ?_ y (cover0_A_4 c i arg2 harg2 arg3 harg3 arg4 harg4 arg5 harg5 arg6 harg6 X Y v w y)
  unfold kernelRun0_A
  dsimp only
  rw [loaded hz, loaded hz]
  exact pieces c i arg2 harg2 arg3 harg3 arg4 harg4 arg5 harg5 arg6 harg6 X Y v w _ (Nat.le_refl _)

end

/-! ## The array -/

theorem idx : ∀ t : Fin cfg0.N, win0_0.index t = ![t.val % 4, 0, t.val / 4] ∧ win0_1.index t = ![t.val % 4, 0, 11 + t.val / 4] ∧
    win0_2.index t = ![0, t.val / 4] ∧ win0_3.index t = ![0, 11 + t.val / 4] ∧ win0_4.index t = ![t.val % 4, 0, t.val / 4] :=
  (by decide +kernel : ∀ t : Fin grid0.N, _)

section
variable (m : (ℓ : Loc nD τ sig) → Buf (Elt Ideal) ℓ) (c : Dev nD) (t : Fin cfg0.N)

theorem point_lt (t : Fin cfg0.N) : t.val < 44 := t.isLt

/-- A point's batch element, and a column of its block among the result's. -/
abbrev batch : Fin 4 := ⟨t.val % 4, by omega⟩
abbrev column (l : Fin 256) : Fin 2816 := ⟨256 * (t.val / 4) + l.val, by have := point_lt t; omega⟩

theorem read0 (R : Fin 2048) (l : Fin 256) : iblk m c 0 t (ix3 0 R l)
    = m ((c : Thread nD τ).loc main_arg0) (ix3 (batch t) R ⟨(column t l).val, by omega⟩ : S4x2048x5632.Idx) := by
  refine Eq.trans ?_ (congrFun (V_main_arg0 m c) _)
  blk_ext [iblk, idx t]
theorem read1 (R : Fin 2048) (l : Fin 256) : iblk m c 1 t (ix3 0 R l)
    = m ((c : Thread nD τ).loc main_arg0) (ix3 (batch t) R ⟨2816 + (column t l).val, by omega⟩ : S4x2048x5632.Idx) := by
  refine Eq.trans ?_ (congrFun (V_main_arg0 m c) _)
  blk_ext [iblk, idx t]
theorem read2 (j : Fin 3) (l : Fin 256) : iblk m c 2 t (ix2 j l)
    = m ((c : Thread nD τ).loc main_arg1) (ix2 j ⟨(column t l).val, by omega⟩ : S3x5632.Idx) := by
  refine Eq.trans ?_ (congrFun (V_main_arg1 m c) _)
  blk_ext [iblk, idx t]
theorem read3 (j : Fin 3) (l : Fin 256) : iblk m c 3 t (ix2 j l)
    = m ((c : Thread nD τ).loc main_arg1) (ix2 j ⟨2816 + (column t l).val, by omega⟩ : S3x5632.Idx) := by
  refine Eq.trans ?_ (congrFun (V_main_arg1 m c) _)
  blk_ext [iblk, idx t]

end

theorem array (m : (ℓ : Loc nD τ sig) → Buf (Elt Ideal) ℓ) (c : Dev nD) :
    (dats m 0 c).arrAt 4 cfg0.N = whole (m ((c : Thread nD τ).loc main_arg0)) (m ((c : Thread nD τ).loc main_arg1)) := by
  refine (dats m 0 c).arrAt_eq_of_covers 4 _ (by decide +kernel) fun t hf y => ?_
  obtain ⟨z, R, l, rfl⟩ := at3 (M := 1) (N := 2048) (K := 256) y
  obtain rfl := Subsingleton.elim 0 z
  blk_simp
  rw [after0_4]
  unfold outsAt0
  rw [out]
  have e : block (iblk m c 2 t) (iblk m c 3 t) (iblk m c 0 t) (iblk m c 1 t) (ix3 0 R l)
      = whole (m ((c : Thread nD τ).loc main_arg0)) (m ((c : Thread nD τ).loc main_arg1)) (ix3 (batch t) R (column t l)) := by
    refine Eq.trans ?_ (whole_at _ _ _ _ _).symm
    unfold block
    congr 1
    · exact funext fun R => read0 m c t R l
    · exact funext fun R => read1 m c t R l
    · exact funext fun j => read2 m c t j l
    · exact funext fun j => read3 m c t j l
  refine e.trans ?_
  blk_ext [idx t]

theorem frames : Cert.quiescent_Middle ∧ Cert.quiescent_MiddleIdeal ∧ Cert.quiescent_MiddleReferenceIdeal :=
  ⟨fun m g _ => Cert.Middle.Gen.frame m g, fun m g _ => Cert.MiddleIdeal.Gen.frame m g,
    fun m g _ => quiet (by decide) (Cert.MiddleReferenceIdeal.Value.run m g)⟩

theorem same : Cert.algebraic_MiddleIdeal_MiddleReferenceIdeal := fun m g m' g' _ hm =>
  ⟨_, result (Cert.MiddleIdeal.Value.run_blocks m g) (array m),
    result (Cert.MiddleReferenceIdeal.Value.run m' g') fun c => congrArg₂ whole (hm c).1 (hm c).2⟩

end Cert.Gated

end
-- ==== Proof.Gain.lean ====
/- The gradient of the memory norm's gains: a sum over the memory's 1024 rows, added up in two blocks of 512. -/
module

public import proofs.«01_k».proof.Defs
public import proofs.«01_k».proof.Proof.Gen.Gain.Frame
public import proofs.«01_k».proof.Proof.Gen.GainIdeal.Value
public import proofs.«01_k».proof.Proof.Gen.GainReferenceIdeal.Run
public import proofs.«01_k».proof.Proof.Several

@[expose] public section

set_option maxRecDepth 16384

noncomputable section

open Idealize.ShloMosaic Idealize.ShloMosaic.TcCoe Idealize.SL.Sem

namespace Cert.Norms.Gain

open Cert.GainIdeal Cert.GainIdeal.Gen Cert.Products

attribute [local instance] Cert.Gain.Gen.facts Cert.GainIdeal.Gen.facts Cert.GainReferenceIdeal.Gen.facts

/-! ## Rows -/

/-- What a gain's gradient gets from rows: the normed elements of its column, each with its own gradient. -/
def gathered {T : Nat} (X : (⟨2, ![T, 1024]⟩ : Shape).Idx → EReal) (R : (⟨2, ![T, 1]⟩ : Shape).Idx → EReal)
    (D : (⟨2, ![T, 1024]⟩ : Shape).Idx → EReal) (j : Fin 1024) : EReal :=
  ∑ k : Fin T, D (ix2 k j) * (X (ix2 k j) * R (ix2 k 0))

/-- Two blocks of rows give what all of them give. -/
theorem gathered_halves {X D : (⟨2, ![1024, 1024]⟩ : Shape).Idx → EReal} {R : (⟨2, ![1024, 1]⟩ : Shape).Idx → EReal}
    {x d x' d' : (⟨2, ![512, 1024]⟩ : Shape).Idx → EReal} {r r' : (⟨2, ![512, 1]⟩ : Shape).Idx → EReal} {j : Fin 1024}
    (hx : ∀ k : Fin 512, x (ix2 k j) = X (ix2 (Fin.castAdd 512 k) j)) (hr : ∀ k : Fin 512, r (ix2 k 0) = R (ix2 (Fin.castAdd 512 k) 0))
    (hd : ∀ k : Fin 512, d (ix2 k j) = D (ix2 (Fin.castAdd 512 k) j)) (hx' : ∀ k : Fin 512, x' (ix2 k j) = X (ix2 (Fin.natAdd 512 k) j))
    (hr' : ∀ k : Fin 512, r' (ix2 k 0) = R (ix2 (Fin.natAdd 512 k) 0)) (hd' : ∀ k : Fin 512, d' (ix2 k j) = D (ix2 (Fin.natAdd 512 k) j)) :
    gathered x r d j + gathered x' r' d' j = gathered X R D j := by
  unfold gathered
  simp only [hx, hr, hd, hx', hr', hd']
  exact (Fin.sum_univ_add (a := 512) (b := 512) fun k => D (ix2 k j) * (X (ix2 k j) * R (ix2 k 0))).symm

/-- The reference's gradient. -/
abbrev whole (X : FVec Ideal S1024x1024 .f32) (R : FVec Ideal S1024x1 .f32) (D : FVec Ideal S1024x1024 .f32) : FVec Ideal S1x1024 .f32 :=
  shapeCast S1x1024 (Host.reduceAdd (mulf (mulf X (broadcastInDim S1024x1024 ![0, 1] Cert.GainReferenceIdeal.Gen.bcast_S1024x1_S1024x1024_0_1 R)) D)
    (constant Cert.GainReferenceIdeal.S_ .f32 0x00000000#32) Cert.GainReferenceIdeal.Gen.reducesTo_S1024x1024_S1024_d0 Cert.GainReferenceIdeal.Gen.h_S_)
    Cert.GainReferenceIdeal.Gen.shapeCasts_S1024_S1x1024

theorem whole_at (X : FVec Ideal S1024x1024 .f32) (R : FVec Ideal S1024x1 .f32) (D : FVec Ideal S1024x1024 .f32) (i : S1x1024.Idx) :
    (show EReal from whole X R D i) = gathered X R D (i 1) := by
  refine Eq.trans (b := ∑ k : Fin 1024, X (ix2 k (i 1)) * R (ix2 k 0) * D (ix2 k (i 1))) ?_ (Finset.sum_congr rfl fun k _ => mul_comm _ _)
  pointwise [whole]

/-! ## The two points -/

theorem idx : ∀ t : Fin cfg0.N, win0_0.index t = ![t.val, 0] ∧ win0_1.index t = ![t.val, 0] ∧ win0_2.index t = ![t.val, 0] ∧ win0_4.index t = ![0, 0] :=
  (by decide +kernel : ∀ t : Fin grid0.N, _)

section
variable (X D : FVec Ideal S512x1024 .f32) (R : FVec Ideal S512x1 .f32) (acc : FVec Ideal S1x1024 .f32) (y : S1x1024.Idx)

theorem start_at : (show EReal from k0_pay1 (F := Ideal) R X D y) = gathered X R D (y 1) := by
  pointwise [k0_pay1, gathered]

theorem add_at : (show EReal from k0_pay2 (F := Ideal) R X D acc y) = (show EReal from acc y) + gathered X R D (y 1) := by
  pointwise [k0_pay2, k0_pay1, gathered]

end

section
variable (c : Dev nD) (i : grid0.Coords) (a₁ : Memref sig .tc .vmem S512x1024 .f32) (h₁ : a₁.IsWhole)
  (a₂ : Memref sig .tc .vmem S512x1 .f32) (h₂ : a₂.IsWhole) (a₃ : Memref sig .tc .vmem S512x1024 .f32) (h₃ : a₃.IsWhole)
  (a₄ : Memref sig .tc .vmem S1x1024 .f32) (h₄ : a₄.IsWhole) (a₅ : Memref sig .tc .vmem S1x1024 .f32) (h₅ : a₅.IsWhole)
  (X D : FVec Ideal S512x1024 .f32) (R : FVec Ideal S512x1 .f32) (G acc : FVec Ideal S1x1024 .f32)

theorem first (hc0 : cond0_0 i) (hc1 : ¬cond0_1 i) :
    out0_A_4 (F := Ideal) c i a₁ h₁ a₂ h₂ a₃ h₃ a₄ h₄ a₅ h₅ hc0 hc1 X R D G = k0_pay1 (F := Ideal) R X D :=
  (stored hz _ _ _).trans (congr (congrArg₂ (k0_pay1 (F := Ideal)) (loaded hz a₂ h₂ R) (loaded hz a₁ h₁ X)) (loaded hz a₃ h₃ D))

theorem last (hc0 : ¬cond0_0 i) (hc1 : cond0_1 i) :
    out0_B_4 (F := Ideal) c i a₁ h₁ a₂ h₂ a₃ h₃ a₄ h₄ a₅ h₅ hc0 hc1 X R D G acc = k0_pay2 (F := Ideal) R X D acc :=
  (stored hz _ _ _).trans (congr (congr (congrArg₂ (k0_pay2 (F := Ideal)) (loaded hz a₂ h₂ R) (loaded hz a₁ h₁ X)) (loaded hz a₃ h₃ D))
    (loaded hz a₅ h₅ acc))

end

section
variable (m : (ℓ : Loc nD τ sig) → Buf (Elt Ideal) ℓ) (c : Dev nD)

/-- The first point leaves its block's sum. -/
theorem left_first (t : Fin cfg0.N) (h0 : t.val % 2 = 0) (h1 : ¬t.val % 2 = 1) (y : S1x1024.Idx) :
    (show EReal from outsAt0 m c t.val t.isLt y) = gathered (iblk m c 0 t) (iblk m c 1 t) (iblk m c 2 t) (y 1) :=
  (congrFun ((outsAt0_A m c t h0 h1).trans (first ..)) y).trans (start_at _ _ _ y)

/-- The second adds its own. -/
theorem left_last (t : Fin cfg0.N) (h0 : ¬t.val % 2 = 0) (h1 : t.val % 2 = 1) (y : S1x1024.Idx) :
    (show EReal from outsAt0 m c t.val t.isLt y) = (show EReal from outsAt0 m c (t.val - 1) (Nat.lt_of_le_of_lt (Nat.sub_le _ _) t.isLt) y)
      + gathered (iblk m c 0 t) (iblk m c 1 t) (iblk m c 2 t) (y 1) :=
  (congrFun ((outsAt0_B m c t h0 h1).trans (last ..)) y).trans (add_at _ _ _ _ y)

/-- What the second point leaves is the sum over all rows. -/
theorem left (s t : Fin cfg0.N) (hs : s.val = 0) (ht : t.val = 1) (y : S1x1024.Idx) : (show EReal from outsAt0 m c t.val t.isLt y)
    = gathered (m ((c : Thread nD τ).loc main_arg0)) (m ((c : Thread nD τ).loc main_arg1)) (m ((c : Thread nD τ).loc main_arg2)) (y 1) := by
  have h : (show EReal from outsAt0 m c (t.val - 1) (Nat.lt_of_le_of_lt (Nat.sub_le _ _) t.isLt) y) = (show EReal from outsAt0 m c s.val s.isLt y) := by
    simp only [show t.val - 1 = s.val by omega]
  rw [left_last m c t (by omega) (by omega), h, left_first m c s (by omega) (by omega)]
  refine gathered_halves (fun k => ?_) (fun k => ?_) (fun k => ?_) (fun k => ?_) (fun k => ?_) fun k => ?_
  · blk_ext [iblk, idx s, hs]
    rfl
  · blk_ext [iblk, idx s, hs]
    rfl
  · blk_ext [iblk, idx s, hs]
    rfl
  · blk_ext [iblk, idx t, ht]
    rfl
  · blk_ext [iblk, idx t, ht]
    rfl
  · blk_ext [iblk, idx t, ht]
    rfl

theorem array : (dats m 0 c).arrAt 4 cfg0.N
    = whole (m ((c : Thread nD τ).loc main_arg0)) (m ((c : Thread nD τ).loc main_arg1)) (m ((c : Thread nD τ).loc main_arg2)) := by
  refine (dats m 0 c).arrAt_eq_of_covers 4 _ (by decide +kernel) fun t hf y => ?_
  have h1 := (by decide +kernel : ∀ t : Fin cfg0.N, (cfg0.win 4).flush t = true → t.val = 1) t hf
  blk_simp
  rw [after0_4]
  refine (left m c ⟨0, by decide +kernel⟩ t rfl h1 y).trans ((whole_at _ _ _ y).symm.trans ?_)
  blk_ext [idx t]

end

theorem frames : Cert.quiescent_Gain ∧ Cert.quiescent_GainIdeal ∧ Cert.quiescent_GainReferenceIdeal :=
  ⟨fun m g _ => Cert.Gain.Gen.frame m g, fun m g _ => Cert.GainIdeal.Gen.frame m g,
    fun m g _ => quiet (by decide) (Cert.GainReferenceIdeal.Value.run m g)⟩

theorem same : Cert.algebraic_GainIdeal_GainReferenceIdeal := fun m g m' g' _ hm =>
  ⟨_, result (Cert.GainIdeal.Value.run_blocks m g) (array m),
    result (Cert.GainReferenceIdeal.Value.run m' g') fun c =>
      (congr (congrArg₂ whole (hm c).1 (hm c).2.1) (hm c).2.2.1 : whole _ _ _ = whole _ _ _)⟩

end Cert.Norms.Gain
end
-- ==== Proof.lean ====
/- The proof of the certificate's claims: the frames, and the kernel's values against the reference's. -/
module

public import proofs.«01_k».proof.Defs
public import proofs.«01_k».proof.Proof.Frames
public import proofs.«01_k».proof.Proof.Join
public import proofs.«01_k».proof.Proof.AheadJoin
public import proofs.«01_k».proof.Proof.Products
public import proofs.«01_k».proof.Proof.Projections
public import proofs.«01_k».proof.Proof.Memory
public import proofs.«01_k».proof.Proof.Norms
public import proofs.«01_k».proof.Proof.Adam
public import proofs.«01_k».proof.Proof.Middle
public import proofs.«01_k».proof.Proof.Gain

@[expose] public section

noncomputable section

namespace Cert.Proof

open Idealize.ShloMosaic Idealize.SL.Sem Cert.Products

attribute [local instance] Cert.Kernel.Gen.facts Cert.KernelIdeal.Gen.facts Cert.ReferenceIdeal.Gen.facts factsPre

/-- Every claim of the certificate. -/
theorem claim : Cert.Claim := ⟨Cert.Kernel.Gen.facts, Cert.KernelIdeal.Gen.facts, Cert.ReferenceIdeal.Gen.facts,
  Cert.Hidden.Gen.facts, Cert.HiddenIdeal.Gen.facts, Cert.HiddenReferenceIdeal.Gen.facts,
  Cert.Down.Gen.facts, Cert.DownIdeal.Gen.facts, Cert.DownReferenceIdeal.Gen.facts,
  Cert.Up.Gen.facts, Cert.UpIdeal.Gen.facts, Cert.UpReferenceIdeal.Gen.facts,
  Cert.Out.Gen.facts, Cert.OutIdeal.Gen.facts, Cert.OutReferenceIdeal.Gen.facts,
  Cert.Wide.Gen.facts, Cert.WideIdeal.Gen.facts, Cert.WideReferenceIdeal.Gen.facts,
  Cert.Back.Gen.facts, Cert.BackIdeal.Gen.facts, Cert.BackReferenceIdeal.Gen.facts,
  Cert.Both.Gen.facts, Cert.BothIdeal.Gen.facts, Cert.BothReferenceIdeal.Gen.facts,
  Cert.Project.Gen.facts, Cert.ProjectIdeal.Gen.facts, Cert.ProjectReferenceIdeal.Gen.facts,
  Cert.ProjectBack.Gen.facts, Cert.ProjectBackIdeal.Gen.facts, Cert.ProjectBackReferenceIdeal.Gen.facts,
  Cert.ProjectGrad.Gen.facts, Cert.ProjectGradIdeal.Gen.facts, Cert.ProjectGradReferenceIdeal.Gen.facts,
  Cert.Mix.Gen.facts, Cert.MixIdeal.Gen.facts, Cert.MixReferenceIdeal.Gen.facts,
  Cert.MixBack.Gen.facts, Cert.MixBackIdeal.Gen.facts, Cert.MixBackReferenceIdeal.Gen.facts,
  Cert.MixGrad.Gen.facts, Cert.MixGradIdeal.Gen.facts, Cert.MixGradReferenceIdeal.Gen.facts,
  Cert.Shared.Gen.facts, Cert.SharedIdeal.Gen.facts, Cert.SharedReferenceIdeal.Gen.facts,
  Cert.SharedBack.Gen.facts, Cert.SharedBackIdeal.Gen.facts, Cert.SharedBackReferenceIdeal.Gen.facts,
  Cert.SharedGrad.Gen.facts, Cert.SharedGradIdeal.Gen.facts, Cert.SharedGradReferenceIdeal.Gen.facts,
  Cert.Query.Gen.facts, Cert.QueryIdeal.Gen.facts, Cert.QueryReferenceIdeal.Gen.facts,
  Cert.QueryBack.Gen.facts, Cert.QueryBackIdeal.Gen.facts, Cert.QueryBackReferenceIdeal.Gen.facts,
  Cert.QueryGrad.Gen.facts, Cert.QueryGradIdeal.Gen.facts, Cert.QueryGradReferenceIdeal.Gen.facts,
  Cert.Sticks.Gen.facts, Cert.SticksIdeal.Gen.facts, Cert.SticksReferenceIdeal.Gen.facts,
  Cert.Memory.Gen.facts, Cert.MemoryIdeal.Gen.facts, Cert.MemoryReferenceIdeal.Gen.facts,
  Cert.MemoryBack.Gen.facts, Cert.MemoryBackIdeal.Gen.facts, Cert.MemoryBackReferenceIdeal.Gen.facts,
  Cert.MemoryGrad.Gen.facts, Cert.MemoryGradIdeal.Gen.facts, Cert.MemoryGradReferenceIdeal.Gen.facts,
  Cert.Norm.Gen.facts, Cert.NormIdeal.Gen.facts, Cert.NormReferenceIdeal.Gen.facts,
  Cert.NormTwo.Gen.facts, Cert.NormTwoIdeal.Gen.facts, Cert.NormTwoReferenceIdeal.Gen.facts,
  Cert.NormMemory.Gen.facts, Cert.NormMemoryIdeal.Gen.facts, Cert.NormMemoryReferenceIdeal.Gen.facts,
  Cert.AdamInput.Gen.facts, Cert.AdamInputIdeal.Gen.facts, Cert.AdamInputReferenceIdeal.Gen.facts,
  Cert.AdamSquare.Gen.facts, Cert.AdamSquareIdeal.Gen.facts, Cert.AdamSquareReferenceIdeal.Gen.facts,
  Cert.AdamMemory.Gen.facts, Cert.AdamMemoryIdeal.Gen.facts, Cert.AdamMemoryReferenceIdeal.Gen.facts,
  Cert.AdamShared.Gen.facts, Cert.AdamSharedIdeal.Gen.facts, Cert.AdamSharedReferenceIdeal.Gen.facts,
  Cert.AdamUp.Gen.facts, Cert.AdamUpIdeal.Gen.facts, Cert.AdamUpReferenceIdeal.Gen.facts,
  Cert.AdamDown.Gen.facts, Cert.AdamDownIdeal.Gen.facts, Cert.AdamDownReferenceIdeal.Gen.facts,
  Cert.Middle.Gen.facts, Cert.MiddleIdeal.Gen.facts, Cert.MiddleReferenceIdeal.Gen.facts,
  Cert.Gain.Gen.facts, Cert.GainIdeal.Gen.facts, Cert.GainReferenceIdeal.Gen.facts,
  factsPre,
  frame_kernel, frame_ideal, fun m ρ _ => frame_ideal m ρ trivial, frame_reference, fun m ρ _ => frame_reference m ρ trivial,
  Hidden.frames.1, Hidden.frames.2.1, Hidden.frames.2.2,
  Down.frames.1, Down.frames.2.1, Down.frames.2.2,
  Up.frames.1, Up.frames.2.1, Up.frames.2.2,
  Out.frames.1, Out.frames.2.1, Out.frames.2.2,
  Wide.frames.1, Wide.frames.2.1, Wide.frames.2.2,
  Back.frames.1, Back.frames.2.1, Back.frames.2.2,
  Both.frames.1, Both.frames.2.1, Both.frames.2.2,
  Project.frames.1, Project.frames.2.1, Project.frames.2.2,
  ProjectBack.frames.1, ProjectBack.frames.2.1, ProjectBack.frames.2.2,
  ProjectGrad.frames.1, ProjectGrad.frames.2.1, ProjectGrad.frames.2.2,
  Mix.frames.1, Mix.frames.2.1, Mix.frames.2.2,
  MixBack.frames.1, MixBack.frames.2.1, MixBack.frames.2.2,
  MixGrad.frames.1, MixGrad.frames.2.1, MixGrad.frames.2.2,
  Shared.frames.1, Shared.frames.2.1, Shared.frames.2.2,
  SharedBack.frames.1, SharedBack.frames.2.1, SharedBack.frames.2.2,
  SharedGrad.frames.1, SharedGrad.frames.2.1, SharedGrad.frames.2.2,
  Query.frames.1, Query.frames.2.1, Query.frames.2.2,
  QueryBack.frames.1, QueryBack.frames.2.1, QueryBack.frames.2.2,
  QueryGrad.frames.1, QueryGrad.frames.2.1, QueryGrad.frames.2.2,
  Cert.Ahead.frames.1, Cert.Ahead.frames.2.1, Cert.Ahead.frames.2.2,
  Cert.Products.Memory.frames.1, Cert.Products.Memory.frames.2.1, Cert.Products.Memory.frames.2.2,
  Cert.Products.MemoryBack.frames.1, Cert.Products.MemoryBack.frames.2.1, Cert.Products.MemoryBack.frames.2.2,
  Cert.Products.MemoryGrad.frames.1, Cert.Products.MemoryGrad.frames.2.1, Cert.Products.MemoryGrad.frames.2.2,
  Cert.Norms.One.frames.1, Cert.Norms.One.frames.2.1, Cert.Norms.One.frames.2.2,
  Cert.Norms.Two.frames.1, Cert.Norms.Two.frames.2.1, Cert.Norms.Two.frames.2.2,
  Cert.Norms.OfMemory.frames.1, Cert.Norms.OfMemory.frames.2.1, Cert.Norms.OfMemory.frames.2.2,
  Cert.Adam.Input.frames.1, Cert.Adam.Input.frames.2.1, Cert.Adam.Input.frames.2.2,
  Cert.Adam.Square.frames.1, Cert.Adam.Square.frames.2.1, Cert.Adam.Square.frames.2.2,
  Cert.Adam.Memory.frames.1, Cert.Adam.Memory.frames.2.1, Cert.Adam.Memory.frames.2.2,
  Cert.Adam.Shared.frames.1, Cert.Adam.Shared.frames.2.1, Cert.Adam.Shared.frames.2.2,
  Cert.Adam.Up.frames.1, Cert.Adam.Up.frames.2.1, Cert.Adam.Up.frames.2.2,
  Cert.Adam.Down.frames.1, Cert.Adam.Down.frames.2.1, Cert.Adam.Down.frames.2.2,
  Cert.Gated.frames.1, Cert.Gated.frames.2.1, Cert.Gated.frames.2.2,
  Cert.Norms.Gain.frames.1, Cert.Norms.Gain.frames.2.1, Cert.Norms.Gain.frames.2.2,
  trivial, gradients,
  trivial, Hidden.same,
  trivial, Down.same,
  trivial, Up.same,
  trivial, Out.same,
  trivial, Wide.same,
  trivial, Back.same,
  trivial, Both.same,
  trivial, Project.same,
  trivial, ProjectBack.same,
  trivial, ProjectGrad.same,
  trivial, Mix.same,
  trivial, MixBack.same,
  trivial, MixGrad.same,
  trivial, Shared.same,
  trivial, SharedBack.same,
  trivial, SharedGrad.same,
  trivial, Query.same,
  trivial, QueryBack.same,
  trivial, QueryGrad.same,
  trivial, Cert.Ahead.same,
  trivial, Cert.Products.Memory.same,
  trivial, Cert.Products.MemoryBack.same,
  trivial, Cert.Products.MemoryGrad.same,
  trivial, Cert.Norms.One.same,
  trivial, Cert.Norms.Two.same,
  trivial, Cert.Norms.OfMemory.same,
  trivial, Cert.Adam.Input.same,
  trivial, Cert.Adam.Square.same,
  trivial, Cert.Adam.Memory.same,
  trivial, Cert.Adam.Shared.same,
  trivial, Cert.Adam.Up.same,
  trivial, Cert.Adam.Down.same,
  trivial, Cert.Gated.same,
  trivial, Cert.Norms.Gain.same⟩

end Cert.Proof

end
